-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_d_pooled_finite [hPre_d_pooled_finite : Cert.Pre_d_pooled_finite.Facts] (m : (ℓ : Loc Cert.KernelIdeal.nD Cert.KernelIdeal.τ Cert.KernelIdeal.sig) → Buf (Elt Ideal) ℓ) : Prop :=
  ∀ c : Dev Cert.KernelIdeal.nD,
    (Cert.Pre_d_pooled_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_d_pooled_finite [hPre_d_pooled_finite : Cert.Pre_d_pooled_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_d_pooled_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_d_pooled_finite [hKernelIdeal : Cert.KernelIdeal.Facts] [hPre_d_pooled_finite : Cert.Pre_d_pooled_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_d_pooled_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_d_pooled_finite [hReferenceIdeal : Cert.ReferenceIdeal.Facts] [hPre_d_pooled_finite : Cert.Pre_d_pooled_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_d_pooled_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_d_pooled_finite [hKernelIdeal : Cert.KernelIdeal.Facts] [hReferenceIdeal : Cert.ReferenceIdeal.Facts] [hPre_d_pooled_finite : Cert.Pre_d_pooled_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_d_pooled_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v9) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)) (v3 : (c : Dev Cert.Kernel3Ideal.nD) → Buf (Elt Ideal) ((c.tc : Thread Cert.Kernel3Ideal.nD Cert.Kernel3Ideal.τ).loc Cert.Kernel3Ideal.main_v29_3)) (v4 : (c : Dev Cert.Kernel3Ideal.nD) → Buf (Elt Ideal) ((c.tc : Thread Cert.Kernel3Ideal.nD Cert.Kernel3Ideal.τ).loc Cert.Kernel3Ideal.main_v29_4)) (v5 : (c : Dev Cert.Kernel3Ideal.nD) → Buf (Elt Ideal) ((c.tc : Thread Cert.Kernel3Ideal.nD Cert.Kernel3Ideal.τ).loc Cert.Kernel3Ideal.main_v30)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_v29_3) = v3 c
          ∧ r.2.mem ((c.tc : Thread Cert.Kernel3Ideal.nD Cert.Kernel3Ideal.τ).loc Cert.Kernel3Ideal.main_v29_4) = v4 c
          ∧ r.2.mem ((c.tc : Thread Cert.Kernel3Ideal.nD Cert.Kernel3Ideal.τ).loc Cert.Kernel3Ideal.main_v30) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v84) = v1 c
          ∧ r.2.mem ((c.tc : Thread Cert.Reference3Ideal.nD Cert.Reference3Ideal.τ).loc Cert.Reference3Ideal.main_v85) = v2 c
          ∧ r.2.mem ((c.tc : Thread Cert.Reference3Ideal.nD Cert.Reference3Ideal.τ).loc Cert.Reference3Ideal.main_v86) = v3 c
          ∧ r.2.mem ((c.tc : Thread Cert.Reference3Ideal.nD Cert.Reference3Ideal.τ).loc Cert.Reference3Ideal.main_v87) = v4 c
          ∧ r.2.mem ((c.tc : Thread Cert.Reference3Ideal.nD Cert.Reference3Ideal.τ).loc Cert.Reference3Ideal.main_v38) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v25_0)) (v1 : (c : Dev Cert.Kernel4Ideal.nD) → Buf (Elt Ideal) ((c.tc : Thread Cert.Kernel4Ideal.nD Cert.Kernel4Ideal.τ).loc Cert.Kernel4Ideal.main_v25_1)) (v2 : (c : Dev Cert.Kernel4Ideal.nD) → Buf (Elt Ideal) ((c.tc : Thread Cert.Kernel4Ideal.nD Cert.Kernel4Ideal.τ).loc Cert.Kernel4Ideal.main_v25_2)) (v3 : (c : Dev Cert.Kernel4Ideal.nD) → Buf (Elt Ideal) ((c.tc : Thread Cert.Kernel4Ideal.nD Cert.Kernel4Ideal.τ).loc Cert.Kernel4Ideal.main_v25_3)) (v4 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_0) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_v25_2) = v2 c
          ∧ r.2.mem ((c.tc : Thread Cert.Kernel4Ideal.nD Cert.Kernel4Ideal.τ).loc Cert.Kernel4Ideal.main_v25_3) = v3 c
          ∧ r.2.mem ((c.tc : Thread Cert.Kernel4Ideal.nD Cert.Kernel4Ideal.τ).loc Cert.Kernel4Ideal.main_v26) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_v81) = v1 c
          ∧ r.2.mem ((c.tc : Thread Cert.Reference4Ideal.nD Cert.Reference4Ideal.τ).loc Cert.Reference4Ideal.main_v82) = v2 c
          ∧ r.2.mem ((c.tc : Thread Cert.Reference4Ideal.nD Cert.Reference4Ideal.τ).loc Cert.Reference4Ideal.main_v85) = v3 c
          ∧ r.2.mem ((c.tc : Thread Cert.Reference4Ideal.nD Cert.Reference4Ideal.τ).loc Cert.Reference4Ideal.main_v39) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v42_0)) (v1 : (c : Dev Cert.Kernel5Ideal.nD) → Buf (Elt Ideal) ((c.tc : Thread Cert.Kernel5Ideal.nD Cert.Kernel5Ideal.τ).loc Cert.Kernel5Ideal.main_v42_1)) (v2 : (c : Dev Cert.Kernel5Ideal.nD) → Buf (Elt Ideal) ((c.tc : Thread Cert.Kernel5Ideal.nD Cert.Kernel5Ideal.τ).loc Cert.Kernel5Ideal.main_v42_2)) (v3 : (c : Dev Cert.Kernel5Ideal.nD) → Buf (Elt Ideal) ((c.tc : Thread Cert.Kernel5Ideal.nD Cert.Kernel5Ideal.τ).loc Cert.Kernel5Ideal.main_v42_3)) (v4 : (c : Dev Cert.Kernel5Ideal.nD) → Buf (Elt Ideal) ((c.tc : Thread Cert.Kernel5Ideal.nD Cert.Kernel5Ideal.τ).loc Cert.Kernel5Ideal.main_v42_4)) (v5 : (c : Dev Cert.Kernel5Ideal.nD) → Buf (Elt Ideal) ((c.tc : Thread Cert.Kernel5Ideal.nD Cert.Kernel5Ideal.τ).loc Cert.Kernel5Ideal.main_v42_5)) (v6 : (c : Dev Cert.Kernel5Ideal.nD) → Buf (Elt Ideal) ((c.tc : Thread Cert.Kernel5Ideal.nD Cert.Kernel5Ideal.τ).loc Cert.Kernel5Ideal.main_v42_6)) (v7 : (c : Dev Cert.Kernel5Ideal.nD) → Buf (Elt Ideal) ((c.tc : Thread Cert.Kernel5Ideal.nD Cert.Kernel5Ideal.τ).loc Cert.Kernel5Ideal.main_v43)) (v8 : (c : Dev Cert.Kernel5Ideal.nD) → Buf (Elt Ideal) ((c.tc : Thread Cert.Kernel5Ideal.nD Cert.Kernel5Ideal.τ).loc Cert.Kernel5Ideal.main_v44)) (v9 : (c : Dev Cert.Kernel5Ideal.nD) → Buf (Elt Ideal) ((c.tc : Thread Cert.Kernel5Ideal.nD Cert.Kernel5Ideal.τ).loc Cert.Kernel5Ideal.main_v45)) (v10 : (c : Dev Cert.Kernel5Ideal.nD) → Buf (Elt Ideal) ((c.tc : Thread Cert.Kernel5Ideal.nD Cert.Kernel5Ideal.τ).loc Cert.Kernel5Ideal.main_v46)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v42_0) = v0 c
          ∧ r.2.mem ((c.tc : Thread Cert.Kernel5Ideal.nD Cert.Kernel5Ideal.τ).loc Cert.Kernel5Ideal.main_v42_1) = v1 c
          ∧ r.2.mem ((c.tc : Thread Cert.Kernel5Ideal.nD Cert.Kernel5Ideal.τ).loc Cert.Kernel5Ideal.main_v42_2) = v2 c
          ∧ r.2.mem ((c.tc : Thread Cert.Kernel5Ideal.nD Cert.Kernel5Ideal.τ).loc Cert.Kernel5Ideal.main_v42_3) = v3 c
          ∧ r.2.mem ((c.tc : Thread Cert.Kernel5Ideal.nD Cert.Kernel5Ideal.τ).loc Cert.Kernel5Ideal.main_v42_4) = v4 c
          ∧ r.2.mem ((c.tc : Thread Cert.Kernel5Ideal.nD Cert.Kernel5Ideal.τ).loc Cert.Kernel5Ideal.main_v42_5) = v5 c
          ∧ r.2.mem ((c.tc : Thread Cert.Kernel5Ideal.nD Cert.Kernel5Ideal.τ).loc Cert.Kernel5Ideal.main_v42_6) = v6 c
          ∧ r.2.mem ((c.tc : Thread Cert.Kernel5Ideal.nD Cert.Kernel5Ideal.τ).loc Cert.Kernel5Ideal.main_v43) = v7 c
          ∧ r.2.mem ((c.tc : Thread Cert.Kernel5Ideal.nD Cert.Kernel5Ideal.τ).loc Cert.Kernel5Ideal.main_v44) = v8 c
          ∧ r.2.mem ((c.tc : Thread Cert.Kernel5Ideal.nD Cert.Kernel5Ideal.τ).loc Cert.Kernel5Ideal.main_v45) = v9 c
          ∧ r.2.mem ((c.tc : Thread Cert.Kernel5Ideal.nD Cert.Kernel5Ideal.τ).loc Cert.Kernel5Ideal.main_v46) = v10 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v180) = v0 c
          ∧ r.2.mem ((c.tc : Thread Cert.Reference5Ideal.nD Cert.Reference5Ideal.τ).loc Cert.Reference5Ideal.main_v181) = v1 c
          ∧ r.2.mem ((c.tc : Thread Cert.Reference5Ideal.nD Cert.Reference5Ideal.τ).loc Cert.Reference5Ideal.main_v182) = v2 c
          ∧ r.2.mem ((c.tc : Thread Cert.Reference5Ideal.nD Cert.Reference5Ideal.τ).loc Cert.Reference5Ideal.main_v183) = v3 c
          ∧ r.2.mem ((c.tc : Thread Cert.Reference5Ideal.nD Cert.Reference5Ideal.τ).loc Cert.Reference5Ideal.main_v184) = v4 c
          ∧ r.2.mem ((c.tc : Thread Cert.Reference5Ideal.nD Cert.Reference5Ideal.τ).loc Cert.Reference5Ideal.main_v185) = v5 c
          ∧ r.2.mem ((c.tc : Thread Cert.Reference5Ideal.nD Cert.Reference5Ideal.τ).loc Cert.Reference5Ideal.main_v186) = v6 c
          ∧ r.2.mem ((c.tc : Thread Cert.Reference5Ideal.nD Cert.Reference5Ideal.τ).loc Cert.Reference5Ideal.main_v79) = v7 c
          ∧ r.2.mem ((c.tc : Thread Cert.Reference5Ideal.nD Cert.Reference5Ideal.τ).loc Cert.Reference5Ideal.main_v93) = v8 c
          ∧ r.2.mem ((c.tc : Thread Cert.Reference5Ideal.nD Cert.Reference5Ideal.τ).loc Cert.Reference5Ideal.main_v87) = v9 c
          ∧ r.2.mem ((c.tc : Thread Cert.Reference5Ideal.nD Cert.Reference5Ideal.τ).loc Cert.Reference5Ideal.main_v123) = v10 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)) (v4 : (c : Dev Cert.Kernel6Ideal.nD) → Buf (Elt Ideal) ((c.tc : Thread Cert.Kernel6Ideal.nD Cert.Kernel6Ideal.τ).loc Cert.Kernel6Ideal.main_v9_4)) (v5 : (c : Dev Cert.Kernel6Ideal.nD) → Buf (Elt Ideal) ((c.tc : Thread Cert.Kernel6Ideal.nD Cert.Kernel6Ideal.τ).loc Cert.Kernel6Ideal.main_v10)) (v6 : (c : Dev Cert.Kernel6Ideal.nD) → Buf (Elt Ideal) ((c.tc : Thread Cert.Kernel6Ideal.nD Cert.Kernel6Ideal.τ).loc Cert.Kernel6Ideal.main_v12)) (v7 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_v9_4) = v4 c
          ∧ r.2.mem ((c.tc : Thread Cert.Kernel6Ideal.nD Cert.Kernel6Ideal.τ).loc Cert.Kernel6Ideal.main_v10) = v5 c
          ∧ r.2.mem ((c.tc : Thread Cert.Kernel6Ideal.nD Cert.Kernel6Ideal.τ).loc Cert.Kernel6Ideal.main_v12) = v6 c
          ∧ r.2.mem ((c.tc : Thread Cert.Kernel6Ideal.nD Cert.Kernel6Ideal.τ).loc Cert.Kernel6Ideal.main_v13) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v103) = v0 c
          ∧ r.2.mem ((c.tc : Thread Cert.Reference6Ideal.nD Cert.Reference6Ideal.τ).loc Cert.Reference6Ideal.main_v180) = v1 c
          ∧ r.2.mem ((c.tc : Thread Cert.Reference6Ideal.nD Cert.Reference6Ideal.τ).loc Cert.Reference6Ideal.main_v181) = v2 c
          ∧ r.2.mem ((c.tc : Thread Cert.Reference6Ideal.nD Cert.Reference6Ideal.τ).loc Cert.Reference6Ideal.main_v182) = v3 c
          ∧ r.2.mem ((c.tc : Thread Cert.Reference6Ideal.nD Cert.Reference6Ideal.τ).loc Cert.Reference6Ideal.main_v183) = v4 c
          ∧ r.2.mem ((c.tc : Thread Cert.Reference6Ideal.nD Cert.Reference6Ideal.τ).loc Cert.Reference6Ideal.main_v88) = v5 c
          ∧ r.2.mem ((c.tc : Thread Cert.Reference6Ideal.nD Cert.Reference6Ideal.τ).loc Cert.Reference6Ideal.main_v53) = v6 c
          ∧ r.2.mem ((c.tc : Thread Cert.Reference6Ideal.nD Cert.Reference6Ideal.τ).loc Cert.Reference6Ideal.main_v65) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)) (v3 : (c : Dev Cert.Kernel7Ideal.nD) → Buf (Elt Ideal) ((c.tc : Thread Cert.Kernel7Ideal.nD Cert.Kernel7Ideal.τ).loc Cert.Kernel7Ideal.main_v8_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_v8_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v22) = v2 c
          ∧ r.2.mem ((c.tc : Thread Cert.Reference7Ideal.nD Cert.Reference7Ideal.τ).loc Cert.Reference7Ideal.main_v23) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_d_pooled_finite : Cert.Pre_d_pooled_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_d_pooled_finite (hKernelIdeal := hKernelIdeal) (hPre_d_pooled_finite := hPre_d_pooled_finite)
    ∧ quiescent_ReferenceIdeal (hReferenceIdeal := hReferenceIdeal)
    ∧ quiescent_ReferenceIdeal_pre_d_pooled_finite (hReferenceIdeal := hReferenceIdeal) (hPre_d_pooled_finite := hPre_d_pooled_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_d_pooled_finite (hKernelIdeal := hKernelIdeal) (hReferenceIdeal := hReferenceIdeal) (hPre_d_pooled_finite := hPre_d_pooled_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_d_pooled_finite.lean ====
abbrev S8192x5120 : Shape := ⟨2, ![8192, 5120]⟩
abbrev S31x1024 : Shape := ⟨2, ![31, 1024]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x5120 .f32) (main_arg1 : FVec F S31x1024 .f32) (main_arg2 : FVec F S8192x1024 .f32) (main_arg3 : FVec F S8192x1024 .f32) : IVec S_ 1 :=
  let main_v0 : FVec F S8192x1024 .f32 := Host.absf main_arg2
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite2.lean ====
abbrev S8192x1024 : Shape := ⟨2, ![8192, 1024]⟩
abbrev S1024 : Shape := ⟨1, ![1024]⟩
abbrev S1024x5120 : Shape := ⟨2, ![1024, 5120]⟩
abbrev S8192x5120 : Shape := ⟨2, ![8192, 5120]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5120 : S_.BroadcastsInDim S1024x5120 (![] : Fin 0 → Fin S1024x5120.rank)
  reducesTo_S1024x5120_S_d0_1 : S1024x5120.ReducesTo [0, 1] S_
  bcast_S_S8192x5120 : S_.BroadcastsInDim S8192x5120 (![] : Fin 0 → Fin S8192x5120.rank)
  reducesTo_S8192x5120_S_d0_1 : S8192x5120.ReducesTo [0, 1] S_

variable [Facts]

def fn_part1 {F : FTy → Type} [FloatOps F] (main_v13 : IVec S_ 1) (main_v16 : IVec S8192x5120 1) : IVec S_ 1 :=
  let main_c_5 : IVec S_ 1 := constantI S_ 1 1#1
  let main_v17 : IVec S_ 1 := (fun x v => Host.reduce IntOp.andi x v reducesTo_S8192x5120_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x5120 .f32) (main_arg3 : FVec F S8192x1024 .f32) (main_arg4 : FVec F S8192x5120 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5120 .f32 := Host.absf main_arg2
  let main_cst_2 : FVec F S_ .f32 := constant S_ .f32 0x7F800000#32
  let main_v10 : FVec F S1024x5120 .f32 := broadcastInDim S1024x5120 ![] bcast_S_S1024x5120 main_cst_2
  let main_v11 : IVec S1024x5120 1 := cmpf .olt main_v9 main_v10
  let main_c_3 : IVec S_ 1 := constantI S_ 1 1#1
  let main_v12 : IVec S_ 1 := (fun x v => Host.reduce IntOp.andi x v reducesTo_S1024x5120_S_d0_1 h_S_) main_v11 main_c_3
  let main_v13 : IVec S_ 1 := andi main_v8 main_v12
  let main_v14 : FVec F S8192x5120 .f32 := Host.absf main_arg4
  let main_cst_4 : FVec F S_ .f32 := constant S_ .f32 0x7F800000#32
  let main_v15 : FVec F S8192x5120 .f32 := broadcastInDim S8192x5120 ![] bcast_S_S8192x5120 main_cst_4
  let main_v16 : IVec S8192x5120 1 := cmpf .olt main_v14 main_v15
  fn_part1 (F := F) main_v13 main_v16
-- ==== Pre_finite3.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_arg5 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S8192x256 .f32) (main_arg2 : FVec F S1024 .f32) (main_arg3 : FVec F S1024x1024 .f32) (main_arg4 : FVec F S256x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Pre_finite4.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite5.lean ====
abbrev S8192x1024 : Shape := ⟨2, ![8192, 1024]⟩
abbrev S8192x5120 : Shape := ⟨2, ![8192, 5120]⟩
abbrev S4x256x256 : Shape := ⟨3, ![4, 256, 256]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x5120 : S_.BroadcastsInDim S8192x5120 (![] : Fin 0 → Fin S8192x5120.rank)
  reducesTo_S8192x5120_S_d0_1 : S8192x5120.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S1024x1024 .f32) (main_arg9 : FVec F S8192x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S8192x1024 .f32 := Host.absf main_arg9
  let main_cst_16 : FVec F S_ .f32 := constant S_ .f32 0x7F800000#32
  let main_v45 : FVec F S8192x1024 .f32 := broadcastInDim S8192x1024 ![] bcast_S_S8192x1024 main_cst_16
  let main_v46 : IVec S8192x1024 1 := cmpf .olt main_v44 main_v45
  let main_c_17 : IVec S_ 1 := constantI S_ 1 1#1
  let main_v47 : IVec S_ 1 := (fun x v => Host.reduce IntOp.andi x v reducesTo_S8192x1024_S_d0_1 h_S_) main_v46 main_c_17
  let main_v48 : IVec S_ 1 := andi main_v43 main_v47
  main_v48

def fn_part1 {F : FTy → Type} [FloatOps F] (main_arg4 : FVec F S1024 .f32) (main_arg5 : FVec F S1024 .f32) (main_arg6 : FVec F S1024 .f32) (main_arg7 : FVec F S1024x1024 .f32) (main_arg8 : FVec F S1024x1024 .f32) (main_arg9 : FVec F S8192x1024 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x1024 .f32) (main_arg2 : FVec F S8192x5120 .f32) (main_arg3 : FVec F S4x256x256 .f32) (main_arg4 : FVec F S1024 .f32) (main_arg5 : FVec F S1024 .f32) (main_arg6 : FVec F S1024 .f32) (main_arg7 : FVec F S1024x1024 .f32) (main_arg8 : FVec F S1024x1024 .f32) (main_arg9 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x5120 .f32 := Host.absf main_arg2
  let main_cst_2 : FVec F S_ .f32 := constant S_ .f32 0x7F800000#32
  let main_v10 : FVec F S8192x5120 .f32 := broadcastInDim S8192x5120 ![] bcast_S_S8192x5120 main_cst_2
  let main_v11 : IVec S8192x5120 1 := cmpf .olt main_v9 main_v10
  let main_c_3 : IVec S_ 1 := constantI S_ 1 1#1
  let main_v12 : IVec S_ 1 := (fun x v => Host.reduce IntOp.andi x v reducesTo_S8192x5120_S_d0_1 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_arg5 main_arg6 main_arg7 main_arg8 main_arg9 main_v13 main_v16
-- ==== Pre_finite6.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_arg5 : FVec F S8192x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S8192x256 .f32) (main_arg2 : FVec F S1024 .f32) (main_arg3 : FVec F S1024x1024 .f32) (main_arg4 : FVec F S256x1024 .f32) (main_arg5 : FVec F S8192x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8192x5120 : Shape := ⟨2, ![8192, 5120]⟩
abbrev S31x1024 : Shape := ⟨2, ![31, 1024]⟩
abbrev S8192x1024 : Shape := ⟨2, ![8192, 1024]⟩
abbrev S_ : Shape := ⟨0, ![]⟩
abbrev S32x1024 : Shape := ⟨2, ![32, 1024]⟩
abbrev S8192x3072 : Shape := ⟨2, ![8192, 3072]⟩
abbrev S256x1024 : Shape := ⟨2, ![256, 1024]⟩
abbrev S256x5120 : Shape := ⟨2, ![256, 5120]⟩
abbrev S32x5120 : Shape := ⟨2, ![32, 5120]⟩
abbrev S256x3072 : Shape := ⟨2, ![256, 3072]⟩
abbrev S8x288x1024 : Shape := ⟨3, ![8, 288, 1024]⟩
abbrev S288x1024 : Shape := ⟨2, ![288, 1024]⟩
abbrev S1x256x1024 : Shape := ⟨3, ![1, 256, 1024]⟩
abbrev S1x32x1024 : Shape := ⟨3, ![1, 32, 1024]⟩
abbrev S1x280x1024 : Shape := ⟨3, ![1, 280, 1024]⟩
abbrev S280x1024 : Shape := ⟨2, ![280, 1024]⟩
abbrev S256x1 : Shape := ⟨2, ![256, 1]⟩
abbrev S32x1 : Shape := ⟨2, ![32, 1]⟩
abbrev S256x256 : Shape := ⟨2, ![256, 256]⟩
abbrev S32x256 : Shape := ⟨2, ![32, 256]⟩
abbrev S64x256 : Shape := ⟨2, ![64, 256]⟩
abbrev S1x256 : Shape := ⟨2, ![1, 256]⟩
abbrev S1x64x256 : Shape := ⟨3, ![1, 64, 256]⟩
abbrev S8x256 : Shape := ⟨2, ![8, 256]⟩
abbrev S8x8x256 : Shape := ⟨3, ![8, 8, 256]⟩
abbrev S32x8x1024 : Shape := ⟨3, ![32, 8, 1024]⟩

abbrev nBuf : Space → Nat
  | .hbm => 16
  | .vmem => 20
  | .smem => 0
  | _ => 0

abbrev bufTy : (tb : Table) → Fin (tcTables nBuf tb) → BufTy
  | .hbm, ⟨0, _⟩ => ⟨S8192x5120, .f32⟩
  | .hbm, ⟨1, _⟩ => ⟨S31x1024, .f32⟩
  | .hbm, ⟨2, _⟩ => ⟨S8192x1024, .f32⟩
  | .hbm, ⟨3, _⟩ => ⟨S8192x1024, .f32⟩
  | .hbm, ⟨4, _⟩ => ⟨S_, .i32⟩
  | .hbm, ⟨5, _⟩ => ⟨S_, .f32⟩
  | .hbm, ⟨6, _⟩ => ⟨S32x1024, .f32⟩
  | .hbm, ⟨7, _⟩ => ⟨S8192x1024, .bf16⟩
  | .hbm, ⟨8, _⟩ => ⟨S8192x1024, .bf16⟩
  | .hbm, ⟨9, _⟩ => ⟨S8192x5120, .bf16⟩
  | .hbm, ⟨10, _⟩ => ⟨S8192x3072, .bf16⟩
  | .hbm, ⟨11, _⟩ => ⟨S256x1024, .f32⟩
  | .hbm, ⟨12, _⟩ => ⟨S32x8x1024, .f32⟩
  | .hbm, ⟨13, _⟩ => ⟨S_, .f32⟩
  | .hbm, ⟨14, _⟩ => ⟨S32x1024, .f32⟩
  | .hbm, ⟨15, _⟩ => ⟨S31x1024, .f32⟩
  | .local _ .vmem, ⟨0, _⟩ => ⟨S256x1024, .bf16⟩
  | .local _ .vmem, ⟨1, _⟩ => ⟨S256x1024, .bf16⟩
  | .local _ .vmem, ⟨2, _⟩ => ⟨S32x1024, .bf16⟩
  | .local _ .vmem, ⟨3, _⟩ => ⟨S32x1024, .bf16⟩
  | .local _ .vmem, ⟨4, _⟩ => ⟨S256x1024, .bf16⟩
  | .local _ .vmem, ⟨5, _⟩ => ⟨S256x1024, .bf16⟩
  | .local _ .vmem, ⟨6, _⟩ => ⟨S32x1024, .bf16⟩
  | .local _ .vmem, ⟨7, _⟩ => ⟨S32x1024, .bf16⟩
  | .local _ .vmem, ⟨8, _⟩ => ⟨S256x5120, .bf16⟩
  | .local _ .vmem, ⟨9, _⟩ => ⟨S256x5120, .bf16⟩
  | .local _ .vmem, ⟨10, _⟩ => ⟨S32x5120, .bf16⟩
  | .local _ .vmem, ⟨11, _⟩ => ⟨S32x5120, .bf16⟩
  | .local _ .vmem, ⟨12, _⟩ => ⟨S32x1024, .f32⟩
  | .local _ .vmem, ⟨13, _⟩ => ⟨S256x3072, .bf16⟩
  | .local _ .vmem, ⟨14, _⟩ => ⟨S256x3072, .bf16⟩
  | .local _ .vmem, ⟨15, _⟩ => ⟨S256x1024, .f32⟩
  | .local _ .vmem, ⟨16, _⟩ => ⟨S8x288x1024, .f32⟩
  | .local _ .vmem, ⟨17, _⟩ => ⟨S288x1024, .f32⟩
  | .local _ .vmem, ⟨18, _⟩ => ⟨S8x288x1024, .f32⟩
  | .local _ .vmem, ⟨19, _⟩ => ⟨S256x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x5120 : Shape := ⟨2, ![8192, 5120]⟩
abbrev S31x1024 : Shape := ⟨2, ![31, 1024]⟩
abbrev S8192x1024 : Shape := ⟨2, ![8192, 1024]⟩
abbrev S8192x3072 : Shape := ⟨2, ![8192, 3072]⟩
abbrev S_ : Shape := ⟨0, ![]⟩
abbrev S8192 : Shape := ⟨1, ![8192]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S30x1024 : Shape := ⟨2, ![30, 1024]⟩
abbrev S8222x1024 : Shape := ⟨2, ![8222, 1024]⟩
abbrev S31 : Shape := ⟨1, ![31]⟩
abbrev S31x1 : Shape := ⟨2, ![31, 1]⟩
abbrev S1x8192 : Shape := ⟨2, ![1, 8192]⟩
abbrev S31x8192 : Shape := ⟨2, ![31, 8192]⟩
abbrev S31x8192x1 : Shape := ⟨3, ![31, 8192, 1]⟩
abbrev S31x8192x1024 : Shape := ⟨3, ![31, 8192, 1024]⟩
abbrev S31x1x1024 : Shape := ⟨3, ![31, 1, 1024]⟩

abbrev nBuf : Space → Nat
  | .hbm => 224
  | .vmem => 0
  | .smem => 0
  | _ => 0

abbrev hbmTy0_0 (i : Nat) : BufTy := match i % 128 with
  | 0 => ⟨S8192x5120, .f32⟩
  | 1 => ⟨S31x1024, .f32⟩
  | 2 => ⟨S8192x1024, .f32⟩
  | 3 => ⟨S8192x1024, .f32⟩
  | 4 => ⟨S8192x3072, .f32⟩
  | 5 => ⟨S8192x1024, .f32⟩
  | 6 => ⟨S8192x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S_, .f32⟩
  | 23 => ⟨S8192x1024, .f32⟩
  | 24 => ⟨S8192, .i32⟩
  | 25 => ⟨S8192x256, .f32⟩
  | 26 => ⟨S_, .f32⟩
  | 27 => ⟨S2x256, .f32⟩
  | 28 => ⟨S8190x256, .f32⟩
  | 29 => ⟨S8192x256, .f32⟩
  | 30 => ⟨S_, .f32⟩
  | 31 => ⟨S2x256, .f32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S8192, .f32⟩
  | 39 => ⟨S8192x1, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S_, .f32⟩
  | 47 => ⟨S4x256, .f32⟩
  | 48 => ⟨S8188x256, .f32⟩
  | 49 => ⟨S8192x256, .f32⟩
  | 50 => ⟨S_, .f32⟩
  | 51 => ⟨S4x256, .f32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S8192, .f32⟩
  | 59 => ⟨S8192x1, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S8192x256, .f32⟩
  | 66 => ⟨S_, .f32⟩
  | 67 => ⟨S8x256, .f32⟩
  | 68 => ⟨S8184x256, .f32⟩
  | 69 => ⟨S8192x256, .f32⟩
  | 70 => ⟨S_, .f32⟩
  | 71 => ⟨S8x256, .f32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192, .f32⟩
  | 79 => ⟨S8192x1, .f32⟩
  | 80 => ⟨S8192x256, .f32⟩
  | 81 => ⟨S8192x256, .f32⟩
  | 82 => ⟨S8192x256, .f32⟩
  | 83 => ⟨S8192x256, .f32⟩
  | 84 => ⟨S8192x256, .f32⟩
  | 85 => ⟨S8192x256, .f32⟩
  | 86 => ⟨S_, .f32⟩
  | 87 => ⟨S16x256, .f32⟩
  | 88 => ⟨S8176x256, .f32⟩
  | 89 => ⟨S8192x256, .f32⟩
  | 90 => ⟨S_, .f32⟩
  | 91 => ⟨S16x256, .f32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S8192, .f32⟩
  | 99 => ⟨S8192x1, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S8192x1024, .f32⟩
  | 106 => ⟨S_, .f32⟩
  | 107 => ⟨S30x1024, .f32⟩
  | 108 => ⟨S8222x1024, .f32⟩
  | 109 => ⟨S_, .f32⟩
  | 110 => ⟨S30x1024, .f32⟩
  | 111 => ⟨S31, .i32⟩
  | 112 => ⟨S31x1, .i32⟩
  | 113 => ⟨S8192, .i32⟩
  | 114 => ⟨S1x8192, .i32⟩
  | 115 => ⟨S31x8192, .i32⟩
  | 116 => ⟨S31x8192, .i32⟩
  | 117 => ⟨S31x8192, .i32⟩
  | 118 => ⟨S_, .i32⟩
  | 119 => ⟨S31x8192, .i32⟩
  | 120 => ⟨S31x8192, .i1⟩
  | 121 => ⟨S_, .i32⟩
  | 122 => ⟨S31x8192, .i32⟩
  | 123 => ⟨S31x8192, .i32⟩
  | 124 => ⟨S31x8192, .i32⟩
  | 125 => ⟨S31x8192x1, .i32⟩
  | 126 => ⟨S31x8192x1024, .f32⟩
  | 127 => ⟨S31x1x1024, .f32⟩
  | _ => ⟨S8192x5120, .f32⟩

abbrev hbmTy0_1 (i : Nat) : BufTy := match i % 128 with
  | 0 => ⟨S31x8192x1024, .f32⟩
  | 1 => ⟨S31x8192x1024, .f32⟩
  | 2 => ⟨S_, .f32⟩
  | 3 => ⟨S8192x1024, .f32⟩
  | 4 => ⟨S31x8192x1024, .f32⟩
  | 5 => ⟨S31x8192x1024, .f32⟩
  | 6 => ⟨S_, .f32⟩
  | 7 => ⟨S31x1024, .f32⟩
  | 8 => ⟨S31x1x1024, .f32⟩
  | 9 => ⟨S31x8192x1024, .f32⟩
  | 10 => ⟨S31x8192x1024, .f32⟩
  | 11 => ⟨S_, .f32⟩
  | 12 => ⟨S31x1024, .f32⟩
  | 13 => ⟨S_, .f32⟩
  | 14 => ⟨S8222x1024, .f32⟩
  | 15 => ⟨S8222x1024, .f32⟩
  | 16 => ⟨S30x1024, .f32⟩
  | 17 => ⟨S8192x1024, .f32⟩
  | 18 => ⟨S8192x256, .f32⟩
  | 19 => ⟨S8192x256, .f32⟩
  | 20 => ⟨S8192x256, .f32⟩
  | 21 => ⟨S8192x256, .f32⟩
  | 22 => ⟨S8192x256, .f32⟩
  | 23 => ⟨S_, .f32⟩
  | 24 => ⟨S8192x1024, .f32⟩
  | 25 => ⟨S8192x256, .f32⟩
  | 26 => ⟨S8192x256, .f32⟩
  | 27 => ⟨S8192x256, .f32⟩
  | 28 => ⟨S16x256, .f32⟩
  | 29 => ⟨S8176x256, .f32⟩
  | 30 => ⟨S_, .f32⟩
  | 31 => ⟨S8192x256, .f32⟩
  | 32 => ⟨S8192x256, .f32⟩
  | 33 => ⟨S_, .f32⟩
  | 34 => ⟨S8192x1024, .f32⟩
  | 35 => ⟨S8192x256, .f32⟩
  | 36 => ⟨S_, .f32⟩
  | 37 => ⟨S8192x1024, .f32⟩
  | 38 => ⟨S8192x1024, .f32⟩
  | 39 => ⟨S8192x256, .f32⟩
  | 40 => ⟨S8192x256, .f32⟩
  | 41 => ⟨S8192x256, .f32⟩
  | 42 => ⟨S8x256, .f32⟩
  | 43 => ⟨S8184x256, .f32⟩
  | 44 => ⟨S_, .f32⟩
  | 45 => ⟨S8192x256, .f32⟩
  | 46 => ⟨S8192x256, .f32⟩
  | 47 => ⟨S_, .f32⟩
  | 48 => ⟨S8192x1024, .f32⟩
  | 49 => ⟨S8192x1024, .f32⟩
  | 50 => ⟨S8192x256, .f32⟩
  | 51 => ⟨S_, .f32⟩
  | 52 => ⟨S8192x1024, .f32⟩
  | 53 => ⟨S8192x1024, .f32⟩
  | 54 => ⟨S8192x256, .f32⟩
  | 55 => ⟨S8192x256, .f32⟩
  | 56 => ⟨S8192x256, .f32⟩
  | 57 => ⟨S4x256, .f32⟩
  | 58 => ⟨S8188x256, .f32⟩
  | 59 => ⟨S_, .f32⟩
  | 60 => ⟨S8192x256, .f32⟩
  | 61 => ⟨S8192x256, .f32⟩
  | 62 => ⟨S_, .f32⟩
  | 63 => ⟨S8192x1024, .f32⟩
  | 64 => ⟨S8192x1024, .f32⟩
  | 65 => ⟨S8192x256, .f32⟩
  | 66 => ⟨S_, .f32⟩
  | 67 => ⟨S8192x1024, .f32⟩
  | 68 => ⟨S8192x1024, .f32⟩
  | 69 => ⟨S8192x256, .f32⟩
  | 70 => ⟨S8192x256, .f32⟩
  | 71 => ⟨S8192x256, .f32⟩
  | 72 => ⟨S2x256, .f32⟩
  | 73 => ⟨S8190x256, .f32⟩
  | 74 => ⟨S_, .f32⟩
  | 75 => ⟨S8192x256, .f32⟩
  | 76 => ⟨S8192x256, .f32⟩
  | 77 => ⟨S_, .f32⟩
  | 78 => ⟨S8192x1024, .f32⟩
  | 79 => ⟨S8192x1024, .f32⟩
  | 80 => ⟨S_, .f32⟩
  | 81 => ⟨S_, .f32⟩
  | 82 => ⟨S8192x1024, .f32⟩
  | 83 => ⟨S8192x1024, .f32⟩
  | 84 => ⟨S_, .f32⟩
  | 85 => ⟨S8192x3072, .f32⟩
  | 86 => ⟨S8192x1024, .f32⟩
  | 87 => ⟨S8192x1024, .f32⟩
  | 88 => ⟨S8192x1024, .f32⟩
  | 89 => ⟨S_, .f32⟩
  | 90 => ⟨S8192x3072, .f32⟩
  | 91 => ⟨S8192x3072, .f32⟩
  | 92 => ⟨S_, .f32⟩
  | 93 => ⟨S8192x3072, .f32⟩
  | 94 => ⟨S8192x3072, .f32⟩
  | 95 => ⟨S8192x3072, .bf16⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_call0_cst : Ref sig .tc := ⟨.hbm, 21, rfl⟩
abbrev main_call0_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_c_15 : Ref sig .tc := ⟨.hbm, 92, rfl⟩
abbrev main_v69 : Ref sig .tc := ⟨.hbm, 93, rfl⟩
abbrev main_v70 : Ref sig .tc := ⟨.hbm, 94, rfl⟩
abbrev main_c_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_19 : Ref sig .tc := ⟨.hbm, 118, rfl⟩
abbrev main_v91 : Ref sig .tc := ⟨.hbm, 119, rfl⟩
abbrev main_v92 : Ref sig .tc := ⟨.hbm, 120, rfl⟩
abbrev main_c_20 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_21 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_22 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_23 : Ref sig .tc := ⟨.hbm, 139, rfl⟩
abbrev main_v108 : Ref sig .tc := ⟨.hbm, 140, rfl⟩
abbrev main_cst_24 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_25 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_26 : Ref sig .tc := ⟨.hbm, 158, rfl⟩
abbrev main_v124 : Ref sig .tc := ⟨.hbm, 159, rfl⟩
abbrev main_v125 : Ref sig .tc := ⟨.hbm, 160, rfl⟩
abbrev main_cst_27 : Ref sig .tc := ⟨.hbm, 161, rfl⟩
abbrev main_v126 : Ref sig .tc := ⟨.hbm, 162, rfl⟩
abbrev main_v127 : Ref sig .tc := ⟨.hbm, 163, rfl⟩
abbrev main_cst_28 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_29 : Ref sig .tc := ⟨.hbm, 172, rfl⟩
abbrev main_v135 : Ref sig .tc := ⟨.hbm, 173, rfl⟩
abbrev main_v136 : Ref sig .tc := ⟨.hbm, 174, rfl⟩
abbrev main_cst_30 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_31 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_32 : Ref sig .tc := ⟨.hbm, 187, rfl⟩
abbrev main_v147 : Ref sig .tc := ⟨.hbm, 188, rfl⟩
abbrev main_v148 : Ref sig .tc := ⟨.hbm, 189, rfl⟩
abbrev main_cst_33 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_34 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_35 : Ref sig .tc := ⟨.hbm, 202, rfl⟩
abbrev main_v159 : Ref sig .tc := ⟨.hbm, 203, rfl⟩
abbrev main_v160 : Ref sig .tc := ⟨.hbm, 204, rfl⟩
abbrev main_cst_36 : Ref sig .tc := ⟨.hbm, 205, rfl⟩
abbrev main_v161 : Ref sig .tc := ⟨.hbm, 206, rfl⟩
abbrev main_v162 : Ref sig .tc := ⟨.hbm, 207, rfl⟩
abbrev main_call1_call0_cst : Ref sig .tc := ⟨.hbm, 208, rfl⟩
abbrev main_call1_call0_v0 : Ref sig .tc := ⟨.hbm, 209, rfl⟩
abbrev main_v163 : Ref sig .tc := ⟨.hbm, 210, rfl⟩
abbrev main_v164 : Ref sig .tc := ⟨.hbm, 211, rfl⟩
abbrev main_cst_37 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_38 : Ref sig .tc := ⟨.hbm, 217, rfl⟩
abbrev main_v169 : Ref sig .tc := ⟨.hbm, 218, rfl⟩
abbrev main_v170 : Ref sig .tc := ⟨.hbm, 219, rfl⟩
abbrev main_cst_39 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x5120 : Shape := ⟨2, ![1024, 5120]⟩
abbrev S8192x5120 : Shape := ⟨2, ![8192, 5120]⟩
abbrev S5120x1024 : Shape := ⟨2, ![5120, 1024]⟩
abbrev S8x640x1024 : Shape := ⟨3, ![8, 640, 1024]⟩
abbrev S1x1024 : Shape := ⟨2, ![1, 1024]⟩
abbrev S8192x3072 : Shape := ⟨2, ![8192, 3072]⟩
abbrev S8192x2048 : Shape := ⟨2, ![8192, 2048]⟩
abbrev S8x1024 : Shape := ⟨2, ![8, 1024]⟩
abbrev S512x1024 : Shape := ⟨2, ![512, 1024]⟩
abbrev S512x3072 : Shape := ⟨2, ![512, 3072]⟩
abbrev S512x2048 : Shape := ⟨2, ![512, 2048]⟩
abbrev S1x8 : Shape := ⟨2, ![1, 8]⟩
abbrev S1x1 : Shape := ⟨2, ![1, 1]⟩
abbrev S_ : Shape := ⟨0, ![]⟩
abbrev S640x1024 : Shape := ⟨2, ![640, 1024]⟩
abbrev S1x640x1024 : Shape := ⟨3, ![1, 640, 1024]⟩
abbrev S512 : Shape := ⟨1, ![512]⟩
abbrev S512x1 : Shape := ⟨2, ![512, 1]⟩
abbrev S1024x1024 : Shape := ⟨2, ![1024, 1024]⟩
abbrev S64x8x1024 : Shape := ⟨3, ![64, 8, 1024]⟩

abbrev nBuf : Space → Nat
  | .hbm => 18
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x1024, .f32⟩
  | .hbm, ⟨4, _⟩ => ⟨S8192x5120, .f32⟩
  | .hbm, ⟨5, _⟩ => ⟨S5120x1024, .f32⟩
  | .hbm, ⟨6, _⟩ => ⟨S8x640x1024, .f32⟩
  | .hbm, ⟨7, _⟩ => ⟨S8x640x1024, .bf16⟩
  | .hbm, ⟨8, _⟩ => ⟨S1x1024, .f32⟩
  | .hbm, ⟨9, _⟩ => ⟨S8192x3072, .f32⟩
  | .hbm, ⟨10, _⟩ => ⟨S8192x3072, .bf16⟩
  | .hbm, ⟨11, _⟩ => ⟨S8192x2048, .f32⟩
  | .hbm, ⟨12, _⟩ => ⟨S8192x2048, .bf16⟩
  | .hbm, ⟨13, _⟩ => ⟨S8192x1024, .f32⟩
  | .hbm, ⟨14, _⟩ => ⟨S8192x1024, .bf16⟩
  | .hbm, ⟨15, _⟩ => ⟨S8x1024, .f32⟩
  | .hbm, ⟨16, _⟩ => ⟨S_, .f32⟩
  | .hbm, ⟨17, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x3072, .bf16⟩
  | .local _ .vmem, ⟨6, _⟩ => ⟨S512x3072, .bf16⟩
  | .local _ .vmem, ⟨7, _⟩ => ⟨S512x2048, .bf16⟩
  | .local _ .vmem, ⟨8, _⟩ => ⟨S512x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | .local _ .vmem, ⟨14, _⟩ => ⟨S5120x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_cst : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S8192x1024 : Shape := ⟨2, ![8192, 1024]⟩
abbrev S1024 : Shape := ⟨1, ![1024]⟩
abbrev S1024x5120 : Shape := ⟨2, ![1024, 5120]⟩
abbrev S8192x5120 : Shape := ⟨2, ![8192, 5120]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x1024, .f32⟩
  | .hbm, ⟨4, _⟩ => ⟨S8192x5120, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5120, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel3.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8x256x1024 : Shape := ⟨3, ![8, 256, 1024]⟩
abbrev S8x128x1024 : Shape := ⟨3, ![8, 128, 1024]⟩
abbrev S8x64x1024 : Shape := ⟨3, ![8, 64, 1024]⟩
abbrev S8x448x1024 : Shape := ⟨3, ![8, 448, 1024]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩
abbrev S8x1024 : Shape := ⟨2, ![8, 1024]⟩
abbrev S512x1024 : Shape := ⟨2, ![512, 1024]⟩
abbrev S512x256 : Shape := ⟨2, ![512, 256]⟩
abbrev S1x8 : Shape := ⟨2, ![1, 8]⟩
abbrev S1x1 : Shape := ⟨2, ![1, 1]⟩
abbrev S128x1024 : Shape := ⟨2, ![128, 1024]⟩
abbrev S1x128x1024 : Shape := ⟨3, ![1, 128, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 50
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8x256x1024, .f32⟩
  | .hbm, ⟨8, _⟩ => ⟨S8x128x1024, .f32⟩
  | .hbm, ⟨9, _⟩ => ⟨S_, .f32⟩
  | .hbm, ⟨10, _⟩ => ⟨S8x64x1024, .f32⟩
  | .hbm, ⟨11, _⟩ => ⟨S8x448x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S1x1024, .f32⟩
  | .hbm, ⟨39, _⟩ => ⟨S1024x256, .f32⟩
  | .hbm, ⟨40, _⟩ => ⟨S1024x256, .bf16⟩
  | .hbm, ⟨41, _⟩ => ⟨S8x448x1024, .bf16⟩
  | .hbm, ⟨42, _⟩ => ⟨S8192x1024, .f32⟩
  | .hbm, ⟨43, _⟩ => ⟨S8192x1024, .bf16⟩
  | .hbm, ⟨44, _⟩ => ⟨S8192x1024, .bf16⟩
  | .hbm, ⟨45, _⟩ => ⟨S8192x1024, .bf16⟩
  | .hbm, ⟨46, _⟩ => ⟨S8192x256, .bf16⟩
  | .hbm, ⟨47, _⟩ => ⟨S8x1024, .f32⟩
  | .hbm, ⟨48, _⟩ => ⟨S_, .f32⟩
  | .hbm, ⟨49, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x256, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x256, .bf16⟩
  | .local _ .vmem, ⟨19, _⟩ => ⟨S512x256, .bf16⟩
  | .local _ .vmem, ⟨20, _⟩ => ⟨S8x1024, .f32⟩
  | .local _ .vmem, ⟨21, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev main_cst_6 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .bf16⟩
  | .hbm, ⟨109, _⟩ => ⟨S8192x1024, .bf16⟩
  | .hbm, ⟨110, _⟩ => ⟨S8192x1024, .bf16⟩
  | .hbm, ⟨111, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x1024 : Shape := ⟨2, ![8, 1024]⟩
abbrev S256x1024 : Shape := ⟨2, ![256, 1024]⟩
abbrev S256x2816 : Shape := ⟨2, ![256, 2816]⟩
abbrev S3x8 : Shape := ⟨2, ![3, 8]⟩
abbrev S1x1 : Shape := ⟨2, ![1, 1]⟩
abbrev S352x1024 : Shape := ⟨2, ![352, 1024]⟩
abbrev S1x352x1024 : Shape := ⟨3, ![1, 352, 1024]⟩
abbrev S512x1024 : Shape := ⟨2, ![512, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S32x8x1024 : Shape := ⟨3, ![32, 8, 1024]⟩

abbrev nBuf : Space → Nat
  | .hbm => 41
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S2816x1024, .f32⟩
  | .hbm, ⟨7, _⟩ => ⟨S8x352x1024, .f32⟩
  | .hbm, ⟨8, _⟩ => ⟨S2816x1024, .f32⟩
  | .hbm, ⟨9, _⟩ => ⟨S8x352x1024, .f32⟩
  | .hbm, ⟨10, _⟩ => ⟨S8x352x1024, .f32⟩
  | .hbm, ⟨11, _⟩ => ⟨S8x1056x1024, .f32⟩
  | .hbm, ⟨12, _⟩ => ⟨S8x1056x1024, .bf16⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x2816, .f32⟩
  | .hbm, ⟨31, _⟩ => ⟨S8192x2816, .bf16⟩
  | .hbm, ⟨32, _⟩ => ⟨S8192x2816, .f32⟩
  | .hbm, ⟨33, _⟩ => ⟨S8192x2816, .bf16⟩
  | .hbm, ⟨34, _⟩ => ⟨S8192x1024, .f32⟩
  | .hbm, ⟨35, _⟩ => ⟨S8192x2816, .bf16⟩
  | .hbm, ⟨36, _⟩ => ⟨S8192x2816, .bf16⟩
  | .hbm, ⟨37, _⟩ => ⟨S8192x2816, .bf16⟩
  | .hbm, ⟨38, _⟩ => ⟨S8x1024, .f32⟩
  | .hbm, ⟨39, _⟩ => ⟨S_, .f32⟩
  | .hbm, ⟨40, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S8x1024, .f32⟩
  | .local _ .vmem, ⟨18, _⟩ => ⟨S2816x1024, .bf16⟩
  | .local _ .vmem, ⟨19, _⟩ => ⟨S2816x1024, .bf16⟩
  | .local _ .vmem, ⟨20, _⟩ => ⟨S2816x1024, .bf16⟩
  | .local _ .vmem, ⟨21, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_cst_2 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 146
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2816, .f32⟩
  | 27 => ⟨S8192x2816, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S8192x1024, .f32⟩
  | 70 => ⟨S_, .f32⟩
  | 71 => ⟨S8192, .f32⟩
  | 72 => ⟨S8192x1, .f32⟩
  | 73 => ⟨S8192x1024, .f32⟩
  | 74 => ⟨S8192x1024, .f32⟩
  | 75 => ⟨S8192x1024, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S8192x2816, .f32⟩
  | 104 => ⟨S8192x2816, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .f32⟩
  | 5 => ⟨S8192x2816, .bf16⟩
  | 6 => ⟨S8192x2816, .bf16⟩
  | 7 => ⟨S8192x2816, .f32⟩
  | 8 => ⟨S8192x2816, .f32⟩
  | 9 => ⟨S_, .f32⟩
  | 10 => ⟨S8192x2816, .f32⟩
  | 11 => ⟨S8192x2816, .f32⟩
  | 12 => ⟨S_, .f32⟩
  | 13 => ⟨S8192x2816, .f32⟩
  | 14 => ⟨S8192x2816, .f32⟩
  | 15 => ⟨S8192x2816, .f32⟩
  | 16 => ⟨S8192x2816, .f32⟩
  | 17 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩

abbrev nD : Nat := 1
abbrev τ : Topo := Topo.v7x

variable {F : FTy → Type} [FloatOps F]
-- ==== Kernel5.lean ====
abbrev S8192x1024 : Shape := ⟨2, ![8192, 1024]⟩
abbrev S8192x5120 : Shape := ⟨2, ![8192, 5120]⟩
abbrev S4x256x256 : Shape := ⟨3, ![4, 256, 256]⟩
abbrev S1024 : Shape := ⟨1, ![1024]⟩
abbrev S1024x1024 : Shape := ⟨2, ![1024, 1024]⟩
abbrev S8x128x1024 : Shape := ⟨3, ![8, 128, 1024]⟩
abbrev S_ : Shape := ⟨0, ![]⟩
abbrev S8x192x1024 : Shape := ⟨3, ![8, 192, 1024]⟩
abbrev S8x448x1024 : Shape := ⟨3, ![8, 448, 1024]⟩
abbrev S8192x4x256 : Shape := ⟨3, ![8192, 4, 256]⟩
abbrev S4x256x8192 : Shape := ⟨3, ![4, 256, 8192]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8x1024 : Shape := ⟨2, ![8, 1024]⟩
abbrev S256x1024 : Shape := ⟨2, ![256, 1024]⟩
abbrev S256x2048 : Shape := ⟨2, ![256, 2048]⟩
abbrev S2x8 : Shape := ⟨2, ![2, 8]⟩
abbrev S1x1 : Shape := ⟨2, ![1, 1]⟩
abbrev S128x1024 : Shape := ⟨2, ![128, 1024]⟩
abbrev S1x128x1024 : Shape := ⟨3, ![1, 128, 1024]⟩
abbrev S32x8x1024 : Shape := ⟨3, ![32, 8, 1024]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 85
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5120, .f32⟩
  | .hbm, ⟨3, _⟩ => ⟨S4x256x256, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S8x128x1024, .f32⟩
  | .hbm, ⟨11, _⟩ => ⟨S8x128x1024, .f32⟩
  | .hbm, ⟨12, _⟩ => ⟨S_, .f32⟩
  | .hbm, ⟨13, _⟩ => ⟨S8x192x1024, .f32⟩
  | .hbm, ⟨14, _⟩ => ⟨S8x448x1024, .f32⟩
  | .hbm, ⟨15, _⟩ => ⟨S8x448x1024, .bf16⟩
  | .hbm, ⟨16, _⟩ => ⟨S8192x4x256, .f32⟩
  | .hbm, ⟨17, _⟩ => ⟨S4x256x8192, .f32⟩
  | .hbm, ⟨18, _⟩ => ⟨S8192x4x256, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x5120, .bf16⟩
  | .hbm, ⟨60, _⟩ => ⟨S8192x1024, .bf16⟩
  | .hbm, ⟨61, _⟩ => ⟨S8192x1024, .bf16⟩
  | .hbm, ⟨62, _⟩ => ⟨S4x256x256, .bf16⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S8192x1024, .bf16⟩
  | .hbm, ⟨67, _⟩ => ⟨S8192x1024, .bf16⟩
  | .hbm, ⟨68, _⟩ => ⟨S8192x1024, .bf16⟩
  | .hbm, ⟨69, _⟩ => ⟨S8192x1024, .bf16⟩
  | .hbm, ⟨70, _⟩ => ⟨S8192x1024, .bf16⟩
  | .hbm, ⟨71, _⟩ => ⟨S8192x1024, .bf16⟩
  | .hbm, ⟨72, _⟩ => ⟨S8192x2048, .bf16⟩
  | .hbm, ⟨73, _⟩ => ⟨S8x1024, .f32⟩
  | .hbm, ⟨74, _⟩ => ⟨S8x1024, .f32⟩
  | .hbm, ⟨75, _⟩ => ⟨S8x1024, .f32⟩
  | .hbm, ⟨76, _⟩ => ⟨S8x1024, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S_, .f32⟩
  | .hbm, ⟨84, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S4x256x256, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x2048, .bf16⟩
  | .local _ .vmem, ⟨29, _⟩ => ⟨S256x2048, .bf16⟩
  | .local _ .vmem, ⟨30, _⟩ => ⟨S8x1024, .f32⟩
  | .local _ .vmem, ⟨31, _⟩ => ⟨S8x1024, .f32⟩
  | .local _ .vmem, ⟨32, _⟩ => ⟨S8x1024, .f32⟩
  | .local _ .vmem, ⟨33, _⟩ => ⟨S8x1024, .f32⟩
  | .local _ .vmem, ⟨34, _⟩ => ⟨S1024x1024, .bf16⟩
  | .local _ .vmem, ⟨35, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42_0 : Ref sig .tc := ⟨.hbm, 66, rfl⟩
abbrev main_v42_1 : Ref sig .tc := ⟨.hbm, 67, rfl⟩
abbrev main_v42_2 : Ref sig .tc := ⟨.hbm, 68, rfl⟩
abbrev main_v42_3 : Ref sig .tc := ⟨.hbm, 69, rfl⟩
abbrev main_v42_4 : Ref sig .tc := ⟨.hbm, 70, rfl⟩
abbrev main_v42_5 : Ref sig .tc := ⟨.hbm, 71, rfl⟩
abbrev main_v42_6 : Ref sig .tc := ⟨.hbm, 72, rfl⟩
abbrev main_v42_7 : Ref sig .tc := ⟨.hbm, 73, rfl⟩
abbrev main_v42_8 : Ref sig .tc := ⟨.hbm, 74, rfl⟩
abbrev main_v42_9 : Ref sig .tc := ⟨.hbm, 75, rfl⟩
abbrev main_v42_10 : Ref sig .tc := ⟨.hbm, 76, rfl⟩
abbrev main_cst_5 : Ref sig .tc := ⟨.hbm, 77, rfl⟩
abbrev main_v43 : Ref sig .tc := ⟨.hbm, 78, rfl⟩
abbrev main_cst_6 : Ref sig .tc := ⟨.hbm, 79, rfl⟩
abbrev main_v44 : Ref sig .tc := ⟨.hbm, 80, rfl⟩
abbrev main_cst_7 : Ref sig .tc := ⟨.hbm, 81, rfl⟩
abbrev main_v45 : Ref sig .tc := ⟨.hbm, 82, rfl⟩
abbrev main_cst_8 : Ref sig .tc := ⟨.hbm, 83, rfl⟩
abbrev main_v46 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32
abbrev cc0_sem20_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference5Ideal.lean ====
abbrev S8192x1024 : Shape := ⟨2, ![8192, 1024]⟩
abbrev S8192x5120 : Shape := ⟨2, ![8192, 5120]⟩
abbrev S4x256x256 : Shape := ⟨3, ![4, 256, 256]⟩
abbrev S1024 : Shape := ⟨1, ![1024]⟩
abbrev S1024x1024 : Shape := ⟨2, ![1024, 1024]⟩
abbrev S8192x2048 : Shape := ⟨2, ![8192, 2048]⟩
abbrev S_ : Shape := ⟨0, ![]⟩
abbrev S8192x4x256 : Shape := ⟨3, ![8192, 4, 256]⟩
abbrev S4x256x8192 : Shape := ⟨3, ![4, 256, 8192]⟩
abbrev S1x1024 : Shape := ⟨2, ![1, 1024]⟩
abbrev S8192 : Shape := ⟨1, ![8192]⟩
abbrev S8192x1 : Shape := ⟨2, ![8192, 1]⟩
abbrev S4x8192x256 : Shape := ⟨3, ![4, 8192, 256]⟩

abbrev nBuf : Space → Nat
  | .hbm => 259
  | .vmem => 0
  | .smem => 0
  | _ => 0

abbrev hbmTy0_0 (i : Nat) : BufTy := match i % 128 with
  | 0 => ⟨S8192x1024, .f32⟩
  | 1 => ⟨S8192x1024, .f32⟩
  | 2 => ⟨S8192x5120, .f32⟩
  | 3 => ⟨S4x256x256, .f32⟩
  | 4 => ⟨S1024, .f32⟩
  | 5 => ⟨S1024, .f32⟩
  | 6 => ⟨S1024, .f32⟩
  | 7 => ⟨S1024x1024, .f32⟩
  | 8 => ⟨S1024x1024, .f32⟩
  | 9 => ⟨S8192x1024, .f32⟩
  | 10 => ⟨S8192x2048, .f32⟩
  | 11 => ⟨S_, .f32⟩
  | 12 => ⟨S1024, .f32⟩
  | 13 => ⟨S8192x4x256, .f32⟩
  | 14 => ⟨S4x256x8192, .f32⟩
  | 15 => ⟨S8192x4x256, .f32⟩
  | 16 => ⟨S8192x1024, .f32⟩
  | 17 => ⟨S1x1024, .f32⟩
  | 18 => ⟨S8192x1024, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S_, .f32⟩
  | 41 => ⟨S8192x1, .f32⟩
  | 42 => ⟨S8192x1, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S8192x1024, .f32⟩
  | 83 => ⟨S1x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S_, .f32⟩
  | 108 => ⟨S8192x2048, .f32⟩
  | 109 => ⟨S8192x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S1024, .f32⟩
  | 119 => ⟨S8192x1024, .f32⟩
  | 120 => ⟨S_, .f32⟩
  | 121 => ⟨S8192x2048, .f32⟩
  | 122 => ⟨S8192x2048, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S_, .f32⟩
  | 4 => ⟨S1024, .f32⟩
  | 5 => ⟨S8192x1024, .f32⟩
  | 6 => ⟨S_, .f32⟩
  | 7 => ⟨S1024, .f32⟩
  | 8 => ⟨S1x1024, .f32⟩
  | 9 => ⟨S8192x1024, .f32⟩
  | 10 => ⟨S8192x1024, .f32⟩
  | 11 => ⟨S_, .f32⟩
  | 12 => ⟨S1024, .f32⟩
  | 13 => ⟨S8192x1024, .f32⟩
  | 14 => ⟨S_, .f32⟩
  | 15 => ⟨S8192, .f32⟩
  | 16 => ⟨S8192x1, .f32⟩
  | 17 => ⟨S8192x1024, .f32⟩
  | 18 => ⟨S8192x1024, .f32⟩
  | 19 => ⟨S8192x1, .f32⟩
  | 20 => ⟨S8192x1024, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192, .f32⟩
  | 29 => ⟨S8192x1024, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S8192x1024, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192, .f32⟩
  | 42 => ⟨S8192x1024, .f32⟩
  | 43 => ⟨S8192x1024, .f32⟩
  | 44 => ⟨S8192x4x256, .f32⟩
  | 45 => ⟨S4x256x8192, .f32⟩
  | 46 => ⟨S4x8192x256, .f32⟩
  | 47 => ⟨S8192x4x256, .f32⟩
  | 48 => ⟨S8192x1024, .f32⟩
  | 49 => ⟨S_, .f32⟩
  | 50 => ⟨S1024, .f32⟩
  | 51 => ⟨S8192x4x256, .f32⟩
  | 52 => ⟨S4x256x8192, .f32⟩
  | 53 => ⟨S8192x4x256, .f32⟩
  | 54 => ⟨S8192x1024, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S8192x1024, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S8192x1024, .f32⟩
  | 71 => ⟨S8192x1024, .f32⟩
  | 72 => ⟨S_, .f32⟩
  | 73 => ⟨S8192x1, .f32⟩
  | 74 => ⟨S8192x1, .f32⟩
  | 75 => ⟨S8192x1, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S1x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S8192x1024, .f32⟩
  | 117 => ⟨S8192x1024, .f32⟩
  | 118 => ⟨S1024x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x1024, .bf16⟩
  | 125 => ⟨S8192x1024, .bf16⟩
  | 126 => ⟨S8192x1024, .bf16⟩
  | 127 => ⟨S8192x1024, .bf16⟩
  | _ => ⟨S8192x1024, .f32⟩

abbrev hbmTy0_2 (i : Nat) : BufTy := match i % 128 with
  | 0 => ⟨S8192x1024, .bf16⟩
  | 1 => ⟨S8192x1024, .bf16⟩
  | 2 => ⟨S8192x2048, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v38_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v38_1 : Ref sig .tc := ⟨.hbm, 67, rfl⟩
abbrev main_v38_0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_14 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_v84 : Ref sig .tc := ⟨.hbm, 127, rfl⟩
abbrev main_cst_17 : Ref sig .tc := ⟨.hbm, 128, rfl⟩
abbrev main_v85 : Ref sig .tc := ⟨.hbm, 129, rfl⟩
abbrev main_v86 : Ref sig .tc := ⟨.hbm, 130, rfl⟩
abbrev main_cst_18 : Ref sig .tc := ⟨.hbm, 131, rfl⟩
abbrev main_v87 : Ref sig .tc := ⟨.hbm, 132, rfl⟩
abbrev main_v88 : Ref sig .tc := ⟨.hbm, 133, rfl⟩
abbrev main_cst_19 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_20 : Ref sig .tc := ⟨.hbm, 139, rfl⟩
abbrev main_v93 : Ref sig .tc := ⟨.hbm, 140, rfl⟩
abbrev main_v94 : Ref sig .tc := ⟨.hbm, 141, rfl⟩
abbrev main_cst_21 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_22 : Ref sig .tc := ⟨.hbm, 149, rfl⟩
abbrev main_v101 : Ref sig .tc := ⟨.hbm, 150, rfl⟩
abbrev main_v102 : Ref sig .tc := ⟨.hbm, 151, rfl⟩
abbrev main_cst_23 : Ref sig .tc := ⟨.hbm, 152, rfl⟩
abbrev main_v103 : Ref sig .tc := ⟨.hbm, 153, rfl⟩
abbrev main_v104 : Ref sig .tc := ⟨.hbm, 154, rfl⟩
abbrev main_cst_24 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_25 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_26 : Ref sig .tc := ⟨.hbm, 165, rfl⟩
abbrev main_v113 : Ref sig .tc := ⟨.hbm, 166, rfl⟩
abbrev main_v114 : Ref sig .tc := ⟨.hbm, 167, rfl⟩
abbrev main_cst_27 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_28 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_29 : Ref sig .tc := ⟨.hbm, 183, rfl⟩
abbrev main_v128 : Ref sig .tc := ⟨.hbm, 184, rfl⟩
abbrev main_v129 : Ref sig .tc := ⟨.hbm, 185, rfl⟩
abbrev main_cst_30 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_31 : Ref sig .tc := ⟨.hbm, 192, rfl⟩
abbrev main_v135 : Ref sig .tc := ⟨.hbm, 193, rfl⟩
abbrev main_v136 : Ref sig .tc := ⟨.hbm, 194, rfl⟩
abbrev main_cst_32 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_33 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_call2_v0 : Ref sig .tc := ⟨.hbm, 212, rfl⟩
abbrev main_call2_v1 : Ref sig .tc := ⟨.hbm, 213, rfl⟩
abbrev main_call2_cst : Ref sig .tc := ⟨.hbm, 214, rfl⟩
abbrev main_call2_v2 : Ref sig .tc := ⟨.hbm, 215, rfl⟩
abbrev main_call2_v3 : Ref sig .tc := ⟨.hbm, 216, rfl⟩
abbrev main_call2_cst_0 : Ref sig .tc := ⟨.hbm, 217, rfl⟩
abbrev main_call2_v4 : Ref sig .tc := ⟨.hbm, 218, rfl⟩
abbrev main_call2_v5 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_cst_34 : Ref sig .tc := ⟨.hbm, 225, rfl⟩
abbrev main_v157 : Ref sig .tc := ⟨.hbm, 226, rfl⟩
abbrev main_v158 : Ref sig .tc := ⟨.hbm, 227, rfl⟩
abbrev main_cst_35 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_cst_36 : Ref sig .tc := ⟨.hbm, 238, rfl⟩
abbrev main_v168 : Ref sig .tc := ⟨.hbm, 239, rfl⟩
abbrev main_v169 : Ref sig .tc := ⟨.hbm, 240, rfl⟩
abbrev main_cst_37 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩

abbrev nD : Nat := 1
abbrev τ : Topo := Topo.v7x

variable {F : FTy → Type} [FloatOps F]
-- ==== Kernel6.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8x256x1024 : Shape := ⟨3, ![8, 256, 1024]⟩
abbrev S8x128x1024 : Shape := ⟨3, ![8, 128, 1024]⟩
abbrev S8x64x1024 : Shape := ⟨3, ![8, 64, 1024]⟩
abbrev S8x448x1024 : Shape := ⟨3, ![8, 448, 1024]⟩
abbrev S1x1024 : Shape := ⟨2, ![1, 1024]⟩
abbrev S1024x256 : Shape := ⟨2, ![1024, 256]⟩
abbrev S8x1024 : Shape := ⟨2, ![8, 1024]⟩
abbrev S512x1024 : Shape := ⟨2, ![512, 1024]⟩
abbrev S512x256 : Shape := ⟨2, ![512, 256]⟩
abbrev S1x8 : Shape := ⟨2, ![1, 8]⟩
abbrev S1x1 : Shape := ⟨2, ![1, 1]⟩
abbrev S128x1024 : Shape := ⟨2, ![128, 1024]⟩
abbrev S1x128x1024 : Shape := ⟨3, ![1, 128, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 34
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S1024, .f32⟩
  | .hbm, ⟨7, _⟩ => ⟨S_, .f32⟩
  | .hbm, ⟨8, _⟩ => ⟨S8x256x1024, .f32⟩
  | .hbm, ⟨9, _⟩ => ⟨S8x128x1024, .f32⟩
  | .hbm, ⟨10, _⟩ => ⟨S_, .f32⟩
  | .hbm, ⟨11, _⟩ => ⟨S8x64x1024, .f32⟩
  | .hbm, ⟨12, _⟩ => ⟨S8x448x1024, .f32⟩
  | .hbm, ⟨13, _⟩ => ⟨S1x1024, .f32⟩
  | .hbm, ⟨14, _⟩ => ⟨S1024x256, .f32⟩
  | .hbm, ⟨15, _⟩ => ⟨S1024x256, .bf16⟩
  | .hbm, ⟨16, _⟩ => ⟨S8x448x1024, .bf16⟩
  | .hbm, ⟨17, _⟩ => ⟨S1x1024, .f32⟩
  | .hbm, ⟨18, _⟩ => ⟨S8192x1024, .f32⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x256, .bf16⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x256, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x256, .bf16⟩
  | .local _ .vmem, ⟨18, _⟩ => ⟨S512x256, .bf16⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v9_6 : Ref sig .tc := ⟨.hbm, 24, rfl⟩
abbrev main_v9_7 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 241
  | .vmem => 0
  | .smem => 0
  | _ => 0

abbrev hbmTy0_0 (i : Nat) : BufTy := match i % 128 with
  | 0 => ⟨S8192x1024, .f32⟩
  | 1 => ⟨S8192x256, .f32⟩
  | 2 => ⟨S1024, .f32⟩
  | 3 => ⟨S1024x1024, .f32⟩
  | 4 => ⟨S256x1024, .f32⟩
  | 5 => ⟨S8192x1024, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192, .f32⟩
  | 70 => ⟨S_, .f32⟩
  | 71 => ⟨S8192, .f32⟩
  | 72 => ⟨S8192, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S8192, .f32⟩
  | 81 => ⟨S_, .f32⟩
  | 82 => ⟨S8192, .f32⟩
  | 83 => ⟨S8192, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S8192x1024, .f32⟩
  | 91 => ⟨S8192x1024, .f32⟩
  | 92 => ⟨S_, .f32⟩
  | 93 => ⟨S1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192, .f32⟩
  | 71 => ⟨S_, .f32⟩
  | 72 => ⟨S8192, .f32⟩
  | 73 => ⟨S8192, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S8192, .f32⟩
  | 82 => ⟨S_, .f32⟩
  | 83 => ⟨S8192, .f32⟩
  | 84 => ⟨S8192, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S8192, .f32⟩
  | 92 => ⟨S8192x1, .f32⟩
  | 93 => ⟨S8192x1024, .f32⟩
  | 94 => ⟨S8192x1024, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .bf16⟩
  | 110 => ⟨S8192x1024, .bf16⟩
  | 111 => ⟨S8192x1024, .bf16⟩
  | 112 => ⟨S8192x256, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_cst_15 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_21 : Ref sig .tc := ⟨.hbm, 101, rfl⟩
abbrev main_v72 : Ref sig .tc := ⟨.hbm, 102, rfl⟩
abbrev main_v73 : Ref sig .tc := ⟨.hbm, 103, rfl⟩
abbrev main_cst_22 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_23 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_24 : Ref sig .tc := ⟨.hbm, 120, rfl⟩
abbrev main_v88 : Ref sig .tc := ⟨.hbm, 121, rfl⟩
abbrev main_v89 : Ref sig .tc := ⟨.hbm, 122, rfl⟩
abbrev main_cst_25 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_26 : Ref sig .tc := ⟨.hbm, 130, rfl⟩
abbrev main_v96 : Ref sig .tc := ⟨.hbm, 131, rfl⟩
abbrev main_v97 : Ref sig .tc := ⟨.hbm, 132, rfl⟩
abbrev main_cst_27 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_28 : Ref sig .tc := ⟨.hbm, 141, rfl⟩
abbrev main_v105 : Ref sig .tc := ⟨.hbm, 142, rfl⟩
abbrev main_v106 : Ref sig .tc := ⟨.hbm, 143, rfl⟩
abbrev main_cst_29 : Ref sig .tc := ⟨.hbm, 144, rfl⟩
abbrev main_v107 : Ref sig .tc := ⟨.hbm, 145, rfl⟩
abbrev main_v108 : Ref sig .tc := ⟨.hbm, 146, rfl⟩
abbrev main_cst_30 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_31 : Ref sig .tc := ⟨.hbm, 160, rfl⟩
abbrev main_v121 : Ref sig .tc := ⟨.hbm, 161, rfl⟩
abbrev main_v122 : Ref sig .tc := ⟨.hbm, 162, rfl⟩
abbrev main_cst_32 : Ref sig .tc := ⟨.hbm, 163, rfl⟩
abbrev main_v123 : Ref sig .tc := ⟨.hbm, 164, rfl⟩
abbrev main_v124 : Ref sig .tc := ⟨.hbm, 165, rfl⟩
abbrev main_cst_33 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_34 : Ref sig .tc := ⟨.hbm, 173, rfl⟩
abbrev main_v131 : Ref sig .tc := ⟨.hbm, 174, rfl⟩
abbrev main_v132 : Ref sig .tc := ⟨.hbm, 175, rfl⟩
abbrev main_cst_35 : Ref sig .tc := ⟨.hbm, 176, rfl⟩
abbrev main_v133 : Ref sig .tc := ⟨.hbm, 177, rfl⟩
abbrev main_v134 : Ref sig .tc := ⟨.hbm, 178, rfl⟩
abbrev main_cst_36 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_37 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_38 : Ref sig .tc := ⟨.hbm, 194, rfl⟩
abbrev main_v148 : Ref sig .tc := ⟨.hbm, 195, rfl⟩
abbrev main_v149 : Ref sig .tc := ⟨.hbm, 196, rfl⟩
abbrev main_cst_39 : Ref sig .tc := ⟨.hbm, 197, rfl⟩
abbrev main_v150 : Ref sig .tc := ⟨.hbm, 198, rfl⟩
abbrev main_cst_40 : Ref sig .tc := ⟨.hbm, 199, rfl⟩
abbrev main_v151 : Ref sig .tc := ⟨.hbm, 200, rfl⟩
abbrev main_v152 : Ref sig .tc := ⟨.hbm, 201, rfl⟩
abbrev main_cst_41 : Ref sig .tc := ⟨.hbm, 202, rfl⟩
abbrev main_v153 : Ref sig .tc := ⟨.hbm, 203, rfl⟩
abbrev main_cst_42 : Ref sig .tc := ⟨.hbm, 204, rfl⟩
abbrev main_v154 : Ref sig .tc := ⟨.hbm, 205, rfl⟩
abbrev main_cst_43 : Ref sig .tc := ⟨.hbm, 206, rfl⟩
abbrev main_cst_44 : Ref sig .tc := ⟨.hbm, 207, rfl⟩
abbrev main_v155 : Ref sig .tc := ⟨.hbm, 208, rfl⟩
abbrev main_v156 : Ref sig .tc := ⟨.hbm, 209, rfl⟩
abbrev main_cst_45 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_cst_46 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_cst_47 : Ref sig .tc := ⟨.hbm, 224, rfl⟩
abbrev main_v169 : Ref sig .tc := ⟨.hbm, 225, rfl⟩
abbrev main_v170 : Ref sig .tc := ⟨.hbm, 226, rfl⟩
abbrev main_cst_48 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S3x8 : Shape := ⟨2, ![3, 8]⟩
abbrev S1x1 : Shape := ⟨2, ![1, 1]⟩
abbrev S_ : Shape := ⟨0, ![]⟩
abbrev S352x1024 : Shape := ⟨2, ![352, 1024]⟩
abbrev S1x352x1024 : Shape := ⟨3, ![1, 352, 1024]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x512 : Shape := ⟨2, ![512, 512]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S8x352x1024, .f32⟩
  | .hbm, ⟨7, _⟩ => ⟨S2816x1024, .f32⟩
  | .hbm, ⟨8, _⟩ => ⟨S8x352x1024, .f32⟩
  | .hbm, ⟨9, _⟩ => ⟨S8x352x1024, .f32⟩
  | .hbm, ⟨10, _⟩ => ⟨S8x1056x1024, .f32⟩
  | .hbm, ⟨11, _⟩ => ⟨S8x1056x1024, .bf16⟩
  | .hbm, ⟨12, _⟩ => ⟨S1x1024, .f32⟩
  | .hbm, ⟨13, _⟩ => ⟨S8192x1024, .f32⟩
  | .hbm, ⟨14, _⟩ => ⟨S8192x2816, .bf16⟩
  | .hbm, ⟨15, _⟩ => ⟨S8192x2816, .bf16⟩
  | .hbm, ⟨16, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x1024, .bf16⟩
  | .local _ .vmem, ⟨10, _⟩ => ⟨S512x1024, .bf16⟩
  | .local _ .vmem, ⟨11, _⟩ => ⟨S2816x1024, .bf16⟩
  | .local _ .vmem, ⟨12, _⟩ => ⟨S2816x1024, .bf16⟩
  | .local _ .vmem, ⟨13, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2816, .bf16⟩
  | .hbm, ⟨39, _⟩ => ⟨S8192x2816, .bf16⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Kernel8.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8x256x1024 : Shape := ⟨3, ![8, 256, 1024]⟩
abbrev S8x128x1024 : Shape := ⟨3, ![8, 128, 1024]⟩
abbrev S8x64x1024 : Shape := ⟨3, ![8, 64, 1024]⟩
abbrev S8x448x1024 : Shape := ⟨3, ![8, 448, 1024]⟩
abbrev S1x1024 : Shape := ⟨2, ![1, 1024]⟩
abbrev S1024x256 : Shape := ⟨2, ![1024, 256]⟩
abbrev S512x1024 : Shape := ⟨2, ![512, 1024]⟩
abbrev S512x256 : Shape := ⟨2, ![512, 256]⟩
abbrev S1x8 : Shape := ⟨2, ![1, 8]⟩
abbrev S1x1 : Shape := ⟨2, ![1, 1]⟩
abbrev S128x1024 : Shape := ⟨2, ![128, 1024]⟩
abbrev S1x128x1024 : Shape := ⟨3, ![1, 128, 1024]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S_, .f32⟩
  | .hbm, ⟨6, _⟩ => ⟨S8x256x1024, .f32⟩
  | .hbm, ⟨7, _⟩ => ⟨S8x128x1024, .f32⟩
  | .hbm, ⟨8, _⟩ => ⟨S_, .f32⟩
  | .hbm, ⟨9, _⟩ => ⟨S8x64x1024, .f32⟩
  | .hbm, ⟨10, _⟩ => ⟨S8x448x1024, .f32⟩
  | .hbm, ⟨11, _⟩ => ⟨S8x448x1024, .bf16⟩
  | .hbm, ⟨12, _⟩ => ⟨S1x1024, .f32⟩
  | .hbm, ⟨13, _⟩ => ⟨S1024x256, .f32⟩
  | .hbm, ⟨14, _⟩ => ⟨S1024x256, .bf16⟩
  | .hbm, ⟨15, _⟩ => ⟨S8192x1024, .f32⟩
  | .hbm, ⟨16, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x256, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x5120 : Shape := ⟨2, ![1024, 5120]⟩
abbrev S5120x1024 : Shape := ⟨2, ![5120, 1024]⟩
abbrev S8x640x1024 : Shape := ⟨3, ![8, 640, 1024]⟩
abbrev S1x1024 : Shape := ⟨2, ![1, 1024]⟩
abbrev S8192x5120 : Shape := ⟨2, ![8192, 5120]⟩
abbrev S512x1024 : Shape := ⟨2, ![512, 1024]⟩
abbrev S512x5120 : Shape := ⟨2, ![512, 5120]⟩
abbrev S1x8 : Shape := ⟨2, ![1, 8]⟩
abbrev S1x1 : Shape := ⟨2, ![1, 1]⟩
abbrev S_ : Shape := ⟨0, ![]⟩
abbrev S640x1024 : Shape := ⟨2, ![640, 1024]⟩
abbrev S1x640x1024 : Shape := ⟨3, ![1, 640, 1024]⟩
abbrev S512 : Shape := ⟨1, ![512]⟩
abbrev S512x1 : Shape := ⟨2, ![512, 1]⟩
abbrev S1280x1024 : Shape := ⟨2, ![1280, 1024]⟩
abbrev S512x1280 : Shape := ⟨2, ![512, 1280]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S5120x1024, .f32⟩
  | .hbm, ⟨4, _⟩ => ⟨S8x640x1024, .f32⟩
  | .hbm, ⟨5, _⟩ => ⟨S8x640x1024, .bf16⟩
  | .hbm, ⟨6, _⟩ => ⟨S1x1024, .f32⟩
  | .hbm, ⟨7, _⟩ => ⟨S8192x5120, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x5120, .bf16⟩
  | .local _ .vmem, ⟨4, _⟩ => ⟨S512x5120, .bf16⟩
  | .local _ .vmem, ⟨5, _⟩ => ⟨S5120x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x1024 : Shape := ⟨2, ![8192, 1024]⟩
abbrev S1024 : Shape := ⟨1, ![1024]⟩
abbrev S1024x5120 : Shape := ⟨2, ![1024, 5120]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5120 : Shape := ⟨2, ![8192, 5120]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5120, .f32⟩
  | .hbm, ⟨20, _⟩ => ⟨S8192x5120, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Entries.lean ====
module
public import Idealize.ShloMosaic.Lib.Pipeline.Value
public import Idealize.ShloMosaic.Lib.Pointwise
@[expose] public section
namespace Cert.Entries
open Idealize.ShloMosaic

/-!
  Entries of matrices and of stacks of matrices by number, zero outside, and what the operations of the programs do to
  them.
-/

/-- The entry at row `r` and column `c` of a matrix, zero outside. -/
noncomputable def at2 {m n : ℕ} (x : (⟨2, ![m, n]⟩ : Shape).Idx → EReal) (r c : ℕ) : EReal :=
  if h : r < m ∧ c < n then x (ix2 ⟨r, h.1⟩ ⟨c, h.2⟩) else 0

/-- The entry at layer `l`, row `r` and column `c` of a stack, zero outside. -/
noncomputable def at3 {k m n : ℕ} (x : (⟨3, ![k, m, n]⟩ : Shape).Idx → EReal) (l r c : ℕ) : EReal :=
  if h : l < k ∧ r < m ∧ c < n then x (ix3 ⟨l, h.1⟩ ⟨r, h.2.1⟩ ⟨c, h.2.2⟩) else 0

section
variable {m n k : ℕ}

theorem at2_of {x : (⟨2, ![m, n]⟩ : Shape).Idx → EReal} {r c : ℕ} (hr : r < m) (hc : c < n) :
    at2 x r c = x (ix2 ⟨r, hr⟩ ⟨c, hc⟩) := dif_pos ⟨hr, hc⟩

theorem at2_out {x : (⟨2, ![m, n]⟩ : Shape).Idx → EReal} {r c : ℕ} (h : m ≤ r ∨ n ≤ c) : at2 x r c = 0 :=
  dif_neg (by omega)

theorem at3_of {x : (⟨3, ![k, m, n]⟩ : Shape).Idx → EReal} {l r c : ℕ} (hl : l < k) (hr : r < m) (hc : c < n) :
    at3 x l r c = x (ix3 ⟨l, hl⟩ ⟨r, hr⟩ ⟨c, hc⟩) := dif_pos ⟨hl, hr, hc⟩

/-- A matrix is its entries. -/
theorem eq_at2 (x : (⟨2, ![m, n]⟩ : Shape).Idx → EReal) (j : (⟨2, ![m, n]⟩ : Shape).Idx) :
    x j = at2 x (j 0 : ℕ) (j 1 : ℕ) :=
  (congrArg x (eq_ix2 j)).trans (at2_of (m := m) (n := n) (j 0).isLt (j 1).isLt).symm

/-- Two matrices with the same entries are the same. -/
theorem ext2 {x y : (⟨2, ![m, n]⟩ : Shape).Idx → EReal} (h : ∀ r c, r < m → c < n → at2 x r c = at2 y r c) : x = y :=
  funext fun j => by rw [eq_at2 x, eq_at2 y]; exact h _ _ (j 0).isLt (j 1).isLt

theorem at2_mulf {φ : FTy} (x y : FVec Ideal ⟨2, ![m, n]⟩ φ) (r c : ℕ) : at2 (mulf x y) r c = at2 x r c * at2 y r c := by
  unfold at2
  split
  · rfl
  · exact (mul_zero _).symm

theorem at2_addf {φ : FTy} (x y : FVec Ideal ⟨2, ![m, n]⟩ φ) (r c : ℕ) : at2 (addf x y) r c = at2 x r c + at2 y r c := by
  unfold at2
  split
  · rfl
  · exact (add_zero _).symm

theorem at2_subf {φ : FTy} (x y : FVec Ideal ⟨2, ![m, n]⟩ φ) (r c : ℕ) : at2 (subf x y) r c = at2 x r c - at2 y r c := by
  unfold at2
  split
  · rfl
  · exact (sub_zero _).symm

theorem at2_extf {φ ψ : FTy} (x : FVec Ideal ⟨2, ![m, n]⟩ φ) (h) (r c : ℕ) : at2 (extf ψ x h) r c = at2 x r c := rfl

theorem at2_truncf {φ ψ : FTy} (x : FVec Ideal ⟨2, ![m, n]⟩ φ) (h) (r c : ℕ) : at2 (truncf ψ x h) r c = at2 x r c := rfl

theorem at2_broadcast {x : EReal} {r c : ℕ} (hr : r < m) (hc : c < n) :
    at2 (broadcast (⟨2, ![m, n]⟩ : Shape) x) r c = x := by rw [at2_of hr hc]; rfl

theorem at2_logistic {φ : FTy} (x : FVec Ideal ⟨2, ![m, n]⟩ φ) {r c : ℕ} (hr : r < m) (hc : c < n) :
    at2 (logistic x) r c = Ideal.logistic (at2 x r c) := by rw [at2_of hr hc, at2_of hr hc]; rfl

theorem at2_cast (x : (⟨2, ![m, n]⟩ : Shape).Idx → EReal) (h) (r c : ℕ) :
    at2 (shapeCast (⟨2, ![m, n]⟩ : Shape) x h) r c = at2 x r c := by rw [shapeCast_self]

theorem at2_extf_cast {φ ψ : FTy} (x : FVec Ideal ⟨2, ![m, n]⟩ φ) (h h') (r c : ℕ) :
    at2 (extf ψ (shapeCast (⟨2, ![m, n]⟩ : Shape) x h : FVec Ideal ⟨2, ![m, n]⟩ φ) h' : FVec Ideal ⟨2, ![m, n]⟩ ψ) r c = at2 x r c :=
  at2_cast x h r c

/-- A matrix as a stack of one. -/
theorem at3_cast (x : (⟨2, ![m, n]⟩ : Shape).Idx → EReal) (h) (r c : ℕ) :
    at3 (shapeCast (⟨3, ![1, m, n]⟩ : Shape) x h) 0 r c = at2 x r c := by
  unfold at3 at2
  by_cases hh : r < m ∧ c < n
  · rw [dif_pos ⟨Nat.one_pos, hh.1, hh.2⟩, dif_pos hh]
    refine shapeCast_apply x h _ _ ?_
    rw [Shape.rowMajor_val_two, Shape.rowMajor_val_three]
    show r * n + c = (0 * m + r) * n + c
    rw [Nat.zero_mul, Nat.zero_add]
  · rw [dif_neg (fun h => hh h.2), dif_neg hh]

/-- A stack of one as a matrix. -/
theorem at2_cast3 (x : (⟨3, ![1, m, n]⟩ : Shape).Idx → EReal) (h) (r c : ℕ) :
    at2 (shapeCast (⟨2, ![m, n]⟩ : Shape) x h) r c = at3 x 0 r c := by
  unfold at3 at2
  by_cases hh : r < m ∧ c < n
  · rw [dif_pos hh, dif_pos ⟨Nat.one_pos, hh.1, hh.2⟩]
    refine shapeCast_apply x h _ _ ?_
    rw [Shape.rowMajor_val_two, Shape.rowMajor_val_three]
    show (0 * m + r) * n + c = r * n + c
    rw [Nat.zero_mul, Nat.zero_add]
  · rw [dif_neg hh, dif_neg (fun h => hh h.2)]

/-- Rows in groups: row `r` of group `g`. -/
theorem at3_split {a b : ℕ} (x : (⟨2, ![m, n]⟩ : Shape).Idx → EReal) (h) {g r c : ℕ} (hg : g < a) (hr : r < b) (hm : a * b = m) :
    at3 (shapeCast (⟨3, ![a, b, n]⟩ : Shape) x h) g r c = at2 x (g * b + r) c := by
  have hlt : g * b + r < m := by
    have := Nat.mul_le_mul_right b (Nat.succ_le_of_lt hg)
    rw [Nat.succ_mul] at this
    omega
  unfold at3 at2
  by_cases hh : c < n
  · rw [dif_pos ⟨hg, hr, hh⟩, dif_pos ⟨hlt, hh⟩]
    refine shapeCast_apply x h _ _ ?_
    rw [Shape.rowMajor_val_two, Shape.rowMajor_val_three]
    rfl
  · rw [dif_neg (fun h => hh h.2.2), dif_neg (fun h => hh h.2)]

/-- One row copied into all. -/
theorem at2_row (x : (⟨2, ![1, n]⟩ : Shape).Idx → EReal) (h) {r c : ℕ} (hr : r < m) :
    at2 (broadcastTo (⟨2, ![m, n]⟩ : Shape) x h) r c = at2 x 0 c := by
  unfold at2
  by_cases hh : c < n
  · rw [dif_pos ⟨hr, hh⟩, dif_pos ⟨Nat.one_pos, hh⟩]
    refine broadcastTo_apply x h _ _ fun a => ?_
    fin_cases a
    · show 0 = if (1 : ℕ) = 1 then 0 else _
      rw [if_pos rfl]
    · show c = if n = 1 then 0 else c
      split
      · omega
      · rfl
  · rw [dif_neg (fun h => hh h.2), dif_neg (fun h => hh h.2)]

/-- One column copied into all. -/
theorem at2_col (x : (⟨2, ![m, 1]⟩ : Shape).Idx → EReal) (h) {r c : ℕ} (hc : c < n) :
    at2 (broadcastTo (⟨2, ![m, n]⟩ : Shape) x h) r c = at2 x r 0 := by
  unfold at2
  by_cases hh : r < m
  · rw [dif_pos ⟨hh, hc⟩, dif_pos ⟨hh, Nat.one_pos⟩]
    refine broadcastTo_apply x h _ _ fun a => ?_
    fin_cases a
    · show r = if m = 1 then 0 else r
      split
      · omega
      · rfl
    · show 0 = if (1 : ℕ) = 1 then 0 else _
      rw [if_pos rfl]
  · rw [dif_neg (fun h => hh h.1), dif_neg (fun h => hh h.1)]

end

/-! ## Boxes -/

section
variable {sig : RefSig} {κ : Kind} {sp : Space} {m n k : ℕ} {Val : EltTy → Type} [∀ e, Nonempty (Val e)] {e : EltTy}

/-- Inside the last store's box, a matrix holds what it stored. -/
theorem canon2_hit (T : Val e → EReal) {r₀ c₀ a b : ℕ} (inb) (w : (⟨2, ![a, b]⟩ : Shape).Idx → Val e)
    (L : List (View.Piece Val (⟨2, ![m, n]⟩ : Shape) e)) {r c : ℕ} (hr : r₀ ≤ r ∧ r < r₀ + a) (hc : c₀ ≤ c ∧ c < c₀ + b) :
    at2 (fun j => T (View.canon ((⟨Rect.unit ![r₀, c₀] ![a, b] inb, w⟩ : View.Piece Val (⟨2, ![m, n]⟩ : Shape) e) :: L) j)) r c
      = at2 (fun j => T (w j)) (r - r₀) (c - c₀) := by
  have h0 := inb 0
  have h1 := inb 1
  change r₀ + a ≤ m at h0
  change c₀ + b ≤ n at h1
  rw [at2_of (by omega : r < m) (by omega : c < n), at2_of (by omega : r - r₀ < a) (by omega : c - c₀ < b)]
  refine congrArg T (Eq.trans (congrArg _ ?_) (View.canon_cons_emb (Rect.unit ![r₀, c₀] ![a, b] inb) w L (ix2 ⟨r - r₀, by omega⟩ ⟨c - c₀, by omega⟩)))
  funext x
  apply Fin.ext
  rw [Rect.emb_apply]
  fin_cases x
  · show r = r₀ + 1 * (r - r₀)
    omega
  · show c = c₀ + 1 * (c - c₀)
    omega

/-- Outside it, what the stores before left. -/
theorem canon2_miss (T : Val e → EReal) {r₀ c₀ a b : ℕ} (inb) (w : (⟨2, ![a, b]⟩ : Shape).Idx → Val e)
    (L : List (View.Piece Val (⟨2, ![m, n]⟩ : Shape) e)) {r c : ℕ} (h : ¬((r₀ ≤ r ∧ r < r₀ + a) ∧ (c₀ ≤ c ∧ c < c₀ + b))) :
    at2 (fun j => T (View.canon ((⟨Rect.unit ![r₀, c₀] ![a, b] inb, w⟩ : View.Piece Val (⟨2, ![m, n]⟩ : Shape) e) :: L) j)) r c
      = at2 (fun j => T (View.canon L j)) r c := by
  unfold at2
  by_cases hh : r < m ∧ c < n
  · rw [dif_pos hh, dif_pos hh]
    refine congrArg T (View.canon_cons_of_not_mem _ L ?_)
    rw [Rect.mem_set_unit]
    intro hm
    have h0 := hm 0
    have h1 := hm 1
    exact h ⟨h0, h1⟩
  · rw [dif_neg hh, dif_neg hh]

/-- Inside the last store's box, a stack holds what it stored. -/
theorem canon3_hit (T : Val e → EReal) {l₀ r₀ c₀ a b d : ℕ} (inb) (w : (⟨3, ![d, a, b]⟩ : Shape).Idx → Val e)
    (L : List (View.Piece Val (⟨3, ![k, m, n]⟩ : Shape) e)) {l r c : ℕ} (hl : l₀ ≤ l ∧ l < l₀ + d)
    (hr : r₀ ≤ r ∧ r < r₀ + a) (hc : c₀ ≤ c ∧ c < c₀ + b) :
    at3 (fun j => T (View.canon ((⟨Rect.unit ![l₀, r₀, c₀] ![d, a, b] inb, w⟩ : View.Piece Val (⟨3, ![k, m, n]⟩ : Shape) e) :: L) j)) l r c
      = at3 (fun j => T (w j)) (l - l₀) (r - r₀) (c - c₀) := by
  have h0 := inb 0
  have h1 := inb 1
  have h2 := inb 2
  change l₀ + d ≤ k at h0
  change r₀ + a ≤ m at h1
  change c₀ + b ≤ n at h2
  rw [at3_of (by omega : l < k) (by omega : r < m) (by omega : c < n), at3_of (by omega : l - l₀ < d) (by omega : r - r₀ < a) (by omega : c - c₀ < b)]
  refine congrArg T (Eq.trans (congrArg _ ?_) (View.canon_cons_emb (Rect.unit ![l₀, r₀, c₀] ![d, a, b] inb) w L
    (ix3 ⟨l - l₀, by omega⟩ ⟨r - r₀, by omega⟩ ⟨c - c₀, by omega⟩)))
  funext x
  apply Fin.ext
  rw [Rect.emb_apply]
  fin_cases x
  · show l = l₀ + 1 * (l - l₀)
    omega
  · show r = r₀ + 1 * (r - r₀)
    omega
  · show c = c₀ + 1 * (c - c₀)
    omega

/-- Outside it, what the stores before left. -/
theorem canon3_miss (T : Val e → EReal) {l₀ r₀ c₀ a b d : ℕ} (inb) (w : (⟨3, ![d, a, b]⟩ : Shape).Idx → Val e)
    (L : List (View.Piece Val (⟨3, ![k, m, n]⟩ : Shape) e)) {l r c : ℕ}
    (h : ¬((l₀ ≤ l ∧ l < l₀ + d) ∧ (r₀ ≤ r ∧ r < r₀ + a) ∧ (c₀ ≤ c ∧ c < c₀ + b))) :
    at3 (fun j => T (View.canon ((⟨Rect.unit ![l₀, r₀, c₀] ![d, a, b] inb, w⟩ : View.Piece Val (⟨3, ![k, m, n]⟩ : Shape) e) :: L) j)) l r c
      = at3 (fun j => T (View.canon L j)) l r c := by
  unfold at3
  by_cases hh : l < k ∧ r < m ∧ c < n
  · rw [dif_pos hh, dif_pos hh]
    refine congrArg T (View.canon_cons_of_not_mem _ L ?_)
    rw [Rect.mem_set_unit]
    intro hm
    have h0 := hm 0
    have h1 := hm 1
    have h2 := hm 2
    exact h ⟨h0, h1, h2⟩
  · rw [dif_neg hh, dif_neg hh]

/-- A box of a matrix read. -/
theorem at2_ld (T : Val e → EReal) {r₀ c₀ a b : ℕ} (inb) (x : (⟨2, ![m, n]⟩ : Shape).Idx → Val e) {r c : ℕ} (hr : r < a) (hc : c < b) :
    at2 (m := a) (n := b) (fun j => T (View.ld x (Rect.unit (s := ⟨2, ![m, n]⟩) ![r₀, c₀] ![a, b] inb) j)) r c
      = at2 (fun j => T (x j)) (r₀ + r) (c₀ + c) := by
  have h0 := inb 0
  have h1 := inb 1
  change r₀ + a ≤ m at h0
  change c₀ + b ≤ n at h1
  rw [at2_of hr hc, at2_of (by omega : r₀ + r < m) (by omega : c₀ + c < n)]
  refine congrArg (fun j => T (x j)) (funext fun i => Fin.ext ?_)
  fin_cases i
  · show r₀ + 1 * r = r₀ + r
    omega
  · show c₀ + 1 * c = c₀ + c
    omega

/-- A box of a matrix's stores read. -/
theorem at2_readCov (T : Val e → EReal) {r₀ c₀ a b : ℕ} (inb) (v : View sig κ sp (⟨2, ![m, n]⟩ : Shape) e)
    (L : List (View.Piece Val (⟨2, ![m, n]⟩ : Shape) e)) {r c : ℕ} (hr : r < a) (hc : c < b) :
    at2 (m := a) (n := b) (fun j => T (v.readCov L (Rect.unit (s := ⟨2, ![m, n]⟩) ![r₀, c₀] ![a, b] inb).toLoadRect j)) r c
      = at2 (fun j => T (View.canon L j)) (r₀ + r) (c₀ + c) := by
  rw [View.readCov_eq_canon']
  exact at2_ld T inb (View.canon L) hr hc

/-- A box of a stack's stores read. -/
theorem at3_readCov (T : Val e → EReal) {l₀ r₀ c₀ a b d : ℕ} (inb) (v : View sig κ sp (⟨3, ![k, m, n]⟩ : Shape) e)
    (L : List (View.Piece Val (⟨3, ![k, m, n]⟩ : Shape) e)) {l r c : ℕ} (hl : l < d) (hr : r < a) (hc : c < b) :
    at3 (k := d) (m := a) (n := b) (fun j => T (v.readCov L (Rect.unit (s := ⟨3, ![k, m, n]⟩) ![l₀, r₀, c₀] ![d, a, b] inb).toLoadRect j)) l r c
      = at3 (fun j => T (View.canon L j)) (l₀ + l) (r₀ + r) (c₀ + c) := by
  have h0 := inb 0
  have h1 := inb 1
  have h2 := inb 2
  change l₀ + d ≤ k at h0
  change r₀ + a ≤ m at h1
  change c₀ + b ≤ n at h2
  rw [View.readCov_eq_canon', at3_of hl hr hc, at3_of (by omega : l₀ + l < k) (by omega : r₀ + r < m) (by omega : c₀ + c < n)]
  refine congrArg (fun j => T (View.canon L j)) (funext fun i => Fin.ext ?_)
  fin_cases i
  · show l₀ + 1 * l = l₀ + l
    omega
  · show r₀ + 1 * r = r₀ + r
    omega
  · show c₀ + 1 * c = c₀ + c
    omega

end

end Cert.Entries
-- ==== Proof.HostEntries.lean ====
module
public import proofs.«01_k».proof.Proof.Entries
public import Idealize.ShloMosaic.Lib.Routing.OpsPair
@[expose] public section
namespace Cert.Entries
open Idealize.ShloMosaic Idealize.ShloMosaic.Routing

/-!
  What operations of a program outside its kernels do to the entries of matrices.
-/

section
variable {M N m n : ℕ}

/-- The entries of a slice are the matrix's, shifted. -/
theorem at2_slice (x : (⟨2, ![m, n]⟩ : Shape).Idx → EReal) {a b : ℕ} (h) {r c : ℕ} (hr : r < M) (hc : c < N) :
    at2 (extractStridedSlice (⟨2, ![M, N]⟩ : Shape) ![a, b] x h) r c = at2 x (a + r) (b + c) := by
  have h0 := h.2 0
  have h1 := h.2 1
  have h0' : a + M ≤ m := h0
  have h1' : b + N ≤ n := h1
  rw [at2_of hr hc, at2_of (show a + r < m by omega) (show b + c < n by omega)]
  refine congrArg x (funext fun i => Fin.ext ?_)
  match i with
  | ⟨0, _⟩ => rfl
  | ⟨1, _⟩ => rfl

/-- The entries of a matrix padded with zeros are the matrix's, shifted. -/
theorem at2_pad (x : (⟨2, ![m, n]⟩ : Shape).Idx → EReal) {a b a' b' : ℕ} {u : Shape} (v : u.Idx → EReal) (h) (hu)
    (hv : ∀ i, v i = 0) {r c : ℕ} (hr : r < M) (hc : c < N) :
    at2 (pad (⟨2, ![M, N]⟩ : Shape) ![a, b] ![a', b'] ![0, 0] x v h hu) r c
      = if a ≤ r ∧ b ≤ c then at2 x (r - a) (c - b) else 0 := by
  rw [at2_of hr hc]
  unfold pad
  by_cases hin : (a ≤ r ∧ r - a < m) ∧ (b ≤ c ∧ c - b < n)
  · rw [dif_pos (fun i => by
      match i with
      | ⟨0, _⟩ => exact ⟨hin.1.1, Nat.mod_one _, (Nat.div_one _).symm ▸ hin.1.2⟩
      | ⟨1, _⟩ => exact ⟨hin.2.1, Nat.mod_one _, (Nat.div_one _).symm ▸ hin.2.2⟩), if_pos ⟨hin.1.1, hin.2.1⟩, at2_of hin.1.2 hin.2.2]
    refine congrArg x (funext fun i => Fin.ext ?_)
    match i with
    | ⟨0, _⟩ => exact Nat.div_one _
    | ⟨1, _⟩ => exact Nat.div_one _
  · rw [dif_neg (fun hh => hin ⟨⟨(hh 0).1, Nat.div_one (r - a) ▸ (hh 0).2.2⟩, ⟨(hh 1).1, Nat.div_one (c - b) ▸ (hh 1).2.2⟩⟩), hv]
    split
    · rw [at2_out]; omega
    · rfl

/-- The rows of one matrix after another's. -/
theorem at2_stack {a b : ℕ} (x : (⟨2, ![a, n]⟩ : Shape).Idx → EReal) (z : (⟨2, ![b, n]⟩ : Shape).Idx → EReal) (h) {r c : ℕ} (hr : r < M) (hM : M = a + b)
    (hc : c < n) : at2 (concatenate (⟨2, ![M, n]⟩ : Shape) 0 [⟨⟨2, ![a, n]⟩, x⟩, ⟨⟨2, ![b, n]⟩, z⟩] h) r c
      = if r < a then at2 x r c else at2 z (r - a) c := by
  rw [at2_of hr hc]
  split
  · next ha =>
    rw [at2_of ha hc]
    refine concatenate_pair_apply_left 0 x z h _ rfl (ix2 ⟨r, ha⟩ ⟨c, hc⟩) (fun i => ?_)
    match i with
    | ⟨0, _⟩ => rfl
    | ⟨1, _⟩ => rfl
  · next ha =>
    rw [at2_of (show r - a < b by omega) hc]
    refine concatenate_pair_apply_right 0 x z h _ rfl rfl (ix2 ⟨r - a, by omega⟩ ⟨c, hc⟩) (fun i hi => ?_) ?_
    · match i with
      | ⟨0, _⟩ => exact absurd rfl hi
      | ⟨1, _⟩ => rfl
    · show r - a + a = r
      omega

/-- A sum taken one term at a time from the left. -/
theorem foldl_sum {ι : Type*} (g : ι → EReal) (L : List ι) (v : EReal) :
    L.foldl (fun s i => s + g i) v = v + (L.map g).sum := by
  induction L generalizing v with
  | nil => simp
  | cons a L ih => rw [List.foldl_cons, ih, List.map_cons, List.sum_cons, add_assoc]

/-- The sum over the rows below, of a matrix. -/
theorem at2_below (x : FVec Ideal (⟨2, ![m, n]⟩ : Shape) .f32) {u : Shape} (v : FVec Ideal u .f32) {p : ℕ} (h) (hu) (hv : ∀ i, v i = (0 : EReal))
    {r c : ℕ} (hr : r < m) (hc : c < n) :
    at2 (Host.reduceWindowAdd ![m, 1] ![1, 1] ![0, 0] ![p, 0] x v h hu : FVec Ideal (⟨2, ![m, n]⟩ : Shape) .f32) r c
      = ∑ q ∈ Finset.range m, at2 x (r + q) c := by
  have hnum : (⟨2, ![m, 1]⟩ : Shape).numel = m := by
    show ∏ a : Fin 2, (![m, 1] : Fin 2 → Nat) a = m
    rw [Fin.prod_univ_two]
    exact Nat.mul_one m
  have hsy (q : Fin (⟨2, ![m, 1]⟩ : Shape).numel) : ((⟨2, ![m, 1]⟩ : Shape).rowMajor.symm q 0).val = q.val
      ∧ ((⟨2, ![m, 1]⟩ : Shape).rowMajor.symm q 1).val = 0 := by
    have hq : q.val < m := lt_of_lt_of_eq q.isLt hnum
    have e := symm22 (A := m) (B := 1) q (by omega) (by omega)
    exact ⟨(congrArg (fun f => (f 0).val) e).trans (Nat.div_one _), (congrArg (fun f => (f 1).val) e).trans (Nat.mod_one _)⟩
  rw [at2_of hr hc]
  refine Eq.trans (b := List.foldl (fun s (q : Fin (⟨2, ![m, 1]⟩ : Shape).numel) => s + at2 x (r + q.val) c) (0 : EReal) (List.finRange _)) ?_ ?_
  · unfold Host.reduceWindowAdd
    rw [Ideal.hostReduceWindowAdd_def]
    unfold Ideal.hostReduceWindowAdd Host.reduceWindow
    refine Eq.trans (b := List.foldl (fun s (q : Fin (⟨2, ![m, 1]⟩ : Shape).numel) => s + at2 x (r + q.val) c) (v (Shape.Idx.first hu)) (List.finRange _)) ?_ (congrArg (fun z => List.foldl _ z _) (hv (Shape.Idx.first hu)))
    refine congrArg (fun f => List.foldl f _ _) (funext fun s => funext fun q => congrArg (s + ·) ?_)
    dsimp only
    have e0 := (hsy q).1
    have e1 := (hsy q).2
    by_cases hin : r + q.val < m
    · rw [dif_pos (fun i => by
        match i with
        | ⟨0, _⟩ =>
          show 0 ≤ r * 1 + ((⟨2, ![m, 1]⟩ : Shape).rowMajor.symm q 0).val ∧ r * 1 + ((⟨2, ![m, 1]⟩ : Shape).rowMajor.symm q 0).val - 0 < m
          omega
        | ⟨1, _⟩ =>
          show 0 ≤ c * 1 + ((⟨2, ![m, 1]⟩ : Shape).rowMajor.symm q 1).val ∧ c * 1 + ((⟨2, ![m, 1]⟩ : Shape).rowMajor.symm q 1).val - 0 < n
          omega), at2_of hin hc]
      refine congrArg x (funext fun i => Fin.ext ?_)
      match i with
      | ⟨0, _⟩ =>
        show r * 1 + ((⟨2, ![m, 1]⟩ : Shape).rowMajor.symm q 0).val - 0 = r + q.val
        omega
      | ⟨1, _⟩ =>
        show c * 1 + ((⟨2, ![m, 1]⟩ : Shape).rowMajor.symm q 1).val - 0 = c
        omega
    · rw [dif_neg (fun hh => hin (by
        have h0 : r * 1 + ((⟨2, ![m, 1]⟩ : Shape).rowMajor.symm q 0).val - 0 < m := (hh 0).2
        omega)), at2_out (Or.inl (by omega)), hv]
  · rw [foldl_sum, zero_add, ← Fin.sum_univ_def, Fin.sum_univ_eq_sum_range (fun q => at2 x (r + q) c), hnum]

theorem toInt_small {p : ℕ} (hp : p < 2 ^ 31) : (BitVec.ofNat 32 p).toInt = (p : ℤ) := by
  have e : (BitVec.ofNat 32 p).toNat = p := by rw [BitVec.toNat_ofNat]; omega
  rw [BitVec.toInt_eq_toNat_of_lt (by omega), e]

/-- The numbers of a gather of rows by a table of numbers. -/
abbrev rowGather {K T C : ℕ} (wf : GatherDims.WF (shape2 N C) (shape3 K T 1) (shape3 K T C) [2] [0] [] [0] [] 2 ![1, C]) : GatherDims (shape2 N C) (shape3 K T 1) (shape3 K T C) := ⟨[2], [0], [], [], [0], 2, ![1, C], wf⟩

/-- A gather of rows, by a table whose entries are rows. -/
theorem gather_rows {K T C : ℕ} (wf) (x : (shape2 N C).Idx → EReal) (idx : IVec (shape3 K T 1) 32) {k t c p : ℕ} (hk : k < K) (ht : t < T)
    (hc : c < C) (hp : p < N) (hN : N ≤ 2 ^ 31) (hi : idx (ix3 ⟨k, hk⟩ ⟨t, ht⟩ 0) = BitVec.ofNat 32 p) :
    at3 (Host.gather (rowGather (N := N) wf) x idx) k t c = at2 x p c := by
  rw [at3_of hk ht hc, at2_of hp hc]
  unfold Host.gather
  refine congrArg x (funext fun a => Fin.ext ?_)
  match a with
  | ⟨0, _⟩ =>
    show (rowGather (N := N) wf).start (ix3 ⟨k, hk⟩ ⟨t, ht⟩ ⟨c, hc⟩) idx 0 + 0 + 0 = p
    have e : (rowGather (N := N) wf).start (ix3 ⟨k, hk⟩ ⟨t, ht⟩ ⟨c, hc⟩) idx 0 = min (idx (ix3 ⟨k, hk⟩ ⟨t, ht⟩ 0)).toInt.toNat (N - 1) := by
      unfold GatherDims.start
      rw [dif_pos (by exact List.mem_singleton.2 rfl)]
      refine congrArg (fun i => min (idx i).toInt.toNat (N - 1)) (funext fun b => Fin.ext ?_)
      match b with
      | ⟨0, _⟩ => rfl
      | ⟨1, _⟩ => rfl
      | ⟨2, _⟩ => rfl
    rw [e, hi, toInt_small (by omega)]
    omega
  | ⟨1, _⟩ =>
    show (rowGather (N := N) wf).start (ix3 ⟨k, hk⟩ ⟨t, ht⟩ ⟨c, hc⟩) idx 1 + 0 + c = c
    have e : (rowGather (N := N) wf).start (ix3 ⟨k, hk⟩ ⟨t, ht⟩ ⟨c, hc⟩) idx 1 = 0 := rfl
    rw [e]; omega

/-- The numbers of a sum of rows into the rows a table names. -/
abbrev rowScatter {K T C : ℕ} (wf : ScatterDims.WF (shape2 N C) (shape3 K T 1) (shape3 K T C) [2] [0] [0] 2) : ScatterDims (shape2 N C) (shape3 K T 1) (shape3 K T C) := ⟨[2], [0], [0], 2, wf⟩

/-- Rows added into the rows of a matrix of zeros, row `t` of layer `k` into row `k + t`. -/
theorem scatter_rows {K T C : ℕ} (wf) (x : FVec Ideal (shape2 N C) .f32) (hx : ∀ i, x i = (0 : EReal)) (idx : IVec (shape3 K T 1) 32)
    (v : FVec Ideal (shape3 K T C) .f32) (hN : N ≤ 2 ^ 31) (hKT : K + T ≤ N + 1)
    (hi : ∀ (k : Fin K) (t : Fin T), idx (ix3 k t 0) = BitVec.ofNat 32 (k.val + t.val)) {r c : ℕ} (hr : r < N) (hc : c < C) :
    at2 (Host.scatterAdd (rowScatter (N := N) wf) x idx v : FVec Ideal (shape2 N C) .f32) r c
      = ∑ k ∈ Finset.range K, if k ≤ r then at3 v k (r - k) c else 0 := by
  have land (k : Fin K) (t : Fin T) (y : Fin C) : (rowScatter (N := N) wf).resultIdx? (ix3 k t y) idx = some (ix2 ⟨r, hr⟩ ⟨c, hc⟩)
      ↔ k.val + t.val = r ∧ y.val = c := by
    refine (resultIdx?_ix2 _ _ _ ⟨r, hr⟩ ⟨c, hc⟩).trans ?_
    have e0 : (rowScatter (N := N) wf).start (ix3 k t y) idx 0 = ((k.val + t.val : ℕ) : ℤ) := by
      unfold ScatterDims.start
      rw [dif_pos (by exact List.mem_singleton.2 rfl)]
      have hk := k.isLt
      have ht := t.isLt
      refine Eq.trans (congrArg (fun i => (idx i).toInt) (funext fun b => Fin.ext ?_)) ((congrArg BitVec.toInt (hi k t)).trans (toInt_small (by omega)))
      match b with
      | ⟨0, _⟩ => rfl
      | ⟨1, _⟩ => rfl
      | ⟨2, _⟩ => rfl
    have e1 : (rowScatter (N := N) wf).start (ix3 k t y) idx 1 = 0 := rfl
    have w0 : (rowScatter (N := N) wf).window (ix3 k t y) 0 = 0 := rfl
    have w1 : (rowScatter (N := N) wf).window (ix3 k t y) 1 = y.val := rfl
    rw [e0, e1, w0, w1]
    constructor
    · rintro ⟨h0, h1⟩
      constructor <;> (simp only at h0 h1; omega)
    · rintro ⟨h0, h1⟩
      constructor <;> (simp only; omega)
  rw [at2_of hr hc]
  show x _ + ∑ j ∈ Finset.univ.filter (fun j => (rowScatter (N := N) wf).resultIdx? j idx = some (ix2 ⟨r, hr⟩ ⟨c, hc⟩)), v j = _
  rw [hx, zero_add, ← Finset.sum_filter]
  have land' (j : (shape3 K T C).Idx) := (iff_of_eq (congrArg (fun i => (rowScatter (N := N) wf).resultIdx? i idx = some (ix2 ⟨r, hr⟩ ⟨c, hc⟩)) (eq_ix3 j))).trans (land (j 0) (j 1) (j 2))
  rw [← Finset.sum_filter_of_ne (s := (Finset.range K).filter (· ≤ r)) (p := fun k => r - k < T) (fun k _ hne => by
    by_contra h
    exact hne (dif_neg (fun hh => h hh.2.1)))]
  refine Finset.sum_bij' (fun j _ => (j 0).val)
    (fun k hk => ix3 ⟨k, Finset.mem_range.1 (Finset.mem_filter.1 (Finset.mem_filter.1 hk).1).1⟩ ⟨r - k, (Finset.mem_filter.1 hk).2⟩ ⟨c, hc⟩) ?_ ?_ ?_ ?_ ?_
  · intro j hj
    have h := (land' j).1 (Finset.mem_filter.1 hj).2
    have h0 : (j 0).val < K := (j 0).isLt
    have h1 : (j 1).val < T := (j 1).isLt
    refine Finset.mem_filter.2 ⟨Finset.mem_filter.2 ⟨Finset.mem_range.2 h0, ?_⟩, ?_⟩ <;> (simp only; omega)
  · intro k hk
    refine Finset.mem_filter.2 ⟨Finset.mem_univ _, (land _ _ _).2 ⟨?_, rfl⟩⟩
    have := (Finset.mem_filter.1 (Finset.mem_filter.1 hk).1).2
    simp only at this ⊢
    omega
  · intro j hj
    have h := (land' j).1 (Finset.mem_filter.1 hj).2
    refine Eq.trans ?_ (eq_ix3 j).symm
    refine congrArg₂ (fun a b => ix3 (j 0) a b) (Fin.ext ?_) (Fin.ext ?_)
    · show r - (j 0).val = (j 1).val
      omega
    · exact h.2.symm
  · intro k hk
    rfl
  · intro j hj
    have h := (land' j).1 (Finset.mem_filter.1 hj).2
    have h0 : (j 0).val < K := (j 0).isLt
    have h1 : (j 1).val < T := (j 1).isLt
    rw [at3_of h0 (show r - (j 0).val < T by omega) hc]
    refine congrArg v ((eq_ix3 j).trans ?_)
    refine congrArg₂ (fun a b => ix3 (j 0) a b) (Fin.ext ?_) (Fin.ext ?_)
    · show (j 1).val = r - (j 0).val
      omega
    · exact h.2

end
end Cert.Entries
-- ==== Proof.Stores.lean ====
module
public import proofs.«01_k».proof.Proof.Gen.KernelIdeal.Frame
@[expose] public noncomputable section
namespace Cert.KernelIdeal.Gen
open Idealize.ShloMosaic Idealize.ShloMosaic.TcCoe

/-!
  What one grid point of the kernel stores, as short recursions: the generated run names one term for every one of
  its stores; the lists below are the same lists by unfolding.
-/

variable {F : FTy → Type} [FloatOps F]

/-! ## Boxes -/

theorem inbTap (m : ℕ) : ∀ a, (![8 * (m % 31), 256 * (m / 31 % 4)] : Fin 2 → ℕ) a + S8x256.size a ≤ S256x1024.size a := by
  intro a
  fin_cases a
  · show 8 * (m % 31) + 8 ≤ 256; omega
  · show 256 * (m / 31 % 4) + 256 ≤ 1024; omega

theorem inbWin (w l : ℕ) : ∀ a, (![w % 232 % 8, w % 232 - w % 232 % 8, 256 * (l % 4)] : Fin 3 → ℕ) a + S1x64x256.size a ≤ S8x288x1024.size a := by
  intro a
  fin_cases a
  · show w % 232 % 8 + 1 ≤ 8; omega
  · show w % 232 - w % 232 % 8 + 64 ≤ 288; omega
  · show 256 * (l % 4) + 256 ≤ 1024; omega

theorem inbLayer (r : ℕ) : ∀ a, (![r % 8, 0, 0] : Fin 3 → ℕ) a + S1x280x1024.size a ≤ S8x288x1024.size a := by
  intro a
  fin_cases a
  · show r % 8 + 1 ≤ 8; omega
  · show 0 + 280 ≤ 288; omega
  · show 0 + 1024 ≤ 1024; omega

theorem inbRows (r : ℕ) : ∀ a, (![0, r % 8, 0] : Fin 3 → ℕ) a + S1x280x1024.size a ≤ S8x288x1024.size a := by
  intro a
  fin_cases a
  · show 0 + 1 ≤ 8; omega
  · show r % 8 + 280 ≤ 288; omega
  · show 0 + 1024 ≤ 1024; omega

theorem inbPool (g : ℕ) : ∀ a, (![0, 256 * (g % 4)] : Fin 2 → ℕ) a + S256x256.size a ≤ S256x1024.size a := by
  intro a
  fin_cases a
  · show 0 + 256 ≤ 256; omega
  · show 256 * (g % 4) + 256 ≤ 1024; omega

theorem inbPoolHalo (g : ℕ) : ∀ a, (![0, 256 * (g % 4)] : Fin 2 → ℕ) a + S32x256.size a ≤ S32x1024.size a := by
  intro a
  fin_cases a
  · show 0 + 32 ≤ 32; omega
  · show 256 * (g % 4) + 256 ≤ 1024; omega

theorem inbExt (j g : ℕ) : ∀ a, (![j % 16, 256 * (g % 4)] : Fin 2 → ℕ) a + S256x256.size a ≤ S288x1024.size a := by
  intro a
  fin_cases a
  · show j % 16 + 256 ≤ 288; omega
  · show 256 * (g % 4) + 256 ≤ 1024; omega

theorem inbExtHalo (g : ℕ) : ∀ a, (![256, 256 * (g % 4)] : Fin 2 → ℕ) a + S32x256.size a ≤ S288x1024.size a := by
  intro a
  fin_cases a
  · show 256 + 32 ≤ 288; omega
  · show 256 * (g % 4) + 256 ≤ 1024; omega

theorem inbTapRow (k l : ℕ) : ∀ a, (![k % 32, 256 * (l % 4)] : Fin 2 → ℕ) a + S1x256.size a ≤ S32x1024.size a := by
  intro a
  fin_cases a
  · show k % 32 + 1 ≤ 32; omega
  · show 256 * (l % 4) + 256 ≤ 1024; omega

theorem inbChunk (n : ℕ) : ∀ a, (![64 * (n / 4 % 4), 256 * (n % 4)] : Fin 2 → ℕ) a + S64x256.size a ≤ S256x1024.size a := by
  intro a
  fin_cases a
  · show 64 * (n / 4 % 4) + 64 ≤ 256; omega
  · show 256 * (n % 4) + 256 ≤ 1024; omega

theorem inbOut (g : ℕ) : ∀ a, (![0, 256 * (g % 4)] : Fin 2 → ℕ) a + S256x256.size a ≤ S256x3072.size a := by
  intro a
  fin_cases a
  · show 0 + 256 ≤ 256; omega
  · show 256 * (g % 4) + 256 ≤ 3072; omega

theorem inbZ (p : ℕ) : ∀ a, (![0, 1024 * (p % 4)] : Fin 2 → ℕ) a + S256x1024.size a ≤ S256x5120.size a := by
  intro a
  fin_cases a
  · show 0 + 256 ≤ 256; omega
  · show 1024 * (p % 4) + 1024 ≤ 5120; omega

theorem inbZHalo (p : ℕ) : ∀ a, (![0, 1024 * (p % 4)] : Fin 2 → ℕ) a + S32x1024.size a ≤ S32x5120.size a := by
  intro a
  fin_cases a
  · show 0 + 32 ≤ 32; omega
  · show 1024 * (p % 4) + 1024 ≤ 5120; omega

/-- The box of step `m` of the weight gradient: tap `m % 31`'s eight rows, lanes of chunk `m / 31 % 4`. -/
abbrev tapBox (m : ℕ) : Rect S256x1024 := Rect.unit ![8 * (m % 31), 256 * (m / 31 % 4)] S8x256.size (inbTap m)

/-- The window of 64 rows that starts at row `w` of a preshifted scratch, lanes of chunk `l`. -/
abbrev winBox (w l : ℕ) : Rect S8x288x1024 :=
  Rect.unit ![w % 232 % 8, w % 232 - w % 232 % 8, 256 * (l % 4)] S1x64x256.size (inbWin w l)

/-- The 64 × 256 chunk `n` of a tile. -/
abbrev chunkBox (n : ℕ) : Rect S256x1024 := Rect.unit ![64 * (n / 4 % 4), 256 * (n % 4)] S64x256.size (inbChunk n)

/-- Layer `r` of a preshifted scratch. -/
abbrev layerBox (r : ℕ) : Rect S8x288x1024 := Rect.unit ![r % 8, 0, 0] S1x280x1024.size (inbLayer r)

/-- Layer 0 from row `r` on. -/
abbrev shiftBox (r : ℕ) : Rect S8x288x1024 := Rect.unit ![0, r % 8, 0] S1x280x1024.size (inbRows r)

/-- Rows `j` to `j + 255` of the pool's scratch, group `g`. -/
abbrev extBox (j g : ℕ) : Rect S288x1024 := Rect.unit ![j % 16, 256 * (g % 4)] S256x256.size (inbExt j g)

/-! ## The preshifted scratches -/

/-- Layer `r` of a preshifted scratch is layer 0 read `r` rows further down: the stores of the first `m` layers. -/
def layerStores (v : View sig .tc .vmem S8x288x1024 .f32) (base : List (View.Piece (Elt F) S8x288x1024 .f32)) :
    ℕ → List (View.Piece (Elt F) S8x288x1024 .f32)
  | 0 => base
  | m + 1 => ⟨layerBox (m + 1),
      shapeCast S1x280x1024 (shapeCast S280x1024
        (v.readCov (layerStores v base m) (shiftBox (m + 1)).toLoadRect : Vec F S1x280x1024 .f32)
        shapeCasts_S1x280x1024_S280x1024 : FVec F S280x1024 .f32) shapeCasts_S280x1024_S1x280x1024⟩ :: layerStores v base m

/-- The rows of the convolution's cotangent: the tile and the 32 rows after it. -/
def dBase (i : grid0.Coords) (y0 : Vec F S256x1024 .bf16) (y1 : Vec F S32x1024 .bf16) : List (View.Piece (Elt F) S8x288x1024 .f32) :=
  [⟨Rect.unit ![0, 256, 0] S1x32x1024.size inb_S8x288x1024_S1x32x1024_0_256_0,
      k0_pay6 i (View.ld y1 (Rect.unit ![0, 0] S32x1024.size inb_S32x1024_S32x1024_0_0))⟩,
    ⟨Rect.unit ![0, 0, 0] S1x256x1024.size inb_S8x288x1024_S1x256x1024_0_0_0,
      k0_pay5 (View.ld y0 (Rect.unit ![0, 0] S256x1024.size inb_S256x1024_S256x1024_0_0))⟩]

/-- The rows of the gated input: the 32 rows before the tile and the tile. -/
def cBase (i : grid0.Coords) (y4 : Vec F S256x5120 .bf16) (y5 : Vec F S32x5120 .bf16) : List (View.Piece (Elt F) S8x288x1024 .f32) :=
  [⟨Rect.unit ![0, 32, 0] S1x256x1024.size inb_S8x288x1024_S1x256x1024_0_32_0,
      k0_pay19 (View.ld y4 (Rect.unit ![0, 1024 * (2 % 4)] S256x1024.size (inbZ 2))) (View.ld y4 (Rect.unit ![0, 1024 * (1 % 4)] S256x1024.size (inbZ 1)))⟩,
    ⟨Rect.unit ![0, 0, 0] S1x32x1024.size inb_S8x288x1024_S1x32x1024_0_0_0,
      k0_pay18 (k0_pay3 i) (View.ld y5 (Rect.unit ![0, 1024 * (1 % 4)] S32x1024.size (inbZHalo 1))) (View.ld y5 (Rect.unit ![0, 1024 * (2 % 4)] S32x1024.size (inbZHalo 2)))⟩]

/-! ## The weight gradient -/

/-- One tap's partial sums: the product of two windows, its eight groups of eight rows added up. -/
def tapSum (d c : Vec F S1x64x256 .f32) : FVec F S8x256 .f32 :=
  multiReduction .add [0] S8x256
    (shapeCast S8x8x256
      (mulf (shapeCast S64x256 d shapeCasts_S1x64x256_S64x256 : FVec F S64x256 .f32)
        (shapeCast S64x256 c shapeCasts_S1x64x256_S64x256 : FVec F S64x256 .f32) : FVec F S64x256 .f32)
      shapeCasts_S64x256_S8x8x256 : FVec F S8x8x256 .f32)
    0x00000000#32 reduces_S8x8x256_S8x256 (.inl rfl) rfl

/-- Step `m`'s partial sums, of the two scratches' stores. -/
def tapTerm (vd vc : View sig .tc .vmem S8x288x1024 .f32) (Ld Lc : List (View.Piece (Elt F) S8x288x1024 .f32)) (m : ℕ) :
    FVec F S8x256 .f32 :=
  tapSum (vd.readCov Ld (winBox (64 * (m / 124 % 4)) (m / 31)).toLoadRect)
    (vc.readCov Lc (winBox (64 * (m / 124 % 4) + 2 + m % 31) (m / 31)).toLoadRect)

/-- The stores of the first `m` steps, last first, over the stores `base` made before; `old` what a step reads first. -/
def tapStores (term : ℕ → FVec F S8x256 .f32) (base : List (View.Piece (Elt F) S256x1024 .f32))
    (old : (m : ℕ) → List (View.Piece (Elt F) S256x1024 .f32) → Vec F S8x256 .f32) : ℕ → List (View.Piece (Elt F) S256x1024 .f32)
  | 0 => base
  | m + 1 => ⟨tapBox m, (addf (shapeCast S8x256 (old m (tapStores term base old m)) shapeCasts_S8x256_S8x256 : FVec F S8x256 .f32) (term m) : FVec F S8x256 .f32)⟩ ::
      tapStores term base old m

/-! ## The pool's gradient -/

/-- The pool's cotangent over its counts on the tile's rows, group `g`. -/
def poolMain (i : grid0.Coords) (g : ℕ) (y : Vec F S256x1024 .bf16) : FVec F S256x256 .f32 :=
  shapeCast S256x256 (mulf
    (extf .f32 (shapeCast S256x256 (View.ld y (Rect.unit ![0, 256 * (g % 4)] S256x256.size (inbPool g))) shapeCasts_S256x256_S256x256 : FVec F S256x256 .bf16) bitsLt_bf16_f32 : FVec F S256x256 .f32)
    (broadcastTo S256x256 (divf (broadcast S256x1 (Scalar.ofBits .f32 0x3F800000#32 : F .f32) : FVec F S256x1 .f32)
      (sitofp .f32 (minsi (addi (k0_pay27 (BitVec.ofNat 32 (i 0).val)) (broadcast S256x1 1#32)) (broadcast S256x1 (BitVec.ofNat 32 (2 ^ (g + 1))))) : FVec F S256x1 .f32) : FVec F S256x1 .f32)
      broadcasts_S256x1_S256x256 : FVec F S256x256 .f32) : FVec F S256x256 .f32) shapeCasts_S256x256_S256x256

/-- The same on the 32 rows after the tile, none at the last tile. -/
def poolHalo (i : grid0.Coords) (g : ℕ) (y : Vec F S32x1024 .bf16) : FVec F S32x256 .f32 :=
  shapeCast S32x256 (mulf
    (extf .f32 (shapeCast S32x256 (View.ld y (Rect.unit ![0, 256 * (g % 4)] S32x256.size (inbPoolHalo g))) shapeCasts_S32x256_S32x256 : FVec F S32x256 .bf16) bitsLt_bf16_f32 : FVec F S32x256 .f32)
    (broadcastTo S32x256 (divf (broadcast S32x1 (k0_pay4 i : F .f32) : FVec F S32x1 .f32)
      (sitofp .f32 (minsi (addi (k0_pay28 (BitVec.ofNat 32 (i 0).val)) (broadcast S32x1 1#32)) (broadcast S32x1 (BitVec.ofNat 32 (2 ^ (g + 1))))) : FVec F S32x1 .f32) : FVec F S32x1 .f32)
      broadcasts_S32x1_S32x256 : FVec F S32x256 .f32) : FVec F S32x256 .f32) shapeCasts_S32x256_S32x256

/-- The stores of the first `g` groups. -/
def poolStores (i : grid0.Coords) (y2 : Vec F S256x1024 .bf16) (y3 : Vec F S32x1024 .bf16) : ℕ → List (View.Piece (Elt F) S288x1024 .f32)
  | 0 => []
  | g + 1 => ⟨Rect.unit ![256, 256 * (g % 4)] S32x256.size (inbExtHalo g), poolHalo i g y3⟩ ::
      ⟨extBox 0 g, poolMain i g y2⟩ :: poolStores i y2 y3 g

/-- The sum of the window's first `j + 1` rows, row by row. -/
def poolSum (v : View sig .tc .vmem S288x1024 .f32) (L : List (View.Piece (Elt F) S288x1024 .f32)) (g : ℕ) : ℕ → FVec F S256x256 .f32
  | 0 => v.readCov L (extBox 0 g).toLoadRect
  | j + 1 => addf (poolSum v L g j) (v.readCov L (extBox (j + 1) g).toLoadRect : FVec F S256x256 .f32)

/-- Group `g`'s gradient: the window sum less the cotangent. -/
def poolOut (v : View sig .tc .vmem S288x1024 .f32) (L : List (View.Piece (Elt F) S288x1024 .f32)) (y2 : Vec F S256x1024 .bf16) (g : ℕ) : FVec F S256x256 .bf16 :=
  truncf .bf16 (subf (poolSum v L g (2 ^ (g + 1) - 1))
    (extf .f32 (shapeCast S256x256 (View.ld y2 (Rect.unit ![0, 256 * (g % 4)] S256x256.size (inbPool g))) shapeCasts_S256x256_S256x256 : FVec F S256x256 .bf16) bitsLt_bf16_f32 : FVec F S256x256 .f32) : FVec F S256x256 .f32) bitsLt_bf16_f32

/-! ## The convolution's gradient -/

/-- The first `j` taps of chunk `n`. -/
def convAcc (v : View sig .tc .vmem S8x288x1024 .f32) (L : List (View.Piece (Elt F) S8x288x1024 .f32)) (y6 : Vec F S32x1024 .f32) (n : ℕ) : ℕ → FVec F S64x256 .f32
  | 0 => broadcast S64x256 (Scalar.ofBits .f32 0x00000000#32 : F .f32)
  | j + 1 => addf (convAcc v L y6 n j)
      (mulf (broadcastTo S64x256 (shapeCast S1x256 (View.ld y6 (Rect.unit ![(30 - j) % 32, 256 * (n % 4)] S1x256.size (inbTapRow (30 - j) n))) shapeCasts_S1x256_S1x256 : FVec F S1x256 .f32) broadcasts_S1x256_S64x256 : FVec F S64x256 .f32)
        (shapeCast S64x256 (v.readCov L (winBox (64 * (n / 4 % 4) + j) n).toLoadRect : Vec F S1x64x256 .f32) shapeCasts_S1x64x256_S64x256 : FVec F S64x256 .f32) : FVec F S64x256 .f32)

/-- The stores of the first `n` chunks. -/
def convStores (v : View sig .tc .vmem S8x288x1024 .f32) (L : List (View.Piece (Elt F) S8x288x1024 .f32)) (y6 : Vec F S32x1024 .f32) : ℕ → List (View.Piece (Elt F) S256x1024 .f32)
  | 0 => []
  | n + 1 => ⟨chunkBox n, (shapeCast S64x256 (convAcc v L y6 n 31) shapeCasts_S64x256_S64x256 : FVec F S64x256 .f32)⟩ :: convStores v L y6 n

/-! ## The three parts of the input's gradient -/

/-- The stores of a tile of the input's gradient. -/
def dzStores (v0 : View sig .tc .vmem S8x288x1024 .f32) (v1 : View sig .tc .vmem S288x1024 .f32) (v3 : View sig .tc .vmem S256x1024 .f32)
    (L0 : List (View.Piece (Elt F) S8x288x1024 .f32)) (L1 : List (View.Piece (Elt F) S288x1024 .f32))
    (y2 : Vec F S256x1024 .bf16) (y4 : Vec F S256x5120 .bf16) (y6 : Vec F S32x1024 .f32) : List (View.Piece (Elt F) S256x3072 .bf16) :=
  let dc0 : Vec F S256x1024 .f32 := v3.readCov (convStores v0 L0 y6 16) (Rect.unit ![0, 0] S256x1024.size inb_S256x1024_S256x1024_0_0).toLoadRect
  let za : FVec F S256x1024 .f32 := k0_pay16 (View.ld y4 (Rect.unit ![0, 1024 * (1 % 4)] S256x1024.size (inbZ 1)))
  let sg : FVec F S256x1024 .f32 := k0_pay17 (View.ld y4 (Rect.unit ![0, 1024 * (2 % 4)] S256x1024.size (inbZ 2)))
  [⟨Rect.unit ![0, 2048] S256x1024.size inb_S256x3072_S256x1024_0_2048, k0_pay232 za sg dc0⟩,
    ⟨Rect.unit ![0, 1024] S256x1024.size inb_S256x3072_S256x1024_0_1024, k0_pay231 sg dc0⟩,
    ⟨Rect.unit ![0, 256 * (3 % 4)] S256x256.size (inbOut 3), poolOut v1 L1 y2 3⟩,
    ⟨Rect.unit ![0, 256 * (2 % 4)] S256x256.size (inbOut 2), poolOut v1 L1 y2 2⟩,
    ⟨Rect.unit ![0, 256 * (1 % 4)] S256x256.size (inbOut 1), poolOut v1 L1 y2 1⟩,
    ⟨Rect.unit ![0, 256 * (0 % 4)] S256x256.size (inbOut 0), poolOut v1 L1 y2 0⟩]

section run
variable (c : Dev nD) (i : grid0.Coords) (arg1 : Memref sig .tc .vmem S256x1024 .bf16) (harg1 : arg1.IsWhole) (arg2 : Memref sig .tc .vmem S32x1024 .bf16) (harg2 : arg2.IsWhole) (arg3 : Memref sig .tc .vmem S256x1024 .bf16) (harg3 : arg3.IsWhole) (arg4 : Memref sig .tc .vmem S32x1024 .bf16) (harg4 : arg4.IsWhole) (arg5 : Memref sig .tc .vmem S256x5120 .bf16) (harg5 : arg5.IsWhole) (arg6 : Memref sig .tc .vmem S32x5120 .bf16) (harg6 : arg6.IsWhole) (arg7 : Memref sig .tc .vmem S32x1024 .f32) (harg7 : arg7.IsWhole) (arg8 : Memref sig .tc .vmem S256x3072 .bf16) (harg8 : arg8.IsWhole) (arg9 : Memref sig .tc .vmem S256x1024 .f32) (harg9 : arg9.IsWhole) (arg10 : Memref sig .tc .vmem S8x288x1024 .f32) (harg10 : arg10.IsWhole) (arg11 : Memref sig .tc .vmem S288x1024 .f32) (harg11 : arg11.IsWhole) (arg12 : Memref sig .tc .vmem S8x288x1024 .f32) (harg12 : arg12.IsWhole) (arg13 : Memref sig .tc .vmem S256x1024 .f32) (harg13 : arg13.IsWhole)
    (x0 : Vec F S256x1024 .bf16) (x1 : Vec F S32x1024 .bf16) (x2 : Vec F S256x1024 .bf16) (x3 : Vec F S32x1024 .bf16) (x4 : Vec F S256x5120 .bf16) (x5 : Vec F S32x5120 .bf16) (x6 : Vec F S32x1024 .f32) (xo8 : Vec F S256x1024 .f32)

set_option maxRecDepth 65536 in
/-- The weight gradient's stores at the first point: over a tile of zeros. -/
theorem storesA (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 =
      tapStores (tapTerm arg10.view arg12.view
          (layerStores arg10.view (dBase i (arg1.view.read (Elt F) (harg1.unread x0)) (arg2.view.read (Elt F) (harg2.unread x1))) 7)
          (layerStores arg12.view (cBase i (arg5.view.read (Elt F) (harg5.unread x4)) (arg6.view.read (Elt F) (harg6.unread x5))) 7))
        [⟨Rect.unit ![0, 0] S256x1024.size inb_S256x1024_S256x1024_0_0, k0_pay2⟩]
        (fun m L => arg9.view.readCov L (tapBox m).toLoadRect) 496 := by
  sl_kernel_rfl

set_option maxRecDepth 65536 in
/-- The weight gradient's stores at a later point: over what the point before left. -/
theorem storesB (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8).2.1 =
      tapStores (tapTerm arg10.view arg12.view
          (layerStores arg10.view (dBase i (arg1.view.read (Elt F) (harg1.unread x0)) (arg2.view.read (Elt F) (harg2.unread x1))) 7)
          (layerStores arg12.view (cBase i (arg5.view.read (Elt F) (harg5.unread x4)) (arg6.view.read (Elt F) (harg6.unread x5))) 7))
        []
        (fun m L => if m < 124 then View.ld (arg9.view.read (Elt F) (harg9.unread xo8)) (tapBox m) else arg9.view.readCov L (tapBox m).toLoadRect) 496 := by
  sl_kernel_rfl

set_option maxRecDepth 65536 in
/-- The input gradient's stores at the first point, -/
theorem dzStoresA (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 =
      dzStores arg10.view arg11.view arg13.view
        (layerStores arg10.view (dBase i (arg1.view.read (Elt F) (harg1.unread x0)) (arg2.view.read (Elt F) (harg2.unread x1))) 7)
        (poolStores i (arg3.view.read (Elt F) (harg3.unread x2)) (arg4.view.read (Elt F) (harg4.unread x3)) 4)
        (arg3.view.read (Elt F) (harg3.unread x2)) (arg5.view.read (Elt F) (harg5.unread x4)) (arg7.view.read (Elt F) (harg7.unread x6)) := by
  sl_kernel_rfl

set_option maxRecDepth 65536 in
/-- and at a later point. -/
theorem dzStoresB (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8).1 =
      dzStores arg10.view arg11.view arg13.view
        (layerStores arg10.view (dBase i (arg1.view.read (Elt F) (harg1.unread x0)) (arg2.view.read (Elt F) (harg2.unread x1))) 7)
        (poolStores i (arg3.view.read (Elt F) (harg3.unread x2)) (arg4.view.read (Elt F) (harg4.unread x3)) 4)
        (arg3.view.read (Elt F) (harg3.unread x2)) (arg5.view.read (Elt F) (harg5.unread x4)) (arg7.view.read (Elt F) (harg7.unread x6)) := by
  sl_kernel_rfl

end run

end Cert.KernelIdeal.Gen
-- ==== Proof.Tile.lean ====
module
public import proofs.«01_k».proof.Proof.Stores
public import proofs.«01_k».proof.Proof.Entries
@[expose] public section
namespace Cert.KernelIdeal.Gen
open Idealize.ShloMosaic Idealize.ShloMosaic.TcCoe Cert.Entries

/-!
  What a grid point's stores hold, entry by entry, on extended reals.
-/

/-- The entry a stack's stores leave. -/
noncomputable def val3 (L : List (View.Piece (Elt Ideal) S8x288x1024 .f32)) (l r c : ℕ) : EReal :=
  at3 (k := 8) (m := 288) (n := 1024) (View.canon L) l r c

/-- The entry a tile's stores leave. -/
noncomputable def val2 (L : List (View.Piece (Elt Ideal) S256x1024 .f32)) (r c : ℕ) : EReal :=
  at2 (m := 256) (n := 1024) (View.canon L) r c

/-- The entry the pool scratch's stores leave. -/
noncomputable def valP (L : List (View.Piece (Elt Ideal) S288x1024 .f32)) (r c : ℕ) : EReal :=
  at2 (m := 288) (n := 1024) (View.canon L) r c

/-- Layer `l` of a preshifted scratch holds layer 0 from row `l` on. -/
theorem layer_val (v : View sig .tc .vmem S8x288x1024 .f32) (base : List (View.Piece (Elt Ideal) S8x288x1024 .f32)) (m : ℕ) (hm : m ≤ 7) :
    ∀ l ≤ m, ∀ q c, c < 1024 → q < 288 → (l ≠ 0 → q < 280) → val3 (layerStores v base m) l q c = val3 base 0 (q + l) c := by
  induction m with
  | zero =>
    intro l hl q c _ _ _
    obtain rfl : l = 0 := by omega
    rfl
  | succ m ih =>
    intro l hl q c hc hq hlq
    by_cases h : l = m + 1
    · subst h
      have hq' := hlq (by omega)
      refine (canon3_hit (Val := Elt Ideal) (e := .f32) (fun x => x) (inbLayer (m + 1)) _ (layerStores v base m)
        (by omega : (m + 1) % 8 ≤ m + 1 ∧ m + 1 < (m + 1) % 8 + 1) (by omega : 0 ≤ q ∧ q < 0 + 280) (by omega : 0 ≤ c ∧ c < 0 + 1024)).trans ?_
      rw [show m + 1 - (m + 1) % 8 = 0 by omega, Nat.sub_zero, Nat.sub_zero]
      refine (at3_cast (m := 280) (n := 1024) _ _ q c).trans ?_
      refine (at2_cast3 (m := 280) (n := 1024) _ _ q c).trans ?_
      refine (at3_readCov (Val := Elt Ideal) (e := .f32) (fun x => x) (inbRows (m + 1)) v (layerStores v base m) Nat.one_pos hq' hc).trans ?_
      refine (ih (by omega) 0 (by omega) _ _ (by omega) (by omega) (by omega)).trans ?_
      rw [show (m + 1) % 8 + q + 0 = q + (m + 1) by omega, Nat.zero_add]
    · refine (canon3_miss (Val := Elt Ideal) (e := .f32) (fun x => x) (inbLayer (m + 1)) _ (layerStores v base m) ?_).trans ?_
      · omega
      · exact ih (by omega) l (by omega) q c hc hq hlq

/-- A window of a preshifted scratch: 64 rows of layer 0. -/
theorem win_val (v : View sig .tc .vmem S8x288x1024 .f32) (base : List (View.Piece (Elt Ideal) S8x288x1024 .f32)) (w l : ℕ) (hw : w ≤ 224)
    {x y : ℕ} (hx : x < 64) (hy : y < 256) :
    at3 (k := 1) (m := 64) (n := 256) (v.readCov (layerStores v base 7) (winBox w l).toLoadRect) 0 x y = val3 base 0 (w + x) (256 * (l % 4) + y) := by
  refine (at3_readCov (Val := Elt Ideal) (e := .f32) (fun x => x) (inbWin w l) v (layerStores v base 7) Nat.one_pos hx hy).trans ?_
  refine (layer_val v base 7 le_rfl _ (by omega) _ _ (by omega) (by omega) (by omega)).trans ?_
  rw [show w % 232 - w % 232 % 8 + x + (w % 232 % 8 + 0) = w + x by omega]

/-- One tap's partial sums at an entry. -/
theorem tapSum_val (d c : Vec Ideal S1x64x256 .f32) {j y : ℕ} (hj : j < 8) (hy : y < 256) :
    at2 (m := 8) (n := 256) (tapSum d c) j y
      = ∑ g : Fin 8, at3 (k := 1) (m := 64) (n := 256) d 0 (g * 8 + j) y * at3 (k := 1) (m := 64) (n := 256) c 0 (g * 8 + j) y := by
  rw [at2_of hj hy]
  refine Eq.trans (Ideal.reduceAdd_r3_a0 (n0 := 8) (n1 := 8) (n2 := 256) reduces_S8x8x256_S8x256 _ _) ?_
  refine Finset.sum_congr rfl fun g _ => ?_
  refine Eq.trans (b := at3 (k := 8) (m := 8) (n := 256) _ g j y) (at3_of g.isLt hj hy).symm ?_
  refine (at3_split (a := 8) (b := 8) (m := 64) (n := 256) _ _ g.isLt hj rfl).trans ?_
  rw [at2_mulf]
  exact congrArg₂ _ (at2_cast3 (m := 64) (n := 256) _ _ _ _) (at2_cast3 (m := 64) (n := 256) _ _ _ _)

/-- Step `m`'s partial sums at an entry, of the two scratches' layer 0. -/
theorem tapTerm_val (vd vc : View sig .tc .vmem S8x288x1024 .f32) (bd bc : List (View.Piece (Elt Ideal) S8x288x1024 .f32)) (m : ℕ)
    {j y : ℕ} (hj : j < 8) (hy : y < 256) :
    at2 (m := 8) (n := 256) (tapTerm vd vc (layerStores vd bd 7) (layerStores vc bc 7) m) j y
      = ∑ g : Fin 8, val3 bd 0 (64 * (m / 124 % 4) + (g * 8 + j)) (256 * (m / 31 % 4) + y)
          * val3 bc 0 (64 * (m / 124 % 4) + 2 + m % 31 + (g * 8 + j)) (256 * (m / 31 % 4) + y) := by
  refine (tapSum_val _ _ hj hy).trans (Finset.sum_congr rfl fun g _ => ?_)
  have hg := g.isLt
  exact congrArg₂ _ (win_val vd bd _ _ (by omega) (by omega) hy) (win_val vc bc _ _ (by omega) (by omega) hy)

/-- The step of the first chunk of rows that writes row `r`, column `c`. -/
def stepOf (r c : ℕ) : ℕ := c / 256 * 31 + r / 8

theorem mem_tap (m : ℕ) {r c : ℕ} (hr : r < 248) (hc : c < 1024) :
    ((8 * (m % 31) ≤ r ∧ r < 8 * (m % 31) + 8) ∧ (256 * (m / 31 % 4) ≤ c ∧ c < 256 * (m / 31 % 4) + 256)) ↔ m % 124 = stepOf r c := by
  unfold stepOf
  omega

/-- After the first `m` steps over what was there: each entry has the terms of its own steps. -/
theorem tap_val (term : ℕ → FVec Ideal S8x256 .f32) (base : List (View.Piece (Elt Ideal) S256x1024 .f32))
    (old : (m : ℕ) → List (View.Piece (Elt Ideal) S256x1024 .f32) → Vec Ideal S8x256 .f32) (X : ℕ → ℕ → EReal) {r c : ℕ} (hr : r < 248) (hc : c < 1024)
    (h0 : ∀ m < 124, m = stepOf r c →
      at2 (m := 8) (n := 256) (old m (tapStores term base old m)) (r - 8 * (m % 31)) (c - 256 * (m / 31 % 4)) = X r c)
    (h1 : ∀ m L, 124 ≤ m → m % 124 = stepOf r c →
      at2 (m := 8) (n := 256) (old m L) (r - 8 * (m % 31)) (c - 256 * (m / 31 % 4)) = val2 L r c) (m : ℕ) :
    (stepOf r c < m → val2 (tapStores term base old m) r c
      = X r c + ∑ s ∈ Finset.range ((m - stepOf r c + 123) / 124), at2 (m := 8) (n := 256) (term (124 * s + stepOf r c)) (r % 8) (c % 256)) := by
  have hs : stepOf r c < 124 := by unfold stepOf; omega
  induction m with
  | zero => omega
  | succ m ih =>
    intro hm
    by_cases h : m % 124 = stepOf r c
    · have hb := (mem_tap m hr hc).mpr h
      refine (canon2_hit (Val := Elt Ideal) (e := .f32) (fun x => x) (inbTap m) _ (tapStores term base old m) hb.1 hb.2).trans ?_
      refine (at2_addf (m := 8) (n := 256) (φ := .f32) _ _ _ _).trans ?_
      have e1 : r - 8 * (m % 31) = r % 8 := by omega
      have e2 : c - 256 * (m / 31 % 4) = c % 256 := by omega
      have e3 : (m + 1 - stepOf r c + 123) / 124 = (m / 124) + 1 := by omega
      have e4 : 124 * (m / 124) + stepOf r c = m := by omega
      rw [e3, Finset.sum_range_succ, e4, ← add_assoc, e1, e2]
      refine congrArg₂ (· + ·) ?_ rfl
      refine (at2_cast (m := 8) (n := 256) _ _ _ _).trans ?_
      rw [← e1, ← e2]
      by_cases hlt : m < 124
      · rw [h0 m hlt (by omega), show m / 124 = 0 by omega, Finset.sum_range_zero, add_zero]
      · rw [h1 m _ (by omega) h, ih (by omega), e1, e2, show (m - stepOf r c + 123) / 124 = m / 124 by omega]
    · refine (canon2_miss (Val := Elt Ideal) (e := .f32) (fun x => x) (inbTap m) _ (tapStores term base old m) ?_).trans ?_
      · rw [mem_tap m hr hc]; exact h
      · refine (ih (by omega)).trans ?_
        rw [show (m + 1 - stepOf r c + 123) / 124 = (m - stepOf r c + 123) / 124 by omega]

/-- Rows past the taps keep what was there. -/
theorem tap_rest (term : ℕ → FVec Ideal S8x256 .f32) (base : List (View.Piece (Elt Ideal) S256x1024 .f32))
    (old : (m : ℕ) → List (View.Piece (Elt Ideal) S256x1024 .f32) → Vec Ideal S8x256 .f32) {r c : ℕ} (hr : 248 ≤ r) (m : ℕ) :
    val2 (tapStores term base old m) r c = val2 base r c := by
  induction m with
  | zero => rfl
  | succ m ih =>
    refine (canon2_miss (Val := Elt Ideal) (e := .f32) (fun x => x) (inbTap m) _ (tapStores term base old m) ?_).trans ih
    omega

end Cert.KernelIdeal.Gen
-- ==== Proof.Grad.lean ====
module
public import proofs.«01_k».proof.Proof.Tile
public import Idealize.ShloMosaic.Lib.WritesUnit
@[expose] public section
namespace Cert.KernelIdeal.Gen
open Idealize.ShloMosaic Idealize.ShloMosaic.TcCoe Cert.Entries

/-!
  The two gradients a grid point computes, entry by entry, on extended reals.
-/

/-! ## The rows the point reads -/

/-- Layer 0 of the cotangent's scratch: the tile's rows, then the 32 rows after them. -/
theorem dBase_val (i : grid0.Coords) (y0 : Vec Ideal S256x1024 .bf16) (y1 : Vec Ideal S32x1024 .bf16) {q c : ℕ} (hq : q < 288) (hc : c < 1024) :
    val3 (dBase i y0 y1) 0 q c
      = if q < 256 then at2 (m := 256) (n := 1024) y0 q c else at2 (m := 32) (n := 1024) y1 (q - 256) c * k0_pay4 (F := Ideal) i := by
  split
  · rename_i h
    refine (canon3_miss (Val := Elt Ideal) (e := .f32) (fun x => x) inb_S8x288x1024_S1x32x1024_0_256_0 _ _ (by omega)).trans ?_
    refine (canon3_hit (Val := Elt Ideal) (e := .f32) (fun x => x) inb_S8x288x1024_S1x256x1024_0_0_0 _ _
      (by omega : 0 ≤ 0 ∧ 0 < 0 + 1) (by omega : 0 ≤ q ∧ q < 0 + 256) (by omega : 0 ≤ c ∧ c < 0 + 1024)).trans ?_
    unfold k0_pay5
    refine (at3_cast (m := 256) (n := 1024) _ _ _ _).trans ?_
    refine (at2_extf_cast (m := 256) (n := 1024) (φ := .bf16) (ψ := .f32) _ _ _ _ _).trans ?_
    refine (at2_ld (Val := Elt Ideal) (e := .bf16) (fun x => x) inb_S256x1024_S256x1024_0_0 y0 (by omega) (by omega)).trans ?_
    rw [Nat.zero_add, Nat.zero_add]; rfl
  · rename_i h
    refine (canon3_hit (Val := Elt Ideal) (e := .f32) (fun x => x) inb_S8x288x1024_S1x32x1024_0_256_0 _ _
      (by omega : 0 ≤ 0 ∧ 0 < 0 + 1) (by omega : 256 ≤ q ∧ q < 256 + 32) (by omega : 0 ≤ c ∧ c < 0 + 1024)).trans ?_
    unfold k0_pay6
    refine (at3_cast (m := 32) (n := 1024) _ _ _ _).trans ?_
    refine (at2_mulf (m := 32) (n := 1024) (φ := .f32) _ _ _ _).trans ?_
    refine congrArg₂ (· * ·) ?_ (at2_broadcast (by omega) (by omega))
    refine (at2_extf_cast (m := 32) (n := 1024) (φ := .bf16) (ψ := .f32) _ _ _ _ _).trans ?_
    refine (at2_ld (Val := Elt Ideal) (e := .bf16) (fun x => x) inb_S32x1024_S32x1024_0_0 y1 (by omega) (by omega)).trans ?_
    rw [Nat.zero_add, Nat.zero_add]; rfl

/-- Layer 0 of the gated input's scratch: the 32 rows before the tile, then the tile's. -/
theorem cBase_val (i : grid0.Coords) (y4 : Vec Ideal S256x5120 .bf16) (y5 : Vec Ideal S32x5120 .bf16) {q c : ℕ} (hq : q < 288) (hc : c < 1024) :
    val3 (cBase i y4 y5) 0 q c
      = if q < 32 then at2 (m := 32) (n := 5120) y5 q (1024 + c) * Ideal.logistic (at2 (m := 32) (n := 5120) y5 q (2048 + c)) * k0_pay3 (F := Ideal) i
        else at2 (m := 256) (n := 5120) y4 (q - 32) (1024 + c) * Ideal.logistic (at2 (m := 256) (n := 5120) y4 (q - 32) (2048 + c)) := by
  split
  · rename_i h
    refine (canon3_miss (Val := Elt Ideal) (e := .f32) (fun x => x) inb_S8x288x1024_S1x256x1024_0_32_0 _ _ (by omega)).trans ?_
    refine (canon3_hit (Val := Elt Ideal) (e := .f32) (fun x => x) inb_S8x288x1024_S1x32x1024_0_0_0 _ _
      (by omega : 0 ≤ 0 ∧ 0 < 0 + 1) (by omega : 0 ≤ q ∧ q < 0 + 32) (by omega : 0 ≤ c ∧ c < 0 + 1024)).trans ?_
    unfold k0_pay18
    refine (at3_cast (m := 32) (n := 1024) _ _ _ _).trans ?_
    refine (at2_mulf (m := 32) (n := 1024) (φ := .f32) _ _ _ _).trans ?_
    refine congrArg₂ (· * ·) ?_ (at2_broadcast (by omega) (by omega))
    refine (at2_mulf (m := 32) (n := 1024) (φ := .f32) _ _ _ _).trans ?_
    refine congrArg₂ (· * ·) ?_ ?_
    · refine (at2_extf_cast (m := 32) (n := 1024) (φ := .bf16) (ψ := .f32) _ _ _ _ _).trans ?_
      refine (at2_ld (Val := Elt Ideal) (e := .bf16) (fun x => x) (inbZHalo 1) y5 (by omega) (by omega)).trans ?_
      rw [Nat.zero_add, Nat.sub_zero, Nat.sub_zero]
    · refine (at2_logistic (m := 32) (n := 1024) (φ := .f32) _ (by omega) (by omega)).trans (congrArg Ideal.logistic ?_)
      refine (at2_extf_cast (m := 32) (n := 1024) (φ := .bf16) (ψ := .f32) _ _ _ _ _).trans ?_
      refine (at2_ld (Val := Elt Ideal) (e := .bf16) (fun x => x) (inbZHalo 2) y5 (by omega) (by omega)).trans ?_
      rw [Nat.zero_add, Nat.sub_zero, Nat.sub_zero]
  · rename_i h
    refine (canon3_hit (Val := Elt Ideal) (e := .f32) (fun x => x) inb_S8x288x1024_S1x256x1024_0_32_0 _ _
      (by omega : 0 ≤ 0 ∧ 0 < 0 + 1) (by omega : 32 ≤ q ∧ q < 32 + 256) (by omega : 0 ≤ c ∧ c < 0 + 1024)).trans ?_
    unfold k0_pay19 k0_pay16 k0_pay17
    refine (at3_cast (m := 256) (n := 1024) _ _ _ _).trans ?_
    refine (at2_mulf (m := 256) (n := 1024) (φ := .f32) _ _ _ _).trans ?_
    refine congrArg₂ (· * ·) ?_ ?_
    · refine (at2_extf_cast (m := 256) (n := 1024) (φ := .bf16) (ψ := .f32) _ _ _ _ _).trans ?_
      refine (at2_ld (Val := Elt Ideal) (e := .bf16) (fun x => x) (inbZ 1) y4 (by omega) (by omega)).trans ?_
      rw [Nat.zero_add, Nat.sub_zero]
    · refine (at2_logistic (m := 256) (n := 1024) (φ := .f32) _ (by omega) (by omega)).trans (congrArg Ideal.logistic ?_)
      refine (at2_extf_cast (m := 256) (n := 1024) (φ := .bf16) (ψ := .f32) _ _ _ _ _).trans ?_
      refine (at2_ld (Val := Elt Ideal) (e := .bf16) (fun x => x) (inbZ 2) y4 (by omega) (by omega)).trans ?_
      rw [Nat.zero_add, Nat.sub_zero]

/-! ## The weight gradient -/

/-- Before an entry's first step nothing has been added. -/
theorem tap_before (term : ℕ → FVec Ideal S8x256 .f32) (base : List (View.Piece (Elt Ideal) S256x1024 .f32))
    (old : (m : ℕ) → List (View.Piece (Elt Ideal) S256x1024 .f32) → Vec Ideal S8x256 .f32) {r c : ℕ} (hr : r < 248) (hc : c < 1024) (m : ℕ) (hm : m ≤ stepOf r c) :
    val2 (tapStores term base old m) r c = val2 base r c := by
  have hs : stepOf r c < 124 := by unfold stepOf; omega
  induction m with
  | zero => rfl
  | succ m ih =>
    refine (canon2_miss (Val := Elt Ideal) (e := .f32) (fun x => x) (inbTap m) _ (tapStores term base old m) ?_).trans (ih (by omega))
    rw [mem_tap m hr hc]
    omega

/-- The product of two rows, one of each scratch, that a tap sums over. -/
noncomputable def tapProd (bd bc : List (View.Piece (Elt Ideal) S8x288x1024 .f32)) (k c q : ℕ) : EReal :=
  val3 bd 0 q c * val3 bc 0 (q + 2 + k) c

/-- A tap's steps together: 32 rows, eight apart. -/
theorem tap_sum (vd vc : View sig .tc .vmem S8x288x1024 .f32) (bd bc : List (View.Piece (Elt Ideal) S8x288x1024 .f32)) {r c : ℕ} (hr : r < 248) (hc : c < 1024) :
    ∑ s ∈ Finset.range ((496 - stepOf r c + 123) / 124),
        at2 (m := 8) (n := 256) (tapTerm vd vc (layerStores vd bd 7) (layerStores vc bc 7) (124 * s + stepOf r c)) (r % 8) (c % 256)
      = ∑ b ∈ Finset.range 32, tapProd bd bc (r / 8) c (8 * b + r % 8) := by
  have hs : stepOf r c < 124 := by unfold stepOf; omega
  rw [show (496 - stepOf r c + 123) / 124 = 4 by omega]
  refine Eq.trans (b := ∑ s ∈ Finset.range 4, ∑ g ∈ Finset.range 8, tapProd bd bc (r / 8) c (8 * (8 * s + g) + r % 8)) ?_ ?_
  · refine Finset.sum_congr rfl fun s hs' => ?_
    have hs4 := Finset.mem_range.mp hs'
    rw [Finset.sum_range]
    refine (tapTerm_val vd vc bd bc _ (by omega) (by omega)).trans (Finset.sum_congr rfl fun g _ => ?_)
    have e1 : (124 * s + stepOf r c) / 124 % 4 = s := by omega
    have e2 : (124 * s + stepOf r c) % 31 = r / 8 := by unfold stepOf; omega
    have e3 : 256 * ((124 * s + stepOf r c) / 31 % 4) + c % 256 = c := by unfold stepOf; omega
    rw [e1, e2, e3]
    unfold tapProd
    rw [show 64 * s + (g.val * 8 + r % 8) = 8 * (8 * s + g.val) + r % 8 by omega,
      show 64 * s + 2 + r / 8 + (g.val * 8 + r % 8) = 8 * (8 * s + g.val) + r % 8 + 2 + r / 8 by omega]
  · simp only [Finset.sum_range_succ, Finset.sum_range_zero, zero_add, add_zero, add_assoc, Nat.reduceMul, Nat.reduceAdd]

/-- The weight gradient's tile after the first point. -/
theorem wgradA_val (v : View sig .tc .vmem S256x1024 .f32) (vd vc : View sig .tc .vmem S8x288x1024 .f32)
    (bd bc : List (View.Piece (Elt Ideal) S8x288x1024 .f32)) {r c : ℕ} (hr : r < 256) (hc : c < 1024) :
    val2 (tapStores (tapTerm vd vc (layerStores vd bd 7) (layerStores vc bc 7))
        [⟨Rect.unit ![0, 0] S256x1024.size inb_S256x1024_S256x1024_0_0, k0_pay2 (F := Ideal)⟩]
        (fun m L => v.readCov L (tapBox m).toLoadRect) 496) r c
      = if r < 248 then ∑ b ∈ Finset.range 32, tapProd bd bc (r / 8) c (8 * b + r % 8) else 0 := by
  have hz : val2 [⟨Rect.unit ![0, 0] S256x1024.size inb_S256x1024_S256x1024_0_0, k0_pay2 (F := Ideal)⟩] r c = 0 := by
    refine (canon2_hit (Val := Elt Ideal) (e := .f32) (fun x => x) inb_S256x1024_S256x1024_0_0 _ _
      (by omega : 0 ≤ r ∧ r < 0 + 256) (by omega : 0 ≤ c ∧ c < 0 + 1024)).trans ?_
    refine (at2_broadcast (m := 256) (n := 1024) (by omega) (by omega)).trans ?_
    exact Ideal.ofBits_zero_f32
  split
  · rename_i h
    have hs : stepOf r c < 124 := by unfold stepOf; omega
    have hrd : ∀ m L, m % 124 = stepOf r c →
        at2 (m := 8) (n := 256) (v.readCov (Val := Elt Ideal) L (tapBox m).toLoadRect) (r - 8 * (m % 31)) (c - 256 * (m / 31 % 4)) = val2 L r c := by
      intro m L hm
      have hb := (mem_tap m h hc).mpr hm
      refine (at2_readCov (Val := Elt Ideal) (e := .f32) (fun x => x) (inbTap m) v L (by omega) (by omega)).trans ?_
      rw [show 8 * (m % 31) + (r - 8 * (m % 31)) = r by omega, show 256 * (m / 31 % 4) + (c - 256 * (m / 31 % 4)) = c by omega]
      rfl
    refine (tap_val _ _ _ (fun _ _ => 0) h hc ?_ ?_ 496 (by omega)).trans ?_
    · intro m hm hmm
      exact (hrd m _ (by omega)).trans ((tap_before _ _ _ h hc m (by omega)).trans hz)
    · intro m L _ hm
      exact hrd m L hm
    · rw [zero_add]
      exact tap_sum vd vc bd bc h hc
  · rename_i h
    exact (tap_rest _ _ _ (by omega) 496).trans hz

/-- An entry in the taps' rows is stored. -/
theorem tap_cover (term : ℕ → FVec Ideal S8x256 .f32) (base : List (View.Piece (Elt Ideal) S256x1024 .f32))
    (old : (m : ℕ) → List (View.Piece (Elt Ideal) S256x1024 .f32) → Vec Ideal S8x256 .f32) (y : S256x1024.Idx) (hr : (y 0).val < 248) (m : ℕ)
    (hm : stepOf (y 0).val (y 1).val < m) : ∃ p ∈ tapStores term base old m, y ∈ p.1.set := by
  have h1 : (y 1).val < 1024 := (y 1).isLt
  have hs : stepOf (y 0).val (y 1).val < 124 := by unfold stepOf; omega
  induction m with
  | zero => omega
  | succ m ih =>
    by_cases h : m % 124 = stepOf (y 0).val (y 1).val
    · refine ⟨_, List.mem_cons_self, ?_⟩
      have hb := (mem_tap m hr (y 1).isLt).mpr h
      show y ∈ (tapBox m).set
      rw [Rect.mem_set_unit]
      intro a
      fin_cases a
      · exact hb.1
      · exact hb.2
    · obtain ⟨p, hp, hy⟩ := ih (by omega)
      exact ⟨p, List.mem_cons_of_mem _ hp, hy⟩

/-- An entry past them is not. -/
theorem tap_keep {κ : Kind} {sp : Space} (v : View sig κ sp S256x1024 .f32) (f : v.ty.Contents (Elt Ideal)) (term : ℕ → FVec Ideal S8x256 .f32)
    (old : (m : ℕ) → List (View.Piece (Elt Ideal) S256x1024 .f32) → Vec Ideal S8x256 .f32) (y : S256x1024.Idx) (hr : 248 ≤ (y 0).val) (m : ℕ) :
    v.read (Elt Ideal) (v.writes (Elt Ideal) f (tapStores term [] old m)) y = v.read (Elt Ideal) f y := by
  induction m with
  | zero => rfl
  | succ m ih =>
    refine (View.read_writes_cons_unit_of_not_mem v f (inbTap m) _ (tapStores term [] old m) y rfl 0 (Or.inr ?_)).trans ih
    show 8 * (m % 31) + 8 ≤ (y 0).val
    omega

/-- The weight gradient's tile after a later point: what the point before left and the point's own terms. -/
theorem wgradB_val {κ : Kind} {sp : Space} (v w : View sig κ sp S256x1024 .f32) (f : v.ty.Contents (Elt Ideal)) (xo : Vec Ideal S256x1024 .f32) (hf : v.read (Elt Ideal) f = xo)
    (u : View sig .tc .vmem S256x1024 .f32) (vd vc : View sig .tc .vmem S8x288x1024 .f32)
    (bd bc : List (View.Piece (Elt Ideal) S8x288x1024 .f32)) {r c : ℕ} (hr : r < 256) (hc : c < 1024) :
    at2 (m := 256) (n := 1024) (v.read (Elt Ideal) (v.writes (Elt Ideal) f (tapStores (tapTerm vd vc (layerStores vd bd 7) (layerStores vc bc 7)) []
        (fun m L => if m < 124 then View.ld xo (tapBox m) else u.readCov L (tapBox m).toLoadRect) 496))) r c
      = at2 (m := 256) (n := 1024) xo r c + if r < 248 then ∑ b ∈ Finset.range 32, tapProd bd bc (r / 8) c (8 * b + r % 8) else 0 := by
  split
  · rename_i h
    have hs : stepOf r c < 124 := by unfold stepOf; omega
    refine (at2_of hr hc).trans ((View.read_writes_apply_eq_canon v f _ _ (tap_cover _ _ _ _ h 496 (by show stepOf r c < 496; omega))).trans ?_)
    refine (at2_of (m := 256) (n := 1024) hr hc).symm.trans ?_
    refine (tap_val _ _ _ (at2 (m := 256) (n := 1024) xo) h hc ?_ ?_ 496 (by omega)).trans ?_
    · intro m hm hmm
      have hb := (mem_tap m h hc).mpr (by omega)
      simp only [if_pos hm]
      refine (at2_ld (Val := Elt Ideal) (e := .f32) (fun x => x) (inbTap m) xo (by omega) (by omega)).trans ?_
      rw [show 8 * (m % 31) + (r - 8 * (m % 31)) = r by omega, show 256 * (m / 31 % 4) + (c - 256 * (m / 31 % 4)) = c by omega]
    · intro m L hm hmm
      have hb := (mem_tap m h hc).mpr hmm
      simp only [if_neg (not_lt.mpr hm)]
      refine (at2_readCov (Val := Elt Ideal) (e := .f32) (fun x => x) (inbTap m) u L (by omega) (by omega)).trans ?_
      rw [show 8 * (m % 31) + (r - 8 * (m % 31)) = r by omega, show 256 * (m / 31 % 4) + (c - 256 * (m / 31 % 4)) = c by omega]
      rfl
    · exact congrArg (at2 (m := 256) (n := 1024) xo r c + ·) (tap_sum vd vc bd bc h hc)
  · rename_i h
    rw [add_zero, at2_of hr hc, at2_of hr hc, tap_keep v f _ _ _ (by show 248 ≤ r; omega) 496, hf]

/-! ## The convolution's gradient -/

/-- The first `j` taps at an entry of chunk `n`. -/
theorem convAcc_val (v : View sig .tc .vmem S8x288x1024 .f32) (bd : List (View.Piece (Elt Ideal) S8x288x1024 .f32)) (y6 : Vec Ideal S32x1024 .f32) (n j : ℕ) (hj : j ≤ 31)
    {x y : ℕ} (hx : x < 64) (hy : y < 256) :
    at2 (m := 64) (n := 256) (convAcc v (layerStores v bd 7) y6 n j) x y
      = ∑ i ∈ Finset.range j, at2 (m := 32) (n := 1024) y6 (30 - i) (256 * (n % 4) + y) * val3 bd 0 (64 * (n / 4 % 4) + x + i) (256 * (n % 4) + y) := by
  induction j with
  | zero =>
    refine (at2_broadcast (m := 64) (n := 256) hx hy).trans ?_
    rw [Finset.sum_range_zero]
    exact Ideal.ofBits_zero_f32
  | succ j ih =>
    rw [Finset.sum_range_succ, ← ih (by omega)]
    refine (at2_addf (m := 64) (n := 256) (φ := .f32) _ _ _ _).trans (congrArg₂ (· + ·) rfl ?_)
    refine (at2_mulf (m := 64) (n := 256) (φ := .f32) _ _ _ _).trans (congrArg₂ (· * ·) ?_ ?_)
    · refine (at2_row (m := 64) (n := 256) _ _ hx).trans ?_
      refine (at2_cast (m := 1) (n := 256) _ _ _ _).trans ?_
      refine (at2_ld (Val := Elt Ideal) (e := .f32) (fun x => x) (inbTapRow (30 - j) n) y6 Nat.one_pos hy).trans ?_
      rw [show (30 - j) % 32 + 0 = 30 - j by omega]
    · refine (at2_cast3 (m := 64) (n := 256) _ _ _ _).trans ?_
      refine (win_val v bd _ _ (by omega) hx hy).trans ?_
      rw [show 64 * (n / 4 % 4) + j + x = 64 * (n / 4 % 4) + x + j by omega]

/-- The convolution's gradient over the tile. -/
theorem convStores_val (v : View sig .tc .vmem S8x288x1024 .f32) (bd : List (View.Piece (Elt Ideal) S8x288x1024 .f32)) (y6 : Vec Ideal S32x1024 .f32)
    {r c : ℕ} (hr : r < 256) (hc : c < 1024) (n : ℕ) (hn : n ≤ 16) (h : r / 64 * 4 + c / 256 < n) :
    val2 (convStores v (layerStores v bd 7) y6 n) r c
      = ∑ i ∈ Finset.range 31, at2 (m := 32) (n := 1024) y6 (30 - i) c * val3 bd 0 (r + i) c := by
  induction n with
  | zero => omega
  | succ n ih =>
    by_cases hh : r / 64 * 4 + c / 256 = n
    · refine (canon2_hit (Val := Elt Ideal) (e := .f32) (fun x => x) (inbChunk n) _ (convStores v (layerStores v bd 7) y6 n)
        (by omega) (by omega)).trans ?_
      refine (at2_cast (m := 64) (n := 256) _ _ _ _).trans ?_
      refine (convAcc_val v bd y6 n 31 le_rfl (by omega) (by omega)).trans ?_
      rw [show 64 * (n / 4 % 4) + (r - 64 * (n / 4 % 4)) = r by omega, show 256 * (n % 4) + (c - 256 * (n % 4)) = c by omega]
    · refine (canon2_miss (Val := Elt Ideal) (e := .f32) (fun x => x) (inbChunk n) _ (convStores v (layerStores v bd 7) y6 n) ?_).trans (ih (by omega) (by omega))
      omega

/-! ## The pool's gradient -/

/-- The pool scratch: the tile's rows over their counts, then the next 32. -/
theorem poolStores_val (i : grid0.Coords) (y2 : Vec Ideal S256x1024 .bf16) (y3 : Vec Ideal S32x1024 .bf16) {q c : ℕ} (hq : q < 288) (hc : c < 1024)
    (g : ℕ) (hg : g ≤ 4) (h : c / 256 < g) :
    valP (poolStores i y2 y3 g) q c
      = if q < 256 then at2 (m := 256) (n := 256) (poolMain i (c / 256) y2) q (c % 256) else at2 (m := 32) (n := 256) (poolHalo i (c / 256) y3) (q - 256) (c % 256) := by
  induction g with
  | zero => omega
  | succ g ih =>
    by_cases hh : c / 256 = g
    · subst hh
      by_cases hq2 : q < 256
      · rw [if_pos hq2]
        refine (canon2_miss (Val := Elt Ideal) (e := .f32) (fun x => x) (inbExtHalo (c / 256)) _ _ (by omega)).trans ?_
        refine (canon2_hit (Val := Elt Ideal) (e := .f32) (fun x => x) (inbExt 0 (c / 256)) _ _ (by omega) (by omega)).trans ?_
        rw [show q - 0 % 16 = q by omega, show c - 256 * (c / 256 % 4) = c % 256 by omega]
      · rw [if_neg hq2]
        refine (canon2_hit (Val := Elt Ideal) (e := .f32) (fun x => x) (inbExtHalo (c / 256)) _ _ (by omega) (by omega)).trans ?_
        rw [show c - 256 * (c / 256 % 4) = c % 256 by omega]
    · refine (canon2_miss (Val := Elt Ideal) (e := .f32) (fun x => x) (inbExtHalo g) _ _ (by omega)).trans ?_
      refine (canon2_miss (Val := Elt Ideal) (e := .f32) (fun x => x) (inbExt 0 g) _ _ (by omega)).trans ?_
      exact ih (by omega) (by omega)

/-- The window's first `j + 1` rows added up. -/
theorem poolSum_val (v : View sig .tc .vmem S288x1024 .f32) (L : List (View.Piece (Elt Ideal) S288x1024 .f32)) (g j : ℕ) (hj : j < 16)
    {x y : ℕ} (hx : x < 256) (hy : y < 256) :
    at2 (m := 256) (n := 256) (poolSum v L g j) x y = ∑ i ∈ Finset.range (j + 1), valP L (x + i) (256 * (g % 4) + y) := by
  induction j with
  | zero =>
    rw [Finset.sum_range_one]
    refine (at2_readCov (Val := Elt Ideal) (e := .f32) (fun x => x) (inbExt 0 g) v L hx hy).trans ?_
    rw [show 0 % 16 + x = x + 0 by omega]
    rfl
  | succ j ih =>
    rw [Finset.sum_range_succ, ← ih (by omega)]
    refine (at2_addf (m := 256) (n := 256) (φ := .f32) _ _ _ _).trans (congrArg₂ (· + ·) rfl ?_)
    refine (at2_readCov (Val := Elt Ideal) (e := .f32) (fun x => x) (inbExt (j + 1) g) v L hx hy).trans ?_
    rw [show (j + 1) % 16 + x = x + (j + 1) by omega]
    rfl

/-- Group `g`'s gradient at an entry. -/
theorem poolOut_val (v : View sig .tc .vmem S288x1024 .f32) (L : List (View.Piece (Elt Ideal) S288x1024 .f32)) (y2 : Vec Ideal S256x1024 .bf16) (g : ℕ) (hg : g < 4)
    {x y : ℕ} (hx : x < 256) (hy : y < 256) :
    at2 (m := 256) (n := 256) (poolOut v L y2 g) x y
      = ∑ i ∈ Finset.range (2 ^ (g + 1)), valP L (x + i) (256 * g + y) - at2 (m := 256) (n := 1024) y2 x (256 * g + y) := by
  have hp : 1 ≤ 2 ^ (g + 1) := Nat.one_le_two_pow
  have hp' : 2 ^ (g + 1) ≤ 16 := by
    calc 2 ^ (g + 1) ≤ 2 ^ 4 := Nat.pow_le_pow_right (by omega) (by omega)
      _ = 16 := rfl
  unfold poolOut
  refine (at2_subf (m := 256) (n := 256) (φ := .f32) _ _ _ _).trans (congrArg₂ (· - ·) ?_ ?_)
  · refine (poolSum_val v L g _ (by omega) hx hy).trans ?_
    rw [Nat.sub_add_cancel hp, Nat.mod_eq_of_lt hg]
  · refine (at2_extf_cast (m := 256) (n := 256) (φ := .bf16) (ψ := .f32) _ _ _ _ _).trans ?_
    refine (at2_ld (Val := Elt Ideal) (e := .bf16) (fun x => x) (inbPool g) y2 hx hy).trans ?_
    rw [Nat.zero_add, Nat.mod_eq_of_lt hg]

end Cert.KernelIdeal.Gen
-- ==== Proof.Gates.lean ====
module
public import proofs.«01_k».proof.Proof.Grad
@[expose] public section
namespace Cert.KernelIdeal.Gen
open Idealize.ShloMosaic Idealize.ShloMosaic.TcCoe Cert.Entries

/-!
  The tile of the input's gradient, entry by entry, and the pool's counts.
-/

/-- The smaller of two words, read as integers. -/
theorem minsi_toInt (a b : BitVec 32) : (IntOp.minsi a b).toInt = min a.toInt b.toInt := by
  unfold IntOp.minsi
  by_cases h : a.slt b
  · rw [if_pos h]
    rw [BitVec.slt_iff_toInt_lt] at h
    omega
  · rw [if_neg h]
    rw [BitVec.slt_iff_toInt_lt] at h
    omega

theorem word_toInt {w : BitVec 32} {n : ℕ} (h : w.toNat = n) (hn : n < 2 ^ 31) : w.toInt = n := by
  rw [BitVec.toInt_eq_toNat_of_lt (by omega), h]

/-- The flag of the tiles that have a tile after them. -/
theorem pay4_val (i : grid0.Coords) : k0_pay4 (F := Ideal) i = if (i 0).val < 31 then 1 else 0 := by
  have hi : (i 0).val < 32 := (i 0).isLt
  have h : ∀ t < 32, Scalar.select (α := Ideal .f32) (Scalar.cmpi .slt (BitVec.ofNat 32 t) 31#32) (Ideal.ofBits .f32 0x3F800000#32) (Ideal.ofBits .f32 0x00000000#32)
      = if t < 31 then Ideal.ofBits .f32 0x3F800000#32 else Ideal.ofBits .f32 0x00000000#32 := by
    intro t ht
    interval_cases t <;> rfl
  refine (h _ hi).trans ?_
  rw [Ideal.ofBits_one_f32, Ideal.ofBits_zero_f32]

/-- The flag of the tiles that have a tile before them. -/
theorem pay3_val (i : grid0.Coords) : k0_pay3 (F := Ideal) i = if 0 < (i 0).val then 1 else 0 := by
  have hi : (i 0).val < 32 := (i 0).isLt
  have h : ∀ t < 32, Scalar.select (α := Ideal .f32) (Scalar.cmpi .sgt (BitVec.ofNat 32 t) 0#32) (Ideal.ofBits .f32 0x3F800000#32) (Ideal.ofBits .f32 0x00000000#32)
      = if 0 < t then Ideal.ofBits .f32 0x3F800000#32 else Ideal.ofBits .f32 0x00000000#32 := by
    intro t ht
    interval_cases t <;> rfl
  refine (h _ hi).trans ?_
  rw [Ideal.ofBits_one_f32, Ideal.ofBits_zero_f32]

/-- The count of row `n` in a window of `w` rows. -/
noncomputable def count (n w : ℕ) : EReal := (((min (n + 1) w : ℕ) : ℝ) : EReal)

theorem count_word {x : BitVec 32} {n g : ℕ} (hx : x.toNat = n) (hn : n < 2 ^ 30) (hg : g < 4) :
    (((IntOp.minsi (x + 1#32) (BitVec.ofNat 32 (2 ^ (g + 1)))).toInt : ℝ) : EReal) = count n (2 ^ (g + 1)) := by
  have hp : 2 ^ (g + 1) ≤ 16 := by
    calc 2 ^ (g + 1) ≤ 2 ^ 4 := Nat.pow_le_pow_right (by omega) (by omega)
      _ = 16 := rfl
  rw [minsi_toInt, word_toInt (n := n + 1) (by rw [BitVec.toNat_add, hx]; exact Nat.mod_eq_of_lt (by show n + 1 < 2 ^ 32; omega)) (by omega),
    word_toInt (n := 2 ^ (g + 1)) (by rw [BitVec.toNat_ofNat]; exact Nat.mod_eq_of_lt (by omega)) (by omega)]
  unfold count
  rw [show (min ((n + 1 : ℕ) : ℤ) ((2 ^ (g + 1) : ℕ) : ℤ)) = ((min (n + 1) (2 ^ (g + 1)) : ℕ) : ℤ) by omega]
  rfl

/-- The pool's cotangent over its count, on the tile's rows. -/
theorem poolMain_val (i : grid0.Coords) (g : ℕ) (hg : g < 4) (y2 : Vec Ideal S256x1024 .bf16) {r y : ℕ} (hr : r < 256) (hy : y < 256) :
    at2 (m := 256) (n := 256) (poolMain i g y2) r y
      = at2 (m := 256) (n := 1024) y2 r (256 * g + y) * Ideal.div 1 (count (256 * (i 0).val + r) (2 ^ (g + 1))) := by
  have hi : (i 0).val < 32 := (i 0).isLt
  unfold poolMain
  refine (at2_cast (m := 256) (n := 256) _ _ _ _).trans ?_
  refine (at2_mulf (m := 256) (n := 256) (φ := .f32) _ _ _ _).trans (congrArg₂ (· * ·) ?_ ?_)
  · refine (at2_extf_cast (m := 256) (n := 256) (φ := .bf16) (ψ := .f32) _ _ _ _ _).trans ?_
    refine (at2_ld (Val := Elt Ideal) (e := .bf16) (fun x => x) (inbPool g) y2 hr hy).trans ?_
    rw [Nat.zero_add, Nat.mod_eq_of_lt hg]
  · refine (at2_col (m := 256) (n := 256) _ _ hy).trans ?_
    refine (at2_of hr Nat.one_pos).trans ?_
    refine congrArg₂ Ideal.div Ideal.ofBits_one_f32 ?_
    refine Eq.trans ?_ (count_word (x := BitVec.ofNat 32 (i 0).val * 256#32 + BitVec.ofNat 32 (0 * 256 + r)) (n := 256 * (i 0).val + r) ?_ (by omega) hg)
    · rfl
    · rw [BitVec.toNat_add, BitVec.toNat_mul, BitVec.toNat_ofNat, BitVec.toNat_ofNat, BitVec.toNat_ofNat]
      omega

/-- And on the 32 rows after it, none at the last tile. -/
theorem poolHalo_val (i : grid0.Coords) (g : ℕ) (hg : g < 4) (y3 : Vec Ideal S32x1024 .bf16) {r y : ℕ} (hr : r < 32) (hy : y < 256) :
    at2 (m := 32) (n := 256) (poolHalo i g y3) r y
      = at2 (m := 32) (n := 1024) y3 r (256 * g + y) * Ideal.div (if (i 0).val < 31 then 1 else 0) (count (256 * ((i 0).val + 1) + r) (2 ^ (g + 1))) := by
  have hi : (i 0).val < 32 := (i 0).isLt
  unfold poolHalo
  refine (at2_cast (m := 32) (n := 256) _ _ _ _).trans ?_
  refine (at2_mulf (m := 32) (n := 256) (φ := .f32) _ _ _ _).trans (congrArg₂ (· * ·) ?_ ?_)
  · refine (at2_extf_cast (m := 32) (n := 256) (φ := .bf16) (ψ := .f32) _ _ _ _ _).trans ?_
    refine (at2_ld (Val := Elt Ideal) (e := .bf16) (fun x => x) (inbPoolHalo g) y3 hr hy).trans ?_
    rw [Nat.zero_add, Nat.mod_eq_of_lt hg]
  · refine (at2_col (m := 32) (n := 256) _ _ hy).trans ?_
    refine (at2_of hr Nat.one_pos).trans ?_
    refine congrArg₂ Ideal.div (pay4_val i) ?_
    refine Eq.trans ?_ (count_word (x := (BitVec.ofNat 32 (i 0).val + 1#32) * 256#32 + BitVec.ofNat 32 (0 * 32 + r)) (n := 256 * ((i 0).val + 1) + r) ?_ (by omega) hg)
    · rfl
    · rw [BitVec.toNat_add, BitVec.toNat_mul, BitVec.toNat_add, BitVec.toNat_ofNat, BitVec.toNat_ofNat, BitVec.toNat_ofNat, BitVec.toNat_ofNat]
      omega

section dz
variable (v0 : View sig .tc .vmem S8x288x1024 .f32) (v1 : View sig .tc .vmem S288x1024 .f32) (v3 : View sig .tc .vmem S256x1024 .f32)
    (bd : List (View.Piece (Elt Ideal) S8x288x1024 .f32)) (L1 : List (View.Piece (Elt Ideal) S288x1024 .f32))
    (y2 : Vec Ideal S256x1024 .bf16) (y4 : Vec Ideal S256x5120 .bf16) (y6 : Vec Ideal S32x1024 .f32)

/-- The entry the input gradient's stores leave. -/
noncomputable def dzVal (r c : ℕ) : EReal :=
  at2 (m := 256) (n := 3072) (View.canon (dzStores v0 v1 v3 (layerStores v0 bd 7) L1 y2 y4 y6)) r c

/-- The convolution's gradient at an entry of the tile. -/
noncomputable def convVal (bd : List (View.Piece (Elt Ideal) S8x288x1024 .f32)) (y6 : Vec Ideal S32x1024 .f32) (r c : ℕ) : EReal :=
  ∑ i ∈ Finset.range 31, at2 (m := 32) (n := 1024) y6 (30 - i) c * val3 bd 0 (r + i) c

theorem conv_read {r c : ℕ} (hr : r < 256) (hc : c < 1024) :
    at2 (m := 256) (n := 1024) (v3.readCov (Val := Elt Ideal) (convStores v0 (layerStores v0 bd 7) y6 16)
        (Rect.unit ![0, 0] S256x1024.size inb_S256x1024_S256x1024_0_0).toLoadRect) r c = convVal bd y6 r c := by
  refine (at2_readCov (Val := Elt Ideal) (e := .f32) (fun x => x) inb_S256x1024_S256x1024_0_0 v3 _ hr hc).trans ?_
  rw [Nat.zero_add, Nat.zero_add]
  exact convStores_val v0 bd y6 hr hc 16 le_rfl (by omega)

theorem za_read {r c : ℕ} (hr : r < 256) (hc : c < 1024) :
    at2 (m := 256) (n := 1024) (k0_pay16 (View.ld y4 (Rect.unit ![0, 1024 * (1 % 4)] S256x1024.size (inbZ 1)))) r c
      = at2 (m := 256) (n := 5120) y4 r (1024 + c) := by
  unfold k0_pay16
  refine (at2_extf_cast (m := 256) (n := 1024) (φ := .bf16) (ψ := .f32) _ _ _ _ _).trans ?_
  refine (at2_ld (Val := Elt Ideal) (e := .bf16) (fun x => x) (inbZ 1) y4 hr hc).trans ?_
  rw [Nat.zero_add]

theorem sg_read {r c : ℕ} (hr : r < 256) (hc : c < 1024) :
    at2 (m := 256) (n := 1024) (k0_pay17 (View.ld y4 (Rect.unit ![0, 1024 * (2 % 4)] S256x1024.size (inbZ 2)))) r c
      = Ideal.logistic (at2 (m := 256) (n := 5120) y4 r (2048 + c)) := by
  unfold k0_pay17
  refine (at2_logistic (m := 256) (n := 1024) (φ := .f32) _ hr hc).trans (congrArg Ideal.logistic ?_)
  refine (at2_extf_cast (m := 256) (n := 1024) (φ := .bf16) (ψ := .f32) _ _ _ _ _).trans ?_
  refine (at2_ld (Val := Elt Ideal) (e := .bf16) (fun x => x) (inbZ 2) y4 hr hc).trans ?_
  rw [Nat.zero_add]

/-- The columns of the pooled part. -/
theorem dz_pool {r c : ℕ} (hr : r < 256) (hc : c < 1024) :
    dzVal v0 v1 v3 bd L1 y2 y4 y6 r c
      = ∑ i ∈ Finset.range (2 ^ (c / 256 + 1)), valP L1 (r + i) c - at2 (m := 256) (n := 1024) y2 r c := by
  have key : ∀ g < 4, c / 256 = g → at2 (m := 256) (n := 256) (poolOut v1 L1 y2 g) (r - 0) (c - 256 * (g % 4))
      = ∑ i ∈ Finset.range (2 ^ (c / 256 + 1)), valP L1 (r + i) c - at2 (m := 256) (n := 1024) y2 r c := by
    intro g hg hcg
    refine (poolOut_val v1 L1 y2 g hg (by omega) (by omega)).trans ?_
    rw [hcg, Nat.sub_zero, show 256 * g + (c - 256 * (g % 4)) = c by omega]
  unfold dzVal dzStores
  refine (canon2_miss (Val := Elt Ideal) (e := .bf16) (fun x => x) inb_S256x3072_S256x1024_0_2048 _ _ (by omega)).trans ?_
  refine (canon2_miss (Val := Elt Ideal) (e := .bf16) (fun x => x) inb_S256x3072_S256x1024_0_1024 _ _ (by omega)).trans ?_
  by_cases h3 : c / 256 = 3
  · exact (canon2_hit (Val := Elt Ideal) (e := .bf16) (fun x => x) (inbOut 3) _ _ (by omega) (by omega)).trans (key 3 (by omega) h3)
  refine (canon2_miss (Val := Elt Ideal) (e := .bf16) (fun x => x) (inbOut 3) _ _ (by omega)).trans ?_
  by_cases h2 : c / 256 = 2
  · exact (canon2_hit (Val := Elt Ideal) (e := .bf16) (fun x => x) (inbOut 2) _ _ (by omega) (by omega)).trans (key 2 (by omega) h2)
  refine (canon2_miss (Val := Elt Ideal) (e := .bf16) (fun x => x) (inbOut 2) _ _ (by omega)).trans ?_
  by_cases h1 : c / 256 = 1
  · exact (canon2_hit (Val := Elt Ideal) (e := .bf16) (fun x => x) (inbOut 1) _ _ (by omega) (by omega)).trans (key 1 (by omega) h1)
  refine (canon2_miss (Val := Elt Ideal) (e := .bf16) (fun x => x) (inbOut 1) _ _ (by omega)).trans ?_
  exact (canon2_hit (Val := Elt Ideal) (e := .bf16) (fun x => x) (inbOut 0) _ _ (by omega) (by omega)).trans (key 0 (by omega) (by omega))

/-- The columns of the gated unit's linear half. -/
theorem dz_lin {r c : ℕ} (hr : r < 256) (hc : c < 1024) :
    dzVal v0 v1 v3 bd L1 y2 y4 y6 r (1024 + c)
      = convVal bd y6 r c * Ideal.logistic (at2 (m := 256) (n := 5120) y4 r (2048 + c)) := by
  unfold dzVal dzStores
  refine (canon2_miss (Val := Elt Ideal) (e := .bf16) (fun x => x) inb_S256x3072_S256x1024_0_2048 _ _ (by omega)).trans ?_
  refine (canon2_hit (Val := Elt Ideal) (e := .bf16) (fun x => x) inb_S256x3072_S256x1024_0_1024 _ _ (by omega) (by omega)).trans ?_
  rw [Nat.sub_zero, Nat.add_sub_cancel_left]
  unfold k0_pay231
  refine (at2_mulf (m := 256) (n := 1024) (φ := .f32) _ _ _ _).trans (congrArg₂ (· * ·) ?_ ?_)
  · exact conv_read v0 v3 bd y6 hr hc
  · exact sg_read y4 hr hc

/-- The columns of its gate. -/
theorem dz_gate {r c : ℕ} (hr : r < 256) (hc : c < 1024) :
    dzVal v0 v1 v3 bd L1 y2 y4 y6 r (2048 + c)
      = convVal bd y6 r c * at2 (m := 256) (n := 5120) y4 r (1024 + c) * Ideal.logistic (at2 (m := 256) (n := 5120) y4 r (2048 + c))
          * (1 - Ideal.logistic (at2 (m := 256) (n := 5120) y4 r (2048 + c))) := by
  unfold dzVal dzStores
  refine (canon2_hit (Val := Elt Ideal) (e := .bf16) (fun x => x) inb_S256x3072_S256x1024_0_2048 _ _ (by omega) (by omega)).trans ?_
  rw [Nat.sub_zero, Nat.add_sub_cancel_left]
  unfold k0_pay232
  refine (at2_mulf (m := 256) (n := 1024) (φ := .f32) _ _ _ _).trans (congrArg₂ (· * ·) ?_ ?_)
  · refine (at2_mulf (m := 256) (n := 1024) (φ := .f32) _ _ _ _).trans (congrArg₂ (· * ·) ?_ ?_)
    · refine (at2_mulf (m := 256) (n := 1024) (φ := .f32) _ _ _ _).trans (congrArg₂ (· * ·) ?_ ?_)
      · exact conv_read v0 v3 bd y6 hr hc
      · exact za_read y4 hr hc
    · exact sg_read y4 hr hc
  · refine (at2_subf (m := 256) (n := 1024) (φ := .f32) _ _ _ _).trans (congrArg₂ (· - ·) ?_ ?_)
    · exact (at2_broadcast (m := 256) (n := 1024) hr hc).trans Ideal.ofBits_one_f32
    · exact sg_read y4 hr hc

end dz

end Cert.KernelIdeal.Gen
-- ==== Proof.Ref.lean ====
module
public import proofs.«01_k».proof.Proof.HostEntries
public import proofs.«01_k».proof.Proof.Gates
public import proofs.«01_k».proof.Proof.Gen.ReferenceIdeal.Read
@[expose] public section
namespace Cert.ReferenceIdeal.Read
open Cert.ReferenceIdeal Cert.ReferenceIdeal.Gen Idealize.ShloMosaic Idealize.ShloMosaic.TcCoe Cert.Entries

/-!
  The entries of the reference's arrays: the gates, the convolution's two gradients.
-/

variable (x0 : FVec Ideal S8192x5120 .f32) (x1 : FVec Ideal S31x1024 .f32) (x2 x3 : FVec Ideal S8192x1024 .f32)

theorem v1_at {r y : ℕ} (hr : r < 8192) (hy : y < 1024) :
    at2 (m := 8192) (n := 1024) (val_main_v1 (F := Ideal) x0) r y = at2 (m := 8192) (n := 5120) x0 r (1024 + y) := by
  unfold val_main_v1 val_main_v0
  refine (at2_slice (M := 8192) (N := 1024) (m := 8192) (n := 3072) _ _ hr hy).trans ((at2_slice (M := 8192) (N := 3072) (m := 8192) (n := 5120) _ _ (by omega) (by omega)).trans ?_)
  rw [Nat.zero_add, Nat.zero_add, Nat.zero_add]

theorem v2_at {r y : ℕ} (hr : r < 8192) (hy : y < 1024) :
    at2 (m := 8192) (n := 1024) (val_main_v2 (F := Ideal) x0) r y = at2 (m := 8192) (n := 5120) x0 r (2048 + y) := by
  unfold val_main_v2 val_main_v0
  refine (at2_slice (M := 8192) (N := 1024) (m := 8192) (n := 3072) _ _ hr hy).trans ((at2_slice (M := 8192) (N := 3072) (m := 8192) (n := 5120) _ _ (by omega) (by omega)).trans ?_)
  rw [Nat.zero_add, Nat.zero_add, Nat.zero_add]

/-- The reference's gate is the logistic function of the gates' columns. -/
theorem v8_at {r y : ℕ} (hr : r < 8192) (hy : y < 1024) :
    at2 (m := 8192) (n := 1024) (val_main_v8 (F := Ideal) x0) r y = Ideal.logistic (at2 (m := 8192) (n := 5120) x0 r (2048 + y)) := by
  rw [← v2_at x0 hr hy, at2_of hr hy, at2_of hr hy]
  show Ideal.div (Ideal.ofBits .f32 0x3F800000#32) (Ideal.ofBits .f32 0x3F800000#32 + Ideal.exp (-_)) = _
  rw [Ideal.ofBits_one_f32]
  rfl

theorem v11_at {r y : ℕ} (hr : r < 8192) (hy : y < 1024) :
    at2 (m := 8192) (n := 1024) (val_main_v11 (F := Ideal) x0) r y
      = Ideal.logistic (at2 (m := 8192) (n := 5120) x0 r (2048 + y)) * (1 - Ideal.logistic (at2 (m := 8192) (n := 5120) x0 r (2048 + y))) := by
  unfold val_main_v11 val_main_v10
  refine (at2_mulf (m := 8192) (n := 1024) _ _ r y).trans (congrArg₂ (· * ·) (v8_at x0 hr hy) ((at2_subf (m := 8192) (n := 1024) _ _ r y).trans (congrArg₂ (· - ·) ?_ (v8_at x0 hr hy))))
  rw [at2_of hr hy]
  exact Ideal.ofBits_one_f32

/-- The gated input of the reference's convolution. -/
theorem v12_at {r y : ℕ} (hr : r < 8192) (hy : y < 1024) :
    at2 (m := 8192) (n := 1024) (val_main_v12 (F := Ideal) x0) r y
      = at2 (m := 8192) (n := 5120) x0 r (1024 + y) * Ideal.logistic (at2 (m := 8192) (n := 5120) x0 r (2048 + y)) := by
  unfold val_main_v12
  exact (at2_mulf (m := 8192) (n := 1024) _ _ r y).trans (congrArg₂ (· * ·) (v1_at x0 hr hy) (v8_at x0 hr hy))

/-- The gated input with 30 rows of zeros before it. -/
theorem v82_at {r y : ℕ} (hr : r < 8222) (hy : y < 1024) :
    at2 (m := 8222) (n := 1024) (val_main_v82 (F := Ideal) x0) r y
      = if r < 30 then 0 else at2 (m := 8192) (n := 1024) (val_main_v12 (F := Ideal) x0) (r - 30) y := by
  unfold val_main_v82
  refine (at2_stack (M := 8222) (a := 30) (b := 8192) (n := 1024) _ _ _ hr rfl hy).trans ?_
  split
  · next h => exact (at2_of h hy).trans Ideal.ofBits_zero_f32
  · rfl

/-- The table of rows the taps read: tap `k` of row `t` reads row `k + t`. -/
theorem v96_at (k : Fin 31) (t : Fin 8192) : val_main_v96 (F := Ideal) (ix3 k t 0) = BitVec.ofNat 32 (k.val + t.val) := by
  have e : val_main_v90 (F := Ideal) (ix2 k t) = BitVec.ofNat 32 (k.val + t.val) := by
    show BitVec.ofNat 32 (k.val) + BitVec.ofNat 32 (t.val) = _
    exact (BitVec.ofNat_add _ _).symm
  show Scalar.select (IntOp.cmpi .slt (val_main_v90 (F := Ideal) (ix2 k t)) 0#32) (val_main_v90 (F := Ideal) (ix2 k t) + 8222#32) (val_main_v90 (F := Ideal) (ix2 k t)) = _
  rw [e, Routing.wrap_of_lt _ _ (by rw [BitVec.toNat_ofNat]; have := k.isLt; have := t.isLt; omega)]

theorem v97_at {k t y : ℕ} (hk : k < 31) (ht : t < 8192) (hy : y < 1024) :
    at3 (k := 31) (m := 8192) (n := 1024) (val_main_v97 (F := Ideal) x0) k t y = at2 (m := 8222) (n := 1024) (val_main_v82 (F := Ideal) x0) (k + t) y := by
  unfold val_main_v97
  exact gather_rows (N := 8222) (K := 31) (T := 8192) (C := 1024) _ (val_main_v82 (F := Ideal) x0) (val_main_v96 (F := Ideal)) hk ht hy (by omega) (by omega) (v96_at ⟨k, hk⟩ ⟨t, ht⟩)

/-- The gradient of the convolution's weights: each tap's sum over the rows. -/
theorem v108_at {k y : ℕ} (hk : k < 31) (hy : y < 1024) :
    at2 (m := 31) (n := 1024) (val_main_v108 (F := Ideal) x0 x3) k y
      = ∑ t ∈ Finset.range 8192, at2 (m := 8222) (n := 1024) (val_main_v82 (F := Ideal) x0) (k + t) y * at2 (m := 8192) (n := 1024) x3 t y := by
  have e (t : Fin 8192) : val_main_v103 (F := Ideal) x0 x3 (ix3 (⟨k, hk⟩ : Fin 31) t (⟨y, hy⟩ : Fin 1024))
      = at2 (m := 8222) (n := 1024) (val_main_v82 (F := Ideal) x0) (k + t.val) y * at2 (m := 8192) (n := 1024) x3 t.val y := by
    rw [← v97_at x0 hk t.isLt hy, at3_of hk t.isLt hy, at2_of t.isLt hy, val_main_v103_apply, val_main_v102_apply]
    exact congrArg (fun i => (val_main_v97 (F := Ideal) x0 (ix3 (⟨k, hk⟩ : Fin 31) t (⟨y, hy⟩ : Fin 1024)) : EReal) * x3 i) (funext fun a => Fin.ext (by
      match a with
      | ⟨0, _⟩ => rfl
      | ⟨1, _⟩ => rfl))
  have hs : (∑ t : Fin 8192, (val_main_v103 (F := Ideal) x0 x3 (idx_main_v104 (idx_main_v105 (idx_main_v108 (ix2 (⟨k, hk⟩ : Fin 31) (⟨y, hy⟩ : Fin 1024)) 0)) t) : EReal))
      = ∑ t : Fin 8192, at2 (m := 8222) (n := 1024) (val_main_v82 (F := Ideal) x0) (k + t.val) y * at2 (m := 8192) (n := 1024) x3 t.val y := by
    refine Finset.sum_congr rfl fun t _ => Eq.trans (congrArg (val_main_v103 (F := Ideal) x0 x3) (funext fun a => Fin.ext ?_)) (e t)
    match a with
    | ⟨0, _⟩ =>
      show ((k * 1 + 0) * 1024 + y) / 1024 = k
      omega
    | ⟨1, _⟩ => rfl
    | ⟨2, _⟩ =>
      show ((k * 1 + 0) * 1024 + y) % 1024 = y
      omega
  rw [at2_of hk hy, val_main_v108_apply, Fin.sum_univ_one, val_main_v105_apply, val_main_v104_apply]
  refine ((congrArg₂ (· + ·) Ideal.ofBits_zero_f32 (congrArg₂ (· + ·) Ideal.ofBits_zero_f32 hs)).trans ?_).trans
    (Fin.sum_univ_eq_sum_range (fun t => at2 (m := 8222) (n := 1024) (val_main_v82 (F := Ideal) x0) (k + t) y * at2 (m := 8192) (n := 1024) x3 t y) 8192)
  rw [zero_add, zero_add]

/-- The gradient of the convolution's input: the sum over the taps. -/
theorem v112_at {r y : ℕ} (hr : r < 8192) (hy : y < 1024) :
    at2 (m := 8192) (n := 1024) (val_main_v112 (F := Ideal) x1 x3) r y
      = ∑ k ∈ Finset.range 31, at2 (m := 8192) (n := 1024) x3 (30 + r - k) y * at2 (m := 31) (n := 1024) x1 k y := by
  unfold val_main_v112 val_main_v110
  refine (at2_slice (M := 8192) (N := 1024) (m := 8222) (n := 1024) _ _ hr hy).trans ?_
  refine (scatter_rows (N := 8222) (K := 31) (T := 8192) (C := 1024) _ _ (fun i => Ideal.ofBits_zero_f32) _ (val_main_v107 (F := Ideal) x1 x3) (by omega) (by omega) v96_at (by omega) (by omega)).trans ?_
  refine Finset.sum_congr rfl fun k hk => ?_
  have hk := Finset.mem_range.1 hk
  rw [if_pos (by omega), Nat.zero_add]
  by_cases h : 30 + r - k < 8192
  · rw [at3_of hk h hy, at2_of h hy, at2_of hk hy, val_main_v107_apply, val_main_v102_apply, val_main_v106_apply, val_main_v98_apply]
    refine congrArg₂ (fun i j => (x3 i : EReal) * x1 j) (funext fun a => Fin.ext ?_) (funext fun a => Fin.ext ?_)
    · match a with
      | ⟨0, _⟩ => rfl
      | ⟨1, _⟩ => rfl
    · match a with
      | ⟨0, _⟩ => rfl
      | ⟨1, _⟩ => rfl
  · rw [at2_out (Or.inl (by omega)), zero_mul]
    exact dif_neg (by omega)

end Cert.ReferenceIdeal.Read
-- ==== Proof.RefPool.lean ====
module
public import proofs.«01_k».proof.Proof.HostEntries
public import proofs.«01_k».proof.Proof.Gates
public import proofs.«01_k».proof.Proof.Gen.ReferenceIdeal.Read
@[expose] public section
namespace Cert.ReferenceIdeal.Read
open Cert.ReferenceIdeal Cert.ReferenceIdeal.Gen Idealize.ShloMosaic Idealize.ShloMosaic.TcCoe Cert.Entries
open Cert.KernelIdeal.Gen (count count_word)

/-!
  The entries of the reference's gradient of the pooled columns: the running sum from the last row down telescopes.
-/

theorem at2_negf {m n : ℕ} (x : FVec Ideal ⟨2, ![m, n]⟩ .f32) (r c : ℕ) : at2 (Host.negf x : FVec Ideal ⟨2, ![m, n]⟩ .f32) r c = -at2 x r c := by
  unfold at2
  split
  · rfl
  · exact neg_zero.symm

/-- One group's columns: the window sums' differences, among zeros. -/
theorem group_at {w n' lo hi : ℕ} (hw : n' + w = 8192) (hlo : lo + 256 + hi = 1024) (q : FVec Ideal ⟨2, ![8192, 256]⟩ .f32)
    (z : FVec Ideal S_ .f32) (hz : ∀ i, z i = (0 : EReal)) (h1 h2 h3 hu) {r y : ℕ} (hr : r < 8192) (hy : y < 1024) :
    at2 (m := 8192) (n := 1024) (pad S8192x1024 ![0, lo] ![0, hi] ![0, 0] (addf q (pad ⟨2, ![8192, 256]⟩ ![0, 0] ![w, 0] ![0, 0]
        (extractStridedSlice ⟨2, ![n', 256]⟩ ![w, 0] (Host.negf q) h1) z h2 hu)) z h3 hu) r y
      = if lo ≤ y then at2 q r (y - lo) + -at2 q (r + w) (y - lo) else 0 := by
  refine (at2_pad (M := 8192) (N := 1024) (m := 8192) (n := 256) _ _ _ _ hz hr hy).trans ?_
  by_cases h : lo ≤ y
  · rw [if_pos ⟨Nat.zero_le _, h⟩, if_pos h, Nat.sub_zero]
    refine (at2_addf (m := 8192) (n := 256) _ _ _ _).trans (congrArg (_ + ·) ?_)
    by_cases hc : y - lo < 256
    · refine (at2_pad (M := 8192) (N := 256) (m := n') (n := 256) _ _ _ _ hz hr hc).trans ?_
      rw [if_pos ⟨Nat.zero_le _, Nat.zero_le _⟩, Nat.sub_zero, Nat.sub_zero]
      by_cases hn : r < n'
      · refine (at2_slice (M := n') (N := 256) (m := 8192) (n := 256) _ _ hn hc).trans ((at2_negf _ _ _).trans ?_)
        rw [Nat.add_comm w r, Nat.zero_add]
      · rw [at2_out (Or.inl (by omega)), at2_out (Or.inl (by omega)), neg_zero]
    · rw [at2_out (Or.inr (by omega)), at2_out (Or.inr (by omega)), neg_zero]
  · rw [if_neg (fun hh => h hh.2), if_neg h]

variable (x2 : FVec Ideal S8192x1024 .f32)

/-- The gradient of the pooled columns over the window's length. -/
noncomputable def qP (r y : ℕ) : EReal := at2 (m := 8192) (n := 1024) x2 r y * Ideal.div 1 (count r (2 ^ (y / 256 + 1)))

theorem count_ne_zero (n g : ℕ) : count n (2 ^ (g + 1)) ≠ 0 := by
  have := Nat.one_le_two_pow (n := g + 1)
  unfold Cert.KernelIdeal.Gen.count
  rw [EReal.coe_ne_zero, Nat.cast_ne_zero]
  omega

theorem div_count (x : EReal) (n g : ℕ) : Ideal.div x (count n (2 ^ (g + 1))) = x * Ideal.div 1 (count n (2 ^ (g + 1))) := by
  unfold Ideal.div
  rw [if_neg (count_ne_zero n g), if_neg (count_ne_zero n g), one_mul]

/-- One group's columns of that. -/
theorem quot_at {g lo : ℕ} (hlo : lo = g * 256) (hg : g < 4) (h1 h2) (cnt : FVec Ideal S8192x1 .f32)
    (hc : ∀ r : Fin 8192, cnt (ix2 r 0) = count r.val (2 ^ (g + 1))) (r y : ℕ) (hy : lo ≤ y) :
    at2 (m := 8192) (n := 256) (Host.divf (extractStridedSlice S8192x256 ![0, lo] x2 h1) (broadcastInDim S8192x256 ![0, 1] h2 cnt) : FVec Ideal S8192x256 .f32) r (y - lo)
      = if y < lo + 256 then qP x2 r y else 0 := by
  split
  · next h =>
    unfold qP
    by_cases hr : r < 8192
    · have hyg : y / 256 = g := by omega
      rw [hyg, ← div_count, at2_of hr (show y - lo < 256 by omega)]
      refine congrArg₂ Ideal.div ?_ ?_
      · refine (at2_of (m := 8192) (n := 256) (x := extractStridedSlice S8192x256 ![0, lo] x2 h1) hr (show y - lo < 256 by omega)).symm.trans
          ((at2_slice (M := 8192) (N := 256) (m := 8192) (n := 1024) _ _ hr (by omega)).trans ?_)
        rw [Nat.zero_add, show lo + (y - lo) = y by omega]
      · refine Eq.trans (congrArg cnt (funext fun a => Fin.ext ?_)) (hc ⟨r, hr⟩)
        match a with
        | ⟨0, _⟩ => rfl
        | ⟨1, _⟩ => rfl
    · rw [at2_out (Or.inl (by omega)), at2_out (Or.inl (by omega)), zero_mul]
  · next h => rw [at2_out (Or.inr (by omega))]

theorem cnt_at {g : ℕ} (hg : g < 4) (r : ℕ) (hr : r < 8192) :
    (((IntOp.minsi (BitVec.ofNat 32 r + 1#32) (BitVec.ofNat 32 (2 ^ (g + 1)))).toInt : ℝ) : EReal) = count r (2 ^ (g + 1)) :=
  count_word (by rw [BitVec.toNat_ofNat]; omega) (by omega) hg

theorem v26_at (r : Fin 8192) : val_main_v26 (F := Ideal) (ix2 r 0) = count r.val (2 ^ (0 + 1)) := cnt_at (g := 0) (by omega) r.val r.isLt
theorem v42_at (r : Fin 8192) : val_main_v42 (F := Ideal) (ix2 r 0) = count r.val (2 ^ (1 + 1)) := cnt_at (g := 1) (by omega) r.val r.isLt
theorem v58_at (r : Fin 8192) : val_main_v58 (F := Ideal) (ix2 r 0) = count r.val (2 ^ (2 + 1)) := cnt_at (g := 2) (by omega) r.val r.isLt
theorem v74_at (r : Fin 8192) : val_main_v74 (F := Ideal) (ix2 r 0) = count r.val (2 ^ (3 + 1)) := cnt_at (g := 3) (by omega) r.val r.isLt

/-- A group's part of the differences. -/
theorem group_quot {lo w y r : ℕ} {q : FVec Ideal ⟨2, ![8192, 256]⟩ .f32} {v : EReal}
    (e : v = if lo ≤ y then at2 q r (y - lo) + -at2 q (r + w) (y - lo) else 0)
    (hq : ∀ r, lo ≤ y → at2 (m := 8192) (n := 256) q r (y - lo) = if y < lo + 256 then qP x2 r y else 0) :
    v = if lo ≤ y ∧ y < lo + 256 then qP x2 r y + -qP x2 (r + w) y else 0 := by
  rw [e]
  by_cases h : lo ≤ y
  · rw [if_pos h, hq _ h, hq _ h]
    by_cases h' : y < lo + 256
    · rw [if_pos h', if_pos h', if_pos ⟨h, h'⟩]
    · rw [if_neg h', if_neg h', if_neg (fun hh => h' hh.2), neg_zero, zero_add]
  · rw [if_neg h, if_neg (fun hh => h hh.1)]

/-- The differences, all columns. -/
theorem v162_at (r : ℕ) {y : ℕ} (hy : y < 1024) :
    at2 (m := 8192) (n := 1024) (val_main_v162 (F := Ideal) x2) r y = qP x2 r y + -qP x2 (r + 2 ^ (y / 256 + 1)) y := by
  by_cases hr : r < 8192
  · have z0 (i : S_.Idx) : constant (F := Ideal) S_ .f32 0x00000000#32 i = (0 : EReal) := Ideal.ofBits_zero_f32
    have e3 := group_quot x2 (group_at (w := 16) (n' := 8176) (lo := 768) (hi := 0) rfl rfl (val_main_v120 (F := Ideal) x2) _ z0 slices_S8192x256_S8176x256_16_0
      pads_S8176x256_S8192x256_0160_000 pads_S8192x256_S8192x1024_000_76800 h_S_ hr hy)
      (fun r h => quot_at x2 (g := 3) (lo := 768) rfl (by omega) slices_S8192x1024_S8192x256_0_768 bcast_S8192x1_S8192x256_0_1 _ v74_at r y h)
    have e2 := group_quot x2 (group_at (w := 8) (n' := 8184) (lo := 512) (hi := 256) rfl rfl (val_main_v131 (F := Ideal) x2) _ z0 slices_S8192x256_S8184x256_8_0
      pads_S8184x256_S8192x256_080_000 pads_S8192x256_S8192x1024_000_5122560 h_S_ hr hy)
      (fun r h => quot_at x2 (g := 2) (lo := 512) rfl (by omega) slices_S8192x1024_S8192x256_0_512 bcast_S8192x1_S8192x256_0_1 _ v58_at r y h)
    have e1 := group_quot x2 (group_at (w := 4) (n' := 8188) (lo := 256) (hi := 512) rfl rfl (val_main_v143 (F := Ideal) x2) _ z0 slices_S8192x256_S8188x256_4_0
      pads_S8188x256_S8192x256_040_000 pads_S8192x256_S8192x1024_000_2565120 h_S_ hr hy)
      (fun r h => quot_at x2 (g := 1) (lo := 256) rfl (by omega) slices_S8192x1024_S8192x256_0_256 bcast_S8192x1_S8192x256_0_1 _ v42_at r y h)
    have e0 := group_quot x2 (group_at (w := 2) (n' := 8190) (lo := 0) (hi := 768) rfl rfl (val_main_v155 (F := Ideal) x2) _ z0 slices_S8192x256_S8190x256_2_0
      pads_S8190x256_S8192x256_020_000 pads_S8192x256_S8192x1024_000_07680 h_S_ hr hy)
      (fun r h => quot_at x2 (g := 0) (lo := 0) rfl (by omega) slices_S8192x1024_S8192x256_0_0 bcast_S8192x1_S8192x256_0_1 _ v26_at r y h)
    unfold val_main_v162 val_main_v150 val_main_v138
    refine (at2_addf (m := 8192) (n := 1024) _ _ _ _).trans ((congrArg₂ (· + ·) ((at2_addf (m := 8192) (n := 1024) _ _ _ _).trans (congrArg₂ (· + ·) ((at2_addf (m := 8192) (n := 1024) _ _ _ _).trans (congrArg₂ (· + ·) e3 e2)) e1)) e0).trans ?_)
    have hg : y / 256 = 0 ∨ y / 256 = 1 ∨ y / 256 = 2 ∨ y / 256 = 3 := by omega
    rcases hg with h | h | h | h
    · rw [h, if_neg (by omega), if_neg (by omega), if_neg (by omega), if_pos (by omega), zero_add, zero_add, zero_add]
      rfl
    · rw [h, if_neg (by omega), if_neg (by omega), if_pos (by omega), if_neg (by omega), zero_add, zero_add, add_zero]
      rfl
    · rw [h, if_neg (by omega), if_pos (by omega), if_neg (by omega), if_neg (by omega), zero_add, add_zero, add_zero]
      rfl
    · rw [h, if_pos (by omega), if_neg (by omega), if_neg (by omega), if_neg (by omega), add_zero, add_zero, add_zero]
      rfl
  · unfold qP
    rw [at2_out (Or.inl (by omega)), at2_out (Or.inl (by omega)), at2_out (Or.inl (by have := Nat.zero_le (2 ^ (y / 256 + 1)); generalize 2 ^ (y / 256 + 1) = p; omega)), zero_mul, zero_mul, neg_zero, zero_add]

/-- A telescoping sum. -/
theorem telescope (f : ℕ → ℝ) (r w M : ℕ) :
    ∑ q ∈ Finset.range M, (f (r + q) - f (r + q + w)) = ∑ q ∈ Finset.range w, f (r + q) - ∑ q ∈ Finset.range w, f (r + M + q) := by
  induction M with
  | zero => simp
  | succ M ih =>
    have e := Finset.sum_range_succ' (fun q => f (r + M + q)) w
    have e' := Finset.sum_range_succ (fun q => f (r + M + q)) w
    have e'' : ∑ q ∈ Finset.range w, f (r + (M + 1) + q) = ∑ q ∈ Finset.range w, f (r + M + (q + 1)) :=
      Finset.sum_congr rfl fun q _ => congrArg f (by omega)
    rw [Finset.sum_range_succ, ih, e'']
    simp only [add_zero] at e
    linarith

theorem qP_real (h : ∀ i, ∃ a : ℝ, x2 i = (a : EReal)) (r y : ℕ) : ∃ a : ℝ, qP x2 r y = (a : EReal) := by
  unfold qP
  have hx : ∃ a : ℝ, at2 (m := 8192) (n := 1024) x2 r y = (a : EReal) := by
    unfold at2
    split
    · exact h _
    · exact ⟨0, rfl⟩
  obtain ⟨a, ha⟩ := hx
  refine ⟨a * ((min (r + 1) (2 ^ (y / 256 + 1)) : ℕ) : ℝ)⁻¹, ?_⟩
  unfold Ideal.div
  rw [ha, if_neg (count_ne_zero r (y / 256)), one_mul, EReal.coe_mul, EReal.coe_inv]
  rfl

theorem coe_sum (f : ℕ → ℝ) (n : ℕ) : ((∑ q ∈ Finset.range n, f q : ℝ) : EReal) = ∑ q ∈ Finset.range n, (f q : EReal) := by
  induction n with
  | zero => rfl
  | succ n ih => rw [Finset.sum_range_succ, Finset.sum_range_succ, EReal.coe_add, ih]

/-- The running sum of the differences from the last row down is the window's sum. -/
theorem v163_at (h : ∀ i, ∃ a : ℝ, x2 i = (a : EReal)) {r y : ℕ} (hr : r < 8192) (hy : y < 1024) :
    at2 (m := 8192) (n := 1024) (val_main_v163 (F := Ideal) x2) r y = ∑ q ∈ Finset.range (2 ^ (y / 256 + 1)), qP x2 (r + q) y := by
  choose f hf using fun r => qP_real x2 h r y
  unfold val_main_v163
  refine (at2_below (m := 8192) (n := 1024) _ _ _ _ (fun i => Ideal.ofBits_zero_f32) hr hy).trans ?_
  have e (q : ℕ) : at2 (m := 8192) (n := 1024) (val_main_v162 (F := Ideal) x2) (r + q) y = ((f (r + q) - f (r + q + 2 ^ (y / 256 + 1)) : ℝ) : EReal) := by
    rw [v162_at x2 _ hy, hf, hf, EReal.coe_sub, sub_eq_add_neg]
  have z (q : ℕ) : f (r + 8192 + q) = 0 := by
    have e0 : qP x2 (r + 8192 + q) y = 0 := by
      unfold qP
      rw [at2_out (Or.inl (by omega)), zero_mul]
    exact EReal.coe_eq_zero.1 ((hf _).symm.trans e0)
  refine (Finset.sum_congr rfl fun q _ => e q).trans ?_
  refine Eq.trans ?_ (Finset.sum_congr rfl fun q _ => (hf (r + q)).symm)
  rw [← coe_sum, ← coe_sum, telescope]
  simp only [z, Finset.sum_const_zero, sub_zero]

/-- The gradient that goes past the pool unpooled. -/
theorem v153_at {r y : ℕ} (hr : r < 8192) (hy : y < 1024) :
    at2 (m := 8192) (n := 1024) (val_main_v153 (F := Ideal) x2) r y = -at2 (m := 8192) (n := 1024) x2 r y := by
  have z0 (i : S_.Idx) : constant (F := Ideal) S_ .f32 0x00000000#32 i = (0 : EReal) := Ideal.ofBits_zero_f32
  have part {lo hi : ℕ} (hlo : lo + 256 + hi = 1024) (h1 h2) : at2 (m := 8192) (n := 1024) (pad S8192x1024 ![0, lo] ![0, hi] ![0, 0] (Host.negf (extractStridedSlice S8192x256 ![0, lo] x2 h1) : FVec Ideal S8192x256 .f32) (constant (F := Ideal) S_ .f32 0x00000000#32) h2 h_S_) r y
      = if lo ≤ y ∧ y < lo + 256 then -at2 (m := 8192) (n := 1024) x2 r y else 0 := by
    refine (at2_pad (M := 8192) (N := 1024) (m := 8192) (n := 256) _ _ _ _ z0 hr hy).trans ?_
    by_cases h : lo ≤ y
    · rw [if_pos ⟨Nat.zero_le _, h⟩, Nat.sub_zero]
      by_cases hc : y - lo < 256
      · rw [if_pos (by omega)]
        refine (at2_negf (m := 8192) (n := 256) _ _ _).trans (congrArg (-·) ((at2_slice (M := 8192) (N := 256) (m := 8192) (n := 1024) _ _ hr hc).trans ?_))
        rw [Nat.zero_add, show lo + (y - lo) = y by omega]
      · rw [at2_out (Or.inr (by omega)), if_neg (by omega)]
    · rw [if_neg (fun hh => h hh.2), if_neg (fun hh => h hh.1)]
  unfold val_main_v153 val_main_v141 val_main_v129
  refine (at2_addf (m := 8192) (n := 1024) _ _ _ _).trans ((congrArg₂ (· + ·) ((at2_addf (m := 8192) (n := 1024) _ _ _ _).trans (congrArg₂ (· + ·) ((at2_addf (m := 8192) (n := 1024) _ _ _ _).trans (congrArg₂ (· + ·)
    (part (lo := 768) (hi := 0) rfl _ _) (part (lo := 512) (hi := 256) rfl _ _))) (part (lo := 256) (hi := 512) rfl _ _))) (part (lo := 0) (hi := 768) rfl _ _)).trans ?_)
  have hg : y / 256 = 0 ∨ y / 256 = 1 ∨ y / 256 = 2 ∨ y / 256 = 3 := by omega
  rcases hg with h | h | h | h
  · rw [if_neg (by omega), if_neg (by omega), if_neg (by omega), if_pos (by omega), zero_add, zero_add, zero_add]
  · rw [if_neg (by omega), if_neg (by omega), if_pos (by omega), if_neg (by omega), zero_add, zero_add, add_zero]
  · rw [if_neg (by omega), if_pos (by omega), if_neg (by omega), if_neg (by omega), zero_add, add_zero, add_zero]
  · rw [if_pos (by omega), if_neg (by omega), if_neg (by omega), if_neg (by omega), add_zero, add_zero, add_zero]

end Cert.ReferenceIdeal.Read
-- ==== Proof.Points.lean ====
/-
  The values of the idealized kernel, at its arrays: what the blocks hold in terms of the arguments.
-/
module
public import proofs.«01_k».proof.Proof.Gates
public import Idealize.ShloMosaic.Lib.StableHlo.ReadAt
@[expose] public section
namespace Cert.KernelIdeal.Gen
open Idealize.ShloMosaic Idealize.ShloMosaic.TcCoe Cert.Entries

variable (m : (ℓ : Loc nD τ sig) → Buf (Elt Ideal) ℓ) (c : Dev nD)

/-- The cotangent of the convolution, as entries. -/
noncomputable def dC (r y : ℕ) : EReal := at2 (m := 8192) (n := 1024) (m ((c : Thread nD τ).loc main_arg3)) r y
/-- The cotangent of the pooling, as entries. -/
noncomputable def dP (r y : ℕ) : EReal := at2 (m := 8192) (n := 1024) (m ((c : Thread nD τ).loc main_arg2)) r y
/-- The projection, as entries. -/
noncomputable def pZ (r y : ℕ) : EReal := at2 (m := 8192) (n := 5120) (m ((c : Thread nD τ).loc main_arg0)) r y
/-- The convolution's weights, as entries. -/
noncomputable def cW (r y : ℕ) : EReal := at2 (m := 31) (n := 1024) (m ((c : Thread nD τ).loc main_arg1)) r y

theorem V1_eq : (V m c main_v1 : Vec Ideal S8192x1024 .bf16) = m ((c : Thread nD τ).loc main_arg3) := by
  funext j
  unfold V V0
  after_reads_at

theorem V2_eq : (V m c main_v2 : Vec Ideal S8192x1024 .bf16) = m ((c : Thread nD τ).loc main_arg2) := by
  funext j
  unfold V V0
  after_reads_at

theorem V3_eq : (V m c main_v3 : Vec Ideal S8192x5120 .bf16) = m ((c : Thread nD τ).loc main_arg0) := by
  funext j
  unfold V V0
  after_reads_at

theorem idx1 (t : Fin cfg0.N) : win0_1.index t 0 = min ((t.val + 1) * 8) 255 ∧ win0_1.index t 1 = 0 :=
  (by decide +kernel : ∀ t : Fin grid0.N, win0_1.index t 0 = min ((t.val + 1) * 8) 255 ∧ win0_1.index t 1 = 0) t
theorem idx3 (t : Fin cfg0.N) : win0_3.index t 0 = min ((t.val + 1) * 8) 255 ∧ win0_3.index t 1 = 0 :=
  (by decide +kernel : ∀ t : Fin grid0.N, win0_3.index t 0 = min ((t.val + 1) * 8) 255 ∧ win0_3.index t 1 = 0) t
theorem idx5 (t : Fin cfg0.N) : win0_5.index t 0 = t.val * 8 - 1 ∧ win0_5.index t 1 = 0 :=
  (by decide +kernel : ∀ t : Fin grid0.N, win0_5.index t 0 = t.val * 8 - 1 ∧ win0_5.index t 1 = 0) t
theorem idx0 (t : Fin cfg0.N) : win0_0.index t 0 = t.val ∧ win0_0.index t 1 = 0 :=
  (by decide +kernel : ∀ t : Fin grid0.N, win0_0.index t 0 = t.val ∧ win0_0.index t 1 = 0) t
theorem idx2 (t : Fin cfg0.N) : win0_2.index t 0 = t.val ∧ win0_2.index t 1 = 0 :=
  (by decide +kernel : ∀ t : Fin grid0.N, win0_2.index t 0 = t.val ∧ win0_2.index t 1 = 0) t
theorem idx4 (t : Fin cfg0.N) : win0_4.index t 0 = t.val ∧ win0_4.index t 1 = 0 :=
  (by decide +kernel : ∀ t : Fin grid0.N, win0_4.index t 0 = t.val ∧ win0_4.index t 1 = 0) t
theorem idx6 (t : Fin cfg0.N) : win0_6.index t 0 = 0 ∧ win0_6.index t 1 = 0 :=
  (by decide +kernel : ∀ t : Fin grid0.N, win0_6.index t 0 = 0 ∧ win0_6.index t 1 = 0) t
theorem coord0 (t : Fin cfg0.N) : (grid0.coords t 0).val = t.val :=
  (by decide +kernel : ∀ t : Fin grid0.N, (grid0.coords t 0).val = t.val) t

theorem lt_N (t : Fin cfg0.N) : t.val < 32 := by
  exact lt_of_lt_of_eq t.isLt N_0

/-- A tile of the convolution's cotangent. -/
theorem blk0 (t : Fin cfg0.N) {r y : ℕ} (hr : r < 256) (hy : y < 1024) :
    at2 (iblk m c 0 t : Vec Ideal S256x1024 .bf16) r y = dC m c (256 * t.val + r) y := by
  have ht := lt_N t
  unfold dC
  rw [at2_of hr hy, at2_of (by omega) hy, ← V1_eq m c]
  unfold iblk
  rw [View.read_apply]
  show V m c main_v1 _ = V m c main_v1 _
  congr 1
  funext a
  apply Fin.ext
  match a with
  | ⟨0, _⟩ => show win0_0.index t 0 * 256 + 1 * r = 256 * t.val + r; rw [(idx0 t).1]; omega
  | ⟨1, _⟩ => show win0_0.index t 1 * 1024 + 1 * y = y; rw [(idx0 t).2]; omega

/-- The rows after a tile of the convolution's cotangent. -/
theorem blk1 (t : Fin cfg0.N) (h31 : t.val < 31) {r y : ℕ} (hr : r < 32) (hy : y < 1024) :
    at2 (iblk m c 1 t : Vec Ideal S32x1024 .bf16) r y = dC m c (256 * (t.val + 1) + r) y := by
  unfold dC
  rw [at2_of hr hy, at2_of (by omega) hy, ← V1_eq m c]
  unfold iblk
  rw [View.read_apply]
  show V m c main_v1 _ = V m c main_v1 _
  congr 1
  funext a
  apply Fin.ext
  match a with
  | ⟨0, _⟩ => show win0_1.index t 0 * 32 + 1 * r = 256 * (t.val + 1) + r; rw [(idx1 t).1]; omega
  | ⟨1, _⟩ => show win0_1.index t 1 * 1024 + 1 * y = y; rw [(idx1 t).2]; omega

/-- A tile of the pool's cotangent. -/
theorem blk2 (t : Fin cfg0.N) {r y : ℕ} (hr : r < 256) (hy : y < 1024) :
    at2 (iblk m c 2 t : Vec Ideal S256x1024 .bf16) r y = dP m c (256 * t.val + r) y := by
  have ht := lt_N t
  unfold dP
  rw [at2_of hr hy, at2_of (by omega) hy, ← V2_eq m c]
  unfold iblk
  rw [View.read_apply]
  show V m c main_v2 _ = V m c main_v2 _
  congr 1
  funext a
  apply Fin.ext
  match a with
  | ⟨0, _⟩ => show win0_2.index t 0 * 256 + 1 * r = 256 * t.val + r; rw [(idx2 t).1]; omega
  | ⟨1, _⟩ => show win0_2.index t 1 * 1024 + 1 * y = y; rw [(idx2 t).2]; omega

/-- The rows after a tile of the pool's cotangent. -/
theorem blk3 (t : Fin cfg0.N) (h31 : t.val < 31) {r y : ℕ} (hr : r < 32) (hy : y < 1024) :
    at2 (iblk m c 3 t : Vec Ideal S32x1024 .bf16) r y = dP m c (256 * (t.val + 1) + r) y := by
  unfold dP
  rw [at2_of hr hy, at2_of (by omega) hy, ← V2_eq m c]
  unfold iblk
  rw [View.read_apply]
  show V m c main_v2 _ = V m c main_v2 _
  congr 1
  funext a
  apply Fin.ext
  match a with
  | ⟨0, _⟩ => show win0_3.index t 0 * 32 + 1 * r = 256 * (t.val + 1) + r; rw [(idx3 t).1]; omega
  | ⟨1, _⟩ => show win0_3.index t 1 * 1024 + 1 * y = y; rw [(idx3 t).2]; omega

/-- A tile of the projection. -/
theorem blk4 (t : Fin cfg0.N) {r y : ℕ} (hr : r < 256) (hy : y < 5120) :
    at2 (iblk m c 4 t : Vec Ideal S256x5120 .bf16) r y = pZ m c (256 * t.val + r) y := by
  have ht := lt_N t
  unfold pZ
  rw [at2_of hr hy, at2_of (by omega) hy, ← V3_eq m c]
  unfold iblk
  rw [View.read_apply]
  show V m c main_v3 _ = V m c main_v3 _
  congr 1
  funext a
  apply Fin.ext
  match a with
  | ⟨0, _⟩ => show win0_4.index t 0 * 256 + 1 * r = 256 * t.val + r; rw [(idx4 t).1]; omega
  | ⟨1, _⟩ => show win0_4.index t 1 * 5120 + 1 * y = y; rw [(idx4 t).2]; omega

/-- The rows before a tile of the projection. -/
theorem blk5 (t : Fin cfg0.N) (h0 : 0 < t.val) {r y : ℕ} (hr : r < 32) (hy : y < 5120) :
    at2 (iblk m c 5 t : Vec Ideal S32x5120 .bf16) r y = pZ m c (256 * t.val + r - 32) y := by
  have ht := lt_N t
  unfold pZ
  rw [at2_of hr hy, at2_of (by omega) hy, ← V3_eq m c]
  unfold iblk
  rw [View.read_apply]
  show V m c main_v3 _ = V m c main_v3 _
  congr 1
  funext a
  apply Fin.ext
  match a with
  | ⟨0, _⟩ => show win0_5.index t 0 * 32 + 1 * r = 256 * t.val + r - 32; rw [(idx5 t).1]; omega
  | ⟨1, _⟩ => show win0_5.index t 1 * 5120 + 1 * y = y; rw [(idx5 t).2]; omega

/-- The convolution's weights with their row of zeros. -/
theorem V0_val {r y : ℕ} (hr : r < 31) (hy : y < 1024) :
    (V m c main_v0 : Vec Ideal S32x1024 .f32) (ix2 ⟨r, by omega⟩ ⟨y, hy⟩) = cW m c r y := by
  unfold cW
  rw [at2_of hr hy]
  unfold V V0
  after_reads_at
  exact dif_pos ⟨hr, hy⟩

theorem blk6 (t : Fin cfg0.N) {r y : ℕ} (hr : r < 31) (hy : y < 1024) :
    at2 (iblk m c 6 t : Vec Ideal S32x1024 .f32) r y = cW m c r y := by
  rw [at2_of (by omega) hy, ← V0_val m c hr hy]
  unfold iblk
  rw [View.read_apply]
  show V m c main_v0 _ = V m c main_v0 _
  congr 1
  funext a
  apply Fin.ext
  match a with
  | ⟨0, _⟩ => show win0_6.index t 0 * 32 + 1 * r = r; rw [(idx6 t).1]; omega
  | ⟨1, _⟩ => show win0_6.index t 1 * 1024 + 1 * y = y; rw [(idx6 t).2]; omega

end Cert.KernelIdeal.Gen
-- ==== Proof.Values.lean ====
/-
  The values of the idealized kernel, point by point: the tiles of the input's gradient, and the running sums of the
  weight gradient's partials.
-/
module
public import proofs.«01_k».proof.Proof.Points
@[expose] public section
namespace Cert.KernelIdeal.Gen
open Idealize.ShloMosaic Idealize.ShloMosaic.TcCoe Cert.Entries

section run
variable (c : Dev nD) (i : grid0.Coords) (arg1 : Memref sig .tc .vmem S256x1024 .bf16) (harg1 : arg1.IsWhole) (arg2 : Memref sig .tc .vmem S32x1024 .bf16) (harg2 : arg2.IsWhole) (arg3 : Memref sig .tc .vmem S256x1024 .bf16) (harg3 : arg3.IsWhole) (arg4 : Memref sig .tc .vmem S32x1024 .bf16) (harg4 : arg4.IsWhole) (arg5 : Memref sig .tc .vmem S256x5120 .bf16) (harg5 : arg5.IsWhole) (arg6 : Memref sig .tc .vmem S32x5120 .bf16) (harg6 : arg6.IsWhole) (arg7 : Memref sig .tc .vmem S32x1024 .f32) (harg7 : arg7.IsWhole) (arg8 : Memref sig .tc .vmem S256x3072 .bf16) (harg8 : arg8.IsWhole) (arg9 : Memref sig .tc .vmem S256x1024 .f32) (harg9 : arg9.IsWhole) (arg10 : Memref sig .tc .vmem S8x288x1024 .f32) (harg10 : arg10.IsWhole) (arg11 : Memref sig .tc .vmem S288x1024 .f32) (harg11 : arg11.IsWhole) (arg12 : Memref sig .tc .vmem S8x288x1024 .f32) (harg12 : arg12.IsWhole) (arg13 : Memref sig .tc .vmem S256x1024 .f32) (harg13 : arg13.IsWhole)
    (x0 : Vec Ideal S256x1024 .bf16) (x1 : Vec Ideal S32x1024 .bf16) (x2 : Vec Ideal S256x1024 .bf16) (x3 : Vec Ideal S32x1024 .bf16) (x4 : Vec Ideal S256x5120 .bf16) (x5 : Vec Ideal S32x5120 .bf16) (x6 : Vec Ideal S32x1024 .f32) (xo8 : Vec Ideal S256x1024 .f32)

/-- The input gradient's tile at the first point, -/
theorem out7A (hc0 : cond0_0 i) :
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6
      = View.canon (dzStores arg10.view arg11.view arg13.view (layerStores arg10.view (dBase i x0 x1) 7) (poolStores i x2 x3 4) x2 x4 x6) := by
  unfold out0_A_7
  rw [View.read_writes_junk_eq_canon, dzStoresA]
  simp only [Memref.IsWhole.read_unread]

/-- and at a later point. -/
theorem out7B (hc0 : ¬cond0_0 i) :
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8
      = View.canon (dzStores arg10.view arg11.view arg13.view (layerStores arg10.view (dBase i x0 x1) 7) (poolStores i x2 x3 4) x2 x4 x6) := by
  unfold out0_B_7
  rw [View.read_writes_junk_eq_canon, dzStoresB]
  simp only [Memref.IsWhole.read_unread]

/-- What a point adds to the weight gradient's partials. -/
noncomputable def tapsOf (bd bc : List (View.Piece (Elt Ideal) S8x288x1024 .f32)) (r y : ℕ) : EReal :=
  if r < 248 then ∑ b ∈ Finset.range 32, tapProd bd bc (r / 8) y (8 * b + r % 8) else 0

/-- The weight gradient's partials after the first point, -/
theorem out8A (hc0 : cond0_0 i) {r y : ℕ} (hr : r < 256) (hy : y < 1024) :
    at2 (m := 256) (n := 1024) (out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6) r y
      = tapsOf (dBase i x0 x1) (cBase i x4 x5) r y := by
  unfold out0_A_8
  rw [View.read_writes_junk_eq_canon, storesA]
  simp only [Memref.IsWhole.read_unread]
  exact wgradA_val arg9.view arg10.view arg12.view (dBase i x0 x1) (cBase i x4 x5) hr hy

/-- and after a later one. -/
theorem out8B (hc0 : ¬cond0_0 i) {r y : ℕ} (hr : r < 256) (hy : y < 1024) :
    at2 (m := 256) (n := 1024) (out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8) r y
      = at2 (m := 256) (n := 1024) xo8 r y + tapsOf (dBase i x0 x1) (cBase i x4 x5) r y := by
  unfold out0_B_8
  rw [storesB]
  simp only [harg1.read_unread, harg2.read_unread, harg5.read_unread, harg6.read_unread, harg9.read_unread]
  exact wgradB_val arg9.view arg9.view (harg9.unread xo8) xo8 (harg9.read_unread xo8) arg9.view arg10.view arg12.view (dBase i x0 x1) (cBase i x4 x5) hr hy

end run

variable (m : (ℓ : Loc nD τ sig) → Buf (Elt Ideal) ℓ) (c : Dev nD)

/-- The gated input of the convolution. -/
noncomputable def gate (r y : ℕ) : EReal := pZ m c r (1024 + y) * Ideal.logistic (pZ m c r (2048 + y))
/-- The gated input 32 rows later, zero before the sequence. -/
noncomputable def gateL (n y : ℕ) : EReal := if n < 32 then 0 else gate m c (n - 32) y
/-- The pool's cotangent over its window's count. -/
noncomputable def dQ (n y : ℕ) : EReal := dP m c n y * Ideal.div 1 (count n (2 ^ (y / 256 + 1)))
/-- The convolution's gradient with respect to its input. -/
noncomputable def convG (r y : ℕ) : EReal := ∑ i ∈ Finset.range 31, cW m c (30 - i) y * dC m c (r + i) y
/-- The input's gradient, entry by entry. -/
noncomputable def dZ (r y : ℕ) : EReal :=
  if y < 1024 then ∑ i ∈ Finset.range (2 ^ (y / 256 + 1)), dQ m c (r + i) y - dP m c r y
  else if y < 2048 then convG m c r (y - 1024) * Ideal.logistic (pZ m c r (2048 + (y - 1024)))
  else convG m c r (y - 2048) * pZ m c r (1024 + (y - 2048)) * Ideal.logistic (pZ m c r (2048 + (y - 2048))) * (1 - Ideal.logistic (pZ m c r (2048 + (y - 2048))))

theorem dC_out {r y : ℕ} (h : 8192 ≤ r) : dC m c r y = 0 := at2_out (m := 8192) (n := 1024) (.inl h)
theorem dP_out {r y : ℕ} (h : 8192 ≤ r) : dP m c r y = 0 := at2_out (m := 8192) (n := 1024) (.inl h)

/-- A tile of the convolution's cotangent with the rows after it. -/
theorem dB_at (t : Fin cfg0.N) {q y : ℕ} (hq : q < 288) (hy : y < 1024) :
    val3 (dBase (grid0.coords t) (iblk m c 0 t) (iblk m c 1 t)) 0 q y = dC m c (256 * t.val + q) y := by
  have ht := lt_N t
  rw [dBase_val _ _ _ hq hy]
  split
  · exact blk0 m c t ‹_› hy
  · rw [pay4_val, coord0]
    split
    · rw [mul_one, blk1 m c t ‹_› (by omega) hy]
      congr 1; omega
    · rw [mul_zero, dC_out m c (by omega)]

/-- A tile of the gated input with the rows before it. -/
theorem cB_at (t : Fin cfg0.N) {q y : ℕ} (hq : q < 288) (hy : y < 1024) :
    val3 (cBase (grid0.coords t) (iblk m c 4 t) (iblk m c 5 t)) 0 q y = gateL m c (256 * t.val + q) y := by
  have ht := lt_N t
  rw [cBase_val _ _ _ hq hy]
  unfold gateL gate
  split
  · rw [pay3_val, coord0]
    split
    · rw [mul_one, if_neg (by omega), blk5 m c t ‹_› ‹_› (by omega), blk5 m c t ‹_› ‹_› (by omega)]
    · rw [mul_zero, if_pos (by omega)]
  · rw [if_neg (by omega), blk4 m c t (by omega) (by omega), blk4 m c t (by omega) (by omega)]
    rw [show 256 * t.val + q - 32 = 256 * t.val + (q - 32) by omega]

theorem div_zero_count (n g : ℕ) : Ideal.div 0 (count n (2 ^ (g + 1))) = 0 := by
  have : count n (2 ^ (g + 1)) ≠ 0 := by
    have := Nat.one_le_two_pow (n := g + 1)
    unfold count
    rw [EReal.coe_ne_zero, Nat.cast_ne_zero]
    omega
  unfold Ideal.div
  rw [if_neg this, zero_mul]

/-- A tile of the pool's quotients with the rows after it. -/
theorem pB_at (t : Fin cfg0.N) {q y : ℕ} (hq : q < 288) (hy : y < 1024) :
    valP (poolStores (grid0.coords t) (iblk m c 2 t) (iblk m c 3 t) 4) q y = dQ m c (256 * t.val + q) y := by
  have ht := lt_N t
  rw [poolStores_val _ _ _ hq hy 4 le_rfl (by omega)]
  unfold dQ
  split
  · rw [poolMain_val _ _ (by omega) _ (by omega) (by omega), coord0, show 256 * (y / 256) + y % 256 = y by omega, blk2 m c t ‹_› hy]
  · rw [poolHalo_val _ _ (by omega) _ (by omega) (by omega), coord0, show 256 * (y / 256) + y % 256 = y by omega]
    split
    · rw [blk3 m c t ‹_› (by omega) hy, show 256 * (t.val + 1) + (q - 256) = 256 * t.val + q by omega]
    · rw [div_zero_count, mul_zero, dP_out m c (by omega), zero_mul]

/-- A tile of the input's gradient. -/
theorem dz_at (v0 : View sig .tc .vmem S8x288x1024 .f32) (v1 : View sig .tc .vmem S288x1024 .f32) (v3 : View sig .tc .vmem S256x1024 .f32)
    (t : Fin cfg0.N) {r y : ℕ} (hr : r < 256) (hy : y < 3072) :
    dzVal v0 v1 v3 (dBase (grid0.coords t) (iblk m c 0 t) (iblk m c 1 t)) (poolStores (grid0.coords t) (iblk m c 2 t) (iblk m c 3 t) 4)
      (iblk m c 2 t) (iblk m c 4 t) (iblk m c 6 t) r y = dZ m c (256 * t.val + r) y := by
  have conv : ∀ y < 1024, convVal (dBase (grid0.coords t) (iblk m c 0 t) (iblk m c 1 t)) (iblk m c 6 t) r y = convG m c (256 * t.val + r) y := by
    intro y hy
    unfold convVal convG
    refine Finset.sum_congr rfl fun i hi => ?_
    have hi := Finset.mem_range.mp hi
    rw [blk6 m c t (by omega) hy, dB_at m c t (by omega) hy, Nat.add_assoc]
  unfold dZ
  split
  · rename_i h
    have hp : 2 ^ (y / 256 + 1) ≤ 16 := by
      calc 2 ^ (y / 256 + 1) ≤ 2 ^ 4 := Nat.pow_le_pow_right (by omega) (by omega)
        _ = 16 := rfl
    rw [dz_pool _ _ _ _ _ _ _ _ hr h, blk2 m c t hr h]
    congr 1
    refine Finset.sum_congr rfl fun i hi => ?_
    have hi := Finset.mem_range.mp hi
    rw [pB_at m c t (by omega) h, Nat.add_assoc]
  · split
    · obtain ⟨x, rfl⟩ : ∃ x, y = 1024 + x := ⟨y - 1024, by omega⟩
      rw [dz_lin _ _ _ _ _ _ _ _ hr (by omega), Nat.add_sub_cancel_left, conv _ (by omega), blk4 m c t hr (by omega)]
    · obtain ⟨x, rfl⟩ : ∃ x, y = 2048 + x := ⟨y - 2048, by omega⟩
      rw [dz_gate _ _ _ _ _ _ _ _ hr (by omega), Nat.add_sub_cancel_left, conv _ (by omega), blk4 m c t hr (by omega), blk4 m c t hr (by omega)]

/-- What a point leaves in the input gradient's tile. -/
theorem outs7 (t : Fin cfg0.N) {r y : ℕ} (hr : r < 256) (hy : y < 3072) :
    at2 (m := 256) (n := 3072) (outsAt0 m c t.val t.isLt).1 r y = dZ m c (256 * t.val + r) y := by
  by_cases h0 : t.val % 32 = 0
  · rw [outsAt0_A m c t h0]
    dsimp only
    rw [out7A]
    exact dz_at m c _ _ _ t hr hy
  · rw [outsAt0_B m c t h0]
    dsimp only
    rw [out7B]
    exact dz_at m c _ _ _ t hr hy

/-- The products that a tile of 256 rows adds to partial `r`. -/
noncomputable def part (t r y : ℕ) : EReal :=
  if r < 248 then ∑ b ∈ Finset.range 32, dC m c (256 * t + (8 * b + r % 8)) y * gateL m c (256 * t + (8 * b + r % 8) + 2 + r / 8) y else 0

theorem taps_at (t : Fin cfg0.N) {r y : ℕ} (hr : r < 256) (hy : y < 1024) :
    tapsOf (dBase (grid0.coords t) (iblk m c 0 t) (iblk m c 1 t)) (cBase (grid0.coords t) (iblk m c 4 t) (iblk m c 5 t)) r y = part m c t.val r y := by
  unfold tapsOf part
  split
  · refine Finset.sum_congr rfl fun b hb => ?_
    have hb := Finset.mem_range.mp hb
    unfold tapProd
    rw [dB_at m c t (by omega) hy, cB_at m c t (by omega) hy]
    congr 2; omega
  · rfl

/-- The weight gradient's partials after point `n`: the sum over the tiles so far. -/
theorem outs8 (n : ℕ) (hn : n < cfg0.N) {r y : ℕ} (hr : r < 256) (hy : y < 1024) :
    at2 (m := 256) (n := 1024) (outsAt0 m c n hn).2 r y = ∑ t ∈ Finset.range (n + 1), part m c t r y := by
  have hN : cfg0.N = 32 := N_0
  induction n with
  | zero =>
    rw [outsAt0_A m c ⟨0, hn⟩ rfl]
    dsimp only
    rw [out8A _ _ _ _ _ _ _ _ _ _ _ _ _ _ _ _ _ _ _ _ _ _ _ _ _ _ _ _ _ _ _ _ _ _ _ _ hr hy, taps_at m c ⟨0, hn⟩ hr hy, Finset.sum_range_one]
  | succ n ih =>
    rw [outsAt0_B m c ⟨n + 1, hn⟩ (by dsimp only; omega)]
    dsimp only
    rw [out8B _ _ _ _ _ _ _ _ _ _ _ _ _ _ _ _ _ _ _ _ _ _ _ _ _ _ _ _ _ _ _ _ _ _ _ _ _ hr hy, taps_at m c ⟨n + 1, hn⟩ hr hy, Finset.sum_range_succ]
    congr 1
    exact ih _

end Cert.KernelIdeal.Gen
-- ==== Proof.Final.lean ====
/-
  The idealized kernel's results: the input's gradient and the weight gradient, as entries of the arguments.
-/
module
public import proofs.«01_k».proof.Proof.Values
@[expose] public section
namespace Cert.KernelIdeal.Gen
open Idealize.ShloMosaic Idealize.ShloMosaic.TcCoe Cert.Entries

variable (m : (ℓ : Loc nD τ sig) → Buf (Elt Ideal) ℓ) (ρ : Dev nD → PrngReg) (c : Dev nD)

/-- The input's gradient as an array. -/
noncomputable def dzArr : Vec Ideal S8192x3072 .bf16 := fun j => dZ m c (j 0).val (j 1).val

theorem idx7 (t : Fin cfg0.N) : win0_7.index t 0 = t.val ∧ win0_7.index t 1 = 0 :=
  (by decide +kernel : ∀ t : Fin grid0.N, win0_7.index t 0 = t.val ∧ win0_7.index t 1 = 0) t

/-- What a point writes back is its rows of the gradient. -/
theorem flushed_dz (t : Fin cfg0.N) (hf : (cfg0.win 7).flush t = true) :
    (dats m 0 c).flushed 7 t = ((cfg0.win 7).blk t).view.read (Elt Ideal) (dzArr m c) := by
  show (cfg0.win 7).cut (grid0.coords t) ((dats m 0 c).after 7 t) = _
  rw [after0_7]
  funext j
  rw [View.read_apply]
  refine (eq_at2 (m := 256) (n := 3072) (outsAt0 m c t.val t.isLt).1 j).trans ?_
  refine (outs7 m c t (j 0).isLt (j 1).isLt).trans ?_
  unfold dzArr
  congr 1
  · show _ = win0_7.index t 0 * 256 + 1 * (j 0).val
    rw [(idx7 t).1]; omega
  · show _ = win0_7.index t 1 * 3072 + 1 * (j 1).val
    rw [(idx7 t).2]; omega

/-- The first result after the run. -/
theorem final7 : (dats m 0 c).arrAt 7 cfg0.N = dzArr m c :=
  (dats m 0 c).arrAt_eq_of_cover 7 (dzArr m c) (flushed_dz m c) fun i => by
    have h0 : (i 0 : Nat) < 8192 := (i 0).isLt
    have h1 : (i 1 : Nat) < 3072 := (i 1).isLt
    have hN : cfg0.N = 32 := N_0
    let t : Fin cfg0.N := ⟨(i 0 : Nat) / 256, by omega⟩
    refine ⟨t, flush0_7 t, ?_⟩
    show i ∈ ((View.whole main_v4_0).slice (win0_7.rect t)).set
    rw [View.set_slice_whole, Rect.mem_set_unit]
    intro a
    match a with
    | ⟨0, _⟩ =>
      show win0_7.index t 0 * 256 ≤ (i 0 : Nat) ∧ (i 0 : Nat) < win0_7.index t 0 * 256 + 256
      rw [(idx7 t).1]
      show (i 0 : Nat) / 256 * 256 ≤ (i 0 : Nat) ∧ (i 0 : Nat) < (i 0 : Nat) / 256 * 256 + 256
      omega
    | ⟨1, _⟩ =>
      show win0_7.index t 1 * 3072 ≤ (i 1 : Nat) ∧ (i 1 : Nat) < win0_7.index t 1 * 3072 + 3072
      rw [(idx7 t).2]; omega

/-- The weight gradient's partials as an array. -/
noncomputable def partArr : Vec Ideal S256x1024 .f32 := fun j => ∑ t ∈ Finset.range 32, part m c t (j 0).val (j 1).val

theorem idx8 (t : Fin cfg0.N) : win0_8.index t 0 = 0 ∧ win0_8.index t 1 = 0 :=
  (by decide +kernel : ∀ t : Fin grid0.N, win0_8.index t 0 = 0 ∧ win0_8.index t 1 = 0) t

/-- What the last point writes back is the partials summed over all tiles. -/
theorem flushed_part (t : Fin cfg0.N) (hf : (cfg0.win 8).flush t = true) :
    (dats m 0 c).flushed 8 t = ((cfg0.win 8).blk t).view.read (Elt Ideal) (partArr m c) := by
  have ht := lt_N t
  have h31 : t.val = 31 := by have := (flush0_8 t).mp hf; omega
  show (cfg0.win 8).cut (grid0.coords t) ((dats m 0 c).after 8 t) = _
  rw [after0_8]
  funext j
  rw [View.read_apply]
  refine (eq_at2 (m := 256) (n := 1024) (outsAt0 m c t.val t.isLt).2 j).trans ?_
  refine (outs8 m c t.val t.isLt (j 0).isLt (j 1).isLt).trans ?_
  unfold partArr
  rw [h31]
  refine Finset.sum_congr rfl fun s _ => ?_
  congr 1
  · show _ = win0_8.index t 0 * 256 + 1 * (j 0).val
    rw [(idx8 t).1]; omega
  · show _ = win0_8.index t 1 * 1024 + 1 * (j 1).val
    rw [(idx8 t).2]; omega

/-- The partials after the run. -/
theorem final8 : (dats m 0 c).arrAt 8 cfg0.N = partArr m c :=
  (dats m 0 c).arrAt_eq_of_cover 8 (partArr m c) (flushed_part m c) fun i => by
    have h0 : (i 0 : Nat) < 256 := (i 0).isLt
    have h1 : (i 1 : Nat) < 1024 := (i 1).isLt
    have hN : cfg0.N = 32 := N_0
    let t : Fin cfg0.N := ⟨31, by omega⟩
    refine ⟨t, (flush0_8 t).mpr rfl, ?_⟩
    show i ∈ ((View.whole main_v4_1).slice (win0_8.rect t)).set
    rw [View.set_slice_whole, Rect.mem_set_unit]
    intro a
    match a with
    | ⟨0, _⟩ =>
      show win0_8.index t 0 * 256 ≤ (i 0 : Nat) ∧ (i 0 : Nat) < win0_8.index t 0 * 256 + 256
      rw [(idx8 t).1]; omega
    | ⟨1, _⟩ =>
      show win0_8.index t 1 * 1024 ≤ (i 1 : Nat) ∧ (i 1 : Nat) < win0_8.index t 1 * 1024 + 1024
      rw [(idx8 t).2]; omega

/-- What the last host operations leave in the second result, at an entry: the eight partials of a tap, added up. -/
theorem tail_read {k y : ℕ} (hk : k < 31) (hy : y < 1024) :
    (Pipeline.afterTail₀ cfgs (dats m) 0 (V0 m) [hostOps1] c main_v7 : Vec Ideal S31x1024 .f32) (ix2 ⟨k, hk⟩ ⟨y, hy⟩)
      = ∑ j ∈ Finset.range 8, ∑ t ∈ Finset.range 32, part m c t (8 * k + j) y := by
  unfold Pipeline.afterTail₀
  after_reads_at
  have hw : Pipeline.withArrays (cfgs 0).spec c (V0 m c) (fun w => (dats m 0 c).arrAt w (cfgs 0).N) (Proc.tc.devRef main_v4_1) = partArr m c :=
    (Pipeline.withArrays_arr_shared (cfgs 0).spec c (V0 m c) (fun w => (dats m 0 c).arrAt w (cfgs 0).N)
      (Pipeline.Dat.arrAt_sharedIn (dats m 0 c) sharedIn0 (V0 m c) (A_eq m c) _) 8).trans (final8 m c)
  rw [hw, ← Fin.sum_univ_eq_sum_range (fun j => ∑ t ∈ Finset.range 32, part m c t (8 * k + j) y) 8]
  refine Finset.sum_congr rfl fun x _ => ?_
  show ∑ t ∈ Finset.range 32, part m c t (k * 8 + x.val) y = _
  rw [Nat.mul_comm]

/-- A sum over `a` groups of `b` is the sum over all. -/
theorem sum_groups (f : ℕ → EReal) (a b : ℕ) : ∑ t ∈ Finset.range a, ∑ r ∈ Finset.range b, f (b * t + r) = ∑ q ∈ Finset.range (b * a), f q := by
  induction a with
  | zero => simp
  | succ a ih => rw [Finset.sum_range_succ, ih, Nat.mul_succ, Finset.sum_range_add]

/-- The weight gradient, entry by entry. -/
noncomputable def dW (k y : ℕ) : EReal := ∑ q ∈ Finset.range 8192, dC m c q y * gateL m c (q + 2 + k) y

/-- The folded partials are the weight gradient. -/
theorem fold_eq {k : ℕ} (hk : k < 31) (y : ℕ) : ∑ j ∈ Finset.range 8, ∑ t ∈ Finset.range 32, part m c t (8 * k + j) y = dW m c k y := by
  unfold dW
  rw [← sum_groups (fun q => dC m c q y * gateL m c (q + 2 + k) y) 32 256, Finset.sum_comm]
  refine Finset.sum_congr rfl fun t _ => ?_
  rw [← sum_groups (fun q => dC m c (256 * t + q) y * gateL m c (256 * t + q + 2 + k) y) 32 8, Finset.sum_comm]
  refine Finset.sum_congr rfl fun j hj => ?_
  have hj := Finset.mem_range.mp hj
  unfold part
  rw [if_pos (by omega), show (8 * k + j) % 8 = j by omega, show (8 * k + j) / 8 = k by omega]

/-- The weight gradient as an array. -/
noncomputable def dwArr : Vec Ideal S31x1024 .f32 := fun j => dW m c (j 0).val (j 1).val

theorem tail_eq : Pipeline.afterTail₀ cfgs (dats m) 0 (V0 m) [hostOps1] c main_v7 = dwArr m c :=
  ext2 (m := 31) (n := 1024) fun k y hk hy =>
    (at2_of hk hy).trans ((tail_read m c hk hy).trans ((fold_eq m c hk y).trans (at2_of (x := dwArr m c) hk hy).symm))

/-- The run: both gradients, the arguments unchanged. -/
theorem run : θ_run defs (onTc (τ := τ) (main (F := Ideal))) ⟨m, fun _ => 0, ρ⟩ fun r => ∀ c : Dev nD,
      r.2.mem ((c : Thread nD τ).loc main_v4_0) = dzArr m c
      ∧ r.2.mem ((c : Thread nD τ).loc main_v7) = dwArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 7).trans (final7 m c),
      ((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Gen
-- ==== Proof.Value.lean ====
module
public import proofs.«01_k».proof.Proof.Ref
public import proofs.«01_k».proof.Proof.RefPool
public import proofs.«01_k».proof.Proof.Final
public import proofs.«01_k».proof.Proof.Gen.ReferenceIdeal.Run
public import proofs.«01_k».proof.Defs
public import Idealize.ShloMosaic.Lib.ReduceAll
@[expose] public section
namespace Cert.ReferenceIdeal.Read
open Cert.ReferenceIdeal Cert.ReferenceIdeal.Gen Idealize.ShloMosaic Idealize.ShloMosaic.TcCoe Cert.Entries
open Cert.KernelIdeal.Gen (dZ dW dQ dP dC pZ cW convG gate gateL dzArr dwArr)

/-!
  The kernel's and the reference's results are the same arrays, and the claim of it.
-/

variable (x0 : FVec Ideal S8192x5120 .f32) (x1 : FVec Ideal S31x1024 .f32) (x2 x3 : FVec Ideal S8192x1024 .f32)

/-- The reference's input gradient, column group by column group. -/
theorem v173_at {r y : ℕ} (hr : r < 8192) (hy : y < 3072) :
    at2 (m := 8192) (n := 3072) (val_main_v173 (F := Ideal) x0 x1 x2 x3) r y
      = if y < 1024 then at2 (m := 8192) (n := 1024) (val_main_v164 (F := Ideal) x2) r y
        else if y < 2048 then at2 (m := 8192) (n := 1024) (val_main_v167 (F := Ideal) x0 x1 x3) r (y - 1024)
        else at2 (m := 8192) (n := 1024) (val_main_v168 (F := Ideal) x0 x1 x3) r (y - 2048) := by
  have z0 (i : S_.Idx) : constant (F := Ideal) S_ .f32 0x00000000#32 i = (0 : EReal) := Ideal.ofBits_zero_f32
  show at2 (m := 8192) (n := 3072) (val_main_v172 (F := Ideal) x0 x1 x2 x3) r y = _
  unfold val_main_v172 val_main_v170
  refine (at2_addf (m := 8192) (n := 3072) _ _ _ _).trans ((congrArg₂ (· + ·) ((at2_addf (m := 8192) (n := 3072) _ _ _ _).trans (congrArg₂ (· + ·)
    (at2_pad (M := 8192) (N := 3072) (m := 8192) (n := 1024) _ _ _ _ z0 hr hy) (at2_pad (M := 8192) (N := 3072) (m := 8192) (n := 1024) _ _ _ _ z0 hr hy)))
    (at2_pad (M := 8192) (N := 3072) (m := 8192) (n := 1024) _ _ _ _ z0 hr hy)).trans ?_)
  rw [Nat.sub_zero, Nat.sub_zero]
  by_cases h1 : y < 1024
  · rw [if_pos (by omega), if_neg (by omega), if_neg (by omega), if_pos h1, add_zero, add_zero]
  · by_cases h2 : y < 2048
    · rw [if_pos (by omega), if_neg (by omega), if_pos (by omega), if_neg h1, if_pos h2, at2_out (Or.inr (by omega)), zero_add, zero_add]
    · rw [if_pos (by omega), if_pos (by omega), if_pos (by omega), if_neg h1, if_neg h2, at2_out (Or.inr (by omega)), zero_add,
        at2_out (x := val_main_v167 (F := Ideal) x0 x1 x3) (Or.inr (by omega)), add_zero]

variable (m : (ℓ : Loc Cert.KernelIdeal.nD Cert.KernelIdeal.τ Cert.KernelIdeal.sig) → Buf (Elt Ideal) ℓ) (c : Dev Cert.KernelIdeal.nD)

/-- The convolution's gradient, the taps taken from the last one. -/
theorem conv_eq {r y : ℕ} (hr : r < 8192) (hy : y < 1024) :
    at2 (m := 8192) (n := 1024) (val_main_v112 (F := Ideal) (m ((c : Thread Cert.KernelIdeal.nD Cert.KernelIdeal.τ).loc Cert.KernelIdeal.main_arg1)) (m ((c : Thread Cert.KernelIdeal.nD Cert.KernelIdeal.τ).loc Cert.KernelIdeal.main_arg3))) r y
      = convG m c r y := by
  refine (v112_at _ _ hr hy).trans ?_
  unfold convG
  refine (Finset.sum_range_reflect _ 31).symm.trans (Finset.sum_congr rfl fun i hi => ?_)
  have hi := Finset.mem_range.1 hi
  rw [mul_comm, show 30 + r - (31 - 1 - i) = r + i by omega, show 31 - 1 - i = 30 - i by omega]
  rfl

/-- The two input gradients are the same, where the pooled columns' gradient is finite. -/
theorem dz_eq (h : ∀ i, ∃ a : ℝ, m ((c : Thread Cert.KernelIdeal.nD Cert.KernelIdeal.τ).loc Cert.KernelIdeal.main_arg2) i = (a : EReal)) :
    val_main_v173 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)) = dzArr m c := by
  refine ext2 (m := 8192) (n := 3072) fun r y hr hy => (v173_at _ _ _ _ hr hy).trans ?_
  rw [at2_of (m := 8192) (n := 3072) (x := dzArr m c) hr hy]
  show _ = dZ m c r y
  unfold dZ
  by_cases h1 : y < 1024
  · rw [if_pos h1, if_pos h1]
    unfold val_main_v164
    refine (at2_addf (m := 8192) (n := 1024) _ _ _ _).trans ((congrArg₂ (· + ·) (v153_at _ hr h1) (v163_at _ h hr h1)).trans ?_)
    rw [add_comm, ← sub_eq_add_neg]
    rfl
  · rw [if_neg h1, if_neg h1]
    by_cases h2 : y < 2048
    · rw [if_pos h2, if_pos h2]
      unfold val_main_v167
      exact (at2_mulf (m := 8192) (n := 1024) _ _ _ _).trans (congrArg₂ (· * ·) (conv_eq m c hr (by omega)) (v8_at _ hr (by omega)))
    · rw [if_neg h2, if_neg h2]
      unfold val_main_v168 val_main_v166
      refine (at2_mulf (m := 8192) (n := 1024) _ _ _ _).trans ((congrArg₂ (· * ·) ((at2_mulf (m := 8192) (n := 1024) _ _ _ _).trans (congrArg₂ (· * ·) (v1_at _ hr (by omega)) (conv_eq m c hr (by omega)))) (v11_at _ hr (by omega))).trans ?_)
      rw [← mul_assoc]
      exact congrArg (· * _) (congrArg (· * _) (mul_comm _ _))

/-- The two weight gradients are the same. -/
theorem dw_eq :
    val_main_v108 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) = dwArr m c := by
  refine ext2 (m := 31) (n := 1024) fun k y hk hy => (v108_at _ _ hk hy).trans ?_
  rw [at2_of (m := 31) (n := 1024) (x := dwArr m c) hk hy]
  show _ = dW m c k y
  unfold dW
  refine Finset.sum_congr rfl fun t ht => (mul_comm _ _).trans (congrArg (_ * ·) ?_)
  have ht := Finset.mem_range.1 ht
  rw [v82_at _ (show k + t < 8222 by omega) hy]
  unfold gateL
  by_cases h : k + t < 30
  · rw [if_pos h, if_pos (by omega)]
  · rw [if_neg h, if_neg (by omega), v12_at _ (show k + t - 30 < 8192 by omega) hy, show t + 2 + k - 32 = k + t - 30 by omega]
    rfl

instance preFacts : Cert.Pre_d_pooled_finite.Facts where
  bcast_S_S8192x1024 := by decide
  reducesTo_S8192x1024_S_d0_1 := by decide
  h_S_ := by decide

/-- A number whose absolute value is below infinity is a real number. -/
theorem real_of_abs_lt (x : EReal) (h : Ideal.cmp .olt (max x (-x)) (Ideal.ofBits .f32 0x7F800000#32) = 1#1) : ∃ a : ℝ, x = (a : EReal) := by
  have hlt : max x (-x) < Ideal.ofBits .f32 0x7F800000#32 := by
    by_contra hn
    simp only [Ideal.cmp, decide_eq_false hn] at h
    exact absurd h (by decide)
  have htop : Ideal.ofBits .f32 0x7F800000#32 = ⊤ := by simp [Ideal.ofBits, Ideal.ieee]
  rw [htop, max_lt_iff] at hlt
  refine ⟨x.toReal, (EReal.coe_toReal hlt.1.ne fun hb => ?_).symm⟩
  rw [hb, EReal.neg_bot] at hlt
  exact absurd hlt.2 (lt_irrefl _)

/-- What the precondition says: every entry of the pooled columns' gradient is a real number. -/
theorem finite_of_pre (h : Cert.Pre_KernelIdeal_d_pooled_finite m) (i) :
    ∃ a : ℝ, m ((c : Thread Cert.KernelIdeal.nD Cert.KernelIdeal.τ).loc Cert.KernelIdeal.main_arg2) i = (a : EReal) := by
  have e := congrFun (h c) (fun a => a.elim0)
  dsimp only [Cert.Pre_d_pooled_finite.fn] at e
  have : Subsingleton Cert.Pre_d_pooled_finite.S_.Idx := ⟨fun a b => funext fun i => i.elim0⟩
  have e' := Host.reduce_andi_all _ _ _ _ _ e i
  exact real_of_abs_lt _ e'

/-- The claim of the values. -/
theorem algebraic : Cert.algebraic_KernelIdeal_ReferenceIdeal_pre_d_pooled_finite := by
  intro m g m' g' hpre hargs
  refine ⟨dzArr m, dwArr m, Cert.KernelIdeal.Gen.run m g, (θ_run _ _ _).mono (fun r h c => ?_) (Cert.ReferenceIdeal.Value.run (F := Ideal) m' g')⟩
  obtain ⟨h0, h1, h2⟩ := h c
  obtain ⟨a0, a1, a2, a3⟩ := hargs c
  refine ⟨h0.trans ((val_main_v173_eq _).trans ?_), h1.trans ((val_main_v108_eq _).trans ?_), h2⟩
  · refine Eq.trans ?_ (dz_eq m c (finite_of_pre m c hpre))
    rw [← a0, ← a1, ← a2, ← a3]
  · refine Eq.trans ?_ (dw_eq m c)
    rw [← a0, ← a3]

end Cert.ReferenceIdeal.Read
-- ==== Proof.Fetch.lean ====
/- A buffer after a run of stores: held with the stores written, and, when they cover it, owned at what they leave. -/
module

public import Idealize.ShloMosaic.Lib.Pipeline.FrameSuffix
public import Idealize.ShloMosaic.Lib.Pipeline.FrameBody

@[expose] public section

noncomputable section

namespace Cert.Fetch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type}

local notation "𝕄" => MT nD τ sig Unit Val ℕ (Pipeline.UD sig nD τ) ℕ

/-- The buffer behind a memref, held whole with the stores `L` (last first) written over some contents. -/
def stored (c : Thread nD τ) {sp : Space} {S : Shape} {e : EltTy} (M : Memref sig c.2.kind sp S e) (L : List (View.Piece Val S e)) : sProp 𝕄 :=
  iprop(∃ f, M.view.loc c ↦[M.view.set]{fullShare} M.view.writes Val f L)

/-- Stores that cover the shape leave the memref owned at what they write. -/
theorem stored_owns [∀ e, Nonempty (Val e)] (c : Thread nD τ) {sp : Space} {S : Shape} {e : EltTy} (M : Memref sig c.2.kind sp S e)
    (L : List (View.Piece Val S e)) (h : ∀ y, ∃ p ∈ L, y ∈ p.1.set) :
    (stored c M L : sProp 𝕄) ⊢ owns c M fullShare (View.canon L) := by
  unfold stored owns
  iintro ⟨%f, H⟩
  iexists _; isplitr
  swap; · iexact H
  ipureintro
  exact (View.read_writes_of_cover _ _ M.view M.view.junk L h).trans (View.read_writes_junk_eq_canon M.view L)

/-- A whole memref owned at `X` is its buffer held at the one contents that read as `X`. -/
theorem owns_unread (c : Thread nD τ) {sp : Space} {S : Shape} {e : EltTy} {M : Memref sig c.2.kind sp S e} (h : M.IsWhole) (X : S.Idx → Val e) :
    (owns c M fullShare X : sProp 𝕄) = iprop(M.view.loc c ↦[M.view.set]{fullShare} h.unread X) := by
  have there : (owns c M fullShare X : sProp 𝕄) ⊢ (M.view.loc c ↦[M.view.set]{fullShare} h.unread X) := by
    unfold owns
    iintro ⟨%f, %e, H⟩
    obtain rfl := h.eq_unread e
    iexact H
  have back : (M.view.loc c ↦[M.view.set]{fullShare} h.unread X : sProp 𝕄) ⊢ owns c M fullShare X := by
    unfold owns
    iintro H
    iexists _; isplitr
    swap; · iexact H
    ipureintro
    exact h.read_unread X
  exact Idealize.SL.BI.Entails.antisymm there back

end Cert.Fetch

end
-- ==== Proof.InprojRun.lean ====
/- The body of the input projection's gradient kernel, run at the grid's first point (which fetches the weight) and at a later one. -/
module

public import proofs.«01_k».proof.Proof.Fetch
public import proofs.«01_k».proof.Proof.Gen.Kernel2Ideal.Frame.Runs

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fetch

variable {F : FTy → Type} [FloatOps F]

local notation "𝕄" => MT nD τ sig Unit (Elt F) ℕ (Pipeline.UD sig nD τ) ℕ

/-- The memrefs a point's body works on: five inputs, three outputs, the fetched weight. -/
structure Stage where
  a0 : Memref sig .tc .vmem S512x1024 .f32
  h0 : a0.IsWhole
  a1 : Memref sig .tc .vmem S512x1024 .f32
  h1 : a1.IsWhole
  a2 : Memref sig .tc .vmem S1x1024 .f32
  h2 : a2.IsWhole
  a3 : Memref sig .tc .vmem S512x3072 .bf16
  h3 : a3.IsWhole
  a4 : Memref sig .tc .vmem S512x2048 .bf16
  h4 : a4.IsWhole
  a5 : Memref sig .tc .vmem S512x1024 .f32
  h5 : a5.IsWhole
  a6 : Memref sig .tc .vmem S512x1024 .bf16
  h6 : a6.IsWhole
  a7 : Memref sig .tc .vmem S8x1024 .f32
  h7 : a7.IsWhole
  w : Memref sig .tc .vmem S5120x1024 .bf16
  hw : w.IsWhole

/-- The body on them. -/
abbrev Stage.body (s : Stage) (i : grid0.Coords) : Prog (TpuEff nD τ sig (Elt F) Λ₀ .tc) PUnit :=
  cc0_inproj_bwd i s.a0 s.h0 s.a1 s.h1 s.a2 s.h2 s.a3 s.h3 s.a4 s.h4 (Memref.whole main_v2) (Memref.isWhole_whole _)
    s.a5 s.h5 s.a6 s.h6 s.a7 s.h7 s.w s.hw cc0_scratch1

/-- The five inputs' tiles. -/
structure Tiles (F : FTy → Type) where
  h : Vec F S512x1024 .f32
  d : Vec F S512x1024 .f32
  gain : Vec F S1x1024 .f32
  dz : Vec F S512x3072 .bf16
  dqkv : Vec F S512x2048 .bf16

/-- The inputs held at their tiles. -/
def Stage.ins (s : Stage) (c : Dev nD) (x : Tiles F) : sProp 𝕄 :=
  iprop(owns (c : Thread nD τ) s.a0 fullShare x.h ∗ owns (c : Thread nD τ) s.a1 fullShare x.d ∗ owns (c : Thread nD τ) s.a2 fullShare x.gain
    ∗ owns (c : Thread nD τ) s.a3 fullShare x.dz ∗ owns (c : Thread nD τ) s.a4 fullShare x.dqkv)

/-- The copies' counters at zero and the weight's pieces as the launch left them. -/
def parts (c : Dev nD) (fh : HbBuf0 (F := F) c hbM0_0) : sProp 𝕄 :=
  iprop(Pipeline.ownSems0 osem0 c ∗ hbPt0 c hbM0_0 fh)

set_option sl_exec.dmaWindow true in
set_option sl_exec.dmaWindowSet true in
set_option maxHeartbeats 1000000 in
/-- The first point: it fetches the weight and zeroes the gain's gradient, then works like the others. -/
noncomputable def runFirst (c : Dev nD) (i : grid0.Coords) (hc : cond0_0 i) (s : Stage) (x : Tiles F) (fh : HbBuf0 (F := F) c hbM0_0) :
    Σ' (L5 : List (View.Piece (Elt F) S512x1024 .f32)), Σ' (L6 : List (View.Piece (Elt F) S512x1024 .bf16)),
      Σ' (L7 : List (View.Piece (Elt F) S8x1024 .f32)), { LW : List (View.Piece (Elt F) S5120x1024 .bf16) //
      ∀ (W : Waits sig Unit) (K : PUnit → sProp 𝕄),
        iprop(s.ins c x ∗ (∃ d, owns (c : Thread nD τ) s.a5 fullShare d) ∗ (∃ d, owns (c : Thread nD τ) s.a6 fullShare d)
          ∗ (∃ d, owns (c : Thread nD τ) s.a7 fullShare d) ∗ (∃ d, owns (c : Thread nD τ) s.w fullShare d) ∗ parts c fh ∗ owes (c : Thread nD τ) 0 W
          ∗ (iprop(s.ins c x ∗ stored (c : Thread nD τ) s.a5 L5 ∗ stored (c : Thread nD τ) s.a6 L6 ∗ stored (c : Thread nD τ) s.a7 L7
            ∗ stored (c : Thread nD τ) s.w LW ∗ parts c fh ∗ (∃ W', owes (c : Thread nD τ) 0 W')) -∗ K ⟨⟩))
          ⊢ wp frame (wpE (defs₀ (F := F)) Variants.none c none) Set.univ (s.body i) K } := by
  refine ⟨?_, ?_, ?_, ?_, fun W K => ?run⟩
  case run =>
    unfold Stage.body Stage.ins parts
    rw [ownSems00_eq, owns_unread _ s.h0, owns_unread _ s.h1, owns_unread _ s.h2, owns_unread _ s.h3, owns_unread _ s.h4]
    simp only [cc0_inproj_bwd_eq_skeleton]; unfold cc0_inproj_bwd_skel
    simp only [k0_part4_eq_skeleton, k0_part1_eq_skeleton, k0_part2_eq_skeleton, k0_part3_eq_skeleton, k0_part5_eq_skeleton]
    unfold owns
    iintro ⟨⟨H0, H1, H2, H3, H4⟩, ⟨%d5, %f5, -, H5⟩, ⟨%d6, %f6, -, H6⟩, ⟨%d7, %f7, -, H7⟩, ⟨%dw, %fw, -, HS⟩, ⟨⟨Q0, Q1, Q2, Q3, Q4, Q5, Q6, Q7⟩, Hh⟩, HW, Hk⟩
    sl_exec (disch := first | sl_exact hc)
    sl_step
    iapply Hk
    unfold stored
    iframe H0 H1 H2 H3 H4 Q0 Q1 Q2 Q3 Q4 Q5 Q6 Q7 Hh
    isplitl [H5]; · iexists _; iexact H5
    isplitl [H6]; · iexists _; iexact H6
    isplitl [H7]; · iexists _; iexact H7
    isplitl [HS]; · iexists _; iexact HS
    iexists _; iexact HW

set_option maxHeartbeats 1000000 in
/-- A later point: it reads the weight from scratch and adds to the gain's gradient. -/
noncomputable def runNext (c : Dev nD) (i : grid0.Coords) (hc : ¬cond0_0 i) (s : Stage) (x : Tiles F) (g : Vec F S8x1024 .f32) (wt : Vec F S5120x1024 .bf16) :
    Σ' (L5 : List (View.Piece (Elt F) S512x1024 .f32)), Σ' (L6 : List (View.Piece (Elt F) S512x1024 .bf16)),
      { L7 : List (View.Piece (Elt F) S8x1024 .f32) //
      ∀ (W : Waits sig Unit) (K : PUnit → sProp 𝕄),
        iprop(s.ins c x ∗ (∃ d, owns (c : Thread nD τ) s.a5 fullShare d) ∗ (∃ d, owns (c : Thread nD τ) s.a6 fullShare d)
          ∗ owns (c : Thread nD τ) s.a7 fullShare g ∗ owns (c : Thread nD τ) s.w fullShare wt ∗ owes (c : Thread nD τ) 0 W
          ∗ (iprop(s.ins c x ∗ stored (c : Thread nD τ) s.a5 L5 ∗ stored (c : Thread nD τ) s.a6 L6 ∗ stored (c : Thread nD τ) s.a7 L7
            ∗ owns (c : Thread nD τ) s.w fullShare wt ∗ (∃ W', owes (c : Thread nD τ) 0 W')) -∗ K ⟨⟩))
          ⊢ wp frame (wpE (defs₀ (F := F)) Variants.none c none) Set.univ (s.body i) K } := by
  refine ⟨?_, ?_, ?_, fun W K => ?run⟩
  case run =>
    unfold Stage.body Stage.ins
    rw [owns_unread _ s.h0, owns_unread _ s.h1, owns_unread _ s.h2, owns_unread _ s.h3, owns_unread _ s.h4, owns_unread _ s.h7, owns_unread _ s.hw]
    simp only [cc0_inproj_bwd_eq_skeleton]; unfold cc0_inproj_bwd_skel
    simp only [k0_part4_eq_skeleton, k0_part5_eq_skeleton]
    unfold owns
    iintro ⟨⟨H0, H1, H2, H3, H4⟩, ⟨%d5, %f5, -, H5⟩, ⟨%d6, %f6, -, H6⟩, H7, HS, HW, Hk⟩
    sl_exec (disch := first | sl_exact hc)
    sl_step
    iapply Hk
    unfold stored
    iframe H0 H1 H2 H3 H4 HS
    isplitl [H5]; · iexists _; iexact H5
    isplitl [H6]; · iexists _; iexact H6
    isplitl [H7]; · iexists _; iexact H7
    iexists _; iexact HW

end Cert.Kernel2Ideal.Gen

end
-- ==== Proof.InprojFrame.lean ====
/- The gradient kernel of the input projection, point by point, and its frame. -/
module

public import proofs.«01_k».proof.Proof.InprojRun
public import proofs.«01_k».proof.Defs
public import proofs.«01_k».proof.Proof.Gen.Kernel2
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Fetch

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The memrefs of point `t`. -/
abbrev stageAt (t : Fin cfg0.N) : Stage :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    scM0_0, Memref.isWhole_whole _⟩

/-- The tiles of point `t`. -/
abbrev tilesAt (c : Dev nD) (t : Fin cfg0.N) : Tiles F := ⟨iblk m c 0 t, iblk m c 1 t, iblk m c 2 t, iblk m c 3 t, iblk m c 4 t⟩

/-- What a point leaves: its rows of the two gradients, the gain's gradient so far, the weight. -/
structure Left (F : FTy → Type) where
  dh : Vec F S512x1024 .f32
  u : Vec F S512x1024 .bf16
  gg : Vec F S8x1024 .f32
  wt : Vec F S5120x1024 .bf16

/-- What a first point leaves. -/
def leftFirst (c : Dev nD) (i : grid0.Coords) (hc : cond0_0 i) (s : Stage) (x : Tiles F) (fh : HbBuf0 (F := F) c hbM0_0) : Left F :=
  ⟨View.canon (runFirst c i hc s x fh).1, View.canon (runFirst c i hc s x fh).2.1, View.canon (runFirst c i hc s x fh).2.2.1,
    View.canon (runFirst c i hc s x fh).2.2.2.1⟩

/-- What a later point leaves. -/
def leftNext (c : Dev nD) (i : grid0.Coords) (hc : ¬cond0_0 i) (s : Stage) (x : Tiles F) (p : Left F) : Left F :=
  ⟨View.canon (runNext c i hc s x p.gg p.wt).1, View.canon (runNext c i hc s x p.gg p.wt).2.1, View.canon (runNext c i hc s x p.gg p.wt).2.2.1, p.wt⟩

theorem first_at (hn : 0 < cfg0.N) : cond0_0 (grid0.coords ⟨0, hn⟩) := (hcond0_0 ⟨0, hn⟩).mpr rfl
theorem next_at (n : ℕ) (hn : n + 1 < cfg0.N) : ¬cond0_0 (grid0.coords ⟨n + 1, hn⟩) := fun h => by
  have hN : n + 1 < 16 := lt_of_lt_of_eq hn N_0
  have := (hcond0_0 ⟨n + 1, hn⟩).mp h
  dsimp only at this; omega

/-- What point `n` leaves. -/
def leftAt (c : Dev nD) : (n : ℕ) → n < cfg0.N → Left F
  | 0, hn => leftFirst c _ (first_at hn) (stageAt ⟨0, hn⟩) (tilesAt m c ⟨0, hn⟩) (V m c main_v2)
  | n + 1, hn => leftNext c _ (next_at n hn) (stageAt ⟨n + 1, hn⟩) (tilesAt m c ⟨n + 1, hn⟩) (leftAt c n (Nat.lt_of_succ_lt hn))

/-- Between points: the register, the counters, the weight's pieces. -/
def quiet (c : Dev nD) : sProp 𝕄 := iprop((∃ r, prngReg c r) ∗ parts c (V m c main_v2))

theorem phi_eq (c : Dev nD) : (Pipeline.ΦD osem0 spec0 H0 (V m) c : sProp 𝕄) = iprop((∃ d, owns (c : Thread nD τ) scM0_0 fullShare d) ∗ quiet m c) := by
  unfold quiet parts
  rw [Pipeline.ΦD_eq, scopedRest0_eq, hbmPts0_eq]; simp only [scM0_0, owns_whole]; rfl

/-- Before point `n`: the weight as the point before left it. -/
def inv (c : Dev nD) : (n : ℕ) → n ≤ cfg0.N → sProp 𝕄
  | 0, _ => Pipeline.ΦD osem0 spec0 H0 (V m) c
  | n + 1, hn => iprop(owns (c : Thread nD τ) scM0_0 fullShare (leftAt m c n hn).wt ∗ quiet m c)

/-- The arrays and the tiles, point by point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (leftAt m c t.val t.isLt).dh
    | ⟨6, _⟩ => (leftAt m c t.val t.isLt).u
    | ⟨7, _⟩ => (leftAt m c t.val t.isLt).gg
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

/-- An input's buffer holds its tile. -/
theorem before_eq (c : Dev nD) (t : Fin cfg0.N) (d0 d1 d2 d3 d4) :
    (dats m 0 c).before 0 t d0 = iblk m c 0 t ∧ (dats m 0 c).before 1 t d1 = iblk m c 1 t ∧ (dats m 0 c).before 2 t d2 = iblk m c 2 t
      ∧ (dats m 0 c).before 3 t d3 = iblk m c 3 t ∧ (dats m 0 c).before 4 t d4 = iblk m c 4 t :=
  ⟨before0_0_of m (dats m 0 c) (A_eq m c 0) (fun t => by dsimp only [dats]) t d0, before0_1_of m (dats m 0 c) (A_eq m c 1) (fun t => by dsimp only [dats]) t d1,
    before0_2_of m (dats m 0 c) (A_eq m c 2) (fun t => by dsimp only [dats]) t d2, before0_3_of m (dats m 0 c) (A_eq m c 3) (fun t => by dsimp only [dats]) t d3,
    before0_4_of m (dats m 0 c) (A_eq m c 4) (fun t => by dsimp only [dats]) t d4⟩

/-- The gain's gradient stays in its buffer from point to point. -/
theorem before_gg (c : Dev nD) (n : ℕ) (hn : n + 1 < cfg0.N) (d) :
    (dats m 0 c).before 7 ⟨n + 1, hn⟩ d = (leftAt m c n (Nat.lt_of_succ_lt hn)).gg := by
  have hN : n + 1 < 16 := lt_of_lt_of_eq hn N_0
  rw [Dat.before_out_kept _ 7 rfl ⟨n + 1, hn⟩ (by dsimp only; omega)
    (Bool.eq_false_iff.mpr fun h => by have := (flush0_7 _).mp h; dsimp only at this; omega) (fun _ => rfl) (fun _ _ => rfl)]
  dsimp only [dats]; rfl

set_option maxHeartbeats 2000000 in
/-- The body at a point takes the tiles and what the point before left to what this one leaves. -/
theorem sound (c : Dev nD) (t : Fin cfg0.N) (W : Waits sig Unit) (K : PUnit → sProp 𝕄) :
    iprop(inv m c t.val (Nat.le_of_lt t.isLt) ∗ owes (c : Thread nD τ) 0 W ∗ (stageAt t).ins c (tilesAt m c t)
      ∗ (∃ d, owns (c : Thread nD τ) (ms0_5 t) fullShare d) ∗ (∃ d, owns (c : Thread nD τ) (ms0_6 t) fullShare d)
      ∗ (∃ d, owns (c : Thread nD τ) (ms0_7 t) fullShare ((dats m 0 c).before 7 t d))
      ∗ (iprop(inv m c (t.val + 1) t.isLt ∗ (∃ W', owes (c : Thread nD τ) 0 W') ∗ (stageAt t).ins c (tilesAt m c t)
        ∗ owns (c : Thread nD τ) (ms0_5 t) fullShare (leftAt m c t.val t.isLt).dh ∗ owns (c : Thread nD τ) (ms0_6 t) fullShare (leftAt m c t.val t.isLt).u
        ∗ owns (c : Thread nD τ) (ms0_7 t) fullShare (leftAt m c t.val t.isLt).gg) -∗ K ⟨⟩))
      ⊢ wp frame (wpE (defs₀ (F := F)) Variants.none c none) Set.univ (bodyAt0 t) K := by
  obtain ⟨n, hn⟩ := t
  cases n with
  | zero =>
    dsimp only [inv]
    rw [phi_eq]
    unfold quiet
    iintro ⟨⟨HS, Hg, Hp⟩, HW, HI, H5, H6, ⟨%d7, H7⟩, Hk⟩
    iapply ((runFirst c (grid0.coords ⟨0, hn⟩) (first_at hn) (stageAt ⟨0, hn⟩) (tilesAt m c ⟨0, hn⟩) (V m c main_v2)).2.2.2.2 W _)
    iframe HI H5 H6 HS Hp HW
    isplitl [H7]; · iexists _; iexact H7
    iintro ⟨HI, H5, H6, H7, HS, Hp, HW⟩
    iapply Hk
    iframe HI Hg Hp HW
    isplitl [HS]; · iapply (stored_owns _ _ _ fun y => View.cover_of_tiledL _ ![640, 1024] (by sl_kernel_rfl) y); iexact HS
    isplitl [H5]; · iapply (stored_owns _ _ _ fun y => View.cover_of_tiledL _ S512x1024.size (by sl_kernel_rfl) y); iexact H5
    isplitl [H6]; · iapply (stored_owns _ _ _ fun y => View.cover_of_tiledL _ S512x1024.size (by sl_kernel_rfl) y); iexact H6
    iapply (stored_owns _ _ _ fun y => View.cover_of_tiledL _ S8x1024.size (by sl_kernel_rfl) y); iexact H7
  | succ n =>
    dsimp only [inv]
    simp only [before_gg m c n hn]
    iintro ⟨⟨HS, Hq⟩, HW, HI, H5, H6, ⟨%d7, H7⟩, Hk⟩
    iapply ((runNext c (grid0.coords ⟨n + 1, hn⟩) (next_at n hn) (stageAt ⟨n + 1, hn⟩) (tilesAt m c ⟨n + 1, hn⟩) (leftAt m c n (Nat.lt_of_succ_lt hn)).gg
      (leftAt m c n (Nat.lt_of_succ_lt hn)).wt).2.2.2 W _)
    iframe HI H5 H6 H7 HS HW
    iintro ⟨HI, H5, H6, H7, HS, HW⟩
    iapply Hk
    iframe HI HS Hq HW
    isplitl [H5]; · iapply (stored_owns _ _ _ fun y => View.cover_of_tiledL _ S512x1024.size (by sl_kernel_rfl) y); iexact H5
    isplitl [H6]; · iapply (stored_owns _ _ _ fun y => View.cover_of_tiledL _ S512x1024.size (by sl_kernel_rfl) y); iexact H6
    iapply (stored_owns _ _ _ fun y => View.cover_of_tiledL _ S8x1024.size (by sl_kernel_rfl) y); iexact H7

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  rw [show (dats m 0 c).Φ t.castSucc = inv m c t.val (Nat.le_of_lt t.isLt) by dsimp only [dats]; exact Pipeline.Dat.Φ_castSucc (inv m c) t,
    show (dats m 0 c).Φ t.succ = inv m c (t.val + 1) t.isLt from rfl]
  unfold Dat.owesAt Pipeline.owesWithin
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, H7⟩
  iapply (sound m c t W _)
  obtain ⟨e0, e1, e2, e3, e4⟩ := before_eq m c t d0 d1 d2 d3 d4
  rw [e0, e1, e2, e3, e4]
  unfold Stage.ins
  iframe HΦ HW H0 H1 H2 H3 H4 H7
  isplitl [H5]; · iexists _; iexact H5
  isplitl [H6]; · iexists _; iexact H6
  iintro ⟨HΦ, ⟨%W', HW⟩, ⟨H0, H1, H2, H3, H4⟩, H5, H6, H7⟩
  iframe HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- After the last point the scratch is any scratch again. -/
theorem inv_last (c : Dev nD) : (dats m 0 c).Φ (Fin.last cfg0.N) ⊢ Pipeline.ΦD osem0 spec0 H0 (V m) c := by
  rw [phi_eq, show (dats m 0 c).Φ (Fin.last cfg0.N) = inv m c 16 (le_of_eq N_0.symm) from rfl]
  dsimp only [inv]
  iintro ⟨HS, Hq⟩
  isplitl [HS]; · iexists _; iexact HS
  iexact Hq

set_option backward.isDefEq.respectTransparency.types false in
/-- The launch: it ends with the arrays at what the points leave and every counter at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (obligation m c).loose) (hshare := fun c => (dats m 0 c).share_full fun _ => rfl) (howed := fun _ _ => rfl)
    (V₀ := V0 m) (opss := [hostOps1]) (hsub := sfx_but) (hfresh := sfx_fresh) (hkeep := sfx_keeps) (hmain := hmain m Variants.none) (hA := A_eq m)
    (hin := fun c => .rfl) (hout := inv_last m)

/-- The arguments of device `c` are those of `m`. -/
abbrev Same (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)

/-- The frame as the launch states it, at any floats: the arguments end as they were, and every counter at zero. -/
def Kept (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      Same m r.2.mem c)
      ∧ r.2.sem = fun _ => 0)

theorem kept : Kept F := fun m ρ _ =>
  θ_run_and (frame_of m ρ (dats m) (A_eq m) ((θ_run defs _ _).mono (fun _ h => h.1) (launch m ρ))) ((θ_run defs _ _).mono (fun _ h => h.2) (launch m ρ))

/-- The two programs are the same text. -/
theorem same : Kept Bits = Cert.quiescent_Kernel2 (hKernel2 := Cert.Kernel2.Gen.facts) := by sl_kernel_rfl

theorem kernel_frame : Cert.quiescent_Kernel2 (hKernel2 := Cert.Kernel2.Gen.facts) := same.mp kept

end Cert.Kernel2Ideal.Gen

end
-- ==== Proof.Reals.lean ====
module
public import Idealize.ShloMosaic.Lib.Pipeline.Value
public import Idealize.ShloMosaic.Lib.Pointwise
public import Idealize.ShloMosaic.Lib.MatmulPlain
public import Idealize.ShloMosaic.Lib.WholeRead
public import Idealize.ShloMosaic.Lib.KernelVsHost
@[expose] public section
namespace Cert.Reals
open Idealize.ShloMosaic

/-!
  Arrays of extended reals all of whose entries are real numbers, with the real entries as a function of the row and the
  column; and the real entries of what the operations of the programs make of such arrays.
-/

/-- The scalar `x` is the real `a`. -/
class Real0 (x : (⟨0, ![]⟩ : Shape).Idx → EReal) (a : outParam ℝ) : Prop where
  entry : ∀ i, x i = (a : EReal)

/-- The vector `x` has the real entries `f`. -/
class Real1 {n : ℕ} (x : (⟨1, ![n]⟩ : Shape).Idx → EReal) (f : outParam (ℕ → ℝ)) : Prop where
  entry : ∀ i, x i = (f (i 0).val : EReal)

/-- The matrix `x` has the real entries `f`. -/
class Real2 {m n : ℕ} (x : (⟨2, ![m, n]⟩ : Shape).Idx → EReal) (f : outParam (ℕ → ℕ → ℝ)) : Prop where
  entry : ∀ i, x i = (f (i 0).val (i 1).val : EReal)

/-- The pattern `b` denotes the real `a`. -/
class Lit (b : BitVec 32) (a : outParam ℝ) : Prop where
  val : Ideal.ofBits .f32 b = (a : EReal)

/-- The function is positive everywhere. -/
class Pos (f : ℕ → ℕ → ℝ) : Prop where
  pos : ∀ r c, 0 < f r c

theorem Real2.of_eq {m n : ℕ} {x : (⟨2, ![m, n]⟩ : Shape).Idx → EReal} {f g : ℕ → ℕ → ℝ} (h : Real2 x f)
    (e : ∀ r c, r < m → c < n → f r c = g r c) : Real2 x g :=
  ⟨fun i => (h.entry i).trans (congrArg _ (e _ _ (i 0).isLt (i 1).isLt))⟩

theorem Real1.of_eq {n : ℕ} {x : (⟨1, ![n]⟩ : Shape).Idx → EReal} {f g : ℕ → ℝ} (h : Real1 x f)
    (e : ∀ r, r < n → f r = g r) : Real1 x g :=
  ⟨fun i => (h.entry i).trans (congrArg _ (e _ (i 0).isLt))⟩

instance : Lit 0x00000000#32 0 := ⟨by simp [Ideal.ofBits, Ideal.ieee]⟩
instance : Lit 0x44800000#32 1024 := ⟨by simp [Ideal.ofBits, Ideal.ieee, ← EReal.coe_mul]; norm_num⟩
instance : Lit 0x40000000#32 2 := ⟨by simp [Ideal.ofBits, Ideal.ieee, ← EReal.coe_mul]; norm_num⟩
instance : Lit 0x3F800000#32 1 := ⟨by simp [Ideal.ofBits, Ideal.ieee, ← EReal.coe_mul]; norm_num⟩
instance : Lit 0x3F000000#32 (1 / 2) := ⟨by simp [Ideal.ofBits, Ideal.ieee, ← EReal.coe_mul]; norm_num⟩
instance : Lit 0xBF000000#32 (-1 / 2) := ⟨by simp [Ideal.ofBits, Ideal.ieee, ← EReal.coe_mul, ← EReal.coe_neg]; norm_num⟩

instance : NeZero (1024 : ℝ) := ⟨by norm_num⟩

/-- The small number the root mean square adds under its root. -/
noncomputable def eps : ℝ := 8796093 / 2 ^ 43
theorem eps_pos : 0 < eps := by unfold eps; positivity
instance : Lit 0x358637BD#32 eps := ⟨by unfold eps; simp [Ideal.ofBits, Ideal.ieee, ← EReal.coe_mul]; norm_num⟩
/-- The small number of the layer norm. -/
noncomputable def eps5 : ℝ := 10995116 / 2 ^ 40
theorem eps5_pos : 0 < eps5 := by unfold eps5; positivity
instance : Lit 0x3727C5AC#32 eps5 := ⟨by unfold eps5; simp [Ideal.ofBits, Ideal.ieee, ← EReal.coe_mul]; norm_num⟩

/-- A sum of coerced reals. -/
theorem coe_sum {ι : Type*} (s : Finset ι) (f : ι → ℝ) : ((∑ q ∈ s, f q : ℝ) : EReal) = ∑ q ∈ s, (f q : EReal) := by
  classical
  induction s using Finset.induction_on with
  | empty => simp
  | insert a s ha ih => rw [Finset.sum_insert ha, Finset.sum_insert ha, EReal.coe_add, ih]

theorem coe_fin {n : ℕ} {g : Fin n → EReal} (f : ℕ → ℝ) (h : ∀ k, g k = (f k.val : EReal)) :
    ∑ k, g k = ((∑ k ∈ Finset.range n, f k : ℝ) : EReal) := by
  rw [Finset.sum_range f, coe_sum]
  exact Finset.sum_congr rfl fun k _ => h k

theorem div_real {a b : ℝ} (h : b ≠ 0) : Ideal.div (a : EReal) (b : EReal) = ((a / b : ℝ) : EReal) := by
  rw [Ideal.div_coe h, ← EReal.coe_mul]; congr 1; ring

section
variable {m n k : ℕ} {φ ψ : FTy} {f g : ℕ → ℕ → ℝ}

/-! ## Entry by entry -/

section
variable (x y : FVec Ideal ⟨2, ![m, n]⟩ φ) [hx : Real2 x f] [hy : Real2 y g]

instance : Real2 (mulf x y) fun r c => f r c * g r c := ⟨fun i => (congrArg₂ (· * ·) (hx.entry i) (hy.entry i)).trans (EReal.coe_mul _ _).symm⟩
instance : Real2 (addf x y) fun r c => f r c + g r c := ⟨fun i => (congrArg₂ (· + ·) (hx.entry i) (hy.entry i)).trans (EReal.coe_add _ _).symm⟩
instance : Real2 (subf x y) fun r c => f r c - g r c := ⟨fun i => (congrArg₂ (· - ·) (hx.entry i) (hy.entry i)).trans (EReal.coe_sub _ _).symm⟩
omit hy in
instance (h) : Real2 (extf ψ x h) f := ⟨hx.entry⟩
omit hy in
instance (h) : Real2 (truncf ψ x h) f := ⟨hx.entry⟩
omit hy in
instance : Real2 (logistic x) fun r c => (1 + Real.exp (-f r c))⁻¹ :=
  ⟨fun i => (congrArg Ideal.logistic (hx.entry i)).trans (Ideal.logistic_coe _)⟩
omit hy in
instance : Real2 (Host.logistic x) fun r c => (1 + Real.exp (-f r c))⁻¹ :=
  ⟨fun i => (congrArg Ideal.logistic (hx.entry i)).trans (Ideal.logistic_coe _)⟩
omit hy in
instance : Real2 (Host.negf x) fun r c => -f r c := ⟨fun i => (congrArg (- ·) (hx.entry i)).trans (EReal.coe_neg _).symm⟩

instance {a : ℝ} [NeZero a] [hy : Real2 y fun _ _ => a] : Real2 (divf x y) fun r c => f r c / a :=
  ⟨fun i => (congrArg₂ Ideal.div (hx.entry i) (hy.entry i)).trans (div_real (NeZero.ne a))⟩
instance {a : ℝ} [NeZero a] [hy : Real2 y fun _ _ => a] : Real2 (Host.divf x y) fun r c => f r c / a :=
  ⟨fun i => (congrArg₂ Ideal.div (hx.entry i) (hy.entry i)).trans (div_real (NeZero.ne a))⟩

instance [hp : Pos g] : Real2 (Host.divf x y) fun r c => f r c / g r c :=
  ⟨fun i => (congrArg₂ Ideal.div (hx.entry i) (hy.entry i)).trans (div_real (hp.pos _ _).ne')⟩

omit hy in
instance [hp : Pos f] : Real2 (Idealize.ShloMosaic.rsqrt x) fun r c => (Real.sqrt (f r c))⁻¹ :=
  ⟨fun i => (congrArg Ideal.rsqrt (hx.entry i)).trans (by rw [Ideal.rsqrt_coe, if_neg (hp.pos _ _).le.not_gt, if_neg (hp.pos _ _).ne'])⟩

omit hy in
instance [hp : Pos f] : Real2 (Host.rsqrt x) fun r c => (Real.sqrt (f r c))⁻¹ :=
  ⟨fun i => (congrArg Ideal.rsqrt (hx.entry i)).trans (by rw [Ideal.rsqrt_coe, if_neg (hp.pos _ _).le.not_gt, if_neg (hp.pos _ _).ne'])⟩
end

instance {b : BitVec 32} {a : ℝ} [h : Lit b a] : Real2 (broadcast (⟨2, ![m, n]⟩ : Shape) (Scalar.ofBits (F := Ideal) .f32 b)) fun _ _ => a :=
  ⟨fun _ => h.val⟩
instance {b : BitVec 32} {a : ℝ} [h : Lit b a] : Real2 (constant (F := Ideal) (⟨2, ![m, n]⟩ : Shape) .f32 b) fun _ _ => a := ⟨fun _ => h.val⟩
instance {b : BitVec 32} {a : ℝ} [h : Lit b a] : Real0 (constant (F := Ideal) (⟨0, ![]⟩ : Shape) .f32 b) a := ⟨fun _ => h.val⟩

/-! ## Copies and casts of shape -/

instance (x : (⟨2, ![m, n]⟩ : Shape).Idx → EReal) [hx : Real2 x f] (h) : Real2 (shapeCast (⟨2, ![m, n]⟩ : Shape) x h) f :=
  ⟨fun i => by rw [shapeCast_self]; exact hx.entry i⟩

instance (x : (⟨2, ![1, n]⟩ : Shape).Idx → EReal) [hx : Real2 x f] (h) : Real2 (broadcastTo (⟨2, ![m, n]⟩ : Shape) x h) fun _ c => f 0 c :=
  ⟨fun i => (broadcastTo_apply x h i (ix2 0 (i 1)) fun a => by
    fin_cases a
    · rfl
    · show (i 1).val = if n = 1 then 0 else (i 1).val
      split
      · have := (i 1).isLt; change (i 1).val < n at this; omega
      · rfl).trans (hx.entry _)⟩

instance (x : (⟨2, ![m, 1]⟩ : Shape).Idx → EReal) [hx : Real2 x f] (h) : Real2 (broadcastTo (⟨2, ![m, n]⟩ : Shape) x h) fun r _ => f r 0 :=
  ⟨fun i => (broadcastTo_apply x h i (ix2 (i 0) 0) fun a => by
    fin_cases a
    · show (i 0).val = if m = 1 then 0 else (i 0).val
      split
      · have := (i 0).isLt; change (i 0).val < m at this; omega
      · rfl
    · rfl).trans (hx.entry _)⟩

section
variable {u : ℕ → ℝ}

instance (x : (⟨0, ![]⟩ : Shape).Idx → EReal) {a : ℝ} [hx : Real0 x a] (h) : Real2 (broadcastInDim (⟨2, ![m, n]⟩ : Shape) ![] h x) fun _ _ => a :=
  ⟨fun _ => hx.entry _⟩

instance (x : (⟨2, ![m, 1]⟩ : Shape).Idx → EReal) [hx : Real2 x f] (h) : Real2 (broadcastInDim (⟨2, ![m, n]⟩ : Shape) ![0, 1] h x) fun r _ => f r 0 :=
  ⟨fun i => (broadcastInDim_apply _ h x i (ix2 (i 0) 0) fun a => by
    fin_cases a
    · show (i 0).val = if m = 1 then 0 else (i 0).val
      split
      · have := (i 0).isLt; change (i 0).val < m at this; omega
      · rfl
    · rfl).trans (hx.entry _)⟩

instance (x : (⟨2, ![1, n]⟩ : Shape).Idx → EReal) [hx : Real2 x f] (h) : Real2 (broadcastInDim (⟨2, ![m, n]⟩ : Shape) ![0, 1] h x) fun _ c => f 0 c :=
  ⟨fun i => (broadcastInDim_apply _ h x i (ix2 0 (i 1)) fun a => by
    fin_cases a
    · rfl
    · show (i 1).val = if n = 1 then 0 else (i 1).val
      split
      · have := (i 1).isLt; change (i 1).val < n at this; omega
      · rfl).trans (hx.entry _)⟩

instance (x : (⟨1, ![m]⟩ : Shape).Idx → EReal) [hx : Real1 x u] (h) : Real2 (broadcastInDim (⟨2, ![m, n]⟩ : Shape) ![0] h x) fun r _ => u r :=
  ⟨fun i => (broadcastInDim_apply _ h x i (ix1 (i 0)) fun a => by
    fin_cases a
    show (i 0).val = if m = 1 then 0 else (i 0).val
    split
    · have := (i 0).isLt; change (i 0).val < m at this; omega
    · rfl).trans (hx.entry _)⟩

instance (x : (⟨1, ![n]⟩ : Shape).Idx → EReal) [hx : Real1 x u] (h) : Real2 (broadcastInDim (⟨2, ![1, n]⟩ : Shape) ![1] h x) fun _ c => u c :=
  ⟨fun i => (broadcastInDim_apply _ h x i (ix1 (i 1)) fun a => by
    fin_cases a
    show (i 1).val = if n = 1 then 0 else (i 1).val
    split
    · have := (i 1).isLt; change (i 1).val < n at this; omega
    · rfl).trans (hx.entry _)⟩

instance (x : (⟨1, ![m]⟩ : Shape).Idx → EReal) [hx : Real1 x u] (h) : Real2 (shapeCast (⟨2, ![m, 1]⟩ : Shape) x h) fun r _ => u r :=
  ⟨fun i => (shapeCast_apply x h i (ix1 (i 0)) (by
    rw [Shape.rowMajor_val_one, Shape.rowMajor_val_two]
    have := (i 1).isLt; change (i 1).val < 1 at this
    show (i 0).val = (i 0).val * 1 + (i 1).val
    omega)).trans (hx.entry _)⟩

instance (x : (⟨1, ![n]⟩ : Shape).Idx → EReal) [hx : Real1 x u] (h) : Real2 (shapeCast (⟨2, ![1, n]⟩ : Shape) x h) fun _ c => u c :=
  ⟨fun i => (shapeCast_apply x h i (ix1 (i 1)) (by
    rw [Shape.rowMajor_val_one, Shape.rowMajor_val_two]
    have := (i 0).isLt; change (i 0).val < 1 at this
    show (i 1).val = (i 0).val * n + (i 1).val
    rw [show (i 0).val = 0 by omega, Nat.zero_mul, Nat.zero_add])).trans (hx.entry _)⟩
end

/-! ## Sums and products -/

instance (x : FVec Ideal ⟨2, ![m, n]⟩ .f32) [hx : Real2 x f] (h hφ) (hb : (0x00000000#32 : BitVec 32) = 0x00000000#32) :
    Real1 (multiReduction .add [1] (⟨1, ![m]⟩ : Shape) x 0x00000000#32 h hφ hb) fun r => ∑ c ∈ Finset.range n, f r c :=
  ⟨fun i => (Ideal.reduceAdd_r2_a1 h x i).trans (coe_fin (f (i 0).val) fun c => hx.entry _)⟩

instance (x : FVec Ideal ⟨2, ![m, n]⟩ φ) [hx : Real2 x f] (z : FVec Ideal ⟨0, ![]⟩ φ) [hz : Real0 z 0] (h hu) :
    Real1 (Host.reduceAdd (t := (⟨1, ![m]⟩ : Shape)) (axes := [1]) x z h hu) fun r => ∑ c ∈ Finset.range n, f r c :=
  ⟨fun i => (Ideal.hostReduceAdd_r2_a1 h x _ i).trans (by rw [hz.entry, EReal.coe_zero, zero_add]; exact coe_fin (f (i 0).val) fun c => hx.entry _)⟩

instance (x : FVec Ideal ⟨2, ![m, n]⟩ φ) [hx : Real2 x f] (z : FVec Ideal ⟨0, ![]⟩ φ) [hz : Real0 z 0] (h hu) :
    Real1 (Host.reduceAdd (t := (⟨1, ![n]⟩ : Shape)) (axes := [0]) x z h hu) fun c => ∑ r ∈ Finset.range m, f r c :=
  ⟨fun i => (Ideal.hostReduceAdd_r2_a0 h x _ i).trans (by rw [hz.entry, EReal.coe_zero, zero_add]; exact coe_fin (fun r => f r (i 0).val) fun c => hx.entry _)⟩

/-- The rows in groups of eight, summed over the groups. -/
instance {a : ℕ} (x : FVec Ideal ⟨2, ![m, n]⟩ .f32) [hx : Real2 x f] (hc h hφ) (hb : (0x00000000#32 : BitVec 32) = 0x00000000#32) :
    Real2 (multiReduction .add [0] (⟨2, ![8, n]⟩ : Shape) (shapeCast (⟨3, ![a, 8, n]⟩ : Shape) x hc) 0x00000000#32 h hφ hb)
      fun r c => ∑ g ∈ Finset.range a, f (8 * g + r) c :=
  ⟨fun i => (Ideal.reduceAdd_r3_a0 h _ i).trans (coe_fin (fun g => f (8 * g + (i 0).val) (i 1).val) fun g => by
    have hn : m * n = a * 8 * n := by
      have := hc; simp [Shape.ShapeCasts, Shape.numel, Fin.prod_univ_succ] at this; nlinarith
    have h0 := (i 0).isLt; change (i 0).val < 8 at h0
    have h1 := (i 1).isLt; change (i 1).val < n at h1
    have hm : m = a * 8 := Nat.eq_of_mul_eq_mul_right (by omega) hn
    have hg := g.isLt
    refine (shapeCast_apply x hc _ (ix2 ⟨8 * g.val + (i 0).val, by omega⟩ (i 1)) ?_).trans (hx.entry _)
    rw [Shape.rowMajor_val_two, Shape.rowMajor_val_three]
    show (8 * g.val + (i 0).val) * n + (i 1).val = (g.val * 8 + (i 0).val) * n + (i 1).val
    rw [Nat.mul_comm 8])⟩

/-- The product is of rows and columns. -/
class Plain (d : DotDims ⟨2, ![m, k]⟩ ⟨2, ![k, n]⟩ ⟨2, ![m, n]⟩) : Prop where
  eq : d = DotDims.plain m k n
/-- The product is of rows and rows. -/
class Turned (d : DotDims ⟨2, ![m, k]⟩ ⟨2, ![n, k]⟩ ⟨2, ![m, n]⟩) : Prop where
  eq : d = DotDims.transposedRhs m k n

instance (d : DotDims ⟨2, ![m, k]⟩ ⟨2, ![k, n]⟩ ⟨2, ![m, n]⟩) [hd : Plain d] (x : FVec Ideal ⟨2, ![m, k]⟩ φ) (y : FVec Ideal ⟨2, ![k, n]⟩ ψ)
    [hx : Real2 x f] [hy : Real2 y g] :
    Real2 (matmul d none x y (constant (⟨2, ![m, n]⟩ : Shape) .f32 0x00000000#32)) fun r c => ∑ q ∈ Finset.range k, f r q * g q c := by
  obtain rfl := hd.eq
  refine ⟨fun i => (congrArg _ (eq_ix2 i)).trans ((Ideal.matmul_plain_apply none x y _ (i 0) (i 1)).trans ?_)⟩
  refine (congrArg (· + _) (show Ideal.ofBits .f32 0x00000000#32 = 0 from Ideal.ofBits_zero_f32)).trans ((zero_add _).trans ?_)
  exact coe_fin (fun q => f (i 0).val q * g q (i 1).val) fun q => (congrArg₂ (· * ·) (hx.entry _) (hy.entry _)).trans (EReal.coe_mul _ _).symm

instance (d : DotDims ⟨2, ![m, k]⟩ ⟨2, ![n, k]⟩ ⟨2, ![m, n]⟩) [hd : Turned d] (x : FVec Ideal ⟨2, ![m, k]⟩ φ) (y : FVec Ideal ⟨2, ![n, k]⟩ ψ)
    [hx : Real2 x f] [hy : Real2 y g] :
    Real2 (matmul d none x y (constant (⟨2, ![m, n]⟩ : Shape) .f32 0x00000000#32)) fun r c => ∑ q ∈ Finset.range k, f r q * g c q := by
  obtain rfl := hd.eq
  refine ⟨fun i => (congrArg _ (eq_ix2 i)).trans ((Ideal.matmul_transposedRhs_apply none x y _ (i 0) (i 1)).trans ?_)⟩
  refine (congrArg (· + _) (show Ideal.ofBits .f32 0x00000000#32 = 0 from Ideal.ofBits_zero_f32)).trans ((zero_add _).trans ?_)
  exact coe_fin (fun q => f (i 0).val q * g (i 1).val q) fun q => (congrArg₂ (· * ·) (hx.entry _) (hy.entry _)).trans (EReal.coe_mul _ _).symm

instance (d : DotDims ⟨2, ![m, k]⟩ ⟨2, ![k, n]⟩ ⟨2, ![m, n]⟩) [hd : Plain d] (x : FVec Ideal ⟨2, ![m, k]⟩ .f32) (y : FVec Ideal ⟨2, ![k, n]⟩ .f32)
    [hx : Real2 x f] [hy : Real2 y g] : Real2 (Host.dotGeneral d none x y) fun r c => ∑ q ∈ Finset.range k, f r q * g q c := by
  rw [← matmul_zero_eq_dotGeneral]; infer_instance

instance (d : DotDims ⟨2, ![m, k]⟩ ⟨2, ![n, k]⟩ ⟨2, ![m, n]⟩) [hd : Turned d] (x : FVec Ideal ⟨2, ![m, k]⟩ .f32) (y : FVec Ideal ⟨2, ![n, k]⟩ .f32)
    [hx : Real2 x f] [hy : Real2 y g] : Real2 (Host.dotGeneral d none x y) fun r c => ∑ q ∈ Finset.range k, f r q * g c q := by
  rw [← matmul_zero_eq_dotGeneral]; infer_instance
end

/-! ## Boxes -/

section
variable {sig : RefSig} {κ : Kind} {sp : Space} {m n a b r₀ c₀ : ℕ} {f : ℕ → ℕ → ℝ} (inb : ∀ i, (![r₀, c₀] : Fin 2 → ℕ) i + (![a, b] : Fin 2 → ℕ) i ≤ (⟨2, ![m, n]⟩ : Shape).size i)

theorem box_at (r₀ c₀ : ℕ) {x y : ℕ} : ((f (r₀ + 1 * x) (c₀ + 1 * y) : ℝ) : EReal) = (f (r₀ + x) (c₀ + y) : EReal) := by rw [Nat.one_mul, Nat.one_mul]

instance (X : Vec Ideal ⟨2, ![m, n]⟩ .f32) [hX : Real2 X f] :
    Real2 (m := a) (n := b) (View.ld X (Rect.unit (s := ⟨2, ![m, n]⟩) ![r₀, c₀] ![a, b] inb)) fun r c => f (r₀ + r) (c₀ + c) :=
  ⟨fun _ => (hX.entry _).trans (box_at r₀ c₀)⟩
instance (X : Vec Ideal ⟨2, ![m, n]⟩ .bf16) [hX : Real2 X f] :
    Real2 (m := a) (n := b) (View.ld X (Rect.unit (s := ⟨2, ![m, n]⟩) ![r₀, c₀] ![a, b] inb)) fun r c => f (r₀ + r) (c₀ + c) :=
  ⟨fun _ => (hX.entry _).trans (box_at r₀ c₀)⟩

/-- A load of the whole. -/
theorem readAt_whole {Val : EltTy → Type} {e : EltTy} {M : Memref sig κ sp ⟨2, ![m, n]⟩ e} (h : M.IsWhole) (inb) (X : (⟨2, ![m, n]⟩ : Shape).Idx → Val e) :
    View.readAt Val M.view (Rect.unit (s := ⟨2, ![m, n]⟩) ![0, 0] ![m, n] inb).toLoadRect (h.unread X) = X := by
  funext i
  refine (h.readAt_unread X _ i).trans (congrArg X ?_)
  funext x
  apply Fin.ext
  fin_cases x
  · show 0 + 1 * (i 0).val = (i 0).val
    omega
  · show 0 + 1 * (i 1).val = (i 1).val
    omega

instance {M : Memref sig κ sp ⟨2, ![m, n]⟩ .f32} (h : M.IsWhole) (X : Vec Ideal ⟨2, ![m, n]⟩ .f32) [hX : Real2 X f] :
    Real2 (m := a) (n := b) (View.readAt (Elt Ideal) M.view (Rect.unit (s := ⟨2, ![m, n]⟩) ![r₀, c₀] ![a, b] inb).toLoadRect (h.unread X))
      fun r c => f (r₀ + r) (c₀ + c) :=
  ⟨fun _ => (h.readAt_unread X _ _).trans ((hX.entry _).trans (box_at r₀ c₀))⟩
instance {M : Memref sig κ sp ⟨2, ![m, n]⟩ .bf16} (h : M.IsWhole) (X : Vec Ideal ⟨2, ![m, n]⟩ .bf16) [hX : Real2 X f] :
    Real2 (m := a) (n := b) (View.readAt (Elt Ideal) M.view (Rect.unit (s := ⟨2, ![m, n]⟩) ![r₀, c₀] ![a, b] inb).toLoadRect (h.unread X))
      fun r c => f (r₀ + r) (c₀ + c) :=
  ⟨fun _ => (h.readAt_unread X _ _).trans ((hX.entry _).trans (box_at r₀ c₀))⟩

instance (v : View sig κ sp ⟨2, ![m, n]⟩ .f32) (L : List (View.Piece (Elt Ideal) ⟨2, ![m, n]⟩ .f32))
    [hX : Real2 (View.canon L : Vec Ideal ⟨2, ![m, n]⟩ .f32) f] :
    Real2 (m := a) (n := b) (v.readCov L (Rect.unit (s := ⟨2, ![m, n]⟩) ![r₀, c₀] ![a, b] inb).toLoadRect) fun r c => f (r₀ + r) (c₀ + c) :=
  ⟨fun i => by rw [View.readCov_eq_canon']; exact (hX.entry _).trans (box_at r₀ c₀)⟩
instance (v : View sig κ sp ⟨2, ![m, n]⟩ .bf16) (L : List (View.Piece (Elt Ideal) ⟨2, ![m, n]⟩ .bf16))
    [hX : Real2 (View.canon L : Vec Ideal ⟨2, ![m, n]⟩ .bf16) f] :
    Real2 (m := a) (n := b) (v.readCov L (Rect.unit (s := ⟨2, ![m, n]⟩) ![r₀, c₀] ![a, b] inb).toLoadRect) fun r c => f (r₀ + r) (c₀ + c) :=
  ⟨fun i => by rw [View.readCov_eq_canon']; exact (hX.entry _).trans (box_at r₀ c₀)⟩

/-- One store of the whole leaves what it stored. -/
theorem canon_whole {Val : EltTy → Type} [∀ e, Nonempty (Val e)] {e : EltTy} (inb) (w : (⟨2, ![m, n]⟩ : Shape).Idx → Val e) (L : List (View.Piece Val ⟨2, ![m, n]⟩ e)) :
    View.canon ((⟨Rect.unit ![0, 0] ![m, n] inb, w⟩ : View.Piece Val ⟨2, ![m, n]⟩ e) :: L) = w := by
  funext i
  refine Eq.trans (congrArg _ ?_) (View.canon_cons_emb (Rect.unit (s := ⟨2, ![m, n]⟩) ![0, 0] ![m, n] inb) w L i)
  funext x
  apply Fin.ext
  rw [Rect.emb_apply]
  fin_cases x
  · show (i 0).val = 0 + 1 * (i 0).val
    omega
  · show (i 1).val = 0 + 1 * (i 1).val
    omega

instance (inb) (w : Vec Ideal ⟨2, ![m, n]⟩ .f32) [hw : Real2 w f] (L) :
    Real2 (View.canon ((⟨Rect.unit ![0, 0] ![m, n] inb, w⟩ : View.Piece (Elt Ideal) ⟨2, ![m, n]⟩ .f32) :: L) : Vec Ideal ⟨2, ![m, n]⟩ .f32) f := by
  rw [canon_whole]; exact hw
instance (inb) (w : Vec Ideal ⟨2, ![m, n]⟩ .bf16) [hw : Real2 w f] (L) :
    Real2 (View.canon ((⟨Rect.unit ![0, 0] ![m, n] inb, w⟩ : View.Piece (Elt Ideal) ⟨2, ![m, n]⟩ .bf16) :: L) : Vec Ideal ⟨2, ![m, n]⟩ .bf16) f := by
  rw [canon_whole]; exact hw

end

end Cert.Reals
-- ==== Proof.Rms.lean ====
module
public import proofs.«01_k».proof.Proof.Reals
@[expose] public section
namespace Cert.Reals
open Finset

/-!
  The root mean square norm of a row of 1024 reals and its gradient, in the form the kernels compute and in the form the
  chain rule gives.
-/

/-- The mean square, with the small number added. -/
noncomputable def ms (x : ℕ → ℝ) : ℝ := (∑ k ∈ range 1024, x k * x k) / 1024 + eps
theorem ms_pos (x : ℕ → ℝ) : 0 < ms x :=
  add_pos_of_nonneg_of_pos (div_nonneg (sum_nonneg fun k _ => mul_self_nonneg _) (by norm_num)) eps_pos
/-- One over its root. -/
noncomputable def rt (x : ℕ → ℝ) : ℝ := (√(ms x))⁻¹
theorem rt_sq (x : ℕ → ℝ) : rt x * rt x * ms x = 1 := by
  have h := Real.mul_self_sqrt (ms_pos x).le
  have h0 := (Real.sqrt_pos.mpr (ms_pos x)).ne'
  unfold rt
  rw [← mul_inv, h, inv_mul_cancel₀ (ms_pos x).ne']

/-- The gradient of the norm scaled by `g` at the row `x`, for the cotangent `dn`. -/
noncomputable def rmsGrad (x g dn : ℕ → ℝ) (c : ℕ) : ℝ :=
  rt x * (dn c * g c - x c * rt x * ((∑ k ∈ range 1024, dn k * g k * (x k * rt x)) / 1024))

/-- The same by the chain rule, the square counted once from each factor. -/
theorem rmsGrad_eq (x g dn : ℕ → ℝ) (c : ℕ) :
    dn c * g c * rt x + x c * ((∑ k ∈ range 1024, x k * (dn k * g k)) * (-1 / 2 * (rt x / ms x)) / 1024)
      + (∑ k ∈ range 1024, x k * (dn k * g k)) * (-1 / 2 * (rt x / ms x)) / 1024 * x c = rmsGrad x g dn c := by
  unfold rmsGrad
  have e : ∑ k ∈ range 1024, dn k * g k * (x k * rt x) = (∑ k ∈ range 1024, x k * (dn k * g k)) * rt x := by
    rw [sum_mul]; exact sum_congr rfl fun k _ => by ring
  have e3 : rt x / ms x = rt x * (rt x * rt x) := by
    rw [div_eq_iff (ms_pos x).ne', mul_assoc, rt_sq, mul_one]
  rw [e, e3]; ring

instance (f : ℕ → ℕ → ℝ) : Pos fun r _ => (∑ k ∈ range 1024, f r k * f r k) / 1024 + eps := ⟨fun r _ => ms_pos (f r)⟩

instance (f : ℕ → ℕ → ℝ) : Pos fun r _ => ms (f r) := ⟨fun r _ => ms_pos (f r)⟩
instance (f : ℕ → ℕ → ℝ) : Pos fun r _ => √(ms (f r)) := ⟨fun r _ => Real.sqrt_pos.mpr (ms_pos (f r))⟩

/-- A sum over `a` groups of `b` is the sum over all. -/
theorem sum_groups {M : Type*} [AddCommMonoid M] (f : ℕ → M) (a b : ℕ) : ∑ t ∈ range a, ∑ r ∈ range b, f (b * t + r) = ∑ q ∈ range (b * a), f q := by
  induction a with
  | zero => simp
  | succ a ih => rw [sum_range_succ, ih, Nat.mul_succ, sum_range_add]

/-- A sum over `a` tiles of rows, each in groups of eight, is the sum over all rows. -/
theorem sum_tiles {M : Type*} [AddCommMonoid M] (f : ℕ → M) (a b : ℕ) :
    ∑ t ∈ range a, ∑ r ∈ range 8, ∑ q ∈ range b, f (8 * b * t + (8 * q + r)) = ∑ q ∈ range (8 * b * a), f q := by
  rw [← sum_groups]
  refine sum_congr rfl fun t _ => ?_
  rw [sum_comm, ← sum_groups]

end Cert.Reals
-- ==== Proof.Fetched.lean ====
/- A weight fetched from a stack of pieces into scratch, one piece under the other: its real entries. -/
module
public import proofs.«01_k».proof.Proof.Reals
@[expose] public section
namespace Cert.Reals
open Idealize.ShloMosaic

/-- The stack `x` has the real entries `P`, by the piece, the row and the column. -/
class Real3 {k m n : ℕ} (x : (⟨3, ![k, m, n]⟩ : Shape).Idx → EReal) (P : outParam (ℕ → ℕ → ℕ → ℝ)) : Prop where
  entry : ∀ i, x i = (P (i 0).val (i 1).val (i 2).val : EReal)

/-- The matrix that has the rows from `r₀` on of the pieces, `a` of each, one piece under the other. -/
def under (a r₀ : ℕ) (P : ℕ → ℕ → ℕ → ℝ) (r c : ℕ) : ℝ := P (r / a) (r₀ + r % a) c

/-- What the fetch of a piece's rows puts at its place is the entry of the whole. -/
theorem piece {sig : RefSig} {κ : Kind} {sp : Space} {K R M N a k r₀ o : ℕ} (A : Memref sig κ sp ⟨3, ![K, R, N]⟩ .bf16) (f : A.view.ty.Contents (Elt Ideal))
    {P : ℕ → ℕ → ℕ → ℝ} (hP : Real3 (View.read (Elt Ideal) A.view f : Vec Ideal ⟨3, ![K, R, N]⟩ .bf16) P) (inb hs hq inb') (ho : o = a * k)
    (x : (⟨2, ![a, N]⟩ : Shape).Idx) :
    ReadAs.same.apply (View.read (Elt Ideal) ((A.slice (Rect.unit (s := ⟨3, ![K, R, N]⟩) ![k, r₀, 0] ![1, a, N] inb) hs).squeeze ⟨2, ![a, N]⟩ hq).view f) x
      = ((under a r₀ P ((Rect.unit (s := ⟨2, ![M, N]⟩) ![o, 0] ![a, N] inb').emb x 0).val ((Rect.unit (s := ⟨2, ![M, N]⟩) ![o, 0] ![a, N] inb').emb x 1).val : ℝ) : EReal) := by
  have h0 : (x 0).val < a := (x 0).isLt
  have h1 : (x 1).val < N := (x 1).isLt
  have hc : (⟨3, ![1, a, N]⟩ : Shape).ShapeCasts ⟨2, ![a, N]⟩ := hq.numel_eq
  refine (congrFun (Memref.read_squeeze_slice A (Rect.unit (s := ⟨3, ![K, R, N]⟩) ![k, r₀, 0] ![1, a, N] inb) hs hq hc f) x).trans ?_
  refine (shapeCast_apply _ hc x (ix3 ⟨0, Nat.one_pos⟩ (x 0) (x 1)) ?_).trans ?_
  · rw [Shape.rowMajor_val_two, Shape.rowMajor_val_three]
    show (0 * a + (x 0).val) * N + (x 1).val = (x 0).val * N + (x 1).val
    rw [Nat.zero_mul, Nat.zero_add]
  refine (hP.entry _).trans (congrArg _ ?_)
  show P (k + 1 * 0) (r₀ + 1 * (x 0).val) (0 + 1 * (x 1).val) = P ((o + 1 * (x 0).val) / a) (r₀ + (o + 1 * (x 0).val) % a) (0 + 1 * (x 1).val)
  rw [ho, Nat.one_mul (x 0).val, Nat.mul_add_div (by omega), Nat.mul_add_mod, Nat.div_eq_of_lt h0, Nat.mod_eq_of_lt h0]

/-- What a store of columns puts at its place is the entry of the whole. -/
theorem column {a b M N c₀ : ℕ} {v : Vec Ideal ⟨2, ![a, b]⟩ .bf16} {f W : ℕ → ℕ → ℝ} (hv : Real2 v f) (inb) (h : ∀ r q, q < b → f r q = W r (c₀ + q))
    (x : (⟨2, ![a, b]⟩ : Shape).Idx) :
    v x = ((W ((Rect.unit (s := ⟨2, ![M, N]⟩) ![0, c₀] ![a, b] inb).emb x 0).val ((Rect.unit (s := ⟨2, ![M, N]⟩) ![0, c₀] ![a, b] inb).emb x 1).val : ℝ) : EReal) := by
  refine (hv.entry x).trans (congrArg _ ((h _ _ (x 1).isLt).trans ?_))
  show W (x 0).val (c₀ + (x 1).val) = W (0 + 1 * (x 0).val) (c₀ + 1 * (x 1).val)
  rw [Nat.zero_add, Nat.one_mul, Nat.one_mul]

/-- Stores that cover and agree with `W` leave `W`. -/
theorem canon_real {M N : ℕ} {W : ℕ → ℕ → ℝ} (L : List (View.Piece (Elt Ideal) ⟨2, ![M, N]⟩ .bf16))
    (h : ∀ p ∈ L, ∀ x : p.1.shape.Idx, p.2 x = ((W (p.1.emb x 0).val (p.1.emb x 1).val : ℝ) : EReal)) (hc : ∀ y, ∃ p ∈ L, y ∈ p.1.set) :
    Real2 (View.canon L : Vec Ideal ⟨2, ![M, N]⟩ .bf16) W :=
  ⟨fun y => View.canon_apply_of_pieces (fun y => ((W (y 0).val (y 1).val : ℝ) : EReal)) L h y (hc y)⟩

end Cert.Reals
-- ==== Proof.InprojValue.lean ====
/- The values of the input projection's gradient kernel: what a point leaves, as reals. -/
module
public import proofs.«01_k».proof.Proof.InprojFrame
public import proofs.«01_k».proof.Proof.Rms
public import proofs.«01_k».proof.Proof.Fetched
@[expose] public section
namespace Cert.Kernel2Ideal.Gen
open Idealize.ShloMosaic Idealize.ShloMosaic.TcCoe Cert.Reals Finset

instance : Plain dot_S512x1024_S1024x1024_S512x1024_1_0_0_1_n_n := ⟨rfl⟩

/-- The cotangent of the normed row: the projection's cotangent through the weight, a thousand columns at a time. -/
noncomputable def dn (Z Y W : ℕ → ℕ → ℝ) (r c : ℕ) : ℝ :=
  ∑ q ∈ range 1024, Z r q * W q c + ∑ q ∈ range 1024, Z r (1024 + q) * W (1024 + q) c + ∑ q ∈ range 1024, Z r (2048 + q) * W (2048 + q) c
    + ∑ q ∈ range 1024, Y r q * W (3072 + q) c + ∑ q ∈ range 1024, Y r (1024 + q) * W (4096 + q) c

variable (c : Dev nD) (i : grid0.Coords) (s : Stage) (x : Tiles Ideal) {H G Z Y W : ℕ → ℕ → ℝ} [Real2 x.d H] [Real2 x.gain G] [Real2 x.dz Z] [Real2 x.dqkv Y]

section
variable (hc : ¬cond0_0 i) (g : Vec Ideal S8x1024 .f32) (wt : Vec Ideal S5120x1024 .bf16) {A : ℕ → ℕ → ℝ} [Real2 g A] [Real2 wt W]

theorem next_u : Real2 (View.canon (runNext c i hc s x g wt).2.1 : Vec Ideal S512x1024 .bf16) fun r c => H r c * rt (H r) * G 0 c := by
  dsimp only [runNext]
  simp only [k0_pay5, k0_pay4, k0_pay3, k0_pay2]
  refine Real2.of_eq inferInstance ?_
  intro r c _ _
  simp only [Nat.zero_add, rt, ms]

theorem next_gg : Real2 (View.canon (runNext c i hc s x g wt).2.2.1 : Vec Ideal S8x1024 .f32)
    fun r c => A r c + ∑ q ∈ range 64, dn Z Y W (8 * q + r) c * (H (8 * q + r) c * rt (H (8 * q + r))) := by
  dsimp only [runNext]
  simp only [k0_pay9, runNext.sl.r_2, k0_pay4, k0_pay3, runNext.sl.r_3, runNext.sl.r_4, k0_pay8, k0_pay6, k0_pay7]
  refine Real2.of_eq inferInstance ?_
  intro r c _ _
  simp only [dn, rt, ms, Nat.zero_add, zero_add]

set_option synthInstance.maxSize 1000 in
theorem next_dh (j) : (View.canon (runNext c i hc s x g wt).1 : Vec Ideal S512x1024 .f32) j
    = x.h j + (rmsGrad (H (j 0).val) (G 0) (dn Z Y W (j 0).val) (j 1).val : ℝ) := by
  dsimp only [runNext]
  rw [canon_whole]
  simp only [runNext.sl.r, runNext.sl.r_1, runNext.sl.r_5, k0_pay10, runNext.sl.r_2, k0_pay2, k0_pay4, k0_pay3, runNext.sl.r_3, runNext.sl.r_4, k0_pay8, k0_pay6, k0_pay7]
  refine congrArg₂ (· + ·) ?_ ((Real2.of_eq (g := fun r c => rmsGrad (H r) (G 0) (dn Z Y W r) c) inferInstance ?_).entry j)
  · exact congrFun (readAt_whole s.h0 _ x.h) j
  intro r c _ _
  simp only [rmsGrad, dn, rt, ms, Nat.zero_add, zero_add]
end

section
variable (hc : cond0_0 i) (fh : HbBuf0 (F := Ideal) c hbM0_0) {P : ℕ → ℕ → ℕ → ℝ} [hP : Real3 (fh : Vec Ideal S8x640x1024 .bf16) P]

/-- The eight fetches leave the weight, one device's rows under the other's. -/
instance first_wt : Real2 (View.canon (runFirst c i hc s x fh).2.2.2.1 : Vec Ideal S5120x1024 .bf16) (under 640 0 P) := by
  refine canon_real _ ?_ fun y => View.cover_of_tiledL _ ![640, 1024] (by sl_kernel_rfl) y
  dsimp only [runFirst]
  simp only [List.forall_mem_cons]
  refine ⟨?_, ?_, ?_, ?_, ?_, ?_, ?_, ?_, fun p hp => absurd hp List.not_mem_nil⟩
  all_goals exact piece (Memref.whole main_v2) fh hP _ _ _ _ rfl

theorem first_gg : Real2 (View.canon (runFirst c i hc s x fh).2.2.1 : Vec Ideal S8x1024 .f32)
    fun r c => ∑ q ∈ range 64, dn Z Y (under 640 0 P) (8 * q + r) c * (H (8 * q + r) c * rt (H (8 * q + r))) := by
  have hw := first_wt c i s x hc fh
  dsimp only [runFirst] at hw ⊢
  simp only [k0_pay9, runFirst.sl.r_2, k0_pay4, k0_pay3, runFirst.sl.r_3, runFirst.sl.r_4, k0_pay8, k0_pay6, k0_pay7, runFirst.sl.v33, runFirst.sl.v38, runFirst.sl.v43, runFirst.sl.v46, runFirst.sl.H7_1,
    k0_pay1, runFirst.sl.v23, runFirst.sl.v28]
  refine Real2.of_eq inferInstance ?_
  intro r c _ _
  simp only [dn, rt, ms, Nat.zero_add, zero_add]

theorem first_u : Real2 (View.canon (runFirst c i hc s x fh).2.1 : Vec Ideal S512x1024 .bf16) fun r c => H r c * rt (H r) * G 0 c := by
  dsimp only [runFirst]
  simp only [k0_pay5, k0_pay4, k0_pay3, k0_pay2]
  refine Real2.of_eq inferInstance ?_
  intro r c _ _
  simp only [Nat.zero_add, rt, ms]

set_option synthInstance.maxSize 1000 in
theorem first_dh (j) : (View.canon (runFirst c i hc s x fh).1 : Vec Ideal S512x1024 .f32) j
    = x.h j + (rmsGrad (H (j 0).val) (G 0) (dn Z Y (under 640 0 P) (j 0).val) (j 1).val : ℝ) := by
  have hw := first_wt c i s x hc fh
  dsimp only [runFirst] at hw ⊢
  rw [canon_whole]
  simp only [runFirst.sl.r, runFirst.sl.r_1, runFirst.sl.r_5, k0_pay10, runFirst.sl.r_2, k0_pay2, k0_pay4, k0_pay3, runFirst.sl.r_3, runFirst.sl.r_4, k0_pay8, k0_pay6, k0_pay7,
    runFirst.sl.v33, runFirst.sl.v38, runFirst.sl.v43, runFirst.sl.v46, runFirst.sl.v23, runFirst.sl.v28]
  refine congrArg₂ (· + ·) ?_ ((Real2.of_eq (g := fun r c => rmsGrad (H r) (G 0) (dn Z Y (under 640 0 P) r) c) inferInstance ?_).entry j)
  · exact congrFun (readAt_whole s.h0 _ x.h) j
  intro r c _ _
  simp only [rmsGrad, dn, rt, ms, Nat.zero_add, zero_add]
end

end Cert.Kernel2Ideal.Gen
-- ==== Proof.HostReals.lean ====
/- The real entries of what the host's rearrangements make of arrays with real entries. -/
module
public import proofs.«01_k».proof.Proof.Fetched
@[expose] public section
namespace Cert.Reals
open Idealize.ShloMosaic

variable {m n k M N : ℕ} {f : ℕ → ℕ → ℝ} {P : ℕ → ℕ → ℕ → ℝ} {φ ψ : FTy}

instance (x : (⟨2, ![m, n]⟩ : Shape).Idx → EReal) [hx : Real2 x f] (h) : Real2 (transpose (⟨2, ![n, m]⟩ : Shape) [1, 0] x h) fun r c => f c r :=
  ⟨fun i => (transpose_apply [1, 0] x h i (ix2 (i 1) (i 0)) fun b => by fin_cases b <;> rfl).trans (hx.entry _)⟩

instance {a b : ℕ} (x : (⟨2, ![m, n]⟩ : Shape).Idx → EReal) [hx : Real2 x f] (h) :
    Real2 (extractStridedSlice (⟨2, ![M, N]⟩ : Shape) ![a, b] x h) fun r c => f (a + r) (b + c) :=
  ⟨fun i => (congrArg x (eq_ix2 _)).trans (hx.entry _)⟩

/-- The rows cut into a stack. -/
instance (x : (⟨2, ![m, n]⟩ : Shape).Idx → EReal) [hx : Real2 x f] (h) : Real3 (shapeCast (⟨3, ![k, M, n]⟩ : Shape) x h) fun l r c => f (M * l + r) c :=
  ⟨fun i => by
    have e : m * n = k * M * n := by have := h; simp [Shape.ShapeCasts, Shape.numel, Fin.prod_univ_succ] at this; nlinarith
    have h0 : (i 0).val < k := (i 0).isLt
    have h1 : (i 1).val < M := (i 1).isLt
    have h2 : (i 2).val < n := (i 2).isLt
    have em : m = k * M := Nat.eq_of_mul_eq_mul_right (by omega) e
    have lt : M * (i 0).val + (i 1).val < m := by rw [em]; nlinarith
    refine (shapeCast_apply x h i (ix2 ⟨M * (i 0).val + (i 1).val, lt⟩ (i 2)) ?_).trans (hx.entry _)
    rw [Shape.rowMajor_val_two, Shape.rowMajor_val_three]
    show (M * (i 0).val + (i 1).val) * n + (i 2).val = ((i 0).val * M + (i 1).val) * n + (i 2).val
    rw [Nat.mul_comm M]⟩

instance (x : (⟨0, ![]⟩ : Shape).Idx → EReal) {a : ℝ} [hx : Real0 x a] (h) : Real1 (broadcastInDim (⟨1, ![n]⟩ : Shape) ![] h x) fun _ => a := ⟨fun _ => hx.entry _⟩
instance (x : (⟨0, ![]⟩ : Shape).Idx → EReal) {a : ℝ} [hx : Real0 x a] (h) : Real3 (broadcastInDim (⟨3, ![k, m, n]⟩ : Shape) ![] h x) fun _ _ _ => a := ⟨fun _ => hx.entry _⟩
instance (x : FVec Ideal ⟨3, ![k, m, n]⟩ φ) [hx : Real3 x P] (h) : Real3 (truncf ψ x h) P := ⟨hx.entry⟩

instance (x : FVec Ideal ⟨2, ![m, n]⟩ φ) [hx : Real2 x f] : Real2 (Host.exp x) fun r c => Real.exp (f r c) :=
  ⟨fun i => (congrArg Ideal.exp (hx.entry i)).trans (Ideal.exp_coe _)⟩
instance : Pos fun r c => 1 + Real.exp (f r c) := ⟨fun _ _ => by positivity⟩

/-- The rows, or the columns, cut into a stack in place. -/
instance (x : (⟨2, ![n, m]⟩ : Shape).Idx → EReal) [hx : Real2 x f] (h : ∀ i : (⟨3, ![k, M, n]⟩ : Shape).Idx, (i 0).val * M + (i 1).val < m) :
    Real3 (fun i : (⟨3, ![k, M, n]⟩ : Shape).Idx => x (ix2 (i 2) ⟨(i 0).val * M + (i 1).val, h i⟩)) fun l r c => f c (M * l + r) :=
  ⟨fun i => (hx.entry _).trans (by rw [Nat.mul_comm M]; rfl)⟩
instance (x : (⟨2, ![m, n]⟩ : Shape).Idx → EReal) [hx : Real2 x f] (h : ∀ i : (⟨3, ![k, M, n]⟩ : Shape).Idx, (i 0).val * M + (i 1).val < m) :
    Real3 (fun i : (⟨3, ![k, M, n]⟩ : Shape).Idx => x (ix2 ⟨(i 0).val * M + (i 1).val, h i⟩ (i 2))) fun l r c => f (M * l + r) c :=
  ⟨fun i => (hx.entry _).trans (by rw [Nat.mul_comm M]; rfl)⟩

/-- Three stacks, each piece of the second under that of the first, of the third under that of the second. -/
theorem stacked {a b e N : ℕ} {P Q R : ℕ → ℕ → ℕ → ℝ} {x : (⟨3, ![k, a, n]⟩ : Shape).Idx → EReal} {y : (⟨3, ![k, b, n]⟩ : Shape).Idx → EReal}
    {z : (⟨3, ![k, e, n]⟩ : Shape).Idx → EReal} (hx : Real3 x P) (hy : Real3 y Q) (hz : Real3 z R) (hN : N = a + b + e) (h) :
    Real3 (concatenate (⟨3, ![k, N, n]⟩ : Shape) 1 [⟨⟨3, ![k, a, n]⟩, x⟩, ⟨⟨3, ![k, b, n]⟩, y⟩, ⟨⟨3, ![k, e, n]⟩, z⟩] h)
      fun l r c => if r < a then P l r c else if r < a + b then Q l (r - a) c else R l (r - (a + b)) c := by
  refine ⟨fun i => ?_⟩
  have h1 : (i 1).val < N := (i 1).isLt
  by_cases ha : (i 1).val < a
  · rw [if_pos ha]
    refine (concatenate_apply_piece 1 _ h i 0 (by simp) _ x rfl rfl 0 (by simp) (ix3 (i 0) ⟨(i 1).val, ha⟩ (i 2)) (fun b hb => ?_) ?_).trans (hx.entry _)
    · fin_cases b <;> first | rfl | exact absurd rfl hb
    · exact Nat.zero_add _
  by_cases hb : (i 1).val < a + b
  · rw [if_neg ha, if_pos hb]
    refine (concatenate_apply_piece 1 _ h i 1 (by simp) _ y rfl rfl a (by simp) (ix3 (i 0) ⟨(i 1).val - a, by omega⟩ (i 2)) (fun b hb => ?_) ?_).trans (hy.entry _)
    · fin_cases b <;> first | rfl | exact absurd rfl hb
    · exact Nat.add_sub_cancel' (Nat.le_of_not_lt ha)
  · rw [if_neg ha, if_neg hb]
    refine (concatenate_apply_piece 1 _ h i 2 (by simp) _ z rfl rfl (a + b) (by simp) (ix3 (i 0) ⟨(i 1).val - (a + b), by omega⟩ (i 2)) (fun b hb => ?_) ?_).trans (hz.entry _)
    · fin_cases b <;> first | rfl | exact absurd rfl hb
    · exact Nat.add_sub_cancel' (Nat.le_of_not_lt hb)

instance {g : ℕ → ℕ → ℝ} (d : DotDims ⟨2, ![m, k]⟩ ⟨2, ![k, n]⟩ ⟨2, ![m, n]⟩) [hd : Plain d] (x : FVec Ideal ⟨2, ![m, k]⟩ .f32) (y : FVec Ideal ⟨2, ![k, n]⟩ .f32)
    [hx : Real2 x f] [hy : Real2 y g] : Real2 (Ideal.matmul d x y fun _ => 0) fun r c => ∑ q ∈ Finset.range k, f r q * g q c :=
  inferInstanceAs (Real2 (Host.dotGeneral (F := Ideal) d none x y) _)

/-- Zeros put before and after the columns. -/
instance {a b : ℕ} (x : (⟨2, ![m, n]⟩ : Shape).Idx → EReal) [hx : Real2 x f] (z : (⟨0, ![]⟩ : Shape).Idx → EReal) [hz : Real0 z 0] (h hu) :
    Real2 (pad (⟨2, ![m, N]⟩ : Shape) ![0, a] ![0, b] ![0, 0] x z h hu) fun r c => if a ≤ c ∧ c - a < n then f r (c - a) else 0 := by
  refine ⟨fun i => ?_⟩
  have h0 : (i 0).val < m := (i 0).isLt
  unfold pad
  by_cases hin : a ≤ (i 1).val ∧ (i 1).val - a < n
  · rw [dif_pos (Fin.forall_fin_two.mpr ⟨⟨Nat.zero_le _, Nat.mod_one _, by simpa using h0⟩, hin.1, Nat.mod_one _, by simpa using hin.2⟩), if_pos hin]
    refine (hx.entry _).trans ?_
    simp
  · rw [dif_neg fun e => hin ⟨(e 1).1, by simpa using (e 1).2.2⟩, if_neg hin]
    exact hz.entry _

/-- A vector laid out as the only row. -/
instance {g : ℕ → ℝ} (x : (⟨1, ![n]⟩ : Shape).Idx → EReal) [hx : Real1 x g] : Real2 (fun i : (⟨2, ![m, n]⟩ : Shape).Idx => x (ix1 (i 1))) fun _ c => g c :=
  ⟨fun _ => hx.entry _⟩

/-- A box of a matrix, read in place. -/
theorem box_real {X : (⟨2, ![m, n]⟩ : Shape).Idx → EReal} (hX : Real2 X f) (y : (⟨2, ![M, N]⟩ : Shape).Idx → EReal) (p q : ℕ)
    (e : (⟨2, ![M, N]⟩ : Shape).Idx → (⟨2, ![m, n]⟩ : Shape).Idx) (he : ∀ j, y j = X (e j)) (h0 : ∀ j, (e j 0).val = p + (j 0).val) (h1 : ∀ j, (e j 1).val = q + (j 1).val) :
    Real2 y fun r c => f (p + r) (q + c) :=
  ⟨fun j => by rw [he, hX.entry, h0, h1]⟩

/-- A block of whole rows of a matrix. -/
theorem rows_real {X : (⟨2, ![m, n]⟩ : Shape).Idx → EReal} (hX : Real2 X f) (y : (⟨2, ![M, n]⟩ : Shape).Idx → EReal) (p : ℕ)
    (e : (⟨2, ![M, n]⟩ : Shape).Idx → (⟨2, ![m, n]⟩ : Shape).Idx) (he : ∀ j, y j = X (e j)) (h0 : ∀ j, (e j 0).val = p + (j 0).val) (h1 : ∀ j, (e j 1).val = (j 1).val) :
    Real2 y fun r c => f (p + r) c :=
  ⟨fun j => by rw [he, hX.entry, h0, h1]⟩

end Cert.Reals
-- ==== Proof.Finite.lean ====
/- What a precondition says: the entries of an argument are real numbers. -/
module
public import proofs.«01_k».proof.Proof.Fetched
public import Idealize.ShloMosaic.Lib.ReduceAll
@[expose] public section
namespace Cert.Reals
open Idealize.ShloMosaic

/-- A number whose absolute value is below infinity is a real number. -/
theorem real_of_abs_lt (x : EReal) (h : Ideal.cmp .olt (max x (-x)) (Ideal.ofBits .f32 0x7F800000#32) = 1#1) : ∃ a : ℝ, x = (a : EReal) := by
  have hlt : max x (-x) < Ideal.ofBits .f32 0x7F800000#32 := by
    by_contra hn
    simp only [Ideal.cmp, decide_eq_false hn] at h
    exact absurd h (by decide)
  have htop : Ideal.ofBits .f32 0x7F800000#32 = ⊤ := by simp [Ideal.ofBits, Ideal.ieee]
  rw [htop, max_lt_iff] at hlt
  refine ⟨x.toReal, (EReal.coe_toReal hlt.1.ne fun hb => ?_).symm⟩
  rw [hb, EReal.neg_bot] at hlt
  exact absurd hlt.2 (lt_irrefl _)

/-- The test that all entries of an array are below infinity, passed. -/
theorem real_of_all {s : Shape} {axes} (x : FVec Ideal s .f32) (b h hu) (o : IVec ⟨0, ![]⟩ 1)
    (e : Host.reduce (t := ⟨0, ![]⟩) (axes := axes) IntOp.andi (cmpf .olt (Host.absf x) (broadcastInDim s ![] b (constant (F := Ideal) ⟨0, ![]⟩ .f32 0x7F800000#32))) o h hu (fun a => a.elim0) = 1#1) (i) :
    ∃ a : ℝ, x i = (a : EReal) := by
  have : Subsingleton (⟨0, ![]⟩ : Shape).Idx := ⟨fun a b => funext fun i => i.elim0⟩
  exact real_of_abs_lt _ (Host.reduce_andi_all _ _ _ _ _ e i)

/-- Two tests passed together. -/
theorem both {a b : IVec ⟨0, ![]⟩ 1} {i} (e : andi a b i = 1#1) : a i = 1#1 ∧ b i = 1#1 := IntOp.andi_eq_one.mp e

theorem Real1.exists {n : ℕ} {x : (⟨1, ![n]⟩ : Shape).Idx → EReal} (h : ∀ i, ∃ a : ℝ, x i = (a : EReal)) : ∃ f, Real1 x f := by
  choose a ha using h
  exact ⟨fun k => if hk : k < n then a (ix1 ⟨k, hk⟩) else 0, ⟨fun i => (ha i).trans (by
    rw [dif_pos (show (i 0).val < n from (i 0).isLt)]; exact congrArg _ (congrArg a (eq_ix1 i)))⟩⟩

theorem Real2.exists {m n : ℕ} {x : (⟨2, ![m, n]⟩ : Shape).Idx → EReal} (h : ∀ i, ∃ a : ℝ, x i = (a : EReal)) : ∃ f, Real2 x f := by
  choose a ha using h
  exact ⟨fun r k => if hk : r < m ∧ k < n then a (ix2 ⟨r, hk.1⟩ ⟨k, hk.2⟩) else 0, ⟨fun i => (ha i).trans (by
    rw [dif_pos (show (i 0).val < m ∧ (i 1).val < n from ⟨(i 0).isLt, (i 1).isLt⟩)]; exact congrArg _ (congrArg a (eq_ix2 i)))⟩⟩

theorem Real3.exists {l m n : ℕ} {x : (⟨3, ![l, m, n]⟩ : Shape).Idx → EReal} (h : ∀ i, ∃ a : ℝ, x i = (a : EReal)) : ∃ f, Real3 x f := by
  choose a ha using h
  exact ⟨fun q r k => if hk : q < l ∧ r < m ∧ k < n then a (ix3 ⟨q, hk.1⟩ ⟨r, hk.2.1⟩ ⟨k, hk.2.2⟩) else 0, ⟨fun i => (ha i).trans (by
    rw [dif_pos (show (i 0).val < l ∧ (i 1).val < m ∧ (i 2).val < n from ⟨(i 0).isLt, (i 1).isLt, (i 2).isLt⟩)]; exact congrArg _ (congrArg a (eq_ix3 i)))⟩⟩

/-- Arrays with the same real entries are the same. -/
theorem Real1.same {n : ℕ} {x y : (⟨1, ![n]⟩ : Shape).Idx → EReal} {f} (h : Real1 x f) (h' : Real1 y f) : x = y := funext fun i => (h.entry i).trans (h'.entry i).symm
theorem Real2.same {m n : ℕ} {x y : (⟨2, ![m, n]⟩ : Shape).Idx → EReal} {f} (h : Real2 x f) (h' : Real2 y f) : x = y := funext fun i => (h.entry i).trans (h'.entry i).symm

end Cert.Reals
-- ==== Proof.InprojFinal.lean ====
/- What the input projection's gradient kernel leaves at every point, as reals of the arguments. -/
module
public import proofs.«01_k».proof.Proof.InprojValue
public import proofs.«01_k».proof.Proof.HostReals
public import proofs.«01_k».proof.Proof.Finite
public import Idealize.ShloMosaic.Lib.Pipeline.ValueKit.Geometry
public import Idealize.ShloMosaic.Lib.StableHlo.ReadAt
@[expose] public section
namespace Cert.Kernel2Ideal.Gen
open Idealize.ShloMosaic Idealize.ShloMosaic.TcCoe Cert.Reals Finset
variable (m : (ℓ : Loc nD τ sig) → Buf (Elt Ideal) ℓ) (c : Dev nD) {H Z w : ℕ → ℕ → ℝ} {g : ℕ → ℝ}
 (h0 : Real2 (m ((c : Thread nD τ).loc main_arg0) : Vec Ideal S8192x1024 .f32) H)
 (h1 : Real1 (m ((c : Thread nD τ).loc main_arg1) : Vec Ideal S1024 .f32) g)
 (h2 : Real2 (m ((c : Thread nD τ).loc main_arg2) : Vec Ideal S1024x5120 .f32) w)
 (h4 : Real2 (m ((c : Thread nD τ).loc main_arg4) : Vec Ideal S8192x5120 .f32) Z)

theorem idx : ∀ t : Fin grid0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![t.val, 0] ∧ win0_7.index t = ![0, 0] := by decide +kernel

include h0 in
theorem tile1 (t : Fin cfg0.N) : Real2 (iblk m c 1 t : Vec Ideal S512x1024 .f32) fun r k => H (512 * t.val + r) k := by
  have h : Real2 (V m c main_arg0 : Vec Ideal S8192x1024 .f32) H := by
    unfold V V0
    after_reads_at
    exact h0
  exact rows_real h _ _ (win0_1.blk t).view.emb (fun _ => rfl) (fun j => by blk_simp [idx t] <;> dsimp <;> omega) fun j => by blk_simp [idx t] <;> dsimp <;> omega

include h1 in
theorem tile2 (t : Fin cfg0.N) : Real2 (iblk m c 2 t : Vec Ideal S1x1024 .f32) fun _ k => g k := by
  have h : Real2 (V m c main_v3 : Vec Ideal S1x1024 .f32) fun _ k => g k := by
    unfold V V0
    after_reads_at
    infer_instance
  exact rows_real h _ 0 (win0_2.blk t).view.emb (fun _ => rfl) (fun j => by blk_simp [idx t] <;> dsimp <;> omega) fun j => by blk_simp [idx t] <;> dsimp <;> omega

include h4 in
theorem tile3 (t : Fin cfg0.N) : Real2 (iblk m c 3 t : Vec Ideal S512x3072 .bf16) fun r k => Z (512 * t.val + r) k := by
  have h : Real2 (V m c main_v5 : Vec Ideal S8192x3072 .bf16) Z := by
    unfold V V0
    after_reads_at
    exact Real2.of_eq inferInstance fun r k _ _ => by simp only [Nat.zero_add]
  exact rows_real h _ _ (win0_3.blk t).view.emb (fun _ => rfl) (fun j => by blk_simp [idx t] <;> dsimp <;> omega) fun j => by blk_simp [idx t] <;> dsimp <;> omega

include h4 in
theorem tile4 (t : Fin cfg0.N) : Real2 (iblk m c 4 t : Vec Ideal S512x2048 .bf16) fun r k => Z (512 * t.val + r) (3072 + k) := by
  have h : Real2 (V m c main_v7 : Vec Ideal S8192x2048 .bf16) fun r k => Z r (3072 + k) := by
    unfold V V0
    after_reads_at
    exact Real2.of_eq inferInstance fun r k _ _ => by simp only [Nat.zero_add]
  exact rows_real h _ _ (win0_4.blk t).view.emb (fun _ => rfl) (fun j => by blk_simp [idx t] <;> dsimp <;> omega) fun j => by blk_simp [idx t] <;> dsimp <;> omega

include h2 in
theorem stack : Real3 (V m c main_v2 : Vec Ideal S8x640x1024 .bf16) fun l r k => w k (640 * l + r) := by
  unfold V V0
  after_reads_at
  refine ⟨fun i => (h2.entry _).trans ?_⟩
  show ((w (i 2).val ((i 0).val * 640 + (i 1).val) : ℝ) : EReal) = _
  rw [Nat.mul_comm]

/-- The projection's cotangent through the weight. -/
noncomputable def through (Z w : ℕ → ℕ → ℝ) (r k : ℕ) : ℝ := ∑ q ∈ range 5120, Z r q * w k q

theorem under_eq (k r : ℕ) : under 640 0 (fun l r k => w k (640 * l + r)) r k = w k r := by
  show w k _ = w k r
  congr 1; omega

theorem dn_eq (r k : ℕ) : dn Z (fun r q => Z r (3072 + q)) (under 640 0 fun l r k => w k (640 * l + r)) r k = through Z w r k := by
  simp only [dn, through, under_eq, ← Nat.add_assoc]
  rw [show (5120 : ℕ) = 1024 + 1024 + 1024 + 1024 + 1024 from rfl, sum_range_add, sum_range_add, sum_range_add, sum_range_add]

/-- What a point leaves, as reals. -/
structure LeftReal (l : Left Ideal) (d : Vec Ideal S512x1024 .f32) (H G Z Y W A : ℕ → ℕ → ℝ) : Prop where
  dh : ∀ j, l.dh j = d j + (rmsGrad (H (j 0).val) (G 0) (dn Z Y W (j 0).val) (j 1).val : ℝ)
  u : Real2 l.u fun r k => H r k * rt (H r) * G 0 k
  gg : Real2 l.gg A
  wt : Real2 l.wt W

/-- A tile's part of the gain's gradient. -/
noncomputable def ggPart (H Z Y W : ℕ → ℕ → ℝ) (r k : ℕ) : ℝ := ∑ q ∈ range 64, dn Z Y W (8 * q + r) k * (H (8 * q + r) k * rt (H (8 * q + r)))

section
variable (i : grid0.Coords) (s : Stage) (x : Tiles Ideal) {H G Z Y W : ℕ → ℕ → ℝ} [Real2 x.d H] [Real2 x.gain G] [Real2 x.dz Z] [Real2 x.dqkv Y]

theorem leftFirst_real (hc : cond0_0 i) (fh : HbBuf0 (F := Ideal) c hbM0_0) {P : ℕ → ℕ → ℕ → ℝ} [hP : Real3 (fh : Vec Ideal S8x640x1024 .bf16) P] :
    LeftReal (leftFirst c i hc s x fh) x.h H G Z Y (under 640 0 P) (ggPart H Z Y (under 640 0 P)) := by
  unfold leftFirst ggPart
  refine LeftReal.mk ?_ ?_ ?_ ?_
  · dsimp only; exact first_dh c i s x hc fh
  · dsimp only; exact first_u c i s x hc fh
  · dsimp only; exact first_gg c i s x hc fh
  · dsimp only; exact first_wt c i s x hc fh

theorem leftNext_real (hc : ¬cond0_0 i) (p : Left Ideal) {A : ℕ → ℕ → ℝ} [Real2 p.gg A] [h : Real2 p.wt W] :
    LeftReal (leftNext c i hc s x p) x.h H G Z Y W fun r k => A r k + ggPart H Z Y W r k := by
  unfold leftNext ggPart
  refine LeftReal.mk ?_ ?_ ?_ h
  · dsimp only; exact next_dh c i s x hc p.gg p.wt
  · dsimp only; exact next_u c i s x hc p.gg p.wt
  · dsimp only; exact next_gg c i s x hc p.gg p.wt
end

include h0 h1 h2 h4 in
/-- What point `n` leaves. -/
theorem leftAt_real : ∀ (n : ℕ) (hn : n < cfg0.N), LeftReal (leftAt m c n hn) (tilesAt m c ⟨n, hn⟩).h (fun r => H (512 * n + r)) (fun _ => g) (fun r => Z (512 * n + r))
    (fun r k => Z (512 * n + r) (3072 + k)) (under 640 0 fun l r k => w k (640 * l + r))
    (fun r k => ∑ t ∈ range (n + 1), ggPart (fun r => H (512 * t + r)) (fun r => Z (512 * t + r)) (fun r k => Z (512 * t + r) (3072 + k))
      (under 640 0 fun l r k => w k (640 * l + r)) r k) := by
  intro n
  induction n with
  | zero =>
    intro hn
    have k1 : Real2 (tilesAt m c ⟨0, hn⟩).d _ := tile1 m c h0 ⟨0, hn⟩
    have k2 : Real2 (tilesAt m c ⟨0, hn⟩).gain _ := tile2 m c h1 ⟨0, hn⟩
    have k3 : Real2 (tilesAt m c ⟨0, hn⟩).dz _ := tile3 m c h4 ⟨0, hn⟩
    have k4 : Real2 (tilesAt m c ⟨0, hn⟩).dqkv _ := tile4 m c h4 ⟨0, hn⟩
    have k5 := stack m c h2
    simp only [Nat.zero_add, sum_range_one]
    exact leftFirst_real c _ _ _ (first_at hn) (V m c main_v2)
  | succ n ih =>
    intro hn
    have k1 : Real2 (tilesAt m c ⟨n + 1, hn⟩).d _ := tile1 m c h0 ⟨n + 1, hn⟩
    have k2 : Real2 (tilesAt m c ⟨n + 1, hn⟩).gain _ := tile2 m c h1 ⟨n + 1, hn⟩
    have k3 : Real2 (tilesAt m c ⟨n + 1, hn⟩).dz _ := tile3 m c h4 ⟨n + 1, hn⟩
    have k4 : Real2 (tilesAt m c ⟨n + 1, hn⟩).dqkv _ := tile4 m c h4 ⟨n + 1, hn⟩
    have p := ih (Nat.lt_of_succ_lt hn)
    have p6 := p.gg
    have p7 := p.wt
    simp only [sum_range_succ _ (n + 1)]
    exact leftNext_real c _ _ _ (next_at n hn) (leftAt m c n (Nat.lt_of_succ_lt hn))

/-- A tile's rows of the cotangent are the whole's. -/
theorem dn_tile (t r : ℕ) : dn (fun r => Z (512 * t + r)) (fun r q => Z (512 * t + r) (3072 + q)) (under 640 0 fun l r k => w k (640 * l + r)) r = through Z w (512 * t + r) :=
  funext fun k => dn_eq (Z := fun r => Z (512 * t + r)) r k

include h0 h1 h2 h4 in
/-- The input's gradient. -/
theorem final5 (d : Vec Ideal S8192x1024 .f32) (h3 : m ((c : Thread nD τ).loc main_arg3) = d) : (dats m 0 c).arrAt 5 cfg0.N = fun i : S8192x1024.Idx =>
    d i + (rmsGrad (H (i 0).val) g (through Z w (i 0).val) (i 1).val : ℝ) := by
  refine (dats m 0 c).arrAt_eq_of_covers 5 _ (by decide +kernel) fun t hf y => ?_
  refine ((leftAt_real m c h0 h1 h2 h4 t.val t.isLt).dh y).trans ?_
  have e : (tilesAt m c t).h y = d ((win0_5.blk t).view.emb y) := by
    have h : V m c main_arg3 = d := by
      unfold V V0
      after_reads_at
      exact h3
    show V m c main_arg3 ((win0_0.blk t).view.emb y) = _
    rw [h]
    congr 1
  rw [dn_tile, e]
  blk_simp [idx t]
  simp only [Matrix.cons_val_zero, Matrix.cons_val_one, Nat.mul_comm 512]

include h0 h1 h2 h4 in
/-- The normed input. -/
theorem final6 : Real2 ((dats m 0 c).arrAt 6 cfg0.N : Vec Ideal S8192x1024 .bf16) fun r k => H r k * rt (H r) * g k := by
  refine ⟨fun i => (dats m 0 c).arrAt_forall_of_covers 6 (fun i v => v = ((H (i 0).val (i 1).val * rt (H (i 0).val) * g (i 1).val : ℝ) : EReal)) (by decide +kernel)
    (fun t hf y => ?_) i⟩
  refine ((leftAt_real m c h0 h1 h2 h4 t.val t.isLt).u.entry y).trans ?_
  blk_simp [idx t]
  simp only [Nat.mul_comm 512]

include h0 h1 h2 h4 in
/-- The gain's gradient in eight partials. -/
theorem final7 : Real2 ((dats m 0 c).arrAt 7 cfg0.N : Vec Ideal S8x1024 .f32) fun r k => ∑ t ∈ range 16, ∑ q ∈ range 64,
    through Z w (512 * t + (8 * q + r)) k * (H (512 * t + (8 * q + r)) k * rt (H (512 * t + (8 * q + r)))) := by
  refine ⟨fun i => (dats m 0 c).arrAt_forall_of_covers 7 (fun i v => v = ((∑ t ∈ range 16, ∑ q ∈ range 64, through Z w (512 * t + (8 * q + (i 0).val)) (i 1).val
    * (H (512 * t + (8 * q + (i 0).val)) (i 1).val * rt (H (512 * t + (8 * q + (i 0).val)))) : ℝ) : EReal)) (by decide +kernel) (fun t hf y => ?_) i⟩
  refine ((leftAt_real m c h0 h1 h2 h4 t.val t.isLt).gg.entry y).trans ?_
  have ht : t.val = 15 := by have := (flush0_7 t).mp hf; have := lt_of_lt_of_eq t.isLt N_0; omega
  simp only [ggPart, dn_tile, ht, Nat.reduceAdd]
  blk_simp [idx t]

include h0 h1 h2 h4 in
theorem tail : Real1 (Pipeline.afterTail₀ cfgs (dats m) 0 (V0 m) [hostOps1] c main_v9 : Vec Ideal S1024 .f32) fun k =>
    ∑ r ∈ range 8192, through Z w r k * (H r k * rt (H r)) := by
  unfold Pipeline.afterTail₀
  after_reads_at
  rw [Pipeline.withArrays_arr (cfgs 0).spec (by decide) c (V0 m c) (fun w => (dats m 0 c).arrAt w (cfgs 0).N) 7]
  have := final7 m c h0 h1 h2 h4
  refine Real1.of_eq inferInstance fun k _ => ?_
  rw [sum_comm]
  exact sum_tiles (fun r => through Z w r k * (H r k * rt (H r))) 16 64

variable (ρ : Dev nD → PrngReg)

/-- The run: the three results, the arguments unchanged. -/
theorem run : θ_run defs (onTc (τ := τ) (main (F := Ideal))) ⟨m, fun _ => 0, ρ⟩ fun r => ∀ c : Dev nD,
      r.2.mem ((c : Thread nD τ).loc main_v8_0) = (dats m 0 c).arrAt 5 cfg0.N
      ∧ r.2.mem ((c : Thread nD τ).loc main_v8_1) = (dats m 0 c).arrAt 6 cfg0.N
      ∧ r.2.mem ((c : Thread nD τ).loc main_v9) = Pipeline.afterTail₀ cfgs (dats m) 0 (V0 m) [hostOps1] c main_v9
      ∧ Same m r.2.mem c := by
  refine (θ_run defs _ _).mono (fun r h c => ?_) (θ_run_and (launch m ρ) (kept m ρ trivial))
  exact ⟨(h.1.1 c).1 5, (h.1.1 c).1 6, (h.1.1 c).2 main_v9 (Pipeline.mem_restRefs_of main_v9 (by decide) (by decide)), h.2.1 c⟩
instance preFacts : Cert.Pre_finite2.Facts := by constructor <;> decide

/-- What the precondition says of the arguments: real entries, but for the cotangent that is only added. -/
theorem real_args (h : Cert.Pre_Kernel2Ideal_finite2 m) :
    (∃ H, Real2 (m ((c : Thread nD τ).loc main_arg0) : Vec Ideal S8192x1024 .f32) H) ∧ (∃ g, Real1 (m ((c : Thread nD τ).loc main_arg1) : Vec Ideal S1024 .f32) g)
      ∧ (∃ w, Real2 (m ((c : Thread nD τ).loc main_arg2) : Vec Ideal S1024x5120 .f32) w) ∧ ∃ Z, Real2 (m ((c : Thread nD τ).loc main_arg4) : Vec Ideal S8192x5120 .f32) Z := by
  have e := congrFun (h c) (fun a => a.elim0)
  dsimp only [Cert.Pre_finite2.fn, Cert.Pre_finite2.fn_part1] at e
  obtain ⟨e, e4⟩ := both e
  obtain ⟨e, e2⟩ := both e
  obtain ⟨e0, e1⟩ := both e
  exact ⟨Real2.exists (real_of_all _ _ _ _ _ e0), Real1.exists (real_of_all _ _ _ _ _ e1), Real2.exists (real_of_all _ _ _ _ _ e2), Real2.exists (real_of_all _ _ _ _ _ e4)⟩

end Cert.Kernel2Ideal.Gen
-- ==== Proof.InprojRef.lean ====
/- The values of the input projection's reference, and that the kernel's are the same. -/
module
public import proofs.«01_k».proof.Proof.InprojFinal
public import proofs.«01_k».proof.Proof.Gen.Reference2Ideal.Run
public import proofs.«01_k».proof.Proof.Gen.Reference2Ideal.Read
@[expose] public section
namespace Cert.Reference2Ideal.Read
open Cert.Reference2Ideal Cert.Reference2Ideal.Gen Idealize.ShloMosaic Idealize.ShloMosaic.TcCoe Cert.Reals Finset
open Cert.Kernel2Ideal.Gen (through)

instance : Turned dot_S8192x5120_S1024x5120_S8192x1024_1_1_0_0_n_n := ⟨rfl⟩

variable (x0 x3 : FVec Ideal S8192x1024 .f32) (x1 : FVec Ideal S1024 .f32) (x2 : FVec Ideal S1024x5120 .f32) (x4 : FVec Ideal S8192x5120 .f32)
  {H Z w : ℕ → ℕ → ℝ} {g : ℕ → ℝ} [Real2 x0 H] [Real1 x1 g] [Real2 x2 w] [Real2 x4 Z]

instance v6 : Real2 (val_main_v6 (F := Ideal) x0) fun r _ => ms (H r) := by
  unfold val_main_v6 val_main_v4 val_main_v2 val_main_v1 val_main_v0 val_main_cst val_main_v3 val_main_cst_0 val_main_v5 val_main_cst_1
  exact inferInstance

instance v7 : Real2 (val_main_v7 (F := Ideal) x0) fun r _ => rt (H r) := by
  unfold val_main_v7
  exact inferInstance

instance v17 : Real2 (val_main_v17 (F := Ideal) x2 x4) (through Z w) := by
  unfold val_main_v17
  exact inferInstance

instance v22 : Real2 (val_main_v22 (F := Ideal) x1 x2 x4) fun r k => through Z w r k * g k := by
  unfold val_main_v22 val_main_v21 val_main_v13
  exact inferInstance

instance v34 : Real2 (val_main_v34 (F := Ideal) x0 x1 x2 x4) fun r _ => (∑ k ∈ range 1024, H r k * (through Z w r k * g k)) * (-1 / 2 * (rt (H r) / ms (H r))) / 1024 := by
  unfold val_main_v34 val_main_v33 val_main_v32 val_main_cst_7 val_main_v31 val_main_cst_6 val_main_v30 val_main_v26 val_main_v25 val_main_v24 val_main_cst_5
    val_main_v10 val_main_v9 val_main_cst_2 val_main_v8
  refine Real2.of_eq inferInstance fun r k _ _ => ?_
  simp only [sum_range_one]

theorem v38 (i) : val_main_v38 (F := Ideal) x0 x1 x2 x3 x4 i = x3 i + (rmsGrad (H (i 0).val) g (through Z w (i 0).val) (i 1).val : ℝ) := by
  unfold val_main_v38 val_main_v36 val_main_v29
  have a : Real2 (val_main_v28 (F := Ideal) x0 x1 x2 x4) fun r k => through Z w r k * g k * rt (H r) := by unfold val_main_v28 val_main_v27; exact inferInstance
  have b : Real2 (val_main_v35 (F := Ideal) x0 x1 x2 x4) fun r k => H r k * ((∑ k ∈ range 1024, H r k * (through Z w r k * g k)) * (-1 / 2 * (rt (H r) / ms (H r))) / 1024) := by unfold val_main_v35; exact inferInstance
  have e : Real2 (val_main_v37 (F := Ideal) x0 x1 x2 x4) fun r k => (∑ k ∈ range 1024, H r k * (through Z w r k * g k)) * (-1 / 2 * (rt (H r) / ms (H r))) / 1024 * H r k := by unfold val_main_v37; exact inferInstance
  rw [← rmsGrad_eq]
  show x3 i + _ + _ + _ = _
  rw [a.entry, b.entry, e.entry, add_assoc, add_assoc, ← EReal.coe_add, ← EReal.coe_add, add_assoc]

theorem v23 : Real1 (val_main_v23 (F := Ideal) x0 x2 x4) fun k => ∑ r ∈ range 8192, through Z w r k * (H r k * rt (H r)) := by
  unfold val_main_v23 val_main_v20 val_main_v19 val_main_v18 val_main_v12 val_main_v11 val_main_cst_4 val_main_cst_3
  refine Real1.of_eq inferInstance fun k _ => ?_
  simp only [sum_range_one]
  exact sum_congr rfl fun r _ => mul_comm _ _

theorem v52 : Real2 (val_main_v52 (F := Ideal) x0 x1) fun r k => H r k * rt (H r) * g k := by
  unfold val_main_v52 val_main_v51 val_main_v50 val_main_v49 val_main_v48 val_main_v47 val_main_v46 val_main_v45 val_main_v44 val_main_v43 val_main_v42 val_main_v41 val_main_v40 val_main_v39
    val_main_cst_8 val_main_cst_9 val_main_cst_10
  exact inferInstance

/-- The claim of the values. -/
theorem algebraic : Cert.algebraic_Kernel2Ideal_Reference2Ideal_pre_finite2 := by
  intro m g m' g' hpre hargs
  refine ⟨_, _, _, Cert.Kernel2Ideal.Gen.run m g, (θ_run _ _ _).mono (fun r h c => ?_) (Cert.Reference2Ideal.Value.run (F := Ideal) m' g')⟩
  obtain ⟨h0, h1, h2, h3⟩ := h c
  obtain ⟨a0, a1, a2, a3, a4⟩ := hargs c
  obtain ⟨⟨H, k0⟩, ⟨w, k1⟩, ⟨W, k2⟩, ⟨Z, k4⟩⟩ := Cert.Kernel2Ideal.Gen.real_args m c hpre
  refine ⟨h0.trans ((val_main_v38_eq _ _).trans ?_), h1.trans ((val_main_v52_eq _ _).trans ?_), h2.trans ((val_main_v23_eq _ _ _).trans ?_), h3⟩
  · rw [a0, a1, a2, a3, a4]
    exact (funext fun i => v38 _ _ _ _ _ i).trans (Cert.Kernel2Ideal.Gen.final5 m c k0 k1 k2 k4 _ rfl).symm
  · rw [a0, a1]
    exact (v52 _ _).same (Cert.Kernel2Ideal.Gen.final6 m c k0 k1 k2 k4)
  · rw [a0, a2, a4]
    exact (v23 _ _ _).same (Cert.Kernel2Ideal.Gen.tail m c k0 k1 k2 k4)

end Cert.Reference2Ideal.Read
-- ==== Proof.PleRun.lean ====
/- The body of the per-layer embedding's gradient kernel, run at the grid's first point (which fetches the weights) and at a later one. -/
module

public import proofs.«01_k».proof.Proof.Fetch
public import proofs.«01_k».proof.Proof.Gen.Kernel3Ideal.Frame.Runs

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fetch

variable {F : FTy → Type} [FloatOps F]

local notation "𝕄" => MT nD τ sig Unit (Elt F) ℕ (Pipeline.UD sig nD τ) ℕ

/-- The memrefs a point's body works on: six inputs, six outputs, the fetched weights. -/
structure Stage where
  a0 : Memref sig .tc .vmem S512x1024 .f32
  h0 : a0.IsWhole
  a1 : Memref sig .tc .vmem S512x1024 .f32
  h1 : a1.IsWhole
  a2 : Memref sig .tc .vmem S512x256 .f32
  h2 : a2.IsWhole
  a3 : Memref sig .tc .vmem S512x1024 .bf16
  h3 : a3.IsWhole
  a4 : Memref sig .tc .vmem S1x1024 .f32
  h4 : a4.IsWhole
  a5 : Memref sig .tc .vmem S1024x256 .bf16
  h5 : a5.IsWhole
  a6 : Memref sig .tc .vmem S512x1024 .f32
  h6 : a6.IsWhole
  a7 : Memref sig .tc .vmem S512x1024 .bf16
  h7 : a7.IsWhole
  a8 : Memref sig .tc .vmem S512x1024 .bf16
  h8 : a8.IsWhole
  a9 : Memref sig .tc .vmem S512x1024 .bf16
  h9 : a9.IsWhole
  a10 : Memref sig .tc .vmem S512x256 .bf16
  h10 : a10.IsWhole
  a11 : Memref sig .tc .vmem S8x1024 .f32
  h11 : a11.IsWhole
  w0 : Memref sig .tc .vmem S1024x1024 .bf16
  hw0 : w0.IsWhole

/-- The body on them. -/
abbrev Stage.body (s : Stage) (i : grid0.Coords) : Prog (TpuEff nD τ sig (Elt F) Λ₀ .tc) PUnit :=
  cc0_ple_bwd i s.a0 s.h0 s.a1 s.h1 s.a2 s.h2 s.a3 s.h3 s.a4 s.h4 s.a5 s.h5 (Memref.whole main_v28) (Memref.isWhole_whole _) s.a6 s.h6 s.a7 s.h7
    s.a8 s.h8 s.a9 s.h9 s.a10 s.h10 s.a11 s.h11 s.w0 s.hw0 cc0_scratch1

/-- The inputs' tiles. -/
structure Tiles (F : FTy → Type) where
  d : Vec F S512x1024 .f32
  h : Vec F S512x1024 .f32
  p : Vec F S512x256 .f32
  gate : Vec F S512x1024 .bf16
  gain : Vec F S1x1024 .f32
  wp : Vec F S1024x256 .bf16

/-- The weights in scratch. -/
structure Weights (F : FTy → Type) where
  wg : Vec F S1024x1024 .bf16

/-- What is summed from point to point. -/
structure Sums (F : FTy → Type) where
  gg : Vec F S8x1024 .f32

/-- The inputs held at their tiles. -/
def Stage.ins (s : Stage) (c : Dev nD) (x : Tiles F) : sProp 𝕄 :=
  iprop(owns (c : Thread nD τ) s.a0 fullShare x.d ∗ owns (c : Thread nD τ) s.a1 fullShare x.h ∗ owns (c : Thread nD τ) s.a2 fullShare x.p
    ∗ owns (c : Thread nD τ) s.a3 fullShare x.gate ∗ owns (c : Thread nD τ) s.a4 fullShare x.gain ∗ owns (c : Thread nD τ) s.a5 fullShare x.wp)

/-- The buffers every point overwrites, at any contents. -/
def Stage.any (s : Stage) (c : Dev nD) : sProp 𝕄 :=
  iprop((∃ d, owns (c : Thread nD τ) s.a6 fullShare d) ∗ (∃ d, owns (c : Thread nD τ) s.a7 fullShare d)
    ∗ (∃ d, owns (c : Thread nD τ) s.a8 fullShare d) ∗ (∃ d, owns (c : Thread nD τ) s.a9 fullShare d)
    ∗ (∃ d, owns (c : Thread nD τ) s.a10 fullShare d))

/-- The sums held. -/
def Stage.sums (s : Stage) (c : Dev nD) (g : Sums F) : sProp 𝕄 :=
  iprop(owns (c : Thread nD τ) s.a11 fullShare g.gg)

/-- The weights held in scratch. -/
def Stage.held (s : Stage) (c : Dev nD) (w : Weights F) : sProp 𝕄 :=
  iprop(owns (c : Thread nD τ) s.w0 fullShare w.wg)

/-- The stores of one point into the outputs. -/
structure Stores (F : FTy → Type) where
  dh : List (View.Piece (Elt F) S512x1024 .f32)
  dpre : List (View.Piece (Elt F) S512x1024 .bf16)
  de : List (View.Piece (Elt F) S512x1024 .bf16)
  n : List (View.Piece (Elt F) S512x1024 .bf16)
  pb : List (View.Piece (Elt F) S512x256 .bf16)
  gg : List (View.Piece (Elt F) S8x1024 .f32)

/-- The outputs with a point's stores written. -/
def Stage.outs (s : Stage) (c : Dev nD) (L : Stores F) : sProp 𝕄 :=
  iprop(stored (c : Thread nD τ) s.a6 L.dh ∗ stored (c : Thread nD τ) s.a7 L.dpre ∗ stored (c : Thread nD τ) s.a8 L.de
    ∗ stored (c : Thread nD τ) s.a9 L.n ∗ stored (c : Thread nD τ) s.a10 L.pb ∗ stored (c : Thread nD τ) s.a11 L.gg)

/-- The copies' stores into the weights. -/
structure Copies (F : FTy → Type) where
  wg : List (View.Piece (Elt F) S1024x1024 .bf16)

/-- The weights as the copies wrote them. -/
def Stage.fetched (s : Stage) (c : Dev nD) (L : Copies F) : sProp 𝕄 :=
  iprop(stored (c : Thread nD τ) s.w0 L.wg)

/-- The copies' counters at zero and the weights' pieces as the launch left them. -/
def parts (c : Dev nD) (fh : HbBuf0 (F := F) c hbM0_0) : sProp 𝕄 :=
  iprop(Pipeline.ownSems0 osem0 c ∗ hbPt0 c hbM0_0 fh)

set_option sl_exec.dmaWindow true in
set_option sl_exec.dmaWindowSet true in
set_option maxHeartbeats 4000000 in
/-- The first point: it fetches the weights and zeroes the sums, then works like the others. -/
noncomputable def runFirst (c : Dev nD) (i : grid0.Coords) (hc : cond0_0 i) (s : Stage) (x : Tiles F) (fh : HbBuf0 (F := F) c hbM0_0) :
    Σ' (L : Stores F), { LW : Copies F //
      ∀ (W : Waits sig Unit) (K : PUnit → sProp 𝕄),
        iprop(s.ins c x ∗ s.any c ∗ (∃ g, s.sums c g) ∗ (∃ w, s.held c w) ∗ parts c fh ∗ owes (c : Thread nD τ) 0 W
          ∗ (iprop(s.ins c x ∗ s.outs c L ∗ s.fetched c LW ∗ parts c fh ∗ (∃ W', owes (c : Thread nD τ) 0 W')) -∗ K ⟨⟩))
          ⊢ wp frame (wpE (defs₀ (F := F)) Variants.none c none) Set.univ (s.body i) K } := by
  refine ⟨⟨?_, ?_, ?_, ?_, ?_, ?_⟩, ⟨?_⟩, fun W K => ?run⟩
  case run =>
    unfold Stage.body Stage.ins Stage.any Stage.sums Stage.outs Stage.held Stage.fetched parts
    rw [ownSems00_eq, owns_unread _ s.h0, owns_unread _ s.h1, owns_unread _ s.h2, owns_unread _ s.h3, owns_unread _ s.h4, owns_unread _ s.h5]
    simp only [cc0_ple_bwd_eq_skeleton]; unfold cc0_ple_bwd_skel
    simp only [k0_part1_eq_skeleton, k0_part2_eq_skeleton, k0_part3_eq_skeleton, k0_part4_eq_skeleton]
    unfold owns
    iintro ⟨⟨H0, H1, H2, H3, H4, H5⟩, ⟨⟨%d6, %f6, -, H6⟩, ⟨%d7, %f7, -, H7⟩, ⟨%d8, %f8, -, H8⟩, ⟨%d9, %f9, -, H9⟩, ⟨%d10, %f10, -, H10⟩⟩, ⟨%g, %f11, -, H11⟩,
      ⟨%w, %g0, -, S0⟩, ⟨⟨Q0, Q1, Q2, Q3, Q4, Q5, Q6, Q7⟩, Hh⟩, HW, Hk⟩
    sl_exec (disch := first | sl_exact hc)
    sl_step
    iapply Hk
    unfold stored
    iframe H0 H1 H2 H3 H4 H5 Q0 Q1 Q2 Q3 Q4 Q5 Q6 Q7 Hh
    isplitl [H6 H7 H8 H9 H10 H11]
    · isplitl [H6]; · iexists _; iexact H6
      isplitl [H7]; · iexists _; iexact H7
      isplitl [H8]; · iexists _; iexact H8
      isplitl [H9]; · iexists _; iexact H9
      isplitl [H10]; · iexists _; iexact H10
      iexists _; iexact H11
    isplitl [S0]; · iexists _; iexact S0
    iexists _; iexact HW

set_option maxHeartbeats 4000000 in
/-- A later point: it reads the weights from scratch and adds to the sums. -/
noncomputable def runNext (c : Dev nD) (i : grid0.Coords) (hc : ¬cond0_0 i) (s : Stage) (x : Tiles F) (g : Sums F) (w : Weights F) :
    { L : Stores F //
      ∀ (W : Waits sig Unit) (K : PUnit → sProp 𝕄),
        iprop(s.ins c x ∗ s.any c ∗ s.sums c g ∗ s.held c w ∗ owes (c : Thread nD τ) 0 W
          ∗ (iprop(s.ins c x ∗ s.outs c L ∗ s.held c w ∗ (∃ W', owes (c : Thread nD τ) 0 W')) -∗ K ⟨⟩))
          ⊢ wp frame (wpE (defs₀ (F := F)) Variants.none c none) Set.univ (s.body i) K } := by
  refine ⟨⟨?_, ?_, ?_, ?_, ?_, ?_⟩, fun W K => ?run⟩
  case run =>
    unfold Stage.body Stage.ins Stage.any Stage.sums Stage.outs Stage.held
    rw [owns_unread _ s.h0, owns_unread _ s.h1, owns_unread _ s.h2, owns_unread _ s.h3, owns_unread _ s.h4, owns_unread _ s.h5,
      owns_unread _ s.h11, owns_unread _ s.hw0]
    simp only [cc0_ple_bwd_eq_skeleton]; unfold cc0_ple_bwd_skel
    simp only [k0_part1_eq_skeleton, k0_part2_eq_skeleton, k0_part3_eq_skeleton, k0_part4_eq_skeleton]
    unfold owns
    iintro ⟨⟨H0, H1, H2, H3, H4, H5⟩, ⟨⟨%d6, %f6, -, H6⟩, ⟨%d7, %f7, -, H7⟩, ⟨%d8, %f8, -, H8⟩, ⟨%d9, %f9, -, H9⟩, ⟨%d10, %f10, -, H10⟩⟩, H11, S0, HW, Hk⟩
    sl_exec (disch := first | sl_exact hc)
    sl_step
    iapply Hk
    unfold stored
    iframe H0 H1 H2 H3 H4 H5 S0
    isplitl [H6 H7 H8 H9 H10 H11]
    · isplitl [H6]; · iexists _; iexact H6
      isplitl [H7]; · iexists _; iexact H7
      isplitl [H8]; · iexists _; iexact H8
      isplitl [H9]; · iexists _; iexact H9
      isplitl [H10]; · iexists _; iexact H10
      iexists _; iexact H11
    iexists _; iexact HW

end Cert.Kernel3Ideal.Gen

end
-- ==== Proof.PleFrame.lean ====
/- The per-layer embedding's gradient kernel, point by point, and its frame. -/
module

public import proofs.«01_k».proof.Proof.PleRun
public import proofs.«01_k».proof.Defs
public import proofs.«01_k».proof.Proof.Gen.Kernel3
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Fetch

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The memrefs of point `t`. -/
abbrev stageAt (t : Fin cfg0.N) : Stage :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    ms0_8 t, hs0_8 t, ms0_9 t, hs0_9 t, ms0_10 t, hs0_10 t, ms0_11 t, hs0_11 t, scM0_0, Memref.isWhole_whole _⟩

/-- The tiles of point `t`. -/
abbrev tilesAt (c : Dev nD) (t : Fin cfg0.N) : Tiles F :=
  ⟨iblk m c 0 t, iblk m c 1 t, iblk m c 2 t, iblk m c 3 t, iblk m c 4 t, iblk m c 5 t⟩

/-- What a point leaves: its rows of the outputs, the sums so far, the weights. -/
structure Left (F : FTy → Type) where
  dh : Vec F S512x1024 .f32
  dpre : Vec F S512x1024 .bf16
  de : Vec F S512x1024 .bf16
  n : Vec F S512x1024 .bf16
  pb : Vec F S512x256 .bf16
  sums : Sums F
  wt : Weights F

/-- What stores leave. -/
def Stores.left (L : Stores F) (w : Weights F) : Left F :=
  ⟨View.canon L.dh, View.canon L.dpre, View.canon L.de, View.canon L.n, View.canon L.pb, ⟨View.canon L.gg⟩, w⟩

/-- What a first point leaves. -/
def leftFirst (c : Dev nD) (i : grid0.Coords) (hc : cond0_0 i) (s : Stage) (x : Tiles F) (fh : HbBuf0 (F := F) c hbM0_0) : Left F :=
  (runFirst c i hc s x fh).1.left ⟨View.canon (runFirst c i hc s x fh).2.1.wg⟩

/-- What a later point leaves. -/
def leftNext (c : Dev nD) (i : grid0.Coords) (hc : ¬cond0_0 i) (s : Stage) (x : Tiles F) (p : Left F) : Left F :=
  (runNext c i hc s x p.sums p.wt).1.left p.wt

theorem first_at (hn : 0 < cfg0.N) : cond0_0 (grid0.coords ⟨0, hn⟩) := (hcond0_0 ⟨0, hn⟩).mpr rfl
theorem next_at (n : ℕ) (hn : n + 1 < cfg0.N) : ¬cond0_0 (grid0.coords ⟨n + 1, hn⟩) := fun h => by
  have hN : n + 1 < 16 := lt_of_lt_of_eq hn N_0
  have := (hcond0_0 ⟨n + 1, hn⟩).mp h
  dsimp only at this; omega

/-- What point `n` leaves. -/
def leftAt (c : Dev nD) : (n : ℕ) → n < cfg0.N → Left F
  | 0, hn => leftFirst c _ (first_at hn) (stageAt ⟨0, hn⟩) (tilesAt m c ⟨0, hn⟩) (V m c main_v28)
  | n + 1, hn => leftNext c _ (next_at n hn) (stageAt ⟨n + 1, hn⟩) (tilesAt m c ⟨n + 1, hn⟩) (leftAt c n (Nat.lt_of_succ_lt hn))

/-- The outputs at what a point leaves. -/
def Stage.full (s : Stage) (c : Dev nD) (L : Left F) : sProp 𝕄 :=
  iprop(owns (c : Thread nD τ) s.a6 fullShare L.dh ∗ owns (c : Thread nD τ) s.a7 fullShare L.dpre ∗ owns (c : Thread nD τ) s.a8 fullShare L.de
    ∗ owns (c : Thread nD τ) s.a9 fullShare L.n ∗ owns (c : Thread nD τ) s.a10 fullShare L.pb ∗ s.sums c L.sums)

/-- Between points: the register, the counters, the weights' pieces. -/
def quiet (c : Dev nD) : sProp 𝕄 := iprop((∃ r, prngReg c r) ∗ parts c (V m c main_v28))

theorem phi_eq (c : Dev nD) : (Pipeline.ΦD osem0 spec0 H0 (V m) c : sProp 𝕄) = iprop((∃ d, owns (c : Thread nD τ) scM0_0 fullShare d) ∗ quiet m c) := by
  unfold quiet parts
  rw [Pipeline.ΦD_eq, scopedRest0_eq, hbmPts0_eq]; simp only [scM0_0, owns_whole]; rfl

/-- Before point `n`: the weights as the point before left them. -/
def inv (c : Dev nD) : (n : ℕ) → n ≤ cfg0.N → sProp 𝕄
  | 0, _ => Pipeline.ΦD osem0 spec0 H0 (V m) c
  | n + 1, hn => iprop((stageAt ⟨n, hn⟩).held c (leftAt m c n hn).wt ∗ quiet m c)

/-- The arrays and the tiles, point by point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (leftAt m c t.val t.isLt).dh
    | ⟨7, _⟩ => (leftAt m c t.val t.isLt).dpre
    | ⟨8, _⟩ => (leftAt m c t.val t.isLt).de
    | ⟨9, _⟩ => (leftAt m c t.val t.isLt).n
    | ⟨10, _⟩ => (leftAt m c t.val t.isLt).pb
    | ⟨11, _⟩ => (leftAt m c t.val t.isLt).sums.gg
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

/-- An input's buffer holds its tile. -/
theorem before_eq (c : Dev nD) (t : Fin cfg0.N) (d0 d1 d2 d3 d4 d5) :
    (dats m 0 c).before 0 t d0 = iblk m c 0 t ∧ (dats m 0 c).before 1 t d1 = iblk m c 1 t ∧ (dats m 0 c).before 2 t d2 = iblk m c 2 t
      ∧ (dats m 0 c).before 3 t d3 = iblk m c 3 t ∧ (dats m 0 c).before 4 t d4 = iblk m c 4 t ∧ (dats m 0 c).before 5 t d5 = iblk m c 5 t :=
  ⟨before0_0_of m (dats m 0 c) (A_eq m c 0) (fun t => by dsimp only [dats]) t d0,
    before0_1_of m (dats m 0 c) (A_eq m c 1) (fun t => by dsimp only [dats]) t d1,
    before0_2_of m (dats m 0 c) (A_eq m c 2) (fun t => by dsimp only [dats]) t d2,
    before0_3_of m (dats m 0 c) (A_eq m c 3) (fun t => by dsimp only [dats]) t d3,
    before0_4_of m (dats m 0 c) (A_eq m c 4) (fun t => by dsimp only [dats]) t d4,
    before0_5_of m (dats m 0 c) (A_eq m c 5) (fun t => by dsimp only [dats]) t d5⟩

/-- The sums stay in their buffers from point to point. -/
theorem before_sums (c : Dev nD) (n : ℕ) (hn : n + 1 < cfg0.N) :
    (∀ d, (dats m 0 c).before 11 ⟨n + 1, hn⟩ d = (leftAt m c n (Nat.lt_of_succ_lt hn)).sums.gg) := by
  have hN : n + 1 < 16 := lt_of_lt_of_eq hn N_0
  intro d
  exact (Dat.before_out_kept _ 11 rfl ⟨n + 1, hn⟩ (by dsimp only; omega)
      (Bool.eq_false_iff.mpr fun h => by have := (flush0_11 _).mp h; dsimp only at this; omega) (fun _ => rfl) (fun _ _ => rfl) d).trans (by dsimp only [dats]; rfl)

set_option maxHeartbeats 4000000 in
/-- The body at a point takes the tiles and what the point before left to what this one leaves. -/
theorem sound (c : Dev nD) (t : Fin cfg0.N) (W : Waits sig Unit) (K : PUnit → sProp 𝕄) :
    iprop(inv m c t.val (Nat.le_of_lt t.isLt) ∗ owes (c : Thread nD τ) 0 W ∗ (stageAt t).ins c (tilesAt m c t) ∗ (stageAt t).any c
      ∗ (∃ d, owns (c : Thread nD τ) (ms0_11 t) fullShare ((dats m 0 c).before 11 t d))
      ∗ (iprop(inv m c (t.val + 1) t.isLt ∗ (∃ W', owes (c : Thread nD τ) 0 W') ∗ (stageAt t).ins c (tilesAt m c t)
        ∗ (stageAt t).full c (leftAt m c t.val t.isLt)) -∗ K ⟨⟩))
      ⊢ wp frame (wpE (defs₀ (F := F)) Variants.none c none) Set.univ (bodyAt0 t) K := by
  obtain ⟨n, hn⟩ := t
  cases n with
  | zero =>
    dsimp only [inv]
    rw [phi_eq]
    unfold quiet
    iintro ⟨⟨⟨%d0, S0⟩, Hg, Hp⟩, HW, HI, HA, ⟨%d11, H11⟩, Hk⟩
    iapply ((runFirst c (grid0.coords ⟨0, hn⟩) (first_at hn) (stageAt ⟨0, hn⟩) (tilesAt m c ⟨0, hn⟩) (V m c main_v28)).2.2 W _)
    iframe HI HA Hp HW
    isplitl [H11]
    · iexists ⟨(dats m 0 c).before 11 ⟨0, hn⟩ d11⟩; unfold Stage.sums; iframe H11
    isplitl [S0]
    · iexists ⟨d0⟩; unfold Stage.held; iframe S0
    unfold Stage.outs Stage.fetched
    iintro ⟨HI, ⟨H6, H7, H8, H9, H10, H11⟩, S0, Hp, HW⟩
    iapply Hk
    unfold Stage.held Stage.full Stage.sums
    iframe HI Hg Hp HW
    isplitl [S0]; · iapply (stored_owns _ _ _ fun y => View.cover_of_tiledL _ ![128, 1024] (by sl_kernel_rfl) y); iexact S0
    isplitl [H6]; · iapply (stored_owns _ _ _ fun y => View.cover_of_tiledL _ S512x1024.size (by sl_kernel_rfl) y); iexact H6
    isplitl [H7]; · iapply (stored_owns _ _ _ fun y => View.cover_of_tiledL _ S512x1024.size (by sl_kernel_rfl) y); iexact H7
    isplitl [H8]; · iapply (stored_owns _ _ _ fun y => View.cover_of_tiledL _ S512x1024.size (by sl_kernel_rfl) y); iexact H8
    isplitl [H9]; · iapply (stored_owns _ _ _ fun y => View.cover_of_tiledL _ S512x1024.size (by sl_kernel_rfl) y); iexact H9
    isplitl [H10]; · iapply (stored_owns _ _ _ fun y => View.cover_of_tiledL _ S512x256.size (by sl_kernel_rfl) y); iexact H10
    iapply (stored_owns _ _ _ fun y => View.cover_of_tiledL _ S8x1024.size (by sl_kernel_rfl) y); iexact H11
  | succ n =>
    dsimp only [inv]
    simp only [before_sums m c n hn]
    iintro ⟨⟨HS, Hq⟩, HW, HI, HA, ⟨%d11, H11⟩, Hk⟩
    iapply ((runNext c (grid0.coords ⟨n + 1, hn⟩) (next_at n hn) (stageAt ⟨n + 1, hn⟩) (tilesAt m c ⟨n + 1, hn⟩) (leftAt m c n (Nat.lt_of_succ_lt hn)).sums
      (leftAt m c n (Nat.lt_of_succ_lt hn)).wt).2 W _)
    isplitl [HI]; · iexact HI
    isplitl [HA]; · iexact HA
    isplitl [H11]; · unfold Stage.sums; iframe H11
    isplitl [HS]; · iexact HS
    isplitl [HW]; · iexact HW
    unfold Stage.outs
    iintro ⟨HI, ⟨H6, H7, H8, H9, H10, H11⟩, HS, HW⟩
    iapply Hk
    isplitl [HS Hq]
    · isplitl [HS]; · iexact HS
      iexact Hq
    isplitl [HW]; · iexact HW
    isplitl [HI]; · iexact HI
    unfold Stage.full Stage.sums
    isplitl [H6]; · iapply (stored_owns _ _ _ fun y => View.cover_of_tiledL _ S512x1024.size (by sl_kernel_rfl) y); iexact H6
    isplitl [H7]; · iapply (stored_owns _ _ _ fun y => View.cover_of_tiledL _ S512x1024.size (by sl_kernel_rfl) y); iexact H7
    isplitl [H8]; · iapply (stored_owns _ _ _ fun y => View.cover_of_tiledL _ S512x1024.size (by sl_kernel_rfl) y); iexact H8
    isplitl [H9]; · iapply (stored_owns _ _ _ fun y => View.cover_of_tiledL _ S512x1024.size (by sl_kernel_rfl) y); iexact H9
    isplitl [H10]; · iapply (stored_owns _ _ _ fun y => View.cover_of_tiledL _ S512x256.size (by sl_kernel_rfl) y); iexact H10
    iapply (stored_owns _ _ _ fun y => View.cover_of_tiledL _ S8x1024.size (by sl_kernel_rfl) y); iexact H11

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  rw [show (dats m 0 c).Φ t.castSucc = inv m c t.val (Nat.le_of_lt t.isLt) by dsimp only [dats]; exact Pipeline.Dat.Φ_castSucc (inv m c) t,
    show (dats m 0 c).Φ t.succ = inv m c (t.val + 1) t.isLt from rfl]
  unfold Dat.owesAt Pipeline.owesWithin
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩,
    H11⟩
  iapply (sound m c t W _)
  obtain ⟨e0, e1, e2, e3, e4, e5⟩ := before_eq m c t d0 d1 d2 d3 d4 d5
  rw [e0, e1, e2, e3, e4, e5]
  unfold Stage.ins Stage.any Stage.full Stage.sums
  iframe HΦ HW H0 H1 H2 H3 H4 H5 H11
  isplitl [H6 H7 H8 H9 H10]
  · isplitl [H6]; · iexists _; iexact H6
    isplitl [H7]; · iexists _; iexact H7
    isplitl [H8]; · iexists _; iexact H8
    isplitl [H9]; · iexists _; iexact H9
    iexists _; iexact H10
  iintro ⟨HΦ, ⟨%W', HW⟩, ⟨H0, H1, H2, H3, H4, H5⟩, H6, H7, H8, H9, H10, H11⟩
  iframe HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- After the last point the scratch is any scratch again. -/
theorem inv_last (c : Dev nD) : (dats m 0 c).Φ (Fin.last cfg0.N) ⊢ Pipeline.ΦD osem0 spec0 H0 (V m) c := by
  rw [phi_eq, show (dats m 0 c).Φ (Fin.last cfg0.N) = inv m c 16 (le_of_eq N_0.symm) from rfl]
  dsimp only [inv]
  unfold Stage.held
  iintro ⟨S0, Hq⟩
  iframe Hq
  iexists _; iexact S0

set_option backward.isDefEq.respectTransparency.types false in
/-- The launch: it ends with the arrays at what the points leave and every counter at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (obligation m c).loose) (hshare := fun c => (dats m 0 c).share_full fun _ => rfl) (howed := fun _ _ => rfl)
    (V₀ := V0 m) (opss := [hostOps1]) (hsub := sfx_but) (hfresh := sfx_fresh) (hkeep := sfx_keeps) (hmain := hmain m Variants.none) (hA := A_eq m)
    (hin := fun c => .rfl) (hout := inv_last m)

/-- The arguments of device `c` are those of `m`. -/
abbrev Same (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)

/-- The frame as the launch states it, at any floats: the arguments end as they were, and every counter at zero. -/
def Kept (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      Same m r.2.mem c)
      ∧ r.2.sem = fun _ => 0)

theorem kept : Kept F := fun m ρ _ =>
  θ_run_and (frame_of m ρ (dats m) (A_eq m) ((θ_run defs _ _).mono (fun _ h => h.1) (launch m ρ))) ((θ_run defs _ _).mono (fun _ h => h.2) (launch m ρ))

/-- The two programs are the same text. -/
theorem same : Kept Bits = Cert.quiescent_Kernel3 (hKernel3 := Cert.Kernel3.Gen.facts) := by sl_kernel_rfl

theorem kernel_frame : Cert.quiescent_Kernel3 (hKernel3 := Cert.Kernel3.Gen.facts) := same.mp kept

end Cert.Kernel3Ideal.Gen

end
-- ==== Proof.Embed.lean ====
/- The gradients of the gated embedding of a layer, on its own and behind the final norm and the loss, as functions of reals. -/
module
public import proofs.«01_k».proof.Proof.Rms
public import proofs.«01_k».proof.Proof.Fetched
@[expose] public section
namespace Cert.Embed
open Idealize.ShloMosaic Cert.Reals Finset

instance : Lit 0x3A800000#32 (1 / 1024) := ⟨by simp [Ideal.ofBits, Ideal.ieee, ← EReal.coe_mul]; norm_num⟩
instance : Lit 0x3A000000#32 (1 / 2048) := ⟨by simp [Ideal.ofBits, Ideal.ieee, ← EReal.coe_mul]; norm_num⟩

/-- The logistic function. -/
noncomputable def sg (x : ℝ) : ℝ := (1 + Real.exp (-x))⁻¹

/-- Rows of the cotangent, of the layer's input, of the embedding's input and of the gate. -/
structure Rows where
  d : ℕ → ℕ → ℝ
  h : ℕ → ℕ → ℝ
  p : ℕ → ℕ → ℝ
  gate : ℕ → ℕ → ℝ

/-- The norm's gain and the two weights. -/
structure Fixed where
  gain : ℕ → ℝ
  wp : ℕ → ℕ → ℝ
  wg : ℕ → ℕ → ℝ

/-- The rows from `n` on. -/
def Rows.from (X : Rows) (n : ℕ) : Rows := ⟨fun r => X.d (n + r), fun r => X.h (n + r), fun r => X.p (n + r), fun r => X.gate (n + r)⟩

section
variable (X : Rows) (Y : Fixed) (r k : ℕ)
/-- The projected embedding and the normed rows. -/
noncomputable def emb : ℝ := ∑ j ∈ range 256, X.p r j * Y.wp j k
noncomputable def nrm : ℝ := X.h r k * rt (X.h r) * Y.gain k
/-- The cotangents of the projected embedding, of the gate's input, of the normed rows and of the input. -/
noncomputable def de : ℝ := X.d r k * X.gate r k
noncomputable def dpre : ℝ := X.d r k * emb X Y r k * X.gate r k * (1 - X.gate r k)
noncomputable def dn : ℝ := ∑ j ∈ range 1024, dpre X Y r j * Y.wg k j
noncomputable def dh : ℝ := X.d r k + rmsGrad (X.h r) Y.gain (dn X Y r) k
/-- The rows whose sum is the gain's gradient. -/
noncomputable def gg : ℝ := dn X Y r k * (X.h r k * rt (X.h r))
end

/-- Rows in front of the loss: the layer's input, the embedding's input and the target. -/
structure Last where
  h : ℕ → ℕ → ℝ
  p : ℕ → ℕ → ℝ
  t : ℕ → ℕ → ℝ

/-- The rows from `n` on. -/
def Last.from (X : Last) (n : ℕ) : Last := ⟨fun r => X.h (n + r), fun r => X.p (n + r), fun r => X.t (n + r)⟩

section
variable (X : Last) (Y : Fixed) (G : ℕ → ℝ) (r k : ℕ)
/-- The rows without a cotangent and without a gate. -/
def Last.plain : Rows := ⟨X.t, X.h, X.p, X.t⟩
/-- The gate, the layer's output, the final norm of it and the error. -/
noncomputable def gate : ℝ := sg (∑ j ∈ range 1024, nrm X.plain Y r j * Y.wg j k)
noncomputable def out : ℝ := X.h r k + gate X Y r k * emb X.plain Y r k
noncomputable def fin : ℝ := out X Y r k * rt (out X Y r)
noncomputable def err : ℝ := fin X Y r k * G k - X.t r k
/-- The rows whose sums are the loss and the gradient of the final norm's gain. -/
noncomputable def sqr : ℝ := err X Y G r k * err X Y G r k
noncomputable def gf : ℝ := err X Y G r k * (1 / 1024) * fin X Y r k
/-- The rows with the cotangent that the loss gives. -/
noncomputable def Last.rows : Rows := ⟨fun r => rmsGrad (out X Y r) G fun k => err X Y G r k * (1 / 1024), X.h, X.p, gate X Y⟩
end

/-- A tile's rows added in eights. -/
noncomputable def eights (f : ℕ → ℕ → ℝ) (r k : ℕ) : ℝ := ∑ q ∈ range 64, f (8 * q + r) k

/-- The first `n` tiles' rows added in eights. -/
noncomputable def sumTo (f : ℕ → ℕ → ℝ) (n r k : ℕ) : ℝ := ∑ t ∈ range n, eights (fun r => f (512 * t + r)) r k

theorem sumTo_succ (f : ℕ → ℕ → ℝ) (n : ℕ) : (fun r k => sumTo f n r k + eights (fun r => f (512 * n + r)) r k) = sumTo f (n + 1) := by
  funext r k
  exact (sum_range_succ _ n).symm

/-- All rows' sum from the eights. -/
theorem sum_all (f : ℕ → ℕ → ℝ) (k : ℕ) : ∑ r ∈ range 8, sumTo f 16 r k = ∑ r ∈ range 8192, f r k := by
  simp only [sumTo, eights]
  rw [sum_comm]
  exact sum_tiles (fun r => f r k) 16 64

/-- The pieces that the gate's weight lies in, zeros before and after it. -/
def pieces (wg : ℕ → ℕ → ℝ) (l r k : ℕ) : ℝ := if r < 256 then 0 else if r < 256 + 128 then wg (128 * l + (r - 256)) k else 0

theorem under_pieces {wg : ℕ → ℕ → ℝ} : under 128 256 (pieces wg) = wg := by
  funext q k
  have : q % 128 < 128 := Nat.mod_lt _ (by omega)
  simp only [under, pieces, if_neg (show ¬256 + q % 128 < 256 by omega), if_pos (show 256 + q % 128 < 256 + 128 by omega), Nat.add_sub_cancel_left, Nat.div_add_mod]

/-- The rows of the arguments, the gate computed. -/
noncomputable def rowsOf (H P D : ℕ → ℕ → ℝ) (Y : Fixed) : Rows := ⟨D, H, P, gate ⟨H, P, D⟩ Y⟩
section
variable (H P : ℕ → ℕ → ℝ) (gain : ℕ → ℝ) (wp wg : ℕ → ℕ → ℝ) (r k : ℕ)
/-- The normed rows, the gate, the projected embedding and the layer's output, each of what it needs. -/
noncomputable def nrmOf : ℝ := H r k * rt (H r) * gain k
noncomputable def gateOf : ℝ := sg (∑ j ∈ range 1024, nrmOf H gain r j * wg j k)
noncomputable def embOf : ℝ := ∑ j ∈ range 256, P r j * wp j k
noncomputable def outOf : ℝ := H r k + gateOf H gain wg r k * embOf P wp r k
end
end Cert.Embed
-- ==== Proof.PleValue.lean ====
/- The values of the gated embedding's gradient kernel: what a point leaves, as reals. -/
module
public import proofs.«01_k».proof.Proof.PleFrame
public import proofs.«01_k».proof.Proof.Fetched
public import proofs.«01_k».proof.Proof.Embed
@[expose] public section
namespace Cert.Kernel3Ideal.Gen
open Idealize.ShloMosaic Idealize.ShloMosaic.TcCoe Cert.Reals Finset Cert.Embed

instance : Turned dot_S512x1024_S1024x1024_S512x1024_1_1_0_0_n_n := ⟨rfl⟩
instance : Turned dot_S512x256_S1024x256_S512x1024_1_1_0_0_n_n := ⟨rfl⟩

/-- The stores of a point leave the gradients of its rows; the gain's gradient goes on from `A`. -/
structure PointReal (L : Stores Ideal) (X : Rows) (Y : Fixed) (A : ℕ → ℕ → ℝ) : Prop where
  left : Real2 (View.canon L.dh : Vec Ideal S512x1024 .f32) (dh X Y)
  pre : Real2 (View.canon L.dpre : Vec Ideal S512x1024 .bf16) (dpre X Y)
  e : Real2 (View.canon L.de : Vec Ideal S512x1024 .bf16) (de X)
  n : Real2 (View.canon L.n : Vec Ideal S512x1024 .bf16) (nrm X Y)
  pb : Real2 (View.canon L.pb : Vec Ideal S512x256 .bf16) X.p
  gg : Real2 (View.canon L.gg : Vec Ideal S8x1024 .f32) fun r k => A r k + eights (gg X Y) r k

/-- The tiles hold the rows, the gain and the embedding's weight. -/
structure TilesReal (x : Tiles Ideal) (X : Rows) (Y : Fixed) : Prop where
  d : Real2 x.d X.d
  h : Real2 x.h X.h
  p : Real2 x.p X.p
  gate : Real2 x.gate X.gate
  gain : Real2 x.gain fun _ k => Y.gain k
  wp : Real2 x.wp fun k j => Y.wp j k

variable (c : Dev nD) (i : grid0.Coords) (s : Stage) (x : Tiles Ideal) {X : Rows} {Y : Fixed} (hx : TilesReal x X Y)

section
variable (hc : ¬cond0_0 i) (p : Sums Ideal) (wt : Weights Ideal) {A : ℕ → ℕ → ℝ} [Real2 p.gg A] [Real2 wt.wg Y.wg]
include hx

set_option synthInstance.maxSize 10000 in
set_option synthInstance.maxHeartbeats 400000 in
theorem next_real : PointReal (runNext c i hc s x p wt).1 X Y A := by
  obtain ⟨_, _, _, _, _, _⟩ := hx
  dsimp only [runNext]
  simp only [k0_pay1, k0_pay2, k0_pay3, k0_pay4, k0_pay5, k0_pay6, k0_pay7, k0_pay8, k0_pay9, k0_pay10, k0_pay11, k0_pay12, k0_pay13, runNext.sl.r,
    runNext.sl.r_1, runNext.sl.r_2, runNext.sl.r_3, runNext.sl.r_4, runNext.sl.r_5, runNext.sl.r_6, runNext.sl.v0, runNext.sl.v1, runNext.sl.v2]
  refine PointReal.mk ?_ ?_ ?_ ?_ ?_ ?_ <;> dsimp only
  · refine Real2.of_eq inferInstance fun r k _ _ => ?_
    simp only [dh, rmsGrad, dn, dpre, emb, rt, ms, zero_add]
  · refine Real2.of_eq inferInstance fun r k _ _ => ?_
    simp only [dpre, emb, zero_add]
  · refine Real2.of_eq inferInstance fun r k _ _ => ?_
    simp only [de, zero_add]
  · refine Real2.of_eq inferInstance fun r k _ _ => ?_
    simp only [nrm, rt, ms, zero_add]
  · refine Real2.of_eq inferInstance fun r k _ _ => ?_
    simp only [zero_add]
  · refine Real2.of_eq inferInstance fun r k _ _ => ?_
    simp only [eights, gg, dn, dpre, emb, rt, ms, zero_add]
end

section
variable (hc : cond0_0 i) (fh : HbBuf0 (F := Ideal) c hbM0_0) {P : ℕ → ℕ → ℕ → ℝ} [hP : Real3 (fh : Vec Ideal S8x448x1024 .bf16) P]

/-- The fetch leaves the gate's weight, one device's rows under the other's. -/
theorem first_weights : Real2 (View.canon (runFirst c i hc s x fh).2.1.wg : Vec Ideal S1024x1024 .bf16) (under 128 256 P) := by
  refine canon_real _ ?_ fun y => View.cover_of_tiledL _ ![128, 1024] (by sl_kernel_rfl) y
  dsimp only [runFirst]
  simp only [List.forall_mem_cons]
  refine ⟨?_, ?_, ?_, ?_, ?_, ?_, ?_, ?_, fun p hp => absurd hp List.not_mem_nil⟩
  all_goals exact piece (Memref.whole main_v28) fh hP _ _ _ _ rfl

include hx
set_option synthInstance.maxSize 10000 in
set_option synthInstance.maxHeartbeats 400000 in
theorem first_real (e : under 128 256 P = Y.wg) : PointReal (runFirst c i hc s x fh).1 X Y fun _ _ => 0 := by
  have hw := first_weights c i s x hc fh (P := P)
  rw [e] at hw
  obtain ⟨_, _, _, _, _, _⟩ := hx
  dsimp only [runFirst] at hw ⊢
  simp only [k0_pay1, k0_pay2, k0_pay3, k0_pay4, k0_pay5, k0_pay6, k0_pay7, k0_pay8, k0_pay9, k0_pay10, k0_pay11, k0_pay12, k0_pay13,
    runFirst.sl.H11_1, runFirst.sl.r, runFirst.sl.r_1, runFirst.sl.r_2, runFirst.sl.r_3, runFirst.sl.r_4, runFirst.sl.r_5, runFirst.sl.r_6,
    runFirst.sl.v0, runFirst.sl.v1, runFirst.sl.v2, runFirst.sl.v40, runFirst.sl.v42]
  refine PointReal.mk ?_ ?_ ?_ ?_ ?_ ?_ <;> dsimp only
  · refine Real2.of_eq inferInstance fun r k _ _ => ?_
    simp only [dh, rmsGrad, dn, dpre, emb, rt, ms, zero_add]
  · refine Real2.of_eq inferInstance fun r k _ _ => ?_
    simp only [dpre, emb, zero_add]
  · refine Real2.of_eq inferInstance fun r k _ _ => ?_
    simp only [de, zero_add]
  · refine Real2.of_eq inferInstance fun r k _ _ => ?_
    simp only [nrm, rt, ms, zero_add]
  · refine Real2.of_eq inferInstance fun r k _ _ => ?_
    simp only [zero_add]
  · refine Real2.of_eq inferInstance fun r k _ _ => ?_
    simp only [eights, gg, dn, dpre, emb, rt, ms, zero_add]
end
end Cert.Kernel3Ideal.Gen
-- ==== Proof.PleFinal.lean ====
/- What the gated embedding's gradient kernel leaves, as reals of the arguments. -/
module
public import proofs.«01_k».proof.Proof.PleValue
public import proofs.«01_k».proof.Proof.HostReals
public import proofs.«01_k».proof.Proof.Finite
public import Idealize.ShloMosaic.Lib.Pipeline.ValueKit.Geometry
public import Idealize.ShloMosaic.Lib.StableHlo.ReadAt
@[expose] public section
namespace Cert.Kernel3Ideal.Gen
open Idealize.ShloMosaic Idealize.ShloMosaic.TcCoe Cert.Reals Finset Cert.Embed

instance : Plain dot_S8192x1024_S1024x1024_S8192x1024_1_0_0_1_n_n := ⟨rfl⟩

/-- What a point leaves, as reals. -/
structure LeftReal (l : Left Ideal) (X : Rows) (Y : Fixed) (A : ℕ → ℕ → ℝ) : Prop where
  dh : Real2 l.dh (dh X Y)
  pre : Real2 l.dpre (dpre X Y)
  e : Real2 l.de (de X)
  n : Real2 l.n (nrm X Y)
  pb : Real2 l.pb X.p
  gg : Real2 l.sums.gg fun r k => A r k + eights (gg X Y) r k
  wg : Real2 l.wt.wg Y.wg

theorem PointReal.left' {L : Stores Ideal} {w : Weights Ideal} {X : Rows} {Y : Fixed} {A : ℕ → ℕ → ℝ} (h : PointReal L X Y A) (hw : Real2 w.wg Y.wg) :
    LeftReal (L.left w) X Y A := ⟨h.left, h.pre, h.e, h.n, h.pb, h.gg, hw⟩

section
variable (c : Dev nD) (i : grid0.Coords) (s : Stage) (x : Tiles Ideal) {X : Rows} {Y : Fixed} (hx : TilesReal x X Y) {A : ℕ → ℕ → ℝ}
include hx

theorem leftFirst_real (hc : cond0_0 i) (fh : HbBuf0 (F := Ideal) c hbM0_0) {P : ℕ → ℕ → ℕ → ℝ} [hP : Real3 (fh : Vec Ideal S8x448x1024 .bf16) P]
    (e : under 128 256 P = Y.wg) : LeftReal (leftFirst c i hc s x fh) X Y fun _ _ => 0 := by
  have hw := first_weights c i s x hc fh (P := P)
  have p := first_real c i s x hx hc fh (P := P) e
  rw [e] at hw
  unfold leftFirst
  generalize runFirst c i hc s x fh = R at p hw ⊢
  exact p.left' hw

theorem leftNext_real (hc : ¬cond0_0 i) (p : Left Ideal) (hp : Real2 p.sums.gg A) (hw : Real2 p.wt.wg Y.wg) : LeftReal (leftNext c i hc s x p) X Y A := by
  unfold leftNext
  exact (next_real c i s x hx hc p.sums p.wt).left' hw
end

variable (m : (ℓ : Loc nD τ sig) → Buf (Elt Ideal) ℓ) (c : Dev nD)

/-- The arguments have real entries. -/
structure ArgsReal (H P D : ℕ → ℕ → ℝ) (Y : Fixed) : Prop where
  h : Real2 (m ((c : Thread nD τ).loc main_arg0) : Vec Ideal S8192x1024 .f32) H
  p : Real2 (m ((c : Thread nD τ).loc main_arg1) : Vec Ideal S8192x256 .f32) P
  gain : Real1 (m ((c : Thread nD τ).loc main_arg2) : Vec Ideal S1024 .f32) Y.gain
  wg : Real2 (m ((c : Thread nD τ).loc main_arg3) : Vec Ideal S1024x1024 .f32) Y.wg
  wp : Real2 (m ((c : Thread nD τ).loc main_arg4) : Vec Ideal S256x1024 .f32) Y.wp
  d : Real2 (m ((c : Thread nD τ).loc main_arg5) : Vec Ideal S8192x1024 .f32) D

variable {H P D : ℕ → ℕ → ℝ} {Y : Fixed} (h : ArgsReal m c H P D Y)

theorem idx : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] ∧ win0_11.index t = ![0, 0] := by decide +kernel

include h

theorem tile0 (t : Fin cfg0.N) : Real2 (iblk m c 0 t : Vec Ideal S512x1024 .f32) fun r k => D (512 * t.val + r) k := by
  have h' : Real2 (V m c main_arg5 : Vec Ideal S8192x1024 .f32) D := by
    unfold V V0
    after_reads_at
    exact h.d
  exact rows_real h' _ _ (win0_0.blk t).view.emb (fun _ => rfl) (fun j => by blk_simp [idx t] <;> dsimp <;> omega) fun j => by blk_simp [idx t] <;> dsimp <;> omega

theorem tile1 (t : Fin cfg0.N) : Real2 (iblk m c 1 t : Vec Ideal S512x1024 .f32) fun r k => H (512 * t.val + r) k := by
  have h' : Real2 (V m c main_arg0 : Vec Ideal S8192x1024 .f32) H := by
    unfold V V0
    after_reads_at
    exact h.h
  exact rows_real h' _ _ (win0_1.blk t).view.emb (fun _ => rfl) (fun j => by blk_simp [idx t] <;> dsimp <;> omega) fun j => by blk_simp [idx t] <;> dsimp <;> omega

theorem tile2 (t : Fin cfg0.N) : Real2 (iblk m c 2 t : Vec Ideal S512x256 .f32) fun r k => P (512 * t.val + r) k := by
  have h' : Real2 (V m c main_arg1 : Vec Ideal S8192x256 .f32) P := by
    unfold V V0
    after_reads_at
    exact h.p
  exact rows_real h' _ _ (win0_2.blk t).view.emb (fun _ => rfl) (fun j => by blk_simp [idx t] <;> dsimp <;> omega) fun j => by blk_simp [idx t] <;> dsimp <;> omega

set_option synthInstance.maxSize 10000 in
set_option synthInstance.maxHeartbeats 400000 in
theorem tile3 (t : Fin cfg0.N) : Real2 (iblk m c 3 t : Vec Ideal S512x1024 .bf16) fun r k => gate ⟨H, P, D⟩ Y (512 * t.val + r) k := by
  have h' : Real2 (V m c main_v24 : Vec Ideal S8192x1024 .bf16) (gate ⟨H, P, D⟩ Y) := by
    unfold V V0
    after_reads_at
    obtain ⟨_, _, _, _, _, _⟩ := h
    exact Real2.of_eq inferInstance fun r k _ _ => by simp only [gate, sg, nrm, Last.plain, rt, ms, one_div]
  exact rows_real h' _ _ (win0_3.blk t).view.emb (fun _ => rfl) (fun j => by blk_simp [idx t] <;> dsimp <;> omega) fun j => by blk_simp [idx t] <;> dsimp <;> omega

theorem tile4 (t : Fin cfg0.N) : Real2 (iblk m c 4 t : Vec Ideal S1x1024 .f32) fun _ k => Y.gain k := by
  have h' : Real2 (V m c main_v25 : Vec Ideal S1x1024 .f32) fun _ k => Y.gain k := by
    unfold V V0
    after_reads_at
    have := h.gain
    infer_instance
  exact rows_real h' _ 0 (win0_4.blk t).view.emb (fun _ => rfl) (fun j => by blk_simp [idx t] <;> dsimp <;> omega) fun j => by blk_simp [idx t] <;> dsimp <;> omega

theorem tile5 (t : Fin cfg0.N) : Real2 (iblk m c 5 t : Vec Ideal S1024x256 .bf16) fun k j => Y.wp j k := by
  have h' : Real2 (V m c main_v27 : Vec Ideal S1024x256 .bf16) fun k j => Y.wp j k := by
    unfold V V0
    after_reads_at
    have := h.wp
    infer_instance
  have q := rows_real h' _ 0 (win0_5.blk t).view.emb (fun _ => rfl) (fun j => by blk_simp [idx t] <;> dsimp <;> omega) fun j => by blk_simp [idx t] <;> dsimp <;> omega
  simp only [Nat.zero_add] at q
  exact q

theorem tilesAt_real (t : Fin cfg0.N) : TilesReal (tilesAt m c t) ((rowsOf H P D Y).from (512 * t.val)) Y := by
  refine TilesReal.mk ?_ ?_ ?_ ?_ ?_ ?_ <;> dsimp only [Rows.from]
  · exact tile0 m c h t
  · exact tile1 m c h t
  · exact tile2 m c h t
  · exact tile3 m c h t
  · exact tile4 m c h t
  · exact tile5 m c h t

theorem stack : Real3 (V m c main_v28 : Vec Ideal S8x448x1024 .bf16) (pieces Y.wg) := by
  unfold V V0
  after_reads_at
  have := h.wg
  have a : Real3 (StableHlo.upto [hostOps0].flatten (fun b => m (c, b)) 5 (Proc.tc.devRef main_v0) : Vec Ideal S8x256x1024 .f32) fun _ _ _ => 0 := by
    after_reads_at
    infer_instance
  have b : Real3 (StableHlo.upto [hostOps0].flatten (fun b => m (c, b)) 5 (Proc.tc.devRef main_v1) : Vec Ideal S8x128x1024 .f32) fun l r k => Y.wg (128 * l + r) k := by
    after_reads_at
    infer_instance
  have e : Real3 (StableHlo.upto [hostOps0].flatten (fun b => m (c, b)) 5 (Proc.tc.devRef main_v2) : Vec Ideal S8x64x1024 .f32) fun _ _ _ => 0 := by
    after_reads_at
    infer_instance
  refine ⟨fun i => (stacked a b e (N := 448) rfl ?_).entry i⟩
  dsimp only [List.map]
  decide

set_option maxHeartbeats 1000000 in
/-- What point `n` leaves. -/
theorem leftAt_real : ∀ (n : ℕ) (hn : n < cfg0.N), LeftReal (leftAt m c n hn) ((rowsOf H P D Y).from (512 * n)) Y (sumTo (gg (rowsOf H P D Y) Y) n) := by
  intro n
  induction n with
  | zero =>
    intro hn
    have k := stack m c h
    exact leftFirst_real c _ (stageAt ⟨0, hn⟩) (tilesAt m c ⟨0, hn⟩) (tilesAt_real m c h ⟨0, hn⟩) (first_at hn) (V m c main_v28) under_pieces
  | succ n ih =>
    intro hn
    obtain ⟨_, _, _, _, _, p, q⟩ := ih (Nat.lt_of_succ_lt hn)
    have p' := (sumTo_succ (gg (rowsOf H P D Y) Y) n) ▸ p
    exact leftNext_real c _ (stageAt ⟨n + 1, hn⟩) (tilesAt m c ⟨n + 1, hn⟩) (tilesAt_real m c h ⟨n + 1, hn⟩) (next_at n hn) (leftAt m c n (Nat.lt_of_succ_lt hn)) p' q

/-- The gradient of the input. -/
theorem final6 : Real2 ((dats m 0 c).arrAt 6 cfg0.N : Vec Ideal S8192x1024 .f32) (dh (rowsOf H P D Y) Y) := by
  refine ⟨fun i => (dats m 0 c).arrAt_forall_of_covers 6 (fun i v => v = (((dh (rowsOf H P D Y) Y) (i 0).val (i 1).val : ℝ) : EReal)) (by decide +kernel) (fun t hf y => ?_) i⟩
  refine ((leftAt_real m c h t.val t.isLt).dh.entry y).trans ?_
  show (((dh (rowsOf H P D Y) Y) (512 * t.val + (y 0).val) (y 1).val : ℝ) : EReal) = _
  blk_simp [idx t]
  simp only [Nat.mul_comm 512]

/-- The cotangent of the gate's input. -/
theorem final7 : Real2 ((dats m 0 c).arrAt 7 cfg0.N : Vec Ideal S8192x1024 .bf16) (dpre (rowsOf H P D Y) Y) := by
  refine ⟨fun i => (dats m 0 c).arrAt_forall_of_covers 7 (fun i v => v = (((dpre (rowsOf H P D Y) Y) (i 0).val (i 1).val : ℝ) : EReal)) (by decide +kernel) (fun t hf y => ?_) i⟩
  refine ((leftAt_real m c h t.val t.isLt).pre.entry y).trans ?_
  show (((dpre (rowsOf H P D Y) Y) (512 * t.val + (y 0).val) (y 1).val : ℝ) : EReal) = _
  blk_simp [idx t]
  simp only [Nat.mul_comm 512]

/-- The cotangent of the projected embedding. -/
theorem final8 : Real2 ((dats m 0 c).arrAt 8 cfg0.N : Vec Ideal S8192x1024 .bf16) (de (rowsOf H P D Y)) := by
  refine ⟨fun i => (dats m 0 c).arrAt_forall_of_covers 8 (fun i v => v = (((de (rowsOf H P D Y)) (i 0).val (i 1).val : ℝ) : EReal)) (by decide +kernel) (fun t hf y => ?_) i⟩
  refine ((leftAt_real m c h t.val t.isLt).e.entry y).trans ?_
  show (((de (rowsOf H P D Y)) (512 * t.val + (y 0).val) (y 1).val : ℝ) : EReal) = _
  blk_simp [idx t]
  simp only [Nat.mul_comm 512]

/-- The normed rows. -/
theorem final9 : Real2 ((dats m 0 c).arrAt 9 cfg0.N : Vec Ideal S8192x1024 .bf16) (nrm (rowsOf H P D Y) Y) := by
  refine ⟨fun i => (dats m 0 c).arrAt_forall_of_covers 9 (fun i v => v = (((nrm (rowsOf H P D Y) Y) (i 0).val (i 1).val : ℝ) : EReal)) (by decide +kernel) (fun t hf y => ?_) i⟩
  refine ((leftAt_real m c h t.val t.isLt).n.entry y).trans ?_
  show (((nrm (rowsOf H P D Y) Y) (512 * t.val + (y 0).val) (y 1).val : ℝ) : EReal) = _
  blk_simp [idx t]
  simp only [Nat.mul_comm 512]

/-- The embedding's input. -/
theorem final10 : Real2 ((dats m 0 c).arrAt 10 cfg0.N : Vec Ideal S8192x256 .bf16) (P) := by
  refine ⟨fun i => (dats m 0 c).arrAt_forall_of_covers 10 (fun i v => v = (((P) (i 0).val (i 1).val : ℝ) : EReal)) (by decide +kernel) (fun t hf y => ?_) i⟩
  refine ((leftAt_real m c h t.val t.isLt).pb.entry y).trans ?_
  show (((P) (512 * t.val + (y 0).val) (y 1).val : ℝ) : EReal) = _
  blk_simp [idx t]
  simp only [Nat.mul_comm 512]

/-- The gain's gradient. -/
theorem tail : Real1 (Pipeline.afterTail₀ cfgs (dats m) 0 (V0 m) [hostOps1] c main_v30 : Vec Ideal S1024 .f32) fun k => ∑ r ∈ range 8192, gg (rowsOf H P D Y) Y r k := by
  have : Real2 ((dats m 0 c).arrAt 11 cfg0.N : Vec Ideal S8x1024 .f32) (sumTo (gg (rowsOf H P D Y) Y) 16) := by
    refine ⟨fun i => (dats m 0 c).arrAt_forall_of_covers 11 (fun i v => v = ((sumTo (gg (rowsOf H P D Y) Y) 16 (i 0).val (i 1).val : ℝ) : EReal)) (by decide +kernel) (fun t hf y => ?_) i⟩
    refine ((leftAt_real m c h t.val t.isLt).gg.entry y).trans ?_
    have ht : t.val = 15 := by have := (flush0_11 t).mp hf; have := lt_of_lt_of_eq t.isLt N_0; omega
    blk_simp [idx t]
    rw [ht]
    exact congrArg Real.toEReal (sum_range_succ _ 15).symm
  unfold Pipeline.afterTail₀
  after_reads_at
  rw [(dats m 0 c).withArrays_arrAt (by decide) (V0 m c) (A_eq m c) 11]
  exact Real1.of_eq inferInstance fun k _ => sum_all _ k

variable (ρ : Dev nD → PrngReg)
omit h in
/-- The run: the six results, the arguments unchanged. -/
theorem run : θ_run defs (onTc (τ := τ) (main (F := Ideal))) ⟨m, fun _ => 0, ρ⟩ fun r => ∀ c : Dev nD,
      r.2.mem ((c : Thread nD τ).loc main_v29_0) = (dats m 0 c).arrAt 6 cfg0.N
      ∧ r.2.mem ((c : Thread nD τ).loc main_v29_1) = (dats m 0 c).arrAt 7 cfg0.N
      ∧ r.2.mem ((c : Thread nD τ).loc main_v29_2) = (dats m 0 c).arrAt 8 cfg0.N
      ∧ r.2.mem ((c : Thread nD τ).loc main_v29_3) = (dats m 0 c).arrAt 9 cfg0.N
      ∧ r.2.mem ((c : Thread nD τ).loc main_v29_4) = (dats m 0 c).arrAt 10 cfg0.N
      ∧ r.2.mem ((c : Thread nD τ).loc main_v30) = Pipeline.afterTail₀ cfgs (dats m) 0 (V0 m) [hostOps1] c main_v30
      ∧ Same m r.2.mem c := by
  refine (θ_run defs _ _).mono (fun r h c => ?_) (θ_run_and (launch m ρ) (kept m ρ trivial))
  exact ⟨(h.1.1 c).1 6, (h.1.1 c).1 7, (h.1.1 c).1 8, (h.1.1 c).1 9, (h.1.1 c).1 10, (h.1.1 c).2 main_v30 (Pipeline.mem_restRefs_of main_v30 (by decide) (by decide)), h.2.1 c⟩

instance preFacts : Cert.Pre_finite3.Facts := by constructor <;> decide

omit h in
/-- What the precondition says of the arguments: real entries. -/
theorem real_args (h : Cert.Pre_Kernel3Ideal_finite3 m) : ∃ H P D Y, ArgsReal m c H P D Y := by
  have e := congrFun (h c) (fun a => a.elim0)
  dsimp only [Cert.Pre_finite3.fn, Cert.Pre_finite3.fn_part1] at e
  obtain ⟨e, e5⟩ := both e
  obtain ⟨e, e4⟩ := both e
  obtain ⟨e, e3⟩ := both e
  obtain ⟨e, e2⟩ := both e
  obtain ⟨e0, e1⟩ := both e
  obtain ⟨H, k0⟩ := Real2.exists (real_of_all _ _ _ _ _ e0)
  obtain ⟨P, k1⟩ := Real2.exists (real_of_all _ _ _ _ _ e1)
  obtain ⟨g, k2⟩ := Real1.exists (real_of_all _ _ _ _ _ e2)
  obtain ⟨w, k3⟩ := Real2.exists (real_of_all _ _ _ _ _ e3)
  obtain ⟨u, k4⟩ := Real2.exists (real_of_all _ _ _ _ _ e4)
  obtain ⟨D, k5⟩ := Real2.exists (real_of_all _ _ _ _ _ e5)
  exact ⟨H, P, D, ⟨g, u, w⟩, k0, k1, k2, k3, k4, k5⟩

end Cert.Kernel3Ideal.Gen
-- ==== Proof.PleRef.lean ====
/- The values of the reference of the gated embedding's gradient, and that the kernel's are the same. -/
module
public import proofs.«01_k».proof.Proof.PleFinal
public import proofs.«01_k».proof.Proof.Gen.Reference3Ideal.Run
public import proofs.«01_k».proof.Proof.Gen.Reference3Ideal.Read
@[expose] public section
namespace Cert.Reference3Ideal.Read
open Cert.Reference3Ideal Cert.Reference3Ideal.Gen Idealize.ShloMosaic Idealize.ShloMosaic.TcCoe Cert.Reals Finset Cert.Embed

instance : Plain dot_S8192x1024_S1024x1024_S8192x1024_1_0_0_1_n_n := ⟨rfl⟩
instance : Plain dot_S8192x256_S256x1024_S8192x1024_1_0_0_1_n_n := ⟨rfl⟩
instance : Turned dot_S8192x1024_S1024x1024_S8192x1024_1_1_0_0_n_n := ⟨rfl⟩

variable (H P D : ℕ → ℕ → ℝ) (gain : ℕ → ℝ) (wp wg : ℕ → ℕ → ℝ) (r k : ℕ)

/-- The parameters and the rows, together. -/
local notation "Y" => Fixed.mk gain wp wg
local notation "X" => rowsOf H P D (Fixed.mk gain wp wg)

theorem dpre_eq : dpre X (Y) r k = D r k * embOf P wp r k * (gateOf H gain wg r k * (1 - gateOf H gain wg r k)) := (mul_assoc _ _ _)

variable (x0 x5 : FVec Ideal S8192x1024 .f32) (x1 : FVec Ideal S8192x256 .f32) (x2 : FVec Ideal S1024 .f32) (x3 : FVec Ideal S1024x1024 .f32) (x4 : FVec Ideal S256x1024 .f32)
  {H P D gain wp wg} [Real2 x0 H] [Real2 x1 P] [Real1 x2 gain] [Real2 x3 wg] [Real2 x4 wp] [Real2 x5 D]

instance v6 : Real2 (val_main_v6 (F := Ideal) x0) fun r _ => ms (H r) := by
  unfold val_main_v6 val_main_v5 val_main_cst_1 val_main_v4 val_main_v3 val_main_cst_0 val_main_v2 val_main_v1 val_main_cst val_main_v0
  exact inferInstance

instance v7 : Real2 (val_main_v7 (F := Ideal) x0) fun r _ => rt (H r) := by
  unfold val_main_v7
  exact inferInstance

instance v12 : Real2 (val_main_v12 (F := Ideal) x0) fun r k => H r k * rt (H r) := by
  unfold val_main_v12 val_main_v11
  exact inferInstance

instance v15 : Real2 (val_main_v15 (F := Ideal) x0 x2) (nrmOf H gain) := by
  unfold val_main_v15 val_main_v14 val_main_v13
  exact inferInstance

instance v17 : Real2 (val_main_v17 (F := Ideal) x1 x4) (embOf P wp) := by
  unfold val_main_v17
  exact inferInstance

instance v23 : Real2 (val_main_v23 (F := Ideal) x0 x2 x3) (gateOf H gain wg) := by
  unfold val_main_v23 val_main_v22 val_main_cst_4 val_main_v21 val_main_v20 val_main_cst_3 val_main_v19 val_main_v18 val_main_v16
  refine Real2.of_eq inferInstance fun r k _ _ => ?_
  simp only [gateOf, sg, one_div]

instance v31 : Real2 (val_main_v31 (F := Ideal) x0 x1 x2 x3 x4 x5) (dpre X (Y)) := by
  unfold val_main_v31 val_main_v30 val_main_v29 val_main_v26 val_main_v25 val_main_v24 val_main_cst_5
  exact Real2.of_eq inferInstance fun r k _ _ => (dpre_eq _ _ _ _ _ _ _ _).symm

instance v32 : Real2 (val_main_v32 (F := Ideal) x0 x1 x2 x3 x4 x5) (dn X (Y)) := by
  unfold val_main_v32
  exact inferInstance

theorem v38 : Real1 (val_main_v38 (F := Ideal) x0 x1 x2 x3 x4 x5) fun k => ∑ r ∈ range 8192, gg X (Y) r k := by
  unfold val_main_v38 val_main_cst_7 val_main_v35 val_main_v34 val_main_cst_6 val_main_v33
  refine Real1.of_eq inferInstance fun k _ => ?_
  simp only [sum_range_one, gg]
  exact sum_congr rfl fun r _ => mul_comm _ _

instance v37 : Real2 (val_main_v37 (F := Ideal) x0 x1 x2 x3 x4 x5) fun r k => dn X (Y) r k * gain k := by
  unfold val_main_v37 val_main_v36 val_main_v13
  exact inferInstance

instance v47 : Real2 (val_main_v47 (F := Ideal) x0 x1 x2 x3 x4 x5) fun r _ => (∑ k ∈ range 1024, H r k * (dn X (Y) r k * gain k)) * (-1 / 2 * (rt (H r) / ms (H r))) / 1024 := by
  unfold val_main_v47 val_main_v46 val_main_cst_9 val_main_v45 val_main_v41 val_main_v40 val_main_cst_8 val_main_v39 val_main_v10 val_main_v9 val_main_cst_2
    val_main_v8
  exact inferInstance

theorem v53 : Real2 (val_main_v53 (F := Ideal) x0 x1 x2 x3 x4 x5) (dh X (Y)) := by
  unfold val_main_v53 val_main_v52 val_main_v51 val_main_v50 val_main_v49 val_main_v48 val_main_cst_10 val_main_v44 val_main_v43 val_main_v42
  refine Real2.of_eq inferInstance fun r k _ _ => ?_
  simp only [dh, sum_range_one]
  rw [← rmsGrad_eq]; simp only [rowsOf]; ring

instance v60 : Real2 (val_main_v60 (F := Ideal) x0) fun r _ => ms (H r) := by
  unfold val_main_v60 val_main_v59 val_main_cst_13 val_main_v58 val_main_v57 val_main_cst_12 val_main_v56 val_main_v55 val_main_cst_11 val_main_v54
  exact inferInstance

instance v61 : Real2 (val_main_v61 (F := Ideal) x0) fun r _ => rt (H r) := by
  unfold val_main_v61
  exact inferInstance

instance v66 : Real2 (val_main_v66 (F := Ideal) x0 x2) (nrmOf H gain) := by
  unfold val_main_v66 val_main_v65 val_main_v64 val_main_v63 val_main_v62
  exact inferInstance

instance v68 : Real2 (val_main_v68 (F := Ideal) x1 x4) (embOf P wp) := by
  unfold val_main_v68
  exact inferInstance

instance v74 : Real2 (val_main_v74 (F := Ideal) x0 x2 x3) (gateOf H gain wg) := by
  unfold val_main_v74 val_main_v73 val_main_cst_15 val_main_v72 val_main_v71 val_main_cst_14 val_main_v70 val_main_v69 val_main_v67
  refine Real2.of_eq inferInstance fun r k _ _ => ?_
  simp only [gateOf, sg, one_div]

theorem v84 : Real2 (val_main_v84 (F := Ideal) x0 x1 x2 x3 x4 x5) (dpre X (Y)) := by
  unfold val_main_v84 val_main_v83 val_main_v82 val_main_v80 val_main_v77 val_main_v76 val_main_v75 val_main_cst_16
  exact Real2.of_eq inferInstance fun r k _ _ => (dpre_eq _ _ _ _ _ _ _ _).symm

theorem v85 : Real2 (val_main_v85 (F := Ideal) x0 x2 x3 x5) fun r k => gateOf H gain wg r k * D r k := by
  unfold val_main_v85 val_main_v81 val_main_v80
  exact inferInstance

theorem v86 : Real2 (val_main_v86 (F := Ideal) x0 x2) (nrmOf H gain) := by
  unfold val_main_v86
  exact inferInstance

theorem v87 : Real2 (val_main_v87 (F := Ideal) x1) P := by
  unfold val_main_v87
  exact inferInstance

set_option maxHeartbeats 1000000 in
/-- The claim of the values. -/
theorem algebraic : Cert.algebraic_Kernel3Ideal_Reference3Ideal_pre_finite3 := by
  intro m g m' g' hpre hargs
  refine ⟨_, _, _, _, _, _, Cert.Kernel3Ideal.Gen.run m g, (θ_run _ _ _).mono (fun r h c => ?_) (Cert.Reference3Ideal.Value.run (F := Ideal) m' g')⟩
  obtain ⟨h0, h1, h2, h3, h4, h5, h6⟩ := h c
  obtain ⟨a0, a1, a2, a3, a4, a5⟩ := hargs c
  obtain ⟨H, P, D, ⟨gain, wp, wg⟩, k⟩ := Cert.Kernel3Ideal.Gen.real_args m c hpre
  obtain ⟨k0, k1, k2, k3, k4, k5⟩ := id k
  rw [← a0] at k0
  change Real2 (StableHlo.launchContents m' c (Proc.devRef .tc main_arg0) : Vec Ideal S8192x1024 .f32) H at k0
  rw [← a1] at k1
  change Real2 (StableHlo.launchContents m' c (Proc.devRef .tc main_arg1) : Vec Ideal S8192x256 .f32) P at k1
  rw [← a2] at k2
  change Real1 (StableHlo.launchContents m' c (Proc.devRef .tc main_arg2) : Vec Ideal S1024 .f32) gain at k2
  rw [← a3] at k3
  change Real2 (StableHlo.launchContents m' c (Proc.devRef .tc main_arg3) : Vec Ideal S1024x1024 .f32) wg at k3
  rw [← a4] at k4
  change Real2 (StableHlo.launchContents m' c (Proc.devRef .tc main_arg4) : Vec Ideal S256x1024 .f32) wp at k4
  rw [← a5] at k5
  change Real2 (StableHlo.launchContents m' c (Proc.devRef .tc main_arg5) : Vec Ideal S8192x1024 .f32) D at k5
  clear a0 a1 a2 a3 a4 a5
  refine ⟨h0.trans ((val_main_v53_eq _ _).trans ?_),
    h1.trans ((val_main_v84_eq _ _ _ _ _ _).trans ?_),
    h2.trans ((val_main_v85_eq _ _ _ _).trans ?_),
    h3.trans ((val_main_v86_eq _ _).trans ?_),
    h4.trans ((val_main_v87_eq _).trans ?_),
    h5.trans ((val_main_v38_eq _ _ _ _ _ _).trans ?_), h6⟩ <;> clear h0 h1 h2 h3 h4 h5 h6
  · exact Real2.same (v53 (H := H) (P := P) (D := D) (gain := gain) (wp := wp) (wg := wg) _ _ _ _ _ _) (Cert.Kernel3Ideal.Gen.final6 m c k)
  · exact Real2.same (v84 (H := H) (P := P) (D := D) (gain := gain) (wp := wp) (wg := wg) _ _ _ _ _ _) (Cert.Kernel3Ideal.Gen.final7 m c k)
  · exact Real2.same (Real2.of_eq (v85 (H := H) (D := D) (gain := gain) (wg := wg) _ _ _ _) fun r k _ _ => mul_comm _ _) (Cert.Kernel3Ideal.Gen.final8 m c k)
  · exact Real2.same (v86 (H := H) (gain := gain) _ _) (Cert.Kernel3Ideal.Gen.final9 m c k)
  · exact Real2.same (v87 (P := P) _) (Cert.Kernel3Ideal.Gen.final10 m c k)
  · exact Real1.same (v38 (H := H) (P := P) (D := D) (gain := gain) (wp := wp) (wg := wg) _ _ _ _ _ _) (Cert.Kernel3Ideal.Gen.tail m c k)

end Cert.Reference3Ideal.Read
-- ==== Proof.FfnRun.lean ====
/- The body of the gated feed-forward's gradient kernel, run at the grid's first point (which fetches the weights) and at a later one. -/
module

public import proofs.«01_k».proof.Proof.Fetch
public import proofs.«01_k».proof.Proof.Gen.Kernel4Ideal.Frame.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fetch

variable {F : FTy → Type} [FloatOps F]

local notation "𝕄" => MT nD τ sig Unit (Elt F) ℕ (Pipeline.UD sig nD τ) ℕ

/-- The memrefs a point's body works on: five inputs, five outputs, the three fetched weights, the halved cotangent. -/
structure Stage where
  a0 : Memref sig .tc .vmem S256x1024 .f32
  h0 : a0.IsWhole
  a1 : Memref sig .tc .vmem S256x1024 .f32
  h1 : a1.IsWhole
  a2 : Memref sig .tc .vmem S1x1024 .f32
  h2 : a2.IsWhole
  a3 : Memref sig .tc .vmem S256x2816 .bf16
  h3 : a3.IsWhole
  a4 : Memref sig .tc .vmem S256x2816 .bf16
  h4 : a4.IsWhole
  a5 : Memref sig .tc .vmem S256x1024 .f32
  h5 : a5.IsWhole
  a6 : Memref sig .tc .vmem S256x2816 .bf16
  h6 : a6.IsWhole
  a7 : Memref sig .tc .vmem S256x2816 .bf16
  h7 : a7.IsWhole
  a8 : Memref sig .tc .vmem S256x2816 .bf16
  h8 : a8.IsWhole
  a9 : Memref sig .tc .vmem S8x1024 .f32
  h9 : a9.IsWhole
  w0 : Memref sig .tc .vmem S2816x1024 .bf16
  hw0 : w0.IsWhole
  w1 : Memref sig .tc .vmem S2816x1024 .bf16
  hw1 : w1.IsWhole
  w2 : Memref sig .tc .vmem S2816x1024 .bf16
  hw2 : w2.IsWhole
  k : Memref sig .tc .vmem S256x1024 .bf16
  hk : k.IsWhole

/-- The body on them. -/
abbrev Stage.body (s : Stage) (i : grid0.Coords) : Prog (TpuEff nD τ sig (Elt F) Λ₀ .tc) PUnit :=
  cc0_ffn_bwd i s.a0 s.h0 s.a1 s.h1 s.a2 s.h2 s.a3 s.h3 s.a4 s.h4 (Memref.whole main_v6) (Memref.isWhole_whole _)
    s.a5 s.h5 s.a6 s.h6 s.a7 s.h7 s.a8 s.h8 s.a9 s.h9 s.w0 s.hw0 s.w1 s.hw1 s.w2 s.hw2 cc0_scratch3 s.k s.hk

/-- The five inputs' tiles. -/
structure Tiles (F : FTy → Type) where
  d : Vec F S256x1024 .f32
  h : Vec F S256x1024 .f32
  gain : Vec F S1x1024 .f32
  g : Vec F S256x2816 .bf16
  u : Vec F S256x2816 .bf16

/-- The three weights in scratch. -/
structure Weights (F : FTy → Type) where
  g : Vec F S2816x1024 .bf16
  u : Vec F S2816x1024 .bf16
  d : Vec F S2816x1024 .bf16

/-- The inputs held at their tiles. -/
def Stage.ins (s : Stage) (c : Dev nD) (x : Tiles F) : sProp 𝕄 :=
  iprop(owns (c : Thread nD τ) s.a0 fullShare x.d ∗ owns (c : Thread nD τ) s.a1 fullShare x.h ∗ owns (c : Thread nD τ) s.a2 fullShare x.gain
    ∗ owns (c : Thread nD τ) s.a3 fullShare x.g ∗ owns (c : Thread nD τ) s.a4 fullShare x.u)

/-- The buffers every point overwrites, at any contents. -/
def Stage.any (s : Stage) (c : Dev nD) : sProp 𝕄 :=
  iprop((∃ d, owns (c : Thread nD τ) s.a5 fullShare d) ∗ (∃ d, owns (c : Thread nD τ) s.a6 fullShare d) ∗ (∃ d, owns (c : Thread nD τ) s.a7 fullShare d)
    ∗ (∃ d, owns (c : Thread nD τ) s.a8 fullShare d) ∗ (∃ d, owns (c : Thread nD τ) s.k fullShare d))

/-- The weights held in scratch. -/
def Stage.held (s : Stage) (c : Dev nD) (w : Weights F) : sProp 𝕄 :=
  iprop(owns (c : Thread nD τ) s.w0 fullShare w.g ∗ owns (c : Thread nD τ) s.w1 fullShare w.u ∗ owns (c : Thread nD τ) s.w2 fullShare w.d)

/-- The stores of one point into the five outputs. -/
structure Stores (F : FTy → Type) where
  dh : List (View.Piece (Elt F) S256x1024 .f32)
  dg : List (View.Piece (Elt F) S256x2816 .bf16)
  du : List (View.Piece (Elt F) S256x2816 .bf16)
  a : List (View.Piece (Elt F) S256x2816 .bf16)
  gg : List (View.Piece (Elt F) S8x1024 .f32)

/-- The outputs with a point's stores written. -/
def Stage.outs (s : Stage) (c : Dev nD) (L : Stores F) : sProp 𝕄 :=
  iprop(stored (c : Thread nD τ) s.a5 L.dh ∗ stored (c : Thread nD τ) s.a6 L.dg ∗ stored (c : Thread nD τ) s.a7 L.du ∗ stored (c : Thread nD τ) s.a8 L.a
    ∗ stored (c : Thread nD τ) s.a9 L.gg ∗ (∃ d, owns (c : Thread nD τ) s.k fullShare d))

/-- The copies' stores into the three weights. -/
structure Copies (F : FTy → Type) where
  g : List (View.Piece (Elt F) S2816x1024 .bf16)
  u : List (View.Piece (Elt F) S2816x1024 .bf16)
  d : List (View.Piece (Elt F) S2816x1024 .bf16)

/-- The weights as the copies wrote them. -/
def Stage.fetched (s : Stage) (c : Dev nD) (L : Copies F) : sProp 𝕄 :=
  iprop(stored (c : Thread nD τ) s.w0 L.g ∗ stored (c : Thread nD τ) s.w1 L.u ∗ stored (c : Thread nD τ) s.w2 L.d)

/-- The copies' counters at zero and the weights' pieces as the launch left them. -/
def parts (c : Dev nD) (fh : HbBuf0 (F := F) c hbM0_0) : sProp 𝕄 :=
  iprop(Pipeline.ownSems0 osem0 c ∗ hbPt0 c hbM0_0 fh)

set_option sl_exec.dmaWindow true in
set_option sl_exec.dmaWindowSet true in
set_option maxHeartbeats 4000000 in
/-- The first point: it fetches the weights and zeroes the gain's gradient, then works like the others. -/
noncomputable def runFirst (c : Dev nD) (i : grid0.Coords) (hc : cond0_0 i) (s : Stage) (x : Tiles F) (fh : HbBuf0 (F := F) c hbM0_0) :
    Σ' (L : Stores F), { LW : Copies F //
      ∀ (W : Waits sig Unit) (K : PUnit → sProp 𝕄),
        iprop(s.ins c x ∗ s.any c ∗ (∃ d, owns (c : Thread nD τ) s.a9 fullShare d) ∗ (∃ w, s.held c w) ∗ parts c fh ∗ owes (c : Thread nD τ) 0 W
          ∗ (iprop(s.ins c x ∗ s.outs c L ∗ s.fetched c LW ∗ parts c fh ∗ (∃ W', owes (c : Thread nD τ) 0 W')) -∗ K ⟨⟩))
          ⊢ wp frame (wpE (defs₀ (F := F)) Variants.none c none) Set.univ (s.body i) K } := by
  refine ⟨⟨?_, ?_, ?_, ?_, ?_⟩, ⟨?_, ?_, ?_⟩, fun W K => ?run⟩
  case run =>
    unfold Stage.body Stage.ins Stage.any Stage.outs Stage.held Stage.fetched parts
    rw [ownSems00_eq, owns_unread _ s.h0, owns_unread _ s.h1, owns_unread _ s.h2, owns_unread _ s.h3, owns_unread _ s.h4]
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton]
    unfold owns
    iintro ⟨⟨H0, H1, H2, H3, H4⟩, ⟨⟨%d5, %f5, -, H5⟩, ⟨%d6, %f6, -, H6⟩, ⟨%d7, %f7, -, H7⟩, ⟨%d8, %f8, -, H8⟩, ⟨%dk, %fk, -, HK⟩⟩, ⟨%d9, %f9, -, H9⟩,
      ⟨%w, ⟨%g0, -, S0⟩, ⟨%g1, -, S1⟩, ⟨%g2, -, S2⟩⟩,
      ⟨⟨P0, P1, P2, P3, P4, P5, P6, P7, Q0, Q1, Q2, Q3, Q4, Q5, Q6, Q7, R0, R1, R2, R3, R4, R5, R6, R7⟩, Hh⟩, HW, Hk⟩
    sl_exec (disch := first | sl_exact hc)
    sl_step
    iapply Hk
    unfold stored
    iframe H0 H1 H2 H3 H4 P0 P1 P2 P3 P4 P5 P6 P7 Q0 Q1 Q2 Q3 Q4 Q5 Q6 Q7 R0 R1 R2 R3 R4 R5 R6 R7 Hh
    isplitl [H5 H6 H7 H8 H9 HK]
    · isplitl [H5]; · iexists _; iexact H5
      isplitl [H6]; · iexists _; iexact H6
      isplitl [H7]; · iexists _; iexact H7
      isplitl [H8]; · iexists _; iexact H8
      isplitl [H9]; · iexists _; iexact H9
      iexists _; iexists _; isplitr
      swap; · iexact HK
      ipureintro; rfl
    isplitl [S0 S1 S2]
    · isplitl [S0]; · iexists _; iexact S0
      isplitl [S1]; · iexists _; iexact S1
      iexists _; iexact S2
    iexists _; iexact HW

set_option maxHeartbeats 4000000 in
/-- A later point: it reads the weights from scratch and adds to the gain's gradient. -/
noncomputable def runNext (c : Dev nD) (i : grid0.Coords) (hc : ¬cond0_0 i) (s : Stage) (x : Tiles F) (g : Vec F S8x1024 .f32) (w : Weights F) :
    { L : Stores F //
      ∀ (W : Waits sig Unit) (K : PUnit → sProp 𝕄),
        iprop(s.ins c x ∗ s.any c ∗ owns (c : Thread nD τ) s.a9 fullShare g ∗ s.held c w ∗ owes (c : Thread nD τ) 0 W
          ∗ (iprop(s.ins c x ∗ s.outs c L ∗ s.held c w ∗ (∃ W', owes (c : Thread nD τ) 0 W')) -∗ K ⟨⟩))
          ⊢ wp frame (wpE (defs₀ (F := F)) Variants.none c none) Set.univ (s.body i) K } := by
  refine ⟨⟨?_, ?_, ?_, ?_, ?_⟩, fun W K => ?run⟩
  case run =>
    unfold Stage.body Stage.ins Stage.any Stage.outs Stage.held
    rw [owns_unread _ s.h0, owns_unread _ s.h1, owns_unread _ s.h2, owns_unread _ s.h3, owns_unread _ s.h4, owns_unread _ s.h9,
      owns_unread _ s.hw0, owns_unread _ s.hw1, owns_unread _ s.hw2]
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton]
    unfold owns
    iintro ⟨⟨H0, H1, H2, H3, H4⟩, ⟨⟨%d5, %f5, -, H5⟩, ⟨%d6, %f6, -, H6⟩, ⟨%d7, %f7, -, H7⟩, ⟨%d8, %f8, -, H8⟩, ⟨%dk, %fk, -, HK⟩⟩, H9, ⟨S0, S1, S2⟩, HW, Hk⟩
    sl_exec (disch := first | sl_exact hc)
    sl_step
    iapply Hk
    unfold stored
    iframe H0 H1 H2 H3 H4 S0 S1 S2
    isplitl [H5 H6 H7 H8 H9 HK]
    · isplitl [H5]; · iexists _; iexact H5
      isplitl [H6]; · iexists _; iexact H6
      isplitl [H7]; · iexists _; iexact H7
      isplitl [H8]; · iexists _; iexact H8
      isplitl [H9]; · iexists _; iexact H9
      iexists _; iexists _; isplitr
      swap; · iexact HK
      ipureintro; rfl
    iexists _; iexact HW

end Cert.Kernel4Ideal.Gen

end
-- ==== Proof.FfnFrame.lean ====
/- The gated feed-forward's gradient kernel, point by point, and its frame. -/
module

public import proofs.«01_k».proof.Proof.FfnRun
public import proofs.«01_k».proof.Defs
public import proofs.«01_k».proof.Proof.Gen.Kernel4
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Fetch

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The memrefs of point `t`. -/
abbrev stageAt (t : Fin cfg0.N) : Stage :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    ms0_8 t, hs0_8 t, ms0_9 t, hs0_9 t, scM0_0, Memref.isWhole_whole _, scM0_1, Memref.isWhole_whole _, scM0_2, Memref.isWhole_whole _,
    scM0_3, Memref.isWhole_whole _⟩

/-- The tiles of point `t`. -/
abbrev tilesAt (c : Dev nD) (t : Fin cfg0.N) : Tiles F := ⟨iblk m c 0 t, iblk m c 1 t, iblk m c 2 t, iblk m c 3 t, iblk m c 4 t⟩

/-- What a point leaves: its rows of the gradients and of the activation, the gain's gradient so far, the weights. -/
structure Left (F : FTy → Type) where
  dh : Vec F S256x1024 .f32
  dg : Vec F S256x2816 .bf16
  du : Vec F S256x2816 .bf16
  a : Vec F S256x2816 .bf16
  gg : Vec F S8x1024 .f32
  wt : Weights F

/-- What stores leave. -/
def Stores.left (L : Stores F) (w : Weights F) : Left F := ⟨View.canon L.dh, View.canon L.dg, View.canon L.du, View.canon L.a, View.canon L.gg, w⟩

/-- What a first point leaves. -/
def leftFirst (c : Dev nD) (i : grid0.Coords) (hc : cond0_0 i) (s : Stage) (x : Tiles F) (fh : HbBuf0 (F := F) c hbM0_0) : Left F :=
  (runFirst c i hc s x fh).1.left
    ⟨View.canon (runFirst c i hc s x fh).2.1.g, View.canon (runFirst c i hc s x fh).2.1.u, View.canon (runFirst c i hc s x fh).2.1.d⟩

/-- What a later point leaves. -/
def leftNext (c : Dev nD) (i : grid0.Coords) (hc : ¬cond0_0 i) (s : Stage) (x : Tiles F) (p : Left F) : Left F :=
  (runNext c i hc s x p.gg p.wt).1.left p.wt

theorem first_at (hn : 0 < cfg0.N) : cond0_0 (grid0.coords ⟨0, hn⟩) := (hcond0_0 ⟨0, hn⟩).mpr rfl
theorem next_at (n : ℕ) (hn : n + 1 < cfg0.N) : ¬cond0_0 (grid0.coords ⟨n + 1, hn⟩) := fun h => by
  have hN : n + 1 < 32 := lt_of_lt_of_eq hn N_0
  have := (hcond0_0 ⟨n + 1, hn⟩).mp h
  dsimp only at this; omega

/-- What point `n` leaves. -/
def leftAt (c : Dev nD) : (n : ℕ) → n < cfg0.N → Left F
  | 0, hn => leftFirst c _ (first_at hn) (stageAt ⟨0, hn⟩) (tilesAt m c ⟨0, hn⟩) (V m c main_v6)
  | n + 1, hn => leftNext c _ (next_at n hn) (stageAt ⟨n + 1, hn⟩) (tilesAt m c ⟨n + 1, hn⟩) (leftAt c n (Nat.lt_of_succ_lt hn))

/-- The outputs at what a point leaves. -/
def Stage.full (s : Stage) (c : Dev nD) (L : Left F) : sProp 𝕄 :=
  iprop(owns (c : Thread nD τ) s.a5 fullShare L.dh ∗ owns (c : Thread nD τ) s.a6 fullShare L.dg ∗ owns (c : Thread nD τ) s.a7 fullShare L.du
    ∗ owns (c : Thread nD τ) s.a8 fullShare L.a ∗ owns (c : Thread nD τ) s.a9 fullShare L.gg)

/-- Between points: the working buffer, the register, the counters, the weights' pieces. -/
def quiet (c : Dev nD) : sProp 𝕄 :=
  iprop((∃ d, owns (c : Thread nD τ) scM0_3 fullShare d) ∗ (∃ r, prngReg c r) ∗ parts c (V m c main_v6))

theorem phi_eq (c : Dev nD) : (Pipeline.ΦD osem0 spec0 H0 (V m) c : sProp 𝕄)
    = iprop(((∃ d, owns (c : Thread nD τ) scM0_0 fullShare d) ∗ (∃ d, owns (c : Thread nD τ) scM0_1 fullShare d)
      ∗ (∃ d, owns (c : Thread nD τ) scM0_2 fullShare d) ∗ (∃ d, owns (c : Thread nD τ) scM0_3 fullShare d)) ∗ (∃ r, prngReg c r) ∗ parts c (V m c main_v6)) := by
  unfold parts
  rw [Pipeline.ΦD_eq, scopedRest0_eq, hbmPts0_eq]; simp only [scM0_0, scM0_1, scM0_2, scM0_3, owns_whole]; rfl

/-- Before point `n`: the weights as the point before left them. -/
def inv (c : Dev nD) : (n : ℕ) → n ≤ cfg0.N → sProp 𝕄
  | 0, _ => Pipeline.ΦD osem0 spec0 H0 (V m) c
  | n + 1, hn => iprop((stageAt ⟨n, hn⟩).held c (leftAt m c n hn).wt ∗ quiet m c)

/-- The arrays and the tiles, point by point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (leftAt m c t.val t.isLt).dh
    | ⟨6, _⟩ => (leftAt m c t.val t.isLt).dg
    | ⟨7, _⟩ => (leftAt m c t.val t.isLt).du
    | ⟨8, _⟩ => (leftAt m c t.val t.isLt).a
    | ⟨9, _⟩ => (leftAt m c t.val t.isLt).gg
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

/-- An input's buffer holds its tile. -/
theorem before_eq (c : Dev nD) (t : Fin cfg0.N) (d0 d1 d2 d3 d4) :
    (dats m 0 c).before 0 t d0 = iblk m c 0 t ∧ (dats m 0 c).before 1 t d1 = iblk m c 1 t ∧ (dats m 0 c).before 2 t d2 = iblk m c 2 t
      ∧ (dats m 0 c).before 3 t d3 = iblk m c 3 t ∧ (dats m 0 c).before 4 t d4 = iblk m c 4 t :=
  ⟨before0_0_of m (dats m 0 c) (A_eq m c 0) (fun t => by dsimp only [dats]) t d0, before0_1_of m (dats m 0 c) (A_eq m c 1) (fun t => by dsimp only [dats]) t d1,
    before0_2_of m (dats m 0 c) (A_eq m c 2) (fun t => by dsimp only [dats]) t d2, before0_3_of m (dats m 0 c) (A_eq m c 3) (fun t => by dsimp only [dats]) t d3,
    before0_4_of m (dats m 0 c) (A_eq m c 4) (fun t => by dsimp only [dats]) t d4⟩

/-- The gain's gradient stays in its buffer from point to point. -/
theorem before_gg (c : Dev nD) (n : ℕ) (hn : n + 1 < cfg0.N) (d) :
    (dats m 0 c).before 9 ⟨n + 1, hn⟩ d = (leftAt m c n (Nat.lt_of_succ_lt hn)).gg := by
  have hN : n + 1 < 32 := lt_of_lt_of_eq hn N_0
  rw [Dat.before_out_kept _ 9 rfl ⟨n + 1, hn⟩ (by dsimp only; omega)
    (Bool.eq_false_iff.mpr fun h => by have := (flush0_9 _).mp h; dsimp only at this; omega) (fun _ => rfl) (fun _ _ => rfl)]
  dsimp only [dats]; rfl

set_option maxHeartbeats 4000000 in
/-- The body at a point takes the tiles and what the point before left to what this one leaves. -/
theorem sound (c : Dev nD) (t : Fin cfg0.N) (W : Waits sig Unit) (K : PUnit → sProp 𝕄) :
    iprop(inv m c t.val (Nat.le_of_lt t.isLt) ∗ owes (c : Thread nD τ) 0 W ∗ (stageAt t).ins c (tilesAt m c t)
      ∗ (∃ d, owns (c : Thread nD τ) (ms0_5 t) fullShare d) ∗ (∃ d, owns (c : Thread nD τ) (ms0_6 t) fullShare d)
      ∗ (∃ d, owns (c : Thread nD τ) (ms0_7 t) fullShare d) ∗ (∃ d, owns (c : Thread nD τ) (ms0_8 t) fullShare d)
      ∗ (∃ d, owns (c : Thread nD τ) (ms0_9 t) fullShare ((dats m 0 c).before 9 t d))
      ∗ (iprop(inv m c (t.val + 1) t.isLt ∗ (∃ W', owes (c : Thread nD τ) 0 W') ∗ (stageAt t).ins c (tilesAt m c t)
        ∗ (stageAt t).full c (leftAt m c t.val t.isLt)) -∗ K ⟨⟩))
      ⊢ wp frame (wpE (defs₀ (F := F)) Variants.none c none) Set.univ (bodyAt0 t) K := by
  obtain ⟨n, hn⟩ := t
  cases n with
  | zero =>
    dsimp only [inv]
    rw [phi_eq]
    iintro ⟨⟨⟨⟨%d0, S0⟩, ⟨%d1, S1⟩, ⟨%d2, S2⟩, HK⟩, Hg, Hp⟩, HW, HI, H5, H6, H7, H8, ⟨%d9, H9⟩, Hk⟩
    iapply ((runFirst c (grid0.coords ⟨0, hn⟩) (first_at hn) (stageAt ⟨0, hn⟩) (tilesAt m c ⟨0, hn⟩) (V m c main_v6)).2.2 W _)
    unfold Stage.any
    iframe HI H5 H6 H7 H8 HK Hp HW
    isplitl [H9]; · iexists _; iexact H9
    isplitl [S0 S1 S2]
    · iexists ⟨d0, d1, d2⟩; unfold Stage.held; iframe S0 S1 S2
    unfold Stage.outs Stage.fetched
    iintro ⟨HI, ⟨H5, H6, H7, H8, H9, HK⟩, ⟨S0, S1, S2⟩, Hp, HW⟩
    iapply Hk
    unfold Stage.held Stage.full quiet
    iframe HI Hg Hp HW HK
    isplitl [S0 S1 S2]
    · isplitl [S0]; · iapply (stored_owns _ _ _ fun y => View.cover_of_tiledL _ ![352, 1024] (by sl_kernel_rfl) y); iexact S0
      isplitl [S1]; · iapply (stored_owns _ _ _ fun y => View.cover_of_tiledL _ ![352, 1024] (by sl_kernel_rfl) y); iexact S1
      iapply (stored_owns _ _ _ fun y => View.cover_of_tiledL _ ![352, 1024] (by sl_kernel_rfl) y); iexact S2
    isplitl [H5]; · iapply (stored_owns _ _ _ fun y => View.cover_of_tiledL _ S256x1024.size (by sl_kernel_rfl) y); iexact H5
    isplitl [H6]; · iapply (stored_owns _ _ _ fun y => View.cover_of_tiledBy _ ![256, 256] (by sl_kernel_rfl) y); iexact H6
    isplitl [H7]; · iapply (stored_owns _ _ _ fun y => View.cover_of_tiledBy _ ![256, 256] (by sl_kernel_rfl) y); iexact H7
    isplitl [H8]; · iapply (stored_owns _ _ _ fun y => View.cover_of_tiledBy _ ![256, 256] (by sl_kernel_rfl) y); iexact H8
    iapply (stored_owns _ _ _ fun y => View.cover_of_tiledL _ S8x1024.size (by sl_kernel_rfl) y); iexact H9
  | succ n =>
    dsimp only [inv]
    simp only [before_gg m c n hn]
    unfold quiet
    iintro ⟨⟨HS, HK, Hq⟩, HW, HI, H5, H6, H7, H8, ⟨%d9, H9⟩, Hk⟩
    iapply ((runNext c (grid0.coords ⟨n + 1, hn⟩) (next_at n hn) (stageAt ⟨n + 1, hn⟩) (tilesAt m c ⟨n + 1, hn⟩) (leftAt m c n (Nat.lt_of_succ_lt hn)).gg
      (leftAt m c n (Nat.lt_of_succ_lt hn)).wt).2 W _)
    isplitl [HI]; · iexact HI
    isplitl [H5 H6 H7 H8 HK]; · unfold Stage.any; iframe H5 H6 H7 H8 HK
    isplitl [H9]; · iexact H9
    isplitl [HS]; · iexact HS
    isplitl [HW]; · iexact HW
    unfold Stage.outs
    iintro ⟨HI, ⟨H5, H6, H7, H8, H9, HK⟩, HS, HW⟩
    iapply Hk
    isplitl [HS HK Hq]
    · isplitl [HS]; · iexact HS
      iframe HK Hq
    isplitl [HW]; · iexact HW
    isplitl [HI]; · iexact HI
    unfold Stage.full
    isplitl [H5]; · iapply (stored_owns _ _ _ fun y => View.cover_of_tiledL _ S256x1024.size (by sl_kernel_rfl) y); iexact H5
    isplitl [H6]; · iapply (stored_owns _ _ _ fun y => View.cover_of_tiledBy _ ![256, 256] (by sl_kernel_rfl) y); iexact H6
    isplitl [H7]; · iapply (stored_owns _ _ _ fun y => View.cover_of_tiledBy _ ![256, 256] (by sl_kernel_rfl) y); iexact H7
    isplitl [H8]; · iapply (stored_owns _ _ _ fun y => View.cover_of_tiledBy _ ![256, 256] (by sl_kernel_rfl) y); iexact H8
    iapply (stored_owns _ _ _ fun y => View.cover_of_tiledL _ S8x1024.size (by sl_kernel_rfl) y); iexact H9

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  rw [show (dats m 0 c).Φ t.castSucc = inv m c t.val (Nat.le_of_lt t.isLt) by dsimp only [dats]; exact Pipeline.Dat.Φ_castSucc (inv m c) t,
    show (dats m 0 c).Φ t.succ = inv m c (t.val + 1) t.isLt from rfl]
  unfold Dat.owesAt Pipeline.owesWithin
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (sound m c t W _)
  obtain ⟨e0, e1, e2, e3, e4⟩ := before_eq m c t d0 d1 d2 d3 d4
  rw [e0, e1, e2, e3, e4]
  unfold Stage.ins Stage.full
  iframe HΦ HW H0 H1 H2 H3 H4 H9
  isplitl [H5]; · iexists _; iexact H5
  isplitl [H6]; · iexists _; iexact H6
  isplitl [H7]; · iexists _; iexact H7
  isplitl [H8]; · iexists _; iexact H8
  iintro ⟨HΦ, ⟨%W', HW⟩, ⟨H0, H1, H2, H3, H4⟩, H5, H6, H7, H8, H9⟩
  iframe HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- After the last point the scratch is any scratch again. -/
theorem inv_last (c : Dev nD) : (dats m 0 c).Φ (Fin.last cfg0.N) ⊢ Pipeline.ΦD osem0 spec0 H0 (V m) c := by
  rw [phi_eq, show (dats m 0 c).Φ (Fin.last cfg0.N) = inv m c 32 (le_of_eq N_0.symm) from rfl]
  dsimp only [inv]
  unfold Stage.held quiet
  iintro ⟨⟨S0, S1, S2⟩, HK, Hq⟩
  iframe HK Hq
  isplitl [S0]; · iexists _; iexact S0
  isplitl [S1]; · iexists _; iexact S1
  iexists _; iexact S2

set_option backward.isDefEq.respectTransparency.types false in
/-- The launch: it ends with the arrays at what the points leave and every counter at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (obligation m c).loose) (hshare := fun c => (dats m 0 c).share_full fun _ => rfl) (howed := fun _ _ => rfl)
    (V₀ := V0 m) (opss := [hostOps1]) (hsub := sfx_but) (hfresh := sfx_fresh) (hkeep := sfx_keeps) (hmain := hmain m Variants.none) (hA := A_eq m)
    (hin := fun c => .rfl) (hout := inv_last m)

/-- The arguments of device `c` are those of `m`. -/
abbrev Same (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)

/-- The frame as the launch states it, at any floats: the arguments end as they were, and every counter at zero. -/
def Kept (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      Same m r.2.mem c)
      ∧ r.2.sem = fun _ => 0)

theorem kept : Kept F := fun m ρ _ =>
  θ_run_and (frame_of m ρ (dats m) (A_eq m) ((θ_run defs _ _).mono (fun _ h => h.1) (launch m ρ))) ((θ_run defs _ _).mono (fun _ h => h.2) (launch m ρ))

/-- The two programs are the same text. -/
theorem same : Kept Bits = Cert.quiescent_Kernel4 (hKernel4 := Cert.Kernel4.Gen.facts) := by sl_kernel_rfl

theorem kernel_frame : Cert.quiescent_Kernel4 (hKernel4 := Cert.Kernel4.Gen.facts) := same.mp kept

end Cert.Kernel4Ideal.Gen

end
-- ==== Proof.FfnValue.lean ====
/- The values of the feed-forward's gradient kernel: what a point leaves, as reals. -/
module
public import proofs.«01_k».proof.Proof.FfnFrame
public import proofs.«01_k».proof.Proof.Rms
public import proofs.«01_k».proof.Proof.Fetched
@[expose] public section
namespace Cert.Kernel4Ideal.Gen
open Idealize.ShloMosaic Idealize.ShloMosaic.TcCoe Cert.Reals Finset

instance : Plain dot_S256x512_S512x1024_S256x1024_1_0_0_1_n_n := ⟨rfl⟩
instance : Plain dot_S256x256_S256x1024_S256x1024_1_0_0_1_n_n := ⟨rfl⟩
instance : Turned dot_S256x1024_S512x1024_S256x512_1_1_0_0_n_n := ⟨rfl⟩
instance : Turned dot_S256x1024_S256x1024_S256x256_1_1_0_0_n_n := ⟨rfl⟩

/-- The logistic function. -/
noncomputable def sg (x : ℝ) : ℝ := (1 + Real.exp (-x))⁻¹
/-- The cotangent of the activation. -/
noncomputable def da (D W : ℕ → ℕ → ℝ) (r q : ℕ) : ℝ := ∑ k ∈ range 1024, 1 / 2 * D r k * W q k
/-- The cotangents of the two projections, and the activation. -/
noncomputable def gradG (D W G U : ℕ → ℕ → ℝ) (r q : ℕ) : ℝ := da D W r q * U r q * (sg (G r q) * (1 + G r q * (1 - sg (G r q))))
noncomputable def gradU (D W G : ℕ → ℕ → ℝ) (r q : ℕ) : ℝ := da D W r q * (G r q * sg (G r q))
noncomputable def act (G U : ℕ → ℕ → ℝ) (r q : ℕ) : ℝ := G r q * sg (G r q) * U r q

/-- What the columns from `o` on of the two cotangents give the normed row. -/
noncomputable def chunk (X Y Wg Wu : ℕ → ℕ → ℝ) (o n r c : ℕ) : ℝ := ∑ q ∈ range n, X r (o + q) * Wg (o + q) c + ∑ q ∈ range n, Y r (o + q) * Wu (o + q) c
/-- The cotangent of the normed row. -/
noncomputable def dn (X Y Wg Wu : ℕ → ℕ → ℝ) (r c : ℕ) : ℝ := ∑ q ∈ range 2816, (X r q * Wg q c + Y r q * Wu q c)

theorem chunk_add (X Y Wg Wu : ℕ → ℕ → ℝ) (o a b r c : ℕ) : chunk X Y Wg Wu o (a + b) r c = chunk X Y Wg Wu o a r c + chunk X Y Wg Wu (o + a) b r c := by
  simp only [chunk, sum_range_add, Nat.add_assoc]; ring
/-- It is summed a few columns at a time. -/
theorem dn_chunks (X Y Wg Wu : ℕ → ℕ → ℝ) (r c : ℕ) : dn X Y Wg Wu r c = chunk X Y Wg Wu 0 512 r c + chunk X Y Wg Wu 512 512 r c + chunk X Y Wg Wu 1024 512 r c
    + chunk X Y Wg Wu 1536 512 r c + chunk X Y Wg Wu 2048 512 r c + chunk X Y Wg Wu 2560 256 r c := by
  rw [← chunk_add _ _ _ _ 0 512 512, ← chunk_add _ _ _ _ 0 1024 512, ← chunk_add _ _ _ _ 0 1536 512, ← chunk_add _ _ _ _ 0 2048 512, ← chunk_add _ _ _ _ 0 2560 256]
  simp only [chunk, dn, Nat.zero_add, sum_add_distrib]

/-- A tile's part of the gain's gradient. -/
noncomputable def ggPart (D H G U Wg Wu Wd : ℕ → ℕ → ℝ) (r c : ℕ) : ℝ :=
  ∑ q ∈ range 32, dn (gradG D Wd G U) (gradU D Wd G) Wg Wu (8 * q + r) c * (H (8 * q + r) c * rt (H (8 * q + r)))

/-- The stores of a point leave the gradients of its rows; the gain's gradient goes on from `A`. -/
structure PointReal (L : Stores Ideal) (D H N G U Wg Wu Wd A : ℕ → ℕ → ℝ) : Prop where
  dg : Real2 (View.canon L.dg : Vec Ideal S256x2816 .bf16) (gradG D Wd G U)
  du : Real2 (View.canon L.du : Vec Ideal S256x2816 .bf16) (gradU D Wd G)
  a : Real2 (View.canon L.a : Vec Ideal S256x2816 .bf16) (act G U)
  gg : Real2 (View.canon L.gg : Vec Ideal S8x1024 .f32) fun r c => A r c + ggPart D H G U Wg Wu Wd r c
  dh : Real2 (View.canon L.dh : Vec Ideal S256x1024 .f32) fun r c => D r c + rmsGrad (H r) (N 0) (dn (gradG D Wd G U) (gradU D Wd G) Wg Wu r) c

variable (c : Dev nD) (i : grid0.Coords) (s : Stage) (x : Tiles Ideal) {D H N G U : ℕ → ℕ → ℝ}
   [Real2 x.d D] [Real2 x.h H] [Real2 x.gain N] [Real2 x.g G] [Real2 x.u U]

section
variable (hc : ¬cond0_0 i) (p : Vec Ideal S8x1024 .f32) (wt : Weights Ideal) {A Wg Wu Wd : ℕ → ℕ → ℝ} [Real2 p A] [Real2 wt.g Wg] [Real2 wt.u Wu] [Real2 wt.d Wd]

set_option synthInstance.maxSize 10000 in
set_option synthInstance.maxHeartbeats 400000 in
theorem next_real : PointReal (runNext c i hc s x p wt).1 D H N G U Wg Wu Wd A := by
  dsimp only [runNext]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19,
    k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73,
    k0_pay74, k0_pay75, runNext.sl.HK_1, runNext.sl.cst_65, runNext.sl.r, runNext.sl.v0, runNext.sl.v1, runNext.sl.v2, runNext.sl.v11, runNext.sl.r_1, runNext.sl.r_2, runNext.sl.r_3,
    runNext.sl.r_4, runNext.sl.r_5, runNext.sl.r_6, runNext.sl.r_7, runNext.sl.r_8, runNext.sl.r_9, runNext.sl.r_10, runNext.sl.r_11, runNext.sl.r_12, runNext.sl.r_13, runNext.sl.r_14,
    runNext.sl.r_15, runNext.sl.r_16, runNext.sl.r_17, runNext.sl.r_18, runNext.sl.r_19, runNext.sl.r_20, runNext.sl.r_21, runNext.sl.r_22, runNext.sl.r_23, runNext.sl.r_24,
    runNext.sl.r_25, runNext.sl.r_26, runNext.sl.r_27, runNext.sl.r_28, runNext.sl.r_29, runNext.sl.r_30, runNext.sl.r_31, runNext.sl.r_32, runNext.sl.r_33, runNext.sl.r_34,
    runNext.sl.r_35, runNext.sl.r_36, runNext.sl.r_37, runNext.sl.r_38]
  refine PointReal.mk ?_ ?_ ?_ ?_ ?_ <;> dsimp only
  rotate_left 3
  · refine Real2.of_eq inferInstance fun r c _ _ => ?_
    simp only [ggPart, dn_chunks, ← add_assoc, chunk, rt, ms, gradG, gradU, da, sg, Nat.zero_add, zero_add]
  · refine Real2.of_eq inferInstance fun r c _ _ => ?_
    simp only [dn_chunks, ← add_assoc, rmsGrad, chunk, rt, ms, gradG, gradU, da, sg, Nat.zero_add, zero_add]
  all_goals refine canon_real _ ?_ fun y => View.cover_of_tiledBy _ ![256, 256] (by sl_kernel_rfl) y
  all_goals simp only [List.forall_mem_cons]
  all_goals refine ⟨?_, ?_, ?_, ?_, ?_, ?_, fun p hp => absurd hp List.not_mem_nil⟩
  all_goals refine column inferInstance _ fun r q _ => ?_
  all_goals simp only [gradG, gradU, act, da, sg, Nat.zero_add, zero_add]
end

section
variable (hc : cond0_0 i) (fh : HbBuf0 (F := Ideal) c hbM0_0) {P : ℕ → ℕ → ℕ → ℝ} [hP : Real3 (fh : Vec Ideal S8x1056x1024 .bf16) P]

/-- The fetches leave the three weights, one device's rows under the other's. -/
theorem first_weights : Real2 (View.canon (runFirst c i hc s x fh).2.1.g : Vec Ideal S2816x1024 .bf16) (under 352 0 P)
    ∧ Real2 (View.canon (runFirst c i hc s x fh).2.1.u : Vec Ideal S2816x1024 .bf16) (under 352 352 P)
    ∧ Real2 (View.canon (runFirst c i hc s x fh).2.1.d : Vec Ideal S2816x1024 .bf16) (under 352 704 P) := by
  refine ⟨?_, ?_, ?_⟩
  all_goals refine canon_real _ ?_ fun y => View.cover_of_tiledL _ ![352, 1024] (by sl_kernel_rfl) y
  all_goals dsimp only [runFirst]
  all_goals simp only [List.forall_mem_cons]
  all_goals refine ⟨?_, ?_, ?_, ?_, ?_, ?_, ?_, ?_, fun p hp => absurd hp List.not_mem_nil⟩
  all_goals exact piece (Memref.whole main_v6) fh hP _ _ _ _ rfl

set_option synthInstance.maxSize 10000 in
set_option synthInstance.maxHeartbeats 400000 in
theorem first_real : PointReal (runFirst c i hc s x fh).1 D H N G U (under 352 0 P) (under 352 352 P) (under 352 704 P) fun _ _ => 0 := by
  obtain ⟨hg, hu, hd⟩ := first_weights c i s x hc fh (P := P)
  dsimp only [runFirst] at hg hu hd ⊢
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19,
    k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73,
    k0_pay74, k0_pay75, runFirst.sl.H9_1, runFirst.sl.HK_1, runFirst.sl.cst_65, runFirst.sl.r, runFirst.sl.v0, runFirst.sl.v1, runFirst.sl.v2, runFirst.sl.v11, runFirst.sl.v12,
    runFirst.sl.v15, runFirst.sl.v41, runFirst.sl.v44, runFirst.sl.v48, runFirst.sl.v74, runFirst.sl.v77, runFirst.sl.v81, runFirst.sl.v107, runFirst.sl.v110, runFirst.sl.v114,
    runFirst.sl.v140, runFirst.sl.v143, runFirst.sl.v147, runFirst.sl.v173, runFirst.sl.v176, runFirst.sl.v203, runFirst.sl.v206, runFirst.sl.v220, runFirst.sl.r_1, runFirst.sl.r_2,
    runFirst.sl.r_3, runFirst.sl.r_4, runFirst.sl.r_5, runFirst.sl.r_6, runFirst.sl.r_7, runFirst.sl.r_8, runFirst.sl.r_9, runFirst.sl.r_10, runFirst.sl.r_11, runFirst.sl.r_12,
    runFirst.sl.r_13, runFirst.sl.r_14, runFirst.sl.r_15, runFirst.sl.r_16, runFirst.sl.r_17, runFirst.sl.r_18, runFirst.sl.r_19, runFirst.sl.r_20, runFirst.sl.r_21, runFirst.sl.r_22,
    runFirst.sl.r_23, runFirst.sl.r_24, runFirst.sl.r_25, runFirst.sl.r_26, runFirst.sl.r_27, runFirst.sl.r_28, runFirst.sl.r_29, runFirst.sl.r_30, runFirst.sl.r_31, runFirst.sl.r_32,
    runFirst.sl.r_33, runFirst.sl.r_34, runFirst.sl.r_35, runFirst.sl.r_36, runFirst.sl.r_37, runFirst.sl.r_38]
  refine PointReal.mk ?_ ?_ ?_ ?_ ?_ <;> dsimp only
  rotate_left 3
  · refine Real2.of_eq inferInstance fun r c _ _ => ?_
    simp only [ggPart, dn_chunks, ← add_assoc, chunk, rt, ms, gradG, gradU, da, sg, Nat.zero_add, zero_add]
  · refine Real2.of_eq inferInstance fun r c _ _ => ?_
    simp only [dn_chunks, ← add_assoc, rmsGrad, chunk, rt, ms, gradG, gradU, da, sg, Nat.zero_add, zero_add]
  all_goals refine canon_real _ ?_ fun y => View.cover_of_tiledBy _ ![256, 256] (by sl_kernel_rfl) y
  all_goals simp only [List.forall_mem_cons]
  all_goals refine ⟨?_, ?_, ?_, ?_, ?_, ?_, fun p hp => absurd hp List.not_mem_nil⟩
  all_goals refine column inferInstance _ fun r q _ => ?_
  all_goals simp only [gradG, gradU, act, da, sg, Nat.zero_add, zero_add]
end

end Cert.Kernel4Ideal.Gen
-- ==== Proof.FfnFinal.lean ====
/- What the feed-forward's gradient kernel leaves, as reals of the arguments. -/
module
public import proofs.«01_k».proof.Proof.FfnValue
public import proofs.«01_k».proof.Proof.HostReals
public import proofs.«01_k».proof.Proof.Finite
public import Idealize.ShloMosaic.Lib.Pipeline.ValueKit.Geometry
public import Idealize.ShloMosaic.Lib.StableHlo.ReadAt
@[expose] public section
namespace Cert.Kernel4Ideal.Gen
open Idealize.ShloMosaic Idealize.ShloMosaic.TcCoe Cert.Reals Finset

instance : Plain dot_S8192x1024_S1024x2816_S8192x2816_1_0_0_1_n_n := ⟨rfl⟩

/-- The normed row through a weight. -/
noncomputable def proj (H : ℕ → ℕ → ℝ) (g : ℕ → ℝ) (w : ℕ → ℕ → ℝ) (r q : ℕ) : ℝ := ∑ k ∈ range 1024, H r k * rt (H r) * g k * w k q
/-- The cotangent of the normed row, from the forward's inputs. -/
noncomputable def through (D G U wg wu wd : ℕ → ℕ → ℝ) : ℕ → ℕ → ℝ := dn (gradG D wd G U) (gradU D wd G) (fun q k => wg k q) fun q k => wu k q

/-- What a point leaves, as reals. -/
structure LeftReal (l : Left Ideal) (D H N G U Wg Wu Wd A : ℕ → ℕ → ℝ) : Prop where
  dg : Real2 l.dg (gradG D Wd G U)
  du : Real2 l.du (gradU D Wd G)
  a : Real2 l.a (act G U)
  gg : Real2 l.gg fun r c => A r c + ggPart D H G U Wg Wu Wd r c
  dh : Real2 l.dh fun r c => D r c + rmsGrad (H r) (N 0) (dn (gradG D Wd G U) (gradU D Wd G) Wg Wu r) c
  wg : Real2 l.wt.g Wg
  wu : Real2 l.wt.u Wu
  wd : Real2 l.wt.d Wd

theorem PointReal.left {L : Stores Ideal} {w : Weights Ideal} {D H N G U Wg Wu Wd A : ℕ → ℕ → ℝ} (h : PointReal L D H N G U Wg Wu Wd A)
    (hg : Real2 w.g Wg) (hu : Real2 w.u Wu) (hd : Real2 w.d Wd) : LeftReal (L.left w) D H N G U Wg Wu Wd A :=
  ⟨h.dg, h.du, h.a, h.gg, h.dh, hg, hu, hd⟩

section
variable (c : Dev nD) (i : grid0.Coords) (s : Stage) (x : Tiles Ideal) {D H N G U Wg Wu Wd A : ℕ → ℕ → ℝ} [Real2 x.d D] [Real2 x.h H] [Real2 x.gain N] [Real2 x.g G] [Real2 x.u U]

theorem leftFirst_real (hc : cond0_0 i) (fh : HbBuf0 (F := Ideal) c hbM0_0) {P : ℕ → ℕ → ℕ → ℝ} [hP : Real3 (fh : Vec Ideal S8x1056x1024 .bf16) P] :
    LeftReal (leftFirst c i hc s x fh) D H N G U (under 352 0 P) (under 352 352 P) (under 352 704 P) fun _ _ => 0 := by
  obtain ⟨hg, hu, hd⟩ := first_weights c i s x hc fh (P := P)
  have p := first_real c i s x hc fh (P := P) (D := D) (H := H) (N := N) (G := G) (U := U)
  unfold leftFirst
  generalize runFirst c i hc s x fh = R at p hg hu hd ⊢
  exact p.left hg hu hd

theorem leftNext_real (hc : ¬cond0_0 i) (p : Left Ideal) [Real2 p.gg A] [hg : Real2 p.wt.g Wg] [hu : Real2 p.wt.u Wu] [hd : Real2 p.wt.d Wd] :
    LeftReal (leftNext c i hc s x p) D H N G U Wg Wu Wd A := by
  unfold leftNext
  exact (next_real c i s x hc p.gg p.wt).left hg hu hd
end

variable (m : (ℓ : Loc nD τ sig) → Buf (Elt Ideal) ℓ) (c : Dev nD) {H D wg wu wd : ℕ → ℕ → ℝ} {g : ℕ → ℝ}
 (h0 : Real2 (m ((c : Thread nD τ).loc main_arg0) : Vec Ideal S8192x1024 .f32) H)
 (h1 : Real1 (m ((c : Thread nD τ).loc main_arg1) : Vec Ideal S1024 .f32) g)
 (h2 : Real2 (m ((c : Thread nD τ).loc main_arg2) : Vec Ideal S1024x2816 .f32) wg)
 (h3 : Real2 (m ((c : Thread nD τ).loc main_arg3) : Vec Ideal S1024x2816 .f32) wu)
 (h4 : Real2 (m ((c : Thread nD τ).loc main_arg4) : Vec Ideal S2816x1024 .f32) wd)
 (h5 : Real2 (m ((c : Thread nD τ).loc main_arg5) : Vec Ideal S8192x1024 .f32) D)

theorem idx : ∀ t : Fin grid0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![0, 0] := by decide +kernel

include h5 in
theorem tile0 (t : Fin cfg0.N) : Real2 (iblk m c 0 t : Vec Ideal S256x1024 .f32) fun r k => D (256 * t.val + r) k := by
  have h : Real2 (V m c main_arg5 : Vec Ideal S8192x1024 .f32) D := by
    unfold V V0
    after_reads_at
    exact h5
  exact rows_real h _ _ (win0_0.blk t).view.emb (fun _ => rfl) (fun j => by blk_simp [idx t] <;> dsimp <;> omega) fun j => by blk_simp [idx t] <;> dsimp <;> omega

include h0 in
theorem tile1 (t : Fin cfg0.N) : Real2 (iblk m c 1 t : Vec Ideal S256x1024 .f32) fun r k => H (256 * t.val + r) k := by
  have h : Real2 (V m c main_arg0 : Vec Ideal S8192x1024 .f32) H := by
    unfold V V0
    after_reads_at
    exact h0
  exact rows_real h _ _ (win0_1.blk t).view.emb (fun _ => rfl) (fun j => by blk_simp [idx t] <;> dsimp <;> omega) fun j => by blk_simp [idx t] <;> dsimp <;> omega

include h1 in
theorem tile2 (t : Fin cfg0.N) : Real2 (iblk m c 2 t : Vec Ideal S1x1024 .f32) fun _ k => g k := by
  have h : Real2 (V m c main_v20 : Vec Ideal S1x1024 .f32) fun _ k => g k := by
    unfold V V0
    after_reads_at
    infer_instance
  exact rows_real h _ 0 (win0_2.blk t).view.emb (fun _ => rfl) (fun j => by blk_simp [idx t] <;> dsimp <;> omega) fun j => by blk_simp [idx t] <;> dsimp <;> omega

include h0 h1 h2 in
theorem tile3 (t : Fin cfg0.N) : Real2 (iblk m c 3 t : Vec Ideal S256x2816 .bf16) fun r k => proj H g wg (256 * t.val + r) k := by
  have h : Real2 (V m c main_v22 : Vec Ideal S8192x2816 .bf16) (proj H g wg) := by
    unfold V V0
    after_reads_at
    exact Real2.of_eq inferInstance fun r k _ _ => by simp only [proj, rt, ms]
  exact rows_real h _ _ (win0_3.blk t).view.emb (fun _ => rfl) (fun j => by blk_simp [idx t] <;> dsimp <;> omega) fun j => by blk_simp [idx t] <;> dsimp <;> omega

include h0 h1 h3 in
theorem tile4 (t : Fin cfg0.N) : Real2 (iblk m c 4 t : Vec Ideal S256x2816 .bf16) fun r k => proj H g wu (256 * t.val + r) k := by
  have h : Real2 (V m c main_v24 : Vec Ideal S8192x2816 .bf16) (proj H g wu) := by
    unfold V V0
    after_reads_at
    exact Real2.of_eq inferInstance fun r k _ _ => by simp only [proj, rt, ms]
  exact rows_real h _ _ (win0_4.blk t).view.emb (fun _ => rfl) (fun j => by blk_simp [idx t] <;> dsimp <;> omega) fun j => by blk_simp [idx t] <;> dsimp <;> omega

/-- The three weights' pieces, one under the other. -/
def pieces (wg wu wd : ℕ → ℕ → ℝ) (l r k : ℕ) : ℝ := if r < 352 then wg k (352 * l + r) else if r < 352 + 352 then wu k (352 * l + (r - 352)) else wd (352 * l + (r - (352 + 352))) k

include h2 h3 h4 in
theorem stack : Real3 (V m c main_v6 : Vec Ideal S8x1056x1024 .bf16) (pieces wg wu wd) := by
  unfold V V0
  after_reads_at
  have a : Real3 (StableHlo.upto [hostOps0].flatten (fun b => m (c, b)) 5 (Proc.tc.devRef main_v1) : Vec Ideal S8x352x1024 .f32) fun l r k => wg k (352 * l + r) := by
    after_reads_at
    infer_instance
  have b : Real3 (StableHlo.upto [hostOps0].flatten (fun b => m (c, b)) 5 (Proc.tc.devRef main_v3) : Vec Ideal S8x352x1024 .f32) fun l r k => wu k (352 * l + r) := by
    after_reads_at
    infer_instance
  have e : Real3 (StableHlo.upto [hostOps0].flatten (fun b => m (c, b)) 5 (Proc.tc.devRef main_v4) : Vec Ideal S8x352x1024 .f32) fun l r k => wd (352 * l + r) k := by
    after_reads_at
    infer_instance
  refine ⟨fun i => (stacked a b e (N := 1056) rfl ?_).entry i⟩
  dsimp only [List.map]
  decide

theorem under_g : under 352 0 (pieces wg wu wd) = fun q k => wg k q := by
  funext q k
  have : q % 352 < 352 := Nat.mod_lt _ (by omega)
  simp only [under, pieces, Nat.zero_add, if_pos this, Nat.div_add_mod]
theorem under_u : under 352 352 (pieces wg wu wd) = fun q k => wu k q := by
  funext q k
  have : q % 352 < 352 := Nat.mod_lt _ (by omega)
  simp only [under, pieces, if_neg (show ¬352 + q % 352 < 352 by omega), if_pos (show 352 + q % 352 < 352 + 352 by omega), Nat.add_sub_cancel_left, Nat.div_add_mod]
theorem under_d : under 352 704 (pieces wg wu wd) = wd := by
  funext q k
  have : q % 352 < 352 := Nat.mod_lt _ (by omega)
  simp only [under, pieces, if_neg (show ¬704 + q % 352 < 352 by omega), if_neg (show ¬704 + q % 352 < 352 + 352 by omega), Nat.reduceAdd, Nat.add_sub_cancel_left, Nat.div_add_mod]

set_option maxHeartbeats 1000000 in
include h0 h1 h2 h3 h4 h5 in
/-- What point `n` leaves. -/
theorem leftAt_real : ∀ (n : ℕ) (hn : n < cfg0.N), LeftReal (leftAt m c n hn) (fun r => D (256 * n + r)) (fun r => H (256 * n + r)) (fun _ => g)
    (fun r => proj H g wg (256 * n + r)) (fun r => proj H g wu (256 * n + r)) (fun q k => wg k q) (fun q k => wu k q) wd
    (fun r k => ∑ t ∈ range n, ∑ q ∈ range 32, through D (proj H g wg) (proj H g wu) wg wu wd (256 * t + (8 * q + r)) k * (H (256 * t + (8 * q + r)) k * rt (H (256 * t + (8 * q + r))))) := by
  intro n
  induction n with
  | zero =>
    intro hn
    have k0 : Real2 (tilesAt m c ⟨0, hn⟩).d _ := tile0 m c h5 ⟨0, hn⟩
    have k1 : Real2 (tilesAt m c ⟨0, hn⟩).h _ := tile1 m c h0 ⟨0, hn⟩
    have k2 : Real2 (tilesAt m c ⟨0, hn⟩).gain _ := tile2 m c h1 ⟨0, hn⟩
    have k3 : Real2 (tilesAt m c ⟨0, hn⟩).g _ := tile3 m c h0 h1 h2 ⟨0, hn⟩
    have k4 : Real2 (tilesAt m c ⟨0, hn⟩).u _ := tile4 m c h0 h1 h3 ⟨0, hn⟩
    have k5 := stack m c h2 h3 h4
    have p := leftFirst_real c _ (stageAt ⟨0, hn⟩) (tilesAt m c ⟨0, hn⟩) (first_at hn) (V m c main_v6)
    rw [under_g, under_u, under_d] at p
    simp only [sum_range_zero]
    exact p
  | succ n ih =>
    intro hn
    have k0 : Real2 (tilesAt m c ⟨n + 1, hn⟩).d _ := tile0 m c h5 ⟨n + 1, hn⟩
    have k1 : Real2 (tilesAt m c ⟨n + 1, hn⟩).h _ := tile1 m c h0 ⟨n + 1, hn⟩
    have k2 : Real2 (tilesAt m c ⟨n + 1, hn⟩).gain _ := tile2 m c h1 ⟨n + 1, hn⟩
    have k3 : Real2 (tilesAt m c ⟨n + 1, hn⟩).g _ := tile3 m c h0 h1 h2 ⟨n + 1, hn⟩
    have k4 : Real2 (tilesAt m c ⟨n + 1, hn⟩).u _ := tile4 m c h0 h1 h3 ⟨n + 1, hn⟩
    obtain ⟨_, _, _, p, _, w0, w1, w2⟩ := ih (Nat.lt_of_succ_lt hn)
    simp only [sum_range_succ _ n]
    exact leftNext_real c _ (stageAt ⟨n + 1, hn⟩) (tilesAt m c ⟨n + 1, hn⟩) (next_at n hn) (leftAt m c n (Nat.lt_of_succ_lt hn))

/-- The gradient of the normed rows' input. -/
noncomputable def stream (D H : ℕ → ℕ → ℝ) (g : ℕ → ℝ) (wg wu wd : ℕ → ℕ → ℝ) (r k : ℕ) : ℝ := D r k + rmsGrad (H r) g (through D (proj H g wg) (proj H g wu) wg wu wd r) k

include h0 h1 h2 h3 h4 h5 in
/-- The residual stream's gradient. -/
theorem final5 : Real2 ((dats m 0 c).arrAt 5 cfg0.N : Vec Ideal S8192x1024 .f32) (stream D H g wg wu wd) := by
  refine ⟨fun i => (dats m 0 c).arrAt_forall_of_covers 5 (fun i v => v = (((stream D H g wg wu wd) (i 0).val (i 1).val : ℝ) : EReal)) (by decide +kernel) (fun t hf y => ?_) i⟩
  refine ((leftAt_real m c h0 h1 h2 h3 h4 h5 t.val t.isLt).dh.entry y).trans ?_
  show (((stream D H g wg wu wd) (256 * t.val + (y 0).val) (y 1).val : ℝ) : EReal) = _
  blk_simp [idx t]
  simp only [Nat.mul_comm 256]

include h0 h1 h2 h3 h4 h5 in
/-- The gate projection's gradient. -/
theorem final6 : Real2 ((dats m 0 c).arrAt 6 cfg0.N : Vec Ideal S8192x2816 .bf16) (gradG D wd (proj H g wg) (proj H g wu)) := by
  refine ⟨fun i => (dats m 0 c).arrAt_forall_of_covers 6 (fun i v => v = (((gradG D wd (proj H g wg) (proj H g wu)) (i 0).val (i 1).val : ℝ) : EReal)) (by decide +kernel) (fun t hf y => ?_) i⟩
  refine ((leftAt_real m c h0 h1 h2 h3 h4 h5 t.val t.isLt).dg.entry y).trans ?_
  show (((gradG D wd (proj H g wg) (proj H g wu)) (256 * t.val + (y 0).val) (y 1).val : ℝ) : EReal) = _
  blk_simp [idx t]
  simp only [Nat.mul_comm 256]

include h0 h1 h2 h3 h4 h5 in
/-- The up projection's gradient. -/
theorem final7 : Real2 ((dats m 0 c).arrAt 7 cfg0.N : Vec Ideal S8192x2816 .bf16) (gradU D wd (proj H g wg)) := by
  refine ⟨fun i => (dats m 0 c).arrAt_forall_of_covers 7 (fun i v => v = (((gradU D wd (proj H g wg)) (i 0).val (i 1).val : ℝ) : EReal)) (by decide +kernel) (fun t hf y => ?_) i⟩
  refine ((leftAt_real m c h0 h1 h2 h3 h4 h5 t.val t.isLt).du.entry y).trans ?_
  show (((gradU D wd (proj H g wg)) (256 * t.val + (y 0).val) (y 1).val : ℝ) : EReal) = _
  blk_simp [idx t]
  simp only [Nat.mul_comm 256]

include h0 h1 h2 h3 h4 h5 in
/-- The activation. -/
theorem final8 : Real2 ((dats m 0 c).arrAt 8 cfg0.N : Vec Ideal S8192x2816 .bf16) (act (proj H g wg) (proj H g wu)) := by
  refine ⟨fun i => (dats m 0 c).arrAt_forall_of_covers 8 (fun i v => v = (((act (proj H g wg) (proj H g wu)) (i 0).val (i 1).val : ℝ) : EReal)) (by decide +kernel) (fun t hf y => ?_) i⟩
  refine ((leftAt_real m c h0 h1 h2 h3 h4 h5 t.val t.isLt).a.entry y).trans ?_
  show (((act (proj H g wg) (proj H g wu)) (256 * t.val + (y 0).val) (y 1).val : ℝ) : EReal) = _
  blk_simp [idx t]
  simp only [Nat.mul_comm 256]

/-- A row of the gain's gradient before the rows are added. -/
noncomputable def gainRow (D H : ℕ → ℕ → ℝ) (g : ℕ → ℝ) (wg wu wd : ℕ → ℕ → ℝ) (r k : ℕ) : ℝ := through D (proj H g wg) (proj H g wu) wg wu wd r k * (H r k * rt (H r))

include h0 h1 h2 h3 h4 h5 in
/-- The gain's gradient in eight partials. -/
theorem final9 : Real2 ((dats m 0 c).arrAt 9 cfg0.N : Vec Ideal S8x1024 .f32) fun r k => ∑ t ∈ range 32, ∑ q ∈ range 32, gainRow D H g wg wu wd (256 * t + (8 * q + r)) k := by
  refine ⟨fun i => (dats m 0 c).arrAt_forall_of_covers 9 (fun i v => v = ((∑ t ∈ range 32, ∑ q ∈ range 32, gainRow D H g wg wu wd (256 * t + (8 * q + (i 0).val)) (i 1).val : ℝ) : EReal))
    (by decide +kernel) (fun t hf y => ?_) i⟩
  refine ((leftAt_real m c h0 h1 h2 h3 h4 h5 t.val t.isLt).gg.entry y).trans ?_
  have ht : t.val = 31 := by have := (flush0_9 t).mp hf; have := lt_of_lt_of_eq t.isLt N_0; omega
  blk_simp [idx t]
  rw [ht]
  exact congrArg Real.toEReal (sum_range_succ _ 31).symm

include h0 h1 h2 h3 h4 h5 in
theorem tail : Real1 (Pipeline.afterTail₀ cfgs (dats m) 0 (V0 m) [hostOps1] c main_v26 : Vec Ideal S1024 .f32) fun k => ∑ r ∈ range 8192, gainRow D H g wg wu wd r k := by
  unfold Pipeline.afterTail₀
  after_reads_at
  rw [Pipeline.withArrays_arr (cfgs 0).spec (by decide) c (V0 m c) (fun w => (dats m 0 c).arrAt w (cfgs 0).N) 9]
  have := final9 m c h0 h1 h2 h3 h4 h5
  refine Real1.of_eq inferInstance fun k _ => ?_
  rw [sum_comm]
  exact sum_tiles (fun r => gainRow D H g wg wu wd r k) 32 32

variable (ρ : Dev nD → PrngReg)

/-- The run: the five results, the arguments unchanged. -/
theorem run : θ_run defs (onTc (τ := τ) (main (F := Ideal))) ⟨m, fun _ => 0, ρ⟩ fun r => ∀ c : Dev nD,
      r.2.mem ((c : Thread nD τ).loc main_v25_0) = (dats m 0 c).arrAt 5 cfg0.N
      ∧ r.2.mem ((c : Thread nD τ).loc main_v25_1) = (dats m 0 c).arrAt 6 cfg0.N
      ∧ r.2.mem ((c : Thread nD τ).loc main_v25_2) = (dats m 0 c).arrAt 7 cfg0.N
      ∧ r.2.mem ((c : Thread nD τ).loc main_v25_3) = (dats m 0 c).arrAt 8 cfg0.N
      ∧ r.2.mem ((c : Thread nD τ).loc main_v26) = Pipeline.afterTail₀ cfgs (dats m) 0 (V0 m) [hostOps1] c main_v26
      ∧ Same m r.2.mem c := by
  refine (θ_run defs _ _).mono (fun r h c => ?_) (θ_run_and (launch m ρ) (kept m ρ trivial))
  exact ⟨(h.1.1 c).1 5, (h.1.1 c).1 6, (h.1.1 c).1 7, (h.1.1 c).1 8, (h.1.1 c).2 main_v26 (Pipeline.mem_restRefs_of main_v26 (by decide) (by decide)), h.2.1 c⟩

instance preFacts : Cert.Pre_finite4.Facts := by constructor <;> decide

/-- What the precondition says of the arguments: real entries. -/
theorem real_args (h : Cert.Pre_Kernel4Ideal_finite4 m) :
    (∃ H, Real2 (m ((c : Thread nD τ).loc main_arg0) : Vec Ideal S8192x1024 .f32) H) ∧ (∃ g, Real1 (m ((c : Thread nD τ).loc main_arg1) : Vec Ideal S1024 .f32) g)
      ∧ (∃ w, Real2 (m ((c : Thread nD τ).loc main_arg2) : Vec Ideal S1024x2816 .f32) w) ∧ (∃ w, Real2 (m ((c : Thread nD τ).loc main_arg3) : Vec Ideal S1024x2816 .f32) w)
      ∧ (∃ w, Real2 (m ((c : Thread nD τ).loc main_arg4) : Vec Ideal S2816x1024 .f32) w) ∧ ∃ D, Real2 (m ((c : Thread nD τ).loc main_arg5) : Vec Ideal S8192x1024 .f32) D := by
  have e := congrFun (h c) (fun a => a.elim0)
  dsimp only [Cert.Pre_finite4.fn, Cert.Pre_finite4.fn_part1] at e
  obtain ⟨e, e5⟩ := both e
  obtain ⟨e, e4⟩ := both e
  obtain ⟨e, e3⟩ := both e
  obtain ⟨e, e2⟩ := both e
  obtain ⟨e0, e1⟩ := both e
  exact ⟨Real2.exists (real_of_all _ _ _ _ _ e0), Real1.exists (real_of_all _ _ _ _ _ e1), Real2.exists (real_of_all _ _ _ _ _ e2), Real2.exists (real_of_all _ _ _ _ _ e3),
    Real2.exists (real_of_all _ _ _ _ _ e4), Real2.exists (real_of_all _ _ _ _ _ e5)⟩

end Cert.Kernel4Ideal.Gen
-- ==== Proof.FfnRef.lean ====
/- The values of the feed-forward block's reference, and that the kernel's are the same. -/
module
public import proofs.«01_k».proof.Proof.FfnFinal
public import proofs.«01_k».proof.Proof.Gen.Reference4Ideal.Run
public import proofs.«01_k».proof.Proof.Gen.Reference4Ideal.Read
@[expose] public section
namespace Cert.Reference4Ideal.Read
open Cert.Reference4Ideal Cert.Reference4Ideal.Gen Idealize.ShloMosaic Idealize.ShloMosaic.TcCoe Cert.Reals Finset
open Cert.Kernel4Ideal.Gen (through proj stream gainRow da gradG gradU act sg dn)

instance : Plain dot_S8192x1024_S1024x2816_S8192x2816_1_0_0_1_n_n := ⟨rfl⟩
instance : Turned dot_S8192x1024_S2816x1024_S8192x2816_1_1_0_0_n_n := ⟨rfl⟩
instance : Turned dot_S8192x2816_S1024x2816_S8192x1024_1_1_0_0_n_n := ⟨rfl⟩

variable (x0 x5 : FVec Ideal S8192x1024 .f32) (x1 : FVec Ideal S1024 .f32) (x2 x3 : FVec Ideal S1024x2816 .f32) (x4 : FVec Ideal S2816x1024 .f32)
  {H D wg wu wd : ℕ → ℕ → ℝ} {g : ℕ → ℝ} [Real2 x0 H] [Real1 x1 g] [Real2 x2 wg] [Real2 x3 wu] [Real2 x4 wd] [Real2 x5 D]

instance v6 : Real2 (val_main_v6 (F := Ideal) x0) fun r _ => ms (H r) := by
  unfold val_main_v6 val_main_v5 val_main_cst_1 val_main_v4 val_main_v3 val_main_cst_0 val_main_v2 val_main_v1 val_main_cst val_main_v0
  exact inferInstance

instance v7 : Real2 (val_main_v7 (F := Ideal) x0) fun r _ => rt (H r) := by
  unfold val_main_v7
  exact inferInstance

instance v12 : Real2 (val_main_v12 (F := Ideal) x0) fun r k => H r k * rt (H r) := by
  unfold val_main_v12 val_main_v11
  exact inferInstance

instance v16 : Real2 (val_main_v16 (F := Ideal) x0 x1 x2) (proj H g wg) := by
  unfold val_main_v16 val_main_v15 val_main_v14 val_main_v13
  exact inferInstance

instance v17 : Real2 (val_main_v17 (F := Ideal) x0 x1 x3) (proj H g wu) := by
  unfold val_main_v17 val_main_v15 val_main_v14 val_main_v13
  exact inferInstance

instance v18_2 : Real2 (val_main_v18_2 (F := Ideal) x0 x1 x2) fun r q => sg (proj H g wg r q) := by
  unfold val_main_v18_2 val_main_call0_v4 val_main_call0_cst_0 val_main_call0_v3 val_main_call0_v2 val_main_call0_cst val_main_call0_v1 val_main_call0_v0
  refine Real2.of_eq inferInstance fun r q _ _ => ?_
  simp only [sg, one_div]

instance v27 : Real2 (val_main_v27 (F := Ideal) x4 x5) (da D wd) := by
  unfold val_main_v27 val_main_v26 val_main_v25 val_main_cst_4 val_main_v24
  exact inferInstance

instance v28 : Real2 (val_main_v28 (F := Ideal) x0 x1 x2 x4 x5) (gradU D wd (proj H g wg)) := by
  unfold val_main_v28 val_main_v18_0
  refine Real2.of_eq inferInstance fun r q _ _ => ?_
  simp only [gradU]; ring

instance v30 : Real2 (val_main_v30 (F := Ideal) x0 x1 x2 x3 x4 x5) (gradG D wd (proj H g wg) (proj H g wu)) := by
  unfold val_main_v30 val_main_call1_v2 val_main_call1_v1 val_main_call1_v0 val_main_v29 val_main_v18_1 val_main_call0_v7 val_main_call0_v6 val_main_call0_cst_1
  refine Real2.of_eq inferInstance fun r q _ _ => ?_
  simp only [gradG]; ring

instance v33 : Real2 (val_main_v33 (F := Ideal) x0 x1 x2 x3 x4 x5) (through D (proj H g wg) (proj H g wu) wg wu wd) := by
  unfold val_main_v33 val_main_v32 val_main_v31
  refine Real2.of_eq inferInstance fun r k _ _ => ?_
  simp only [through, dn, sum_add_distrib]; exact add_comm _ _

instance v38 : Real2 (val_main_v38 (F := Ideal) x0 x1 x2 x3 x4 x5) fun r k => through D (proj H g wg) (proj H g wu) wg wu wd r k * g k := by
  unfold val_main_v38 val_main_v37 val_main_v13
  exact inferInstance

instance v48 : Real2 (val_main_v48 (F := Ideal) x0 x1 x2 x3 x4 x5) fun r _ => (∑ k ∈ range 1024, H r k * (through D (proj H g wg) (proj H g wu) wg wu wd r k * g k)) * (-1 / 2 * (rt (H r) / ms (H r))) / 1024 := by
  unfold val_main_v48 val_main_v47 val_main_cst_8 val_main_v46 val_main_v42 val_main_v41 val_main_cst_7 val_main_v40 val_main_v10 val_main_v9 val_main_cst_2
    val_main_v8
  exact inferInstance

theorem v54 : Real2 (val_main_v54 (F := Ideal) x0 x1 x2 x3 x4 x5) (stream D H g wg wu wd) := by
  unfold val_main_v54 val_main_v53 val_main_v52 val_main_v51 val_main_v50 val_main_v49 val_main_cst_9 val_main_v45 val_main_v44 val_main_v43
  refine Real2.of_eq inferInstance fun r k _ _ => ?_
  simp only [stream, sum_range_one]
  rw [← rmsGrad_eq]; ring

theorem v39 : Real1 (val_main_v39 (F := Ideal) x0 x1 x2 x3 x4 x5) fun k => ∑ r ∈ range 8192, gainRow D H g wg wu wd r k := by
  unfold val_main_v39 val_main_cst_6 val_main_v36 val_main_v35 val_main_cst_5 val_main_v34
  refine Real1.of_eq inferInstance fun k _ => ?_
  simp only [sum_range_one, gainRow]
  exact sum_congr rfl fun r _ => mul_comm _ _

instance v68 : Real2 (val_main_v68 (F := Ideal) x0 x1 x2) (proj H g wg) := by
  unfold val_main_v68 val_main_v67 val_main_v66 val_main_v65 val_main_v64 val_main_v63 val_main_v62 val_main_v61 val_main_v60 val_main_cst_12 val_main_v59
    val_main_v58 val_main_cst_11 val_main_v57 val_main_v56 val_main_cst_10 val_main_v55
  exact inferInstance

instance v69 : Real2 (val_main_v69 (F := Ideal) x0 x1 x3) (proj H g wu) := by
  unfold val_main_v69 val_main_v67 val_main_v66 val_main_v65 val_main_v64 val_main_v63 val_main_v62 val_main_v61 val_main_v60 val_main_cst_12 val_main_v59
    val_main_v58 val_main_cst_11 val_main_v57 val_main_v56 val_main_cst_10 val_main_v55
  exact inferInstance

instance v70_2 : Real2 (val_main_v70_2 (F := Ideal) x0 x1 x2) fun r q => sg (proj H g wg r q) := by
  unfold val_main_v70_2 val_main_call2_v4 val_main_call2_cst_0 val_main_call2_v3 val_main_call2_v2 val_main_call2_cst val_main_call2_v1 val_main_call2_v0
  refine Real2.of_eq inferInstance fun r q _ _ => ?_
  simp only [sg, one_div]

instance v77 : Real2 (val_main_v77 (F := Ideal) x4 x5) (da D wd) := by
  unfold val_main_v77 val_main_v76 val_main_v75 val_main_cst_14
  exact inferInstance

theorem v81 : Real2 (val_main_v81 (F := Ideal) x0 x1 x2 x3 x4 x5) (gradG D wd (proj H g wg) (proj H g wu)) := by
  unfold val_main_v81 val_main_v80 val_main_call3_v2 val_main_call3_v1 val_main_call3_v0 val_main_v79 val_main_v70_1 val_main_call2_v7 val_main_call2_v6
    val_main_call2_cst_1
  refine Real2.of_eq inferInstance fun r q _ _ => ?_
  simp only [gradG]; ring

theorem v82 : Real2 (val_main_v82 (F := Ideal) x0 x1 x2 x4 x5) (gradU D wd (proj H g wg)) := by
  unfold val_main_v82 val_main_v78 val_main_v70_0
  refine Real2.of_eq inferInstance fun r q _ _ => ?_
  simp only [gradU]; ring

theorem v85 : Real2 (val_main_v85 (F := Ideal) x0 x1 x2 x3) (act (proj H g wg) (proj H g wu)) := by
  unfold val_main_v85 val_main_v84 val_main_v83 val_main_call4_v5 val_main_call4_v4 val_main_call4_cst_0 val_main_call4_v3 val_main_call4_v2 val_main_call4_cst
    val_main_call4_v1 val_main_call4_v0
  refine Real2.of_eq inferInstance fun r q _ _ => ?_
  simp only [act, sg, one_div]

/-- The claim of the values. -/
theorem algebraic : Cert.algebraic_Kernel4Ideal_Reference4Ideal_pre_finite4 := by
  intro m g m' g' hpre hargs
  refine ⟨_, _, _, _, _, Cert.Kernel4Ideal.Gen.run m g, (θ_run _ _ _).mono (fun r h c => ?_) (Cert.Reference4Ideal.Value.run (F := Ideal) m' g')⟩
  obtain ⟨h0, h1, h2, h3, h4, h5⟩ := h c
  obtain ⟨a0, a1, a2, a3, a4, a5⟩ := hargs c
  obtain ⟨⟨H, k0⟩, ⟨w, k1⟩, ⟨W, k2⟩, ⟨U, k3⟩, ⟨V, k4⟩, ⟨D, k5⟩⟩ := Cert.Kernel4Ideal.Gen.real_args m c hpre
  refine ⟨h0.trans ((val_main_v54_eq _ _).trans ?_), h1.trans ((val_main_v81_eq _ _).trans ?_), h2.trans ((val_main_v82_eq _ _ _ _ _).trans ?_),
    h3.trans ((val_main_v85_eq _ _ _ _).trans ?_), h4.trans ((val_main_v39_eq _ _).trans ?_), h5⟩
  · rw [a0, a1, a2, a3, a4, a5]
    exact (v54 _ _ _ _ _ _).same (Cert.Kernel4Ideal.Gen.final5 m c k0 k1 k2 k3 k4 k5)
  · rw [a0, a1, a2, a3, a4, a5]
    exact (v81 _ _ _ _ _ _).same (Cert.Kernel4Ideal.Gen.final6 m c k0 k1 k2 k3 k4 k5)
  · rw [a0, a1, a2, a4, a5]
    exact (v82 _ _ _ _ _).same (Cert.Kernel4Ideal.Gen.final7 m c k0 k1 k2 k3 k4 k5)
  · rw [a0, a1, a2, a3]
    exact (v85 _ _ _ _).same (Cert.Kernel4Ideal.Gen.final8 m c k0 k1 k2 k3 k4 k5)
  · rw [a0, a1, a2, a3, a4, a5]
    exact (v39 _ _ _ _ _ _).same (Cert.Kernel4Ideal.Gen.tail m c k0 k1 k2 k3 k4 k5)

end Cert.Reference4Ideal.Read
-- ==== Proof.RowsRun.lean ====
/- The body of the mixer's gradient kernel along the rows, run at the grid's first point (which fetches the weights) and at a later one. -/
module

public import proofs.«01_k».proof.Proof.Fetch
public import proofs.«01_k».proof.Proof.Gen.Kernel5Ideal.Frame.Runs

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fetch

variable {F : FTy → Type} [FloatOps F]

local notation "𝕄" => MT nD τ sig Unit (Elt F) ℕ (Pipeline.UD sig nD τ) ℕ

/-- The memrefs a point's body works on: ten inputs, eleven outputs, the fetched weights. -/
structure Stage where
  a0 : Memref sig .tc .vmem S256x1024 .f32
  h0 : a0.IsWhole
  a1 : Memref sig .tc .vmem S256x1024 .bf16
  h1 : a1.IsWhole
  a2 : Memref sig .tc .vmem S256x1024 .bf16
  h2 : a2.IsWhole
  a3 : Memref sig .tc .vmem S256x1024 .f32
  h3 : a3.IsWhole
  a4 : Memref sig .tc .vmem S256x1024 .bf16
  h4 : a4.IsWhole
  a5 : Memref sig .tc .vmem S256x1024 .bf16
  h5 : a5.IsWhole
  a6 : Memref sig .tc .vmem S4x256x256 .bf16
  h6 : a6.IsWhole
  a7 : Memref sig .tc .vmem S1x1024 .f32
  h7 : a7.IsWhole
  a8 : Memref sig .tc .vmem S1x1024 .f32
  h8 : a8.IsWhole
  a9 : Memref sig .tc .vmem S1x1024 .f32
  h9 : a9.IsWhole
  a10 : Memref sig .tc .vmem S256x1024 .bf16
  h10 : a10.IsWhole
  a11 : Memref sig .tc .vmem S256x1024 .bf16
  h11 : a11.IsWhole
  a12 : Memref sig .tc .vmem S256x1024 .bf16
  h12 : a12.IsWhole
  a13 : Memref sig .tc .vmem S256x1024 .bf16
  h13 : a13.IsWhole
  a14 : Memref sig .tc .vmem S256x1024 .bf16
  h14 : a14.IsWhole
  a15 : Memref sig .tc .vmem S256x1024 .bf16
  h15 : a15.IsWhole
  a16 : Memref sig .tc .vmem S256x2048 .bf16
  h16 : a16.IsWhole
  a17 : Memref sig .tc .vmem S8x1024 .f32
  h17 : a17.IsWhole
  a18 : Memref sig .tc .vmem S8x1024 .f32
  h18 : a18.IsWhole
  a19 : Memref sig .tc .vmem S8x1024 .f32
  h19 : a19.IsWhole
  a20 : Memref sig .tc .vmem S8x1024 .f32
  h20 : a20.IsWhole
  w0 : Memref sig .tc .vmem S1024x1024 .bf16
  hw0 : w0.IsWhole
  w1 : Memref sig .tc .vmem S1024x1024 .bf16
  hw1 : w1.IsWhole

/-- The body on them. -/
abbrev Stage.body (s : Stage) (i : grid0.Coords) : Prog (TpuEff nD τ sig (Elt F) Λ₀ .tc) PUnit :=
  cc0_mixer_bwd_rows i s.a0 s.h0 s.a1 s.h1 s.a2 s.h2 s.a3 s.h3 s.a4 s.h4 s.a5 s.h5 s.a6 s.h6 s.a7 s.h7 s.a8 s.h8 s.a9 s.h9
    (Memref.whole main_v4) (Memref.isWhole_whole _) s.a10 s.h10 s.a11 s.h11 s.a12 s.h12 s.a13 s.h13 s.a14 s.h14 s.a15 s.h15 s.a16 s.h16 s.a17 s.h17
    s.a18 s.h18 s.a19 s.h19 s.a20 s.h20 s.w0 s.hw0 s.w1 s.hw1 cc0_scratch2

/-- The inputs' tiles. -/
structure Tiles (F : FTy → Type) where
  d : Vec F S256x1024 .f32
  zp : Vec F S256x1024 .bf16
  zc : Vec F S256x1024 .bf16
  c1 : Vec F S256x1024 .f32
  q : Vec F S256x1024 .bf16
  cc : Vec F S256x1024 .bf16
  pw : Vec F S4x256x256 .bf16
  ps : Vec F S1x1024 .f32
  lg : Vec F S1x1024 .f32
  lb : Vec F S1x1024 .f32

/-- The weights in scratch. -/
structure Weights (F : FTy → Type) where
  wco : Vec F S1024x1024 .bf16
  wout : Vec F S1024x1024 .bf16

/-- What is summed from point to point. -/
structure Sums (F : FTy → Type) where
  gps : Vec F S8x1024 .f32
  glg : Vec F S8x1024 .f32
  glb : Vec F S8x1024 .f32
  gcb : Vec F S8x1024 .f32

/-- The inputs held at their tiles. -/
def Stage.ins (s : Stage) (c : Dev nD) (x : Tiles F) : sProp 𝕄 :=
  iprop(owns (c : Thread nD τ) s.a0 fullShare x.d ∗ owns (c : Thread nD τ) s.a1 fullShare x.zp ∗ owns (c : Thread nD τ) s.a2 fullShare x.zc
    ∗ owns (c : Thread nD τ) s.a3 fullShare x.c1 ∗ owns (c : Thread nD τ) s.a4 fullShare x.q ∗ owns (c : Thread nD τ) s.a5 fullShare x.cc
    ∗ owns (c : Thread nD τ) s.a6 fullShare x.pw ∗ owns (c : Thread nD τ) s.a7 fullShare x.ps ∗ owns (c : Thread nD τ) s.a8 fullShare x.lg
    ∗ owns (c : Thread nD τ) s.a9 fullShare x.lb)

/-- The buffers every point overwrites, at any contents. -/
def Stage.any (s : Stage) (c : Dev nD) : sProp 𝕄 :=
  iprop((∃ d, owns (c : Thread nD τ) s.a10 fullShare d) ∗ (∃ d, owns (c : Thread nD τ) s.a11 fullShare d)
    ∗ (∃ d, owns (c : Thread nD τ) s.a12 fullShare d) ∗ (∃ d, owns (c : Thread nD τ) s.a13 fullShare d)
    ∗ (∃ d, owns (c : Thread nD τ) s.a14 fullShare d) ∗ (∃ d, owns (c : Thread nD τ) s.a15 fullShare d)
    ∗ (∃ d, owns (c : Thread nD τ) s.a16 fullShare d))

/-- The sums held. -/
def Stage.sums (s : Stage) (c : Dev nD) (g : Sums F) : sProp 𝕄 :=
  iprop(owns (c : Thread nD τ) s.a17 fullShare g.gps ∗ owns (c : Thread nD τ) s.a18 fullShare g.glg ∗ owns (c : Thread nD τ) s.a19 fullShare g.glb
    ∗ owns (c : Thread nD τ) s.a20 fullShare g.gcb)

/-- The weights held in scratch. -/
def Stage.held (s : Stage) (c : Dev nD) (w : Weights F) : sProp 𝕄 :=
  iprop(owns (c : Thread nD τ) s.w0 fullShare w.wco ∗ owns (c : Thread nD τ) s.w1 fullShare w.wout)

/-- The stores of one point into the outputs. -/
structure Stores (F : FTy → Type) where
  m : List (View.Piece (Elt F) S256x1024 .bf16)
  dcc : List (View.Piece (Elt F) S256x1024 .bf16)
  c3 : List (View.Piece (Elt F) S256x1024 .bf16)
  dq : List (View.Piece (Elt F) S256x1024 .bf16)
  dpool : List (View.Piece (Elt F) S256x1024 .bf16)
  dc1 : List (View.Piece (Elt F) S256x1024 .bf16)
  dzg : List (View.Piece (Elt F) S256x2048 .bf16)
  gps : List (View.Piece (Elt F) S8x1024 .f32)
  glg : List (View.Piece (Elt F) S8x1024 .f32)
  glb : List (View.Piece (Elt F) S8x1024 .f32)
  gcb : List (View.Piece (Elt F) S8x1024 .f32)

/-- The outputs with a point's stores written. -/
def Stage.outs (s : Stage) (c : Dev nD) (L : Stores F) : sProp 𝕄 :=
  iprop(stored (c : Thread nD τ) s.a10 L.m ∗ stored (c : Thread nD τ) s.a11 L.dcc ∗ stored (c : Thread nD τ) s.a12 L.c3
    ∗ stored (c : Thread nD τ) s.a13 L.dq ∗ stored (c : Thread nD τ) s.a14 L.dpool ∗ stored (c : Thread nD τ) s.a15 L.dc1
    ∗ stored (c : Thread nD τ) s.a16 L.dzg ∗ stored (c : Thread nD τ) s.a17 L.gps ∗ stored (c : Thread nD τ) s.a18 L.glg
    ∗ stored (c : Thread nD τ) s.a19 L.glb ∗ stored (c : Thread nD τ) s.a20 L.gcb)

/-- The copies' stores into the weights. -/
structure Copies (F : FTy → Type) where
  wco : List (View.Piece (Elt F) S1024x1024 .bf16)
  wout : List (View.Piece (Elt F) S1024x1024 .bf16)

/-- The weights as the copies wrote them. -/
def Stage.fetched (s : Stage) (c : Dev nD) (L : Copies F) : sProp 𝕄 :=
  iprop(stored (c : Thread nD τ) s.w0 L.wco ∗ stored (c : Thread nD τ) s.w1 L.wout)

/-- The copies' counters at zero and the weights' pieces as the launch left them. -/
def parts (c : Dev nD) (fh : HbBuf0 (F := F) c hbM0_0) : sProp 𝕄 :=
  iprop(Pipeline.ownSems0 osem0 c ∗ hbPt0 c hbM0_0 fh)

set_option sl_exec.dmaWindow true in
set_option sl_exec.dmaWindowSet true in
set_option sl_exec.rejoinHeartbeats 400000 in
set_option maxHeartbeats 4000000 in
/-- The first point: it fetches the weights and zeroes the sums, then works like the others. -/
noncomputable def runFirst (c : Dev nD) (i : grid0.Coords) (hc : cond0_0 i) (s : Stage) (x : Tiles F) (fh : HbBuf0 (F := F) c hbM0_0) :
    Σ' (L : Stores F), { LW : Copies F //
      ∀ (W : Waits sig Unit) (K : PUnit → sProp 𝕄),
        iprop(s.ins c x ∗ s.any c ∗ (∃ g, s.sums c g) ∗ (∃ w, s.held c w) ∗ parts c fh ∗ owes (c : Thread nD τ) 0 W
          ∗ (iprop(s.ins c x ∗ s.outs c L ∗ s.fetched c LW ∗ parts c fh ∗ (∃ W', owes (c : Thread nD τ) 0 W')) -∗ K ⟨⟩))
          ⊢ wp frame (wpE (defs₀ (F := F)) Variants.none c none) Set.univ (s.body i) K } := by
  refine ⟨⟨?_, ?_, ?_, ?_, ?_, ?_, ?_, ?_, ?_, ?_, ?_⟩, ⟨?_, ?_⟩, fun W K => ?run⟩
  case run =>
    unfold Stage.body Stage.ins Stage.any Stage.sums Stage.outs Stage.held Stage.fetched parts
    rw [ownSems00_eq, owns_unread _ s.h0, owns_unread _ s.h1, owns_unread _ s.h2, owns_unread _ s.h3, owns_unread _ s.h4, owns_unread _ s.h5, owns_unread _ s.h6, owns_unread _ s.h7, owns_unread _ s.h8, owns_unread _ s.h9]
    simp only [cc0_mixer_bwd_rows_eq_skeleton]; unfold cc0_mixer_bwd_rows_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton]
    unfold owns
    iintro ⟨⟨H0, H1, H2, H3, H4, H5, H6, H7, H8, H9⟩, ⟨⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, ⟨%g, ⟨⟨%f17, -, H17⟩, ⟨%f18, -, H18⟩, ⟨%f19, -, H19⟩, ⟨%f20, -, H20⟩⟩⟩,
      ⟨%w, ⟨⟨%g0, -, S0⟩, ⟨%g1, -, S1⟩⟩⟩, ⟨⟨Q0, Q1, Q2, Q3, Q4, Q5, Q6, Q7, Q8, Q9, Q10, Q11, Q12, Q13, Q14, Q15⟩, Hh⟩, HW, Hk⟩
    sl_exec (disch := first | sl_exact hc)
    sl_step
    iapply Hk
    unfold stored
    iframe H0 H1 H2 H3 H4 H5 H6 H7 H8 H9 Q0 Q1 Q2 Q3 Q4 Q5 Q6 Q7 Q8 Q9 Q10 Q11 Q12 Q13 Q14 Q15 Hh
    isplitl [H10 H11 H12 H13 H14 H15 H16 H17 H18 H19 H20]
    · isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20
    isplitl [S0 S1]
    · isplitl [S0]; · iexists _; iexact S0
      iexists _; iexact S1
    iexists _; iexact HW

set_option maxHeartbeats 4000000 in
/-- A later point: it reads the weights from scratch and adds to the sums. -/
noncomputable def runNext (c : Dev nD) (i : grid0.Coords) (hc : ¬cond0_0 i) (s : Stage) (x : Tiles F) (g : Sums F) (w : Weights F) :
    { L : Stores F //
      ∀ (W : Waits sig Unit) (K : PUnit → sProp 𝕄),
        iprop(s.ins c x ∗ s.any c ∗ s.sums c g ∗ s.held c w ∗ owes (c : Thread nD τ) 0 W
          ∗ (iprop(s.ins c x ∗ s.outs c L ∗ s.held c w ∗ (∃ W', owes (c : Thread nD τ) 0 W')) -∗ K ⟨⟩))
          ⊢ wp frame (wpE (defs₀ (F := F)) Variants.none c none) Set.univ (s.body i) K } := by
  refine ⟨⟨?_, ?_, ?_, ?_, ?_, ?_, ?_, ?_, ?_, ?_, ?_⟩, fun W K => ?run⟩
  case run =>
    unfold Stage.body Stage.ins Stage.any Stage.sums Stage.outs Stage.held
    rw [owns_unread _ s.h0, owns_unread _ s.h1, owns_unread _ s.h2, owns_unread _ s.h3, owns_unread _ s.h4, owns_unread _ s.h5, owns_unread _ s.h6, owns_unread _ s.h7, owns_unread _ s.h8, owns_unread _ s.h9,
      owns_unread _ s.h17, owns_unread _ s.h18, owns_unread _ s.h19, owns_unread _ s.h20, owns_unread _ s.hw0, owns_unread _ s.hw1]
    simp only [cc0_mixer_bwd_rows_eq_skeleton]; unfold cc0_mixer_bwd_rows_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton]
    unfold owns
    iintro ⟨⟨H0, H1, H2, H3, H4, H5, H6, H7, H8, H9⟩, ⟨⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, ⟨H17, H18, H19, H20⟩, ⟨S0, S1⟩, HW, Hk⟩
    sl_exec (disch := first | sl_exact hc)
    sl_step
    iapply Hk
    unfold stored
    iframe H0 H1 H2 H3 H4 H5 H6 H7 H8 H9 S0 S1
    isplitl [H10 H11 H12 H13 H14 H15 H16 H17 H18 H19 H20]
    · isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20
    iexists _; iexact HW

end Cert.Kernel5Ideal.Gen

end
-- ==== Proof.RowsFrame.lean ====
/- The mixer's gradient kernel along the rows, point by point, and its frame. -/
module

public import proofs.«01_k».proof.Proof.RowsRun
public import proofs.«01_k».proof.Defs
public import proofs.«01_k».proof.Proof.Gen.Kernel5
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Fetch

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The memrefs of point `t`. -/
abbrev stageAt (t : Fin cfg0.N) : Stage :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    ms0_8 t, hs0_8 t, ms0_9 t, hs0_9 t, ms0_10 t, hs0_10 t, ms0_11 t, hs0_11 t, ms0_12 t, hs0_12 t, ms0_13 t, hs0_13 t, ms0_14 t, hs0_14 t,
    ms0_15 t, hs0_15 t, ms0_16 t, hs0_16 t, ms0_17 t, hs0_17 t, ms0_18 t, hs0_18 t, ms0_19 t, hs0_19 t, ms0_20 t, hs0_20 t,
    scM0_0, Memref.isWhole_whole _, scM0_1, Memref.isWhole_whole _⟩

/-- The tiles of point `t`. -/
abbrev tilesAt (c : Dev nD) (t : Fin cfg0.N) : Tiles F :=
  ⟨iblk m c 0 t, iblk m c 1 t, iblk m c 2 t, iblk m c 3 t, iblk m c 4 t, iblk m c 5 t, iblk m c 6 t, iblk m c 7 t, iblk m c 8 t, iblk m c 9 t⟩

/-- What a point leaves: its rows of the outputs, the sums so far, the weights. -/
structure Left (F : FTy → Type) where
  m : Vec F S256x1024 .bf16
  dcc : Vec F S256x1024 .bf16
  c3 : Vec F S256x1024 .bf16
  dq : Vec F S256x1024 .bf16
  dpool : Vec F S256x1024 .bf16
  dc1 : Vec F S256x1024 .bf16
  dzg : Vec F S256x2048 .bf16
  sums : Sums F
  wt : Weights F

/-- What stores leave. -/
def Stores.left (L : Stores F) (w : Weights F) : Left F :=
  ⟨View.canon L.m, View.canon L.dcc, View.canon L.c3, View.canon L.dq, View.canon L.dpool, View.canon L.dc1, View.canon L.dzg,
    ⟨View.canon L.gps, View.canon L.glg, View.canon L.glb, View.canon L.gcb⟩, w⟩

/-- What a first point leaves. -/
def leftFirst (c : Dev nD) (i : grid0.Coords) (hc : cond0_0 i) (s : Stage) (x : Tiles F) (fh : HbBuf0 (F := F) c hbM0_0) : Left F :=
  (runFirst c i hc s x fh).1.left ⟨View.canon (runFirst c i hc s x fh).2.1.wco, View.canon (runFirst c i hc s x fh).2.1.wout⟩

/-- What a later point leaves. -/
def leftNext (c : Dev nD) (i : grid0.Coords) (hc : ¬cond0_0 i) (s : Stage) (x : Tiles F) (p : Left F) : Left F :=
  (runNext c i hc s x p.sums p.wt).1.left p.wt

theorem first_at (hn : 0 < cfg0.N) : cond0_0 (grid0.coords ⟨0, hn⟩) := (hcond0_0 ⟨0, hn⟩).mpr rfl
theorem next_at (n : ℕ) (hn : n + 1 < cfg0.N) : ¬cond0_0 (grid0.coords ⟨n + 1, hn⟩) := fun h => by
  have hN : n + 1 < 32 := lt_of_lt_of_eq hn N_0
  have := (hcond0_0 ⟨n + 1, hn⟩).mp h
  dsimp only at this; omega

/-- What point `n` leaves. -/
def leftAt (c : Dev nD) : (n : ℕ) → n < cfg0.N → Left F
  | 0, hn => leftFirst c _ (first_at hn) (stageAt ⟨0, hn⟩) (tilesAt m c ⟨0, hn⟩) (V m c main_v4)
  | n + 1, hn => leftNext c _ (next_at n hn) (stageAt ⟨n + 1, hn⟩) (tilesAt m c ⟨n + 1, hn⟩) (leftAt c n (Nat.lt_of_succ_lt hn))

/-- The outputs at what a point leaves. -/
def Stage.full (s : Stage) (c : Dev nD) (L : Left F) : sProp 𝕄 :=
  iprop(owns (c : Thread nD τ) s.a10 fullShare L.m ∗ owns (c : Thread nD τ) s.a11 fullShare L.dcc ∗ owns (c : Thread nD τ) s.a12 fullShare L.c3
    ∗ owns (c : Thread nD τ) s.a13 fullShare L.dq ∗ owns (c : Thread nD τ) s.a14 fullShare L.dpool ∗ owns (c : Thread nD τ) s.a15 fullShare L.dc1
    ∗ owns (c : Thread nD τ) s.a16 fullShare L.dzg ∗ s.sums c L.sums)

/-- Between points: the register, the counters, the weights' pieces. -/
def quiet (c : Dev nD) : sProp 𝕄 := iprop((∃ r, prngReg c r) ∗ parts c (V m c main_v4))

theorem phi_eq (c : Dev nD) : (Pipeline.ΦD osem0 spec0 H0 (V m) c : sProp 𝕄) = iprop(((∃ d, owns (c : Thread nD τ) scM0_0 fullShare d) ∗ (∃ d, owns (c : Thread nD τ) scM0_1 fullShare d)) ∗ quiet m c) := by
  unfold quiet parts
  rw [Pipeline.ΦD_eq, scopedRest0_eq, hbmPts0_eq]; simp only [scM0_0, scM0_1, owns_whole]; rfl

/-- Before point `n`: the weights as the point before left them. -/
def inv (c : Dev nD) : (n : ℕ) → n ≤ cfg0.N → sProp 𝕄
  | 0, _ => Pipeline.ΦD osem0 spec0 H0 (V m) c
  | n + 1, hn => iprop((stageAt ⟨n, hn⟩).held c (leftAt m c n hn).wt ∗ quiet m c)

/-- The arrays and the tiles, point by point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (leftAt m c t.val t.isLt).m
    | ⟨11, _⟩ => (leftAt m c t.val t.isLt).dcc
    | ⟨12, _⟩ => (leftAt m c t.val t.isLt).c3
    | ⟨13, _⟩ => (leftAt m c t.val t.isLt).dq
    | ⟨14, _⟩ => (leftAt m c t.val t.isLt).dpool
    | ⟨15, _⟩ => (leftAt m c t.val t.isLt).dc1
    | ⟨16, _⟩ => (leftAt m c t.val t.isLt).dzg
    | ⟨17, _⟩ => (leftAt m c t.val t.isLt).sums.gps
    | ⟨18, _⟩ => (leftAt m c t.val t.isLt).sums.glg
    | ⟨19, _⟩ => (leftAt m c t.val t.isLt).sums.glb
    | ⟨20, _⟩ => (leftAt m c t.val t.isLt).sums.gcb
    | ⟨n + 21, h⟩ => absurd h (by change ¬n + 21 < 21; omega)
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

/-- An input's buffer holds its tile. -/
theorem before_eq (c : Dev nD) (t : Fin cfg0.N) (d0 d1 d2 d3 d4 d5 d6 d7 d8 d9) :
    (dats m 0 c).before 0 t d0 = iblk m c 0 t ∧ (dats m 0 c).before 1 t d1 = iblk m c 1 t ∧ (dats m 0 c).before 2 t d2 = iblk m c 2 t
      ∧ (dats m 0 c).before 3 t d3 = iblk m c 3 t ∧ (dats m 0 c).before 4 t d4 = iblk m c 4 t ∧ (dats m 0 c).before 5 t d5 = iblk m c 5 t
      ∧ (dats m 0 c).before 6 t d6 = iblk m c 6 t ∧ (dats m 0 c).before 7 t d7 = iblk m c 7 t ∧ (dats m 0 c).before 8 t d8 = iblk m c 8 t
      ∧ (dats m 0 c).before 9 t d9 = iblk m c 9 t :=
  ⟨before0_0_of m (dats m 0 c) (A_eq m c 0) (fun t => by dsimp only [dats]) t d0,
    before0_1_of m (dats m 0 c) (A_eq m c 1) (fun t => by dsimp only [dats]) t d1,
    before0_2_of m (dats m 0 c) (A_eq m c 2) (fun t => by dsimp only [dats]) t d2,
    before0_3_of m (dats m 0 c) (A_eq m c 3) (fun t => by dsimp only [dats]) t d3,
    before0_4_of m (dats m 0 c) (A_eq m c 4) (fun t => by dsimp only [dats]) t d4,
    before0_5_of m (dats m 0 c) (A_eq m c 5) (fun t => by dsimp only [dats]) t d5,
    before0_6_of m (dats m 0 c) (A_eq m c 6) (fun t => by dsimp only [dats]) t d6,
    before0_7_of m (dats m 0 c) (A_eq m c 7) (fun t => by dsimp only [dats]) t d7,
    before0_8_of m (dats m 0 c) (A_eq m c 8) (fun t => by dsimp only [dats]) t d8,
    before0_9_of m (dats m 0 c) (A_eq m c 9) (fun t => by dsimp only [dats]) t d9⟩

/-- The sums stay in their buffers from point to point. -/
theorem before_sums (c : Dev nD) (n : ℕ) (hn : n + 1 < cfg0.N) :
    (∀ d, (dats m 0 c).before 17 ⟨n + 1, hn⟩ d = (leftAt m c n (Nat.lt_of_succ_lt hn)).sums.gps)
      ∧ (∀ d, (dats m 0 c).before 18 ⟨n + 1, hn⟩ d = (leftAt m c n (Nat.lt_of_succ_lt hn)).sums.glg)
      ∧ (∀ d, (dats m 0 c).before 19 ⟨n + 1, hn⟩ d = (leftAt m c n (Nat.lt_of_succ_lt hn)).sums.glb)
      ∧ (∀ d, (dats m 0 c).before 20 ⟨n + 1, hn⟩ d = (leftAt m c n (Nat.lt_of_succ_lt hn)).sums.gcb) := by
  have hN : n + 1 < 32 := lt_of_lt_of_eq hn N_0
  exact ⟨fun d => (Dat.before_out_kept _ 17 rfl ⟨n + 1, hn⟩ (by dsimp only; omega)
      (Bool.eq_false_iff.mpr fun h => by have := (flush0_17 _).mp h; dsimp only at this; omega) (fun _ => rfl) (fun _ _ => rfl) d).trans (by dsimp only [dats]; rfl),
    fun d => (Dat.before_out_kept _ 18 rfl ⟨n + 1, hn⟩ (by dsimp only; omega)
      (Bool.eq_false_iff.mpr fun h => by have := (flush0_18 _).mp h; dsimp only at this; omega) (fun _ => rfl) (fun _ _ => rfl) d).trans (by dsimp only [dats]; rfl),
    fun d => (Dat.before_out_kept _ 19 rfl ⟨n + 1, hn⟩ (by dsimp only; omega)
      (Bool.eq_false_iff.mpr fun h => by have := (flush0_19 _).mp h; dsimp only at this; omega) (fun _ => rfl) (fun _ _ => rfl) d).trans (by dsimp only [dats]; rfl),
    fun d => (Dat.before_out_kept _ 20 rfl ⟨n + 1, hn⟩ (by dsimp only; omega)
      (Bool.eq_false_iff.mpr fun h => by have := (flush0_20 _).mp h; dsimp only at this; omega) (fun _ => rfl) (fun _ _ => rfl) d).trans (by dsimp only [dats]; rfl)⟩

set_option maxHeartbeats 4000000 in
/-- The body at a point takes the tiles and what the point before left to what this one leaves. -/
theorem sound (c : Dev nD) (t : Fin cfg0.N) (W : Waits sig Unit) (K : PUnit → sProp 𝕄) :
    iprop(inv m c t.val (Nat.le_of_lt t.isLt) ∗ owes (c : Thread nD τ) 0 W ∗ (stageAt t).ins c (tilesAt m c t) ∗ (stageAt t).any c
      ∗ (∃ d, owns (c : Thread nD τ) (ms0_17 t) fullShare ((dats m 0 c).before 17 t d))
      ∗ (∃ d, owns (c : Thread nD τ) (ms0_18 t) fullShare ((dats m 0 c).before 18 t d))
      ∗ (∃ d, owns (c : Thread nD τ) (ms0_19 t) fullShare ((dats m 0 c).before 19 t d))
      ∗ (∃ d, owns (c : Thread nD τ) (ms0_20 t) fullShare ((dats m 0 c).before 20 t d))
      ∗ (iprop(inv m c (t.val + 1) t.isLt ∗ (∃ W', owes (c : Thread nD τ) 0 W') ∗ (stageAt t).ins c (tilesAt m c t)
        ∗ (stageAt t).full c (leftAt m c t.val t.isLt)) -∗ K ⟨⟩))
      ⊢ wp frame (wpE (defs₀ (F := F)) Variants.none c none) Set.univ (bodyAt0 t) K := by
  obtain ⟨n, hn⟩ := t
  cases n with
  | zero =>
    dsimp only [inv]
    rw [phi_eq]
    unfold quiet
    iintro ⟨⟨⟨⟨%d0, S0⟩, ⟨%d1, S1⟩⟩, Hg, Hp⟩, HW, HI, HA, ⟨%d17, H17⟩, ⟨%d18, H18⟩, ⟨%d19, H19⟩, ⟨%d20, H20⟩, Hk⟩
    iapply ((runFirst c (grid0.coords ⟨0, hn⟩) (first_at hn) (stageAt ⟨0, hn⟩) (tilesAt m c ⟨0, hn⟩) (V m c main_v4)).2.2 W _)
    iframe HI HA Hp HW
    isplitl [H17 H18 H19 H20]
    · iexists ⟨(dats m 0 c).before 17 ⟨0, hn⟩ d17, (dats m 0 c).before 18 ⟨0, hn⟩ d18, (dats m 0 c).before 19 ⟨0, hn⟩ d19, (dats m 0 c).before 20 ⟨0, hn⟩ d20⟩; unfold Stage.sums; iframe H17 H18 H19 H20
    isplitl [S0 S1]
    · iexists ⟨d0, d1⟩; unfold Stage.held; iframe S0 S1
    unfold Stage.outs Stage.fetched
    iintro ⟨HI, ⟨H10, H11, H12, H13, H14, H15, H16, H17, H18, H19, H20⟩, ⟨S0, S1⟩, Hp, HW⟩
    iapply Hk
    unfold Stage.held Stage.full Stage.sums
    iframe HI Hg Hp HW
    isplitl [S0 S1]
    · isplitl [S0]; · iapply (stored_owns _ _ _ fun y => View.cover_of_tiledL _ ![128, 1024] (by sl_kernel_rfl) y); iexact S0
      iapply (stored_owns _ _ _ fun y => View.cover_of_tiledL _ ![128, 1024] (by sl_kernel_rfl) y); iexact S1
    isplitl [H10]; · iapply (stored_owns _ _ _ fun y => View.cover_of_tiledL _ S256x1024.size (by sl_kernel_rfl) y); iexact H10
    isplitl [H11]; · iapply (stored_owns _ _ _ fun y => View.cover_of_tiledL _ S256x1024.size (by sl_kernel_rfl) y); iexact H11
    isplitl [H12]; · iapply (stored_owns _ _ _ fun y => View.cover_of_tiledL _ S256x1024.size (by sl_kernel_rfl) y); iexact H12
    isplitl [H13]; · iapply (stored_owns _ _ _ fun y => View.cover_of_tiledL _ S256x1024.size (by sl_kernel_rfl) y); iexact H13
    isplitl [H14]; · iapply (stored_owns _ _ _ fun y => View.cover_of_tiledL _ ![256, 256] (by sl_kernel_rfl) y); iexact H14
    isplitl [H15]; · iapply (stored_owns _ _ _ fun y => View.cover_of_tiledL _ S256x1024.size (by sl_kernel_rfl) y); iexact H15
    isplitl [H16]; · iapply (stored_owns _ _ _ fun y => View.cover_of_tiledL _ ![256, 1024] (by sl_kernel_rfl) y); iexact H16
    isplitl [H17]; · iapply (stored_owns _ _ _ fun y => View.cover_of_tiledL _ S8x1024.size (by sl_kernel_rfl) y); iexact H17
    isplitl [H18]; · iapply (stored_owns _ _ _ fun y => View.cover_of_tiledL _ S8x1024.size (by sl_kernel_rfl) y); iexact H18
    isplitl [H19]; · iapply (stored_owns _ _ _ fun y => View.cover_of_tiledL _ S8x1024.size (by sl_kernel_rfl) y); iexact H19
    iapply (stored_owns _ _ _ fun y => View.cover_of_tiledL _ S8x1024.size (by sl_kernel_rfl) y); iexact H20
  | succ n =>
    dsimp only [inv]
    simp only [before_sums m c n hn]
    iintro ⟨⟨HS, Hq⟩, HW, HI, HA, ⟨%d17, H17⟩, ⟨%d18, H18⟩, ⟨%d19, H19⟩, ⟨%d20, H20⟩, Hk⟩
    iapply ((runNext c (grid0.coords ⟨n + 1, hn⟩) (next_at n hn) (stageAt ⟨n + 1, hn⟩) (tilesAt m c ⟨n + 1, hn⟩) (leftAt m c n (Nat.lt_of_succ_lt hn)).sums
      (leftAt m c n (Nat.lt_of_succ_lt hn)).wt).2 W _)
    isplitl [HI]; · iexact HI
    isplitl [HA]; · iexact HA
    isplitl [H17 H18 H19 H20]; · unfold Stage.sums; iframe H17 H18 H19 H20
    isplitl [HS]; · iexact HS
    isplitl [HW]; · iexact HW
    unfold Stage.outs
    iintro ⟨HI, ⟨H10, H11, H12, H13, H14, H15, H16, H17, H18, H19, H20⟩, HS, HW⟩
    iapply Hk
    isplitl [HS Hq]
    · isplitl [HS]; · iexact HS
      iexact Hq
    isplitl [HW]; · iexact HW
    isplitl [HI]; · iexact HI
    unfold Stage.full Stage.sums
    isplitl [H10]; · iapply (stored_owns _ _ _ fun y => View.cover_of_tiledL _ S256x1024.size (by sl_kernel_rfl) y); iexact H10
    isplitl [H11]; · iapply (stored_owns _ _ _ fun y => View.cover_of_tiledL _ S256x1024.size (by sl_kernel_rfl) y); iexact H11
    isplitl [H12]; · iapply (stored_owns _ _ _ fun y => View.cover_of_tiledL _ S256x1024.size (by sl_kernel_rfl) y); iexact H12
    isplitl [H13]; · iapply (stored_owns _ _ _ fun y => View.cover_of_tiledL _ S256x1024.size (by sl_kernel_rfl) y); iexact H13
    isplitl [H14]; · iapply (stored_owns _ _ _ fun y => View.cover_of_tiledL _ ![256, 256] (by sl_kernel_rfl) y); iexact H14
    isplitl [H15]; · iapply (stored_owns _ _ _ fun y => View.cover_of_tiledL _ S256x1024.size (by sl_kernel_rfl) y); iexact H15
    isplitl [H16]; · iapply (stored_owns _ _ _ fun y => View.cover_of_tiledL _ ![256, 1024] (by sl_kernel_rfl) y); iexact H16
    isplitl [H17]; · iapply (stored_owns _ _ _ fun y => View.cover_of_tiledL _ S8x1024.size (by sl_kernel_rfl) y); iexact H17
    isplitl [H18]; · iapply (stored_owns _ _ _ fun y => View.cover_of_tiledL _ S8x1024.size (by sl_kernel_rfl) y); iexact H18
    isplitl [H19]; · iapply (stored_owns _ _ _ fun y => View.cover_of_tiledL _ S8x1024.size (by sl_kernel_rfl) y); iexact H19
    iapply (stored_owns _ _ _ fun y => View.cover_of_tiledL _ S8x1024.size (by sl_kernel_rfl) y); iexact H20

set_option maxHeartbeats 4000000 in
/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  rw [show (dats m 0 c).Φ t.castSucc = inv m c t.val (Nat.le_of_lt t.isLt) by dsimp only [dats]; exact Pipeline.Dat.Φ_castSucc (inv m c) t,
    show (dats m 0 c).Φ t.succ = inv m c (t.val + 1) t.isLt from rfl]
  unfold Dat.owesAt Pipeline.owesWithin
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩,
    ⟨%d11, H11⟩, ⟨%d12, H12⟩, ⟨%d13, H13⟩, ⟨%d14, H14⟩, ⟨%d15, H15⟩, ⟨%d16, H16⟩, H17, H18, H19, H20⟩
  iapply (sound m c t W _)
  obtain ⟨e0, e1, e2, e3, e4, e5, e6, e7, e8, e9⟩ := before_eq m c t d0 d1 d2 d3 d4 d5 d6 d7 d8 d9
  rw [e0, e1, e2, e3, e4, e5, e6, e7, e8, e9]
  unfold Stage.ins Stage.any Stage.full Stage.sums
  iframe HΦ HW H0 H1 H2 H3 H4 H5 H6 H7 H8 H9 H17 H18 H19 H20
  isplitl [H10 H11 H12 H13 H14 H15 H16]
  · isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  iintro ⟨HΦ, ⟨%W', HW⟩, ⟨H0, H1, H2, H3, H4, H5, H6, H7, H8, H9⟩, H10, H11, H12, H13, H14, H15, H16, H17, H18, H19, H20⟩
  iframe HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- After the last point the scratch is any scratch again. -/
theorem inv_last (c : Dev nD) : (dats m 0 c).Φ (Fin.last cfg0.N) ⊢ Pipeline.ΦD osem0 spec0 H0 (V m) c := by
  rw [phi_eq, show (dats m 0 c).Φ (Fin.last cfg0.N) = inv m c 32 (le_of_eq N_0.symm) from rfl]
  dsimp only [inv]
  unfold Stage.held
  iintro ⟨⟨S0, S1⟩, Hq⟩
  iframe Hq
  isplitl [S0]; · iexists _; iexact S0
  iexists _; iexact S1

set_option backward.isDefEq.respectTransparency.types false in
/-- The launch: it ends with the arrays at what the points leave and every counter at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around_shared (Q' := _) cfgs (dats m) (0 : Fin 1) launch₀0 osem0 defs₀ Variants.none ownSemFacts0 H0 H0_sub m ρ main
    (hbody := fun c => (obligation m c).loose) (hq := fun _ _ _ => rfl) (howed := fun _ _ => rfl)
    (V₀ := V0 m) (opss := [hostOps1]) (hsub := sfx_but) (hfresh := sfx_fresh) (hkeep := sfx_keeps) (hmain := hmain m Variants.none) (hA := A_eq m)
    (hin := fun c => .rfl) (hout := inv_last m)

/-- The arguments of device `c` are those of `m`. -/
abbrev Same (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)

/-- The frame as the launch states it, at any floats: the arguments end as they were, and every counter at zero. -/
def Kept (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      Same m r.2.mem c)
      ∧ r.2.sem = fun _ => 0)

theorem kept : Kept F := fun m ρ _ =>
  θ_run_and (frame_of m ρ (dats m) (A_eq m) ((θ_run defs _ _).mono (fun _ h => h.1) (launch m ρ))) ((θ_run defs _ _).mono (fun _ h => h.2) (launch m ρ))

/-- The two programs are the same text. -/
theorem same : Kept Bits = Cert.quiescent_Kernel5 (hKernel5 := Cert.Kernel5.Gen.facts) := by sl_kernel_rfl

theorem kernel_frame : Cert.quiescent_Kernel5 (hKernel5 := Cert.Kernel5.Gen.facts) := same.mp kept

end Cert.Kernel5Ideal.Gen

end
-- ==== Proof.Ln.lean ====
/- The layer norm of a row of 1024 reals and its gradient, as the kernel computes it and as the chain rule gives it. -/
module
public import proofs.«01_k».proof.Proof.Reals
@[expose] public section
namespace Cert.Reals
open Finset

/-- The mean of a row. -/
noncomputable def mean (x : ℕ → ℝ) : ℝ := (∑ k ∈ range 1024, x k) / 1024
/-- The row with its mean taken off. -/
noncomputable def cen (x : ℕ → ℝ) (k : ℕ) : ℝ := x k - mean x
theorem sum_cen (x : ℕ → ℝ) : ∑ k ∈ range 1024, cen x k = 0 := by
  simp only [cen, mean, sum_sub_distrib, sum_const, card_range, nsmul_eq_mul]
  push_cast; ring
/-- The variance, with the small number added, and one over its root. -/
noncomputable def lv (x : ℕ → ℝ) : ℝ := (∑ k ∈ range 1024, cen x k * cen x k) / 1024 + eps5
noncomputable def lr (x : ℕ → ℝ) : ℝ := (√(lv x))⁻¹
theorem lv_pos (x : ℕ → ℝ) : 0 < lv x :=
  add_pos_of_nonneg_of_pos (div_nonneg (sum_nonneg fun k _ => mul_self_nonneg _) (by norm_num)) eps5_pos
theorem lr_sq (x : ℕ → ℝ) : lr x * lr x * lv x = 1 := by
  have h := Real.mul_self_sqrt (lv_pos x).le
  have h0 := (Real.sqrt_pos.mpr (lv_pos x)).ne'
  unfold lr
  rw [← mul_inv, h, inv_mul_cancel₀ (lv_pos x).ne']

/-- The gradient of the normed row at `x`, for the cotangent `d`. -/
noncomputable def lnGrad (x d : ℕ → ℝ) (c : ℕ) : ℝ :=
  lr x * (d c - (∑ k ∈ range 1024, d k) / 1024 - cen x c * lr x * ((∑ k ∈ range 1024, d k * (cen x k * lr x)) / 1024))

/-- The same by the chain rule: through the scale, the variance and the mean. -/
theorem lnGrad_eq (x d : ℕ → ℝ) (c : ℕ) {B : ℝ} (hB : B = (∑ k ∈ range 1024, cen x k * d k) * (-1 / 2 * (lr x / lv x)) / 1024) :
    d c * lr x + B * (2 * cen x c) + ((∑ k ∈ range 1024, -(d k * lr x)) + ∑ k ∈ range 1024, -(B * (2 * cen x k))) / 1024 = lnGrad x d c := by
  have e : ∑ k ∈ range 1024, d k * (cen x k * lr x) = (∑ k ∈ range 1024, cen x k * d k) * lr x := by
    rw [sum_mul]; exact sum_congr rfl fun k _ => by ring
  have e3 : lr x / lv x = lr x * (lr x * lr x) := by
    rw [div_eq_iff (lv_pos x).ne', mul_assoc, lr_sq, mul_one]
  have e4 : ∑ k ∈ range 1024, -(B * (2 * cen x k)) = 0 := by
    simp only [sum_neg_distrib, ← mul_sum, sum_cen, mul_zero, neg_zero]
  have e5 : ∑ k ∈ range 1024, -(d k * lr x) = -((∑ k ∈ range 1024, d k) * lr x) := by
    simp only [sum_neg_distrib, ← sum_mul]
  unfold lnGrad
  rw [e, e4, e5, hB, e3]; ring

instance (f : ℕ → ℕ → ℝ) : Pos fun r _ => lv (f r) := ⟨fun r _ => lv_pos (f r)⟩
instance (f : ℕ → ℕ → ℝ) : Pos fun r _ => (∑ k ∈ range 1024, (f r k - (∑ k ∈ range 1024, f r k) / 1024) * (f r k - (∑ k ∈ range 1024, f r k) / 1024)) / 1024 + eps5 :=
  ⟨fun r _ => lv_pos (f r)⟩

end Cert.Reals
-- ==== Proof.RowsValue.lean ====
/- The values of the mixer's gradient kernel along the rows: what a point leaves, as reals. -/
module
public import proofs.«01_k».proof.Proof.RowsFrame
public import proofs.«01_k».proof.Proof.Fetched
public import proofs.«01_k».proof.Proof.Rms
public import proofs.«01_k».proof.Proof.Ln
@[expose] public section
namespace Cert.Kernel5Ideal.Gen
open Idealize.ShloMosaic Idealize.ShloMosaic.TcCoe Cert.Reals Finset

instance : Turned dot_S256x1024_S1024x1024_S256x1024_1_1_0_0_n_n := ⟨rfl⟩
instance : Turned dot_S256x256_S256x256_S256x256_1_1_0_0_n_n := ⟨rfl⟩

/-- One matrix of a stack, loaded. -/
instance {κ : Kind} {sp : Space} {K a b g : ℕ} {M : Memref sig κ sp ⟨3, ![K, a, b]⟩ .bf16} (h : M.IsWhole) (P : Vec Ideal ⟨3, ![K, a, b]⟩ .bf16) {f : ℕ → ℕ → ℕ → ℝ} [hP : Real3 P f] (inb)
    (hc : (⟨3, ![1, a, b]⟩ : Shape).ShapeCasts ⟨2, ![a, b]⟩) :
    Real2 (shapeCast (⟨2, ![a, b]⟩ : Shape) (View.readAt (Elt Ideal) M.view (Rect.unit (s := ⟨3, ![K, a, b]⟩) ![g, 0, 0] ![1, a, b] inb).toLoadRect (h.unread P)) hc) fun r c => f g r c :=
  ⟨fun i => by
    refine (shapeCast_apply _ hc i (ix3 ⟨0, Nat.one_pos⟩ (i 0) (i 1)) ?_).trans ?_
    · rw [Shape.rowMajor_val_two, Shape.rowMajor_val_three]
      show (0 * a + (i 0).val) * b + (i 1).val = (i 0).val * b + (i 1).val
      rw [Nat.zero_mul, Nat.zero_add]
    refine (h.readAt_unread P _ _).trans ((hP.entry _).trans (congrArg _ ?_))
    show f (g + 1 * 0) (0 + 1 * (i 0).val) (0 + 1 * (i 1).val) = f g (i 0).val (i 1).val
    simp only [Nat.mul_zero, Nat.add_zero, Nat.zero_add, Nat.one_mul]⟩

/-- The logistic function. -/
noncomputable def sg (x : ℝ) : ℝ := (1 + Real.exp (-x))⁻¹

/-- Rows of the cotangent, of the two gates' inputs, of the convolution's output, of the grouped map's and of the projected output. -/
structure Rows where
  d : ℕ → ℕ → ℝ
  zp : ℕ → ℕ → ℝ
  zc : ℕ → ℕ → ℝ
  c1 : ℕ → ℕ → ℝ
  q : ℕ → ℕ → ℝ
  cc : ℕ → ℕ → ℝ

/-- What is the same for all rows: the grouped map, the scale, the layer norm's gain and bias, the two weights. -/
structure Fixed where
  pw : ℕ → ℕ → ℕ → ℝ
  ps : ℕ → ℝ
  lg : ℕ → ℝ
  lb : ℕ → ℝ
  wco : ℕ → ℕ → ℝ
  wout : ℕ → ℕ → ℝ

/-- The rows from `n` on. -/
def Rows.from (X : Rows) (n : ℕ) : Rows :=
  ⟨fun r => X.d (n + r), fun r => X.zp (n + r), fun r => X.zc (n + r), fun r => X.c1 (n + r), fun r => X.q (n + r), fun r => X.cc (n + r)⟩

section
variable (X : Rows) (Y : Fixed) (r k : ℕ)
/-- The merged rows and their cotangent. -/
noncomputable def merged : ℝ := sg (X.zp r k) * (X.q r k * Y.ps k) + sg (X.zc r k) * X.cc r k
noncomputable def dm : ℝ := ∑ j ∈ range 1024, X.d r j * Y.wout k j
/-- The cotangents of the scaled map, of the map, of the projected output and of the two gates' inputs. -/
noncomputable def ds : ℝ := dm X Y r k * sg (X.zp r k)
noncomputable def dq : ℝ := ds X Y r k * Y.ps k
noncomputable def dcc : ℝ := dm X Y r k * sg (X.zc r k)
noncomputable def dzp : ℝ := dm X Y r k * (X.q r k * Y.ps k) * sg (X.zp r k) * (1 - sg (X.zp r k))
noncomputable def dzc : ℝ := dm X Y r k * X.cc r k * sg (X.zc r k) * (1 - sg (X.zc r k))
/-- The cotangent of the pooled rows, group by group. -/
noncomputable def dpool : ℝ := ∑ j ∈ range 256, dq X Y r (256 * (k / 256) + j) * Y.pw (k / 256) (k % 256) j
/-- The layer norm's output and the activation. -/
noncomputable def c2 : ℝ := cen (X.c1 r) k * lr (X.c1 r) * Y.lg k + Y.lb k
noncomputable def c3 : ℝ := c2 X Y r k * sg (c2 X Y r k)
/-- The cotangents of the layer norm's output and of its input. -/
noncomputable def dc2 : ℝ := (∑ j ∈ range 1024, dcc X Y r j * Y.wco k j) * (sg (c2 X Y r k) * (1 + c2 X Y r k * (1 - sg (c2 X Y r k))))
noncomputable def dc1 : ℝ := lnGrad (X.c1 r) (fun k => dc2 X Y r k * Y.lg k) k
/-- The two gates' inputs are side by side. -/
noncomputable def dzg : ℝ := if k < 1024 then dzp X Y r k else dzc X Y r (k - 1024)
/-- The rows whose sums are the gradients of the scale, of the layer norm's gain and bias and of the convolution's bias. -/
noncomputable def gps : ℝ := ds X Y r k * X.q r k
noncomputable def glg : ℝ := dc2 X Y r k * (cen (X.c1 r) k * lr (X.c1 r))
end

/-- A tile's rows added in eights. -/
noncomputable def eights (f : ℕ → ℕ → ℝ) (r k : ℕ) : ℝ := ∑ q ∈ range 32, f (8 * q + r) k

/-- The sums so far. -/
structure SumsReal (g : Sums Ideal) (A B C E : ℕ → ℕ → ℝ) : Prop where
  gps : Real2 g.gps A
  glg : Real2 g.glg B
  glb : Real2 g.glb C
  gcb : Real2 g.gcb E

/-- The stores of a point leave the gradients of its rows; the sums go on. -/
structure PointReal (L : Stores Ideal) (X : Rows) (Y : Fixed) (A B C E : ℕ → ℕ → ℝ) : Prop where
  m : Real2 (View.canon L.m : Vec Ideal S256x1024 .bf16) (merged X Y)
  dcc : Real2 (View.canon L.dcc : Vec Ideal S256x1024 .bf16) (dcc X Y)
  c3 : Real2 (View.canon L.c3 : Vec Ideal S256x1024 .bf16) (c3 X Y)
  dq : Real2 (View.canon L.dq : Vec Ideal S256x1024 .bf16) (dq X Y)
  dpool : Real2 (View.canon L.dpool : Vec Ideal S256x1024 .bf16) (dpool X Y)
  dc : Real2 (View.canon L.dc1 : Vec Ideal S256x1024 .bf16) (dc1 X Y)
  dzg : Real2 (View.canon L.dzg : Vec Ideal S256x2048 .bf16) (dzg X Y)
  gps : Real2 (View.canon L.gps : Vec Ideal S8x1024 .f32) fun r k => A r k + eights (gps X Y) r k
  glg : Real2 (View.canon L.glg : Vec Ideal S8x1024 .f32) fun r k => B r k + eights (glg X Y) r k
  glb : Real2 (View.canon L.glb : Vec Ideal S8x1024 .f32) fun r k => C r k + eights (dc2 X Y) r k
  gcb : Real2 (View.canon L.gcb : Vec Ideal S8x1024 .f32) fun r k => E r k + eights (dc1 X Y) r k

/-- The tiles hold the rows and what is the same for all. -/
class TilesReal (x : Tiles Ideal) (X : outParam Rows) (Y : Fixed) : Prop where
  d : Real2 x.d X.d
  zp : Real2 x.zp X.zp
  zc : Real2 x.zc X.zc
  c1 : Real2 x.c1 X.c1
  q : Real2 x.q X.q
  cc : Real2 x.cc X.cc
  pw : Real3 x.pw Y.pw
  ps : Real2 x.ps fun _ k => Y.ps k
  lg : Real2 x.lg fun _ k => Y.lg k
  lb : Real2 x.lb fun _ k => Y.lb k

section
variable (v87 v93 v103 v124 : Vec Ideal S256x1024 .f32) (v85 : Vec Ideal S256x1024 .bf16) (v96 v101 : Vec Ideal S256x1 .f32) (v104 v105 v108 : Vec Ideal S1x1024 .f32)
  (v116 : Vec Ideal S1024x1024 .bf16) {Z : ℕ → ℕ → ℝ} {G B : ℕ → ℕ → ℝ} {W V : ℕ → ℕ → ℝ} [Real2 v87 Z] [Real2 v104 G] [Real2 v108 B] [Real2 v85 W] [Real2 v116 V]

instance p29 : Real2 (k0_pay29 (F := Ideal) v87) fun r k => cen (Z r) k := by unfold k0_pay29; dsimp only; exact inferInstance
instance p30 : Real2 (k0_pay30 (F := Ideal) v87) fun r _ => ∑ k ∈ range 1024, cen (Z r) k * cen (Z r) k := by unfold k0_pay30; dsimp only; exact inferInstance
instance p31 [Real2 v96 fun r _ => ∑ k ∈ range 1024, cen (Z r) k * cen (Z r) k] : Real2 (k0_pay31 (F := Ideal) v96) fun r _ => lr (Z r) := by
  unfold k0_pay31
  dsimp only
  have : Pos fun r _ => (∑ k ∈ range 1024, cen (Z r) k * cen (Z r) k) / 1024 + eps5 := ⟨fun r _ => lv_pos (Z r)⟩
  exact inferInstance

section
variable [Real2 v93 fun r k => cen (Z r) k] [Real2 v96 fun r _ => ∑ k ∈ range 1024, cen (Z r) k * cen (Z r) k]
instance p32 : Real2 (k0_pay32 (F := Ideal) v93 v96) fun r k => cen (Z r) k * lr (Z r) := by unfold k0_pay32; dsimp only; exact inferInstance
instance p33 : Real2 (k0_pay33 (F := Ideal) v104) G := by unfold k0_pay33; dsimp only; exact inferInstance
instance p34 : Real2 (k0_pay34 (F := Ideal) v93 v96 v104 v108) fun r k => cen (Z r) k * lr (Z r) * G 0 k + B 0 k := by unfold k0_pay34; dsimp only; exact inferInstance
instance p35 : Real2 (k0_pay35 (F := Ideal) v93 v96 v104 v108) fun r k => sg (cen (Z r) k * lr (Z r) * G 0 k + B 0 k) := by unfold k0_pay35; dsimp only; exact inferInstance
instance p37 : Real2 (k0_pay37 (F := Ideal) v85 v93 v96 v104 v108 v116) fun r k => (∑ j ∈ range 1024, W r j * V k j) * (sg (cen (Z r) k * lr (Z r) * G 0 k + B 0 k)
    * (1 + (cen (Z r) k * lr (Z r) * G 0 k + B 0 k) * (1 - sg (cen (Z r) k * lr (Z r) * G 0 k + B 0 k)))) := by unfold k0_pay37; dsimp only; exact inferInstance
end

instance p2 [Real2 v101 fun r _ => lr (Z r)] [Real2 v103 fun r k => cen (Z r) k * lr (Z r)] [Real2 v105 G] [Real2 v124 W] :
    Real2 (k0_pay2 (F := Ideal) v101 v103 v105 v124) fun r k => lnGrad (Z r) (fun k => W r k * G 0 k) k := by unfold k0_pay2; dsimp only; exact inferInstance
end

variable (c : Dev nD) (i : grid0.Coords) (s : Stage) (x : Tiles Ideal) {X : Rows} {Y : Fixed} (hx : TilesReal x X Y)
include hx

section
variable (hc : ¬cond0_0 i) (p : Sums Ideal) (wt : Weights Ideal) {A B C E : ℕ → ℕ → ℝ} (hp : SumsReal p A B C E) (hco : Real2 wt.wco Y.wco) (hout : Real2 wt.wout Y.wout)
include hp hco hout

set_option synthInstance.maxSize 10000 in
set_option synthInstance.maxHeartbeats 400000 in
theorem next_real : PointReal (runNext c i hc s x p wt).1 X Y A B C E := by
  obtain ⟨_, _, _, _, _, _, _, _, _, _⟩ := hx
  obtain ⟨_, _, _, _⟩ := hp
  dsimp only [runNext]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay36, k0_pay38, k0_pay39, k0_pay40, runNext.sl.H13_1, runNext.sl.r,
    runNext.sl.r_1, runNext.sl.r_10, runNext.sl.r_11, runNext.sl.r_12, runNext.sl.r_13, runNext.sl.r_14, runNext.sl.r_15, runNext.sl.r_16, runNext.sl.r_17, runNext.sl.r_2,
    runNext.sl.r_3, runNext.sl.r_4, runNext.sl.r_5, runNext.sl.r_6, runNext.sl.r_7, runNext.sl.r_8, runNext.sl.r_9, runNext.sl.v0, runNext.sl.v1, runNext.sl.v2,
    runNext.sl.v56, runNext.sl.v63, runNext.sl.v70, runNext.sl.v77]
  refine PointReal.mk ?_ ?_ ?_ ?_ ?_ ?_ ?_ ?_ ?_ ?_ ?_ <;> dsimp only
  · refine Real2.of_eq inferInstance fun r k _ _ => ?_
    simp only [merged, sg, Nat.zero_add, zero_add]
  · refine Real2.of_eq inferInstance fun r k _ _ => ?_
    simp only [dcc, dm, sg, Nat.zero_add, zero_add]
  · refine Real2.of_eq inferInstance fun r k _ _ => ?_
    simp only [c3, c2, Nat.zero_add, zero_add]
  · refine Real2.of_eq inferInstance fun r k _ _ => ?_
    simp only [dq, ds, dm, sg, Nat.zero_add, zero_add]
  · refine canon_real _ ?_ fun y => View.cover_of_tiledL _ ![256, 256] (by sl_kernel_rfl) y
    simp only [List.forall_mem_cons]
    refine ⟨?_, ?_, ?_, ?_, fun p hp => absurd hp List.not_mem_nil⟩
    all_goals refine column inferInstance _ fun r q hq => ?_
    all_goals simp only [dpool, dq, ds, dm, sg, Nat.zero_add, zero_add, show (768 + q) / 256 = 3 by omega, show (512 + q) / 256 = 2 by omega,
      show (256 + q) / 256 = 1 by omega, show q / 256 = 0 by omega, show (768 + q) % 256 = q by omega, show (512 + q) % 256 = q by omega, show (256 + q) % 256 = q by omega,
      show q % 256 = q by omega, Nat.mul_zero, Nat.reduceMul]
  · refine Real2.of_eq inferInstance fun r k _ _ => ?_
    simp only [dc1, dc2, dcc, dm, c2, sg, Nat.zero_add, zero_add]
  · refine canon_real _ ?_ fun y => View.cover_of_tiledL _ ![256, 1024] (by sl_kernel_rfl) y
    simp only [List.forall_mem_cons]
    refine ⟨?_, ?_, fun p hp => absurd hp List.not_mem_nil⟩
    · refine column inferInstance _ fun r q hq => ?_
      simp only [dzg, dzc, dm, sg, Nat.zero_add, zero_add, if_neg (show ¬1024 + q < 1024 by omega), Nat.add_sub_cancel_left]
    · refine column inferInstance _ fun r q hq => ?_
      simp only [dzg, dzp, dm, sg, Nat.zero_add, zero_add, if_pos hq]
  · refine Real2.of_eq inferInstance fun r k _ _ => ?_
    simp only [eights, gps, ds, dm, sg, Nat.zero_add, zero_add]
  · refine Real2.of_eq inferInstance fun r k _ _ => ?_
    simp only [eights, glg, dc2, dcc, dm, c2, sg, Nat.zero_add, zero_add]
  · refine Real2.of_eq inferInstance fun r k _ _ => ?_
    simp only [eights, dc2, dcc, dm, c2, sg, Nat.zero_add, zero_add]
  · refine Real2.of_eq inferInstance fun r k _ _ => ?_
    simp only [eights, dc1, dc2, dcc, dm, c2, sg, Nat.zero_add, zero_add]
end

section
variable (hc : cond0_0 i) (fh : HbBuf0 (F := Ideal) c hbM0_0) {P : ℕ → ℕ → ℕ → ℝ} [hP : Real3 (fh : Vec Ideal S8x448x1024 .bf16) P]

omit hx in
/-- The fetches leave the two weights, one device's rows under the other's. -/
theorem first_weights : Real2 (View.canon (runFirst c i hc s x fh).2.1.wco : Vec Ideal S1024x1024 .bf16) (under 128 0 P)
    ∧ Real2 (View.canon (runFirst c i hc s x fh).2.1.wout : Vec Ideal S1024x1024 .bf16) (under 128 128 P) := by
  refine ⟨?_, ?_⟩
  all_goals refine canon_real _ ?_ fun y => View.cover_of_tiledL _ ![128, 1024] (by sl_kernel_rfl) y
  all_goals dsimp only [runFirst]
  all_goals simp only [List.forall_mem_cons]
  all_goals refine ⟨?_, ?_, ?_, ?_, ?_, ?_, ?_, ?_, fun p hp => absurd hp List.not_mem_nil⟩
  all_goals exact piece (Memref.whole main_v4) fh hP _ _ _ _ rfl

set_option synthInstance.maxSize 10000 in
set_option synthInstance.maxHeartbeats 400000 in
theorem first_real (eco : under 128 0 P = Y.wco) (eout : under 128 128 P = Y.wout) : PointReal (runFirst c i hc s x fh).1 X Y (fun _ _ => 0) (fun _ _ => 0) (fun _ _ => 0) fun _ _ => 0 := by
  obtain ⟨hco, hout⟩ := first_weights c i s x hc fh (P := P)
  rw [eco] at hco
  rw [eout] at hout
  obtain ⟨_, _, _, _, _, _, _, _, _, _⟩ := hx
  dsimp only [runFirst] at hco hout ⊢
  simp only [k0_pay1, k0_pay3, k0_pay4, k0_pay5, k0_pay6, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay36, k0_pay38, k0_pay39, k0_pay40, runFirst.sl.H13_1,
    runFirst.sl.H17_1, runFirst.sl.H18_1, runFirst.sl.H19_1, runFirst.sl.H20_1, runFirst.sl.r, runFirst.sl.r_1, runFirst.sl.r_10, runFirst.sl.r_11, runFirst.sl.r_12,
    runFirst.sl.r_13, runFirst.sl.r_14, runFirst.sl.r_15, runFirst.sl.r_16, runFirst.sl.r_17, runFirst.sl.r_2, runFirst.sl.r_3, runFirst.sl.r_4, runFirst.sl.r_5,
    runFirst.sl.r_6, runFirst.sl.r_7, runFirst.sl.r_8, runFirst.sl.r_9, runFirst.sl.v0, runFirst.sl.v1, runFirst.sl.v116, runFirst.sl.v125, runFirst.sl.v132, runFirst.sl.v158,
    runFirst.sl.v2, runFirst.sl.v45, runFirst.sl.v5, runFirst.sl.v56, runFirst.sl.v63, runFirst.sl.v70, runFirst.sl.v77]
  refine PointReal.mk ?_ ?_ ?_ ?_ ?_ ?_ ?_ ?_ ?_ ?_ ?_ <;> dsimp only
  · refine Real2.of_eq inferInstance fun r k _ _ => ?_
    simp only [merged, sg, Nat.zero_add, zero_add]
  · refine Real2.of_eq inferInstance fun r k _ _ => ?_
    simp only [dcc, dm, sg, Nat.zero_add, zero_add]
  · refine Real2.of_eq inferInstance fun r k _ _ => ?_
    simp only [c3, c2, Nat.zero_add, zero_add]
  · refine Real2.of_eq inferInstance fun r k _ _ => ?_
    simp only [dq, ds, dm, sg, Nat.zero_add, zero_add]
  · refine canon_real _ ?_ fun y => View.cover_of_tiledL _ ![256, 256] (by sl_kernel_rfl) y
    simp only [List.forall_mem_cons]
    refine ⟨?_, ?_, ?_, ?_, fun p hp => absurd hp List.not_mem_nil⟩
    all_goals refine column inferInstance _ fun r q hq => ?_
    all_goals simp only [dpool, dq, ds, dm, sg, Nat.zero_add, zero_add, show (768 + q) / 256 = 3 by omega, show (512 + q) / 256 = 2 by omega,
      show (256 + q) / 256 = 1 by omega, show q / 256 = 0 by omega, show (768 + q) % 256 = q by omega, show (512 + q) % 256 = q by omega, show (256 + q) % 256 = q by omega,
      show q % 256 = q by omega, Nat.mul_zero, Nat.reduceMul]
  · refine Real2.of_eq inferInstance fun r k _ _ => ?_
    simp only [dc1, dc2, dcc, dm, c2, sg, Nat.zero_add, zero_add]
  · refine canon_real _ ?_ fun y => View.cover_of_tiledL _ ![256, 1024] (by sl_kernel_rfl) y
    simp only [List.forall_mem_cons]
    refine ⟨?_, ?_, fun p hp => absurd hp List.not_mem_nil⟩
    · refine column inferInstance _ fun r q hq => ?_
      simp only [dzg, dzc, dm, sg, Nat.zero_add, zero_add, if_neg (show ¬1024 + q < 1024 by omega), Nat.add_sub_cancel_left]
    · refine column inferInstance _ fun r q hq => ?_
      simp only [dzg, dzp, dm, sg, Nat.zero_add, zero_add, if_pos hq]
  · refine Real2.of_eq inferInstance fun r k _ _ => ?_
    simp only [eights, gps, ds, dm, sg, Nat.zero_add, zero_add]
  · refine Real2.of_eq inferInstance fun r k _ _ => ?_
    simp only [eights, glg, dc2, dcc, dm, c2, sg, Nat.zero_add, zero_add]
  · refine Real2.of_eq inferInstance fun r k _ _ => ?_
    simp only [eights, dc2, dcc, dm, c2, sg, Nat.zero_add, zero_add]
  · refine Real2.of_eq inferInstance fun r k _ _ => ?_
    simp only [eights, dc1, dc2, dcc, dm, c2, sg, Nat.zero_add, zero_add]
end
end Cert.Kernel5Ideal.Gen
-- ==== Proof.RowsFinal.lean ====
/- What the mixer's gradient kernel along the rows leaves, as reals of the arguments. -/
module
public import proofs.«01_k».proof.Proof.RowsValue
public import proofs.«01_k».proof.Proof.HostReals
public import proofs.«01_k».proof.Proof.Finite
public import Idealize.ShloMosaic.Lib.Pipeline.ValueKit.Geometry
public import Idealize.ShloMosaic.Lib.StableHlo.ReadAt
@[expose] public section
namespace Cert.Kernel5Ideal.Gen
open Idealize.ShloMosaic Idealize.ShloMosaic.TcCoe Cert.Reals Finset

instance : Plain dot_S8192x1024_S1024x1024_S8192x1024_1_0_0_1_n_n := ⟨rfl⟩

/-- A row through the grouped map. -/
noncomputable def grouped (f : ℕ → ℕ → ℝ) (w : ℕ → ℕ → ℕ → ℝ) (r k : ℕ) : ℝ := ∑ q ∈ range 256, w (k / 256) q (k % 256) * f r (256 * (k / 256) + q)

/-- The host's grouped map, read in place. -/
theorem grouped_real {m n : ℕ} (w : (⟨3, ![n, 256, 256]⟩ : Shape).Idx → EReal) (x : (⟨2, ![m, 1024]⟩ : Shape).Idx → EReal) {W : ℕ → ℕ → ℕ → ℝ} {f : ℕ → ℕ → ℝ} [hw : Real3 w W] [hx : Real2 x f]
    (h1 : ∀ i : (⟨2, ![m, 1024]⟩ : Shape).Idx, (i 1).val / 256 < n) (h2 : ∀ i : (⟨2, ![m, 1024]⟩ : Shape).Idx, (i 1).val % 256 < 256)
    (h3 : ∀ (i : (⟨2, ![m, 1024]⟩ : Shape).Idx) (q : Fin 256), (i 1).val / 256 * 256 + q.val < 1024) :
    Real2 (fun i : (⟨2, ![m, 1024]⟩ : Shape).Idx => ∑ q : Fin 256, w (ix3 ⟨(i 1).val / 256, h1 i⟩ q ⟨(i 1).val % 256, h2 i⟩) * x (ix2 (i 0) ⟨(i 1).val / 256 * 256 + q.val, h3 i q⟩)) (grouped f W) :=
  ⟨fun i => coe_fin (fun q => W ((i 1).val / 256) q ((i 1).val % 256) * f (i 0).val (256 * ((i 1).val / 256) + q)) fun q => by
    rw [hw.entry, hx.entry, ← EReal.coe_mul, Nat.mul_comm 256]; rfl⟩

/-- The rows of the arguments, their forward lines computed. -/
noncomputable def rowsOf (P C Z D : ℕ → ℕ → ℝ) (Y : Fixed) : Rows where
  d := D
  zp r k := Z r (3072 + k)
  zc r k := Z r (4096 + k)
  c1 := C
  q := grouped P Y.pw
  cc r k := ∑ j ∈ range 1024, c3 ⟨D, D, D, C, D, D⟩ Y r j * Y.wco j k

/-- What a point leaves, as reals. -/
structure LeftReal (l : Left Ideal) (X : Rows) (Y : Fixed) (A B C E : ℕ → ℕ → ℝ) : Prop where
  m : Real2 l.m (merged X Y)
  dcc : Real2 l.dcc (dcc X Y)
  c3 : Real2 l.c3 (c3 X Y)
  dq : Real2 l.dq (dq X Y)
  dpool : Real2 l.dpool (dpool X Y)
  dc : Real2 l.dc1 (dc1 X Y)
  dzg : Real2 l.dzg (dzg X Y)
  sums : SumsReal l.sums (fun r k => A r k + eights (gps X Y) r k) (fun r k => B r k + eights (glg X Y) r k) (fun r k => C r k + eights (dc2 X Y) r k) fun r k => E r k + eights (dc1 X Y) r k
  wco : Real2 l.wt.wco Y.wco
  wout : Real2 l.wt.wout Y.wout

theorem PointReal.left {L : Stores Ideal} {w : Weights Ideal} {X : Rows} {Y : Fixed} {A B C E : ℕ → ℕ → ℝ} (h : PointReal L X Y A B C E)
    (hco : Real2 w.wco Y.wco) (hout : Real2 w.wout Y.wout) : LeftReal (L.left w) X Y A B C E :=
  ⟨h.m, h.dcc, h.c3, h.dq, h.dpool, h.dc, h.dzg, ⟨h.gps, h.glg, h.glb, h.gcb⟩, hco, hout⟩

section
variable (c : Dev nD) (i : grid0.Coords) (s : Stage) (x : Tiles Ideal) {X : Rows} {Y : Fixed} (hx : TilesReal x X Y) {A B C E : ℕ → ℕ → ℝ}
include hx

theorem leftFirst_real (hc : cond0_0 i) (fh : HbBuf0 (F := Ideal) c hbM0_0) {P : ℕ → ℕ → ℕ → ℝ} [hP : Real3 (fh : Vec Ideal S8x448x1024 .bf16) P]
    (eco : under 128 0 P = Y.wco) (eout : under 128 128 P = Y.wout) :
    LeftReal (leftFirst c i hc s x fh) X Y (fun _ _ => 0) (fun _ _ => 0) (fun _ _ => 0) fun _ _ => 0 := by
  obtain ⟨hco, hout⟩ := first_weights c i s x hc fh (P := P)
  have p := first_real c i s x hx hc fh (P := P) eco eout
  rw [eco] at hco
  rw [eout] at hout
  unfold leftFirst
  generalize runFirst c i hc s x fh = R at p hco hout ⊢
  exact p.left hco hout

theorem leftNext_real (hc : ¬cond0_0 i) (p : Left Ideal) (hp : SumsReal p.sums A B C E) (hco : Real2 p.wt.wco Y.wco) (hout : Real2 p.wt.wout Y.wout) :
    LeftReal (leftNext c i hc s x p) X Y A B C E := by
  unfold leftNext
  exact (next_real c i s x hx hc p.sums p.wt hp hco hout).left hco hout
end

variable (m : (ℓ : Loc nD τ sig) → Buf (Elt Ideal) ℓ) (c : Dev nD)

/-- The arguments have real entries. -/
structure ArgsReal (P C Z D : ℕ → ℕ → ℝ) (Y : Fixed) : Prop where
  pooled : Real2 (m ((c : Thread nD τ).loc main_arg0) : Vec Ideal S8192x1024 .f32) P
  c1 : Real2 (m ((c : Thread nD τ).loc main_arg1) : Vec Ideal S8192x1024 .f32) C
  z : Real2 (m ((c : Thread nD τ).loc main_arg2) : Vec Ideal S8192x5120 .f32) Z
  pw : Real3 (m ((c : Thread nD τ).loc main_arg3) : Vec Ideal S4x256x256 .f32) Y.pw
  ps : Real1 (m ((c : Thread nD τ).loc main_arg4) : Vec Ideal S1024 .f32) Y.ps
  lg : Real1 (m ((c : Thread nD τ).loc main_arg5) : Vec Ideal S1024 .f32) Y.lg
  lb : Real1 (m ((c : Thread nD τ).loc main_arg6) : Vec Ideal S1024 .f32) Y.lb
  wco : Real2 (m ((c : Thread nD τ).loc main_arg7) : Vec Ideal S1024x1024 .f32) Y.wco
  wout : Real2 (m ((c : Thread nD τ).loc main_arg8) : Vec Ideal S1024x1024 .f32) Y.wout
  d : Real2 (m ((c : Thread nD τ).loc main_arg9) : Vec Ideal S8192x1024 .f32) D

variable {P C Z D : ℕ → ℕ → ℝ} {Y : Fixed} (h : ArgsReal m c P C Z D Y)

theorem idx : ∀ t : Fin grid0.N, win0_0.index t = ![t.val, 0] ∧ win0_1.index t = ![t.val, 3] ∧ win0_2.index t = ![t.val, 4] ∧ win0_3.index t = ![t.val, 0] ∧ win0_4.index t = ![t.val, 0] ∧ win0_5.index t = ![t.val, 0] ∧ win0_6.index t = ![0, 0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![0, 0] ∧ win0_18.index t = ![0, 0] ∧ win0_19.index t = ![0, 0] ∧ win0_20.index t = ![0, 0] := by decide +kernel

include h

theorem tile0 (t : Fin cfg0.N) : Real2 (iblk m c 0 t : Vec Ideal S256x1024 .f32) fun r k => D (256 * t.val + r) k := by
  have h' : Real2 (V m c main_arg9 : Vec Ideal S8192x1024 .f32) D := by
    unfold V V0
    after_reads_at
    exact h.d
  exact rows_real h' _ _ (win0_0.blk t).view.emb (fun _ => rfl) (fun j => by blk_simp [idx t] <;> dsimp <;> omega) fun j => by blk_simp [idx t] <;> dsimp <;> omega

theorem tile1 (t : Fin cfg0.N) : Real2 (iblk m c 1 t : Vec Ideal S256x1024 .bf16) fun r k => Z (256 * t.val + r) (3072 + k) := by
  have h' : Real2 (V m c main_v35 : Vec Ideal S8192x5120 .bf16) Z := by
    unfold V V0
    after_reads_at
    have := h.z
    infer_instance
  exact box_real h' _ _ 3072 (win0_1.blk t).view.emb (fun _ => rfl) (fun j => by blk_simp [idx t] <;> dsimp <;> omega) fun j => by blk_simp [idx t] <;> dsimp <;> omega

theorem tile2 (t : Fin cfg0.N) : Real2 (iblk m c 2 t : Vec Ideal S256x1024 .bf16) fun r k => Z (256 * t.val + r) (4096 + k) := by
  have h' : Real2 (V m c main_v35 : Vec Ideal S8192x5120 .bf16) Z := by
    unfold V V0
    after_reads_at
    have := h.z
    infer_instance
  exact box_real h' _ _ 4096 (win0_2.blk t).view.emb (fun _ => rfl) (fun j => by blk_simp [idx t] <;> dsimp <;> omega) fun j => by blk_simp [idx t] <;> dsimp <;> omega

theorem tile3 (t : Fin cfg0.N) : Real2 (iblk m c 3 t : Vec Ideal S256x1024 .f32) fun r k => C (256 * t.val + r) k := by
  have h' : Real2 (V m c main_arg1 : Vec Ideal S8192x1024 .f32) C := by
    unfold V V0
    after_reads_at
    exact h.c1
  exact rows_real h' _ _ (win0_3.blk t).view.emb (fun _ => rfl) (fun j => by blk_simp [idx t] <;> dsimp <;> omega) fun j => by blk_simp [idx t] <;> dsimp <;> omega

theorem tile4 (t : Fin cfg0.N) : Real2 (iblk m c 4 t : Vec Ideal S256x1024 .bf16) fun r k => grouped P Y.pw (256 * t.val + r) k := by
  have h' : Real2 (V m c main_v36 : Vec Ideal S8192x1024 .bf16) (grouped P Y.pw) := by
    unfold V V0
    after_reads_at
    have hw : Real3 (m (c, Proc.tc.devRef main_arg3) : (⟨3, ![4, 256, 256]⟩ : Shape).Idx → EReal) Y.pw := h.pw
    have hx : Real2 (m (c, Proc.tc.devRef main_arg0) : (⟨2, ![8192, 1024]⟩ : Shape).Idx → EReal) P := h.pooled
    have := grouped_real (hw := hw) (hx := hx) _ _ (by intro i; have : (i 1).val < 1024 := (i 1).isLt; omega) (by intro i; omega) (by intro i q; have : (i 1).val < 1024 := (i 1).isLt; omega)
    refine ⟨fun i => Eq.trans ?_ (this.entry i)⟩
    unfold truncf
    rfl
  exact rows_real h' _ _ (win0_4.blk t).view.emb (fun _ => rfl) (fun j => by blk_simp [idx t] <;> dsimp <;> omega) fun j => by blk_simp [idx t] <;> dsimp <;> omega

set_option synthInstance.maxSize 10000 in
set_option synthInstance.maxHeartbeats 400000 in
theorem tile5 (t : Fin cfg0.N) : Real2 (iblk m c 5 t : Vec Ideal S256x1024 .bf16) fun r k => (rowsOf P C Z D Y).cc (256 * t.val + r) k := by
  have h' : Real2 (V m c main_v37 : Vec Ideal S8192x1024 .bf16) (rowsOf P C Z D Y).cc := by
    unfold V V0
    after_reads_at
    obtain ⟨_, _, _, _, _, _, _, _, _, _⟩ := h
    exact Real2.of_eq inferInstance fun r k _ _ => by simp only [rowsOf, c3, c2, sg, lr, lv, cen, mean, one_div]
  exact rows_real h' _ _ (win0_5.blk t).view.emb (fun _ => rfl) (fun j => by blk_simp [idx t] <;> dsimp <;> omega) fun j => by blk_simp [idx t] <;> dsimp <;> omega

theorem tile7 (t : Fin cfg0.N) : Real2 (iblk m c 7 t : Vec Ideal S1x1024 .f32) fun _ k => Y.ps k := by
  have h' : Real2 (V m c main_v39 : Vec Ideal S1x1024 .f32) fun _ k => Y.ps k := by
    unfold V V0
    after_reads_at
    have := h.ps
    infer_instance
  exact rows_real h' _ 0 (win0_7.blk t).view.emb (fun _ => rfl) (fun j => by blk_simp [idx t] <;> dsimp <;> omega) fun j => by blk_simp [idx t] <;> dsimp <;> omega

theorem tile8 (t : Fin cfg0.N) : Real2 (iblk m c 8 t : Vec Ideal S1x1024 .f32) fun _ k => Y.lg k := by
  have h' : Real2 (V m c main_v40 : Vec Ideal S1x1024 .f32) fun _ k => Y.lg k := by
    unfold V V0
    after_reads_at
    have := h.lg
    infer_instance
  exact rows_real h' _ 0 (win0_8.blk t).view.emb (fun _ => rfl) (fun j => by blk_simp [idx t] <;> dsimp <;> omega) fun j => by blk_simp [idx t] <;> dsimp <;> omega

theorem tile9 (t : Fin cfg0.N) : Real2 (iblk m c 9 t : Vec Ideal S1x1024 .f32) fun _ k => Y.lb k := by
  have h' : Real2 (V m c main_v41 : Vec Ideal S1x1024 .f32) fun _ k => Y.lb k := by
    unfold V V0
    after_reads_at
    have := h.lb
    infer_instance
  exact rows_real h' _ 0 (win0_9.blk t).view.emb (fun _ => rfl) (fun j => by blk_simp [idx t] <;> dsimp <;> omega) fun j => by blk_simp [idx t] <;> dsimp <;> omega

theorem tile6 (t : Fin cfg0.N) : Real3 (iblk m c 6 t : Vec Ideal S4x256x256 .bf16) Y.pw := by
  have h' : Real3 (V m c main_v38 : Vec Ideal S4x256x256 .bf16) Y.pw := by
    unfold V V0
    after_reads_at
    exact ⟨h.pw.entry⟩
  refine ⟨fun j => (h'.entry ((win0_6.blk t).view.emb j)).trans ?_⟩
  have e0 : ((win0_6.blk t).view.emb j 0).val = (j 0).val := by blk_simp [idx t] <;> dsimp <;> omega
  have e1 : ((win0_6.blk t).view.emb j 1).val = (j 1).val := by blk_simp [idx t] <;> dsimp <;> omega
  have e2 : ((win0_6.blk t).view.emb j 2).val = (j 2).val := by blk_simp [idx t] <;> dsimp <;> omega
  rw [e0, e1, e2]

theorem tilesAt_real (t : Fin cfg0.N) : TilesReal (tilesAt m c t) ((rowsOf P C Z D Y).from (256 * t.val)) Y :=
  by
  refine TilesReal.mk ?_ ?_ ?_ ?_ ?_ ?_ ?_ ?_ ?_ ?_ <;> dsimp only [Rows.from]
  · exact tile0 m c h t
  · exact tile1 m c h t
  · exact tile2 m c h t
  · exact tile3 m c h t
  · exact tile4 m c h t
  · exact tile5 m c h t
  · exact tile6 m c h t
  · exact tile7 m c h t
  · exact tile8 m c h t
  · exact tile9 m c h t

omit h in
/-- The two weights' pieces, one under the other, and zeros. -/
def pieces (wco wout : ℕ → ℕ → ℝ) (l r k : ℕ) : ℝ := if r < 128 then wco (128 * l + r) k else if r < 128 + 128 then wout (128 * l + (r - 128)) k else 0

theorem stack : Real3 (V m c main_v4 : Vec Ideal S8x448x1024 .bf16) (pieces Y.wco Y.wout) := by
  unfold V V0
  after_reads_at
  have := h.wco
  have := h.wout
  have a : Real3 (StableHlo.upto [hostOps0, hostOps0_1, hostOps0_2].flatten (fun b => m (c, b)) 4 (Proc.tc.devRef main_v0) : Vec Ideal S8x128x1024 .f32) fun l r k => Y.wco (128 * l + r) k := by
    after_reads_at
    infer_instance
  have b : Real3 (StableHlo.upto [hostOps0, hostOps0_1, hostOps0_2].flatten (fun b => m (c, b)) 4 (Proc.tc.devRef main_v1) : Vec Ideal S8x128x1024 .f32) fun l r k => Y.wout (128 * l + r) k := by
    after_reads_at
    infer_instance
  have e : Real3 (StableHlo.upto [hostOps0, hostOps0_1, hostOps0_2].flatten (fun b => m (c, b)) 4 (Proc.tc.devRef main_v2) : Vec Ideal S8x192x1024 .f32) fun _ _ _ => 0 := by
    after_reads_at
    infer_instance
  refine ⟨fun i => (stacked a b e (N := 448) rfl ?_).entry i⟩
  dsimp only [List.map]
  decide

omit h in
theorem under_co {wco wout : ℕ → ℕ → ℝ} : under 128 0 (pieces wco wout) = wco := by
  funext q k
  have : q % 128 < 128 := Nat.mod_lt _ (by omega)
  simp only [under, pieces, Nat.zero_add, if_pos this, Nat.div_add_mod]
omit h in
theorem under_out {wco wout : ℕ → ℕ → ℝ} : under 128 128 (pieces wco wout) = wout := by
  funext q k
  have : q % 128 < 128 := Nat.mod_lt _ (by omega)
  simp only [under, pieces, if_neg (show ¬128 + q % 128 < 128 by omega), if_pos (show 128 + q % 128 < 128 + 128 by omega), Nat.add_sub_cancel_left, Nat.div_add_mod]

omit h in
/-- The first `n` tiles' rows added in eights. -/
noncomputable def sumTo (f : Rows → Fixed → ℕ → ℕ → ℝ) (X : Rows) (Y : Fixed) (n r k : ℕ) : ℝ := ∑ t ∈ range n, eights (f (X.from (256 * t)) Y) r k
omit h in
theorem sumTo_succ (f : Rows → Fixed → ℕ → ℕ → ℝ) (X : Rows) (Y : Fixed) (n : ℕ) :
    (fun r k => sumTo f X Y n r k + eights (f (X.from (256 * n)) Y) r k) = sumTo f X Y (n + 1) := by
  funext r k
  exact (sum_range_succ _ n).symm

set_option maxHeartbeats 1000000 in
/-- What point `n` leaves. -/
theorem leftAt_real : ∀ (n : ℕ) (hn : n < cfg0.N), LeftReal (leftAt m c n hn) ((rowsOf P C Z D Y).from (256 * n)) Y (sumTo gps (rowsOf P C Z D Y) Y n) (sumTo glg (rowsOf P C Z D Y) Y n)
    (sumTo dc2 (rowsOf P C Z D Y) Y n) (sumTo dc1 (rowsOf P C Z D Y) Y n) := by
  intro n
  induction n with
  | zero =>
    intro hn
    have k := stack m c h
    exact leftFirst_real c _ (stageAt ⟨0, hn⟩) (tilesAt m c ⟨0, hn⟩) (tilesAt_real m c h ⟨0, hn⟩) (first_at hn) (V m c main_v4) under_co under_out
  | succ n ih =>
    intro hn
    obtain ⟨_, _, _, _, _, _, _, p, q, u⟩ := ih (Nat.lt_of_succ_lt hn)
    simp only [sumTo_succ] at p
    exact leftNext_real c _ (stageAt ⟨n + 1, hn⟩) (tilesAt m c ⟨n + 1, hn⟩) (tilesAt_real m c h ⟨n + 1, hn⟩) (next_at n hn) (leftAt m c n (Nat.lt_of_succ_lt hn)) p q u

/-- The merged rows. -/
theorem final10 : Real2 ((dats m 0 c).arrAt 10 cfg0.N : Vec Ideal S8192x1024 .bf16) (merged (rowsOf P C Z D Y) Y) := by
  refine ⟨fun i => (dats m 0 c).arrAt_forall_of_covers 10 (fun i v => v = (((merged (rowsOf P C Z D Y) Y) (i 0).val (i 1).val : ℝ) : EReal)) (by decide +kernel) (fun t hf y => ?_) i⟩
  refine ((leftAt_real m c h t.val t.isLt).m.entry y).trans ?_
  show (((merged (rowsOf P C Z D Y) Y) (256 * t.val + (y 0).val) (y 1).val : ℝ) : EReal) = _
  blk_simp [idx t]
  simp only [Nat.mul_comm 256]

/-- The cotangent of the projected output. -/
theorem final11 : Real2 ((dats m 0 c).arrAt 11 cfg0.N : Vec Ideal S8192x1024 .bf16) (dcc (rowsOf P C Z D Y) Y) := by
  refine ⟨fun i => (dats m 0 c).arrAt_forall_of_covers 11 (fun i v => v = (((dcc (rowsOf P C Z D Y) Y) (i 0).val (i 1).val : ℝ) : EReal)) (by decide +kernel) (fun t hf y => ?_) i⟩
  refine ((leftAt_real m c h t.val t.isLt).dcc.entry y).trans ?_
  show (((dcc (rowsOf P C Z D Y) Y) (256 * t.val + (y 0).val) (y 1).val : ℝ) : EReal) = _
  blk_simp [idx t]
  simp only [Nat.mul_comm 256]

/-- The activation. -/
theorem final12 : Real2 ((dats m 0 c).arrAt 12 cfg0.N : Vec Ideal S8192x1024 .bf16) (c3 (rowsOf P C Z D Y) Y) := by
  refine ⟨fun i => (dats m 0 c).arrAt_forall_of_covers 12 (fun i v => v = (((c3 (rowsOf P C Z D Y) Y) (i 0).val (i 1).val : ℝ) : EReal)) (by decide +kernel) (fun t hf y => ?_) i⟩
  refine ((leftAt_real m c h t.val t.isLt).c3.entry y).trans ?_
  show (((c3 (rowsOf P C Z D Y) Y) (256 * t.val + (y 0).val) (y 1).val : ℝ) : EReal) = _
  blk_simp [idx t]
  simp only [Nat.mul_comm 256]

/-- The cotangent of the grouped map. -/
theorem final13 : Real2 ((dats m 0 c).arrAt 13 cfg0.N : Vec Ideal S8192x1024 .bf16) (dq (rowsOf P C Z D Y) Y) := by
  refine ⟨fun i => (dats m 0 c).arrAt_forall_of_covers 13 (fun i v => v = (((dq (rowsOf P C Z D Y) Y) (i 0).val (i 1).val : ℝ) : EReal)) (by decide +kernel) (fun t hf y => ?_) i⟩
  refine ((leftAt_real m c h t.val t.isLt).dq.entry y).trans ?_
  show (((dq (rowsOf P C Z D Y) Y) (256 * t.val + (y 0).val) (y 1).val : ℝ) : EReal) = _
  blk_simp [idx t]
  simp only [Nat.mul_comm 256]

/-- The gradient of the pooled rows. -/
theorem final14 : Real2 ((dats m 0 c).arrAt 14 cfg0.N : Vec Ideal S8192x1024 .bf16) (dpool (rowsOf P C Z D Y) Y) := by
  refine ⟨fun i => (dats m 0 c).arrAt_forall_of_covers 14 (fun i v => v = (((dpool (rowsOf P C Z D Y) Y) (i 0).val (i 1).val : ℝ) : EReal)) (by decide +kernel) (fun t hf y => ?_) i⟩
  refine ((leftAt_real m c h t.val t.isLt).dpool.entry y).trans ?_
  show (((dpool (rowsOf P C Z D Y) Y) (256 * t.val + (y 0).val) (y 1).val : ℝ) : EReal) = _
  blk_simp [idx t]
  simp only [Nat.mul_comm 256]

/-- The gradient of the convolution's output. -/
theorem final15 : Real2 ((dats m 0 c).arrAt 15 cfg0.N : Vec Ideal S8192x1024 .bf16) (dc1 (rowsOf P C Z D Y) Y) := by
  refine ⟨fun i => (dats m 0 c).arrAt_forall_of_covers 15 (fun i v => v = (((dc1 (rowsOf P C Z D Y) Y) (i 0).val (i 1).val : ℝ) : EReal)) (by decide +kernel) (fun t hf y => ?_) i⟩
  refine ((leftAt_real m c h t.val t.isLt).dc.entry y).trans ?_
  show (((dc1 (rowsOf P C Z D Y) Y) (256 * t.val + (y 0).val) (y 1).val : ℝ) : EReal) = _
  blk_simp [idx t]
  simp only [Nat.mul_comm 256]

/-- The gradient of the two gates' inputs. -/
theorem final16 : Real2 ((dats m 0 c).arrAt 16 cfg0.N : Vec Ideal S8192x2048 .bf16) (dzg (rowsOf P C Z D Y) Y) := by
  refine ⟨fun i => (dats m 0 c).arrAt_forall_of_covers 16 (fun i v => v = (((dzg (rowsOf P C Z D Y) Y) (i 0).val (i 1).val : ℝ) : EReal)) (by decide +kernel) (fun t hf y => ?_) i⟩
  refine ((leftAt_real m c h t.val t.isLt).dzg.entry y).trans ?_
  show (((dzg (rowsOf P C Z D Y) Y) (256 * t.val + (y 0).val) (y 1).val : ℝ) : EReal) = _
  blk_simp [idx t]
  simp only [Nat.mul_comm 256]

omit h in
/-- All rows' sum from the eights. -/
theorem sum_all (f : Rows → Fixed → ℕ → ℕ → ℝ) (X : Rows) (Y : Fixed) (e : ∀ n r k, f (X.from n) Y r k = f X Y (n + r) k) (k : ℕ) :
    ∑ r ∈ range 8, sumTo f X Y 32 r k = ∑ r ∈ range 8192, f X Y r k := by
  simp only [sumTo, eights, e]
  rw [sum_comm]
  exact sum_tiles (fun r => f X Y r k) 32 32

omit h in
/-- Windows on one array are inputs. -/
theorem shared : Pipeline.SharedIn (cfgs 0).spec := by decide

theorem tail17 : Real1 (Pipeline.afterTail₀ cfgs (dats m) 0 (V0 m) [hostOps1] c main_v43 : Vec Ideal S1024 .f32) fun k => ∑ r ∈ range 8192, gps (rowsOf P C Z D Y) Y r k := by
  have : Real2 ((dats m 0 c).arrAt 17 cfg0.N : Vec Ideal S8x1024 .f32) (sumTo gps (rowsOf P C Z D Y) Y 32) := by
    refine ⟨fun i => (dats m 0 c).arrAt_forall_of_covers 17 (fun i v => v = ((sumTo gps (rowsOf P C Z D Y) Y 32 (i 0).val (i 1).val : ℝ) : EReal)) (by decide +kernel) (fun t hf y => ?_) i⟩
    refine ((leftAt_real m c h t.val t.isLt).sums.gps.entry y).trans ?_
    have ht : t.val = 31 := by have := (flush0_17 t).mp hf; have := lt_of_lt_of_eq t.isLt N_0; omega
    blk_simp [idx t]
    rw [ht]
    exact congrArg Real.toEReal (sum_range_succ _ 31).symm
  unfold Pipeline.afterTail₀
  after_reads_at
  rw [(dats m 0 c).withArrays_arrAt shared (V0 m c) (A_eq m c) 17]
  exact Real1.of_eq inferInstance fun k _ => sum_all gps _ Y (fun _ _ _ => rfl) k

theorem tail18 : Real1 (Pipeline.afterTail₀ cfgs (dats m) 0 (V0 m) [hostOps1] c main_v44 : Vec Ideal S1024 .f32) fun k => ∑ r ∈ range 8192, glg (rowsOf P C Z D Y) Y r k := by
  have : Real2 ((dats m 0 c).arrAt 18 cfg0.N : Vec Ideal S8x1024 .f32) (sumTo glg (rowsOf P C Z D Y) Y 32) := by
    refine ⟨fun i => (dats m 0 c).arrAt_forall_of_covers 18 (fun i v => v = ((sumTo glg (rowsOf P C Z D Y) Y 32 (i 0).val (i 1).val : ℝ) : EReal)) (by decide +kernel) (fun t hf y => ?_) i⟩
    refine ((leftAt_real m c h t.val t.isLt).sums.glg.entry y).trans ?_
    have ht : t.val = 31 := by have := (flush0_18 t).mp hf; have := lt_of_lt_of_eq t.isLt N_0; omega
    blk_simp [idx t]
    rw [ht]
    exact congrArg Real.toEReal (sum_range_succ _ 31).symm
  unfold Pipeline.afterTail₀
  after_reads_at
  rw [(dats m 0 c).withArrays_arrAt shared (V0 m c) (A_eq m c) 18]
  exact Real1.of_eq inferInstance fun k _ => sum_all glg _ Y (fun _ _ _ => rfl) k

theorem tail19 : Real1 (Pipeline.afterTail₀ cfgs (dats m) 0 (V0 m) [hostOps1] c main_v45 : Vec Ideal S1024 .f32) fun k => ∑ r ∈ range 8192, dc2 (rowsOf P C Z D Y) Y r k := by
  have : Real2 ((dats m 0 c).arrAt 19 cfg0.N : Vec Ideal S8x1024 .f32) (sumTo dc2 (rowsOf P C Z D Y) Y 32) := by
    refine ⟨fun i => (dats m 0 c).arrAt_forall_of_covers 19 (fun i v => v = ((sumTo dc2 (rowsOf P C Z D Y) Y 32 (i 0).val (i 1).val : ℝ) : EReal)) (by decide +kernel) (fun t hf y => ?_) i⟩
    refine ((leftAt_real m c h t.val t.isLt).sums.glb.entry y).trans ?_
    have ht : t.val = 31 := by have := (flush0_19 t).mp hf; have := lt_of_lt_of_eq t.isLt N_0; omega
    blk_simp [idx t]
    rw [ht]
    exact congrArg Real.toEReal (sum_range_succ _ 31).symm
  unfold Pipeline.afterTail₀
  after_reads_at
  rw [(dats m 0 c).withArrays_arrAt shared (V0 m c) (A_eq m c) 19]
  exact Real1.of_eq inferInstance fun k _ => sum_all dc2 _ Y (fun _ _ _ => rfl) k

theorem tail20 : Real1 (Pipeline.afterTail₀ cfgs (dats m) 0 (V0 m) [hostOps1] c main_v46 : Vec Ideal S1024 .f32) fun k => ∑ r ∈ range 8192, dc1 (rowsOf P C Z D Y) Y r k := by
  have : Real2 ((dats m 0 c).arrAt 20 cfg0.N : Vec Ideal S8x1024 .f32) (sumTo dc1 (rowsOf P C Z D Y) Y 32) := by
    refine ⟨fun i => (dats m 0 c).arrAt_forall_of_covers 20 (fun i v => v = ((sumTo dc1 (rowsOf P C Z D Y) Y 32 (i 0).val (i 1).val : ℝ) : EReal)) (by decide +kernel) (fun t hf y => ?_) i⟩
    refine ((leftAt_real m c h t.val t.isLt).sums.gcb.entry y).trans ?_
    have ht : t.val = 31 := by have := (flush0_20 t).mp hf; have := lt_of_lt_of_eq t.isLt N_0; omega
    blk_simp [idx t]
    rw [ht]
    exact congrArg Real.toEReal (sum_range_succ _ 31).symm
  unfold Pipeline.afterTail₀
  after_reads_at
  rw [(dats m 0 c).withArrays_arrAt shared (V0 m c) (A_eq m c) 20]
  exact Real1.of_eq inferInstance fun k _ => sum_all dc1 _ Y (fun _ _ _ => rfl) k

variable (ρ : Dev nD → PrngReg)
omit h in
/-- The run: the eleven results, the arguments unchanged. -/
theorem run : θ_run defs (onTc (τ := τ) (main (F := Ideal))) ⟨m, fun _ => 0, ρ⟩ fun r => ∀ c : Dev nD,
      r.2.mem ((c : Thread nD τ).loc main_v42_0) = (dats m 0 c).arrAt 10 cfg0.N
      ∧ r.2.mem ((c : Thread nD τ).loc main_v42_1) = (dats m 0 c).arrAt 11 cfg0.N
      ∧ r.2.mem ((c : Thread nD τ).loc main_v42_2) = (dats m 0 c).arrAt 12 cfg0.N
      ∧ r.2.mem ((c : Thread nD τ).loc main_v42_3) = (dats m 0 c).arrAt 13 cfg0.N
      ∧ r.2.mem ((c : Thread nD τ).loc main_v42_4) = (dats m 0 c).arrAt 14 cfg0.N
      ∧ r.2.mem ((c : Thread nD τ).loc main_v42_5) = (dats m 0 c).arrAt 15 cfg0.N
      ∧ r.2.mem ((c : Thread nD τ).loc main_v42_6) = (dats m 0 c).arrAt 16 cfg0.N
      ∧ r.2.mem ((c : Thread nD τ).loc main_v43) = Pipeline.afterTail₀ cfgs (dats m) 0 (V0 m) [hostOps1] c main_v43
      ∧ r.2.mem ((c : Thread nD τ).loc main_v44) = Pipeline.afterTail₀ cfgs (dats m) 0 (V0 m) [hostOps1] c main_v44
      ∧ r.2.mem ((c : Thread nD τ).loc main_v45) = Pipeline.afterTail₀ cfgs (dats m) 0 (V0 m) [hostOps1] c main_v45
      ∧ r.2.mem ((c : Thread nD τ).loc main_v46) = Pipeline.afterTail₀ cfgs (dats m) 0 (V0 m) [hostOps1] c main_v46
      ∧ Same m r.2.mem c := by
  refine (θ_run defs _ _).mono (fun r h c => ?_) (θ_run_and (launch m ρ) (kept m ρ trivial))
  exact ⟨(h.1.1 c).1 10, (h.1.1 c).1 11, (h.1.1 c).1 12, (h.1.1 c).1 13, (h.1.1 c).1 14, (h.1.1 c).1 15, (h.1.1 c).1 16,
    (h.1.1 c).2 main_v43 (Pipeline.mem_restRefs_of main_v43 (by decide) (by decide)), (h.1.1 c).2 main_v44 (Pipeline.mem_restRefs_of main_v44 (by decide) (by decide)), (h.1.1 c).2 main_v45 (Pipeline.mem_restRefs_of main_v45 (by decide) (by decide)), (h.1.1 c).2 main_v46 (Pipeline.mem_restRefs_of main_v46 (by decide) (by decide)), h.2.1 c⟩

instance preFacts : Cert.Pre_finite5.Facts := by constructor <;> decide

omit h in
/-- What the precondition says of the arguments: real entries. -/
theorem real_args (h : Cert.Pre_Kernel5Ideal_finite5 m) : ∃ P C Z D Y, ArgsReal m c P C Z D Y := by
  have e := congrFun (h c) (fun a => a.elim0)
  dsimp only [Cert.Pre_finite5.fn, Cert.Pre_finite5.fn_part1, Cert.Pre_finite5.fn_part2] at e
  obtain ⟨e, e9⟩ := both e
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e0, e1⟩ := both e
  obtain ⟨P, k0⟩ := Real2.exists (real_of_all _ _ _ _ _ e0)
  obtain ⟨C, k1⟩ := Real2.exists (real_of_all _ _ _ _ _ e1)
  obtain ⟨Z, k2⟩ := Real2.exists (real_of_all _ _ _ _ _ e2)
  obtain ⟨W, k3⟩ := Real3.exists (real_of_all _ _ _ _ _ e3)
  obtain ⟨s, k4⟩ := Real1.exists (real_of_all _ _ _ _ _ e4)
  obtain ⟨g, k5⟩ := Real1.exists (real_of_all _ _ _ _ _ e5)
  obtain ⟨b, k6⟩ := Real1.exists (real_of_all _ _ _ _ _ e6)
  obtain ⟨u, k7⟩ := Real2.exists (real_of_all _ _ _ _ _ e7)
  obtain ⟨v, k8⟩ := Real2.exists (real_of_all _ _ _ _ _ e8)
  obtain ⟨D, k9⟩ := Real2.exists (real_of_all _ _ _ _ _ e9)
  exact ⟨P, C, Z, D, ⟨W, s, g, b, u, v⟩, k0, k1, k2, k3, k4, k5, k6, k7, k8, k9⟩

end Cert.Kernel5Ideal.Gen
-- ==== Proof.RowsRef.lean ====
/- The values of the reference of the mixer's gradient along the rows, and that the kernel's are the same. -/
module
public import proofs.«01_k».proof.Proof.RowsFinal
public import proofs.«01_k».proof.Proof.Gen.Reference5Ideal.Run
public import proofs.«01_k».proof.Proof.Gen.Reference5Ideal.Read
@[expose] public section
namespace Cert.Reference5Ideal.Read
open Cert.Reference5Ideal Cert.Reference5Ideal.Gen Idealize.ShloMosaic Idealize.ShloMosaic.TcCoe Cert.Reals Finset
open Cert.Kernel5Ideal.Gen (Fixed Rows rowsOf grouped sg merged dm ds dq dcc dzp dzc dpool c2 c3 dc2 dc1 dzg gps glg)

instance : Plain dot_S8192x1024_S1024x1024_S8192x1024_1_0_0_1_n_n := ⟨rfl⟩
instance : Turned dot_S8192x1024_S1024x1024_S8192x1024_1_1_0_0_n_n := ⟨rfl⟩

variable (P C Z D : ℕ → ℕ → ℝ) (pw : ℕ → ℕ → ℕ → ℝ) (ps lg lb : ℕ → ℝ) (wco wout : ℕ → ℕ → ℝ) (r k : ℕ)
/-- The layer norm's output, the projected output, the cotangents of the merged rows and of the layer norm's output. -/
noncomputable def n2 : ℝ := cen (C r) k * lr (C r) * lg k + lb k
noncomputable def pr : ℝ := ∑ j ∈ range 1024, n2 C lg lb r j * sg (n2 C lg lb r j) * wco j k
noncomputable def gm : ℝ := ∑ j ∈ range 1024, D r j * wout k j
noncomputable def g2 : ℝ :=
  (∑ j ∈ range 1024, sg (Z r (4096 + j)) * gm D wout r j * wco k j) * (sg (n2 C lg lb r k) * (1 + n2 C lg lb r k * (1 - sg (n2 C lg lb r k))))

/-- The parameters and the rows, together. -/
local notation "Y" => Fixed.mk pw ps lg lb wco wout
local notation "X" => rowsOf P C Z D (Fixed.mk pw ps lg lb wco wout)

/-- The cotangent of the layer norm's output, under the kernel's name. -/
theorem g2_eq : g2 C Z D lg lb wco wout r k = dc2 X (Y) r k := by
  simp only [g2, dc2, dcc, dm, c2, rowsOf, gm, n2, mul_comm (sg (Z r _))]

variable (x0 x1 x9 : FVec Ideal S8192x1024 .f32) (x2 : FVec Ideal S8192x5120 .f32) (x3 : FVec Ideal S4x256x256 .f32) (x4 x5 x6 : FVec Ideal S1024 .f32) (x7 x8 : FVec Ideal S1024x1024 .f32)
  {P C Z D pw ps lg lb wco wout} [Real2 x0 P] [Real2 x1 C] [Real2 x2 Z] [h3 : Real3 x3 pw] [Real1 x4 ps] [Real1 x5 lg] [Real1 x6 lb] [Real2 x7 wco] [Real2 x8 wout] [Real2 x9 D]

/-- The grouped map of the pooled rows. -/
instance v5 : Real2 (val_main_v5 (F := Ideal) x0 x3) (grouped P pw) :=
  ⟨fun i => by
    have h0 : (i 0).val < 8192 := (i 0).isLt
    have h1 : (i 1).val < 1024 := (i 1).isLt
    rw [val_main_v5_apply, val_main_v4_apply, val_main_v3_apply]
    refine coe_fin (fun q => pw ((i 1).val / 256) q ((i 1).val % 256) * P (i 0).val (256 * ((i 1).val / 256) + q)) fun q => ?_
    have hq : q.val < 256 := q.isLt
    rw [val_main_v2_apply]
    refine (congrArg₂ (· * ·) (h3.entry _) (Real2.entry _)).trans ?_
    rw [← EReal.coe_mul]
    refine congrArg Real.toEReal ?_
    show pw (((i 0).val * 1024 + (i 1).val) / 256 % 4) q.val (((i 0).val * 1024 + (i 1).val) % 256)
      * P (((((i 0).val * 1024 + (i 1).val) / 1024 * 4 + ((i 0).val * 1024 + (i 1).val) / 256 % 4) * 256 + q.val) / 1024)
        (((((i 0).val * 1024 + (i 1).val) / 1024 * 4 + ((i 0).val * 1024 + (i 1).val) / 256 % 4) * 256 + q.val) % 1024) = _
    have e1 : ((i 0).val * 1024 + (i 1).val) / 256 % 4 = (i 1).val / 256 := by omega
    have e2 : ((i 0).val * 1024 + (i 1).val) % 256 = (i 1).val % 256 := by omega
    have e3 : ((i 0).val * 1024 + (i 1).val) / 1024 = (i 0).val := by omega
    rw [e1, e2, e3, show (((i 0).val * 4 + (i 1).val / 256) * 256 + q.val) / 1024 = (i 0).val by omega,
      show (((i 0).val * 4 + (i 1).val / 256) * 256 + q.val) % 1024 = 256 * ((i 1).val / 256) + q.val by omega]⟩

instance v8 : Real2 (val_main_v8 (F := Ideal) x1) C := by
  unfold val_main_v8 val_main_v7 val_main_v6 val_main_v1 val_main_cst
  exact Real2.of_eq inferInstance fun r k _ _ => add_zero _

instance v14 : Real2 (val_main_v14 (F := Ideal) x1) fun r k => cen (C r) k := by
  unfold val_main_v14 val_main_v13 val_main_v12 val_main_v11 val_main_cst_1 val_main_v10 val_main_v9 val_main_cst_0
  exact inferInstance

instance v17 : Real2 (val_main_v17 (F := Ideal) x1) fun r k => 2 * cen (C r) k := by
  unfold val_main_v17 val_main_v16 val_main_cst_2
  exact inferInstance

instance v23 : Real2 (val_main_v23 (F := Ideal) x1) fun r k => cen (C r) k := by
  unfold val_main_v23 val_main_v22 val_main_v12 val_main_v11 val_main_cst_1 val_main_v10 val_main_v9 val_main_cst_0
  exact inferInstance

instance v25 : Real2 (val_main_v25 (F := Ideal) x1) fun r _ => lv (C r) := by
  unfold val_main_v25 val_main_v24 val_main_cst_5 val_main_v21 val_main_v20 val_main_cst_4 val_main_v19 val_main_v18 val_main_cst_3 val_main_v15
  exact inferInstance

instance v26 : Real2 (val_main_v26 (F := Ideal) x1) fun r _ => lr (C r) := by
  unfold val_main_v26
  exact inferInstance

instance v29 : Real2 (val_main_v29 (F := Ideal) x1) fun r _ => -1 / 2 * (lr (C r) / lv (C r)) := by
  unfold val_main_v29 val_main_v28 val_main_cst_6 val_main_v27
  exact inferInstance

instance v31 : Real2 (val_main_v31 (F := Ideal) x1) fun r k => cen (C r) k * lr (C r) := by
  unfold val_main_v31 val_main_v30
  exact inferInstance

instance v37 : Real2 (val_main_v37 (F := Ideal) x1 x5 x6) (n2 C lg lb) := by
  unfold val_main_v37 val_main_v36 val_main_v35 val_main_v34 val_main_v33 val_main_v32
  exact inferInstance

instance v38_2 : Real2 (val_main_v38_2 (F := Ideal) x1 x5 x6) fun r k => sg (n2 C lg lb r k) := by
  unfold val_main_v38_2 val_main_call0_v4 val_main_call0_cst_0 val_main_call0_v3 val_main_call0_v2 val_main_call0_cst val_main_call0_v1 val_main_call0_v0
  refine Real2.of_eq inferInstance fun r k _ _ => ?_
  simp only [sg, one_div]

instance v38_0 : Real2 (val_main_v38_0 (F := Ideal) x1 x5 x6) fun r k => n2 C lg lb r k * sg (n2 C lg lb r k) := by
  unfold val_main_v38_0
  exact inferInstance

instance v39 : Real2 (val_main_v39 (F := Ideal) x1 x5 x6 x7) (pr C lg lb wco) := by
  unfold val_main_v39
  exact inferInstance

instance v40 : Real2 (val_main_v40 (F := Ideal) x2) fun r k => Z r (3072 + k) := by
  unfold val_main_v40 val_main_v0
  refine Real2.of_eq inferInstance fun r k _ _ => ?_
  simp only [zero_add]

instance v46 : Real2 (val_main_v46 (F := Ideal) x2) fun r k => sg (Z r (3072 + k)) := by
  unfold val_main_v46 val_main_v45 val_main_cst_8 val_main_v44 val_main_v43 val_main_cst_7 val_main_v42 val_main_v41
  refine Real2.of_eq inferInstance fun r k _ _ => ?_
  simp only [sg, one_div]

instance v54 : Real2 (val_main_v54 (F := Ideal) x2) fun r k => Z r (4096 + k) := by
  unfold val_main_v54 val_main_v0
  refine Real2.of_eq inferInstance fun r k _ _ => ?_
  simp only [zero_add, ← Nat.add_assoc, Nat.reduceAdd]

instance v60 : Real2 (val_main_v60 (F := Ideal) x2) fun r k => sg (Z r (4096 + k)) := by
  unfold val_main_v60 val_main_v59 val_main_cst_11 val_main_v58 val_main_v57 val_main_cst_10 val_main_v56 val_main_v55
  refine Real2.of_eq inferInstance fun r k _ _ => ?_
  simp only [sg, one_div]

instance v67 : Real2 (val_main_v67 (F := Ideal) x8 x9) (gm D wout) := by
  unfold val_main_v67
  exact inferInstance

instance v68 : Real2 (val_main_v68 (F := Ideal) x2 x8 x9) fun r k => sg (Z r (4096 + k)) * gm D wout r k := by
  unfold val_main_v68
  exact inferInstance

theorem v82 : Real2 (val_main_v82 (F := Ideal) x0 x1 x2 x3 x4 x5 x6 x7 x8 x9) (dzg X (Y)) := by
  unfold val_main_v82 val_main_v81 val_main_cst_16 val_main_v80 val_main_v73 val_main_v71 val_main_cst_13 val_main_v70 val_main_v69 val_main_v63 val_main_v62
    val_main_v61 val_main_cst_12 val_main_v52 val_main_v51 val_main_v50 val_main_v49 val_main_v48 val_main_v47 val_main_cst_9
  refine Real2.of_eq inferInstance fun r k _ hk => ?_
  by_cases h : k < 1024
  · rw [if_neg (by omega), if_pos (by omega)]
    simp only [dzg, if_pos h, dzp, dm, rowsOf, gm, Nat.sub_zero]
    ring
  · rw [if_pos (by omega), if_neg (by omega)]
    simp only [dzg, if_neg h, dzc, dm, rowsOf, gm, pr, n2, c3, c2]
    ring

instance v72 : Real2 (val_main_v72 (F := Ideal) x2 x8 x9) fun r k => sg (Z r (3072 + k)) * gm D wout r k := by
  unfold val_main_v72
  exact inferInstance

theorem v79 : Real1 (val_main_v79 (F := Ideal) x0 x2 x3 x8 x9) fun k => ∑ r ∈ range 8192, gps X (Y) r k := by
  unfold val_main_v79 val_main_cst_15 val_main_v76 val_main_v75 val_main_cst_14 val_main_v74
  refine Real1.of_eq inferInstance fun k _ => ?_
  simp only [sum_range_one, gps, ds, dm, rowsOf, gm]
  exact sum_congr rfl fun r _ => by ring

instance v78 : Real2 (val_main_v78 (F := Ideal) x2 x4 x8 x9) fun r k => sg (Z r (3072 + k)) * gm D wout r k * ps k := by
  unfold val_main_v78 val_main_v77 val_main_v50
  exact inferInstance

instance v83 : Real2 (val_main_v83 (F := Ideal) x2 x7 x8 x9) fun r k => ∑ j ∈ range 1024, sg (Z r (4096 + j)) * gm D wout r j * wco k j := by
  unfold val_main_v83
  exact inferInstance

instance v84 : Real2 (val_main_v84 (F := Ideal) x1 x2 x5 x6 x7 x8 x9) (g2 C Z D lg lb wco wout) := by
  unfold val_main_v84 val_main_call1_v2 val_main_call1_v1 val_main_call1_v0 val_main_v38_1 val_main_call0_v7 val_main_call0_v6 val_main_call0_cst_1
  refine Real2.of_eq inferInstance fun r k _ _ => ?_
  simp only [g2]
  ring

theorem v87 : Real1 (val_main_v87 (F := Ideal) x1 x2 x5 x6 x7 x8 x9) fun k => ∑ r ∈ range 8192, dc2 X (Y) r k := by
  unfold val_main_v87 val_main_cst_18 val_main_v86 val_main_v85 val_main_cst_17
  refine Real1.of_eq inferInstance fun k _ => ?_
  simp only [sum_range_one, g2_eq P C Z D pw ps]

theorem v93 : Real1 (val_main_v93 (F := Ideal) x1 x2 x5 x6 x7 x8 x9) fun k => ∑ r ∈ range 8192, glg X (Y) r k := by
  unfold val_main_v93 val_main_cst_20 val_main_v90 val_main_v89 val_main_cst_19 val_main_v88
  refine Real1.of_eq inferInstance fun k _ => ?_
  simp only [sum_range_one, g2_eq P C Z D pw ps, glg]
  exact sum_congr rfl fun r _ => mul_comm _ _

instance v92 : Real2 (val_main_v92 (F := Ideal) x1 x2 x5 x6 x7 x8 x9) fun r k => g2 C Z D lg lb wco wout r k * lg k := by
  unfold val_main_v92 val_main_v91 val_main_v32
  exact inferInstance

instance v105 : Real1 (val_main_v105 (F := Ideal) x1 x2 x5 x6 x7 x8 x9) fun r => (∑ k ∈ range 1024, cen (C r) k * (g2 C Z D lg lb wco wout r k * lg k)) * (-1 / 2 * (lr (C r) / lv (C r))) / 1024 := by
  unfold val_main_v105 val_main_cst_24 val_main_v104 val_main_v103 val_main_cst_23 val_main_v99 val_main_v96 val_main_v95 val_main_cst_21 val_main_v94
  refine Real1.of_eq inferInstance fun r _ => ?_
  simp only [sum_range_one]

theorem v117 : Real2 (val_main_v117 (F := Ideal) x1 x2 x5 x6 x7 x8 x9) (dc1 X (Y)) := by
  unfold val_main_v117 val_main_v116 val_main_v115 val_main_cst_27 val_main_v114 val_main_v113 val_main_cst_26 val_main_v112 val_main_v111 val_main_v110
    val_main_v109 val_main_cst_25 val_main_v108 val_main_v107 val_main_v106 val_main_v102 val_main_v101 val_main_cst_22 val_main_v100 val_main_v98 val_main_v97
  refine Real2.of_eq inferInstance fun r k _ _ => ?_
  simp only [sum_range_one, dc1, ← g2_eq]
  exact lnGrad_eq (C r) (fun k => g2 C Z D lg lb wco wout r k * lg k) k rfl

theorem v123 : Real1 (val_main_v123 (F := Ideal) x1 x2 x5 x6 x7 x8 x9) fun k => ∑ r ∈ range 8192, dc1 X (Y) r k := by
  unfold val_main_v123 val_main_cst_28
  have := v117 (P := P) (pw := pw) (ps := ps) x1 x9 x2 x5 x6 x7 x8 (C := C) (Z := Z) (D := D)
  exact inferInstance

/-- The cotangent of the pooled rows. -/
theorem v122 : Real2 (val_main_v122 (F := Ideal) x2 x3 x4 x8 x9) (dpool X (Y)) :=
  ⟨fun i => by
    have h0 : (i 0).val < 8192 := (i 0).isLt
    have h1 : (i 1).val < 1024 := (i 1).isLt
    rw [val_main_v122_apply, val_main_v121_apply, val_main_v120_apply]
    refine coe_fin (fun q => dq X (Y) (i 0).val (256 * ((i 1).val / 256) + q) * pw ((i 1).val / 256) ((i 1).val % 256) q) fun q => ?_
    have hq : q.val < 256 := q.isLt
    rw [val_main_v119_apply, val_main_v118_apply]
    refine (congrArg₂ (· * ·) (Real2.entry _) (h3.entry _)).trans ?_
    rw [← EReal.coe_mul]
    refine congrArg Real.toEReal ?_
    have e1 : ((i 0).val * 1024 + (i 1).val) / 256 % 4 = (i 1).val / 256 := by omega
    have e2 : ((i 0).val * 1024 + (i 1).val) % 256 = (i 1).val % 256 := by omega
    have e3 : ((i 0).val * 1024 + (i 1).val) / 1024 = (i 0).val := by omega
    have e4 : (((i 0).val * 4 + (i 1).val / 256) * 256 + q.val) / 1024 = (i 0).val := by omega
    have e5 : (((i 0).val * 4 + (i 1).val / 256) * 256 + q.val) % 1024 = 256 * ((i 1).val / 256) + q.val := by omega
    dsimp only
    simp only [e1, e2, e3, e4, e5, dq, ds, dm, rowsOf, gm]
    rw [mul_comm (sg _)]⟩

instance v127 : Real2 (val_main_v127 (F := Ideal) x0 x3) (grouped P pw) := v5 x0 x3
instance v160 : Real2 (val_main_v160 (F := Ideal) x2) (fun r k => sg (Z r (3072 + k))) := v46 x2
instance v171 : Real2 (val_main_v171 (F := Ideal) x2) (fun r k => sg (Z r (4096 + k))) := v60 x2

instance v142 : Real2 (val_main_v142 (F := Ideal) x1) fun r _ => lv (C r) := by
  unfold val_main_v142 val_main_v141 val_main_cst_33 val_main_v138 val_main_v137 val_main_cst_32 val_main_v136 val_main_v135 val_main_cst_31 val_main_v134
    val_main_v133 val_main_v132 val_main_v131 val_main_v130 val_main_cst_30 val_main_v129 val_main_v128 val_main_cst_29
  exact inferInstance

instance v143 : Real2 (val_main_v143 (F := Ideal) x1) fun r _ => lr (C r) := by
  unfold val_main_v143
  exact inferInstance

instance v151 : Real2 (val_main_v151 (F := Ideal) x1 x5 x6) (n2 C lg lb) := by
  unfold val_main_v151 val_main_v150 val_main_v149 val_main_v148 val_main_v147 val_main_v146 val_main_v145 val_main_v144 val_main_v140 val_main_v139
    val_main_v131 val_main_v130 val_main_cst_30 val_main_v129 val_main_v128 val_main_cst_29
  exact inferInstance

instance v152 : Real2 (val_main_v152 (F := Ideal) x1 x5 x6) fun r k => n2 C lg lb r k * sg (n2 C lg lb r k) := by
  unfold val_main_v152 val_main_call2_v5 val_main_call2_v4 val_main_call2_cst_0 val_main_call2_v3 val_main_call2_v2 val_main_call2_cst val_main_call2_v1
    val_main_call2_v0
  refine Real2.of_eq inferInstance fun r k _ _ => ?_
  simp only [sg, one_div]

instance v153 : Real2 (val_main_v153 (F := Ideal) x1 x5 x6 x7) (pr C lg lb wco) := by
  unfold val_main_v153
  exact inferInstance

instance v175 : Real2 (val_main_v175 (F := Ideal) x8 x9) (gm D wout) := by
  unfold val_main_v175 val_main_v174
  exact inferInstance

theorem v180 : Real2 (val_main_v180 (F := Ideal) x0 x1 x2 x3 x4 x5 x6 x7) (merged X (Y)) := by
  unfold val_main_v180 val_main_v173 val_main_v172 val_main_v164 val_main_v163 val_main_v162 val_main_v161
  refine Real2.of_eq inferInstance fun r k _ _ => ?_
  simp only [merged, rowsOf, pr, n2, c3, c2]

theorem v181 : Real2 (val_main_v181 (F := Ideal) x2 x8 x9) (dcc X (Y)) := by
  unfold val_main_v181 val_main_v176
  refine Real2.of_eq inferInstance fun r k _ _ => ?_
  simp only [dcc, dm, rowsOf, gm, mul_comm]

theorem v182 : Real2 (val_main_v182 (F := Ideal) x1 x5 x6) (c3 X (Y)) := by
  unfold val_main_v182
  refine Real2.of_eq inferInstance fun r k _ _ => ?_
  simp only [c3, c2, n2, rowsOf]

theorem v183 : Real2 (val_main_v183 (F := Ideal) x2 x4 x8 x9) (dq X (Y)) := by
  unfold val_main_v183 val_main_v179 val_main_v178 val_main_v177 val_main_v161
  refine Real2.of_eq inferInstance fun r k _ _ => ?_
  simp only [dq, ds, dm, rowsOf, gm, mul_comm (sg _)]

theorem v184 : Real2 (val_main_v184 (F := Ideal) x2 x3 x4 x8 x9) (dpool X (Y)) := ⟨(v122 x9 x2 x3 x4 x8 (P := P) (C := C) (lg := lg) (lb := lb) (wco := wco)).entry⟩
theorem v185 : Real2 (val_main_v185 (F := Ideal) x1 x2 x5 x6 x7 x8 x9) (dc1 X (Y)) := ⟨(v117 x1 x9 x2 x5 x6 x7 x8 (P := P) (pw := pw) (ps := ps)).entry⟩
theorem v186 : Real2 (val_main_v186 (F := Ideal) x0 x1 x2 x3 x4 x5 x6 x7 x8 x9) (dzg X (Y)) := ⟨(v82 x0 x1 x9 x2 x3 x4 x5 x6 x7 x8).entry⟩

set_option maxHeartbeats 1000000 in
/-- The claim of the values. -/
theorem algebraic : Cert.algebraic_Kernel5Ideal_Reference5Ideal_pre_finite5 := by
  intro m g m' g' hpre hargs
  refine ⟨_, _, _, _, _, _, _, _, _, _, _, Cert.Kernel5Ideal.Gen.run m g, (θ_run _ _ _).mono (fun r h c => ?_) (Cert.Reference5Ideal.Value.run (F := Ideal) m' g')⟩
  obtain ⟨h0, h1, h2, h3, h4, h5, h6, h7, h8, h9, h10, h11⟩ := h c
  obtain ⟨a0, a1, a2, a3, a4, a5, a6, a7, a8, a9⟩ := hargs c
  obtain ⟨P, C, Z, D, ⟨pw, ps, lg, lb, wco, wout⟩, k⟩ := Cert.Kernel5Ideal.Gen.real_args m c hpre
  obtain ⟨k0, k1, k2, k3, k4, k5, k6, k7, k8, k9⟩ := id k
  rw [← a0] at k0
  rw [← a1] at k1
  rw [← a2] at k2
  rw [← a3] at k3
  rw [← a4] at k4
  rw [← a5] at k5
  rw [← a6] at k6
  rw [← a7] at k7
  rw [← a8] at k8
  rw [← a9] at k9
  change Real2 (StableHlo.launchContents m' c (Proc.devRef .tc main_arg0) : Vec Ideal S8192x1024 .f32) P at k0
  change Real2 (StableHlo.launchContents m' c (Proc.devRef .tc main_arg1) : Vec Ideal S8192x1024 .f32) C at k1
  change Real2 (StableHlo.launchContents m' c (Proc.devRef .tc main_arg2) : Vec Ideal S8192x5120 .f32) Z at k2
  change Real3 (StableHlo.launchContents m' c (Proc.devRef .tc main_arg3) : Vec Ideal S4x256x256 .f32) pw at k3
  change Real1 (StableHlo.launchContents m' c (Proc.devRef .tc main_arg4) : Vec Ideal S1024 .f32) ps at k4
  change Real1 (StableHlo.launchContents m' c (Proc.devRef .tc main_arg5) : Vec Ideal S1024 .f32) lg at k5
  change Real1 (StableHlo.launchContents m' c (Proc.devRef .tc main_arg6) : Vec Ideal S1024 .f32) lb at k6
  change Real2 (StableHlo.launchContents m' c (Proc.devRef .tc main_arg7) : Vec Ideal S1024x1024 .f32) wco at k7
  change Real2 (StableHlo.launchContents m' c (Proc.devRef .tc main_arg8) : Vec Ideal S1024x1024 .f32) wout at k8
  change Real2 (StableHlo.launchContents m' c (Proc.devRef .tc main_arg9) : Vec Ideal S8192x1024 .f32) D at k9
  clear a0 a1 a2 a3 a4 a5 a6 a7 a8 a9
  refine ⟨h0.trans ((val_main_v180_eq _).trans ?_),
    h1.trans ((val_main_v181_eq _).trans ?_),
    h2.trans ((val_main_v182_eq _).trans ?_),
    h3.trans ((val_main_v183_eq _).trans ?_),
    h4.trans ((val_main_v184_eq _).trans ?_),
    h5.trans ((val_main_v185_eq _).trans ?_),
    h6.trans ((val_main_v186_eq _).trans ?_),
    h7.trans ((val_main_v79_eq _).trans ?_),
    h8.trans ((val_main_v93_eq _).trans ?_),
    h9.trans ((val_main_v87_eq _).trans ?_),
    h10.trans ((val_main_v123_eq _).trans ?_), h11⟩ <;> clear h0 h1 h2 h3 h4 h5 h6 h7 h8 h9 h10 h11
  · exact ((Cert.Kernel5Ideal.Gen.final10 m c k).same (v180 _ _ _ _ _ _ _ _)).symm
  · exact ((Cert.Kernel5Ideal.Gen.final11 m c k).same (v181 _ _ _)).symm
  · exact ((Cert.Kernel5Ideal.Gen.final12 m c k).same (v182 _ _ _)).symm
  · exact ((Cert.Kernel5Ideal.Gen.final13 m c k).same (v183 _ _ _ _)).symm
  · exact ((Cert.Kernel5Ideal.Gen.final14 m c k).same (v184 _ _ _ _ _)).symm
  · exact ((Cert.Kernel5Ideal.Gen.final15 m c k).same (v185 _ _ _ _ _ _ _)).symm
  · exact ((Cert.Kernel5Ideal.Gen.final16 m c k).same (v186 _ _ _ _ _ _ _ _ _ _)).symm
  · exact ((Cert.Kernel5Ideal.Gen.tail17 m c k).same (v79 _ _ _ _ _)).symm
  · exact ((Cert.Kernel5Ideal.Gen.tail18 m c k).same (v93 _ _ _ _ _ _ _)).symm
  · exact ((Cert.Kernel5Ideal.Gen.tail19 m c k).same (v87 _ _ _ _ _ _ _)).symm
  · exact ((Cert.Kernel5Ideal.Gen.tail20 m c k).same (v123 _ _ _ _ _ _ _)).symm

end Cert.Reference5Ideal.Read
-- ==== Proof.HeadRun.lean ====
/- The body of the last per-layer embedding and loss kernel, run at the grid's first point (which fetches the weights) and at a later one. -/
module

public import proofs.«01_k».proof.Proof.Fetch
public import proofs.«01_k».proof.Proof.Gen.Kernel6Ideal.Frame.Runs

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fetch

variable {F : FTy → Type} [FloatOps F]

local notation "𝕄" => MT nD τ sig Unit (Elt F) ℕ (Pipeline.UD sig nD τ) ℕ

/-- The memrefs a point's body works on: six inputs, eight outputs, the fetched weights. -/
structure Stage where
  a0 : Memref sig .tc .vmem S512x1024 .f32
  h0 : a0.IsWhole
  a1 : Memref sig .tc .vmem S512x256 .f32
  h1 : a1.IsWhole
  a2 : Memref sig .tc .vmem S1x1024 .f32
  h2 : a2.IsWhole
  a3 : Memref sig .tc .vmem S1024x256 .bf16
  h3 : a3.IsWhole
  a4 : Memref sig .tc .vmem S512x1024 .f32
  h4 : a4.IsWhole
  a5 : Memref sig .tc .vmem S1x1024 .f32
  h5 : a5.IsWhole
  a6 : Memref sig .tc .vmem S512x1024 .f32
  h6 : a6.IsWhole
  a7 : Memref sig .tc .vmem S512x1024 .bf16
  h7 : a7.IsWhole
  a8 : Memref sig .tc .vmem S512x1024 .bf16
  h8 : a8.IsWhole
  a9 : Memref sig .tc .vmem S512x1024 .bf16
  h9 : a9.IsWhole
  a10 : Memref sig .tc .vmem S512x256 .bf16
  h10 : a10.IsWhole
  a11 : Memref sig .tc .vmem S8x1024 .f32
  h11 : a11.IsWhole
  a12 : Memref sig .tc .vmem S8x1024 .f32
  h12 : a12.IsWhole
  a13 : Memref sig .tc .vmem S8x1024 .f32
  h13 : a13.IsWhole
  w0 : Memref sig .tc .vmem S1024x1024 .bf16
  hw0 : w0.IsWhole

/-- The body on them. -/
abbrev Stage.body (s : Stage) (i : grid0.Coords) : Prog (TpuEff nD τ sig (Elt F) Λ₀ .tc) PUnit :=
  cc0_ple_head i s.a0 s.h0 s.a1 s.h1 s.a2 s.h2 s.a3 s.h3 (Memref.whole main_v7) (Memref.isWhole_whole _) s.a4 s.h4 s.a5 s.h5 s.a6 s.h6 s.a7 s.h7
    s.a8 s.h8 s.a9 s.h9 s.a10 s.h10 s.a11 s.h11 s.a12 s.h12 s.a13 s.h13 s.w0 s.hw0 cc0_scratch1

/-- The inputs' tiles. -/
structure Tiles (F : FTy → Type) where
  h : Vec F S512x1024 .f32
  p : Vec F S512x256 .f32
  gain : Vec F S1x1024 .f32
  wp : Vec F S1024x256 .bf16
  t : Vec F S512x1024 .f32
  fg : Vec F S1x1024 .f32

/-- The weights in scratch. -/
structure Weights (F : FTy → Type) where
  wg : Vec F S1024x1024 .bf16

/-- What is summed from point to point. -/
structure Sums (F : FTy → Type) where
  gg : Vec F S8x1024 .f32
  loss : Vec F S8x1024 .f32
  gf : Vec F S8x1024 .f32

/-- The inputs held at their tiles. -/
def Stage.ins (s : Stage) (c : Dev nD) (x : Tiles F) : sProp 𝕄 :=
  iprop(owns (c : Thread nD τ) s.a0 fullShare x.h ∗ owns (c : Thread nD τ) s.a1 fullShare x.p ∗ owns (c : Thread nD τ) s.a2 fullShare x.gain
    ∗ owns (c : Thread nD τ) s.a3 fullShare x.wp ∗ owns (c : Thread nD τ) s.a4 fullShare x.t ∗ owns (c : Thread nD τ) s.a5 fullShare x.fg)

/-- The buffers every point overwrites, at any contents. -/
def Stage.any (s : Stage) (c : Dev nD) : sProp 𝕄 :=
  iprop((∃ d, owns (c : Thread nD τ) s.a6 fullShare d) ∗ (∃ d, owns (c : Thread nD τ) s.a7 fullShare d)
    ∗ (∃ d, owns (c : Thread nD τ) s.a8 fullShare d) ∗ (∃ d, owns (c : Thread nD τ) s.a9 fullShare d)
    ∗ (∃ d, owns (c : Thread nD τ) s.a10 fullShare d))

/-- The sums held. -/
def Stage.sums (s : Stage) (c : Dev nD) (g : Sums F) : sProp 𝕄 :=
  iprop(owns (c : Thread nD τ) s.a11 fullShare g.gg ∗ owns (c : Thread nD τ) s.a12 fullShare g.loss ∗ owns (c : Thread nD τ) s.a13 fullShare g.gf)

/-- The weights held in scratch. -/
def Stage.held (s : Stage) (c : Dev nD) (w : Weights F) : sProp 𝕄 :=
  iprop(owns (c : Thread nD τ) s.w0 fullShare w.wg)

/-- The stores of one point into the outputs. -/
structure Stores (F : FTy → Type) where
  dh : List (View.Piece (Elt F) S512x1024 .f32)
  dpre : List (View.Piece (Elt F) S512x1024 .bf16)
  de : List (View.Piece (Elt F) S512x1024 .bf16)
  n : List (View.Piece (Elt F) S512x1024 .bf16)
  pb : List (View.Piece (Elt F) S512x256 .bf16)
  gg : List (View.Piece (Elt F) S8x1024 .f32)
  loss : List (View.Piece (Elt F) S8x1024 .f32)
  gf : List (View.Piece (Elt F) S8x1024 .f32)

/-- The outputs with a point's stores written. -/
def Stage.outs (s : Stage) (c : Dev nD) (L : Stores F) : sProp 𝕄 :=
  iprop(stored (c : Thread nD τ) s.a6 L.dh ∗ stored (c : Thread nD τ) s.a7 L.dpre ∗ stored (c : Thread nD τ) s.a8 L.de
    ∗ stored (c : Thread nD τ) s.a9 L.n ∗ stored (c : Thread nD τ) s.a10 L.pb ∗ stored (c : Thread nD τ) s.a11 L.gg
    ∗ stored (c : Thread nD τ) s.a12 L.loss ∗ stored (c : Thread nD τ) s.a13 L.gf)

/-- The copies' stores into the weights. -/
structure Copies (F : FTy → Type) where
  wg : List (View.Piece (Elt F) S1024x1024 .bf16)

/-- The weights as the copies wrote them. -/
def Stage.fetched (s : Stage) (c : Dev nD) (L : Copies F) : sProp 𝕄 :=
  iprop(stored (c : Thread nD τ) s.w0 L.wg)

/-- The copies' counters at zero and the weights' pieces as the launch left them. -/
def parts (c : Dev nD) (fh : HbBuf0 (F := F) c hbM0_0) : sProp 𝕄 :=
  iprop(Pipeline.ownSems0 osem0 c ∗ hbPt0 c hbM0_0 fh)

set_option sl_exec.dmaWindow true in
set_option sl_exec.dmaWindowSet true in
set_option maxHeartbeats 4000000 in
/-- The first point: it fetches the weights and zeroes the sums, then works like the others. -/
noncomputable def runFirst (c : Dev nD) (i : grid0.Coords) (hc : cond0_0 i) (s : Stage) (x : Tiles F) (fh : HbBuf0 (F := F) c hbM0_0) :
    Σ' (L : Stores F), { LW : Copies F //
      ∀ (W : Waits sig Unit) (K : PUnit → sProp 𝕄),
        iprop(s.ins c x ∗ s.any c ∗ (∃ g, s.sums c g) ∗ (∃ w, s.held c w) ∗ parts c fh ∗ owes (c : Thread nD τ) 0 W
          ∗ (iprop(s.ins c x ∗ s.outs c L ∗ s.fetched c LW ∗ parts c fh ∗ (∃ W', owes (c : Thread nD τ) 0 W')) -∗ K ⟨⟩))
          ⊢ wp frame (wpE (defs₀ (F := F)) Variants.none c none) Set.univ (s.body i) K } := by
  refine ⟨⟨?_, ?_, ?_, ?_, ?_, ?_, ?_, ?_⟩, ⟨?_⟩, fun W K => ?run⟩
  case run =>
    unfold Stage.body Stage.ins Stage.any Stage.sums Stage.outs Stage.held Stage.fetched parts
    rw [ownSems00_eq, owns_unread _ s.h0, owns_unread _ s.h1, owns_unread _ s.h2, owns_unread _ s.h3, owns_unread _ s.h4, owns_unread _ s.h5]
    simp only [cc0_ple_head_eq_skeleton]; unfold cc0_ple_head_skel
    simp only [k0_part1_eq_skeleton, k0_part2_eq_skeleton, k0_part3_eq_skeleton, k0_part4_eq_skeleton, k0_part5_eq_skeleton]
    unfold owns
    iintro ⟨⟨H0, H1, H2, H3, H4, H5⟩, ⟨⟨%d6, %f6, -, H6⟩, ⟨%d7, %f7, -, H7⟩, ⟨%d8, %f8, -, H8⟩, ⟨%d9, %f9, -, H9⟩, ⟨%d10, %f10, -, H10⟩⟩, ⟨%g, ⟨⟨%f11, -, H11⟩, ⟨%f12, -, H12⟩, ⟨%f13, -, H13⟩⟩⟩,
      ⟨%w, %g0, -, S0⟩, ⟨⟨Q0, Q1, Q2, Q3, Q4, Q5, Q6, Q7⟩, Hh⟩, HW, Hk⟩
    sl_exec (disch := first | sl_exact hc)
    sl_step
    iapply Hk
    unfold stored
    iframe H0 H1 H2 H3 H4 H5 Q0 Q1 Q2 Q3 Q4 Q5 Q6 Q7 Hh
    isplitl [H6 H7 H8 H9 H10 H11 H12 H13]
    · isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      iexists _; iexact H13
    isplitl [S0]; · iexists _; iexact S0
    iexists _; iexact HW

set_option maxHeartbeats 4000000 in
/-- A later point: it reads the weights from scratch and adds to the sums. -/
noncomputable def runNext (c : Dev nD) (i : grid0.Coords) (hc : ¬cond0_0 i) (s : Stage) (x : Tiles F) (g : Sums F) (w : Weights F) :
    { L : Stores F //
      ∀ (W : Waits sig Unit) (K : PUnit → sProp 𝕄),
        iprop(s.ins c x ∗ s.any c ∗ s.sums c g ∗ s.held c w ∗ owes (c : Thread nD τ) 0 W
          ∗ (iprop(s.ins c x ∗ s.outs c L ∗ s.held c w ∗ (∃ W', owes (c : Thread nD τ) 0 W')) -∗ K ⟨⟩))
          ⊢ wp frame (wpE (defs₀ (F := F)) Variants.none c none) Set.univ (s.body i) K } := by
  refine ⟨⟨?_, ?_, ?_, ?_, ?_, ?_, ?_, ?_⟩, fun W K => ?run⟩
  case run =>
    unfold Stage.body Stage.ins Stage.any Stage.sums Stage.outs Stage.held
    rw [owns_unread _ s.h0, owns_unread _ s.h1, owns_unread _ s.h2, owns_unread _ s.h3, owns_unread _ s.h4, owns_unread _ s.h5,
      owns_unread _ s.h11, owns_unread _ s.h12, owns_unread _ s.h13, owns_unread _ s.hw0]
    simp only [cc0_ple_head_eq_skeleton]; unfold cc0_ple_head_skel
    simp only [k0_part1_eq_skeleton, k0_part2_eq_skeleton, k0_part3_eq_skeleton, k0_part4_eq_skeleton, k0_part5_eq_skeleton]
    unfold owns
    iintro ⟨⟨H0, H1, H2, H3, H4, H5⟩, ⟨⟨%d6, %f6, -, H6⟩, ⟨%d7, %f7, -, H7⟩, ⟨%d8, %f8, -, H8⟩, ⟨%d9, %f9, -, H9⟩, ⟨%d10, %f10, -, H10⟩⟩, ⟨H11, H12, H13⟩, S0, HW, Hk⟩
    sl_exec (disch := first | sl_exact hc)
    sl_step
    iapply Hk
    unfold stored
    iframe H0 H1 H2 H3 H4 H5 S0
    isplitl [H6 H7 H8 H9 H10 H11 H12 H13]
    · isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      iexists _; iexact H13
    iexists _; iexact HW

end Cert.Kernel6Ideal.Gen

end
-- ==== Proof.HeadFrame.lean ====
/- The last per-layer embedding and loss kernel, point by point, and its frame. -/
module

public import proofs.«01_k».proof.Proof.HeadRun
public import proofs.«01_k».proof.Defs
public import proofs.«01_k».proof.Proof.Gen.Kernel6
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Fetch

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The memrefs of point `t`. -/
abbrev stageAt (t : Fin cfg0.N) : Stage :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    ms0_8 t, hs0_8 t, ms0_9 t, hs0_9 t, ms0_10 t, hs0_10 t, ms0_11 t, hs0_11 t, ms0_12 t, hs0_12 t, ms0_13 t, hs0_13 t, scM0_0, Memref.isWhole_whole _⟩

/-- The tiles of point `t`. -/
abbrev tilesAt (c : Dev nD) (t : Fin cfg0.N) : Tiles F :=
  ⟨iblk m c 0 t, iblk m c 1 t, iblk m c 2 t, iblk m c 3 t, iblk m c 4 t, iblk m c 5 t⟩

/-- What a point leaves: its rows of the outputs, the sums so far, the weights. -/
structure Left (F : FTy → Type) where
  dh : Vec F S512x1024 .f32
  dpre : Vec F S512x1024 .bf16
  de : Vec F S512x1024 .bf16
  n : Vec F S512x1024 .bf16
  pb : Vec F S512x256 .bf16
  sums : Sums F
  wt : Weights F

/-- What stores leave. -/
def Stores.left (L : Stores F) (w : Weights F) : Left F :=
  ⟨View.canon L.dh, View.canon L.dpre, View.canon L.de, View.canon L.n, View.canon L.pb, ⟨View.canon L.gg, View.canon L.loss, View.canon L.gf⟩, w⟩

/-- What a first point leaves. -/
def leftFirst (c : Dev nD) (i : grid0.Coords) (hc : cond0_0 i) (s : Stage) (x : Tiles F) (fh : HbBuf0 (F := F) c hbM0_0) : Left F :=
  (runFirst c i hc s x fh).1.left ⟨View.canon (runFirst c i hc s x fh).2.1.wg⟩

/-- What a later point leaves. -/
def leftNext (c : Dev nD) (i : grid0.Coords) (hc : ¬cond0_0 i) (s : Stage) (x : Tiles F) (p : Left F) : Left F :=
  (runNext c i hc s x p.sums p.wt).1.left p.wt

theorem first_at (hn : 0 < cfg0.N) : cond0_0 (grid0.coords ⟨0, hn⟩) := (hcond0_0 ⟨0, hn⟩).mpr rfl
theorem next_at (n : ℕ) (hn : n + 1 < cfg0.N) : ¬cond0_0 (grid0.coords ⟨n + 1, hn⟩) := fun h => by
  have hN : n + 1 < 16 := lt_of_lt_of_eq hn N_0
  have := (hcond0_0 ⟨n + 1, hn⟩).mp h
  dsimp only at this; omega

/-- What point `n` leaves. -/
def leftAt (c : Dev nD) : (n : ℕ) → n < cfg0.N → Left F
  | 0, hn => leftFirst c _ (first_at hn) (stageAt ⟨0, hn⟩) (tilesAt m c ⟨0, hn⟩) (V m c main_v7)
  | n + 1, hn => leftNext c _ (next_at n hn) (stageAt ⟨n + 1, hn⟩) (tilesAt m c ⟨n + 1, hn⟩) (leftAt c n (Nat.lt_of_succ_lt hn))

/-- The outputs at what a point leaves. -/
def Stage.full (s : Stage) (c : Dev nD) (L : Left F) : sProp 𝕄 :=
  iprop(owns (c : Thread nD τ) s.a6 fullShare L.dh ∗ owns (c : Thread nD τ) s.a7 fullShare L.dpre ∗ owns (c : Thread nD τ) s.a8 fullShare L.de
    ∗ owns (c : Thread nD τ) s.a9 fullShare L.n ∗ owns (c : Thread nD τ) s.a10 fullShare L.pb ∗ s.sums c L.sums)

/-- Between points: the register, the counters, the weights' pieces. -/
def quiet (c : Dev nD) : sProp 𝕄 := iprop((∃ r, prngReg c r) ∗ parts c (V m c main_v7))

theorem phi_eq (c : Dev nD) : (Pipeline.ΦD osem0 spec0 H0 (V m) c : sProp 𝕄) = iprop((∃ d, owns (c : Thread nD τ) scM0_0 fullShare d) ∗ quiet m c) := by
  unfold quiet parts
  rw [Pipeline.ΦD_eq, scopedRest0_eq, hbmPts0_eq]; simp only [scM0_0, owns_whole]; rfl

/-- Before point `n`: the weights as the point before left them. -/
def inv (c : Dev nD) : (n : ℕ) → n ≤ cfg0.N → sProp 𝕄
  | 0, _ => Pipeline.ΦD osem0 spec0 H0 (V m) c
  | n + 1, hn => iprop((stageAt ⟨n, hn⟩).held c (leftAt m c n hn).wt ∗ quiet m c)

/-- The arrays and the tiles, point by point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (leftAt m c t.val t.isLt).dh
    | ⟨7, _⟩ => (leftAt m c t.val t.isLt).dpre
    | ⟨8, _⟩ => (leftAt m c t.val t.isLt).de
    | ⟨9, _⟩ => (leftAt m c t.val t.isLt).n
    | ⟨10, _⟩ => (leftAt m c t.val t.isLt).pb
    | ⟨11, _⟩ => (leftAt m c t.val t.isLt).sums.gg
    | ⟨12, _⟩ => (leftAt m c t.val t.isLt).sums.loss
    | ⟨13, _⟩ => (leftAt m c t.val t.isLt).sums.gf
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

/-- An input's buffer holds its tile. -/
theorem before_eq (c : Dev nD) (t : Fin cfg0.N) (d0 d1 d2 d3 d4 d5) :
    (dats m 0 c).before 0 t d0 = iblk m c 0 t ∧ (dats m 0 c).before 1 t d1 = iblk m c 1 t ∧ (dats m 0 c).before 2 t d2 = iblk m c 2 t
      ∧ (dats m 0 c).before 3 t d3 = iblk m c 3 t ∧ (dats m 0 c).before 4 t d4 = iblk m c 4 t ∧ (dats m 0 c).before 5 t d5 = iblk m c 5 t :=
  ⟨before0_0_of m (dats m 0 c) (A_eq m c 0) (fun t => by dsimp only [dats]) t d0,
    before0_1_of m (dats m 0 c) (A_eq m c 1) (fun t => by dsimp only [dats]) t d1,
    before0_2_of m (dats m 0 c) (A_eq m c 2) (fun t => by dsimp only [dats]) t d2,
    before0_3_of m (dats m 0 c) (A_eq m c 3) (fun t => by dsimp only [dats]) t d3,
    before0_4_of m (dats m 0 c) (A_eq m c 4) (fun t => by dsimp only [dats]) t d4,
    before0_5_of m (dats m 0 c) (A_eq m c 5) (fun t => by dsimp only [dats]) t d5⟩

/-- The sums stay in their buffers from point to point. -/
theorem before_sums (c : Dev nD) (n : ℕ) (hn : n + 1 < cfg0.N) :
    (∀ d, (dats m 0 c).before 11 ⟨n + 1, hn⟩ d = (leftAt m c n (Nat.lt_of_succ_lt hn)).sums.gg)
      ∧ (∀ d, (dats m 0 c).before 12 ⟨n + 1, hn⟩ d = (leftAt m c n (Nat.lt_of_succ_lt hn)).sums.loss)
      ∧ (∀ d, (dats m 0 c).before 13 ⟨n + 1, hn⟩ d = (leftAt m c n (Nat.lt_of_succ_lt hn)).sums.gf) := by
  have hN : n + 1 < 16 := lt_of_lt_of_eq hn N_0
  exact ⟨fun d => (Dat.before_out_kept _ 11 rfl ⟨n + 1, hn⟩ (by dsimp only; omega)
      (Bool.eq_false_iff.mpr fun h => by have := (flush0_11 _).mp h; dsimp only at this; omega) (fun _ => rfl) (fun _ _ => rfl) d).trans (by dsimp only [dats]; rfl),
    fun d => (Dat.before_out_kept _ 12 rfl ⟨n + 1, hn⟩ (by dsimp only; omega)
      (Bool.eq_false_iff.mpr fun h => by have := (flush0_12 _).mp h; dsimp only at this; omega) (fun _ => rfl) (fun _ _ => rfl) d).trans (by dsimp only [dats]; rfl),
    fun d => (Dat.before_out_kept _ 13 rfl ⟨n + 1, hn⟩ (by dsimp only; omega)
      (Bool.eq_false_iff.mpr fun h => by have := (flush0_13 _).mp h; dsimp only at this; omega) (fun _ => rfl) (fun _ _ => rfl) d).trans (by dsimp only [dats]; rfl)⟩

set_option maxHeartbeats 4000000 in
/-- The body at a point takes the tiles and what the point before left to what this one leaves. -/
theorem sound (c : Dev nD) (t : Fin cfg0.N) (W : Waits sig Unit) (K : PUnit → sProp 𝕄) :
    iprop(inv m c t.val (Nat.le_of_lt t.isLt) ∗ owes (c : Thread nD τ) 0 W ∗ (stageAt t).ins c (tilesAt m c t) ∗ (stageAt t).any c
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (iprop(inv m c (t.val + 1) t.isLt ∗ (∃ W', owes (c : Thread nD τ) 0 W') ∗ (stageAt t).ins c (tilesAt m c t)
        ∗ (stageAt t).full c (leftAt m c t.val t.isLt)) -∗ K ⟨⟩))
      ⊢ wp frame (wpE (defs₀ (F := F)) Variants.none c none) Set.univ (bodyAt0 t) K := by
  obtain ⟨n, hn⟩ := t
  cases n with
  | zero =>
    dsimp only [inv]
    rw [phi_eq]
    unfold quiet
    iintro ⟨⟨⟨%d0, S0⟩, Hg, Hp⟩, HW, HI, HA, ⟨%d11, H11⟩, ⟨%d12, H12⟩, ⟨%d13, H13⟩, Hk⟩
    iapply ((runFirst c (grid0.coords ⟨0, hn⟩) (first_at hn) (stageAt ⟨0, hn⟩) (tilesAt m c ⟨0, hn⟩) (V m c main_v7)).2.2 W _)
    iframe HI HA Hp HW
    isplitl [H11 H12 H13]
    · iexists ⟨(dats m 0 c).before 11 ⟨0, hn⟩ d11, (dats m 0 c).before 12 ⟨0, hn⟩ d12, (dats m 0 c).before 13 ⟨0, hn⟩ d13⟩; unfold Stage.sums; iframe H11 H12 H13
    isplitl [S0]
    · iexists ⟨d0⟩; unfold Stage.held; iframe S0
    unfold Stage.outs Stage.fetched
    iintro ⟨HI, ⟨H6, H7, H8, H9, H10, H11, H12, H13⟩, S0, Hp, HW⟩
    iapply Hk
    unfold Stage.held Stage.full Stage.sums
    iframe HI Hg Hp HW
    isplitl [S0]; · iapply (stored_owns _ _ _ fun y => View.cover_of_tiledL _ ![128, 1024] (by sl_kernel_rfl) y); iexact S0
    isplitl [H6]; · iapply (stored_owns _ _ _ fun y => View.cover_of_tiledL _ S512x1024.size (by sl_kernel_rfl) y); iexact H6
    isplitl [H7]; · iapply (stored_owns _ _ _ fun y => View.cover_of_tiledL _ S512x1024.size (by sl_kernel_rfl) y); iexact H7
    isplitl [H8]; · iapply (stored_owns _ _ _ fun y => View.cover_of_tiledL _ S512x1024.size (by sl_kernel_rfl) y); iexact H8
    isplitl [H9]; · iapply (stored_owns _ _ _ fun y => View.cover_of_tiledL _ S512x1024.size (by sl_kernel_rfl) y); iexact H9
    isplitl [H10]; · iapply (stored_owns _ _ _ fun y => View.cover_of_tiledL _ S512x256.size (by sl_kernel_rfl) y); iexact H10
    isplitl [H11]; · iapply (stored_owns _ _ _ fun y => View.cover_of_tiledL _ S8x1024.size (by sl_kernel_rfl) y); iexact H11
    isplitl [H12]; · iapply (stored_owns _ _ _ fun y => View.cover_of_tiledL _ S8x1024.size (by sl_kernel_rfl) y); iexact H12
    iapply (stored_owns _ _ _ fun y => View.cover_of_tiledL _ S8x1024.size (by sl_kernel_rfl) y); iexact H13
  | succ n =>
    dsimp only [inv]
    simp only [before_sums m c n hn]
    iintro ⟨⟨HS, Hq⟩, HW, HI, HA, ⟨%d11, H11⟩, ⟨%d12, H12⟩, ⟨%d13, H13⟩, Hk⟩
    iapply ((runNext c (grid0.coords ⟨n + 1, hn⟩) (next_at n hn) (stageAt ⟨n + 1, hn⟩) (tilesAt m c ⟨n + 1, hn⟩) (leftAt m c n (Nat.lt_of_succ_lt hn)).sums
      (leftAt m c n (Nat.lt_of_succ_lt hn)).wt).2 W _)
    isplitl [HI]; · iexact HI
    isplitl [HA]; · iexact HA
    isplitl [H11 H12 H13]; · unfold Stage.sums; iframe H11 H12 H13
    isplitl [HS]; · iexact HS
    isplitl [HW]; · iexact HW
    unfold Stage.outs
    iintro ⟨HI, ⟨H6, H7, H8, H9, H10, H11, H12, H13⟩, HS, HW⟩
    iapply Hk
    isplitl [HS Hq]
    · isplitl [HS]; · iexact HS
      iexact Hq
    isplitl [HW]; · iexact HW
    isplitl [HI]; · iexact HI
    unfold Stage.full Stage.sums
    isplitl [H6]; · iapply (stored_owns _ _ _ fun y => View.cover_of_tiledL _ S512x1024.size (by sl_kernel_rfl) y); iexact H6
    isplitl [H7]; · iapply (stored_owns _ _ _ fun y => View.cover_of_tiledL _ S512x1024.size (by sl_kernel_rfl) y); iexact H7
    isplitl [H8]; · iapply (stored_owns _ _ _ fun y => View.cover_of_tiledL _ S512x1024.size (by sl_kernel_rfl) y); iexact H8
    isplitl [H9]; · iapply (stored_owns _ _ _ fun y => View.cover_of_tiledL _ S512x1024.size (by sl_kernel_rfl) y); iexact H9
    isplitl [H10]; · iapply (stored_owns _ _ _ fun y => View.cover_of_tiledL _ S512x256.size (by sl_kernel_rfl) y); iexact H10
    isplitl [H11]; · iapply (stored_owns _ _ _ fun y => View.cover_of_tiledL _ S8x1024.size (by sl_kernel_rfl) y); iexact H11
    isplitl [H12]; · iapply (stored_owns _ _ _ fun y => View.cover_of_tiledL _ S8x1024.size (by sl_kernel_rfl) y); iexact H12
    iapply (stored_owns _ _ _ fun y => View.cover_of_tiledL _ S8x1024.size (by sl_kernel_rfl) y); iexact H13

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  rw [show (dats m 0 c).Φ t.castSucc = inv m c t.val (Nat.le_of_lt t.isLt) by dsimp only [dats]; exact Pipeline.Dat.Φ_castSucc (inv m c) t,
    show (dats m 0 c).Φ t.succ = inv m c (t.val + 1) t.isLt from rfl]
  unfold Dat.owesAt Pipeline.owesWithin
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩,
    H11, H12, H13⟩
  iapply (sound m c t W _)
  obtain ⟨e0, e1, e2, e3, e4, e5⟩ := before_eq m c t d0 d1 d2 d3 d4 d5
  rw [e0, e1, e2, e3, e4, e5]
  unfold Stage.ins Stage.any Stage.full Stage.sums
  iframe HΦ HW H0 H1 H2 H3 H4 H5 H11 H12 H13
  isplitl [H6 H7 H8 H9 H10]
  · isplitl [H6]; · iexists _; iexact H6
    isplitl [H7]; · iexists _; iexact H7
    isplitl [H8]; · iexists _; iexact H8
    isplitl [H9]; · iexists _; iexact H9
    iexists _; iexact H10
  iintro ⟨HΦ, ⟨%W', HW⟩, ⟨H0, H1, H2, H3, H4, H5⟩, H6, H7, H8, H9, H10, H11, H12, H13⟩
  iframe HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- After the last point the scratch is any scratch again. -/
theorem inv_last (c : Dev nD) : (dats m 0 c).Φ (Fin.last cfg0.N) ⊢ Pipeline.ΦD osem0 spec0 H0 (V m) c := by
  rw [phi_eq, show (dats m 0 c).Φ (Fin.last cfg0.N) = inv m c 16 (le_of_eq N_0.symm) from rfl]
  dsimp only [inv]
  unfold Stage.held
  iintro ⟨S0, Hq⟩
  iframe Hq
  iexists _; iexact S0

set_option backward.isDefEq.respectTransparency.types false in
/-- The launch: it ends with the arrays at what the points leave and every counter at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (obligation m c).loose) (hshare := fun c => (dats m 0 c).share_full fun _ => rfl) (howed := fun _ _ => rfl)
    (V₀ := V0 m) (opss := [hostOps1]) (hsub := sfx_but) (hfresh := sfx_fresh) (hkeep := sfx_keeps) (hmain := hmain m Variants.none) (hA := A_eq m)
    (hin := fun c => .rfl) (hout := inv_last m)

/-- The arguments of device `c` are those of `m`. -/
abbrev Same (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)

/-- The frame as the launch states it, at any floats: the arguments end as they were, and every counter at zero. -/
def Kept (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      Same m r.2.mem c)
      ∧ r.2.sem = fun _ => 0)

theorem kept : Kept F := fun m ρ _ =>
  θ_run_and (frame_of m ρ (dats m) (A_eq m) ((θ_run defs _ _).mono (fun _ h => h.1) (launch m ρ))) ((θ_run defs _ _).mono (fun _ h => h.2) (launch m ρ))

/-- The two programs are the same text. -/
theorem same : Kept Bits = Cert.quiescent_Kernel6 (hKernel6 := Cert.Kernel6.Gen.facts) := by sl_kernel_rfl

theorem kernel_frame : Cert.quiescent_Kernel6 (hKernel6 := Cert.Kernel6.Gen.facts) := same.mp kept

end Cert.Kernel6Ideal.Gen

end
-- ==== Proof.HeadValue.lean ====
/- The values of the kernel of the last gated embedding and the loss: what a point leaves, as reals. -/
module
public import proofs.«01_k».proof.Proof.HeadFrame
public import proofs.«01_k».proof.Proof.Fetched
public import proofs.«01_k».proof.Proof.Embed
@[expose] public section
namespace Cert.Kernel6Ideal.Gen
open Idealize.ShloMosaic Idealize.ShloMosaic.TcCoe Cert.Reals Finset Cert.Embed

instance : Plain dot_S512x1024_S1024x1024_S512x1024_1_0_0_1_n_n := ⟨rfl⟩
instance : Turned dot_S512x1024_S1024x1024_S512x1024_1_1_0_0_n_n := ⟨rfl⟩
instance : Turned dot_S512x256_S1024x256_S512x1024_1_1_0_0_n_n := ⟨rfl⟩

/-- The stores of a point leave the gradients of its rows; the three sums go on from `A`, `B` and `C`. -/
structure PointReal (L : Stores Ideal) (X : Last) (Y : Fixed) (G : ℕ → ℝ) (A B C : ℕ → ℕ → ℝ) : Prop where
  left : Real2 (View.canon L.dh : Vec Ideal S512x1024 .f32) (dh (X.rows Y G) Y)
  pre : Real2 (View.canon L.dpre : Vec Ideal S512x1024 .bf16) (dpre (X.rows Y G) Y)
  e : Real2 (View.canon L.de : Vec Ideal S512x1024 .bf16) (de (X.rows Y G))
  n : Real2 (View.canon L.n : Vec Ideal S512x1024 .bf16) (nrm (X.rows Y G) Y)
  pb : Real2 (View.canon L.pb : Vec Ideal S512x256 .bf16) X.p
  gg : Real2 (View.canon L.gg : Vec Ideal S8x1024 .f32) fun r k => A r k + eights (gg (X.rows Y G) Y) r k
  loss : Real2 (View.canon L.loss : Vec Ideal S8x1024 .f32) fun r k => B r k + eights (sqr X Y G) r k
  gf : Real2 (View.canon L.gf : Vec Ideal S8x1024 .f32) fun r k => C r k + eights (gf X Y G) r k

/-- The tiles hold the rows, the gains and the embedding's weight. -/
structure TilesReal (x : Tiles Ideal) (X : Last) (Y : Fixed) (G : ℕ → ℝ) : Prop where
  h : Real2 x.h X.h
  p : Real2 x.p X.p
  gain : Real2 x.gain fun _ k => Y.gain k
  wp : Real2 x.wp fun k j => Y.wp j k
  t : Real2 x.t X.t
  fg : Real2 x.fg fun _ k => G k

/-- The three sums so far. -/
structure SumsReal (p : Sums Ideal) (A B C : ℕ → ℕ → ℝ) : Prop where
  gg : Real2 p.gg A
  loss : Real2 p.loss B
  gf : Real2 p.gf C

variable (c : Dev nD) (i : grid0.Coords) (s : Stage) (x : Tiles Ideal) {X : Last} {Y : Fixed} {G : ℕ → ℝ} (hx : TilesReal x X Y G)

section
variable (hc : ¬cond0_0 i) (p : Sums Ideal) (wt : Weights Ideal) {A B C : ℕ → ℕ → ℝ} (hp : SumsReal p A B C) [Real2 wt.wg Y.wg]
include hx hp

set_option synthInstance.maxSize 10000 in
set_option synthInstance.maxHeartbeats 400000 in
theorem next_real : PointReal (runNext c i hc s x p wt).1 X Y G A B C := by
  obtain ⟨_, _, _, _, _, _⟩ := hx
  obtain ⟨_, _, _⟩ := hp
  dsimp only [runNext]
  simp only [k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, runNext.sl.r, runNext.sl.r_1,
    runNext.sl.r_2, runNext.sl.r_3, runNext.sl.r_4, runNext.sl.r_5, runNext.sl.r_6, runNext.sl.r_7, runNext.sl.r_8, runNext.sl.r_9, runNext.sl.r_10,
    runNext.sl.v0, runNext.sl.v1, runNext.sl.v2]
  unfold runNext.sl.cst_18
  refine PointReal.mk ?_ ?_ ?_ ?_ ?_ ?_ ?_ ?_ <;> dsimp only
  · refine Real2.of_eq inferInstance fun r k _ _ => ?_
    simp only [dh, Last.rows, rmsGrad, dn, dpre, err, fin, out, gate, emb, sg, nrm, Last.plain, rt, ms, zero_add]
  · refine Real2.of_eq inferInstance fun r k _ _ => ?_
    simp only [dpre, Last.rows, rmsGrad, err, fin, out, gate, emb, sg, nrm, Last.plain, rt, ms, zero_add]
  · refine Real2.of_eq inferInstance fun r k _ _ => ?_
    simp only [de, Last.rows, rmsGrad, err, fin, out, gate, emb, sg, nrm, Last.plain, rt, ms, zero_add]
  · refine Real2.of_eq inferInstance fun r k _ _ => ?_
    simp only [Last.rows, nrm, rt, ms, zero_add]
  · refine Real2.of_eq inferInstance fun r k _ _ => ?_
    simp only [zero_add]
  · refine Real2.of_eq inferInstance fun r k _ _ => ?_
    simp only [eights, gg, Last.rows, rmsGrad, dn, dpre, err, fin, out, gate, emb, sg, nrm, Last.plain, rt, ms, zero_add]
  · refine Real2.of_eq inferInstance fun r k _ _ => ?_
    simp only [eights, sqr, err, fin, out, gate, emb, sg, nrm, Last.plain, rt, ms, zero_add]
  · refine Real2.of_eq inferInstance fun r k _ _ => ?_
    simp only [eights, gf, err, fin, out, gate, emb, sg, nrm, Last.plain, rt, ms, zero_add]
end

section
variable (hc : cond0_0 i) (fh : HbBuf0 (F := Ideal) c hbM0_0) {P : ℕ → ℕ → ℕ → ℝ} [hP : Real3 (fh : Vec Ideal S8x448x1024 .bf16) P]

/-- The fetch leaves the gate's weight, one device's rows under the other's. -/
theorem first_weights : Real2 (View.canon (runFirst c i hc s x fh).2.1.wg : Vec Ideal S1024x1024 .bf16) (under 128 256 P) := by
  refine canon_real _ ?_ fun y => View.cover_of_tiledL _ ![128, 1024] (by sl_kernel_rfl) y
  dsimp only [runFirst]
  simp only [List.forall_mem_cons]
  refine ⟨?_, ?_, ?_, ?_, ?_, ?_, ?_, ?_, fun p hp => absurd hp List.not_mem_nil⟩
  all_goals exact piece (Memref.whole main_v7) fh hP _ _ _ _ rfl

include hx
set_option synthInstance.maxSize 10000 in
set_option synthInstance.maxHeartbeats 400000 in
theorem first_real (e : under 128 256 P = Y.wg) : PointReal (runFirst c i hc s x fh).1 X Y G (fun _ _ => 0) (fun _ _ => 0) fun _ _ => 0 := by
  have hw := first_weights c i s x hc fh (P := P)
  rw [e] at hw
  obtain ⟨_, _, _, _, _, _⟩ := hx
  dsimp only [runFirst] at hw ⊢
  simp only [k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, runFirst.sl.H11_1,
    runFirst.sl.H12_1, runFirst.sl.H13_1, runFirst.sl.r, runFirst.sl.r_1, runFirst.sl.r_2, runFirst.sl.r_3, runFirst.sl.r_4, runFirst.sl.r_5,
    runFirst.sl.r_6, runFirst.sl.r_7, runFirst.sl.r_8, runFirst.sl.r_9, runFirst.sl.r_10, runFirst.sl.v0, runFirst.sl.v1, runFirst.sl.v19,
    runFirst.sl.v2, runFirst.sl.v45, runFirst.sl.v54, runFirst.sl.v85, runFirst.sl.v87]
  unfold runFirst.sl.cst_18
  refine PointReal.mk ?_ ?_ ?_ ?_ ?_ ?_ ?_ ?_ <;> dsimp only
  · refine Real2.of_eq inferInstance fun r k _ _ => ?_
    simp only [dh, Last.rows, rmsGrad, dn, dpre, err, fin, out, gate, emb, sg, nrm, Last.plain, rt, ms, zero_add]
  · refine Real2.of_eq inferInstance fun r k _ _ => ?_
    simp only [dpre, Last.rows, rmsGrad, err, fin, out, gate, emb, sg, nrm, Last.plain, rt, ms, zero_add]
  · refine Real2.of_eq inferInstance fun r k _ _ => ?_
    simp only [de, Last.rows, rmsGrad, err, fin, out, gate, emb, sg, nrm, Last.plain, rt, ms, zero_add]
  · refine Real2.of_eq inferInstance fun r k _ _ => ?_
    simp only [Last.rows, nrm, rt, ms, zero_add]
  · refine Real2.of_eq inferInstance fun r k _ _ => ?_
    simp only [zero_add]
  · refine Real2.of_eq inferInstance fun r k _ _ => ?_
    simp only [eights, gg, Last.rows, rmsGrad, dn, dpre, err, fin, out, gate, emb, sg, nrm, Last.plain, rt, ms, zero_add]
  · refine Real2.of_eq inferInstance fun r k _ _ => ?_
    simp only [eights, sqr, err, fin, out, gate, emb, sg, nrm, Last.plain, rt, ms, zero_add]
  · refine Real2.of_eq inferInstance fun r k _ _ => ?_
    simp only [eights, gf, err, fin, out, gate, emb, sg, nrm, Last.plain, rt, ms, zero_add]
end
end Cert.Kernel6Ideal.Gen
-- ==== Proof.Scalars.lean ====
/- The real entries of what the host makes of scalars and of vectors. -/
module
public import proofs.«01_k».proof.Proof.HostReals
public import Idealize.ShloMosaic.Lib.Pointwise.Index
@[expose] public section
namespace Cert.Reals
open Idealize.ShloMosaic

variable {m n : ℕ} {φ : FTy} {f : ℕ → ℕ → ℝ} {u : ℕ → ℝ} {a b : ℝ}

instance (x y : FVec Ideal ⟨0, ![]⟩ φ) [hx : Real0 x a] [hy : Real0 y b] : Real0 (mulf x y) (a * b) :=
  ⟨fun i => (congrArg₂ (· * ·) (hx.entry i) (hy.entry i)).trans (EReal.coe_mul _ _).symm⟩

instance (x y : FVec Ideal ⟨1, ![n]⟩ φ) [hx : Real1 x u] [NeZero a] [hy : Real1 y fun _ => a] : Real1 (Host.divf x y) fun r => u r / a :=
  ⟨fun i => (congrArg₂ Ideal.div (hx.entry i) (hy.entry i)).trans (div_real (NeZero.ne a))⟩

/-- A vector summed. -/
instance (x : FVec Ideal ⟨1, ![n]⟩ φ) [hx : Real1 x u] (z : FVec Ideal ⟨0, ![]⟩ φ) [hz : Real0 z 0] (h hu) :
    Real0 (Host.reduceAdd (t := (⟨0, ![]⟩ : Shape)) (axes := [0]) x z h hu) (∑ r ∈ Finset.range n, u r) :=
  ⟨fun i => (Ideal.hostReduceAdd_total h (fun b => b.elim0) x _ i).trans (by
    rw [hz.entry, EReal.coe_zero, zero_add, sum_idx1]
    exact coe_fin u fun r => hx.entry _)⟩

/-- A matrix summed. -/
instance (x : FVec Ideal ⟨2, ![m, n]⟩ φ) [hx : Real2 x f] (z : FVec Ideal ⟨0, ![]⟩ φ) [hz : Real0 z 0] (h hu) :
    Real0 (Host.reduceAdd (t := (⟨0, ![]⟩ : Shape)) (axes := [0, 1]) x z h hu) (∑ r ∈ Finset.range m, ∑ c ∈ Finset.range n, f r c) :=
  ⟨fun i => (Ideal.hostReduceAdd_total h (fun b => b.elim0) x _ i).trans (by
    rw [hz.entry, EReal.coe_zero, zero_add, sum_idx2]
    exact coe_fin (fun r => ∑ c ∈ Finset.range n, f r c) fun r => coe_fin (f r) fun c => hx.entry _)⟩

theorem Real0.of_eq {x : (⟨0, ![]⟩ : Shape).Idx → EReal} (h : Real0 x a) (e : a = b) : Real0 x b := e ▸ h
theorem Real0.same {x y : (⟨0, ![]⟩ : Shape).Idx → EReal} (h : Real0 x a) (k : Real0 y a) : x = y := funext fun i => (h.entry i).trans (k.entry i).symm

end Cert.Reals
-- ==== Proof.HeadFinal.lean ====
/- What the kernel of the last gated embedding and the loss leaves, as reals of the arguments. -/
module
public import proofs.«01_k».proof.Proof.HeadValue
public import proofs.«01_k».proof.Proof.Scalars
public import proofs.«01_k».proof.Proof.Finite
public import Idealize.ShloMosaic.Lib.Pipeline.ValueKit.Geometry
public import Idealize.ShloMosaic.Lib.StableHlo.ReadAt
@[expose] public section
namespace Cert.Kernel6Ideal.Gen
open Idealize.ShloMosaic Idealize.ShloMosaic.TcCoe Cert.Reals Finset Cert.Embed

/-- What a point leaves, as reals. -/
structure LeftReal (l : Left Ideal) (X : Last) (Y : Fixed) (G : ℕ → ℝ) (A B C : ℕ → ℕ → ℝ) : Prop where
  dh : Real2 l.dh (dh (X.rows Y G) Y)
  pre : Real2 l.dpre (dpre (X.rows Y G) Y)
  e : Real2 l.de (de (X.rows Y G))
  n : Real2 l.n (nrm (X.rows Y G) Y)
  pb : Real2 l.pb X.p
  sums : SumsReal l.sums (fun r k => A r k + eights (gg (X.rows Y G) Y) r k) (fun r k => B r k + eights (sqr X Y G) r k) fun r k => C r k + eights (gf X Y G) r k
  wg : Real2 l.wt.wg Y.wg

theorem PointReal.left' {L : Stores Ideal} {w : Weights Ideal} {X : Last} {Y : Fixed} {G : ℕ → ℝ} {A B C : ℕ → ℕ → ℝ} (h : PointReal L X Y G A B C) (hw : Real2 w.wg Y.wg) :
    LeftReal (L.left w) X Y G A B C := ⟨h.left, h.pre, h.e, h.n, h.pb, ⟨h.gg, h.loss, h.gf⟩, hw⟩

section
variable (c : Dev nD) (i : grid0.Coords) (s : Stage) (x : Tiles Ideal) {X : Last} {Y : Fixed} {G : ℕ → ℝ} (hx : TilesReal x X Y G) {A B C : ℕ → ℕ → ℝ}
include hx

theorem leftFirst_real (hc : cond0_0 i) (fh : HbBuf0 (F := Ideal) c hbM0_0) {P : ℕ → ℕ → ℕ → ℝ} [hP : Real3 (fh : Vec Ideal S8x448x1024 .bf16) P]
    (e : under 128 256 P = Y.wg) : LeftReal (leftFirst c i hc s x fh) X Y G (fun _ _ => 0) (fun _ _ => 0) fun _ _ => 0 := by
  have hw := first_weights c i s x hc fh (P := P)
  have p := first_real c i s x hx hc fh (P := P) e
  rw [e] at hw
  unfold leftFirst
  generalize runFirst c i hc s x fh = R at p hw ⊢
  exact p.left' hw

theorem leftNext_real (hc : ¬cond0_0 i) (p : Left Ideal) (hp : SumsReal p.sums A B C) (hw : Real2 p.wt.wg Y.wg) : LeftReal (leftNext c i hc s x p) X Y G A B C := by
  unfold leftNext
  exact (next_real c i s x hx hc p.sums p.wt hp).left' hw
end

variable (m : (ℓ : Loc nD τ sig) → Buf (Elt Ideal) ℓ) (c : Dev nD)

/-- The arguments have real entries. -/
structure ArgsReal (X : Last) (Y : Fixed) (G : ℕ → ℝ) : Prop where
  h : Real2 (m ((c : Thread nD τ).loc main_arg0) : Vec Ideal S8192x1024 .f32) X.h
  p : Real2 (m ((c : Thread nD τ).loc main_arg1) : Vec Ideal S8192x256 .f32) X.p
  gain : Real1 (m ((c : Thread nD τ).loc main_arg2) : Vec Ideal S1024 .f32) Y.gain
  wg : Real2 (m ((c : Thread nD τ).loc main_arg3) : Vec Ideal S1024x1024 .f32) Y.wg
  wp : Real2 (m ((c : Thread nD τ).loc main_arg4) : Vec Ideal S256x1024 .f32) Y.wp
  t : Real2 (m ((c : Thread nD τ).loc main_arg5) : Vec Ideal S8192x1024 .f32) X.t
  fg : Real1 (m ((c : Thread nD τ).loc main_arg6) : Vec Ideal S1024 .f32) G

variable {X : Last} {Y : Fixed} {G : ℕ → ℝ} (h : ArgsReal m c X Y G)

theorem idx : ∀ t : Fin grid0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] ∧ win0_11.index t = ![0, 0] ∧ win0_12.index t = ![0, 0] ∧ win0_13.index t = ![0, 0] := by decide +kernel

include h

theorem tile0 (t : Fin cfg0.N) : Real2 (iblk m c 0 t : Vec Ideal S512x1024 .f32) fun r k => X.h (512 * t.val + r) k := by
  have h' : Real2 (V m c main_arg0 : Vec Ideal S8192x1024 .f32) X.h := by
    unfold V V0
    after_reads_at
    exact h.h
  exact rows_real h' _ _ (win0_0.blk t).view.emb (fun _ => rfl) (fun j => by blk_simp [idx t] <;> dsimp <;> omega) fun j => by blk_simp [idx t] <;> dsimp <;> omega

theorem tile1 (t : Fin cfg0.N) : Real2 (iblk m c 1 t : Vec Ideal S512x256 .f32) fun r k => X.p (512 * t.val + r) k := by
  have h' : Real2 (V m c main_arg1 : Vec Ideal S8192x256 .f32) X.p := by
    unfold V V0
    after_reads_at
    exact h.p
  exact rows_real h' _ _ (win0_1.blk t).view.emb (fun _ => rfl) (fun j => by blk_simp [idx t] <;> dsimp <;> omega) fun j => by blk_simp [idx t] <;> dsimp <;> omega

theorem tile2 (t : Fin cfg0.N) : Real2 (iblk m c 2 t : Vec Ideal S1x1024 .f32) fun _ k => Y.gain k := by
  have h' : Real2 (V m c main_v4 : Vec Ideal S1x1024 .f32) fun _ k => Y.gain k := by
    unfold V V0
    after_reads_at
    have := h.gain
    infer_instance
  exact rows_real h' _ 0 (win0_2.blk t).view.emb (fun _ => rfl) (fun j => by blk_simp [idx t] <;> dsimp <;> omega) fun j => by blk_simp [idx t] <;> dsimp <;> omega

theorem tile3 (t : Fin cfg0.N) : Real2 (iblk m c 3 t : Vec Ideal S1024x256 .bf16) fun k j => Y.wp j k := by
  have h' : Real2 (V m c main_v6 : Vec Ideal S1024x256 .bf16) fun k j => Y.wp j k := by
    unfold V V0
    after_reads_at
    have := h.wp
    infer_instance
  have q := rows_real h' _ 0 (win0_3.blk t).view.emb (fun _ => rfl) (fun j => by blk_simp [idx t] <;> dsimp <;> omega) fun j => by blk_simp [idx t] <;> dsimp <;> omega
  simp only [Nat.zero_add] at q
  exact q

theorem tile4 (t : Fin cfg0.N) : Real2 (iblk m c 4 t : Vec Ideal S512x1024 .f32) fun r k => X.t (512 * t.val + r) k := by
  have h' : Real2 (V m c main_arg5 : Vec Ideal S8192x1024 .f32) X.t := by
    unfold V V0
    after_reads_at
    exact h.t
  exact rows_real h' _ _ (win0_4.blk t).view.emb (fun _ => rfl) (fun j => by blk_simp [idx t] <;> dsimp <;> omega) fun j => by blk_simp [idx t] <;> dsimp <;> omega

theorem tile5 (t : Fin cfg0.N) : Real2 (iblk m c 5 t : Vec Ideal S1x1024 .f32) fun _ k => G k := by
  have h' : Real2 (V m c main_v8 : Vec Ideal S1x1024 .f32) fun _ k => G k := by
    unfold V V0
    after_reads_at
    have := h.fg
    infer_instance
  exact rows_real h' _ 0 (win0_5.blk t).view.emb (fun _ => rfl) (fun j => by blk_simp [idx t] <;> dsimp <;> omega) fun j => by blk_simp [idx t] <;> dsimp <;> omega

theorem tilesAt_real (t : Fin cfg0.N) : TilesReal (tilesAt m c t) (X.from (512 * t.val)) Y G := by
  refine TilesReal.mk ?_ ?_ ?_ ?_ ?_ ?_ <;> dsimp only [Last.from]
  · exact tile0 m c h t
  · exact tile1 m c h t
  · exact tile2 m c h t
  · exact tile3 m c h t
  · exact tile4 m c h t
  · exact tile5 m c h t

theorem stack : Real3 (V m c main_v7 : Vec Ideal S8x448x1024 .bf16) (pieces Y.wg) := by
  unfold V V0
  after_reads_at
  have := h.wg
  have a : Real3 (StableHlo.upto [hostOps0].flatten (fun b => m (c, b)) 5 (Proc.tc.devRef main_v0) : Vec Ideal S8x256x1024 .f32) fun _ _ _ => 0 := by
    after_reads_at
    infer_instance
  have b : Real3 (StableHlo.upto [hostOps0].flatten (fun b => m (c, b)) 5 (Proc.tc.devRef main_v1) : Vec Ideal S8x128x1024 .f32) fun l r k => Y.wg (128 * l + r) k := by
    after_reads_at
    infer_instance
  have e : Real3 (StableHlo.upto [hostOps0].flatten (fun b => m (c, b)) 5 (Proc.tc.devRef main_v2) : Vec Ideal S8x64x1024 .f32) fun _ _ _ => 0 := by
    after_reads_at
    infer_instance
  refine ⟨fun i => (stacked a b e (N := 448) rfl ?_).entry i⟩
  dsimp only [List.map]
  decide

set_option maxHeartbeats 1000000 in
/-- What point `n` leaves. -/
theorem leftAt_real : ∀ (n : ℕ) (hn : n < cfg0.N), LeftReal (leftAt m c n hn) (X.from (512 * n)) Y G (sumTo (gg (X.rows Y G) Y) n) (sumTo (sqr X Y G) n) (sumTo (gf X Y G) n) := by
  intro n
  induction n with
  | zero =>
    intro hn
    have k := stack m c h
    exact leftFirst_real c _ (stageAt ⟨0, hn⟩) (tilesAt m c ⟨0, hn⟩) (tilesAt_real m c h ⟨0, hn⟩) (first_at hn) (V m c main_v7) under_pieces
  | succ n ih =>
    intro hn
    obtain ⟨_, _, _, _, _, ⟨p, q, u⟩, w⟩ := ih (Nat.lt_of_succ_lt hn)
    exact leftNext_real c _ (stageAt ⟨n + 1, hn⟩) (tilesAt m c ⟨n + 1, hn⟩) (tilesAt_real m c h ⟨n + 1, hn⟩) (next_at n hn) (leftAt m c n (Nat.lt_of_succ_lt hn))
      ⟨sumTo_succ (gg (X.rows Y G) Y) n ▸ p, sumTo_succ (sqr X Y G) n ▸ q, sumTo_succ (gf X Y G) n ▸ u⟩ w

/-- The gradient of the input. -/
theorem final6 : Real2 ((dats m 0 c).arrAt 6 cfg0.N : Vec Ideal S8192x1024 .f32) (dh (X.rows Y G) Y) := by
  refine ⟨fun i => (dats m 0 c).arrAt_forall_of_covers 6 (fun i v => v = (((dh (X.rows Y G) Y) (i 0).val (i 1).val : ℝ) : EReal)) (by decide +kernel) (fun t hf y => ?_) i⟩
  refine ((leftAt_real m c h t.val t.isLt).dh.entry y).trans ?_
  show (((dh (X.rows Y G) Y) (512 * t.val + (y 0).val) (y 1).val : ℝ) : EReal) = _
  blk_simp [idx t]
  simp only [Nat.mul_comm 512]

/-- The cotangent of the gate's input. -/
theorem final7 : Real2 ((dats m 0 c).arrAt 7 cfg0.N : Vec Ideal S8192x1024 .bf16) (dpre (X.rows Y G) Y) := by
  refine ⟨fun i => (dats m 0 c).arrAt_forall_of_covers 7 (fun i v => v = (((dpre (X.rows Y G) Y) (i 0).val (i 1).val : ℝ) : EReal)) (by decide +kernel) (fun t hf y => ?_) i⟩
  refine ((leftAt_real m c h t.val t.isLt).pre.entry y).trans ?_
  show (((dpre (X.rows Y G) Y) (512 * t.val + (y 0).val) (y 1).val : ℝ) : EReal) = _
  blk_simp [idx t]
  simp only [Nat.mul_comm 512]

/-- The cotangent of the projected embedding. -/
theorem final8 : Real2 ((dats m 0 c).arrAt 8 cfg0.N : Vec Ideal S8192x1024 .bf16) (de (X.rows Y G)) := by
  refine ⟨fun i => (dats m 0 c).arrAt_forall_of_covers 8 (fun i v => v = (((de (X.rows Y G)) (i 0).val (i 1).val : ℝ) : EReal)) (by decide +kernel) (fun t hf y => ?_) i⟩
  refine ((leftAt_real m c h t.val t.isLt).e.entry y).trans ?_
  show (((de (X.rows Y G)) (512 * t.val + (y 0).val) (y 1).val : ℝ) : EReal) = _
  blk_simp [idx t]
  simp only [Nat.mul_comm 512]

/-- The normed rows. -/
theorem final9 : Real2 ((dats m 0 c).arrAt 9 cfg0.N : Vec Ideal S8192x1024 .bf16) (nrm (X.rows Y G) Y) := by
  refine ⟨fun i => (dats m 0 c).arrAt_forall_of_covers 9 (fun i v => v = (((nrm (X.rows Y G) Y) (i 0).val (i 1).val : ℝ) : EReal)) (by decide +kernel) (fun t hf y => ?_) i⟩
  refine ((leftAt_real m c h t.val t.isLt).n.entry y).trans ?_
  show (((nrm (X.rows Y G) Y) (512 * t.val + (y 0).val) (y 1).val : ℝ) : EReal) = _
  blk_simp [idx t]
  simp only [Nat.mul_comm 512]

/-- The embedding's input. -/
theorem final10 : Real2 ((dats m 0 c).arrAt 10 cfg0.N : Vec Ideal S8192x256 .bf16) (X.p) := by
  refine ⟨fun i => (dats m 0 c).arrAt_forall_of_covers 10 (fun i v => v = (((X.p) (i 0).val (i 1).val : ℝ) : EReal)) (by decide +kernel) (fun t hf y => ?_) i⟩
  refine ((leftAt_real m c h t.val t.isLt).pb.entry y).trans ?_
  show (((X.p) (512 * t.val + (y 0).val) (y 1).val : ℝ) : EReal) = _
  blk_simp [idx t]
  simp only [Nat.mul_comm 512]

/-- The three sums in eight partials. -/
theorem sums_real : SumsReal ⟨(dats m 0 c).arrAt 11 cfg0.N, (dats m 0 c).arrAt 12 cfg0.N, (dats m 0 c).arrAt 13 cfg0.N⟩
    (sumTo (gg (X.rows Y G) Y) 16) (sumTo (sqr X Y G) 16) (sumTo (gf X Y G) 16) := by
  refine SumsReal.mk ?_ ?_ ?_
  · refine ⟨fun i => (dats m 0 c).arrAt_forall_of_covers 11 (fun i v => v = ((sumTo (gg (X.rows Y G) Y) 16 (i 0).val (i 1).val : ℝ) : EReal)) (by decide +kernel) (fun t hf y => ?_) i⟩
    refine ((leftAt_real m c h t.val t.isLt).sums.gg.entry y).trans ?_
    have ht : t.val = 15 := by have := (flush0_11 t).mp hf; have := lt_of_lt_of_eq t.isLt N_0; omega
    blk_simp [idx t]
    rw [ht]
    exact congrArg Real.toEReal (sum_range_succ _ 15).symm
  · refine ⟨fun i => (dats m 0 c).arrAt_forall_of_covers 12 (fun i v => v = ((sumTo (sqr X Y G) 16 (i 0).val (i 1).val : ℝ) : EReal)) (by decide +kernel) (fun t hf y => ?_) i⟩
    refine ((leftAt_real m c h t.val t.isLt).sums.loss.entry y).trans ?_
    have ht : t.val = 15 := by have := (flush0_12 t).mp hf; have := lt_of_lt_of_eq t.isLt N_0; omega
    blk_simp [idx t]
    rw [ht]
    exact congrArg Real.toEReal (sum_range_succ _ 15).symm
  · refine ⟨fun i => (dats m 0 c).arrAt_forall_of_covers 13 (fun i v => v = ((sumTo (gf X Y G) 16 (i 0).val (i 1).val : ℝ) : EReal)) (by decide +kernel) (fun t hf y => ?_) i⟩
    refine ((leftAt_real m c h t.val t.isLt).sums.gf.entry y).trans ?_
    have ht : t.val = 15 := by have := (flush0_13 t).mp hf; have := lt_of_lt_of_eq t.isLt N_0; omega
    blk_simp [idx t]
    rw [ht]
    exact congrArg Real.toEReal (sum_range_succ _ 15).symm

omit h in
/-- Windows on one array are inputs. -/
theorem shared : Pipeline.SharedIn (cfgs 0).spec := by decide

/-- The gain's gradient. -/
theorem tail11 : Real1 (Pipeline.afterTail₀ cfgs (dats m) 0 (V0 m) [hostOps1] c main_v10 : Vec Ideal S1024 .f32) fun k => ∑ r ∈ range 8192, gg (X.rows Y G) Y r k := by
  obtain ⟨_, _, _⟩ := sums_real m c h
  unfold Pipeline.afterTail₀
  after_reads_at
  rw [(dats m 0 c).withArrays_arrAt shared (V0 m c) (A_eq m c) 11]
  exact Real1.of_eq inferInstance fun k _ => sum_all _ k

/-- The loss. -/
theorem tail12 : Real0 (Pipeline.afterTail₀ cfgs (dats m) 0 (V0 m) [hostOps1] c main_v12 : Vec Ideal S_ .f32) (1 / 2048 * ∑ k ∈ range 1024, ∑ r ∈ range 8192, sqr X Y G r k) := by
  obtain ⟨_, _, _⟩ := sums_real m c h
  unfold Pipeline.afterTail₀
  after_reads_at
  rw [(dats m 0 c).withArrays_arrAt shared (V0 m c) (A_eq m c) 12]
  refine Real0.of_eq inferInstance ?_
  rw [sum_comm]
  exact congrArg _ (sum_congr rfl fun k _ => sum_all _ k)

/-- The gradient of the final norm's gain. -/
theorem tail13 : Real1 (Pipeline.afterTail₀ cfgs (dats m) 0 (V0 m) [hostOps1] c main_v13 : Vec Ideal S1024 .f32) fun k => ∑ r ∈ range 8192, gf X Y G r k := by
  obtain ⟨_, _, _⟩ := sums_real m c h
  unfold Pipeline.afterTail₀
  after_reads_at
  rw [(dats m 0 c).withArrays_arrAt shared (V0 m c) (A_eq m c) 13]
  exact Real1.of_eq inferInstance fun k _ => sum_all _ k

variable (ρ : Dev nD → PrngReg)
omit h in
/-- The run: the eight results, the arguments unchanged. -/
theorem run : θ_run defs (onTc (τ := τ) (main (F := Ideal))) ⟨m, fun _ => 0, ρ⟩ fun r => ∀ c : Dev nD,
      r.2.mem ((c : Thread nD τ).loc main_v9_0) = (dats m 0 c).arrAt 6 cfg0.N
      ∧ r.2.mem ((c : Thread nD τ).loc main_v9_1) = (dats m 0 c).arrAt 7 cfg0.N
      ∧ r.2.mem ((c : Thread nD τ).loc main_v9_2) = (dats m 0 c).arrAt 8 cfg0.N
      ∧ r.2.mem ((c : Thread nD τ).loc main_v9_3) = (dats m 0 c).arrAt 9 cfg0.N
      ∧ r.2.mem ((c : Thread nD τ).loc main_v9_4) = (dats m 0 c).arrAt 10 cfg0.N
      ∧ r.2.mem ((c : Thread nD τ).loc main_v10) = Pipeline.afterTail₀ cfgs (dats m) 0 (V0 m) [hostOps1] c main_v10
      ∧ r.2.mem ((c : Thread nD τ).loc main_v12) = Pipeline.afterTail₀ cfgs (dats m) 0 (V0 m) [hostOps1] c main_v12
      ∧ r.2.mem ((c : Thread nD τ).loc main_v13) = Pipeline.afterTail₀ cfgs (dats m) 0 (V0 m) [hostOps1] c main_v13
      ∧ Same m r.2.mem c := by
  refine (θ_run defs _ _).mono (fun r h c => ?_) (θ_run_and (launch m ρ) (kept m ρ trivial))
  exact ⟨(h.1.1 c).1 6, (h.1.1 c).1 7, (h.1.1 c).1 8, (h.1.1 c).1 9, (h.1.1 c).1 10,
    (h.1.1 c).2 main_v10 (Pipeline.mem_restRefs_of main_v10 (by decide) (by decide)), (h.1.1 c).2 main_v12 (Pipeline.mem_restRefs_of main_v12 (by decide) (by decide)), (h.1.1 c).2 main_v13 (Pipeline.mem_restRefs_of main_v13 (by decide) (by decide)), h.2.1 c⟩

instance preFacts : Cert.Pre_finite6.Facts := by constructor <;> decide

omit h in
/-- What the precondition says of the arguments: real entries. -/
theorem real_args (h : Cert.Pre_Kernel6Ideal_finite6 m) : ∃ X Y G, ArgsReal m c X Y G := by
  have e := congrFun (h c) (fun a => a.elim0)
  dsimp only [Cert.Pre_finite6.fn, Cert.Pre_finite6.fn_part1] at e
  obtain ⟨e, e6⟩ := both e
  obtain ⟨e, e5⟩ := both e
  obtain ⟨e, e4⟩ := both e
  obtain ⟨e, e3⟩ := both e
  obtain ⟨e, e2⟩ := both e
  obtain ⟨e0, e1⟩ := both e
  obtain ⟨H, k0⟩ := Real2.exists (real_of_all _ _ _ _ _ e0)
  obtain ⟨P, k1⟩ := Real2.exists (real_of_all _ _ _ _ _ e1)
  obtain ⟨g, k2⟩ := Real1.exists (real_of_all _ _ _ _ _ e2)
  obtain ⟨w, k3⟩ := Real2.exists (real_of_all _ _ _ _ _ e3)
  obtain ⟨u, k4⟩ := Real2.exists (real_of_all _ _ _ _ _ e4)
  obtain ⟨T, k5⟩ := Real2.exists (real_of_all _ _ _ _ _ e5)
  obtain ⟨f, k6⟩ := Real1.exists (real_of_all _ _ _ _ _ e6)
  exact ⟨⟨H, P, T⟩, ⟨g, u, w⟩, f, k0, k1, k2, k3, k4, k5, k6⟩

end Cert.Kernel6Ideal.Gen
-- ==== Proof.HeadRef.lean ====
/- The values of the reference of the last gated embedding and the loss, and that the kernel's are the same. -/
module
public import proofs.«01_k».proof.Proof.HeadFinal
public import proofs.«01_k».proof.Proof.Gen.Reference6Ideal.Run
public import proofs.«01_k».proof.Proof.Gen.Reference6Ideal.Read
@[expose] public section
namespace Cert.Reference6Ideal.Read
open Cert.Reference6Ideal Cert.Reference6Ideal.Gen Idealize.ShloMosaic Idealize.ShloMosaic.TcCoe Cert.Reals Finset Cert.Embed

instance : Plain dot_S8192x1024_S1024x1024_S8192x1024_1_0_0_1_n_n := ⟨rfl⟩
instance : Plain dot_S8192x256_S256x1024_S8192x1024_1_0_0_1_n_n := ⟨rfl⟩
instance : Turned dot_S8192x1024_S1024x1024_S8192x1024_1_1_0_0_n_n := ⟨rfl⟩

variable (H P T : ℕ → ℕ → ℝ) (gain : ℕ → ℝ) (wp wg : ℕ → ℕ → ℝ) (G : ℕ → ℝ) (r k : ℕ)

/-- The parameters and the rows, together. -/
local notation "Y" => Fixed.mk gain wp wg
local notation "X" => Last.mk H P T
local notation "R" => Last.rows (Last.mk H P T) (Fixed.mk gain wp wg) G
/-- The layer's output. -/
local notation "O" => outOf H P gain wp wg
/-- The scaled error. -/
local notation "E" => fun r k => err (Last.mk H P T) (Fixed.mk gain wp wg) G r k * (1 / 1024)

theorem dpre_eq : dpre R (Y) r k = (R).d r k * embOf P wp r k * (gateOf H gain wg r k * (1 - gateOf H gain wg r k)) := (mul_assoc _ _ _)

/-- The loss, the mean taken row by row. -/
theorem loss_eq (f : ℕ → ℕ → ℝ) : 1 / 2 * ∑ r ∈ range 8192, (∑ k ∈ range 1024, f r k) / 1024 = 1 / 2048 * ∑ k ∈ range 1024, ∑ r ∈ range 8192, f r k := by
  rw [sum_comm, ← sum_div]; ring

variable (x0 x5 : FVec Ideal S8192x1024 .f32) (x1 : FVec Ideal S8192x256 .f32) (x2 x6 : FVec Ideal S1024 .f32) (x3 : FVec Ideal S1024x1024 .f32) (x4 : FVec Ideal S256x1024 .f32)
  {H P T gain wp wg G} [Real2 x0 H] [Real2 x1 P] [Real1 x2 gain] [Real2 x3 wg] [Real2 x4 wp] [Real2 x5 T] [Real1 x6 G]

instance v6 : Real2 (val_main_v6 (F := Ideal) x0) fun r _ => ms (H r) := by
  unfold val_main_v6 val_main_v5 val_main_cst_1 val_main_v4 val_main_v3 val_main_cst_0 val_main_v2 val_main_v1 val_main_cst val_main_v0
  exact inferInstance

instance v7 : Real2 (val_main_v7 (F := Ideal) x0) fun r _ => rt (H r) := by
  unfold val_main_v7
  exact inferInstance

instance v12 : Real2 (val_main_v12 (F := Ideal) x0) fun r k => H r k * rt (H r) := by
  unfold val_main_v12 val_main_v11
  exact inferInstance

instance v15 : Real2 (val_main_v15 (F := Ideal) x0 x2) (nrmOf H gain) := by
  unfold val_main_v15 val_main_v14 val_main_v13
  exact inferInstance

instance v17 : Real2 (val_main_v17 (F := Ideal) x1 x4) (embOf P wp) := by
  unfold val_main_v17
  exact inferInstance

instance v23 : Real2 (val_main_v23 (F := Ideal) x0 x2 x3) (gateOf H gain wg) := by
  unfold val_main_v23 val_main_v22 val_main_cst_4 val_main_v21 val_main_v20 val_main_cst_3 val_main_v19 val_main_v18 val_main_v16
  refine Real2.of_eq inferInstance fun r k _ _ => ?_
  simp only [gateOf, sg, one_div]

instance v28 : Real2 (val_main_v28 (F := Ideal) x0 x1 x2 x3 x4) O := by
  unfold val_main_v28 val_main_v27
  exact inferInstance

instance v35 : Real2 (val_main_v35 (F := Ideal) x0 x1 x2 x3 x4) fun r _ => ms (O r) := by
  unfold val_main_v35 val_main_v34 val_main_cst_8 val_main_v33 val_main_v32 val_main_cst_7 val_main_v31 val_main_v30 val_main_cst_6 val_main_v29
  exact inferInstance

instance v36 : Real2 (val_main_v36 (F := Ideal) x0 x1 x2 x3 x4) fun r _ => rt (O r) := by
  unfold val_main_v36
  exact inferInstance

instance v41 : Real2 (val_main_v41 (F := Ideal) x0 x1 x2 x3 x4) fun r k => O r k * rt (O r) := by
  unfold val_main_v41 val_main_v40
  exact inferInstance

instance v45 : Real2 (val_main_v45 (F := Ideal) x0 x1 x2 x3 x4 x5 x6) (err X (Y) G) := by
  unfold val_main_v45 val_main_v44 val_main_v43 val_main_v42
  exact inferInstance

theorem v53 : Real0 (val_main_v53 (F := Ideal) x0 x1 x2 x3 x4 x5 x6) (1 / 2048 * ∑ k ∈ range 1024, ∑ r ∈ range 8192, sqr X (Y) G r k) := by
  unfold val_main_v53 val_main_cst_14 val_main_v52 val_main_cst_13 val_main_v51 val_main_v50 val_main_cst_12 val_main_v49 val_main_cst_11 val_main_v46
  exact Real0.of_eq inferInstance (loss_eq _)

instance v59 : Real2 (val_main_v59 (F := Ideal) x0 x1 x2 x3 x4 x5 x6) E := by
  unfold val_main_v59 val_main_v58 val_main_v57 val_main_v56 val_main_cst_17 val_main_v55 val_main_v54 val_main_cst_16 val_main_cst_15 val_main_v48 val_main_v47
    val_main_cst_10
  refine Real2.of_eq inferInstance fun r k _ _ => ?_
  ring

theorem v65 : Real1 (val_main_v65 (F := Ideal) x0 x1 x2 x3 x4 x5 x6) fun k => ∑ r ∈ range 8192, gf X (Y) G r k := by
  unfold val_main_v65 val_main_cst_19 val_main_v62 val_main_v61 val_main_cst_18 val_main_v60
  refine Real1.of_eq inferInstance fun k _ => ?_
  simp only [sum_range_one, gf]
  exact sum_congr rfl fun r _ => mul_comm _ _

instance v64 : Real2 (val_main_v64 (F := Ideal) x0 x1 x2 x3 x4 x5 x6) fun r k => err X (Y) G r k * (1 / 1024) * G k := by
  unfold val_main_v64 val_main_v63 val_main_v42
  exact inferInstance

instance v73 : Real2 (val_main_v73 (F := Ideal) x0 x1 x2 x3 x4 x5 x6) fun r _ => (∑ k ∈ range 1024, O r k * (err X (Y) G r k * (1 / 1024) * G k)) * (-1 / 2 * (rt (O r) / ms (O r))) / 1024 := by
  unfold val_main_v73 val_main_v72 val_main_cst_21 val_main_v71 val_main_v68 val_main_v67 val_main_cst_20 val_main_v66 val_main_v39 val_main_v38 val_main_cst_9
    val_main_v37
  exact inferInstance

instance v79 : Real2 (val_main_v79 (F := Ideal) x0 x1 x2 x3 x4 x5 x6) (R).d := by
  unfold val_main_v79 val_main_v78 val_main_v77 val_main_v76 val_main_v75 val_main_v74 val_main_cst_22 val_main_v70 val_main_v69
  refine Real2.of_eq inferInstance fun r k _ _ => ?_
  simp only [sum_range_one]
  exact rmsGrad_eq (O r) G (fun k => err X (Y) G r k * (1 / 1024)) k

instance v81 : Real2 (val_main_v81 (F := Ideal) x0 x1 x2 x3 x4 x5 x6) (dpre R (Y)) := by
  unfold val_main_v81 val_main_v80 val_main_v26 val_main_v25 val_main_v24 val_main_cst_5
  exact Real2.of_eq inferInstance fun r k _ _ => (dpre_eq _ _ _ _ _ _ _ _ _).symm

instance v82 : Real2 (val_main_v82 (F := Ideal) x0 x1 x2 x3 x4 x5 x6) (dn R (Y)) := by
  unfold val_main_v82
  exact inferInstance

theorem v88 : Real1 (val_main_v88 (F := Ideal) x0 x1 x2 x3 x4 x5 x6) fun k => ∑ r ∈ range 8192, gg R (Y) r k := by
  unfold val_main_v88 val_main_cst_24 val_main_v85 val_main_v84 val_main_cst_23 val_main_v83
  refine Real1.of_eq inferInstance fun k _ => ?_
  simp only [sum_range_one, gg]
  exact sum_congr rfl fun r _ => mul_comm _ _

instance v87 : Real2 (val_main_v87 (F := Ideal) x0 x1 x2 x3 x4 x5 x6) fun r k => dn R (Y) r k * gain k := by
  unfold val_main_v87 val_main_v86 val_main_v13
  exact inferInstance

instance v97 : Real2 (val_main_v97 (F := Ideal) x0 x1 x2 x3 x4 x5 x6) fun r _ => (∑ k ∈ range 1024, H r k * (dn R (Y) r k * gain k)) * (-1 / 2 * (rt (H r) / ms (H r))) / 1024 := by
  unfold val_main_v97 val_main_v96 val_main_cst_26 val_main_v95 val_main_v91 val_main_v90 val_main_cst_25 val_main_v89 val_main_v10 val_main_v9 val_main_cst_2
    val_main_v8
  exact inferInstance

theorem v103 : Real2 (val_main_v103 (F := Ideal) x0 x1 x2 x3 x4 x5 x6) (dh R (Y)) := by
  unfold val_main_v103 val_main_v102 val_main_v101 val_main_v100 val_main_v99 val_main_v98 val_main_cst_27 val_main_v94 val_main_v93 val_main_v92
  refine Real2.of_eq inferInstance fun r k _ _ => ?_
  simp only [dh, sum_range_one]
  rw [← rmsGrad_eq]; simp only [Last.rows]; ring

instance v110 : Real2 (val_main_v110 (F := Ideal) x0) fun r _ => ms (H r) := by
  unfold val_main_v110 val_main_v109 val_main_cst_30 val_main_v108 val_main_v107 val_main_cst_29 val_main_v106 val_main_v105 val_main_cst_28 val_main_v104
  exact inferInstance

instance v111 : Real2 (val_main_v111 (F := Ideal) x0) fun r _ => rt (H r) := by
  unfold val_main_v111
  exact inferInstance

instance v116 : Real2 (val_main_v116 (F := Ideal) x0 x2) (nrmOf H gain) := by
  unfold val_main_v116 val_main_v115 val_main_v114 val_main_v113 val_main_v112
  exact inferInstance

instance v118 : Real2 (val_main_v118 (F := Ideal) x1 x4) (embOf P wp) := by
  unfold val_main_v118
  exact inferInstance

instance v124 : Real2 (val_main_v124 (F := Ideal) x0 x2 x3) (gateOf H gain wg) := by
  unfold val_main_v124 val_main_v123 val_main_cst_32 val_main_v122 val_main_v121 val_main_cst_31 val_main_v120 val_main_v119 val_main_v117
  refine Real2.of_eq inferInstance fun r k _ _ => ?_
  simp only [gateOf, sg, one_div]

instance v129 : Real2 (val_main_v129 (F := Ideal) x0 x1 x2 x3 x4) O := by
  unfold val_main_v129 val_main_v128
  exact inferInstance

instance v136 : Real2 (val_main_v136 (F := Ideal) x0 x1 x2 x3 x4) fun r _ => ms (O r) := by
  unfold val_main_v136 val_main_v135 val_main_cst_36 val_main_v134 val_main_v133 val_main_cst_35 val_main_v132 val_main_v131 val_main_cst_34 val_main_v130
  exact inferInstance

instance v137 : Real2 (val_main_v137 (F := Ideal) x0 x1 x2 x3 x4) fun r _ => rt (O r) := by
  unfold val_main_v137
  exact inferInstance

instance v142 : Real2 (val_main_v142 (F := Ideal) x0 x1 x2 x3 x4) fun r k => O r k * rt (O r) := by
  unfold val_main_v142 val_main_v141
  exact inferInstance

instance v146 : Real2 (val_main_v146 (F := Ideal) x0 x1 x2 x3 x4 x5 x6) (err X (Y) G) := by
  unfold val_main_v146 val_main_v145 val_main_v144 val_main_v143
  exact inferInstance

instance v160 : Real2 (val_main_v160 (F := Ideal) x0 x1 x2 x3 x4 x5 x6) E := by
  unfold val_main_v160 val_main_v159 val_main_v158 val_main_v157 val_main_cst_45 val_main_v156 val_main_v155 val_main_cst_44 val_main_cst_43 val_main_v149
    val_main_v148 val_main_cst_38
  refine Real2.of_eq inferInstance fun r k _ _ => ?_
  ring

instance v162 : Real2 (val_main_v162 (F := Ideal) x0 x1 x2 x3 x4 x5 x6) fun r k => err X (Y) G r k * (1 / 1024) * G k := by
  unfold val_main_v162 val_main_v161 val_main_v143
  exact inferInstance

instance v170 : Real2 (val_main_v170 (F := Ideal) x0 x1 x2 x3 x4 x5 x6) fun r _ => (∑ k ∈ range 1024, O r k * (err X (Y) G r k * (1 / 1024) * G k)) * (-1 / 2 * (rt (O r) / ms (O r))) / 1024 := by
  unfold val_main_v170 val_main_v169 val_main_cst_47 val_main_v168 val_main_v165 val_main_v164 val_main_cst_46 val_main_v163 val_main_v140 val_main_v139
    val_main_cst_37 val_main_v138
  exact inferInstance

instance v176 : Real2 (val_main_v176 (F := Ideal) x0 x1 x2 x3 x4 x5 x6) (R).d := by
  unfold val_main_v176 val_main_v175 val_main_v174 val_main_v173 val_main_v172 val_main_v171 val_main_cst_48 val_main_v167 val_main_v166
  refine Real2.of_eq inferInstance fun r k _ _ => ?_
  simp only [sum_range_one]
  exact rmsGrad_eq (O r) G (fun k => err X (Y) G r k * (1 / 1024)) k

theorem v180 : Real2 (val_main_v180 (F := Ideal) x0 x1 x2 x3 x4 x5 x6) (dpre R (Y)) := by
  unfold val_main_v180 val_main_v179 val_main_v178 val_main_v127 val_main_v126 val_main_v125 val_main_cst_33
  exact Real2.of_eq inferInstance fun r k _ _ => (dpre_eq _ _ _ _ _ _ _ _ _).symm

theorem v181 : Real2 (val_main_v181 (F := Ideal) x0 x1 x2 x3 x4 x5 x6) fun r k => gateOf H gain wg r k * (R).d r k := by
  unfold val_main_v181 val_main_v177
  exact inferInstance

theorem v182 : Real2 (val_main_v182 (F := Ideal) x0 x2) (nrmOf H gain) := by
  unfold val_main_v182
  exact inferInstance

theorem v183 : Real2 (val_main_v183 (F := Ideal) x1) P := by
  unfold val_main_v183
  exact inferInstance

set_option maxHeartbeats 1000000 in
/-- The claim of the values. -/
theorem algebraic : Cert.algebraic_Kernel6Ideal_Reference6Ideal_pre_finite6 := by
  intro m g m' g' hpre hargs
  refine ⟨_, _, _, _, _, _, _, _, Cert.Kernel6Ideal.Gen.run m g, (θ_run _ _ _).mono (fun r h c => ?_) (Cert.Reference6Ideal.Value.run (F := Ideal) m' g')⟩
  obtain ⟨h0, h1, h2, h3, h4, h5, h6, h7, h8⟩ := h c
  obtain ⟨a0, a1, a2, a3, a4, a5, a6⟩ := hargs c
  obtain ⟨⟨H, P, T⟩, ⟨gain, wp, wg⟩, G, k⟩ := Cert.Kernel6Ideal.Gen.real_args m c hpre
  obtain ⟨k0, k1, k2, k3, k4, k5, k6⟩ := id k
  rw [← a0] at k0
  change Real2 (StableHlo.launchContents m' c (Proc.devRef .tc main_arg0) : Vec Ideal S8192x1024 .f32) H at k0
  rw [← a1] at k1
  change Real2 (StableHlo.launchContents m' c (Proc.devRef .tc main_arg1) : Vec Ideal S8192x256 .f32) P at k1
  rw [← a2] at k2
  change Real1 (StableHlo.launchContents m' c (Proc.devRef .tc main_arg2) : Vec Ideal S1024 .f32) gain at k2
  rw [← a3] at k3
  change Real2 (StableHlo.launchContents m' c (Proc.devRef .tc main_arg3) : Vec Ideal S1024x1024 .f32) wg at k3
  rw [← a4] at k4
  change Real2 (StableHlo.launchContents m' c (Proc.devRef .tc main_arg4) : Vec Ideal S256x1024 .f32) wp at k4
  rw [← a5] at k5
  change Real2 (StableHlo.launchContents m' c (Proc.devRef .tc main_arg5) : Vec Ideal S8192x1024 .f32) T at k5
  rw [← a6] at k6
  change Real1 (StableHlo.launchContents m' c (Proc.devRef .tc main_arg6) : Vec Ideal S1024 .f32) G at k6
  clear a0 a1 a2 a3 a4 a5 a6
  refine ⟨h0.trans ((val_main_v103_eq _).trans ?_),
    h1.trans ((val_main_v180_eq _).trans ?_),
    h2.trans ((val_main_v181_eq _).trans ?_),
    h3.trans ((val_main_v182_eq _).trans ?_),
    h4.trans ((val_main_v183_eq _).trans ?_),
    h5.trans ((val_main_v88_eq _).trans ?_),
    h6.trans ((val_main_v53_eq _).trans ?_),
    h7.trans ((val_main_v65_eq _).trans ?_), h8⟩ <;> clear h0 h1 h2 h3 h4 h5 h6 h7 h8
  · exact Real2.same (v103 (H := H) (P := P) (T := T) (gain := gain) (wp := wp) (wg := wg) (G := G) _ _ _ _ _ _ _) (Cert.Kernel6Ideal.Gen.final6 m c k)
  · exact Real2.same (v180 (H := H) (P := P) (T := T) (gain := gain) (wp := wp) (wg := wg) (G := G) _ _ _ _ _ _ _) (Cert.Kernel6Ideal.Gen.final7 m c k)
  · exact Real2.same (Real2.of_eq (v181 (H := H) (P := P) (T := T) (gain := gain) (wp := wp) (wg := wg) (G := G) _ _ _ _ _ _ _) fun r k _ _ => mul_comm _ _) (Cert.Kernel6Ideal.Gen.final8 m c k)
  · exact Real2.same (v182 (H := H) (gain := gain) _ _) (Cert.Kernel6Ideal.Gen.final9 m c k)
  · exact Real2.same (v183 (P := P) _) (Cert.Kernel6Ideal.Gen.final10 m c k)
  · exact Real1.same (v88 (H := H) (P := P) (T := T) (gain := gain) (wp := wp) (wg := wg) (G := G) _ _ _ _ _ _ _) (Cert.Kernel6Ideal.Gen.tail11 m c k)
  · exact Real0.same (v53 (H := H) (P := P) (T := T) (gain := gain) (wp := wp) (wg := wg) (G := G) _ _ _ _ _ _ _) (Cert.Kernel6Ideal.Gen.tail12 m c k)
  · exact Real1.same (v65 (H := H) (P := P) (T := T) (gain := gain) (wp := wp) (wg := wg) (G := G) _ _ _ _ _ _ _) (Cert.Kernel6Ideal.Gen.tail13 m c k)

end Cert.Reference6Ideal.Read
-- ==== Proof.FfnFwdFrame.lean ====
/- The body of the feed-forward's forward kernel, run at the grid's first point (which fetches the three weights) and at a later one, and its frame. -/
module

public import proofs.«01_k».proof.Proof.Fetch
public import proofs.«01_k».proof.Proof.Gen.Kernel7Ideal.Frame.Runs
public import proofs.«01_k».proof.Defs
public import proofs.«01_k».proof.Proof.Gen.Kernel7
public import Idealize.ShloMosaic.Lib.Claim

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Fetch

variable {F : FTy → Type} [FloatOps F]

local notation "𝕄" => MT nD τ sig Unit (Elt F) ℕ (Pipeline.UD sig nD τ) ℕ

/-- The memrefs of a point's body: the rows and the gain, the four results, the three fetched weights. -/
structure Stage where
  a0 : Memref sig .tc .vmem S512x1024 .f32
  h0 : a0.IsWhole
  a1 : Memref sig .tc .vmem S1x1024 .f32
  h1 : a1.IsWhole
  y : Memref sig .tc .vmem S512x1024 .f32
  hy : y.IsWhole
  g : Memref sig .tc .vmem S512x2816 .bf16
  hg : g.IsWhole
  u : Memref sig .tc .vmem S512x2816 .bf16
  hu : u.IsWhole
  n : Memref sig .tc .vmem S512x1024 .bf16
  hn : n.IsWhole
  w0 : Memref sig .tc .vmem S2816x1024 .bf16
  hw0 : w0.IsWhole
  w1 : Memref sig .tc .vmem S2816x1024 .bf16
  hw1 : w1.IsWhole
  w2 : Memref sig .tc .vmem S2816x1024 .bf16
  hw2 : w2.IsWhole

abbrev Stage.body (s : Stage) (i : grid0.Coords) : Prog (TpuEff nD τ sig (Elt F) Λ₀ .tc) PUnit :=
  cc0_ffn_fwd i s.a0 s.h0 s.a1 s.h1 (Memref.whole main_v6) (Memref.isWhole_whole _) s.y s.hy s.g s.hg s.u s.hu s.n s.hn s.w0 s.hw0 s.w1 s.hw1 s.w2 s.hw2 cc0_scratch3

/-- The two tiles that a point reads. -/
structure Tiles (F : FTy → Type) where
  h : Vec F S512x1024 .f32
  g : Vec F S1x1024 .f32

/-- The three weights in scratch: the gate's, the up projection's, the down projection's. -/
structure Weights (F : FTy → Type) where
  g : Vec F S2816x1024 .bf16
  u : Vec F S2816x1024 .bf16
  d : Vec F S2816x1024 .bf16

/-- A point's four results: the rows, the gate's and the up projection's outputs, the normed rows. -/
structure Results (F : FTy → Type) where
  y : Vec F S512x1024 .f32
  g : Vec F S512x2816 .bf16
  u : Vec F S512x2816 .bf16
  n : Vec F S512x1024 .bf16

/-- The stores of a point into them, -/
structure Stores (F : FTy → Type) where
  y : List (View.Piece (Elt F) S512x1024 .f32)
  g : List (View.Piece (Elt F) S512x2816 .bf16)
  u : List (View.Piece (Elt F) S512x2816 .bf16)
  n : List (View.Piece (Elt F) S512x1024 .bf16)
/-- and of the copies into the weights. -/
structure Copies (F : FTy → Type) where
  g : List (View.Piece (Elt F) S2816x1024 .bf16)
  u : List (View.Piece (Elt F) S2816x1024 .bf16)
  d : List (View.Piece (Elt F) S2816x1024 .bf16)

/-- What the stores leave. -/
def Stores.left (L : Stores F) : Results F := ⟨View.canon L.y, View.canon L.g, View.canon L.u, View.canon L.n⟩
def Copies.left (L : Copies F) : Weights F := ⟨View.canon L.g, View.canon L.u, View.canon L.d⟩

section
variable (s : Stage) (c : Dev nD)

/-- The inputs at their tiles. -/
def Stage.ins (x : Tiles F) : sProp 𝕄 := iprop(owns (c : Thread nD τ) s.a0 fullShare x.h ∗ owns (c : Thread nD τ) s.a1 fullShare x.g)
/-- The results' buffers at any contents, -/
def Stage.any : sProp 𝕄 :=
  iprop((∃ d, owns (c : Thread nD τ) s.y fullShare d) ∗ (∃ d, owns (c : Thread nD τ) s.g fullShare d) ∗ (∃ d, owns (c : Thread nD τ) s.u fullShare d) ∗ (∃ d, owns (c : Thread nD τ) s.n fullShare d))
/-- with a point's stores written, -/
def Stage.outs (L : Stores F) : sProp 𝕄 :=
  iprop(stored (c : Thread nD τ) s.y L.y ∗ stored (c : Thread nD τ) s.g L.g ∗ stored (c : Thread nD τ) s.u L.u ∗ stored (c : Thread nD τ) s.n L.n)
/-- at what they leave. -/
def Stage.done (r : Results F) : sProp 𝕄 :=
  iprop(owns (c : Thread nD τ) s.y fullShare r.y ∗ owns (c : Thread nD τ) s.g fullShare r.g ∗ owns (c : Thread nD τ) s.u fullShare r.u ∗ owns (c : Thread nD τ) s.n fullShare r.n)
/-- The weights in scratch, -/
def Stage.held (w : Weights F) : sProp 𝕄 :=
  iprop(owns (c : Thread nD τ) s.w0 fullShare w.g ∗ owns (c : Thread nD τ) s.w1 fullShare w.u ∗ owns (c : Thread nD τ) s.w2 fullShare w.d)
/-- as the copies wrote them. -/
def Stage.fetched (L : Copies F) : sProp 𝕄 :=
  iprop(stored (c : Thread nD τ) s.w0 L.g ∗ stored (c : Thread nD τ) s.w1 L.u ∗ stored (c : Thread nD τ) s.w2 L.d)

/-- The copies' counters at zero and the weights' pieces as the launch left them. -/
def parts (fh : HbBuf0 (F := F) c hbM0_0) : sProp 𝕄 := iprop(Pipeline.ownSems0 osem0 c ∗ hbPt0 c hbM0_0 fh)
end

set_option sl_exec.dmaWindow true in
set_option sl_exec.dmaWindowSet true in
set_option maxHeartbeats 4000000 in
/-- The first point fetches the weights, then works like the others. -/
noncomputable def runFirst (c : Dev nD) (i : grid0.Coords) (hc : cond0_0 i) (s : Stage) (x : Tiles F) (fh : HbBuf0 (F := F) c hbM0_0) :
    Σ' (L : Stores F), { LW : Copies F //
      ∀ (W : Waits sig Unit) (K : PUnit → sProp 𝕄),
        iprop(s.ins c x ∗ s.any c ∗ (∃ w, s.held c w) ∗ parts c fh ∗ owes (c : Thread nD τ) 0 W
          ∗ (iprop(s.ins c x ∗ s.outs c L ∗ s.fetched c LW ∗ parts c fh ∗ (∃ W', owes (c : Thread nD τ) 0 W')) -∗ K ⟨⟩))
          ⊢ wp frame (wpE (defs₀ (F := F)) Variants.none c none) Set.univ (s.body i) K } := by
  refine ⟨⟨?_, ?_, ?_, ?_⟩, ⟨?_, ?_, ?_⟩, fun W K => ?run⟩
  case run =>
    unfold Stage.body Stage.ins Stage.any Stage.outs Stage.held Stage.fetched parts
    rw [ownSems00_eq, owns_unread _ s.h0, owns_unread _ s.h1]
    simp only [cc0_ffn_fwd_eq_skeleton]; unfold cc0_ffn_fwd_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton]
    unfold owns
    iintro ⟨⟨H0, H1⟩, ⟨⟨%dy, %fy, -, HY⟩, ⟨%dg, %fg, -, HG⟩, ⟨%du, %fu, -, HU⟩, ⟨%dn, %fn, -, HN⟩⟩,
      ⟨%w, ⟨%g0, -, S0⟩, ⟨%g1, -, S1⟩, ⟨%g2, -, S2⟩⟩,
      ⟨⟨P0, P1, P2, P3, P4, P5, P6, P7, Q0, Q1, Q2, Q3, Q4, Q5, Q6, Q7, R0, R1, R2, R3, R4, R5, R6, R7⟩, Hh⟩, HW, Hk⟩
    sl_exec (disch := first | sl_exact hc)
    sl_step
    iapply Hk
    unfold stored
    iframe H0 H1 P0 P1 P2 P3 P4 P5 P6 P7 Q0 Q1 Q2 Q3 Q4 Q5 Q6 Q7 R0 R1 R2 R3 R4 R5 R6 R7 Hh
    isplitl [HY HG HU HN]
    · isplitl [HY]; · iexists _; iexact HY
      isplitl [HG]; · iexists _; iexact HG
      isplitl [HU]; · iexists _; iexact HU
      iexists _; iexact HN
    isplitl [S0 S1 S2]
    · isplitl [S0]; · iexists _; iexact S0
      isplitl [S1]; · iexists _; iexact S1
      iexists _; iexact S2
    iexists _; iexact HW

set_option maxHeartbeats 4000000 in
/-- A later point reads the weights from scratch. -/
noncomputable def runNext (c : Dev nD) (i : grid0.Coords) (hc : ¬cond0_0 i) (s : Stage) (x : Tiles F) (w : Weights F) :
    { L : Stores F //
      ∀ (W : Waits sig Unit) (K : PUnit → sProp 𝕄),
        iprop(s.ins c x ∗ s.any c ∗ s.held c w ∗ owes (c : Thread nD τ) 0 W
          ∗ (iprop(s.ins c x ∗ s.outs c L ∗ s.held c w ∗ (∃ W', owes (c : Thread nD τ) 0 W')) -∗ K ⟨⟩))
          ⊢ wp frame (wpE (defs₀ (F := F)) Variants.none c none) Set.univ (s.body i) K } := by
  refine ⟨⟨?_, ?_, ?_, ?_⟩, fun W K => ?run⟩
  case run =>
    unfold Stage.body Stage.ins Stage.any Stage.outs Stage.held
    rw [owns_unread _ s.h0, owns_unread _ s.h1, owns_unread _ s.hw0, owns_unread _ s.hw1, owns_unread _ s.hw2]
    simp only [cc0_ffn_fwd_eq_skeleton]; unfold cc0_ffn_fwd_skel
    simp only [k0_part11_eq_skeleton, k0_part12_eq_skeleton]
    unfold owns
    iintro ⟨⟨H0, H1⟩, ⟨⟨%dy, %fy, -, HY⟩, ⟨%dg, %fg, -, HG⟩, ⟨%du, %fu, -, HU⟩, ⟨%dn, %fn, -, HN⟩⟩, ⟨S0, S1, S2⟩, HW, Hk⟩
    sl_exec (disch := first | sl_exact hc)
    sl_step
    iapply Hk
    unfold stored
    iframe H0 H1 S0 S1 S2
    isplitl [HY HG HU HN]
    · isplitl [HY]; · iexists _; iexact HY
      isplitl [HG]; · iexists _; iexact HG
      isplitl [HU]; · iexists _; iexact HU
      iexists _; iexact HN
    iexists _; iexact HW

variable (m : (ℓ : Loc nD τ sig) → Buf (Elt F) ℓ) (ρ : Dev nD → PrngReg)

abbrev stageAt (t : Fin cfg0.N) : Stage := ⟨ms0_0 t, hs0_0 t, ms0_1 t, hs0_1 t, ms0_2 t, hs0_2 t, ms0_3 t, hs0_3 t, ms0_4 t, hs0_4 t, ms0_5 t, hs0_5 t,
  scM0_0, Memref.isWhole_whole _, scM0_1, Memref.isWhole_whole _, scM0_2, Memref.isWhole_whole _⟩

abbrev tilesAt (c : Dev nD) (t : Fin cfg0.N) : Tiles F := ⟨iblk m c 0 t, iblk m c 1 t⟩

theorem first_at (hn : 0 < cfg0.N) : cond0_0 (grid0.coords ⟨0, hn⟩) := (hcond0_0 ⟨0, hn⟩).mpr rfl
theorem next_at (n : ℕ) (hn : n + 1 < cfg0.N) : ¬cond0_0 (grid0.coords ⟨n + 1, hn⟩) := fun h => by
  have hN : n + 1 < 16 := lt_of_lt_of_eq hn N_0
  have := (hcond0_0 ⟨n + 1, hn⟩).mp h
  dsimp only at this; omega

/-- The run of the first point, -/
abbrev firstRun (c : Dev nD) (hn : 0 < cfg0.N) := runFirst c _ (first_at hn) (stageAt ⟨0, hn⟩) (tilesAt m c ⟨0, hn⟩) (V m c main_v6)
/-- the weights it fetches, -/
def weights (c : Dev nD) : Weights F := (firstRun m c (lt_of_lt_of_eq (by decide : 0 < 16) N_0.symm)).2.1.left
/-- and the run of a later one. -/
abbrev nextRun (c : Dev nD) (n : ℕ) (hn : n + 1 < cfg0.N) := runNext c _ (next_at n hn) (stageAt ⟨n + 1, hn⟩) (tilesAt m c ⟨n + 1, hn⟩) (weights m c)

/-- What point `n` leaves. -/
def leftAt (c : Dev nD) : (n : ℕ) → n < cfg0.N → Results F
  | 0, hn => (firstRun m c hn).1.left
  | n + 1, hn => (nextRun m c n hn).1.left

/-- Between points: the register, the counters, the weights' pieces. -/
def quiet (c : Dev nD) : sProp 𝕄 := iprop((∃ r, prngReg c r) ∗ parts c (V m c main_v6))

theorem phi_eq (c : Dev nD) : (Pipeline.ΦD osem0 spec0 H0 (V m) c : sProp 𝕄)
    = iprop(iprop((∃ d, owns (c : Thread nD τ) scM0_0 fullShare d) ∗ (∃ d, owns (c : Thread nD τ) scM0_1 fullShare d) ∗ (∃ d, owns (c : Thread nD τ) scM0_2 fullShare d)) ∗ quiet m c) := by
  unfold quiet parts
  rw [Pipeline.ΦD_eq, scopedRest0_eq, hbmPts0_eq]; simp only [scM0_0, scM0_1, scM0_2, owns_whole]; rfl

/-- Before point `n`: the weights, once they are fetched. -/
def inv (c : Dev nD) : (n : ℕ) → sProp 𝕄
  | 0 => Pipeline.ΦD osem0 spec0 H0 (V m) c
  | n + 1 => iprop(Stage.held (stageAt ⟨0, lt_of_lt_of_eq (by decide : 0 < 16) N_0.symm⟩) c (weights m c) ∗ quiet m c)

/-- The arrays and the tiles, point by point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (leftAt m c t.val t.isLt).y
    | ⟨3, _⟩ => (leftAt m c t.val t.isLt).g
    | ⟨4, _⟩ => (leftAt m c t.val t.isLt).u
    | ⟨5, _⟩ => (leftAt m c t.val t.isLt).n
  Φ t := inv m c t.val
  q _ := fullShare
  owed _ := 0

theorem A_eq (c : Dev nD) (w : Fin cfg0.W) : (dats m 0 c).A w = V m c (Pipeline.arrRef spec0 w) := by dsimp only [dats]

/-- The stores of a point cover its results. -/
theorem outs_done (s : Stage) (c : Dev nD) (L : Stores F) (hy : ∀ y, ∃ p ∈ L.y, y ∈ p.1.set) (hg : ∀ y, ∃ p ∈ L.g, y ∈ p.1.set) (hu : ∀ y, ∃ p ∈ L.u, y ∈ p.1.set)
    (hn : ∀ y, ∃ p ∈ L.n, y ∈ p.1.set) : s.outs c L ⊢ s.done c L.left := by
  unfold Stage.outs Stage.done
  iintro ⟨HY, HG, HU, HN⟩
  isplitl [HY]; · iapply (stored_owns _ _ _ hy); iexact HY
  isplitl [HG]; · iapply (stored_owns _ _ _ hg); iexact HG
  isplitl [HU]; · iapply (stored_owns _ _ _ hu); iexact HU
  iapply (stored_owns _ _ _ hn); iexact HN

/-- The copies cover the weights. -/
theorem fetched_held (s : Stage) (c : Dev nD) (L : Copies F) (hg : ∀ y, ∃ p ∈ L.g, y ∈ p.1.set) (hu : ∀ y, ∃ p ∈ L.u, y ∈ p.1.set) (hd : ∀ y, ∃ p ∈ L.d, y ∈ p.1.set) :
    s.fetched c L ⊢ s.held c L.left := by
  unfold Stage.fetched Stage.held
  iintro ⟨HG, HU, HD⟩
  isplitl [HG]; · iapply (stored_owns _ _ _ hg); iexact HG
  isplitl [HU]; · iapply (stored_owns _ _ _ hu); iexact HU
  iapply (stored_owns _ _ _ hd); iexact HD

set_option maxHeartbeats 2000000 in
/-- The body at a point leaves its rows of the results. -/
theorem sound (c : Dev nD) (t : Fin cfg0.N) (W : Waits sig Unit) (K : PUnit → sProp 𝕄) :
    iprop(inv m c t.val ∗ owes (c : Thread nD τ) 0 W ∗ (stageAt t).ins c (tilesAt m c t) ∗ (stageAt t).any c
      ∗ (iprop(inv m c (t.val + 1) ∗ (∃ W', owes (c : Thread nD τ) 0 W') ∗ (stageAt t).ins c (tilesAt m c t) ∗ (stageAt t).done c (leftAt m c t.val t.isLt)) -∗ K ⟨⟩))
      ⊢ wp frame (wpE (defs₀ (F := F)) Variants.none c none) Set.univ (bodyAt0 t) K := by
  obtain ⟨n, hn⟩ := t
  cases n with
  | zero =>
    dsimp only [inv]
    rw [phi_eq]
    unfold quiet
    iintro ⟨⟨⟨⟨%d0, S0⟩, ⟨%d1, S1⟩, ⟨%d2, S2⟩⟩, Hg, Hp⟩, HW, HI, HA, Hk⟩
    iapply ((firstRun m c hn).2.2 W _)
    iframe HI HA Hp HW
    isplitl [S0 S1 S2]
    · iexists ⟨d0, d1, d2⟩
      unfold Stage.held
      iframe S0 S1 S2
    iintro ⟨HI, HO, HS, Hp, HW⟩
    iapply Hk
    iframe HI Hg Hp HW
    isplitl [HS]
    · iapply (fetched_held _ c _ (fun y => View.cover_of_tiledL _ ![352, 1024] (by sl_kernel_rfl) y) (fun y => View.cover_of_tiledL _ ![352, 1024] (by sl_kernel_rfl) y)
        fun y => View.cover_of_tiledL _ ![352, 1024] (by sl_kernel_rfl) y)
      iexact HS
    iapply (outs_done _ c _ (fun y => View.cover_of_tiledL _ ![512, 1024] (by sl_kernel_rfl) y) (fun y => View.cover_of_tiledBy _ ![512, 256] (by sl_kernel_rfl) y)
      (fun y => View.cover_of_tiledBy _ ![512, 256] (by sl_kernel_rfl) y) fun y => View.cover_of_tiledL _ ![512, 1024] (by sl_kernel_rfl) y)
    iexact HO
  | succ n =>
    dsimp only [inv]
    iintro ⟨⟨HS, Hq⟩, HW, HI, HA, Hk⟩
    iapply ((nextRun m c n hn).2 W _)
    iframe HI HA HW
    isplitl [HS]; · iexact HS
    iintro ⟨HI, HO, HS, HW⟩
    iapply Hk
    iframe HI Hq HW
    isplitl [HS]; · iexact HS
    iapply (outs_done _ c _ (fun y => View.cover_of_tiledL _ ![512, 1024] (by sl_kernel_rfl) y) (fun y => View.cover_of_tiledBy _ ![512, 256] (by sl_kernel_rfl) y)
      (fun y => View.cover_of_tiledBy _ ![512, 256] (by sl_kernel_rfl) y) fun y => View.cover_of_tiledL _ ![512, 1024] (by sl_kernel_rfl) y)
    iexact HO

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  rw [show (dats m 0 c).Φ t.castSucc = inv m c t.val from rfl, show (dats m 0 c).Φ t.succ = inv m c (t.val + 1) from rfl]
  unfold Dat.owesAt Pipeline.owesWithin
  iintro ⟨HΦ, ⟨%W, -, HW⟩, ⟨%d0, H0⟩, ⟨%d1, H1⟩, ⟨%d2, H2⟩, ⟨%d3, H3⟩, ⟨%d4, H4⟩, ⟨%d5, H5⟩⟩
  iapply (sound m c t W _)
  rw [before0_0_of m (dats m 0 c) (A_eq m c 0) (fun t => by dsimp only [dats]) t d0, before0_1_of m (dats m 0 c) (A_eq m c 1) (fun t => by dsimp only [dats]) t d1]
  unfold Stage.ins Stage.any Stage.done
  iframe HΦ HW H0 H1
  isplitl [H2 H3 H4 H5]
  · isplitl [H2]; · iexists _; iexact H2
    isplitl [H3]; · iexists _; iexact H3
    isplitl [H4]; · iexists _; iexact H4
    iexists _; iexact H5
  iintro ⟨HΦ, ⟨%W', HW⟩, ⟨H0, H1⟩, H2, H3, H4, H5⟩
  iframe HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

/-- After the last point the scratches are any again. -/
theorem inv_last (c : Dev nD) : (dats m 0 c).Φ (Fin.last cfg0.N) ⊢ Pipeline.ΦD osem0 spec0 H0 (V m) c := by
  rw [phi_eq, show (dats m 0 c).Φ (Fin.last cfg0.N) = inv m c 16 from rfl]
  dsimp only [inv]
  unfold Stage.held
  iintro ⟨⟨S0, S1, S2⟩, Hq⟩
  isplitl [S0 S1 S2]
  · isplitl [S0]; · iexists _; iexact S0
    isplitl [S1]; · iexists _; iexact S1
    iexists _; iexact S2
  iexact Hq

set_option backward.isDefEq.respectTransparency.types false in
/-- The launch: it ends with the arrays at what the points leave and every counter at zero. -/
theorem launch : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl) (howed := fun _ _ => rfl)
    (V := V m) (hmain := hmain m Variants.none) (hA := A_eq m) (hin := fun c => .rfl) (hout := inv_last m)

/-- The arguments of device `c` are those of `m`. -/
abbrev Same (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)

/-- The frame as the launch states it, at any floats: the arguments end as they were, and every counter at zero. -/
def Kept (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      Same m r.2.mem c)
      ∧ r.2.sem = fun _ => 0)

theorem kept : Kept F := fun m ρ _ =>
  θ_run_and (frame_of m ρ (dats m) (A_eq m) ((θ_run defs _ _).mono (fun _ h => h.1) (launch m ρ))) ((θ_run defs _ _).mono (fun _ h => h.2) (launch m ρ))

/-- The two programs are the same text. -/
theorem same : Kept Bits = Cert.quiescent_Kernel7 (hKernel7 := Cert.Kernel7.Gen.facts) := by sl_kernel_rfl

theorem kernel_frame : Cert.quiescent_Kernel7 (hKernel7 := Cert.Kernel7.Gen.facts) := same.mp kept

end Cert.Kernel7Ideal.Gen

end
-- ==== Proof.Ents.lean ====
module
public import proofs.«01_k».proof.Proof.Reals
@[expose] public section
namespace Cert.Ents
open Idealize.ShloMosaic Finset
open Cert.Reals (Plain Turned canon_whole)

/-!
  The entries of arrays of extended reals as functions of the row and the column, and what the operations of the forward
  calls make of them. Nothing is asked of the entries, which may be infinite.
-/

/-- The vector `x` has the entries `f`. -/
class Ent1 {n : ℕ} (x : (⟨1, ![n]⟩ : Shape).Idx → EReal) (f : outParam (ℕ → EReal)) : Prop where
  entry : ∀ i, x i = f (i 0).val

/-- The matrix `x` has the entries `f`. -/
class Ent2 {m n : ℕ} (x : (⟨2, ![m, n]⟩ : Shape).Idx → EReal) (f : outParam (ℕ → ℕ → EReal)) : Prop where
  entry : ∀ i, x i = f (i 0).val (i 1).val

/-- The stack `x` has the entries `P`. -/
class Ent3 {k m n : ℕ} (x : (⟨3, ![k, m, n]⟩ : Shape).Idx → EReal) (P : outParam (ℕ → ℕ → ℕ → EReal)) : Prop where
  entry : ∀ i, x i = P (i 0).val (i 1).val (i 2).val

theorem Ent2.of_eq {m n : ℕ} {x : (⟨2, ![m, n]⟩ : Shape).Idx → EReal} {f g : ℕ → ℕ → EReal} (h : Ent2 x f)
    (e : ∀ r c, r < m → c < n → f r c = g r c) : Ent2 x g :=
  ⟨fun i => (h.entry i).trans (e _ _ (i 0).isLt (i 1).isLt)⟩

theorem Ent2.same {m n : ℕ} {x y : (⟨2, ![m, n]⟩ : Shape).Idx → EReal} {f : ℕ → ℕ → EReal} (h : Ent2 x f) (k : Ent2 y f) : x = y :=
  funext fun i => (h.entry i).trans (k.entry i).symm

/-- Every matrix has entries, -/
theorem Ent2.exists {m n : ℕ} (x : (⟨2, ![m, n]⟩ : Shape).Idx → EReal) : ∃ f, Ent2 x f :=
  ⟨fun r c => if h : r < m ∧ c < n then x (ix2 ⟨r, h.1⟩ ⟨c, h.2⟩) else 0, ⟨fun i => by
    refine (congrArg x (eq_ix2 i)).trans (Eq.symm (dif_pos ⟨(i 0).isLt, (i 1).isLt⟩))⟩⟩
/-- and every vector. -/
theorem Ent1.exists {n : ℕ} (x : (⟨1, ![n]⟩ : Shape).Idx → EReal) : ∃ f, Ent1 x f :=
  ⟨fun r => if h : r < n then x (ix1 ⟨r, h⟩) else 0, ⟨fun i => by
    refine (congrArg x (eq_ix1 i)).trans (Eq.symm (dif_pos (i 0).isLt))⟩⟩

/-- The number the pattern `b` denotes. -/
noncomputable def lit (b : BitVec 32) : EReal := Ideal.ofBits .f32 b
/-- The logistic function. -/
noncomputable def logi (x : EReal) : EReal := Ideal.div (lit 0x3F800000#32) (lit 0x3F800000#32 + Ideal.exp (-x))
theorem logistic_eq (x : EReal) : Ideal.logistic x = logi x := by
  unfold logi lit
  rw [show Ideal.ofBits .f32 0x3F800000#32 = 1 from (inferInstance : Reals.Lit 0x3F800000#32 1).val.trans EReal.coe_one]
  rfl

variable {m n k : ℕ} {φ ψ : FTy} {f g : ℕ → ℕ → EReal}

section
variable (x y : FVec Ideal ⟨2, ![m, n]⟩ φ) [hx : Ent2 x f] [hy : Ent2 y g]

instance : Ent2 (mulf x y) fun r c => f r c * g r c := ⟨fun i => congrArg₂ (· * ·) (hx.entry i) (hy.entry i)⟩
instance : Ent2 (addf x y) fun r c => f r c + g r c := ⟨fun i => congrArg₂ (· + ·) (hx.entry i) (hy.entry i)⟩
instance : Ent2 (divf x y) fun r c => Ideal.div (f r c) (g r c) := ⟨fun i => congrArg₂ Ideal.div (hx.entry i) (hy.entry i)⟩
instance : Ent2 (Host.divf x y) fun r c => Ideal.div (f r c) (g r c) := ⟨fun i => congrArg₂ Ideal.div (hx.entry i) (hy.entry i)⟩
omit hy
instance (h) : Ent2 (extf ψ x h) f := ⟨hx.entry⟩
instance (h) : Ent2 (truncf ψ x h) f := ⟨hx.entry⟩
instance : Ent2 (logistic x) fun r c => logi (f r c) := ⟨fun i => (congrArg Ideal.logistic (hx.entry i)).trans (logistic_eq _)⟩
instance : Ent2 (Host.logistic x) fun r c => logi (f r c) := ⟨fun i => (congrArg Ideal.logistic (hx.entry i)).trans (logistic_eq _)⟩
instance : Ent2 (Idealize.ShloMosaic.rsqrt x) fun r c => Ideal.rsqrt (f r c) := ⟨fun i => congrArg Ideal.rsqrt (hx.entry i)⟩
instance : Ent2 (Host.rsqrt x) fun r c => Ideal.rsqrt (f r c) := ⟨fun i => congrArg Ideal.rsqrt (hx.entry i)⟩
instance : Ent2 (Host.negf x) fun r c => -f r c := ⟨fun i => congrArg (- ·) (hx.entry i)⟩
instance : Ent2 (Host.exp x) fun r c => Ideal.exp (f r c) := ⟨fun i => congrArg Ideal.exp (hx.entry i)⟩
end

instance (b : BitVec 32) : Ent2 (broadcast (⟨2, ![m, n]⟩ : Shape) (Scalar.ofBits (F := Ideal) .f32 b)) fun _ _ => lit b := ⟨fun _ => rfl⟩
instance (b : BitVec 32) (h) : Ent2 (broadcastInDim (⟨2, ![m, n]⟩ : Shape) ![] h (constant (F := Ideal) (⟨0, ![]⟩ : Shape) .f32 b)) fun _ _ => lit b := ⟨fun _ => rfl⟩
instance (b : BitVec 32) (h) : Ent3 (broadcastInDim (⟨3, ![k, m, n]⟩ : Shape) ![] h (constant (F := Ideal) (⟨0, ![]⟩ : Shape) .f32 b)) fun _ _ _ => lit b := ⟨fun _ => rfl⟩

/-! ## Copies -/

/-- A matrix whose entries are those of `x` at the places `e`. -/
theorem Ent2.copy {M N : ℕ} {x : (⟨2, ![m, n]⟩ : Shape).Idx → EReal} (hx : Ent2 x f) {y : (⟨2, ![M, N]⟩ : Shape).Idx → EReal} {g : ℕ → ℕ → EReal}
    (e : (⟨2, ![M, N]⟩ : Shape).Idx → (⟨2, ![m, n]⟩ : Shape).Idx) (he : ∀ j, y j = x (e j)) (h : ∀ j, f (e j 0).val (e j 1).val = g (j 0).val (j 1).val) : Ent2 y g :=
  ⟨fun j => (he j).trans ((hx.entry _).trans (h j))⟩

/-- Rows of `x`, from `p` on. -/
theorem Ent2.rows {M : ℕ} {x : (⟨2, ![m, n]⟩ : Shape).Idx → EReal} (hx : Ent2 x f) (y : (⟨2, ![M, n]⟩ : Shape).Idx → EReal) (p : ℕ)
    (e : (⟨2, ![M, n]⟩ : Shape).Idx → (⟨2, ![m, n]⟩ : Shape).Idx) (he : ∀ j, y j = x (e j)) (h0 : ∀ j, (e j 0).val = p + (j 0).val) (h1 : ∀ j, (e j 1).val = (j 1).val) :
    Ent2 y fun r c => f (p + r) c :=
  ⟨fun j => by rw [he, hx.entry, h0, h1]⟩

theorem one_or {a b : ℕ} (h : a < b) : a = if b = 1 then 0 else a := by split <;> omega

section
variable (x : (⟨2, ![m, n]⟩ : Shape).Idx → EReal) [hx : Ent2 x f] {u : ℕ → EReal}

instance (h) : Ent2 (shapeCast (⟨2, ![m, n]⟩ : Shape) x h) f := hx.copy id (fun j => congrFun (shapeCast_self x h) j) fun _ => rfl
instance (h) : Ent2 (transpose (⟨2, ![n, m]⟩ : Shape) [1, 0] x h) fun r c => f c r :=
  hx.copy (fun i => ix2 (i 1) (i 0)) (fun i => transpose_apply [1, 0] x h i _ fun b => by fin_cases b <;> rfl) fun _ => rfl

instance (x : (⟨2, ![1, n]⟩ : Shape).Idx → EReal) [hx : Ent2 x f] (h) : Ent2 (broadcastTo (⟨2, ![m, n]⟩ : Shape) x h) fun _ c => f 0 c :=
  hx.copy (fun i => ix2 0 (i 1)) (fun i => broadcastTo_apply x h i _ fun a => by
    fin_cases a
    · rfl
    · exact one_or (i 1).isLt) fun _ => rfl
instance (x : (⟨2, ![m, 1]⟩ : Shape).Idx → EReal) [hx : Ent2 x f] (h) : Ent2 (broadcastTo (⟨2, ![m, n]⟩ : Shape) x h) fun r _ => f r 0 :=
  hx.copy (fun i => ix2 (i 0) 0) (fun i => broadcastTo_apply x h i _ fun a => by
    fin_cases a
    · exact one_or (i 0).isLt
    · rfl) fun _ => rfl
instance (x : (⟨2, ![m, 1]⟩ : Shape).Idx → EReal) [hx : Ent2 x f] (h) : Ent2 (broadcastInDim (⟨2, ![m, n]⟩ : Shape) ![0, 1] h x) fun r _ => f r 0 :=
  hx.copy (fun i => ix2 (i 0) 0) (fun i => broadcastInDim_apply _ h x i _ fun a => by
    fin_cases a
    · exact one_or (i 0).isLt
    · rfl) fun _ => rfl
instance (x : (⟨2, ![1, n]⟩ : Shape).Idx → EReal) [hx : Ent2 x f] (h) : Ent2 (broadcastInDim (⟨2, ![m, n]⟩ : Shape) ![0, 1] h x) fun _ c => f 0 c :=
  hx.copy (fun i => ix2 0 (i 1)) (fun i => broadcastInDim_apply _ h x i _ fun a => by
    fin_cases a
    · rfl
    · exact one_or (i 1).isLt) fun _ => rfl
instance (x : (⟨1, ![m]⟩ : Shape).Idx → EReal) [hx : Ent1 x u] (h) : Ent2 (broadcastInDim (⟨2, ![m, n]⟩ : Shape) ![0] h x) fun r _ => u r :=
  ⟨fun i => (broadcastInDim_apply _ h x i (ix1 (i 0)) fun a => by
    fin_cases a
    exact one_or (i 0).isLt).trans (hx.entry _)⟩
instance (x : (⟨1, ![n]⟩ : Shape).Idx → EReal) [hx : Ent1 x u] (h) : Ent2 (broadcastInDim (⟨2, ![1, n]⟩ : Shape) ![1] h x) fun _ c => u c :=
  ⟨fun i => (broadcastInDim_apply _ h x i (ix1 (i 1)) fun a => by
    fin_cases a
    exact one_or (i 1).isLt).trans (hx.entry _)⟩
instance (x : (⟨1, ![m]⟩ : Shape).Idx → EReal) [hx : Ent1 x u] (h) : Ent2 (shapeCast (⟨2, ![m, 1]⟩ : Shape) x h) fun r _ => u r :=
  ⟨fun i => (shapeCast_apply x h i (ix1 (i 0)) (by
    rw [Shape.rowMajor_val_one, Shape.rowMajor_val_two]
    have := (i 1).isLt; change (i 1).val < 1 at this
    show (i 0).val = (i 0).val * 1 + (i 1).val
    omega)).trans (hx.entry _)⟩
instance (x : (⟨1, ![n]⟩ : Shape).Idx → EReal) [hx : Ent1 x u] : Ent2 (fun i : (⟨2, ![m, n]⟩ : Shape).Idx => x (ix1 (i 1))) fun _ c => u c := ⟨fun _ => hx.entry _⟩

instance (x : FVec Ideal ⟨3, ![k, m, n]⟩ φ) {P : ℕ → ℕ → ℕ → EReal} [hx : Ent3 x P] (h) : Ent3 (truncf ψ x h) P := ⟨hx.entry⟩
/-- The rows, or the columns, cut into a stack in place. -/
instance {M : ℕ} (x : (⟨2, ![n, m]⟩ : Shape).Idx → EReal) [hx : Ent2 x f] (h : ∀ i : (⟨3, ![k, M, n]⟩ : Shape).Idx, (i 0).val * M + (i 1).val < m) :
    Ent3 (fun i : (⟨3, ![k, M, n]⟩ : Shape).Idx => x (ix2 (i 2) ⟨(i 0).val * M + (i 1).val, h i⟩)) fun l r c => f c (l * M + r) := ⟨fun _ => hx.entry _⟩
instance {M : ℕ} (x : (⟨2, ![m, n]⟩ : Shape).Idx → EReal) [hx : Ent2 x f] (h : ∀ i : (⟨3, ![k, M, n]⟩ : Shape).Idx, (i 0).val * M + (i 1).val < m) :
    Ent3 (fun i : (⟨3, ![k, M, n]⟩ : Shape).Idx => x (ix2 ⟨(i 0).val * M + (i 1).val, h i⟩ (i 2))) fun l r c => f (l * M + r) c := ⟨fun _ => hx.entry _⟩
end

/-! ## Sums and products -/

theorem sum_fin (h : ℕ → EReal) {a : Fin n → EReal} (e : ∀ q, a q = h q.val) : ∑ q, a q = ∑ q ∈ range n, h q := by
  rw [Finset.sum_range]
  exact sum_congr rfl fun q _ => e q

instance (x : FVec Ideal ⟨2, ![m, n]⟩ .f32) [hx : Ent2 x f] (h hφ) (hb : (0x00000000#32 : BitVec 32) = 0x00000000#32) :
    Ent1 (multiReduction .add [1] (⟨1, ![m]⟩ : Shape) x 0x00000000#32 h hφ hb) fun r => ∑ c ∈ range n, f r c :=
  ⟨fun i => (Ideal.reduceAdd_r2_a1 h x i).trans (sum_fin (f (i 0).val) fun c => hx.entry _)⟩
instance (x : FVec Ideal ⟨2, ![m, n]⟩ .f32) [hx : Ent2 x f] (h hu) :
    Ent1 (Host.reduceAdd (t := (⟨1, ![m]⟩ : Shape)) (axes := [1]) x (constant (F := Ideal) (⟨0, ![]⟩ : Shape) .f32 0x00000000#32) h hu) fun r => ∑ c ∈ range n, f r c :=
  ⟨fun i => (Ideal.hostReduceAdd_r2_a1 h x _ i).trans ((congrArg (· + _) (show Ideal.ofBits .f32 0x00000000#32 = 0 from Ideal.ofBits_zero_f32)).trans
    ((zero_add _).trans (sum_fin (f (i 0).val) fun c => hx.entry _)))⟩

theorem from_zero (a : EReal) : Ideal.ofBits .f32 0x00000000#32 + a = a := by rw [show Ideal.ofBits .f32 0x00000000#32 = 0 from Ideal.ofBits_zero_f32, zero_add]

instance (d : DotDims ⟨2, ![m, k]⟩ ⟨2, ![k, n]⟩ ⟨2, ![m, n]⟩) [hd : Plain d] (x : FVec Ideal ⟨2, ![m, k]⟩ φ) (y : FVec Ideal ⟨2, ![k, n]⟩ ψ)
    [hx : Ent2 x f] [hy : Ent2 y g] :
    Ent2 (matmul d none x y (constant (⟨2, ![m, n]⟩ : Shape) .f32 0x00000000#32)) fun r c => ∑ q ∈ range k, f r q * g q c := by
  obtain rfl := hd.eq
  exact ⟨fun i => (congrArg _ (eq_ix2 i)).trans ((Ideal.matmul_plain_apply none x y _ (i 0) (i 1)).trans ((from_zero _).trans
    (sum_fin (fun q => f (i 0).val q * g q (i 1).val) fun q => congrArg₂ (· * ·) (hx.entry _) (hy.entry _))))⟩
instance (d : DotDims ⟨2, ![m, k]⟩ ⟨2, ![n, k]⟩ ⟨2, ![m, n]⟩) [hd : Turned d] (x : FVec Ideal ⟨2, ![m, k]⟩ φ) (y : FVec Ideal ⟨2, ![n, k]⟩ ψ)
    [hx : Ent2 x f] [hy : Ent2 y g] :
    Ent2 (matmul d none x y (constant (⟨2, ![m, n]⟩ : Shape) .f32 0x00000000#32)) fun r c => ∑ q ∈ range k, f r q * g c q := by
  obtain rfl := hd.eq
  exact ⟨fun i => (congrArg _ (eq_ix2 i)).trans ((Ideal.matmul_transposedRhs_apply none x y _ (i 0) (i 1)).trans ((from_zero _).trans
    (sum_fin (fun q => f (i 0).val q * g (i 1).val q) fun q => congrArg₂ (· * ·) (hx.entry _) (hy.entry _))))⟩
instance (d : DotDims ⟨2, ![m, k]⟩ ⟨2, ![k, n]⟩ ⟨2, ![m, n]⟩) [hd : Plain d] (x : FVec Ideal ⟨2, ![m, k]⟩ .f32) (y : FVec Ideal ⟨2, ![k, n]⟩ .f32)
    [hx : Ent2 x f] [hy : Ent2 y g] : Ent2 (Host.dotGeneral d none x y) fun r c => ∑ q ∈ range k, f r q * g q c := by
  rw [← matmul_zero_eq_dotGeneral]; infer_instance

/-! ## Boxes and stores -/

section
variable {sig : RefSig} {κ : Kind} {sp : Space} {e : EltTy} {m n a b r₀ c₀ : ℕ} {f : ℕ → ℕ → EReal}
  (inb : ∀ i, (![r₀, c₀] : Fin 2 → ℕ) i + (![a, b] : Fin 2 → ℕ) i ≤ (⟨2, ![m, n]⟩ : Shape).size i)

theorem box_at (f : ℕ → ℕ → EReal) (r₀ c₀ x y : ℕ) : f (r₀ + 1 * x) (c₀ + 1 * y) = f (r₀ + x) (c₀ + y) := by rw [Nat.one_mul, Nat.one_mul]

instance {M : Memref sig κ sp ⟨2, ![m, n]⟩ .f32} (h : M.IsWhole) (X : Vec Ideal ⟨2, ![m, n]⟩ .f32) [hX : Ent2 X f] :
    Ent2 (m := a) (n := b) (View.readAt (Elt Ideal) M.view (Rect.unit (s := ⟨2, ![m, n]⟩) ![r₀, c₀] ![a, b] inb).toLoadRect (h.unread X))
      fun r c => f (r₀ + r) (c₀ + c) :=
  ⟨fun _ => (h.readAt_unread X _ _).trans ((hX.entry _).trans (box_at f _ _ _ _))⟩
instance {M : Memref sig κ sp ⟨2, ![m, n]⟩ .bf16} (h : M.IsWhole) (X : Vec Ideal ⟨2, ![m, n]⟩ .bf16) [hX : Ent2 X f] :
    Ent2 (m := a) (n := b) (View.readAt (Elt Ideal) M.view (Rect.unit (s := ⟨2, ![m, n]⟩) ![r₀, c₀] ![a, b] inb).toLoadRect (h.unread X))
      fun r c => f (r₀ + r) (c₀ + c) :=
  ⟨fun _ => (h.readAt_unread X _ _).trans ((hX.entry _).trans (box_at f _ _ _ _))⟩
instance (v : View sig κ sp ⟨2, ![m, n]⟩ .bf16) (L : List (View.Piece (Elt Ideal) ⟨2, ![m, n]⟩ .bf16))
    [hX : Ent2 (View.canon L : Vec Ideal ⟨2, ![m, n]⟩ .bf16) f] :
    Ent2 (m := a) (n := b) (v.readCov L (Rect.unit (s := ⟨2, ![m, n]⟩) ![r₀, c₀] ![a, b] inb).toLoadRect) fun r c => f (r₀ + r) (c₀ + c) :=
  ⟨fun i => by rw [View.readCov_eq_canon']; exact (hX.entry _).trans (box_at f _ _ _ _)⟩
end

/-- The matrix of the pieces' rows from `r₀` on, `a` of each, one piece under the other. -/
def under (a r₀ : ℕ) (P : ℕ → ℕ → ℕ → EReal) (r c : ℕ) : EReal := P (r / a) (r₀ + r % a) c

/-- What the fetch of a piece's rows puts at its place is the entry of the whole. -/
theorem piece {sig : RefSig} {κ : Kind} {sp : Space} {K R M N a k r₀ o : ℕ} (A : Memref sig κ sp ⟨3, ![K, R, N]⟩ .bf16) (f : A.view.ty.Contents (Elt Ideal))
    {P : ℕ → ℕ → ℕ → EReal} (hP : Ent3 (View.read (Elt Ideal) A.view f : Vec Ideal ⟨3, ![K, R, N]⟩ .bf16) P) (inb hs hq inb') (ho : o = a * k)
    (x : (⟨2, ![a, N]⟩ : Shape).Idx) :
    ReadAs.same.apply (View.read (Elt Ideal) ((A.slice (Rect.unit (s := ⟨3, ![K, R, N]⟩) ![k, r₀, 0] ![1, a, N] inb) hs).squeeze ⟨2, ![a, N]⟩ hq).view f) x
      = under a r₀ P ((Rect.unit (s := ⟨2, ![M, N]⟩) ![o, 0] ![a, N] inb').emb x 0).val ((Rect.unit (s := ⟨2, ![M, N]⟩) ![o, 0] ![a, N] inb').emb x 1).val := by
  have h0 : (x 0).val < a := (x 0).isLt
  have hc : (⟨3, ![1, a, N]⟩ : Shape).ShapeCasts ⟨2, ![a, N]⟩ := hq.numel_eq
  refine (congrFun (Memref.read_squeeze_slice A (Rect.unit (s := ⟨3, ![K, R, N]⟩) ![k, r₀, 0] ![1, a, N] inb) hs hq hc f) x).trans ?_
  refine (shapeCast_apply _ hc x (ix3 ⟨0, Nat.one_pos⟩ (x 0) (x 1)) ?_).trans ((hP.entry _).trans ?_)
  · rw [Shape.rowMajor_val_two, Shape.rowMajor_val_three]
    show (0 * a + (x 0).val) * N + (x 1).val = (x 0).val * N + (x 1).val
    rw [Nat.zero_mul, Nat.zero_add]
  show P (k + 1 * 0) (r₀ + 1 * (x 0).val) (0 + 1 * (x 1).val) = P ((o + 1 * (x 0).val) / a) (r₀ + (o + 1 * (x 0).val) % a) (0 + 1 * (x 1).val)
  rw [ho, Nat.one_mul (x 0).val, Nat.mul_add_div (by omega), Nat.mul_add_mod, Nat.div_eq_of_lt h0, Nat.mod_eq_of_lt h0]

/-- What a store of columns puts at its place is the entry of the whole. -/
theorem column {a b M N c₀ : ℕ} {v : (⟨2, ![a, b]⟩ : Shape).Idx → EReal} {f W : ℕ → ℕ → EReal} (hv : Ent2 v f) (inb) (h : ∀ r q, q < b → f r q = W r (c₀ + q))
    (x : (⟨2, ![a, b]⟩ : Shape).Idx) :
    v x = W ((Rect.unit (s := ⟨2, ![M, N]⟩) ![0, c₀] ![a, b] inb).emb x 0).val ((Rect.unit (s := ⟨2, ![M, N]⟩) ![0, c₀] ![a, b] inb).emb x 1).val := by
  refine (hv.entry x).trans ((h _ _ (x 1).isLt).trans ?_)
  show W (x 0).val (c₀ + (x 1).val) = W (0 + 1 * (x 0).val) (c₀ + 1 * (x 1).val)
  rw [Nat.zero_add, Nat.one_mul, Nat.one_mul]

/-- Stores that cover and agree with `W` leave `W`. -/
theorem canon_ent {M N : ℕ} {W : ℕ → ℕ → EReal} (L : List (View.Piece (Elt Ideal) ⟨2, ![M, N]⟩ .bf16))
    (h : ∀ p ∈ L, ∀ x : p.1.shape.Idx, p.2 x = W (p.1.emb x 0).val (p.1.emb x 1).val) (hc : ∀ y, ∃ p ∈ L, y ∈ p.1.set) :
    Ent2 (View.canon L : Vec Ideal ⟨2, ![M, N]⟩ .bf16) W :=
  ⟨fun y => View.canon_apply_of_pieces (fun y => W (y 0).val (y 1).val) L h y (hc y)⟩

/-- Three stacks, each piece of the second under that of the first, of the third under that of the second. -/
theorem stacked {a b e N : ℕ} {P Q R : ℕ → ℕ → ℕ → EReal} {x : (⟨3, ![k, a, n]⟩ : Shape).Idx → EReal} {y : (⟨3, ![k, b, n]⟩ : Shape).Idx → EReal}
    {z : (⟨3, ![k, e, n]⟩ : Shape).Idx → EReal} (hx : Ent3 x P) (hy : Ent3 y Q) (hz : Ent3 z R) (hN : N = a + b + e) (h) :
    Ent3 (concatenate (⟨3, ![k, N, n]⟩ : Shape) 1 [⟨⟨3, ![k, a, n]⟩, x⟩, ⟨⟨3, ![k, b, n]⟩, y⟩, ⟨⟨3, ![k, e, n]⟩, z⟩] h)
      fun l r c => if r < a then P l r c else if r < a + b then Q l (r - a) c else R l (r - (a + b)) c := by
  refine ⟨fun i => ?_⟩
  have h1 : (i 1).val < N := (i 1).isLt
  have off (q : ℕ) (d : ℕ) (u : Fin d) (b : Fin 3) (hb : b ≠ 1) : (ix3 (i 0) u (i 2) (Fin.cast rfl b)).val = (i b).val := by
    fin_cases b <;> first | rfl | exact absurd rfl hb
  by_cases ha : (i 1).val < a
  · rw [if_pos ha]
    exact (concatenate_apply_piece 1 _ h i 0 (by simp) _ x rfl rfl 0 (by simp) (ix3 (i 0) ⟨(i 1).val, ha⟩ (i 2)) (off 0 _ _) (Nat.zero_add _)).trans (hx.entry _)
  by_cases hb : (i 1).val < a + b
  · rw [if_neg ha, if_pos hb]
    exact (concatenate_apply_piece 1 _ h i 1 (by simp) _ y rfl rfl a (by simp) (ix3 (i 0) ⟨(i 1).val - a, by omega⟩ (i 2)) (off 1 _ _)
      (Nat.add_sub_cancel' (Nat.le_of_not_lt ha))).trans (hy.entry _)
  · rw [if_neg ha, if_neg hb]
    exact (concatenate_apply_piece 1 _ h i 2 (by simp) _ z rfl rfl (a + b) (by simp) (ix3 (i 0) ⟨(i 1).val - (a + b), by omega⟩ (i 2)) (off 2 _ _)
      (Nat.add_sub_cancel' (Nat.le_of_not_lt hb))).trans (hz.entry _)

/-! ## The root mean square norm -/

/-- The normed row of 1024 entries, scaled by `g`. -/
noncomputable def normed (H : ℕ → ℕ → EReal) (g : ℕ → EReal) (r c : ℕ) : EReal :=
  H r c * Ideal.rsqrt (Ideal.div (∑ q ∈ range 1024, H r q * H r q) (lit 0x44800000#32) + lit 0x358637BD#32) * g c
/-- The normed rows through a weight. -/
noncomputable def through (H : ℕ → ℕ → EReal) (g : ℕ → EReal) (w : ℕ → ℕ → EReal) (r c : ℕ) : EReal := ∑ q ∈ range 1024, normed H g r q * w q c

end Cert.Ents
-- ==== Proof.FfnFwdFinal.lean ====
/- What the feed-forward's forward kernel leaves: the rows with half the gated map added, the two projections, the normed rows. -/
module
public import proofs.«01_k».proof.Proof.FfnFwdFrame
public import proofs.«01_k».proof.Proof.Ents
public import Idealize.ShloMosaic.Lib.Pipeline.ValueKit.Geometry
public import Idealize.ShloMosaic.Lib.StableHlo.ReadAt
@[expose] public section
namespace Cert.Kernel7Ideal.Gen
open Idealize.ShloMosaic Idealize.ShloMosaic.TcCoe Idealize.SL.Sem Cert.Ents Finset
open Cert.Reals (Plain Turned canon_whole)

instance : Plain dot_S512x768_S768x1024_S512x1024_1_0_0_1_n_n := ⟨rfl⟩
instance : Plain dot_S512x512_S512x1024_S512x1024_1_0_0_1_n_n := ⟨rfl⟩
instance : Turned dot_S512x1024_S768x1024_S512x768_1_1_0_0_n_n := ⟨rfl⟩
instance : Turned dot_S512x1024_S512x1024_S512x512_1_1_0_0_n_n := ⟨rfl⟩

/-- The gated row: the gate's projection through `x ↦ x * logi x`, times the up projection. -/
noncomputable def gated (A B : ℕ → ℕ → EReal) (r q : ℕ) : EReal := A r q * logi (A r q) * B r q
/-- The rows with half of the gated rows through the down projection added. -/
noncomputable def fed (H : ℕ → ℕ → EReal) (g : ℕ → EReal) (wg wu wd : ℕ → ℕ → EReal) (r k : ℕ) : EReal :=
  H r k + lit 0x3F000000#32 * ∑ q ∈ range 2816, gated (through H g wg) (through H g wu) r q * wd q k

/-- A sum over the hidden columns is summed four pieces at a time, from zero. -/
theorem chunks (f : ℕ → EReal) : ∑ q ∈ range 2816, f q
    = lit 0x00000000#32 + ∑ q ∈ range 768, f q + ∑ q ∈ range 768, f (768 + q) + ∑ q ∈ range 768, f (1536 + q) + ∑ q ∈ range 512, f (2304 + q) := by
  rw [show lit 0x00000000#32 = 0 from Ideal.ofBits_zero_f32, zero_add, ← sum_range_add f 768 768, ← sum_range_add f 1536 768, ← sum_range_add f 2304 512]

/-- A point's results have the entries of the feed-forward of its rows. -/
structure Point (L : Results Ideal) (H : ℕ → ℕ → EReal) (v : ℕ → EReal) (wg wu wd : ℕ → ℕ → EReal) : Prop where
  y : Ent2 L.y (fed H v wg wu wd)
  g : Ent2 L.g (through H v wg)
  u : Ent2 L.u (through H v wu)
  n : Ent2 L.n (normed H v)

section
variable (c : Dev nD) (i : grid0.Coords) (s : Stage) (x : Tiles Ideal) {H G : ℕ → ℕ → EReal} [Ent2 x.h H] [Ent2 x.g G]

section
variable (hc : ¬cond0_0 i) (wt : Weights Ideal) {A B D : ℕ → ℕ → EReal} [Ent2 wt.g A] [Ent2 wt.u B] [Ent2 wt.d D]

set_option synthInstance.maxSize 10000 in
set_option synthInstance.maxHeartbeats 400000 in
theorem next_point : Point (runNext c i hc s x wt).1.left H (G 0) (fun q k => A k q) (fun q k => B k q) D := by
  dsimp only [runNext, Stores.left]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18,
    k0_pay19, k0_pay20, runNext.sl.r, runNext.sl.r_1, runNext.sl.r_2, runNext.sl.r_3, runNext.sl.r_4, runNext.sl.r_5, runNext.sl.r_6, runNext.sl.r_7, runNext.sl.r_8,
    runNext.sl.r_9, runNext.sl.r_10, runNext.sl.r_11, runNext.sl.r_12, runNext.sl.v0, runNext.sl.v1, runNext.sl.v2]
  refine Point.mk ?_ ?_ ?_ ?_ <;> dsimp only
  rotate_left 3
  · rw [canon_whole]
    exact Ent2.of_eq inferInstance fun r k _ _ => by simp only [normed, Nat.zero_add]
  · rw [canon_whole]
    exact Ent2.of_eq inferInstance fun r k _ _ => by simp only [fed, chunks, gated, through, normed, Nat.zero_add]
  all_goals refine canon_ent _ ?_ fun y => View.cover_of_tiledBy _ ![512, 256] (by sl_kernel_rfl) y
  all_goals simp only [List.forall_mem_cons]
  all_goals refine ⟨?_, ?_, ?_, ?_, fun p hp => absurd hp List.not_mem_nil⟩
  all_goals exact column inferInstance _ fun r q _ => by simp only [through, normed, Nat.zero_add]
end

variable (hc : cond0_0 i) (fh : HbBuf0 (F := Ideal) c hbM0_0) {D : ℕ → ℕ → ℕ → EReal} [hD : Ent3 (fh : Vec Ideal S8x1056x1024 .bf16) D]

/-- The fetches leave the three weights, one device's rows under the other's. -/
theorem first_weights : Ent2 (runFirst c i hc s x fh).2.1.left.g (under 352 0 D)
    ∧ Ent2 (runFirst c i hc s x fh).2.1.left.u (under 352 352 D)
    ∧ Ent2 (runFirst c i hc s x fh).2.1.left.d (under 352 704 D) := by
  refine ⟨?_, ?_, ?_⟩
  all_goals dsimp only [Copies.left]
  all_goals refine canon_ent _ ?_ fun y => View.cover_of_tiledL _ ![352, 1024] (by sl_kernel_rfl) y
  all_goals dsimp only [runFirst]
  all_goals simp only [List.forall_mem_cons]
  all_goals refine ⟨?_, ?_, ?_, ?_, ?_, ?_, ?_, ?_, fun p hp => absurd hp List.not_mem_nil⟩
  all_goals exact piece (Memref.whole main_v6) fh hD _ _ _ _ rfl

set_option synthInstance.maxSize 10000 in
set_option synthInstance.maxHeartbeats 400000 in
theorem first_point : Point (runFirst c i hc s x fh).1.left H (G 0) (fun q k => under 352 0 D k q) (fun q k => under 352 352 D k q) (under 352 704 D) := by
  obtain ⟨hg, hu, hd⟩ := first_weights c i s x hc fh (D := D)
  dsimp only [runFirst, Stores.left, Copies.left] at hg hu hd ⊢
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18,
    k0_pay19, k0_pay20, runFirst.sl.r, runFirst.sl.r_1, runFirst.sl.r_2, runFirst.sl.r_3, runFirst.sl.r_4, runFirst.sl.r_5, runFirst.sl.r_6, runFirst.sl.r_7, runFirst.sl.r_8,
    runFirst.sl.r_9, runFirst.sl.r_10, runFirst.sl.r_11, runFirst.sl.r_12, runFirst.sl.v0, runFirst.sl.v1, runFirst.sl.v2, runFirst.sl.v21, runFirst.sl.v23, runFirst.sl.v25,
    runFirst.sl.v27, runFirst.sl.v37, runFirst.sl.v40, runFirst.sl.v42, runFirst.sl.v52, runFirst.sl.v55, runFirst.sl.v57, runFirst.sl.v67, runFirst.sl.v78]
  refine Point.mk ?_ ?_ ?_ ?_ <;> dsimp only
  rotate_left 3
  · rw [canon_whole]
    exact Ent2.of_eq inferInstance fun r k _ _ => by simp only [normed, Nat.zero_add]
  · rw [canon_whole]
    exact Ent2.of_eq inferInstance fun r k _ _ => by simp only [fed, chunks, gated, through, normed, Nat.zero_add]
  all_goals refine canon_ent _ ?_ fun y => View.cover_of_tiledBy _ ![512, 256] (by sl_kernel_rfl) y
  all_goals simp only [List.forall_mem_cons]
  all_goals refine ⟨?_, ?_, ?_, ?_, fun p hp => absurd hp List.not_mem_nil⟩
  all_goals exact column inferInstance _ fun r q _ => by simp only [through, normed, Nat.zero_add]
end

variable (m : (ℓ : Loc nD τ sig) → Buf (Elt Ideal) ℓ) (c : Dev nD)

/-- The entries of the arguments. -/
structure Args where
  h : ℕ → ℕ → EReal
  n : ℕ → EReal
  g : ℕ → ℕ → EReal
  u : ℕ → ℕ → EReal
  d : ℕ → ℕ → EReal

/-- The arguments have the entries `Y`. -/
structure Holds (Y : Args) : Prop where
  h : Ent2 (m ((c : Thread nD τ).loc main_arg0) : Vec Ideal S8192x1024 .f32) Y.h
  n : Ent1 (m ((c : Thread nD τ).loc main_arg1) : Vec Ideal S1024 .f32) Y.n
  g : Ent2 (m ((c : Thread nD τ).loc main_arg2) : Vec Ideal S1024x2816 .f32) Y.g
  u : Ent2 (m ((c : Thread nD τ).loc main_arg3) : Vec Ideal S1024x2816 .f32) Y.u
  d : Ent2 (m ((c : Thread nD τ).loc main_arg4) : Vec Ideal S2816x1024 .f32) Y.d

theorem ents : ∃ Y, Holds m c Y := by
  obtain ⟨a, ha⟩ := Ent2.exists (m ((c : Thread nD τ).loc main_arg0) : Vec Ideal S8192x1024 .f32)
  obtain ⟨n, hn⟩ := Ent1.exists (m ((c : Thread nD τ).loc main_arg1) : Vec Ideal S1024 .f32)
  obtain ⟨g, hg⟩ := Ent2.exists (m ((c : Thread nD τ).loc main_arg2) : Vec Ideal S1024x2816 .f32)
  obtain ⟨u, hu⟩ := Ent2.exists (m ((c : Thread nD τ).loc main_arg3) : Vec Ideal S1024x2816 .f32)
  obtain ⟨d, hd⟩ := Ent2.exists (m ((c : Thread nD τ).loc main_arg4) : Vec Ideal S2816x1024 .f32)
  exact ⟨⟨a, n, g, u, d⟩, ⟨ha, hn, hg, hu, hd⟩⟩

theorem idx : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] := by decide +kernel

variable {Y : Args} (y : Holds m c Y)
include y

/-- The tiles' entries. -/
theorem tiles (t : Fin cfg0.N) : (Ent2 (tilesAt m c t).h fun r k => Y.h (512 * t.val + r) k) ∧ Ent2 (tilesAt m c t).g fun _ k => Y.n k := by
  have a : Ent2 (V m c main_arg0 : Vec Ideal S8192x1024 .f32) Y.h := by
    unfold V
    after_reads_at
    exact y.h
  have g : Ent2 (V m c main_v7 : Vec Ideal S1x1024 .f32) fun _ k => Y.n k := by
    have := y.n
    unfold V
    after_reads_at
    infer_instance
  refine ⟨?_, ?_⟩
  · exact a.rows _ _ (win0_0.blk t).view.emb (fun _ => rfl) (fun j => by blk_simp [idx t] <;> dsimp <;> omega) fun j => by blk_simp [idx t] <;> dsimp <;> omega
  · exact g.rows _ 0 (win0_1.blk t).view.emb (fun _ => rfl) (fun j => by blk_simp [idx t] <;> dsimp <;> omega) fun j => by blk_simp [idx t] <;> dsimp <;> omega

/-- The devices' blocks: the rows of the gate's weight turned over, of the up projection's turned over, and of the down projection's, -/
noncomputable def pieces (g u d : ℕ → ℕ → EReal) (l r k : ℕ) : EReal :=
  if r < 352 then g k (l * 352 + r) else if r < 352 + 352 then u k (l * 352 + (r - 352)) else d (l * 352 + (r - (352 + 352))) k

theorem stack : Ent3 (V m c main_v6 : Vec Ideal S8x1056x1024 .bf16) (pieces Y.g Y.u Y.d) := by
  have := y.g
  have := y.u
  have := y.d
  unfold V
  after_reads_at
  have a : Ent3 (StableHlo.upto hostOps0 (fun b => m (c, b)) 5 (Proc.tc.devRef main_v1) : Vec Ideal S8x352x1024 .f32) fun l r k => Y.g k (l * 352 + r) := by
    after_reads_at
    infer_instance
  have b : Ent3 (StableHlo.upto hostOps0 (fun b => m (c, b)) 5 (Proc.tc.devRef main_v3) : Vec Ideal S8x352x1024 .f32) fun l r k => Y.u k (l * 352 + r) := by
    after_reads_at
    infer_instance
  have e : Ent3 (StableHlo.upto hostOps0 (fun b => m (c, b)) 5 (Proc.tc.devRef main_v4) : Vec Ideal S8x352x1024 .f32) fun l r k => Y.d (l * 352 + r) k := by
    after_reads_at
    infer_instance
  refine ⟨fun i => (stacked a b e (N := 1056) rfl ?_).entry i⟩
  dsimp only [List.map]
  decide

omit y in
/-- which, one under the other, are the three weights. -/
theorem under_eq (g u d : ℕ → ℕ → EReal) : (fun q k => under 352 0 (pieces g u d) k q) = g ∧ (fun q k => under 352 352 (pieces g u d) k q) = u ∧ under 352 704 (pieces g u d) = d := by
  refine ⟨?_, ?_, ?_⟩
  all_goals funext r k
  all_goals dsimp only [under, pieces]
  · rw [if_pos (by omega)]
    congr 1; omega
  · rw [if_neg (by omega), if_pos (by omega)]
    congr 1; omega
  · rw [if_neg (by omega), if_neg (by omega)]
    congr 1; omega

/-- What point `n` leaves. -/
theorem leaves (n : ℕ) (hn : n < cfg0.N) : Point (leftAt m c n hn) (fun r => Y.h (512 * n + r)) Y.n Y.g Y.u Y.d := by
  obtain ⟨k0, k1⟩ := tiles m c y ⟨n, hn⟩
  have ks := stack m c y
  obtain ⟨eg, eu, ed⟩ := under_eq Y.g Y.u Y.d
  cases n with
  | zero =>
    have a := first_point c _ (stageAt ⟨0, hn⟩) (tilesAt m c ⟨0, hn⟩) (first_at hn) (V m c main_v6)
    rw [eg, eu, ed] at a
    exact a
  | succ n =>
    have h0 : 0 < cfg0.N := lt_of_lt_of_eq (by decide : 0 < 16) N_0.symm
    obtain ⟨_, _⟩ := tiles m c y ⟨0, h0⟩
    obtain ⟨wg, wu, wd⟩ := first_weights c _ (stageAt ⟨0, h0⟩) (tilesAt m c ⟨0, h0⟩) (first_at h0) (V m c main_v6)
    have kg : Ent2 (weights m c).g (under 352 0 (pieces Y.g Y.u Y.d)) := by unfold weights; exact wg
    have ku : Ent2 (weights m c).u (under 352 352 (pieces Y.g Y.u Y.d)) := by unfold weights; exact wu
    have kd : Ent2 (weights m c).d (under 352 704 (pieces Y.g Y.u Y.d)) := by unfold weights; exact wd
    have a := next_point c _ (stageAt ⟨n + 1, hn⟩) (tilesAt m c ⟨n + 1, hn⟩) (next_at n hn) (weights m c)
    rw [eg, eu, ed] at a
    exact a

/-- The rows. -/
theorem final2 : Ent2 ((dats m 0 c).arrAt 2 cfg0.N : Vec Ideal S8192x1024 .f32) (fed Y.h Y.n Y.g Y.u Y.d) := by
  refine ⟨fun i => (dats m 0 c).arrAt_forall_of_covers 2 (fun i v => v = fed Y.h Y.n Y.g Y.u Y.d (i 0).val (i 1).val) (by decide +kernel) (fun t hf j => ?_) i⟩
  refine ((leaves m c y t.val t.isLt).y.entry j).trans ?_
  blk_simp [idx t]
  simp only [fed, gated, through, normed, Nat.mul_comm 512]

/-- The gate's projection. -/
theorem final3 : Ent2 ((dats m 0 c).arrAt 3 cfg0.N : Vec Ideal S8192x2816 .bf16) (through Y.h Y.n Y.g) := by
  refine ⟨fun i => (dats m 0 c).arrAt_forall_of_covers 3 (fun i v => v = through Y.h Y.n Y.g (i 0).val (i 1).val) (by decide +kernel) (fun t hf j => ?_) i⟩
  refine ((leaves m c y t.val t.isLt).g.entry j).trans ?_
  blk_simp [idx t]
  simp only [through, normed, Nat.mul_comm 512]

/-- The up projection. -/
theorem final4 : Ent2 ((dats m 0 c).arrAt 4 cfg0.N : Vec Ideal S8192x2816 .bf16) (through Y.h Y.n Y.u) := by
  refine ⟨fun i => (dats m 0 c).arrAt_forall_of_covers 4 (fun i v => v = through Y.h Y.n Y.u (i 0).val (i 1).val) (by decide +kernel) (fun t hf j => ?_) i⟩
  refine ((leaves m c y t.val t.isLt).u.entry j).trans ?_
  blk_simp [idx t]
  simp only [through, normed, Nat.mul_comm 512]

/-- The normed rows. -/
theorem final5 : Ent2 ((dats m 0 c).arrAt 5 cfg0.N : Vec Ideal S8192x1024 .bf16) (normed Y.h Y.n) := by
  refine ⟨fun i => (dats m 0 c).arrAt_forall_of_covers 5 (fun i v => v = normed Y.h Y.n (i 0).val (i 1).val) (by decide +kernel) (fun t hf j => ?_) i⟩
  refine ((leaves m c y t.val t.isLt).n.entry j).trans ?_
  blk_simp [idx t]
  simp only [normed, Nat.mul_comm 512]

omit y
variable (ρ : Dev nD → PrngReg)

/-- The run: the four results, the arguments unchanged. -/
theorem run : θ_run defs (onTc (τ := τ) (main (F := Ideal))) ⟨m, fun _ => 0, ρ⟩ fun r => ∀ c : Dev nD,
      r.2.mem ((c : Thread nD τ).loc main_v8_0) = (dats m 0 c).arrAt 2 cfg0.N
      ∧ r.2.mem ((c : Thread nD τ).loc main_v8_1) = (dats m 0 c).arrAt 3 cfg0.N
      ∧ r.2.mem ((c : Thread nD τ).loc main_v8_2) = (dats m 0 c).arrAt 4 cfg0.N
      ∧ r.2.mem ((c : Thread nD τ).loc main_v8_3) = (dats m 0 c).arrAt 5 cfg0.N
      ∧ Same m r.2.mem c :=
  (θ_run defs _ _).mono (fun r h c => ⟨(h.1.1 c).1 2, (h.1.1 c).1 3, (h.1.1 c).1 4, (h.1.1 c).1 5, h.2.1 c⟩) (θ_run_and (launch m ρ) (kept m ρ trivial))

end Cert.Kernel7Ideal.Gen
-- ==== Proof.FfnFwdRef.lean ====
/- The feed-forward's reference, and that the kernel's is the same. -/
module
public import proofs.«01_k».proof.Proof.FfnFwdFinal
public import proofs.«01_k».proof.Proof.Gen.Reference7Ideal.Run
public import proofs.«01_k».proof.Proof.Gen.Reference7Ideal.Read
@[expose] public section
namespace Cert.Reference7Ideal.Read
open Cert.Reference7Ideal Cert.Reference7Ideal.Gen Idealize.ShloMosaic Idealize.ShloMosaic.TcCoe Cert.Ents
open Cert.Reals (Plain)
open Cert.Kernel7Ideal.Gen (gated fed)

instance : Plain dot_S8192x1024_S1024x2816_S8192x2816_1_0_0_1_n_n := ⟨rfl⟩
instance : Plain dot_S8192x2816_S2816x1024_S8192x1024_1_0_0_1_n_n := ⟨rfl⟩

variable (x0 : FVec Ideal S8192x1024 .f32) (x1 : FVec Ideal S1024 .f32) (x2 x3 : FVec Ideal S1024x2816 .f32) (x4 : FVec Ideal S2816x1024 .f32)
  {H wg wu wd : ℕ → ℕ → EReal} {g : ℕ → EReal} [Ent2 x0 H] [Ent1 x1 g] [Ent2 x2 wg] [Ent2 x3 wu] [Ent2 x4 wd]

instance v12 : Ent2 (val_main_v12 (F := Ideal) x0 x1) (normed H g) := by
  unfold val_main_v12 val_main_v11 val_main_v10 val_main_v9 val_main_v8 val_main_v7 val_main_v6 val_main_v5 val_main_v4 val_main_v3 val_main_v2 val_main_v1 val_main_v0
    val_main_cst val_main_cst_0 val_main_cst_1
  exact inferInstance

instance v13 : Ent2 (val_main_v13 (F := Ideal) x0 x1 x2) (through H g wg) := by
  unfold val_main_v13
  exact inferInstance

instance v14 : Ent2 (val_main_v14 (F := Ideal) x0 x1 x3) (through H g wu) := by
  unfold val_main_v14
  exact inferInstance

instance v16 : Ent2 (val_main_v16 (F := Ideal) x0 x1 x2 x3) (gated (through H g wg) (through H g wu)) := by
  unfold val_main_v16 val_main_v15 val_main_call0_v5 val_main_call0_v4 val_main_call0_v3 val_main_call0_v2 val_main_call0_v1 val_main_call0_v0 val_main_call0_cst val_main_call0_cst_0
  exact inferInstance

theorem v20 : Ent2 (val_main_v20 (F := Ideal) x0 x1 x2 x3 x4) (fed H g wg wu wd) := by
  unfold val_main_v20 val_main_v19 val_main_v18 val_main_v17 val_main_cst_2
  exact inferInstance

theorem v21 : Ent2 (val_main_v21 (F := Ideal) x0 x1 x2) (through H g wg) := by
  unfold val_main_v21
  exact inferInstance

theorem v22 : Ent2 (val_main_v22 (F := Ideal) x0 x1 x3) (through H g wu) := by
  unfold val_main_v22
  exact inferInstance

theorem v23 : Ent2 (val_main_v23 (F := Ideal) x0 x1) (normed H g) := by
  unfold val_main_v23
  exact inferInstance

/-- The claim of the values. -/
theorem algebraic : Cert.algebraic_Kernel7Ideal_Reference7Ideal := by
  intro m g m' g' _ hargs
  refine ⟨_, _, _, _, Cert.Kernel7Ideal.Gen.run m g, (θ_run _ _ _).mono (fun r h c => ?_) (Cert.Reference7Ideal.Value.run (F := Ideal) m' g')⟩
  obtain ⟨h0, h1, h2, h3, h4⟩ := h c
  obtain ⟨a0, a1, a2, a3, a4⟩ := hargs c
  obtain ⟨Y, y⟩ := Cert.Kernel7Ideal.Gen.ents m c
  have k0 := y.h
  have k1 := y.n
  have k2 := y.g
  have k3 := y.u
  have k4 := y.d
  refine ⟨h0.trans ((val_main_v20_eq _ _ _ _ _).trans ?_), h1.trans ((val_main_v21_eq _ _ _).trans ?_), h2.trans ((val_main_v22_eq _ _ _).trans ?_),
    h3.trans ((val_main_v23_eq _ _).trans ?_), h4⟩
  · rw [a0, a1, a2, a3, a4]
    exact (v20 _ _ _ _ _).same (Cert.Kernel7Ideal.Gen.final2 m c y)
  · rw [a0, a1, a2]
    exact (v21 _ _ _).same (Cert.Kernel7Ideal.Gen.final3 m c y)
  · rw [a0, a1, a3]
    exact (v22 _ _ _).same (Cert.Kernel7Ideal.Gen.final4 m c y)
  · rw [a0, a1]
    exact (v23 _ _).same (Cert.Kernel7Ideal.Gen.final5 m c y)

end Cert.Reference7Ideal.Read
-- ==== Proof.PleFwdFrame.lean ====
/- The body of the gated embedding's forward kernel, run at the grid's first point (which fetches the weight) and at a later one, and its frame. -/
module

public import proofs.«01_k».proof.Proof.Fetch
public import proofs.«01_k».proof.Proof.Gen.Kernel8Ideal.Frame.Runs
public import proofs.«01_k».proof.Defs
public import proofs.«01_k».proof.Proof.Gen.Kernel8
public import Idealize.ShloMosaic.Lib.Claim

@[expose] public section

set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Fetch

variable {F : FTy → Type} [FloatOps F]

local notation "𝕄" => MT nD τ sig Unit (Elt F) ℕ (Pipeline.UD sig nD τ) ℕ

/-- The memrefs of a point's body: the rows, the embedding's rows, the gain and the embedding's weight, the two results, the gate's fetched weight. -/
structure Stage where
  a0 : Memref sig .tc .vmem S512x1024 .f32
  h0 : a0.IsWhole
  a1 : Memref sig .tc .vmem S512x256 .f32
  h1 : a1.IsWhole
  a2 : Memref sig .tc .vmem S1x1024 .f32
  h2 : a2.IsWhole
  a3 : Memref sig .tc .vmem S1024x256 .bf16
  h3 : a3.IsWhole
  y : Memref sig .tc .vmem S512x1024 .f32
  hy : y.IsWhole
  z : Memref sig .tc .vmem S512x1024 .bf16
  hz : z.IsWhole
  w : Memref sig .tc .vmem S1024x1024 .bf16
  hw : w.IsWhole

abbrev Stage.body (s : Stage) (i : grid0.Coords) : Prog (TpuEff nD τ sig (Elt F) Λ₀ .tc) PUnit :=
  cc0_ple_fwd i s.a0 s.h0 s.a1 s.h1 s.a2 s.h2 s.a3 s.h3 (Memref.whole main_v4) (Memref.isWhole_whole _) s.y s.hy s.z s.hz s.w s.hw cc0_scratch1

/-- The four tiles that a point reads. -/
structure Tiles (F : FTy → Type) where
  h : Vec F S512x1024 .f32
  p : Vec F S512x256 .f32
  g : Vec F S1x1024 .f32
  e : Vec F S1024x256 .bf16

/-- The inputs at their tiles. -/
def Stage.ins (s : Stage) (c : Dev nD) (x : Tiles F) : sProp 𝕄 :=
  iprop(owns (c : Thread nD τ) s.a0 fullShare x.h ∗ owns (c : Thread nD τ) s.a1 fullShare x.p ∗ owns (c : Thread nD τ) s.a2 fullShare x.g ∗ owns (c : Thread nD τ) s.a3 fullShare x.e)

/-- The copies' counters at zero and the weight's pieces as the launch left them. -/
def parts (c : Dev nD) (fh : HbBuf0 (F := F) c hbM0_0) : sProp 𝕄 := iprop(Pipeline.ownSems0 osem0 c ∗ hbPt0 c hbM0_0 fh)

set_option sl_exec.dmaWindow true in
set_option sl_exec.dmaWindowSet true in
set_option maxHeartbeats 1000000 in
/-- The first point fetches the weight, then works like the others. -/
noncomputable def runFirst (c : Dev nD) (i : grid0.Coords) (hc : cond0_0 i) (s : Stage) (x : Tiles F) (fh : HbBuf0 (F := F) c hbM0_0) :
    Σ' (LY : List (View.Piece (Elt F) S512x1024 .f32)) (LZ : List (View.Piece (Elt F) S512x1024 .bf16)), { LW : List (View.Piece (Elt F) S1024x1024 .bf16) //
      ∀ (W : Waits sig Unit) (K : PUnit → sProp 𝕄),
        iprop(s.ins c x ∗ (∃ d, owns (c : Thread nD τ) s.y fullShare d) ∗ (∃ d, owns (c : Thread nD τ) s.z fullShare d) ∗ (∃ d, owns (c : Thread nD τ) s.w fullShare d) ∗ parts c fh ∗ owes (c : Thread nD τ) 0 W
          ∗ (iprop(s.ins c x ∗ stored (c : Thread nD τ) s.y LY ∗ stored (c : Thread nD τ) s.z LZ ∗ stored (c : Thread nD τ) s.w LW ∗ parts c fh ∗ (∃ W', owes (c : Thread nD τ) 0 W')) -∗ K ⟨⟩))
          ⊢ wp frame (wpE (defs₀ (F := F)) Variants.none c none) Set.univ (s.body i) K } := by
  refine ⟨?_, ?_, ?_, fun W K => ?run⟩
  case run =>
    unfold Stage.body Stage.ins parts
    rw [ownSems00_eq, owns_unread _ s.h0, owns_unread _ s.h1, owns_unread _ s.h2, owns_unread _ s.h3]
    simp only [cc0_ple_fwd_eq_skeleton]; unfold cc0_ple_fwd_skel
    simp only [k0_part1_eq_skeleton, k0_part2_eq_skeleton, k0_part3_eq_skeleton]
    unfold owns
    iintro ⟨⟨H0, H1, H2, H3⟩, ⟨%dy, %fy, -, HY⟩, ⟨%dz, %fz, -, HZ⟩, ⟨%dw, %fw, -, HS⟩, ⟨⟨Q0, Q1, Q2, Q3, Q4, Q5, Q6, Q7⟩, Hh⟩, HW, Hk⟩
    sl_exec (disch := first | sl_exact hc)
    sl_step
    iapply Hk
    unfold stored
    iframe H0 H1 H2 H3 Q0 Q1 Q2 Q3 Q4 Q5 Q6 Q7 Hh
    isplitl [HY]; · iexists _; iexact HY
    isplitl [HZ]; · iexists _; iexact HZ
    isplitl [HS]; · iexists _; iexact HS
    iexists _; iexact HW

/-- A later point reads the weight from scratch. -/
noncomputable def runNext (c : Dev nD) (i : grid0.Coords) (hc : ¬cond0_0 i) (s : Stage) (x : Tiles F) (wt : Vec F S1024x1024 .bf16) :
    Σ' (LY : List (View.Piece (Elt F) S512x1024 .f32)), { LZ : List (View.Piece (Elt F) S512x1024 .bf16) //
      ∀ (W : Waits sig Unit) (K : PUnit → sProp 𝕄),
        iprop(s.ins c x ∗ (∃ d, owns (c : Thread nD τ) s.y fullShare d) ∗ (∃ d, owns (c : Thread nD τ) s.z fullShare d) ∗ owns (c : Thread nD τ) s.w fullShare wt ∗ owes (c : Thread nD τ) 0 W
          ∗ (iprop(s.ins c x ∗ stored (c : Thread nD τ) s.y LY ∗ stored (c : Thread nD τ) s.z LZ ∗ owns (c : Thread nD τ) s.w fullShare wt ∗ (∃ W', owes (c : Thread nD τ) 0 W')) -∗ K ⟨⟩))
          ⊢ wp frame (wpE (defs₀ (F := F)) Variants.none c none) Set.univ (s.body i) K } := by
  refine ⟨?_, ?_, fun W K => ?run⟩
  case run =>
    unfold Stage.body Stage.ins
    rw [owns_unread _ s.h0, owns_unread _ s.h1, owns_unread _ s.h2, owns_unread _ s.h3, owns_unread _ s.hw]
    simp only [cc0_ple_fwd_eq_skeleton]; unfold cc0_ple_fwd_skel
    unfold owns
    iintro ⟨⟨H0, H1, H2, H3⟩, ⟨%dy, %fy, -, HY⟩, ⟨%dz, %fz, -, HZ⟩, HS, HW, Hk⟩
    sl_exec (disch := first | sl_exact hc)
    sl_step
    iapply Hk
    unfold stored
    iframe H0 H1 H2 H3 HS
    isplitl [HY]; · iexists _; iexact HY
    isplitl [HZ]; · iexists _; iexact HZ
    iexists _; iexact HW

variable (m : (ℓ : Loc nD τ sig) → Buf (Elt F) ℓ) (ρ : Dev nD → PrngReg)

abbrev stageAt (t : Fin cfg0.N) : Stage := ⟨ms0_0 t, hs0_0 t, ms0_1 t, hs0_1 t, ms0_2 t, hs0_2 t, ms0_3 t, hs0_3 t, ms0_4 t, hs0_4 t, ms0_5 t, hs0_5 t, scM0_0, Memref.isWhole_whole _⟩

abbrev tilesAt (c : Dev nD) (t : Fin cfg0.N) : Tiles F := ⟨iblk m c 0 t, iblk m c 1 t, iblk m c 2 t, iblk m c 3 t⟩

theorem first_at (hn : 0 < cfg0.N) : cond0_0 (grid0.coords ⟨0, hn⟩) := (hcond0_0 ⟨0, hn⟩).mpr rfl
theorem next_at (n : ℕ) (hn : n + 1 < cfg0.N) : ¬cond0_0 (grid0.coords ⟨n + 1, hn⟩) := fun h => by
  have hN : n + 1 < 16 := lt_of_lt_of_eq hn N_0
  have := (hcond0_0 ⟨n + 1, hn⟩).mp h
  dsimp only at this; omega

/-- The run of the first point, -/
abbrev firstRun (c : Dev nD) (hn : 0 < cfg0.N) := runFirst c _ (first_at hn) (stageAt ⟨0, hn⟩) (tilesAt m c ⟨0, hn⟩) (V m c main_v4)
/-- the weight it fetches, -/
def weight (c : Dev nD) : Vec F S1024x1024 .bf16 := View.canon (firstRun m c (lt_of_lt_of_eq (by decide : 0 < 16) N_0.symm)).2.2.1
/-- and the run of a later one. -/
abbrev nextRun (c : Dev nD) (n : ℕ) (hn : n + 1 < cfg0.N) := runNext c _ (next_at n hn) (stageAt ⟨n + 1, hn⟩) (tilesAt m c ⟨n + 1, hn⟩) (weight m c)

/-- The rows of the first result that point `n` leaves, -/
def rowsAt (c : Dev nD) : (n : ℕ) → n < cfg0.N → Vec F S512x1024 .f32
  | 0, hn => View.canon (firstRun m c hn).1
  | n + 1, hn => View.canon (nextRun m c n hn).1
/-- and of the second. -/
def gateAt (c : Dev nD) : (n : ℕ) → n < cfg0.N → Vec F S512x1024 .bf16
  | 0, hn => View.canon (firstRun m c hn).2.1
  | n + 1, hn => View.canon (nextRun m c n hn).2.1

/-- Between points: the register, the counters, the weight's pieces. -/
def quiet (c : Dev nD) : sProp 𝕄 := iprop((∃ r, prngReg c r) ∗ parts c (V m c main_v4))

theorem phi_eq (c : Dev nD) : (Pipeline.ΦD osem0 spec0 H0 (V m) c : sProp 𝕄) = iprop((∃ d, owns (c : Thread nD τ) scM0_0 fullShare d) ∗ quiet m c) := by
  unfold quiet parts
  rw [Pipeline.ΦD_eq, scopedRest0_eq, hbmPts0_eq]; simp only [scM0_0, owns_whole]; rfl

/-- Before point `n`: the weight, once it is fetched. -/
def inv (c : Dev nD) : (n : ℕ) → sProp 𝕄
  | 0 => Pipeline.ΦD osem0 spec0 H0 (V m) c
  | _ + 1 => iprop(owns (c : Thread nD τ) scM0_0 fullShare (weight m c) ∗ quiet m c)

/-- The arrays and the tiles, point by point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowsAt m c t.val t.isLt
    | ⟨5, _⟩ => gateAt m c t.val t.isLt
  Φ t := inv m c t.val
  q _ := fullShare
  owed _ := 0

theorem A_eq (c : Dev nD) (w : Fin cfg0.W) : (dats m 0 c).A w = V m c (Pipeline.arrRef spec0 w) := by dsimp only [dats]

set_option maxHeartbeats 2000000 in
/-- The body at a point leaves its rows of the result. -/
theorem sound (c : Dev nD) (t : Fin cfg0.N) (W : Waits sig Unit) (K : PUnit → sProp 𝕄) :
    iprop(inv m c t.val ∗ owes (c : Thread nD τ) 0 W ∗ (stageAt t).ins c (tilesAt m c t) ∗ (∃ d, owns (c : Thread nD τ) (ms0_4 t) fullShare d) ∗ (∃ d, owns (c : Thread nD τ) (ms0_5 t) fullShare d)
      ∗ (iprop(inv m c (t.val + 1) ∗ (∃ W', owes (c : Thread nD τ) 0 W') ∗ (stageAt t).ins c (tilesAt m c t)
        ∗ owns (c : Thread nD τ) (ms0_4 t) fullShare (rowsAt m c t.val t.isLt) ∗ owns (c : Thread nD τ) (ms0_5 t) fullShare (gateAt m c t.val t.isLt)) -∗ K ⟨⟩))
      ⊢ wp frame (wpE (defs₀ (F := F)) Variants.none c none) Set.univ (bodyAt0 t) K := by
  obtain ⟨n, hn⟩ := t
  cases n with
  | zero =>
    dsimp only [inv]
    rw [phi_eq]
    unfold quiet
    iintro ⟨⟨HS, Hg, Hp⟩, HW, HI, HY, HZ, Hk⟩
    iapply ((firstRun m c hn).2.2.2 W _)
    iframe HI HY HZ HS Hp HW
    iintro ⟨HI, HY, HZ, HS, Hp, HW⟩
    iapply Hk
    iframe HI Hg Hp HW
    isplitl [HS]; · iapply (stored_owns _ _ _ fun y => View.cover_of_tiledL _ ![128, 1024] (by sl_kernel_rfl) y); iexact HS
    isplitl [HY]; · iapply (stored_owns _ _ _ fun y => View.cover_of_tiledL _ ![512, 1024] (by sl_kernel_rfl) y); iexact HY
    iapply (stored_owns _ _ _ fun y => View.cover_of_tiledL _ ![512, 1024] (by sl_kernel_rfl) y); iexact HZ
  | succ n =>
    dsimp only [inv]
    iintro ⟨⟨HS, Hq⟩, HW, HI, HY, HZ, Hk⟩
    iapply ((nextRun m c n hn).2.2 W _)
    iframe HI HY HZ HS HW
    iintro ⟨HI, HY, HZ, HS, HW⟩
    iapply Hk
    iframe HI HS Hq HW
    isplitl [HY]; · iapply (stored_owns _ _ _ fun y => View.cover_of_tiledL _ ![512, 1024] (by sl_kernel_rfl) y); iexact HY
    iapply (stored_owns _ _ _ fun y => View.cover_of_tiledL _ ![512, 1024] (by sl_kernel_rfl) y); iexact HZ

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  rw [show (dats m 0 c).Φ t.castSucc = inv m c t.val from rfl, show (dats m 0 c).Φ t.succ = inv m c (t.val + 1) from rfl]
  unfold Dat.owesAt Pipeline.owesWithin
  iintro ⟨HΦ, ⟨%W, -, HW⟩, ⟨%d0, H0⟩, ⟨%d1, H1⟩, ⟨%d2, H2⟩, ⟨%d3, H3⟩, ⟨%d4, H4⟩, ⟨%d5, H5⟩⟩
  iapply (sound m c t W _)
  rw [before0_0_of m (dats m 0 c) (A_eq m c 0) (fun t => by dsimp only [dats]) t d0, before0_1_of m (dats m 0 c) (A_eq m c 1) (fun t => by dsimp only [dats]) t d1,
    before0_2_of m (dats m 0 c) (A_eq m c 2) (fun t => by dsimp only [dats]) t d2, before0_3_of m (dats m 0 c) (A_eq m c 3) (fun t => by dsimp only [dats]) t d3]
  unfold Stage.ins
  iframe HΦ HW H0 H1 H2 H3
  isplitl [H4]; · iexists _; iexact H4
  isplitl [H5]; · iexists _; iexact H5
  iintro ⟨HΦ, ⟨%W', HW⟩, ⟨H0, H1, H2, H3⟩, H4, H5⟩
  iframe HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

/-- After the last point the scratch is any scratch again. -/
theorem inv_last (c : Dev nD) : (dats m 0 c).Φ (Fin.last cfg0.N) ⊢ Pipeline.ΦD osem0 spec0 H0 (V m) c := by
  rw [phi_eq, show (dats m 0 c).Φ (Fin.last cfg0.N) = inv m c 16 from rfl]
  dsimp only [inv]
  iintro ⟨HS, Hq⟩
  isplitl [HS]; · iexists _; iexact HS
  iexact Hq

set_option backward.isDefEq.respectTransparency.types false in
/-- The launch: it ends with the arrays at what the points leave and every counter at zero. -/
theorem launch : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl) (howed := fun _ _ => rfl)
    (V := V m) (hmain := hmain m Variants.none) (hA := A_eq m) (hin := fun c => .rfl) (hout := inv_last m)

/-- The arguments of device `c` are those of `m`. -/
abbrev Same (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)

/-- The frame as the launch states it, at any floats: the arguments end as they were, and every counter at zero. -/
def Kept (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      Same m r.2.mem c)
      ∧ r.2.sem = fun _ => 0)

theorem kept : Kept F := fun m ρ _ =>
  θ_run_and (frame_of m ρ (dats m) (A_eq m) ((θ_run defs _ _).mono (fun _ h => h.1) (launch m ρ))) ((θ_run defs _ _).mono (fun _ h => h.2) (launch m ρ))

/-- The two programs are the same text. -/
theorem same : Kept Bits = Cert.quiescent_Kernel8 (hKernel8 := Cert.Kernel8.Gen.facts) := by sl_kernel_rfl

theorem kernel_frame : Cert.quiescent_Kernel8 (hKernel8 := Cert.Kernel8.Gen.facts) := same.mp kept

end Cert.Kernel8Ideal.Gen

end
-- ==== Proof.PleFwdFinal.lean ====
/- What the gated embedding's forward kernel leaves: the rows with the gated embedding added, and the gate. -/
module
public import proofs.«01_k».proof.Proof.PleFwdFrame
public import proofs.«01_k».proof.Proof.Ents
public import Idealize.ShloMosaic.Lib.Pipeline.ValueKit.Geometry
public import Idealize.ShloMosaic.Lib.StableHlo.ReadAt
@[expose] public section
namespace Cert.Kernel8Ideal.Gen
open Idealize.ShloMosaic Idealize.ShloMosaic.TcCoe Idealize.SL.Sem Cert.Ents Finset
open Cert.Reals (Plain Turned canon_whole)

instance : Plain dot_S512x1024_S1024x1024_S512x1024_1_0_0_1_n_n := ⟨rfl⟩
instance : Turned dot_S512x256_S1024x256_S512x1024_1_1_0_0_n_n := ⟨rfl⟩

/-- The rows with the gated embedding added; `e` is the embedding's weight turned over. -/
noncomputable def merged (H P : ℕ → ℕ → EReal) (g : ℕ → EReal) (w e : ℕ → ℕ → EReal) (r k : ℕ) : EReal := H r k + logi (through H g w r k) * ∑ q ∈ range 256, P r q * e k q

section
variable (c : Dev nD) (i : grid0.Coords) (s : Stage) (x : Tiles Ideal) {H P G E W : ℕ → ℕ → EReal} [Ent2 x.h H] [Ent2 x.p P] [Ent2 x.g G] [Ent2 x.e E]

instance pay1 (h : Vec Ideal S512x1024 .f32) (g : Vec Ideal S1x1024 .f32) (w : Vec Ideal S1024x1024 .bf16) [Ent2 h H] [Ent2 g G] [Ent2 w W] :
    Ent2 (k0_pay1 (F := Ideal) h g w) fun r k => logi (through H (G 0) W r k) := by
  unfold k0_pay1
  exact inferInstance

theorem next_y (hc : ¬cond0_0 i) (wt : Vec Ideal S1024x1024 .bf16) [Ent2 wt W] :
    Ent2 (View.canon (runNext c i hc s x wt).1 : Vec Ideal S512x1024 .f32) (merged H P (G 0) W E) := by
  dsimp only [runNext]
  rw [canon_whole]
  simp only [k0_pay2]
  exact Ent2.of_eq inferInstance fun r k _ _ => by simp only [merged, through, normed, Nat.zero_add]

theorem next_z (hc : ¬cond0_0 i) (wt : Vec Ideal S1024x1024 .bf16) [Ent2 wt W] :
    Ent2 (View.canon (runNext c i hc s x wt).2.1 : Vec Ideal S512x1024 .bf16) fun r k => logi (through H (G 0) W r k) := by
  dsimp only [runNext]
  rw [canon_whole]
  simp only [k0_pay3]
  exact Ent2.of_eq inferInstance fun r k _ _ => by simp only [through, normed, Nat.zero_add]

variable (hc : cond0_0 i) (fh : HbBuf0 (F := Ideal) c hbM0_0) {D : ℕ → ℕ → ℕ → EReal} [hD : Ent3 (fh : Vec Ideal S8x448x1024 .bf16) D]

/-- The eight fetches leave the gate's weight, one device's rows under the other's. -/
instance first_wt : Ent2 (View.canon (runFirst c i hc s x fh).2.2.1 : Vec Ideal S1024x1024 .bf16) (under 128 256 D) := by
  refine canon_ent _ ?_ fun y => View.cover_of_tiledL _ ![128, 1024] (by sl_kernel_rfl) y
  dsimp only [runFirst]
  simp only [List.forall_mem_cons]
  refine ⟨?_, ?_, ?_, ?_, ?_, ?_, ?_, ?_, fun p hp => absurd hp List.not_mem_nil⟩
  all_goals exact piece (Memref.whole main_v4) fh hD _ _ _ _ rfl

theorem first_y : Ent2 (View.canon (runFirst c i hc s x fh).1 : Vec Ideal S512x1024 .f32) (merged H P (G 0) (under 128 256 D) E) := by
  have hw := first_wt c i s x hc fh
  dsimp only [runFirst] at hw ⊢
  rw [canon_whole]
  simp only [k0_pay2, runFirst.sl.v19]
  exact Ent2.of_eq inferInstance fun r k _ _ => by simp only [merged, through, normed, Nat.zero_add]

theorem first_z : Ent2 (View.canon (runFirst c i hc s x fh).2.1 : Vec Ideal S512x1024 .bf16) fun r k => logi (through H (G 0) (under 128 256 D) r k) := by
  have hw := first_wt c i s x hc fh
  dsimp only [runFirst] at hw ⊢
  rw [canon_whole]
  simp only [k0_pay3, runFirst.sl.v19]
  exact Ent2.of_eq inferInstance fun r k _ _ => by simp only [through, normed, Nat.zero_add]
end

variable (m : (ℓ : Loc nD τ sig) → Buf (Elt Ideal) ℓ) (c : Dev nD)

/-- The entries of the arguments. -/
structure Args where
  h : ℕ → ℕ → EReal
  p : ℕ → ℕ → EReal
  g : ℕ → EReal
  w : ℕ → ℕ → EReal
  e : ℕ → ℕ → EReal

/-- The arguments have the entries `Y`. -/
structure Holds (Y : Args) : Prop where
  h : Ent2 (m ((c : Thread nD τ).loc main_arg0) : Vec Ideal S8192x1024 .f32) Y.h
  p : Ent2 (m ((c : Thread nD τ).loc main_arg1) : Vec Ideal S8192x256 .f32) Y.p
  g : Ent1 (m ((c : Thread nD τ).loc main_arg2) : Vec Ideal S1024 .f32) Y.g
  w : Ent2 (m ((c : Thread nD τ).loc main_arg3) : Vec Ideal S1024x1024 .f32) Y.w
  e : Ent2 (m ((c : Thread nD τ).loc main_arg4) : Vec Ideal S256x1024 .f32) Y.e

theorem ents : ∃ Y, Holds m c Y := by
  obtain ⟨a, ha⟩ := Ent2.exists (m ((c : Thread nD τ).loc main_arg0) : Vec Ideal S8192x1024 .f32)
  obtain ⟨b, hb⟩ := Ent2.exists (m ((c : Thread nD τ).loc main_arg1) : Vec Ideal S8192x256 .f32)
  obtain ⟨g, hg⟩ := Ent1.exists (m ((c : Thread nD τ).loc main_arg2) : Vec Ideal S1024 .f32)
  obtain ⟨w, hw⟩ := Ent2.exists (m ((c : Thread nD τ).loc main_arg3) : Vec Ideal S1024x1024 .f32)
  obtain ⟨e, he⟩ := Ent2.exists (m ((c : Thread nD τ).loc main_arg4) : Vec Ideal S256x1024 .f32)
  exact ⟨⟨a, b, g, w, e⟩, ⟨ha, hb, hg, hw, he⟩⟩

theorem idx : ∀ t : Fin grid0.N, win0_0.index t = ![t.val, 0] ∧ win0_1.index t = ![t.val, 0] ∧ win0_2.index t = ![0, 0] ∧ win0_3.index t = ![0, 0]
    ∧ win0_4.index t = ![t.val, 0] ∧ win0_5.index t = ![t.val, 0] := by decide +kernel

variable {Y : Args} (y : Holds m c Y)
include y

/-- The tiles' entries. -/
theorem tiles (t : Fin cfg0.N) : (Ent2 (tilesAt m c t).h fun r k => Y.h (512 * t.val + r) k) ∧ (Ent2 (tilesAt m c t).p fun r k => Y.p (512 * t.val + r) k)
    ∧ (Ent2 (tilesAt m c t).g fun _ k => Y.g k) ∧ Ent2 (tilesAt m c t).e fun r k => Y.e k r := by
  have a : Ent2 (V m c main_arg0 : Vec Ideal S8192x1024 .f32) Y.h := by
    unfold V
    after_reads_at
    exact y.h
  have b : Ent2 (V m c main_arg1 : Vec Ideal S8192x256 .f32) Y.p := by
    unfold V
    after_reads_at
    exact y.p
  have g : Ent2 (V m c main_v5 : Vec Ideal S1x1024 .f32) fun _ k => Y.g k := by
    have := y.g
    unfold V
    after_reads_at
    infer_instance
  have e : Ent2 (V m c main_v7 : Vec Ideal S1024x256 .bf16) fun r k => Y.e k r := by
    have := y.e
    unfold V
    after_reads_at
    infer_instance
  refine ⟨?_, ?_, ?_, ?_⟩
  · exact a.rows _ _ (win0_0.blk t).view.emb (fun _ => rfl) (fun j => by blk_simp [idx t] <;> dsimp <;> omega) fun j => by blk_simp [idx t] <;> dsimp <;> omega
  · exact b.rows _ _ (win0_1.blk t).view.emb (fun _ => rfl) (fun j => by blk_simp [idx t] <;> dsimp <;> omega) fun j => by blk_simp [idx t] <;> dsimp <;> omega
  · exact g.rows _ 0 (win0_2.blk t).view.emb (fun _ => rfl) (fun j => by blk_simp [idx t] <;> dsimp <;> omega) fun j => by blk_simp [idx t] <;> dsimp <;> omega
  · exact (e.rows _ 0 (win0_3.blk t).view.emb (fun _ => rfl) (fun j => by blk_simp [idx t] <;> dsimp <;> omega) fun j => by blk_simp [idx t] <;> dsimp <;> omega).of_eq
      fun r k _ _ => by rw [Nat.zero_add]

/-- The devices' blocks: the rows of the gate's weight between rows of zeros, -/
noncomputable def pieces (w : ℕ → ℕ → EReal) (l r k : ℕ) : EReal :=
  if r < 256 then lit 0x00000000#32 else if r < 256 + 128 then w (l * 128 + (r - 256)) k else lit 0x00000000#32

theorem stack : Ent3 (V m c main_v4 : Vec Ideal S8x448x1024 .bf16) (pieces Y.w) := by
  have := y.w
  unfold V
  after_reads_at
  have a : Ent3 (StableHlo.upto hostOps0 (fun b => m (c, b)) 5 (Proc.tc.devRef main_v0) : Vec Ideal S8x256x1024 .f32) fun _ _ _ => lit 0x00000000#32 := by
    after_reads_at
    infer_instance
  have b : Ent3 (StableHlo.upto hostOps0 (fun b => m (c, b)) 5 (Proc.tc.devRef main_v1) : Vec Ideal S8x128x1024 .f32) fun l r k => Y.w (l * 128 + r) k := by
    after_reads_at
    infer_instance
  have e : Ent3 (StableHlo.upto hostOps0 (fun b => m (c, b)) 5 (Proc.tc.devRef main_v2) : Vec Ideal S8x64x1024 .f32) fun _ _ _ => lit 0x00000000#32 := by
    after_reads_at
    infer_instance
  refine ⟨fun i => (stacked a b e (N := 448) rfl ?_).entry i⟩
  dsimp only [List.map]
  decide

omit y in
/-- which, one under the other, are the gate's weight. -/
theorem under_eq (w : ℕ → ℕ → EReal) : under 128 256 (pieces w) = w := by
  funext r k
  dsimp only [under, pieces]
  rw [if_neg (by omega), if_pos (by omega)]
  congr 1; omega

/-- What point `n` leaves. -/
theorem leaves (n : ℕ) (hn : n < cfg0.N) : Ent2 (rowsAt m c n hn : Vec Ideal S512x1024 .f32) (merged (fun r => Y.h (512 * n + r)) (fun r => Y.p (512 * n + r)) Y.g Y.w fun r k => Y.e k r)
    ∧ Ent2 (gateAt m c n hn : Vec Ideal S512x1024 .bf16) fun r k => logi (through (fun r => Y.h (512 * n + r)) Y.g Y.w r k) := by
  obtain ⟨k0, k1, k2, k3⟩ := tiles m c y ⟨n, hn⟩
  have ks := stack m c y
  cases n with
  | zero =>
    have a := first_y c _ (stageAt ⟨0, hn⟩) (tilesAt m c ⟨0, hn⟩) (first_at hn) (V m c main_v4)
    have b := first_z c _ (stageAt ⟨0, hn⟩) (tilesAt m c ⟨0, hn⟩) (first_at hn) (V m c main_v4)
    rw [under_eq] at a b
    exact ⟨a, b⟩
  | succ n =>
    have h0 : 0 < cfg0.N := lt_of_lt_of_eq (by decide : 0 < 16) N_0.symm
    obtain ⟨_, _, _, _⟩ := tiles m c y ⟨0, h0⟩
    have kw : Ent2 (weight m c) _ := first_wt c _ (stageAt ⟨0, h0⟩) (tilesAt m c ⟨0, h0⟩) (first_at h0) (V m c main_v4)
    rw [under_eq] at kw
    have a := next_y c _ (stageAt ⟨n + 1, hn⟩) (tilesAt m c ⟨n + 1, hn⟩) (next_at n hn) (weight m c)
    have b := next_z c _ (stageAt ⟨n + 1, hn⟩) (tilesAt m c ⟨n + 1, hn⟩) (next_at n hn) (weight m c)
    exact ⟨a, b⟩

/-- The first result. -/
theorem final4 : Ent2 ((dats m 0 c).arrAt 4 cfg0.N : Vec Ideal S8192x1024 .f32) (merged Y.h Y.p Y.g Y.w fun r k => Y.e k r) := by
  refine ⟨fun i => (dats m 0 c).arrAt_forall_of_covers 4 (fun i v => v = merged Y.h Y.p Y.g Y.w (fun r k => Y.e k r) (i 0).val (i 1).val) (by decide +kernel) (fun t hf j => ?_) i⟩
  refine ((leaves m c y t.val t.isLt).1.entry j).trans ?_
  blk_simp [idx t]
  simp only [merged, through, normed, Nat.mul_comm 512]

/-- The gate. -/
theorem final5 : Ent2 ((dats m 0 c).arrAt 5 cfg0.N : Vec Ideal S8192x1024 .bf16) fun r k => logi (through Y.h Y.g Y.w r k) := by
  refine ⟨fun i => (dats m 0 c).arrAt_forall_of_covers 5 (fun i v => v = logi (through Y.h Y.g Y.w (i 0).val (i 1).val)) (by decide +kernel) (fun t hf j => ?_) i⟩
  refine ((leaves m c y t.val t.isLt).2.entry j).trans ?_
  blk_simp [idx t]
  simp only [through, normed, Nat.mul_comm 512]

omit y
variable (ρ : Dev nD → PrngReg)

/-- The run: the two results, the arguments unchanged. -/
theorem run : θ_run defs (onTc (τ := τ) (main (F := Ideal))) ⟨m, fun _ => 0, ρ⟩ fun r => ∀ c : Dev nD,
      r.2.mem ((c : Thread nD τ).loc main_v8_0) = (dats m 0 c).arrAt 4 cfg0.N
      ∧ r.2.mem ((c : Thread nD τ).loc main_v8_1) = (dats m 0 c).arrAt 5 cfg0.N
      ∧ Same m r.2.mem c :=
  (θ_run defs _ _).mono (fun r h c => ⟨(h.1.1 c).1 4, (h.1.1 c).1 5, h.2.1 c⟩) (θ_run_and (launch m ρ) (kept m ρ trivial))

end Cert.Kernel8Ideal.Gen
-- ==== Proof.PleFwdRef.lean ====
/- The gated embedding's reference forward, and that the kernel's is the same. -/
module
public import proofs.«01_k».proof.Proof.PleFwdFinal
public import proofs.«01_k».proof.Proof.Gen.Reference8Ideal.Run
public import proofs.«01_k».proof.Proof.Gen.Reference8Ideal.Read
@[expose] public section
namespace Cert.Reference8Ideal.Read
open Cert.Reference8Ideal Cert.Reference8Ideal.Gen Idealize.ShloMosaic Idealize.ShloMosaic.TcCoe Cert.Ents
open Cert.Reals (Plain)
open Cert.Kernel8Ideal.Gen (merged)

instance : Plain dot_S8192x1024_S1024x1024_S8192x1024_1_0_0_1_n_n := ⟨rfl⟩
instance : Plain dot_S8192x256_S256x1024_S8192x1024_1_0_0_1_n_n := ⟨rfl⟩

variable (x0 : FVec Ideal S8192x1024 .f32) (x1 : FVec Ideal S8192x256 .f32) (x2 : FVec Ideal S1024 .f32) (x3 : FVec Ideal S1024x1024 .f32) (x4 : FVec Ideal S256x1024 .f32)
  {H P w e : ℕ → ℕ → EReal} {g : ℕ → EReal} [Ent2 x0 H] [Ent2 x1 P] [Ent1 x2 g] [Ent2 x3 w] [Ent2 x4 e]

instance v13 : Ent2 (val_main_v13 (F := Ideal) x0 x2 x3) (through H g w) := by
  unfold val_main_v13 val_main_v12 val_main_v11 val_main_v10 val_main_v9 val_main_v8 val_main_v7 val_main_v6 val_main_v5 val_main_v4 val_main_v3 val_main_v2 val_main_v1 val_main_v0
    val_main_cst val_main_cst_0 val_main_cst_1
  exact inferInstance

theorem v22 : Ent2 (val_main_v22 (F := Ideal) x0 x1 x2 x3 x4) (merged H P g w fun r k => e k r) := by
  unfold val_main_v22 val_main_v21 val_main_v20 val_main_v19 val_main_v18 val_main_v17 val_main_v16 val_main_v15 val_main_v14 val_main_cst_2 val_main_cst_3
  exact inferInstance

theorem v29 : Ent2 (val_main_v29 (F := Ideal) x0 x2 x3) fun r k => logi (through H g w r k) := by
  unfold val_main_v29 val_main_v28 val_main_v27 val_main_v26 val_main_v25 val_main_v24 val_main_v23 val_main_cst_4 val_main_cst_5
  exact inferInstance

/-- The claim of the values. -/
theorem algebraic : Cert.algebraic_Kernel8Ideal_Reference8Ideal := by
  intro m g m' g' _ hargs
  refine ⟨_, _, Cert.Kernel8Ideal.Gen.run m g, (θ_run _ _ _).mono (fun r h c => ?_) (Cert.Reference8Ideal.Value.run (F := Ideal) m' g')⟩
  obtain ⟨h0, h1, h2⟩ := h c
  obtain ⟨a0, a1, a2, a3, a4⟩ := hargs c
  obtain ⟨Y, y⟩ := Cert.Kernel8Ideal.Gen.ents m c
  have k0 := y.h
  have k1 := y.p
  have k2 := y.g
  have k3 := y.w
  have k4 := y.e
  refine ⟨h0.trans ((val_main_v22_eq _ _ _ _ _).trans ?_), h1.trans ((val_main_v29_eq _ _ _).trans ?_), h2⟩
  · rw [a0, a1, a2, a3, a4]
    exact (v22 _ _ _ _ _).same (Cert.Kernel8Ideal.Gen.final4 m c y)
  · rw [a0, a2, a3]
    exact (v29 _ _ _).same (Cert.Kernel8Ideal.Gen.final5 m c y)

end Cert.Reference8Ideal.Read
-- ==== Proof.InFwdFrame.lean ====
/- The body of the input projection's forward kernel, run at the grid's first point (which fetches the weight) and at a later one, and its frame. -/
module

public import proofs.«01_k».proof.Proof.Fetch
public import proofs.«01_k».proof.Proof.Gen.Kernel9Ideal.Frame.Runs
public import proofs.«01_k».proof.Defs
public import proofs.«01_k».proof.Proof.Gen.Kernel9
public import Idealize.ShloMosaic.Lib.Claim

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Fetch

variable {F : FTy → Type} [FloatOps F]

local notation "𝕄" => MT nD τ sig Unit (Elt F) ℕ (Pipeline.UD sig nD τ) ℕ

/-- The memrefs of a point's body: the rows and the gain, the result, the fetched weight. -/
structure Stage where
  a0 : Memref sig .tc .vmem S512x1024 .f32
  h0 : a0.IsWhole
  a1 : Memref sig .tc .vmem S1x1024 .f32
  h1 : a1.IsWhole
  z : Memref sig .tc .vmem S512x5120 .bf16
  hz : z.IsWhole
  w : Memref sig .tc .vmem S5120x1024 .bf16
  hw : w.IsWhole

abbrev Stage.body (s : Stage) (i : grid0.Coords) : Prog (TpuEff nD τ sig (Elt F) Λ₀ .tc) PUnit :=
  cc0_inproj_fwd i s.a0 s.h0 s.a1 s.h1 (Memref.whole main_v2) (Memref.isWhole_whole _) s.z s.hz s.w s.hw cc0_scratch1

/-- The rows and the gain at their tiles. -/
def Stage.ins (s : Stage) (c : Dev nD) (h : Vec F S512x1024 .f32) (g : Vec F S1x1024 .f32) : sProp 𝕄 :=
  iprop(owns (c : Thread nD τ) s.a0 fullShare h ∗ owns (c : Thread nD τ) s.a1 fullShare g)

/-- The copies' counters at zero and the weight's pieces as the launch left them. -/
def parts (c : Dev nD) (fh : HbBuf0 (F := F) c hbM0_0) : sProp 𝕄 := iprop(Pipeline.ownSems0 osem0 c ∗ hbPt0 c hbM0_0 fh)

set_option sl_exec.dmaWindow true in
set_option sl_exec.dmaWindowSet true in
set_option maxHeartbeats 1000000 in
/-- The first point fetches the weight, then works like the others. -/
noncomputable def runFirst (c : Dev nD) (i : grid0.Coords) (hc : cond0_0 i) (s : Stage) (h : Vec F S512x1024 .f32) (g : Vec F S1x1024 .f32) (fh : HbBuf0 (F := F) c hbM0_0) :
    Σ' (LZ : List (View.Piece (Elt F) S512x5120 .bf16)), { LW : List (View.Piece (Elt F) S5120x1024 .bf16) //
      ∀ (W : Waits sig Unit) (K : PUnit → sProp 𝕄),
        iprop(s.ins c h g ∗ (∃ d, owns (c : Thread nD τ) s.z fullShare d) ∗ (∃ d, owns (c : Thread nD τ) s.w fullShare d) ∗ parts c fh ∗ owes (c : Thread nD τ) 0 W
          ∗ (iprop(s.ins c h g ∗ stored (c : Thread nD τ) s.z LZ ∗ stored (c : Thread nD τ) s.w LW ∗ parts c fh ∗ (∃ W', owes (c : Thread nD τ) 0 W')) -∗ K ⟨⟩))
          ⊢ wp frame (wpE (defs₀ (F := F)) Variants.none c none) Set.univ (s.body i) K } := by
  refine ⟨?_, ?_, fun W K => ?run⟩
  case run =>
    unfold Stage.body Stage.ins parts
    rw [ownSems00_eq, owns_unread _ s.h0, owns_unread _ s.h1]
    simp only [cc0_inproj_fwd_eq_skeleton]; unfold cc0_inproj_fwd_skel
    simp only [k0_part4_eq_skeleton, k0_part1_eq_skeleton, k0_part2_eq_skeleton, k0_part3_eq_skeleton]
    unfold owns
    iintro ⟨⟨H0, H1⟩, ⟨%d2, %f2, -, HZ⟩, ⟨%dw, %fw, -, HS⟩, ⟨⟨Q0, Q1, Q2, Q3, Q4, Q5, Q6, Q7⟩, Hh⟩, HW, Hk⟩
    sl_exec (disch := first | sl_exact hc)
    sl_step
    iapply Hk
    unfold stored
    iframe H0 H1 Q0 Q1 Q2 Q3 Q4 Q5 Q6 Q7 Hh
    isplitl [HZ]; · iexists _; iexact HZ
    isplitl [HS]; · iexists _; iexact HS
    iexists _; iexact HW

/-- A later point reads the weight from scratch. -/
noncomputable def runNext (c : Dev nD) (i : grid0.Coords) (hc : ¬cond0_0 i) (s : Stage) (h : Vec F S512x1024 .f32) (g : Vec F S1x1024 .f32) (wt : Vec F S5120x1024 .bf16) :
    { LZ : List (View.Piece (Elt F) S512x5120 .bf16) //
      ∀ (W : Waits sig Unit) (K : PUnit → sProp 𝕄),
        iprop(s.ins c h g ∗ (∃ d, owns (c : Thread nD τ) s.z fullShare d) ∗ owns (c : Thread nD τ) s.w fullShare wt ∗ owes (c : Thread nD τ) 0 W
          ∗ (iprop(s.ins c h g ∗ stored (c : Thread nD τ) s.z LZ ∗ owns (c : Thread nD τ) s.w fullShare wt ∗ (∃ W', owes (c : Thread nD τ) 0 W')) -∗ K ⟨⟩))
          ⊢ wp frame (wpE (defs₀ (F := F)) Variants.none c none) Set.univ (s.body i) K } := by
  refine ⟨?_, fun W K => ?run⟩
  case run =>
    unfold Stage.body Stage.ins
    rw [owns_unread _ s.h0, owns_unread _ s.h1, owns_unread _ s.hw]
    simp only [cc0_inproj_fwd_eq_skeleton]; unfold cc0_inproj_fwd_skel
    simp only [k0_part4_eq_skeleton]
    unfold owns
    iintro ⟨⟨H0, H1⟩, ⟨%d2, %f2, -, HZ⟩, HS, HW, Hk⟩
    sl_exec (disch := first | sl_exact hc)
    sl_step
    iapply Hk
    unfold stored
    iframe H0 H1 HS
    isplitl [HZ]; · iexists _; iexact HZ
    iexists _; iexact HW

variable (m : (ℓ : Loc nD τ sig) → Buf (Elt F) ℓ) (ρ : Dev nD → PrngReg)

abbrev stageAt (t : Fin cfg0.N) : Stage := ⟨ms0_0 t, hs0_0 t, ms0_1 t, hs0_1 t, ms0_2 t, hs0_2 t, scM0_0, Memref.isWhole_whole _⟩

theorem first_at (hn : 0 < cfg0.N) : cond0_0 (grid0.coords ⟨0, hn⟩) := (hcond0_0 ⟨0, hn⟩).mpr rfl
theorem next_at (n : ℕ) (hn : n + 1 < cfg0.N) : ¬cond0_0 (grid0.coords ⟨n + 1, hn⟩) := fun h => by
  have hN : n + 1 < 16 := lt_of_lt_of_eq hn N_0
  have := (hcond0_0 ⟨n + 1, hn⟩).mp h
  dsimp only at this; omega

/-- The run of the first point, -/
abbrev firstRun (c : Dev nD) (hn : 0 < cfg0.N) := runFirst c _ (first_at hn) (stageAt ⟨0, hn⟩) (iblk m c 0 ⟨0, hn⟩) (iblk m c 1 ⟨0, hn⟩) (V m c main_v2)
/-- the weight it fetches, -/
def weight (c : Dev nD) : Vec F S5120x1024 .bf16 := View.canon (firstRun m c (lt_of_lt_of_eq (by decide : 0 < 16) N_0.symm)).2.1
/-- and the run of a later one. -/
abbrev nextRun (c : Dev nD) (n : ℕ) (hn : n + 1 < cfg0.N) := runNext c _ (next_at n hn) (stageAt ⟨n + 1, hn⟩) (iblk m c 0 ⟨n + 1, hn⟩) (iblk m c 1 ⟨n + 1, hn⟩) (weight m c)

/-- The rows of the result that point `n` leaves. -/
def rowsAt (c : Dev nD) : (n : ℕ) → n < cfg0.N → Vec F S512x5120 .bf16
  | 0, hn => View.canon (firstRun m c hn).1
  | n + 1, hn => View.canon (nextRun m c n hn).1

/-- Between points: the register, the counters, the weight's pieces. -/
def quiet (c : Dev nD) : sProp 𝕄 := iprop((∃ r, prngReg c r) ∗ parts c (V m c main_v2))

theorem phi_eq (c : Dev nD) : (Pipeline.ΦD osem0 spec0 H0 (V m) c : sProp 𝕄) = iprop((∃ d, owns (c : Thread nD τ) scM0_0 fullShare d) ∗ quiet m c) := by
  unfold quiet parts
  rw [Pipeline.ΦD_eq, scopedRest0_eq, hbmPts0_eq]; simp only [scM0_0, owns_whole]; rfl

/-- Before point `n`: the weight, once it is fetched. -/
def inv (c : Dev nD) : (n : ℕ) → sProp 𝕄
  | 0 => Pipeline.ΦD osem0 spec0 H0 (V m) c
  | _ + 1 => iprop(owns (c : Thread nD τ) scM0_0 fullShare (weight m c) ∗ quiet m c)

/-- The arrays and the tiles, point by point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => rowsAt m c t.val t.isLt
  Φ t := inv m c t.val
  q _ := fullShare
  owed _ := 0

theorem A_eq (c : Dev nD) (w : Fin cfg0.W) : (dats m 0 c).A w = V m c (Pipeline.arrRef spec0 w) := by dsimp only [dats]

set_option maxHeartbeats 2000000 in
/-- The body at a point leaves its rows of the result. -/
theorem sound (c : Dev nD) (t : Fin cfg0.N) (W : Waits sig Unit) (K : PUnit → sProp 𝕄) :
    iprop(inv m c t.val ∗ owes (c : Thread nD τ) 0 W ∗ (stageAt t).ins c (iblk m c 0 t) (iblk m c 1 t) ∗ (∃ d, owns (c : Thread nD τ) (ms0_2 t) fullShare d)
      ∗ (iprop(inv m c (t.val + 1) ∗ (∃ W', owes (c : Thread nD τ) 0 W') ∗ (stageAt t).ins c (iblk m c 0 t) (iblk m c 1 t)
        ∗ owns (c : Thread nD τ) (ms0_2 t) fullShare (rowsAt m c t.val t.isLt)) -∗ K ⟨⟩))
      ⊢ wp frame (wpE (defs₀ (F := F)) Variants.none c none) Set.univ (bodyAt0 t) K := by
  obtain ⟨n, hn⟩ := t
  cases n with
  | zero =>
    dsimp only [inv]
    rw [phi_eq]
    unfold quiet
    iintro ⟨⟨HS, Hg, Hp⟩, HW, HI, HZ, Hk⟩
    iapply ((firstRun m c hn).2.2 W _)
    iframe HI HZ HS Hp HW
    iintro ⟨HI, HZ, HS, Hp, HW⟩
    iapply Hk
    iframe HI Hg Hp HW
    isplitl [HS]; · iapply (stored_owns _ _ _ fun y => View.cover_of_tiledL _ ![640, 1024] (by sl_kernel_rfl) y); iexact HS
    iapply (stored_owns _ _ _ fun y => View.cover_of_tiledL _ ![512, 1280] (by sl_kernel_rfl) y); iexact HZ
  | succ n =>
    dsimp only [inv]
    iintro ⟨⟨HS, Hq⟩, HW, HI, HZ, Hk⟩
    iapply ((nextRun m c n hn).2 W _)
    iframe HI HZ HS HW
    iintro ⟨HI, HZ, HS, HW⟩
    iapply Hk
    iframe HI HS Hq HW
    iapply (stored_owns _ _ _ fun y => View.cover_of_tiledL _ ![512, 1280] (by sl_kernel_rfl) y); iexact HZ

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  rw [show (dats m 0 c).Φ t.castSucc = inv m c t.val from rfl, show (dats m 0 c).Φ t.succ = inv m c (t.val + 1) from rfl]
  unfold Dat.owesAt Pipeline.owesWithin
  iintro ⟨HΦ, ⟨%W, -, HW⟩, ⟨%d0, H0⟩, ⟨%d1, H1⟩, ⟨%d2, H2⟩⟩
  iapply (sound m c t W _)
  rw [before0_0_of m (dats m 0 c) (A_eq m c 0) (fun t => by dsimp only [dats]) t d0, before0_1_of m (dats m 0 c) (A_eq m c 1) (fun t => by dsimp only [dats]) t d1]
  unfold Stage.ins
  iframe HΦ HW H0 H1
  isplitl [H2]; · iexists _; iexact H2
  iintro ⟨HΦ, ⟨%W', HW⟩, ⟨H0, H1⟩, H2⟩
  iframe HΦ
  isplitl [HW]
  · iexists W'; isplitr; · ipureintro; exact fun _ _ => Or.inl trivial
    iexact HW
  isplitl [H0]; · iexact H0
  isplitl [H1]; · iexact H1
  iexact H2

/-- After the last point the scratch is any scratch again. -/
theorem inv_last (c : Dev nD) : (dats m 0 c).Φ (Fin.last cfg0.N) ⊢ Pipeline.ΦD osem0 spec0 H0 (V m) c := by
  rw [phi_eq, show (dats m 0 c).Φ (Fin.last cfg0.N) = inv m c 16 from rfl]
  dsimp only [inv]
  iintro ⟨HS, Hq⟩
  isplitl [HS]; · iexists _; iexact HS
  iexact Hq

set_option backward.isDefEq.respectTransparency.types false in
/-- The launch: it ends with the arrays at what the points leave and every counter at zero. -/
theorem launch : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl) (howed := fun _ _ => rfl)
    (V := V m) (hmain := hmain m Variants.none) (hA := A_eq m) (hin := fun c => .rfl) (hout := inv_last m)

/-- The arguments of device `c` are those of `m`. -/
abbrev Same (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)

/-- The frame as the launch states it, at any floats: the arguments end as they were, and every counter at zero. -/
def Kept (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      Same m r.2.mem c)
      ∧ r.2.sem = fun _ => 0)

theorem kept : Kept F := fun m ρ _ =>
  θ_run_and (frame_of m ρ (dats m) (A_eq m) ((θ_run defs _ _).mono (fun _ h => h.1) (launch m ρ))) ((θ_run defs _ _).mono (fun _ h => h.2) (launch m ρ))

/-- The two programs are the same text. -/
theorem same : Kept Bits = Cert.quiescent_Kernel9 (hKernel9 := Cert.Kernel9.Gen.facts) := by sl_kernel_rfl

theorem kernel_frame : Cert.quiescent_Kernel9 (hKernel9 := Cert.Kernel9.Gen.facts) := same.mp kept

end Cert.Kernel9Ideal.Gen

end
-- ==== Proof.InFwdFinal.lean ====
/- What the input projection's forward kernel leaves: the normed rows through the weight. -/
module
public import proofs.«01_k».proof.Proof.InFwdFrame
public import proofs.«01_k».proof.Proof.Ents
public import Idealize.ShloMosaic.Lib.Pipeline.ValueKit.Geometry
public import Idealize.ShloMosaic.Lib.StableHlo.ReadAt
@[expose] public section
namespace Cert.Kernel9Ideal.Gen
open Idealize.ShloMosaic Idealize.ShloMosaic.TcCoe Idealize.SL.Sem Cert.Ents Finset
open Cert.Reals (Turned)

instance : Turned dot_S512x1024_S1280x1024_S512x1280_1_1_0_0_n_n := ⟨rfl⟩

section
variable (c : Dev nD) (i : grid0.Coords) (s : Stage) (h : Vec Ideal S512x1024 .f32) (g : Vec Ideal S1x1024 .f32) {H G W : ℕ → ℕ → EReal} [Ent2 h H] [Ent2 g G]

instance pay2 : Ent2 (k0_pay2 (F := Ideal) h g) (normed H (G 0)) := by
  unfold k0_pay2
  exact inferInstance

theorem next_z (hc : ¬cond0_0 i) (wt : Vec Ideal S5120x1024 .bf16) [Ent2 wt W] :
    Ent2 (View.canon (runNext c i hc s h g wt).1 : Vec Ideal S512x5120 .bf16) (through H (G 0) fun q k => W k q) := by
  refine canon_ent _ ?_ fun y => View.cover_of_tiledL _ ![512, 1280] (by sl_kernel_rfl) y
  dsimp only [runNext]
  simp only [List.forall_mem_cons, k0_pay1, k0_pay3, k0_pay4, k0_pay5, runNext.sl.r]
  refine ⟨?_, ?_, ?_, ?_, fun p hp => absurd hp List.not_mem_nil⟩
  all_goals exact column (by infer_instance) _ fun r q _ => by simp only [through, normed, Nat.zero_add]

variable (hc : cond0_0 i) (fh : HbBuf0 (F := Ideal) c hbM0_0) {P : ℕ → ℕ → ℕ → EReal} [hP : Ent3 (fh : Vec Ideal S8x640x1024 .bf16) P]

/-- The eight fetches leave the weight, one device's rows under the other's. -/
instance first_wt : Ent2 (View.canon (runFirst c i hc s h g fh).2.1 : Vec Ideal S5120x1024 .bf16) (under 640 0 P) := by
  refine canon_ent _ ?_ fun y => View.cover_of_tiledL _ ![640, 1024] (by sl_kernel_rfl) y
  dsimp only [runFirst]
  simp only [List.forall_mem_cons]
  refine ⟨?_, ?_, ?_, ?_, ?_, ?_, ?_, ?_, fun p hp => absurd hp List.not_mem_nil⟩
  all_goals exact piece (Memref.whole main_v2) fh hP _ _ _ _ rfl

theorem first_z : Ent2 (View.canon (runFirst c i hc s h g fh).1 : Vec Ideal S512x5120 .bf16) (through H (G 0) fun q k => under 640 0 P k q) := by
  have hw := first_wt c i s h g hc fh
  refine canon_ent _ ?_ fun y => View.cover_of_tiledL _ ![512, 1280] (by sl_kernel_rfl) y
  dsimp only [runFirst] at hw ⊢
  simp only [List.forall_mem_cons, k0_pay1, k0_pay3, k0_pay4, k0_pay5, runFirst.sl.r, runFirst.sl.v19, runFirst.sl.v23, runFirst.sl.v27, runFirst.sl.v31]
  refine ⟨?_, ?_, ?_, ?_, fun p hp => absurd hp List.not_mem_nil⟩
  all_goals exact column (by infer_instance) _ fun r q _ => by simp only [through, normed, Nat.zero_add]
end

variable (m : (ℓ : Loc nD τ sig) → Buf (Elt Ideal) ℓ) (c : Dev nD) {H w : ℕ → ℕ → EReal} {g : ℕ → EReal}
 (h0 : Ent2 (m ((c : Thread nD τ).loc main_arg0) : Vec Ideal S8192x1024 .f32) H)
 (h1 : Ent1 (m ((c : Thread nD τ).loc main_arg1) : Vec Ideal S1024 .f32) g)
 (h2 : Ent2 (m ((c : Thread nD τ).loc main_arg2) : Vec Ideal S1024x5120 .f32) w)

theorem idx : ∀ t : Fin grid0.N, win0_0.index t = ![t.val, 0] ∧ win0_1.index t = ![0, 0] ∧ win0_2.index t = ![t.val, 0] := by decide +kernel

include h0 in
theorem tile0 (t : Fin cfg0.N) : Ent2 (iblk m c 0 t : Vec Ideal S512x1024 .f32) fun r k => H (512 * t.val + r) k := by
  have h : Ent2 (V m c main_arg0 : Vec Ideal S8192x1024 .f32) H := by
    unfold V
    after_reads_at
    exact h0
  exact h.rows _ _ (win0_0.blk t).view.emb (fun _ => rfl) (fun j => by blk_simp [idx t] <;> dsimp <;> omega) fun j => by blk_simp [idx t] <;> dsimp <;> omega

include h1 in
theorem tile1 (t : Fin cfg0.N) : Ent2 (iblk m c 1 t : Vec Ideal S1x1024 .f32) fun _ k => g k := by
  have h : Ent2 (V m c main_v3 : Vec Ideal S1x1024 .f32) fun _ k => g k := by
    unfold V
    after_reads_at
    infer_instance
  exact h.rows _ 0 (win0_1.blk t).view.emb (fun _ => rfl) (fun j => by blk_simp [idx t] <;> dsimp <;> omega) fun j => by blk_simp [idx t] <;> dsimp <;> omega

include h2 in
theorem stack : Ent3 (V m c main_v2 : Vec Ideal S8x640x1024 .bf16) fun l r k => w k (l * 640 + r) := by
  unfold V
  after_reads_at
  exact ⟨fun i => h2.entry _⟩

/-- The devices' rows, one under the other, are the weight's columns. -/
theorem under_eq (r k : ℕ) : under 640 0 (fun l r k => w k (l * 640 + r)) r k = w k r := by
  show w k _ = w k r
  congr 1; omega

include h0 h1 h2 in
/-- What point `n` leaves. -/
theorem rowsAt_ent (n : ℕ) (hn : n < cfg0.N) : Ent2 (rowsAt m c n hn : Vec Ideal S512x5120 .bf16) (through (fun r => H (512 * n + r)) g w) := by
  have k0 := tile0 m c h0 ⟨n, hn⟩
  have k1 := tile1 m c h1 ⟨n, hn⟩
  have k2 := stack m c h2
  cases n with
  | zero => exact (first_z c _ _ _ _ (first_at hn) (V m c main_v2)).of_eq fun r k _ _ => by simp only [through, under_eq]
  | succ n =>
    have kw : Ent2 (weight m c) _ := first_wt c _ _ (iblk m c 0 _) (iblk m c 1 _) (first_at (lt_of_lt_of_eq (by decide : 0 < 16) N_0.symm)) (V m c main_v2)
    exact (next_z c _ _ _ _ (next_at n hn) (weight m c)).of_eq fun r k _ _ => by simp only [through, under_eq]

include h0 h1 h2 in
/-- The result. -/
theorem final2 : Ent2 ((dats m 0 c).arrAt 2 cfg0.N : Vec Ideal S8192x5120 .bf16) (through H g w) := by
  refine ⟨fun i => (dats m 0 c).arrAt_forall_of_covers 2 (fun i v => v = through H g w (i 0).val (i 1).val) (by decide +kernel) (fun t hf y => ?_) i⟩
  refine ((rowsAt_ent m c h0 h1 h2 t.val t.isLt).entry y).trans ?_
  blk_simp [idx t]
  simp only [through, normed, Nat.mul_comm 512]

/-- The arguments have entries. -/
theorem ents : (∃ H, Ent2 (m ((c : Thread nD τ).loc main_arg0) : Vec Ideal S8192x1024 .f32) H) ∧ (∃ g, Ent1 (m ((c : Thread nD τ).loc main_arg1) : Vec Ideal S1024 .f32) g)
    ∧ ∃ w, Ent2 (m ((c : Thread nD τ).loc main_arg2) : Vec Ideal S1024x5120 .f32) w := ⟨Ent2.exists _, Ent1.exists _, Ent2.exists _⟩

variable (ρ : Dev nD → PrngReg)

/-- The run: the result, the arguments unchanged. -/
theorem run : θ_run defs (onTc (τ := τ) (main (F := Ideal))) ⟨m, fun _ => 0, ρ⟩ fun r => ∀ c : Dev nD,
      r.2.mem ((c : Thread nD τ).loc main_v4) = (dats m 0 c).arrAt 2 cfg0.N
      ∧ Same m r.2.mem c :=
  (θ_run defs _ _).mono (fun r h c => ⟨(h.1.1 c).1 2, h.2.1 c⟩) (θ_run_and (launch m ρ) (kept m ρ trivial))

end Cert.Kernel9Ideal.Gen
-- ==== Proof.InFwdRef.lean ====
/- The input projection's reference forward, and that the kernel's is the same. -/
module
public import proofs.«01_k».proof.Proof.InFwdFinal
public import proofs.«01_k».proof.Proof.Gen.Reference9Ideal.Run
public import proofs.«01_k».proof.Proof.Gen.Reference9Ideal.Read
@[expose] public section
namespace Cert.Reference9Ideal.Read
open Cert.Reference9Ideal Cert.Reference9Ideal.Gen Idealize.ShloMosaic Idealize.ShloMosaic.TcCoe Cert.Ents
open Cert.Reals (Plain)

instance : Plain dot_S8192x1024_S1024x5120_S8192x5120_1_0_0_1_n_n := ⟨rfl⟩

variable (x0 : FVec Ideal S8192x1024 .f32) (x1 : FVec Ideal S1024 .f32) (x2 : FVec Ideal S1024x5120 .f32) {H w : ℕ → ℕ → EReal} {g : ℕ → EReal} [Ent2 x0 H] [Ent1 x1 g] [Ent2 x2 w]

instance v12 : Ent2 (val_main_v12 (F := Ideal) x0 x1) (normed H g) := by
  unfold val_main_v12 val_main_v11 val_main_v10 val_main_v9 val_main_v8 val_main_v7 val_main_v6 val_main_v5 val_main_v4 val_main_v3 val_main_v2 val_main_v1 val_main_v0
    val_main_cst val_main_cst_0 val_main_cst_1
  exact inferInstance

theorem v14 : Ent2 (val_main_v14 (F := Ideal) x0 x1 x2) (through H g w) := by
  unfold val_main_v14 val_main_v13
  exact inferInstance

/-- The claim of the values. -/
theorem algebraic : Cert.algebraic_Kernel9Ideal_Reference9Ideal := by
  intro m g m' g' _ hargs
  refine ⟨_, Cert.Kernel9Ideal.Gen.run m g, (θ_run _ _ _).mono (fun r h c => ?_) (Cert.Reference9Ideal.Value.run (F := Ideal) m' g')⟩
  obtain ⟨h0, h1⟩ := h c
  obtain ⟨a0, a1, a2⟩ := hargs c
  refine ⟨h0.trans ((val_main_v14_eq _ _ _).trans ?_), h1⟩
  rw [a0, a1, a2]
  obtain ⟨⟨H, k0⟩, ⟨u, k1⟩, ⟨w, k2⟩⟩ := Cert.Kernel9Ideal.Gen.ents m c
  exact (v14 _ _ _).same (Cert.Kernel9Ideal.Gen.final2 m c k0 k1 k2)

end Cert.Reference9Ideal.Read
-- ==== Proof.lean ====
/- The claims about the gradient kernels, the forward kernels and their references. -/
module

public import proofs.«01_k».proof.Proof.Gen.ReferenceIdeal.Run
public import proofs.«01_k».proof.Proof.Gen.ReferenceIdeal.Read
public import proofs.«01_k».proof.Defs
public import proofs.«01_k».proof.Proof.Gen.Kernel.Frame
public import proofs.«01_k».proof.Proof.Gen.KernelIdeal.Frame
public import proofs.«01_k».proof.Proof.Value
public import proofs.«01_k».proof.Proof.Gen.Kernel2
public import proofs.«01_k».proof.Proof.Gen.Kernel2Ideal.Frame.Runs
public import proofs.«01_k».proof.Proof.Gen.Reference2Ideal.Run
public import proofs.«01_k».proof.Proof.InprojFrame
public import proofs.«01_k».proof.Proof.InprojRef
public import proofs.«01_k».proof.Proof.Gen.Kernel3
public import proofs.«01_k».proof.Proof.Gen.Kernel3Ideal.Frame.Runs
public import proofs.«01_k».proof.Proof.Gen.Reference3Ideal.Run
public import proofs.«01_k».proof.Proof.PleFrame
public import proofs.«01_k».proof.Proof.PleRef
public import proofs.«01_k».proof.Proof.Gen.Kernel4
public import proofs.«01_k».proof.Proof.Gen.Kernel4Ideal.Frame.Runs
public import proofs.«01_k».proof.Proof.Gen.Reference4Ideal.Run
public import proofs.«01_k».proof.Proof.FfnFrame
public import proofs.«01_k».proof.Proof.FfnRef
public import proofs.«01_k».proof.Proof.Gen.Kernel5
public import proofs.«01_k».proof.Proof.Gen.Kernel5Ideal.Frame.Runs
public import proofs.«01_k».proof.Proof.Gen.Reference5Ideal.Run
public import proofs.«01_k».proof.Proof.RowsFrame
public import proofs.«01_k».proof.Proof.RowsRef
public import proofs.«01_k».proof.Proof.Gen.Kernel6
public import proofs.«01_k».proof.Proof.Gen.Kernel6Ideal.Frame.Runs
public import proofs.«01_k».proof.Proof.Gen.Reference6Ideal.Run
public import proofs.«01_k».proof.Proof.HeadFrame
public import proofs.«01_k».proof.Proof.HeadRef
public import proofs.«01_k».proof.Proof.Gen.Kernel7
public import proofs.«01_k».proof.Proof.Gen.Kernel7Ideal.Frame.Runs
public import proofs.«01_k».proof.Proof.Gen.Reference7Ideal.Run
public import proofs.«01_k».proof.Proof.FfnFwdFrame
public import proofs.«01_k».proof.Proof.FfnFwdRef
public import proofs.«01_k».proof.Proof.Gen.Kernel8
public import proofs.«01_k».proof.Proof.Gen.Kernel8Ideal.Frame.Runs
public import proofs.«01_k».proof.Proof.Gen.Reference8Ideal.Run
public import proofs.«01_k».proof.Proof.PleFwdFrame
public import proofs.«01_k».proof.Proof.PleFwdRef
public import proofs.«01_k».proof.Proof.Gen.Kernel9
public import proofs.«01_k».proof.Proof.Gen.Kernel9Ideal.Frame.Runs
public import proofs.«01_k».proof.Proof.Gen.Reference9Ideal.Run
public import proofs.«01_k».proof.Proof.InFwdFrame
public import proofs.«01_k».proof.Proof.InFwdRef

@[expose] public section

noncomputable section

namespace Cert.Proof

open Idealize.ShloMosaic Idealize.SL.Sem

theorem reference_frame : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem reference2_frame : Cert.quiescent_Reference2Ideal (hReference2Ideal := Cert.Reference2Ideal.Gen.facts) := fun m ρ _ =>
  (θ_run Cert.Reference2Ideal.defs _ _).mono (fun r h => ⟨fun c => (h c).2.2.2, Idealize.ShloMosaic.sem_eq_zero_of_no_sems (by decide) r.2⟩)
    (Cert.Reference2Ideal.Value.run (F := Ideal) m ρ)

theorem reference3_frame : Cert.quiescent_Reference3Ideal (hReference3Ideal := Cert.Reference3Ideal.Gen.facts) := fun m ρ _ =>
  (θ_run Cert.Reference3Ideal.defs _ _).mono (fun r h => ⟨fun c => (h c).2.2.2.2.2.2, Idealize.ShloMosaic.sem_eq_zero_of_no_sems (by decide) r.2⟩)
    (Cert.Reference3Ideal.Value.run (F := Ideal) m ρ)

theorem reference4_frame : Cert.quiescent_Reference4Ideal (hReference4Ideal := Cert.Reference4Ideal.Gen.facts) := fun m ρ _ =>
  (θ_run Cert.Reference4Ideal.defs _ _).mono (fun r h => ⟨fun c => (h c).2.2.2.2.2, Idealize.ShloMosaic.sem_eq_zero_of_no_sems (by decide) r.2⟩)
    (Cert.Reference4Ideal.Value.run (F := Ideal) m ρ)

theorem reference5_frame : Cert.quiescent_Reference5Ideal (hReference5Ideal := Cert.Reference5Ideal.Gen.facts) := fun m ρ _ =>
  (θ_run Cert.Reference5Ideal.defs _ _).mono (fun r h => ⟨fun c => (h c).2.2.2.2.2.2.2.2.2.2.2, Idealize.ShloMosaic.sem_eq_zero_of_no_sems (by decide) r.2⟩)
    (Cert.Reference5Ideal.Value.run (F := Ideal) m ρ)

theorem reference6_frame : Cert.quiescent_Reference6Ideal (hReference6Ideal := Cert.Reference6Ideal.Gen.facts) := fun m ρ _ =>
  (θ_run Cert.Reference6Ideal.defs _ _).mono (fun r h => ⟨fun c => (h c).2.2.2.2.2.2.2.2, Idealize.ShloMosaic.sem_eq_zero_of_no_sems (by decide) r.2⟩)
    (Cert.Reference6Ideal.Value.run (F := Ideal) m ρ)

theorem reference7_frame : Cert.quiescent_Reference7Ideal (hReference7Ideal := Cert.Reference7Ideal.Gen.facts) := fun m ρ _ =>
  (θ_run Cert.Reference7Ideal.defs _ _).mono (fun r h => ⟨fun c => (h c).2.2.2.2, Idealize.ShloMosaic.sem_eq_zero_of_no_sems (by decide) r.2⟩)
    (Cert.Reference7Ideal.Value.run (F := Ideal) m ρ)

theorem reference8_frame : Cert.quiescent_Reference8Ideal (hReference8Ideal := Cert.Reference8Ideal.Gen.facts) := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)

theorem reference9_frame : Cert.quiescent_Reference9Ideal (hReference9Ideal := Cert.Reference9Ideal.Gen.facts) := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- All claims: the frames, with and without the precondition, and the values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.ReferenceIdeal.Read.preFacts, Cert.Kernel2Ideal.Gen.preFacts, Cert.Kernel3Ideal.Gen.preFacts, Cert.Kernel4Ideal.Gen.preFacts, Cert.Kernel5Ideal.Gen.preFacts, Cert.Kernel6Ideal.Gen.preFacts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  Cert.Kernel2Ideal.Gen.kernel_frame, Cert.Kernel2Ideal.Gen.kept, fun m ρ _ => Cert.Kernel2Ideal.Gen.kept m ρ trivial, reference2_frame, fun m ρ _ => reference2_frame m ρ trivial,
  Cert.Kernel3Ideal.Gen.kernel_frame, Cert.Kernel3Ideal.Gen.kept, fun m ρ _ => Cert.Kernel3Ideal.Gen.kept m ρ trivial, reference3_frame, fun m ρ _ => reference3_frame m ρ trivial,
  Cert.Kernel4Ideal.Gen.kernel_frame, Cert.Kernel4Ideal.Gen.kept, fun m ρ _ => Cert.Kernel4Ideal.Gen.kept m ρ trivial, reference4_frame, fun m ρ _ => reference4_frame m ρ trivial,
  Cert.Kernel5Ideal.Gen.kernel_frame, Cert.Kernel5Ideal.Gen.kept, fun m ρ _ => Cert.Kernel5Ideal.Gen.kept m ρ trivial, reference5_frame, fun m ρ _ => reference5_frame m ρ trivial,
  Cert.Kernel6Ideal.Gen.kernel_frame, Cert.Kernel6Ideal.Gen.kept, fun m ρ _ => Cert.Kernel6Ideal.Gen.kept m ρ trivial, reference6_frame, fun m ρ _ => reference6_frame m ρ trivial,
  Cert.Kernel7Ideal.Gen.kernel_frame, Cert.Kernel7Ideal.Gen.kept, reference7_frame,
  Cert.Kernel8Ideal.Gen.kernel_frame, Cert.Kernel8Ideal.Gen.kept, reference8_frame,
  Cert.Kernel9Ideal.Gen.kernel_frame, Cert.Kernel9Ideal.Gen.kept, reference9_frame,
  trivial, Cert.ReferenceIdeal.Read.algebraic, trivial, Cert.Reference2Ideal.Read.algebraic, trivial, Cert.Reference3Ideal.Read.algebraic, trivial, Cert.Reference4Ideal.Read.algebraic, trivial, Cert.Reference5Ideal.Read.algebraic, trivial, Cert.Reference6Ideal.Read.algebraic,
  trivial, Cert.Reference7Ideal.Read.algebraic, trivial, Cert.Reference8Ideal.Read.algebraic, trivial, Cert.Reference9Ideal.Read.algebraic⟩

end Cert.Proof

end
